-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite2 [hPre_finite2 : Cert.Pre_finite2.Facts] (m : (ℓ : Loc Cert.FfnIdeal.nD Cert.FfnIdeal.τ Cert.FfnIdeal.sig) → Buf (Elt Ideal) ℓ) : Prop :=
  ∀ c : Dev Cert.FfnIdeal.nD,
    (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdReferenceIdeal (m : (ℓ : Loc Cert.MixBwdReferenceIdeal.nD Cert.MixBwdReferenceIdeal.τ Cert.MixBwdReferenceIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdReferenceIdeal (m : (ℓ : Loc Cert.MixFwdReferenceIdeal.nD Cert.MixFwdReferenceIdeal.τ Cert.MixFwdReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchReferenceIdeal (m : (ℓ : Loc Cert.DwBranchReferenceIdeal.nD Cert.DwBranchReferenceIdeal.τ Cert.DwBranchReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite8 [hPre_finite8 : Cert.Pre_finite8.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite8.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite8 [hPre_finite8 : Cert.Pre_finite8.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite8.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))) = (fun _ => 1#1)

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdReferenceIdeal (m : (ℓ : Loc Cert.MixOutBwdReferenceIdeal.nD Cert.MixOutBwdReferenceIdeal.τ Cert.MixOutBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite2 [hFfnIdeal : Cert.FfnIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite2 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ r.2.sem = fun _ => 0)

def quiescent_MixBwdReferenceIdeal [hMixBwdReferenceIdeal : Cert.MixBwdReferenceIdeal.Facts] : Prop :=
  ∀ (m : (ℓ : Loc Cert.MixBwdReferenceIdeal.nD Cert.MixBwdReferenceIdeal.τ Cert.MixBwdReferenceIdeal.sig) → Buf (Elt Ideal) ℓ) (g : Dev Cert.MixBwdReferenceIdeal.nD → PrngReg), Pre_MixBwdReferenceIdeal m →
    θ_run (Cert.MixBwdReferenceIdeal.defs (F := Ideal)) (onTc (τ := Cert.MixBwdReferenceIdeal.τ) (Cert.MixBwdReferenceIdeal.main (F := Ideal))) ⟨m, fun _ => 0, g⟩ (fun r => (∀ c : Dev Cert.MixBwdReferenceIdeal.nD,
      r.2.mem ((c.tc : Thread Cert.MixBwdReferenceIdeal.nD Cert.MixBwdReferenceIdeal.τ).loc Cert.MixBwdReferenceIdeal.main_arg0) = m ((c.tc : Thread Cert.MixBwdReferenceIdeal.nD Cert.MixBwdReferenceIdeal.τ).loc Cert.MixBwdReferenceIdeal.main_arg0)
      ∧ r.2.mem ((c.tc : Thread Cert.MixBwdReferenceIdeal.nD Cert.MixBwdReferenceIdeal.τ).loc Cert.MixBwdReferenceIdeal.main_arg1) = m ((c.tc : Thread Cert.MixBwdReferenceIdeal.nD Cert.MixBwdReferenceIdeal.τ).loc Cert.MixBwdReferenceIdeal.main_arg1)
      ∧ r.2.mem ((c.tc : Thread Cert.MixBwdReferenceIdeal.nD Cert.MixBwdReferenceIdeal.τ).loc Cert.MixBwdReferenceIdeal.main_arg2) = m ((c.tc : Thread Cert.MixBwdReferenceIdeal.nD Cert.MixBwdReferenceIdeal.τ).loc Cert.MixBwdReferenceIdeal.main_arg2)
      ∧ r.2.mem ((c.tc : Thread Cert.MixBwdReferenceIdeal.nD Cert.MixBwdReferenceIdeal.τ).loc Cert.MixBwdReferenceIdeal.main_arg3) = m ((c.tc : Thread Cert.MixBwdReferenceIdeal.nD Cert.MixBwdReferenceIdeal.τ).loc Cert.MixBwdReferenceIdeal.main_arg3)
      ∧ r.2.mem ((c.tc : Thread Cert.MixBwdReferenceIdeal.nD Cert.MixBwdReferenceIdeal.τ).loc Cert.MixBwdReferenceIdeal.main_arg4) = m ((c.tc : Thread Cert.MixBwdReferenceIdeal.nD Cert.MixBwdReferenceIdeal.τ).loc Cert.MixBwdReferenceIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdReferenceIdeal [hMixFwdReferenceIdeal : Cert.MixFwdReferenceIdeal.Facts] : Prop :=
  ∀ (m : (ℓ : Loc Cert.MixFwdReferenceIdeal.nD Cert.MixFwdReferenceIdeal.τ Cert.MixFwdReferenceIdeal.sig) → Buf (Elt Ideal) ℓ) (g : Dev Cert.MixFwdReferenceIdeal.nD → PrngReg), Pre_MixFwdReferenceIdeal m →
    θ_run (Cert.MixFwdReferenceIdeal.defs (F := Ideal)) (onTc (τ := Cert.MixFwdReferenceIdeal.τ) (Cert.MixFwdReferenceIdeal.main (F := Ideal))) ⟨m, fun _ => 0, g⟩ (fun r => (∀ c : Dev Cert.MixFwdReferenceIdeal.nD,
      r.2.mem ((c.tc : Thread Cert.MixFwdReferenceIdeal.nD Cert.MixFwdReferenceIdeal.τ).loc Cert.MixFwdReferenceIdeal.main_arg0) = m ((c.tc : Thread Cert.MixFwdReferenceIdeal.nD Cert.MixFwdReferenceIdeal.τ).loc Cert.MixFwdReferenceIdeal.main_arg0)
      ∧ r.2.mem ((c.tc : Thread Cert.MixFwdReferenceIdeal.nD Cert.MixFwdReferenceIdeal.τ).loc Cert.MixFwdReferenceIdeal.main_arg1) = m ((c.tc : Thread Cert.MixFwdReferenceIdeal.nD Cert.MixFwdReferenceIdeal.τ).loc Cert.MixFwdReferenceIdeal.main_arg1)
      ∧ r.2.mem ((c.tc : Thread Cert.MixFwdReferenceIdeal.nD Cert.MixFwdReferenceIdeal.τ).loc Cert.MixFwdReferenceIdeal.main_arg2) = m ((c.tc : Thread Cert.MixFwdReferenceIdeal.nD Cert.MixFwdReferenceIdeal.τ).loc Cert.MixFwdReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchReferenceIdeal [hDwBranchReferenceIdeal : Cert.DwBranchReferenceIdeal.Facts] : Prop :=
  ∀ (m : (ℓ : Loc Cert.DwBranchReferenceIdeal.nD Cert.DwBranchReferenceIdeal.τ Cert.DwBranchReferenceIdeal.sig) → Buf (Elt Ideal) ℓ) (g : Dev Cert.DwBranchReferenceIdeal.nD → PrngReg), Pre_DwBranchReferenceIdeal m →
    θ_run (Cert.DwBranchReferenceIdeal.defs (F := Ideal)) (onTc (τ := Cert.DwBranchReferenceIdeal.τ) (Cert.DwBranchReferenceIdeal.main (F := Ideal))) ⟨m, fun _ => 0, g⟩ (fun r => (∀ c : Dev Cert.DwBranchReferenceIdeal.nD,
      r.2.mem ((c.tc : Thread Cert.DwBranchReferenceIdeal.nD Cert.DwBranchReferenceIdeal.τ).loc Cert.DwBranchReferenceIdeal.main_arg0) = m ((c.tc : Thread Cert.DwBranchReferenceIdeal.nD Cert.DwBranchReferenceIdeal.τ).loc Cert.DwBranchReferenceIdeal.main_arg0)
      ∧ r.2.mem ((c.tc : Thread Cert.DwBranchReferenceIdeal.nD Cert.DwBranchReferenceIdeal.τ).loc Cert.DwBranchReferenceIdeal.main_arg1) = m ((c.tc : Thread Cert.DwBranchReferenceIdeal.nD Cert.DwBranchReferenceIdeal.τ).loc Cert.DwBranchReferenceIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite8 [hAttnFwdIdeal : Cert.AttnFwdIdeal.Facts] [hPre_finite8 : Cert.Pre_finite8.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite8 m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite8 [hAttnFwdReferenceIdeal : Cert.AttnFwdReferenceIdeal.Facts] [hPre_finite8 : Cert.Pre_finite8.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite8 m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ r.2.sem = fun _ => 0)

def quiescent_MixOutBwdReferenceIdeal [hMixOutBwdReferenceIdeal : Cert.MixOutBwdReferenceIdeal.Facts] : Prop :=
  ∀ (m : (ℓ : Loc Cert.MixOutBwdReferenceIdeal.nD Cert.MixOutBwdReferenceIdeal.τ Cert.MixOutBwdReferenceIdeal.sig) → Buf (Elt Ideal) ℓ) (g : Dev Cert.MixOutBwdReferenceIdeal.nD → PrngReg), Pre_MixOutBwdReferenceIdeal m →
    θ_run (Cert.MixOutBwdReferenceIdeal.defs (F := Ideal)) (onTc (τ := Cert.MixOutBwdReferenceIdeal.τ) (Cert.MixOutBwdReferenceIdeal.main (F := Ideal))) ⟨m, fun _ => 0, g⟩ (fun r => (∀ c : Dev Cert.MixOutBwdReferenceIdeal.nD,
      r.2.mem ((c.tc : Thread Cert.MixOutBwdReferenceIdeal.nD Cert.MixOutBwdReferenceIdeal.τ).loc Cert.MixOutBwdReferenceIdeal.main_arg0) = m ((c.tc : Thread Cert.MixOutBwdReferenceIdeal.nD Cert.MixOutBwdReferenceIdeal.τ).loc Cert.MixOutBwdReferenceIdeal.main_arg0)
      ∧ r.2.mem ((c.tc : Thread Cert.MixOutBwdReferenceIdeal.nD Cert.MixOutBwdReferenceIdeal.τ).loc Cert.MixOutBwdReferenceIdeal.main_arg1) = m ((c.tc : Thread Cert.MixOutBwdReferenceIdeal.nD Cert.MixOutBwdReferenceIdeal.τ).loc Cert.MixOutBwdReferenceIdeal.main_arg1)
      ∧ r.2.mem ((c.tc : Thread Cert.MixOutBwdReferenceIdeal.nD Cert.MixOutBwdReferenceIdeal.τ).loc Cert.MixOutBwdReferenceIdeal.main_arg2) = m ((c.tc : Thread Cert.MixOutBwdReferenceIdeal.nD Cert.MixOutBwdReferenceIdeal.τ).loc Cert.MixOutBwdReferenceIdeal.main_arg2)
      ∧ r.2.mem ((c.tc : Thread Cert.MixOutBwdReferenceIdeal.nD Cert.MixOutBwdReferenceIdeal.τ).loc Cert.MixOutBwdReferenceIdeal.main_arg3) = m ((c.tc : Thread Cert.MixOutBwdReferenceIdeal.nD Cert.MixOutBwdReferenceIdeal.τ).loc Cert.MixOutBwdReferenceIdeal.main_arg3)
      ∧ r.2.mem ((c.tc : Thread Cert.MixOutBwdReferenceIdeal.nD Cert.MixOutBwdReferenceIdeal.τ).loc Cert.MixOutBwdReferenceIdeal.main_arg4) = m ((c.tc : Thread Cert.MixOutBwdReferenceIdeal.nD Cert.MixOutBwdReferenceIdeal.τ).loc Cert.MixOutBwdReferenceIdeal.main_arg4)
      ∧ r.2.mem ((c.tc : Thread Cert.MixOutBwdReferenceIdeal.nD Cert.MixOutBwdReferenceIdeal.τ).loc Cert.MixOutBwdReferenceIdeal.main_arg5) = m ((c.tc : Thread Cert.MixOutBwdReferenceIdeal.nD Cert.MixOutBwdReferenceIdeal.τ).loc Cert.MixOutBwdReferenceIdeal.main_arg5)
      ∧ r.2.mem ((c.tc : Thread Cert.MixOutBwdReferenceIdeal.nD Cert.MixOutBwdReferenceIdeal.τ).loc Cert.MixOutBwdReferenceIdeal.main_arg6) = m ((c.tc : Thread Cert.MixOutBwdReferenceIdeal.nD Cert.MixOutBwdReferenceIdeal.τ).loc Cert.MixOutBwdReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)) (v2 : (c : Dev Cert.KernelIdeal.nD) → Buf (Elt Ideal) ((c.tc : Thread Cert.KernelIdeal.nD Cert.KernelIdeal.τ).loc Cert.KernelIdeal.main_v49_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_v49_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal_pre_finite2 [hFfnIdeal : Cert.FfnIdeal.Facts] [hFfnReferenceIdeal : Cert.FfnReferenceIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite2 m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v9_0)) (v2 : (c : Dev Cert.FfnIdeal.nD) → Buf (Elt Ideal) ((c.tc : Thread Cert.FfnIdeal.nD Cert.FfnIdeal.τ).loc Cert.FfnIdeal.main_v9_4)) (v3 : (c : Dev Cert.FfnIdeal.nD) → Buf (Elt Ideal) ((c.tc : Thread Cert.FfnIdeal.nD Cert.FfnIdeal.τ).loc Cert.FfnIdeal.main_v10_0)) (v4 : (c : Dev Cert.FfnIdeal.nD) → Buf (Elt Ideal) ((c.tc : Thread Cert.FfnIdeal.nD Cert.FfnIdeal.τ).loc Cert.FfnIdeal.main_v11_0)) (v5 : (c : Dev Cert.FfnIdeal.nD) → Buf (Elt Ideal) ((c.tc : Thread Cert.FfnIdeal.nD Cert.FfnIdeal.τ).loc Cert.FfnIdeal.main_v12_0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v9_0) = v1 c
          ∧ r.2.mem ((c.tc : Thread Cert.FfnIdeal.nD Cert.FfnIdeal.τ).loc Cert.FfnIdeal.main_v9_4) = v2 c
          ∧ r.2.mem ((c.tc : Thread Cert.FfnIdeal.nD Cert.FfnIdeal.τ).loc Cert.FfnIdeal.main_v10_0) = v3 c
          ∧ r.2.mem ((c.tc : Thread Cert.FfnIdeal.nD Cert.FfnIdeal.τ).loc Cert.FfnIdeal.main_v11_0) = v4 c
          ∧ r.2.mem ((c.tc : Thread Cert.FfnIdeal.nD Cert.FfnIdeal.τ).loc Cert.FfnIdeal.main_v12_0) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_v58) = v1 c
          ∧ r.2.mem ((c.tc : Thread Cert.FfnReferenceIdeal.nD Cert.FfnReferenceIdeal.τ).loc Cert.FfnReferenceIdeal.main_v41) = v2 c
          ∧ r.2.mem ((c.tc : Thread Cert.FfnReferenceIdeal.nD Cert.FfnReferenceIdeal.τ).loc Cert.FfnReferenceIdeal.main_v60) = v3 c
          ∧ r.2.mem ((c.tc : Thread Cert.FfnReferenceIdeal.nD Cert.FfnReferenceIdeal.τ).loc Cert.FfnReferenceIdeal.main_v62) = v4 c
          ∧ r.2.mem ((c.tc : Thread Cert.FfnReferenceIdeal.nD Cert.FfnReferenceIdeal.τ).loc Cert.FfnReferenceIdeal.main_v63) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixBwd_MixBwdIdeal : Prop :=
  True

def algebraic_MixBwdIdeal_MixBwdReferenceIdeal [hMixBwdIdeal : Cert.MixBwdIdeal.Facts] [hMixBwdReferenceIdeal : Cert.MixBwdReferenceIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdReferenceIdeal.nD Cert.MixBwdReferenceIdeal.τ Cert.MixBwdReferenceIdeal.sig) → Buf (Elt Ideal) ℓ) (g' : Dev Cert.MixBwdReferenceIdeal.nD → PrngReg), Pre_MixBwdIdeal m →
    (∀ c : Dev Cert.MixBwdIdeal.nD,
      m' ((c.tc : Thread Cert.MixBwdReferenceIdeal.nD Cert.MixBwdReferenceIdeal.τ).loc Cert.MixBwdReferenceIdeal.main_arg0) = m ((c.tc : Thread Cert.MixBwdIdeal.nD Cert.MixBwdIdeal.τ).loc Cert.MixBwdIdeal.main_arg0)
      ∧ m' ((c.tc : Thread Cert.MixBwdReferenceIdeal.nD Cert.MixBwdReferenceIdeal.τ).loc Cert.MixBwdReferenceIdeal.main_arg1) = m ((c.tc : Thread Cert.MixBwdIdeal.nD Cert.MixBwdIdeal.τ).loc Cert.MixBwdIdeal.main_arg1)
      ∧ m' ((c.tc : Thread Cert.MixBwdReferenceIdeal.nD Cert.MixBwdReferenceIdeal.τ).loc Cert.MixBwdReferenceIdeal.main_arg2) = m ((c.tc : Thread Cert.MixBwdIdeal.nD Cert.MixBwdIdeal.τ).loc Cert.MixBwdIdeal.main_arg2)
      ∧ m' ((c.tc : Thread Cert.MixBwdReferenceIdeal.nD Cert.MixBwdReferenceIdeal.τ).loc Cert.MixBwdReferenceIdeal.main_arg3) = m ((c.tc : Thread Cert.MixBwdIdeal.nD Cert.MixBwdIdeal.τ).loc Cert.MixBwdIdeal.main_arg3)
      ∧ m' ((c.tc : Thread Cert.MixBwdReferenceIdeal.nD Cert.MixBwdReferenceIdeal.τ).loc Cert.MixBwdReferenceIdeal.main_arg4) = m ((c.tc : Thread Cert.MixBwdIdeal.nD Cert.MixBwdIdeal.τ).loc Cert.MixBwdIdeal.main_arg4)) →
    ∃ (v0 : (c : Dev Cert.MixBwdIdeal.nD) → Buf (Elt Ideal) ((c.tc : Thread Cert.MixBwdIdeal.nD Cert.MixBwdIdeal.τ).loc Cert.MixBwdIdeal.main_v16_0)) (v1 : (c : Dev Cert.MixBwdIdeal.nD) → Buf (Elt Ideal) ((c.tc : Thread Cert.MixBwdIdeal.nD Cert.MixBwdIdeal.τ).loc Cert.MixBwdIdeal.main_v16_1)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v16_0) = v0 c
          ∧ r.2.mem ((c.tc : Thread Cert.MixBwdIdeal.nD Cert.MixBwdIdeal.τ).loc Cert.MixBwdIdeal.main_v16_1) = v1 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4))
      ∧ θ_run (Cert.MixBwdReferenceIdeal.defs (F := Ideal)) (onTc (τ := Cert.MixBwdReferenceIdeal.τ) (Cert.MixBwdReferenceIdeal.main (F := Ideal))) ⟨m', fun _ => 0, g'⟩ (fun r => ∀ c : Dev Cert.MixBwdReferenceIdeal.nD,
          r.2.mem ((c.tc : Thread Cert.MixBwdReferenceIdeal.nD Cert.MixBwdReferenceIdeal.τ).loc Cert.MixBwdReferenceIdeal.main_v38) = v0 c
          ∧ r.2.mem ((c.tc : Thread Cert.MixBwdReferenceIdeal.nD Cert.MixBwdReferenceIdeal.τ).loc Cert.MixBwdReferenceIdeal.main_v21) = v1 c
          ∧ r.2.mem ((c.tc : Thread Cert.MixBwdReferenceIdeal.nD Cert.MixBwdReferenceIdeal.τ).loc Cert.MixBwdReferenceIdeal.main_arg0) = m' ((c.tc : Thread Cert.MixBwdReferenceIdeal.nD Cert.MixBwdReferenceIdeal.τ).loc Cert.MixBwdReferenceIdeal.main_arg0)
          ∧ r.2.mem ((c.tc : Thread Cert.MixBwdReferenceIdeal.nD Cert.MixBwdReferenceIdeal.τ).loc Cert.MixBwdReferenceIdeal.main_arg1) = m' ((c.tc : Thread Cert.MixBwdReferenceIdeal.nD Cert.MixBwdReferenceIdeal.τ).loc Cert.MixBwdReferenceIdeal.main_arg1)
          ∧ r.2.mem ((c.tc : Thread Cert.MixBwdReferenceIdeal.nD Cert.MixBwdReferenceIdeal.τ).loc Cert.MixBwdReferenceIdeal.main_arg2) = m' ((c.tc : Thread Cert.MixBwdReferenceIdeal.nD Cert.MixBwdReferenceIdeal.τ).loc Cert.MixBwdReferenceIdeal.main_arg2)
          ∧ r.2.mem ((c.tc : Thread Cert.MixBwdReferenceIdeal.nD Cert.MixBwdReferenceIdeal.τ).loc Cert.MixBwdReferenceIdeal.main_arg3) = m' ((c.tc : Thread Cert.MixBwdReferenceIdeal.nD Cert.MixBwdReferenceIdeal.τ).loc Cert.MixBwdReferenceIdeal.main_arg3)
          ∧ r.2.mem ((c.tc : Thread Cert.MixBwdReferenceIdeal.nD Cert.MixBwdReferenceIdeal.τ).loc Cert.MixBwdReferenceIdeal.main_arg4) = m' ((c.tc : Thread Cert.MixBwdReferenceIdeal.nD Cert.MixBwdReferenceIdeal.τ).loc Cert.MixBwdReferenceIdeal.main_arg4))

def preserves_MixFwd_MixFwdIdeal : Prop :=
  True

def algebraic_MixFwdIdeal_MixFwdReferenceIdeal [hMixFwdIdeal : Cert.MixFwdIdeal.Facts] [hMixFwdReferenceIdeal : Cert.MixFwdReferenceIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdReferenceIdeal.nD Cert.MixFwdReferenceIdeal.τ Cert.MixFwdReferenceIdeal.sig) → Buf (Elt Ideal) ℓ) (g' : Dev Cert.MixFwdReferenceIdeal.nD → PrngReg), Pre_MixFwdIdeal m →
    (∀ c : Dev Cert.MixFwdIdeal.nD,
      m' ((c.tc : Thread Cert.MixFwdReferenceIdeal.nD Cert.MixFwdReferenceIdeal.τ).loc Cert.MixFwdReferenceIdeal.main_arg0) = m ((c.tc : Thread Cert.MixFwdIdeal.nD Cert.MixFwdIdeal.τ).loc Cert.MixFwdIdeal.main_arg0)
      ∧ m' ((c.tc : Thread Cert.MixFwdReferenceIdeal.nD Cert.MixFwdReferenceIdeal.τ).loc Cert.MixFwdReferenceIdeal.main_arg1) = m ((c.tc : Thread Cert.MixFwdIdeal.nD Cert.MixFwdIdeal.τ).loc Cert.MixFwdIdeal.main_arg1)
      ∧ m' ((c.tc : Thread Cert.MixFwdReferenceIdeal.nD Cert.MixFwdReferenceIdeal.τ).loc Cert.MixFwdReferenceIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v2_0)) (v1 : (c : Dev Cert.MixFwdIdeal.nD) → Buf (Elt Ideal) ((c.tc : Thread Cert.MixFwdIdeal.nD Cert.MixFwdIdeal.τ).loc Cert.MixFwdIdeal.main_v2_1)) (v2 : (c : Dev Cert.MixFwdIdeal.nD) → Buf (Elt Ideal) ((c.tc : Thread Cert.MixFwdIdeal.nD Cert.MixFwdIdeal.τ).loc Cert.MixFwdIdeal.main_v2_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v2_0) = v0 c
          ∧ r.2.mem ((c.tc : Thread Cert.MixFwdIdeal.nD Cert.MixFwdIdeal.τ).loc Cert.MixFwdIdeal.main_v2_1) = v1 c
          ∧ r.2.mem ((c.tc : Thread Cert.MixFwdIdeal.nD Cert.MixFwdIdeal.τ).loc Cert.MixFwdIdeal.main_v2_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdReferenceIdeal.defs (F := Ideal)) (onTc (τ := Cert.MixFwdReferenceIdeal.τ) (Cert.MixFwdReferenceIdeal.main (F := Ideal))) ⟨m', fun _ => 0, g'⟩ (fun r => ∀ c : Dev Cert.MixFwdReferenceIdeal.nD,
          r.2.mem ((c.tc : Thread Cert.MixFwdReferenceIdeal.nD Cert.MixFwdReferenceIdeal.τ).loc Cert.MixFwdReferenceIdeal.main_v13) = v0 c
          ∧ r.2.mem ((c.tc : Thread Cert.MixFwdReferenceIdeal.nD Cert.MixFwdReferenceIdeal.τ).loc Cert.MixFwdReferenceIdeal.main_v14) = v1 c
          ∧ r.2.mem ((c.tc : Thread Cert.MixFwdReferenceIdeal.nD Cert.MixFwdReferenceIdeal.τ).loc Cert.MixFwdReferenceIdeal.main_v16) = v2 c
          ∧ r.2.mem ((c.tc : Thread Cert.MixFwdReferenceIdeal.nD Cert.MixFwdReferenceIdeal.τ).loc Cert.MixFwdReferenceIdeal.main_arg0) = m' ((c.tc : Thread Cert.MixFwdReferenceIdeal.nD Cert.MixFwdReferenceIdeal.τ).loc Cert.MixFwdReferenceIdeal.main_arg0)
          ∧ r.2.mem ((c.tc : Thread Cert.MixFwdReferenceIdeal.nD Cert.MixFwdReferenceIdeal.τ).loc Cert.MixFwdReferenceIdeal.main_arg1) = m' ((c.tc : Thread Cert.MixFwdReferenceIdeal.nD Cert.MixFwdReferenceIdeal.τ).loc Cert.MixFwdReferenceIdeal.main_arg1)
          ∧ r.2.mem ((c.tc : Thread Cert.MixFwdReferenceIdeal.nD Cert.MixFwdReferenceIdeal.τ).loc Cert.MixFwdReferenceIdeal.main_arg2) = m' ((c.tc : Thread Cert.MixFwdReferenceIdeal.nD Cert.MixFwdReferenceIdeal.τ).loc Cert.MixFwdReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v8)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v8) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v20) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v1_0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1_0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwBranch_DwBranchIdeal : Prop :=
  True

def algebraic_DwBranchIdeal_DwBranchReferenceIdeal [hDwBranchIdeal : Cert.DwBranchIdeal.Facts] [hDwBranchReferenceIdeal : Cert.DwBranchReferenceIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchReferenceIdeal.nD Cert.DwBranchReferenceIdeal.τ Cert.DwBranchReferenceIdeal.sig) → Buf (Elt Ideal) ℓ) (g' : Dev Cert.DwBranchReferenceIdeal.nD → PrngReg), Pre_DwBranchIdeal m →
    (∀ c : Dev Cert.DwBranchIdeal.nD,
      m' ((c.tc : Thread Cert.DwBranchReferenceIdeal.nD Cert.DwBranchReferenceIdeal.τ).loc Cert.DwBranchReferenceIdeal.main_arg0) = m ((c.tc : Thread Cert.DwBranchIdeal.nD Cert.DwBranchIdeal.τ).loc Cert.DwBranchIdeal.main_arg0)
      ∧ m' ((c.tc : Thread Cert.DwBranchReferenceIdeal.nD Cert.DwBranchReferenceIdeal.τ).loc Cert.DwBranchReferenceIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v1_0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v1_0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchReferenceIdeal.defs (F := Ideal)) (onTc (τ := Cert.DwBranchReferenceIdeal.τ) (Cert.DwBranchReferenceIdeal.main (F := Ideal))) ⟨m', fun _ => 0, g'⟩ (fun r => ∀ c : Dev Cert.DwBranchReferenceIdeal.nD,
          r.2.mem ((c.tc : Thread Cert.DwBranchReferenceIdeal.nD Cert.DwBranchReferenceIdeal.τ).loc Cert.DwBranchReferenceIdeal.main_v5) = v0 c
          ∧ r.2.mem ((c.tc : Thread Cert.DwBranchReferenceIdeal.nD Cert.DwBranchReferenceIdeal.τ).loc Cert.DwBranchReferenceIdeal.main_arg0) = m' ((c.tc : Thread Cert.DwBranchReferenceIdeal.nD Cert.DwBranchReferenceIdeal.τ).loc Cert.DwBranchReferenceIdeal.main_arg0)
          ∧ r.2.mem ((c.tc : Thread Cert.DwBranchReferenceIdeal.nD Cert.DwBranchReferenceIdeal.τ).loc Cert.DwBranchReferenceIdeal.main_arg1) = m' ((c.tc : Thread Cert.DwBranchReferenceIdeal.nD Cert.DwBranchReferenceIdeal.τ).loc Cert.DwBranchReferenceIdeal.main_arg1))

def preserves_AttnFwd_AttnFwdIdeal : Prop :=
  True

def algebraic_AttnFwdIdeal_AttnFwdReferenceIdeal_pre_finite8 [hAttnFwdIdeal : Cert.AttnFwdIdeal.Facts] [hAttnFwdReferenceIdeal : Cert.AttnFwdReferenceIdeal.Facts] [hPre_finite8 : Cert.Pre_finite8.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite8 m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v16_0)) (v1 : (c : Dev Cert.AttnFwdIdeal.nD) → Buf (Elt Ideal) ((c.tc : Thread Cert.AttnFwdIdeal.nD Cert.AttnFwdIdeal.τ).loc Cert.AttnFwdIdeal.main_v16_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v16_0) = v0 c
          ∧ r.2.mem ((c.tc : Thread Cert.AttnFwdIdeal.nD Cert.AttnFwdIdeal.τ).loc Cert.AttnFwdIdeal.main_v16_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v22) = v0 c
          ∧ r.2.mem ((c.tc : Thread Cert.AttnFwdReferenceIdeal.nD Cert.AttnFwdReferenceIdeal.τ).loc Cert.AttnFwdReferenceIdeal.main_v26) = v1 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def preserves_MixOutBwd_MixOutBwdIdeal : Prop :=
  True

def algebraic_MixOutBwdIdeal_MixOutBwdReferenceIdeal [hMixOutBwdIdeal : Cert.MixOutBwdIdeal.Facts] [hMixOutBwdReferenceIdeal : Cert.MixOutBwdReferenceIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdReferenceIdeal.nD Cert.MixOutBwdReferenceIdeal.τ Cert.MixOutBwdReferenceIdeal.sig) → Buf (Elt Ideal) ℓ) (g' : Dev Cert.MixOutBwdReferenceIdeal.nD → PrngReg), Pre_MixOutBwdIdeal m →
    (∀ c : Dev Cert.MixOutBwdIdeal.nD,
      m' ((c.tc : Thread Cert.MixOutBwdReferenceIdeal.nD Cert.MixOutBwdReferenceIdeal.τ).loc Cert.MixOutBwdReferenceIdeal.main_arg0) = m ((c.tc : Thread Cert.MixOutBwdIdeal.nD Cert.MixOutBwdIdeal.τ).loc Cert.MixOutBwdIdeal.main_arg0)
      ∧ m' ((c.tc : Thread Cert.MixOutBwdReferenceIdeal.nD Cert.MixOutBwdReferenceIdeal.τ).loc Cert.MixOutBwdReferenceIdeal.main_arg1) = m ((c.tc : Thread Cert.MixOutBwdIdeal.nD Cert.MixOutBwdIdeal.τ).loc Cert.MixOutBwdIdeal.main_arg1)
      ∧ m' ((c.tc : Thread Cert.MixOutBwdReferenceIdeal.nD Cert.MixOutBwdReferenceIdeal.τ).loc Cert.MixOutBwdReferenceIdeal.main_arg2) = m ((c.tc : Thread Cert.MixOutBwdIdeal.nD Cert.MixOutBwdIdeal.τ).loc Cert.MixOutBwdIdeal.main_arg2)
      ∧ m' ((c.tc : Thread Cert.MixOutBwdReferenceIdeal.nD Cert.MixOutBwdReferenceIdeal.τ).loc Cert.MixOutBwdReferenceIdeal.main_arg3) = m ((c.tc : Thread Cert.MixOutBwdIdeal.nD Cert.MixOutBwdIdeal.τ).loc Cert.MixOutBwdIdeal.main_arg3)
      ∧ m' ((c.tc : Thread Cert.MixOutBwdReferenceIdeal.nD Cert.MixOutBwdReferenceIdeal.τ).loc Cert.MixOutBwdReferenceIdeal.main_arg4) = m ((c.tc : Thread Cert.MixOutBwdIdeal.nD Cert.MixOutBwdIdeal.τ).loc Cert.MixOutBwdIdeal.main_arg4)
      ∧ m' ((c.tc : Thread Cert.MixOutBwdReferenceIdeal.nD Cert.MixOutBwdReferenceIdeal.τ).loc Cert.MixOutBwdReferenceIdeal.main_arg5) = m ((c.tc : Thread Cert.MixOutBwdIdeal.nD Cert.MixOutBwdIdeal.τ).loc Cert.MixOutBwdIdeal.main_arg5)
      ∧ m' ((c.tc : Thread Cert.MixOutBwdReferenceIdeal.nD Cert.MixOutBwdReferenceIdeal.τ).loc Cert.MixOutBwdReferenceIdeal.main_arg6) = m ((c.tc : Thread Cert.MixOutBwdIdeal.nD Cert.MixOutBwdIdeal.τ).loc Cert.MixOutBwdIdeal.main_arg6)) →
    ∃ (v0 : (c : Dev Cert.MixOutBwdIdeal.nD) → Buf (Elt Ideal) ((c.tc : Thread Cert.MixOutBwdIdeal.nD Cert.MixOutBwdIdeal.τ).loc Cert.MixOutBwdIdeal.main_v29_0)) (v1 : (c : Dev Cert.MixOutBwdIdeal.nD) → Buf (Elt Ideal) ((c.tc : Thread Cert.MixOutBwdIdeal.nD Cert.MixOutBwdIdeal.τ).loc Cert.MixOutBwdIdeal.main_v29_1)) (v2 : (c : Dev Cert.MixOutBwdIdeal.nD) → Buf (Elt Ideal) ((c.tc : Thread Cert.MixOutBwdIdeal.nD Cert.MixOutBwdIdeal.τ).loc Cert.MixOutBwdIdeal.main_v29_2)) (v3 : (c : Dev Cert.MixOutBwdIdeal.nD) → Buf (Elt Ideal) ((c.tc : Thread Cert.MixOutBwdIdeal.nD Cert.MixOutBwdIdeal.τ).loc Cert.MixOutBwdIdeal.main_v29_3)) (v4 : (c : Dev Cert.MixOutBwdIdeal.nD) → Buf (Elt Ideal) ((c.tc : Thread Cert.MixOutBwdIdeal.nD Cert.MixOutBwdIdeal.τ).loc Cert.MixOutBwdIdeal.main_v29_4)) (v5 : (c : Dev Cert.MixOutBwdIdeal.nD) → Buf (Elt Ideal) ((c.tc : Thread Cert.MixOutBwdIdeal.nD Cert.MixOutBwdIdeal.τ).loc Cert.MixOutBwdIdeal.main_v29_6)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v29_0) = v0 c
          ∧ r.2.mem ((c.tc : Thread Cert.MixOutBwdIdeal.nD Cert.MixOutBwdIdeal.τ).loc Cert.MixOutBwdIdeal.main_v29_1) = v1 c
          ∧ r.2.mem ((c.tc : Thread Cert.MixOutBwdIdeal.nD Cert.MixOutBwdIdeal.τ).loc Cert.MixOutBwdIdeal.main_v29_2) = v2 c
          ∧ r.2.mem ((c.tc : Thread Cert.MixOutBwdIdeal.nD Cert.MixOutBwdIdeal.τ).loc Cert.MixOutBwdIdeal.main_v29_3) = v3 c
          ∧ r.2.mem ((c.tc : Thread Cert.MixOutBwdIdeal.nD Cert.MixOutBwdIdeal.τ).loc Cert.MixOutBwdIdeal.main_v29_4) = v4 c
          ∧ r.2.mem ((c.tc : Thread Cert.MixOutBwdIdeal.nD Cert.MixOutBwdIdeal.τ).loc Cert.MixOutBwdIdeal.main_v29_6) = v5 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6))
      ∧ θ_run (Cert.MixOutBwdReferenceIdeal.defs (F := Ideal)) (onTc (τ := Cert.MixOutBwdReferenceIdeal.τ) (Cert.MixOutBwdReferenceIdeal.main (F := Ideal))) ⟨m', fun _ => 0, g'⟩ (fun r => ∀ c : Dev Cert.MixOutBwdReferenceIdeal.nD,
          r.2.mem ((c.tc : Thread Cert.MixOutBwdReferenceIdeal.nD Cert.MixOutBwdReferenceIdeal.τ).loc Cert.MixOutBwdReferenceIdeal.main_v34) = v0 c
          ∧ r.2.mem ((c.tc : Thread Cert.MixOutBwdReferenceIdeal.nD Cert.MixOutBwdReferenceIdeal.τ).loc Cert.MixOutBwdReferenceIdeal.main_v35) = v1 c
          ∧ r.2.mem ((c.tc : Thread Cert.MixOutBwdReferenceIdeal.nD Cert.MixOutBwdReferenceIdeal.τ).loc Cert.MixOutBwdReferenceIdeal.main_v36) = v2 c
          ∧ r.2.mem ((c.tc : Thread Cert.MixOutBwdReferenceIdeal.nD Cert.MixOutBwdReferenceIdeal.τ).loc Cert.MixOutBwdReferenceIdeal.main_v37) = v3 c
          ∧ r.2.mem ((c.tc : Thread Cert.MixOutBwdReferenceIdeal.nD Cert.MixOutBwdReferenceIdeal.τ).loc Cert.MixOutBwdReferenceIdeal.main_v48) = v4 c
          ∧ r.2.mem ((c.tc : Thread Cert.MixOutBwdReferenceIdeal.nD Cert.MixOutBwdReferenceIdeal.τ).loc Cert.MixOutBwdReferenceIdeal.main_v49) = v5 c
          ∧ r.2.mem ((c.tc : Thread Cert.MixOutBwdReferenceIdeal.nD Cert.MixOutBwdReferenceIdeal.τ).loc Cert.MixOutBwdReferenceIdeal.main_arg0) = m' ((c.tc : Thread Cert.MixOutBwdReferenceIdeal.nD Cert.MixOutBwdReferenceIdeal.τ).loc Cert.MixOutBwdReferenceIdeal.main_arg0)
          ∧ r.2.mem ((c.tc : Thread Cert.MixOutBwdReferenceIdeal.nD Cert.MixOutBwdReferenceIdeal.τ).loc Cert.MixOutBwdReferenceIdeal.main_arg1) = m' ((c.tc : Thread Cert.MixOutBwdReferenceIdeal.nD Cert.MixOutBwdReferenceIdeal.τ).loc Cert.MixOutBwdReferenceIdeal.main_arg1)
          ∧ r.2.mem ((c.tc : Thread Cert.MixOutBwdReferenceIdeal.nD Cert.MixOutBwdReferenceIdeal.τ).loc Cert.MixOutBwdReferenceIdeal.main_arg2) = m' ((c.tc : Thread Cert.MixOutBwdReferenceIdeal.nD Cert.MixOutBwdReferenceIdeal.τ).loc Cert.MixOutBwdReferenceIdeal.main_arg2)
          ∧ r.2.mem ((c.tc : Thread Cert.MixOutBwdReferenceIdeal.nD Cert.MixOutBwdReferenceIdeal.τ).loc Cert.MixOutBwdReferenceIdeal.main_arg3) = m' ((c.tc : Thread Cert.MixOutBwdReferenceIdeal.nD Cert.MixOutBwdReferenceIdeal.τ).loc Cert.MixOutBwdReferenceIdeal.main_arg3)
          ∧ r.2.mem ((c.tc : Thread Cert.MixOutBwdReferenceIdeal.nD Cert.MixOutBwdReferenceIdeal.τ).loc Cert.MixOutBwdReferenceIdeal.main_arg4) = m' ((c.tc : Thread Cert.MixOutBwdReferenceIdeal.nD Cert.MixOutBwdReferenceIdeal.τ).loc Cert.MixOutBwdReferenceIdeal.main_arg4)
          ∧ r.2.mem ((c.tc : Thread Cert.MixOutBwdReferenceIdeal.nD Cert.MixOutBwdReferenceIdeal.τ).loc Cert.MixOutBwdReferenceIdeal.main_arg5) = m' ((c.tc : Thread Cert.MixOutBwdReferenceIdeal.nD Cert.MixOutBwdReferenceIdeal.τ).loc Cert.MixOutBwdReferenceIdeal.main_arg5)
          ∧ r.2.mem ((c.tc : Thread Cert.MixOutBwdReferenceIdeal.nD Cert.MixOutBwdReferenceIdeal.τ).loc Cert.MixOutBwdReferenceIdeal.main_arg6) = m' ((c.tc : Thread Cert.MixOutBwdReferenceIdeal.nD Cert.MixOutBwdReferenceIdeal.τ).loc Cert.MixOutBwdReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMixBwd : Cert.MixBwd.Facts) (hMixBwdIdeal : Cert.MixBwdIdeal.Facts) (hMixBwdReferenceIdeal : Cert.MixBwdReferenceIdeal.Facts) (hMixFwd : Cert.MixFwd.Facts) (hMixFwdIdeal : Cert.MixFwdIdeal.Facts) (hMixFwdReferenceIdeal : Cert.MixFwdReferenceIdeal.Facts) (hMixOut : Cert.MixOut.Facts) (hMixOutIdeal : Cert.MixOutIdeal.Facts) (hMixOutReferenceIdeal : Cert.MixOutReferenceIdeal.Facts) (hDwOut : Cert.DwOut.Facts) (hDwOutIdeal : Cert.DwOutIdeal.Facts) (hDwOutReferenceIdeal : Cert.DwOutReferenceIdeal.Facts) (hDwBranch : Cert.DwBranch.Facts) (hDwBranchIdeal : Cert.DwBranchIdeal.Facts) (hDwBranchReferenceIdeal : Cert.DwBranchReferenceIdeal.Facts) (hAttnFwd : Cert.AttnFwd.Facts) (hAttnFwdIdeal : Cert.AttnFwdIdeal.Facts) (hAttnFwdReferenceIdeal : Cert.AttnFwdReferenceIdeal.Facts) (hMixOutBwd : Cert.MixOutBwd.Facts) (hMixOutBwdIdeal : Cert.MixOutBwdIdeal.Facts) (hMixOutBwdReferenceIdeal : Cert.MixOutBwdReferenceIdeal.Facts) (hPre_finite : Cert.Pre_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite2 (hFfnIdeal := hFfnIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_MixBwd (hMixBwd := hMixBwd)
    ∧ quiescent_MixBwdIdeal (hMixBwdIdeal := hMixBwdIdeal)
    ∧ quiescent_MixBwdReferenceIdeal (hMixBwdReferenceIdeal := hMixBwdReferenceIdeal)
    ∧ quiescent_MixFwd (hMixFwd := hMixFwd)
    ∧ quiescent_MixFwdIdeal (hMixFwdIdeal := hMixFwdIdeal)
    ∧ quiescent_MixFwdReferenceIdeal (hMixFwdReferenceIdeal := hMixFwdReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwBranch (hDwBranch := hDwBranch)
    ∧ quiescent_DwBranchIdeal (hDwBranchIdeal := hDwBranchIdeal)
    ∧ quiescent_DwBranchReferenceIdeal (hDwBranchReferenceIdeal := hDwBranchReferenceIdeal)
    ∧ quiescent_AttnFwd (hAttnFwd := hAttnFwd)
    ∧ quiescent_AttnFwdIdeal (hAttnFwdIdeal := hAttnFwdIdeal)
    ∧ quiescent_AttnFwdIdeal_pre_finite8 (hAttnFwdIdeal := hAttnFwdIdeal) (hPre_finite8 := hPre_finite8)
    ∧ quiescent_AttnFwdReferenceIdeal (hAttnFwdReferenceIdeal := hAttnFwdReferenceIdeal)
    ∧ quiescent_AttnFwdReferenceIdeal_pre_finite8 (hAttnFwdReferenceIdeal := hAttnFwdReferenceIdeal) (hPre_finite8 := hPre_finite8)
    ∧ quiescent_MixOutBwd (hMixOutBwd := hMixOutBwd)
    ∧ quiescent_MixOutBwdIdeal (hMixOutBwdIdeal := hMixOutBwdIdeal)
    ∧ quiescent_MixOutBwdReferenceIdeal (hMixOutBwdReferenceIdeal := hMixOutBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal_pre_finite2 (hFfnIdeal := hFfnIdeal) (hFfnReferenceIdeal := hFfnReferenceIdeal) (hPre_finite2 := hPre_finite2)
    ∧ preserves_MixBwd_MixBwdIdeal
    ∧ algebraic_MixBwdIdeal_MixBwdReferenceIdeal (hMixBwdIdeal := hMixBwdIdeal) (hMixBwdReferenceIdeal := hMixBwdReferenceIdeal)
    ∧ preserves_MixFwd_MixFwdIdeal
    ∧ algebraic_MixFwdIdeal_MixFwdReferenceIdeal (hMixFwdIdeal := hMixFwdIdeal) (hMixFwdReferenceIdeal := hMixFwdReferenceIdeal)
    ∧ preserves_MixOut_MixOutIdeal
    ∧ algebraic_MixOutIdeal_MixOutReferenceIdeal (hMixOutIdeal := hMixOutIdeal) (hMixOutReferenceIdeal := hMixOutReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwBranch_DwBranchIdeal
    ∧ algebraic_DwBranchIdeal_DwBranchReferenceIdeal (hDwBranchIdeal := hDwBranchIdeal) (hDwBranchReferenceIdeal := hDwBranchReferenceIdeal)
    ∧ preserves_AttnFwd_AttnFwdIdeal
    ∧ algebraic_AttnFwdIdeal_AttnFwdReferenceIdeal_pre_finite8 (hAttnFwdIdeal := hAttnFwdIdeal) (hAttnFwdReferenceIdeal := hAttnFwdReferenceIdeal) (hPre_finite8 := hPre_finite8)
    ∧ preserves_MixOutBwd_MixOutBwdIdeal
    ∧ algebraic_MixOutBwdIdeal_MixOutBwdReferenceIdeal (hMixOutBwdIdeal := hMixOutBwdIdeal) (hMixOutBwdReferenceIdeal := hMixOutBwdReferenceIdeal)
-- ==== Pre_finite.lean ====
abbrev S4096x512 : Shape := ⟨2, ![4096, 512]⟩
abbrev S4096x128 : Shape := ⟨2, ![4096, 128]⟩
abbrev S_ : Shape := ⟨0, ![]⟩
abbrev S4096x1280 : Shape := ⟨2, ![4096, 1280]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  concatenates_S4096x512_S4096x512_S4096x128_S4096x128_S4096x1280_d1 : Shape.Concatenates [S4096x512, S4096x512, S4096x128, S4096x128] S4096x1280 1

variable [Facts]

def fn {F : FTy → Type} [FloatOps F] (main_arg0 : FVec F S4096x512 .f32) (main_arg1 : FVec F S4096x128 .f32) (main_arg2 : FVec F S4096x128 .f32) (main_arg3 : FVec F S4096x512 .f32) : IVec S4096x1280 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg3
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x128 .f32 := Host.absf main_arg1
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_v12 : IVec S4096x1280 1 := concatenate S4096x1280 1 [⟨S4096x512, main_v2⟩, ⟨S4096x512, main_v5⟩, ⟨S4096x128, main_v8⟩, ⟨S4096x128, main_v11⟩] concatenates_S4096x512_S4096x512_S4096x128_S4096x128_S4096x1280_d1
  main_v12
-- ==== Pre_finite2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16641x1024 : Shape := ⟨2, ![16641, 1024]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  transposes_S1024x2816_S2816x1024_1_0 : S1024x2816.Transposes [1, 0] S2816x1024
  bcast_S_S2816x1024 : S_.BroadcastsInDim S2816x1024 (![] : Fin 0 → Fin S2816x1024.rank)
  concatenates_S4096x1024_S4096x1024_S1x1024_S2816x1024_S2816x1024_S2816x1024_S16641x1024_d0 : Shape.Concatenates [S4096x1024, S4096x1024, S1x1024, S2816x1024, S2816x1024, S2816x1024] S16641x1024 0

variable [Facts]

def fn_part1 {F : FTy → Type} [FloatOps F] (main_v2 : IVec S4096x1024 1) (main_v5 : IVec S4096x1024 1) (main_v8 : IVec S1x1024 1) (main_v12 : IVec S2816x1024 1) (main_v16 : IVec S2816x1024 1) (main_v17 : FVec F S2816x1024 .f32) (main_cst_4 : FVec F S_ .f32) : IVec S16641x1024 1 :=
  let main_v18 : FVec F S2816x1024 .f32 := broadcastInDim S2816x1024 ![] bcast_S_S2816x1024 main_cst_4
  let main_v19 : IVec S2816x1024 1 := cmpf .olt main_v17 main_v18
  let main_v20 : IVec S16641x1024 1 := concatenate S16641x1024 0 [⟨S4096x1024, main_v2⟩, ⟨S4096x1024, main_v5⟩, ⟨S1x1024, main_v8⟩, ⟨S2816x1024, main_v12⟩, ⟨S2816x1024, main_v16⟩, ⟨S2816x1024, main_v19⟩] concatenates_S4096x1024_S4096x1024_S1x1024_S2816x1024_S2816x1024_S2816x1024_S16641x1024_d0
  main_v20

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S16641x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg5
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg1
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2816x1024 .f32 := (transpose S2816x1024 [1, 0] · transposes_S1024x2816_S2816x1024_1_0) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_v13 : FVec F S2816x1024 .f32 := (transpose S2816x1024 [1, 0] · transposes_S1024x2816_S2816x1024_1_0) main_arg3
  let main_v14 : FVec F S2816x1024 .f32 := Host.absf main_v13
  let main_cst_3 : FVec F S_ .f32 := constant S_ .f32 0x7F800000#32
  let main_v15 : FVec F S2816x1024 .f32 := broadcastInDim S2816x1024 ![] bcast_S_S2816x1024 main_cst_3
  let main_v16 : IVec S2816x1024 1 := cmpf .olt main_v14 main_v15
  let main_v17 : FVec F S2816x1024 .f32 := Host.absf main_arg4
  let main_cst_4 : FVec F S_ .f32 := constant S_ .f32 0x7F800000#32
  fn_part1 (F := F) main_v2 main_v5 main_v8 main_v12 main_v16 main_v17 main_cst_4
-- ==== Pre_finite8.lean ====
abbrev S4096x512 : Shape := ⟨2, ![4096, 512]⟩
abbrev S4096x128 : Shape := ⟨2, ![4096, 128]⟩
abbrev S_ : Shape := ⟨0, ![]⟩
abbrev S4096x640 : Shape := ⟨2, ![4096, 640]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  concatenates_S4096x512_S4096x128_S4096x640_d1 : Shape.Concatenates [S4096x512, S4096x128] S4096x640 1

variable [Facts]

def fn {F : FTy → Type} [FloatOps F] (main_arg0 : FVec F S4096x512 .f32) (main_arg1 : FVec F S4096x128 .f32) (main_arg2 : FVec F S4096x128 .f32) : IVec S4096x640 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : IVec S4096x640 1 := (fun a b => concatenate S4096x640 1 [⟨S4096x512, a⟩, ⟨S4096x128, b⟩] concatenates_S4096x512_S4096x128_S4096x640_d1) main_v2 main_v5
  main_v6
-- ==== Kernel.lean ====
abbrev S4096x512 : Shape := ⟨2, ![4096, 512]⟩
abbrev S4096x128 : Shape := ⟨2, ![4096, 128]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S8x4096x1 : Shape := ⟨3, ![8, 4096, 1]⟩
abbrev S2x64x4x4096 : Shape := ⟨4, ![2, 64, 4, 4096]⟩
abbrev S4096x8x64 : Shape := ⟨3, ![4096, 8, 64]⟩
abbrev S4096x8 : Shape := ⟨2, ![4096, 8]⟩
abbrev S4096x8x1 : Shape := ⟨3, ![4096, 8, 1]⟩
abbrev S4096x8x128 : Shape := ⟨3, ![4096, 8, 128]⟩
abbrev S4096x1024 : Shape := ⟨2, ![4096, 1024]⟩
abbrev S4096x4x64 : Shape := ⟨3, ![4096, 4, 64]⟩
abbrev S4096x4x128 : Shape := ⟨3, ![4096, 4, 128]⟩
abbrev S128x4096 : Shape := ⟨2, ![128, 4096]⟩
abbrev S512x4096 : Shape := ⟨2, ![512, 4096]⟩
abbrev S256x128 : Shape := ⟨2, ![256, 128]⟩
abbrev S2x256x1 : Shape := ⟨3, ![2, 256, 1]⟩
abbrev S128x256 : Shape := ⟨2, ![128, 256]⟩
abbrev S2x128x256 : Shape := ⟨3, ![2, 128, 256]⟩
abbrev S64x4096 : Shape := ⟨2, ![64, 4096]⟩
abbrev S256x4096 : Shape := ⟨2, ![256, 4096]⟩
abbrev S1x256x1 : Shape := ⟨3, ![1, 256, 1]⟩
abbrev S256x1 : Shape := ⟨2, ![256, 1]⟩
abbrev S256 : Shape := ⟨1, ![256]⟩
abbrev S64x256 : Shape := ⟨2, ![64, 256]⟩
abbrev S1x128x256 : Shape := ⟨3, ![1, 128, 256]⟩
abbrev S1x64x256 : Shape := ⟨3, ![1, 64, 256]⟩

abbrev nBuf : Space → Nat
  | .hbm => 63
  | .vmem => 23
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x2x4x64, .f32⟩
  | .hbm, ⟨5, _⟩ => ⟨S4096x2x64, .f32⟩
  | .hbm, ⟨6, _⟩ => ⟨S4096x2x64, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S2x4x4096, .f32⟩
  | .hbm, ⟨11, _⟩ => ⟨S2x4x4096x1, .f32⟩
  | .hbm, ⟨12, _⟩ => ⟨S2x4x4096x4096, .f32⟩
  | .hbm, ⟨13, _⟩ => ⟨S2x4x4096x4096, .f32⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S2x4x4096x1, .f32⟩
  | .hbm, ⟨18, _⟩ => ⟨S2x4x4096x1, .f32⟩
  | .hbm, ⟨19, _⟩ => ⟨S2x4x4096x1, .f32⟩
  | .hbm, ⟨20, _⟩ => ⟨S8x4096x1, .f32⟩
  | .hbm, ⟨21, _⟩ => ⟨S2x4x4096x4096, .f32⟩
  | .hbm, ⟨22, _⟩ => ⟨S2x4x4096x4096, .f32⟩
  | .hbm, ⟨23, _⟩ => ⟨S2x64x4x4096, .f32⟩
  | .hbm, ⟨24, _⟩ => ⟨S4096x2x4x64, .f32⟩
  | .hbm, ⟨25, _⟩ => ⟨S4096x8x64, .f32⟩
  | .hbm, ⟨26, _⟩ => ⟨S4096x8x64, .f32⟩
  | .hbm, ⟨27, _⟩ => ⟨S4096x8x64, .f32⟩
  | .hbm, ⟨28, _⟩ => ⟨S_, .f32⟩
  | .hbm, ⟨29, _⟩ => ⟨S4096x8, .f32⟩
  | .hbm, ⟨30, _⟩ => ⟨S4096x8x1, .f32⟩
  | .hbm, ⟨31, _⟩ => ⟨S4096x8x128, .f32⟩
  | .hbm, ⟨32, _⟩ => ⟨S4096x1024, .f32⟩
  | .hbm, ⟨33, _⟩ => ⟨S4096x128, .bf16⟩
  | .hbm, ⟨34, _⟩ => ⟨S4096x8x64, .f32⟩
  | .hbm, ⟨35, _⟩ => ⟨S4096x4x64, .f32⟩
  | .hbm, ⟨36, _⟩ => ⟨S_, .f32⟩
  | .hbm, ⟨37, _⟩ => ⟨S4096x4x64, .f32⟩
  | .hbm, ⟨38, _⟩ => ⟨S4096x4x128, .f32⟩
  | .hbm, ⟨39, _⟩ => ⟨S_, .f32⟩
  | .hbm, ⟨40, _⟩ => ⟨S4096x4x64, .f32⟩
  | .hbm, ⟨41, _⟩ => ⟨S4096x4x64, .f32⟩
  | .hbm, ⟨42, _⟩ => ⟨S4096x4x128, .f32⟩
  | .hbm, ⟨43, _⟩ => ⟨S4096x8x128, .f32⟩
  | .hbm, ⟨44, _⟩ => ⟨S4096x1024, .f32⟩
  | .hbm, ⟨45, _⟩ => ⟨S4096x1024, .bf16⟩
  | .hbm, ⟨46, _⟩ => ⟨S128x4096, .bf16⟩
  | .hbm, ⟨47, _⟩ => ⟨S4096x128, .bf16⟩
  | .hbm, ⟨48, _⟩ => ⟨S4096x8x64, .f32⟩
  | .hbm, ⟨49, _⟩ => ⟨S4096x4x64, .f32⟩
  | .hbm, ⟨50, _⟩ => ⟨S_, .f32⟩
  | .hbm, ⟨51, _⟩ => ⟨S4096x4x64, .f32⟩
  | .hbm, ⟨52, _⟩ => ⟨S4096x4x128, .f32⟩
  | .hbm, ⟨53, _⟩ => ⟨S_, .f32⟩
  | .hbm, ⟨54, _⟩ => ⟨S4096x4x64, .f32⟩
  | .hbm, ⟨55, _⟩ => ⟨S4096x4x64, .f32⟩
  | .hbm, ⟨56, _⟩ => ⟨S4096x4x128, .f32⟩
  | .hbm, ⟨57, _⟩ => ⟨S4096x8x128, .f32⟩
  | .hbm, ⟨58, _⟩ => ⟨S4096x1024, .f32⟩
  | .hbm, ⟨59, _⟩ => ⟨S4096x1024, .bf16⟩
  | .hbm, ⟨60, _⟩ => ⟨S512x4096, .f32⟩
  | .hbm, ⟨61, _⟩ => ⟨S128x4096, .f32⟩
  | .hbm, ⟨62, _⟩ => ⟨S128x4096, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S4096x128, .bf16⟩
  | .local _ .vmem, ⟨5, _⟩ => ⟨S128x4096, .bf16⟩
  | .local _ .vmem, ⟨6, _⟩ => ⟨S4096x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S2x256x1, .f32⟩
  | .local _ .vmem, ⟨16, _⟩ => ⟨S2x256x1, .f32⟩
  | .local _ .vmem, ⟨17, _⟩ => ⟨S128x256, .f32⟩
  | .local _ .vmem, ⟨18, _⟩ => ⟨S128x256, .f32⟩
  | .local _ .vmem, ⟨19, _⟩ => ⟨S128x4096, .f32⟩
  | .local _ .vmem, ⟨20, _⟩ => ⟨S128x4096, .f32⟩
  | .local _ .vmem, ⟨21, _⟩ => ⟨S2x128x256, .f32⟩
  | .local _ .vmem, ⟨22, _⟩ => ⟨S2x128x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49_0 : Ref sig .tc := ⟨.hbm, 60, rfl⟩
abbrev main_v49_1 : Ref sig .tc := ⟨.hbm, 61, rfl⟩
abbrev main_v49_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  v23
def k0_off1 (i : grid0.Coords) : Fin 2 → Nat :=
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  let v24 : BitVec 32 := v23
  let v25 : Index := Scalar.indexCast v24
  let c0 : Index := 0#32
  ![v25.toNat, 0]
def k0_off2 (i : grid0.Coords) : Fin 3 → Nat :=
  let c0_47 : Index := 0#32
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  let v24 : BitVec 32 := v23
  let v79 : Index := Scalar.indexCast v24
  let c0_48 : Index := 0#32
  ![0, v79.toNat, 0]
def k0_off3 (i : grid0.Coords) : Fin 3 → Nat :=
  let c1_70 : Index := 1#32
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  let v24 : BitVec 32 := v23
  let v122 : Index := Scalar.indexCast v24
  let c0_71 : Index := 0#32
  ![1, v122.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S128x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S4096x512 : Shape := ⟨2, ![4096, 512]⟩
abbrev S4096x128 : Shape := ⟨2, ![4096, 128]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩
abbrev S512x4096 : Shape := ⟨2, ![512, 4096]⟩
abbrev S128x4096 : Shape := ⟨2, ![128, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S4096x2x4x64, .f32⟩
  | .hbm, ⟨5, _⟩ => ⟨S4096x2x64, .f32⟩
  | .hbm, ⟨6, _⟩ => ⟨S4096x2x64, .f32⟩
  | .hbm, ⟨7, _⟩ => ⟨S2x4096x4096x4, .f32⟩
  | .hbm, ⟨8, _⟩ => ⟨S2x4x4096x4096, .f32⟩
  | .hbm, ⟨9, _⟩ => ⟨S_, .f32⟩
  | .hbm, ⟨10, _⟩ => ⟨S2x4x4096, .f32⟩
  | .hbm, ⟨11, _⟩ => ⟨S2x4x4096x1, .f32⟩
  | .hbm, ⟨12, _⟩ => ⟨S2x4x4096x4096, .f32⟩
  | .hbm, ⟨13, _⟩ => ⟨S2x4x4096x4096, .i1⟩
  | .hbm, ⟨14, _⟩ => ⟨S2x4x4096x4096, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S_, .f32⟩
  | .hbm, ⟨21, _⟩ => ⟨S2x4x4096, .f32⟩
  | .hbm, ⟨22, _⟩ => ⟨S2x4x4096, .i1⟩
  | .hbm, ⟨23, _⟩ => ⟨S_, .f32⟩
  | .hbm, ⟨24, _⟩ => ⟨S2x4x4096, .f32⟩
  | .hbm, ⟨25, _⟩ => ⟨S2x4x4096, .i1⟩
  | .hbm, ⟨26, _⟩ => ⟨S_, .f32⟩
  | .hbm, ⟨27, _⟩ => ⟨S2x4x4096, .f32⟩
  | .hbm, ⟨28, _⟩ => ⟨S_, .f32⟩
  | .hbm, ⟨29, _⟩ => ⟨S2x4x4096, .f32⟩
  | .hbm, ⟨30, _⟩ => ⟨S_, .f32⟩
  | .hbm, ⟨31, _⟩ => ⟨S2x4x4096, .f32⟩
  | .hbm, ⟨32, _⟩ => ⟨S2x4x4096, .f32⟩
  | .hbm, ⟨33, _⟩ => ⟨S2x4x4096, .f32⟩
  | .hbm, ⟨34, _⟩ => ⟨S2x4x4096x1, .f32⟩
  | .hbm, ⟨35, _⟩ => ⟨S2x4x4096x4096, .f32⟩
  | .hbm, ⟨36, _⟩ => ⟨S2x4x4096x4096, .f32⟩
  | .hbm, ⟨37, _⟩ => ⟨S2x4x4096x4096, .f32⟩
  | .hbm, ⟨38, _⟩ => ⟨S_, .f32⟩
  | .hbm, ⟨39, _⟩ => ⟨S2x4x4096, .f32⟩
  | .hbm, ⟨40, _⟩ => ⟨S2x4x4096x1, .f32⟩
  | .hbm, ⟨41, _⟩ => ⟨S2x4x4096x4096, .f32⟩
  | .hbm, ⟨42, _⟩ => ⟨S2x4x4096x4096, .f32⟩
  | .hbm, ⟨43, _⟩ => ⟨S2x4x4096x1, .f32⟩
  | .hbm, ⟨44, _⟩ => ⟨S_, .f32⟩
  | .hbm, ⟨45, _⟩ => ⟨S2x4x4096x1, .f32⟩
  | .hbm, ⟨46, _⟩ => ⟨S2x4x4096x1, .f32⟩
  | .hbm, ⟨47, _⟩ => ⟨S2x64x4x4096, .f32⟩
  | .hbm, ⟨48, _⟩ => ⟨S4096x2x4x64, .f32⟩
  | .hbm, ⟨49, _⟩ => ⟨S4096x512, .f32⟩
  | .hbm, ⟨50, _⟩ => ⟨S4096x2x4x64, .f32⟩
  | .hbm, ⟨51, _⟩ => ⟨S2x64x4x4096, .f32⟩
  | .hbm, ⟨52, _⟩ => ⟨S2x4x4096x4096, .f32⟩
  | .hbm, ⟨53, _⟩ => ⟨S2x64x4096, .f32⟩
  | .hbm, ⟨54, _⟩ => ⟨S4096x2x64, .f32⟩
  | .hbm, ⟨55, _⟩ => ⟨S2x4x4096x4096, .f32⟩
  | .hbm, ⟨56, _⟩ => ⟨S2x4x4096x4096, .f32⟩
  | .hbm, ⟨57, _⟩ => ⟨S2x4x4096x4096, .f32⟩
  | .hbm, ⟨58, _⟩ => ⟨S_, .f32⟩
  | .hbm, ⟨59, _⟩ => ⟨S2x4x4096, .f32⟩
  | .hbm, ⟨60, _⟩ => ⟨S2x4x4096x1, .f32⟩
  | .hbm, ⟨61, _⟩ => ⟨S2x4x4096x1, .f32⟩
  | .hbm, ⟨62, _⟩ => ⟨S2x4x4096x4096, .f32⟩
  | .hbm, ⟨63, _⟩ => ⟨S2x4x4096x4096, .f32⟩
  | .hbm, ⟨64, _⟩ => ⟨S_, .f32⟩
  | .hbm, ⟨65, _⟩ => ⟨S2x4x4096, .f32⟩
  | .hbm, ⟨66, _⟩ => ⟨S2x4x4096x4096, .f32⟩
  | .hbm, ⟨67, _⟩ => ⟨S2x4x4096x4096, .f32⟩
  | .hbm, ⟨68, _⟩ => ⟨S2x4x4096x4096, .f32⟩
  | .hbm, ⟨69, _⟩ => ⟨S2x4096x4096x4, .f32⟩
  | .hbm, ⟨70, _⟩ => ⟨S2x4096x4x64, .f32⟩
  | .hbm, ⟨71, _⟩ => ⟨S4096x2x4x64, .f32⟩
  | .hbm, ⟨72, _⟩ => ⟨S2x4096x64, .f32⟩
  | .hbm, ⟨73, _⟩ => ⟨S4096x2x64, .f32⟩
  | .hbm, ⟨74, _⟩ => ⟨S4096x128, .f32⟩
  | .hbm, ⟨75, _⟩ => ⟨S4096x128, .f32⟩
  | .hbm, ⟨76, _⟩ => ⟨S4096x512, .f32⟩
  | .hbm, ⟨77, _⟩ => ⟨S512x4096, .f32⟩
  | .hbm, ⟨78, _⟩ => ⟨S128x4096, .f32⟩
  | .hbm, ⟨79, _⟩ => ⟨S128x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512x1024 : Shape := ⟨2, ![512, 1024]⟩
abbrev S1x512x704 : Shape := ⟨3, ![1, 512, 704]⟩
abbrev S512 : Shape := ⟨1, ![512]⟩
abbrev S512x1 : Shape := ⟨2, ![512, 1]⟩
abbrev S1024x704 : Shape := ⟨2, ![1024, 704]⟩

abbrev nBuf : Space → Nat
  | .hbm => 31
  | .vmem => 74
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S4x4096x704, .bf16⟩
  | .hbm, ⟨16, _⟩ => ⟨S4x4096x704, .bf16⟩
  | .hbm, ⟨17, _⟩ => ⟨S4x4096x704, .bf16⟩
  | .hbm, ⟨18, _⟩ => ⟨S4096x1024, .bf16⟩
  | .hbm, ⟨19, _⟩ => ⟨S4096x1024, .f32⟩
  | .hbm, ⟨20, _⟩ => ⟨S4x4096x704, .bf16⟩
  | .hbm, ⟨21, _⟩ => ⟨S4x4096x704, .bf16⟩
  | .hbm, ⟨22, _⟩ => ⟨S4x4096x704, .bf16⟩
  | .hbm, ⟨23, _⟩ => ⟨S1x1024, .f32⟩
  | .hbm, ⟨24, _⟩ => ⟨S4096x1024, .bf16⟩
  | .hbm, ⟨25, _⟩ => ⟨S4x704x1024, .f32⟩
  | .hbm, ⟨26, _⟩ => ⟨S4x704x1024, .bf16⟩
  | .hbm, ⟨27, _⟩ => ⟨S4x704x1024, .f32⟩
  | .hbm, ⟨28, _⟩ => ⟨S4x704x1024, .bf16⟩
  | .hbm, ⟨29, _⟩ => ⟨S4x704x1024, .f32⟩
  | .hbm, ⟨30, _⟩ => ⟨S4x704x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S1x512x704, .bf16⟩
  | .local _ .vmem, ⟨30, _⟩ => ⟨S1x512x704, .bf16⟩
  | .local _ .vmem, ⟨31, _⟩ => ⟨S1x512x704, .bf16⟩
  | .local _ .vmem, ⟨32, _⟩ => ⟨S1x704x1024, .bf16⟩
  | .local _ .vmem, ⟨33, _⟩ => ⟨S1x704x1024, .bf16⟩
  | .local _ .vmem, ⟨34, _⟩ => ⟨S1x704x1024, .bf16⟩
  | .local _ .vmem, ⟨35, _⟩ => ⟨S1x704x1024, .bf16⟩
  | .local _ .vmem, ⟨36, _⟩ => ⟨S1x704x1024, .bf16⟩
  | .local _ .vmem, ⟨37, _⟩ => ⟨S1x704x1024, .bf16⟩
  | .local _ .vmem, ⟨38, _⟩ => ⟨S512x1024, .f32⟩
  | .local _ .vmem, ⟨39, _⟩ => ⟨S512x1024, .f32⟩
  | .local _ .vmem, ⟨40, _⟩ => ⟨S1x512x704, .bf16⟩
  | .local _ .vmem, ⟨41, _⟩ => ⟨S1x512x704, .bf16⟩
  | .local _ .vmem, ⟨42, _⟩ => ⟨S1x512x704, .bf16⟩
  | .local _ .vmem, ⟨43, _⟩ => ⟨S1x512x704, .bf16⟩
  | .local _ .vmem, ⟨44, _⟩ => ⟨S1x512x704, .bf16⟩
  | .local _ .vmem, ⟨45, _⟩ => ⟨S1x512x704, .bf16⟩
  | .local _ .vmem, ⟨46, _⟩ => ⟨S1x1024, .f32⟩
  | .local _ .vmem, ⟨47, _⟩ => ⟨S512x1024, .bf16⟩
  | .local _ .vmem, ⟨48, _⟩ => ⟨S512x1024, .bf16⟩
  | .local _ .vmem, ⟨49, _⟩ => ⟨S512x1024, .f32⟩
  | .local _ .vmem, ⟨50, _⟩ => ⟨S1x1024x704, .bf16⟩
  | .local _ .vmem, ⟨51, _⟩ => ⟨S1x1024x704, .bf16⟩
  | .local _ .vmem, ⟨52, _⟩ => ⟨S4096x1024, .bf16⟩
  | .local _ .vmem, ⟨53, _⟩ => ⟨S1x704x1024, .f32⟩
  | .local _ .vmem, ⟨54, _⟩ => ⟨S1x704x1024, .f32⟩
  | .local _ .vmem, ⟨55, _⟩ => ⟨S1x704x1024, .bf16⟩
  | .local _ .vmem, ⟨56, _⟩ => ⟨S1x704x1024, .bf16⟩
  | .local _ .vmem, ⟨57, _⟩ => ⟨S704x1024, .f32⟩
  | .local _ .vmem, ⟨58, _⟩ => ⟨S1x1024x704, .bf16⟩
  | .local _ .vmem, ⟨59, _⟩ => ⟨S1x1024x704, .bf16⟩
  | .local _ .vmem, ⟨60, _⟩ => ⟨S4096x1024, .bf16⟩
  | .local _ .vmem, ⟨61, _⟩ => ⟨S1x704x1024, .f32⟩
  | .local _ .vmem, ⟨62, _⟩ => ⟨S1x704x1024, .f32⟩
  | .local _ .vmem, ⟨63, _⟩ => ⟨S1x704x1024, .bf16⟩
  | .local _ .vmem, ⟨64, _⟩ => ⟨S1x704x1024, .bf16⟩
  | .local _ .vmem, ⟨65, _⟩ => ⟨S704x1024, .f32⟩
  | .local _ .vmem, ⟨66, _⟩ => ⟨S1x1024x704, .bf16⟩
  | .local _ .vmem, ⟨67, _⟩ => ⟨S1x1024x704, .bf16⟩
  | .local _ .vmem, ⟨68, _⟩ => ⟨S4096x1024, .bf16⟩
  | .local _ .vmem, ⟨69, _⟩ => ⟨S1x704x1024, .f32⟩
  | .local _ .vmem, ⟨70, _⟩ => ⟨S1x704x1024, .f32⟩
  | .local _ .vmem, ⟨71, _⟩ => ⟨S1x704x1024, .bf16⟩
  | .local _ .vmem, ⟨72, _⟩ => ⟨S1x704x1024, .bf16⟩
  | .local _ .vmem, ⟨73, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v10_0 : Ref sig .tc := ⟨.hbm, 25, rfl⟩
abbrev main_v10_1 : Ref sig .tc := ⟨.hbm, 26, rfl⟩
abbrev main_v11_0 : Ref sig .tc := ⟨.hbm, 27, rfl⟩
abbrev main_v11_1 : Ref sig .tc := ⟨.hbm, 28, rfl⟩
abbrev main_v12_0 : Ref sig .tc := ⟨.hbm, 29, rfl⟩
abbrev main_v12_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg14_0 : Ref sig .tc := ⟨.vmem, 47, rfl⟩
abbrev cc1_stg14_1 : Ref sig .tc := ⟨.vmem, 48, rfl⟩
abbrev cc1_scratch0 : Ref sig .tc := ⟨.vmem, 49, rfl⟩
abbrev cc2_stg0_0 : Ref sig .tc := ⟨.vmem, 50, rfl⟩
abbrev cc2_stg0_1 : Ref sig .tc := ⟨.vmem, 51, rfl⟩
abbrev cc2_stg1_0 : Ref sig .tc := ⟨.vmem, 52, rfl⟩
abbrev cc2_stg2_0 : Ref sig .tc := ⟨.vmem, 53, rfl⟩
abbrev cc2_stg2_1 : Ref sig .tc := ⟨.vmem, 54, rfl⟩
abbrev cc2_stg3_0 : Ref sig .tc := ⟨.vmem, 55, rfl⟩
abbrev cc2_stg3_1 : Ref sig .tc := ⟨.vmem, 56, rfl⟩
abbrev cc2_scratch0 : Ref sig .tc := ⟨.vmem, 57, rfl⟩
abbrev cc3_stg0_0 : Ref sig .tc := ⟨.vmem, 58, rfl⟩
abbrev cc3_stg0_1 : Ref sig .tc := ⟨.vmem, 59, rfl⟩
abbrev cc3_stg1_0 : Ref sig .tc := ⟨.vmem, 60, rfl⟩
abbrev cc3_stg2_0 : Ref sig .tc := ⟨.vmem, 61, rfl⟩
abbrev cc3_stg2_1 : Ref sig .tc := ⟨.vmem, 62, rfl⟩
abbrev cc3_stg3_0 : Ref sig .tc := ⟨.vmem, 63, rfl⟩
abbrev cc3_stg3_1 : Ref sig .tc := ⟨.vmem, 64, rfl⟩
abbrev cc3_scratch0 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg2_0 : Ref sig .tc := ⟨.vmem, 69, rfl⟩
abbrev cc4_stg2_1 : Ref sig .tc := ⟨.vmem, 70, rfl⟩
abbrev cc4_stg3_0 : Ref sig .tc := ⟨.vmem, 71, rfl⟩
abbrev cc4_stg3_1 : Ref sig .tc := ⟨.vmem, 72, rfl⟩
abbrev cc4_scratch0 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem14_0 : DmaSem sig := 45
abbrev cc1_sem14_1 : DmaSem sig := 46
abbrev cc2_sem0_0 : DmaSem sig := 47
abbrev cc2_sem0_1 : DmaSem sig := 48
abbrev cc2_sem1_0 : DmaSem sig := 49
abbrev cc2_sem2_0 : DmaSem sig := 50
abbrev cc2_sem2_1 : DmaSem sig := 51
abbrev cc2_sem3_0 : DmaSem sig := 52
abbrev cc2_sem3_1 : DmaSem sig := 53
abbrev cc3_sem0_0 : DmaSem sig := 54
abbrev cc3_sem0_1 : DmaSem sig := 55
abbrev cc3_sem1_0 : DmaSem sig := 56
abbrev cc3_sem2_0 : DmaSem sig := 57
abbrev cc3_sem2_1 : DmaSem sig := 58
abbrev cc3_sem3_0 : DmaSem sig := 59
abbrev cc3_sem3_1 : DmaSem sig := 60
abbrev cc4_sem0_0 : DmaSem sig := 61
abbrev cc4_sem0_1 : DmaSem sig := 62
abbrev cc4_sem1_0 : DmaSem sig := 63
abbrev cc4_sem2_0 : DmaSem sig := 64
abbrev cc4_sem2_1 : DmaSem sig := 65
abbrev cc4_sem3_0 : DmaSem sig := 66
abbrev cc4_sem3_1 : DmaSem sig := 67

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v155 : BitVec 1 := Scalar.cmpi .eq arg1 c3_i32
  let v156 : BitVec 32 := Scalar.extui v155
  let c0_i32_120 : BitVec 32 := 0#32
  let v157 : BitVec 1 := Scalar.cmpi .ne v156 c0_i32_120
  v157

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![8, 4], ![false, false]⟩

def k1_cond3 (i : grid1.Coords) : BitVec 1 :=
  let arg1 : BitVec 32 := BitVec.ofNat 32 (i 1).val
  let c3_i32 : BitVec 32 := 3#32
  let v92 : BitVec 1 := Scalar.cmpi .eq arg1 c3_i32
  let v93 : BitVec 32 := Scalar.extui v92
  let c0_i32_73 : BitVec 32 := 0#32
  let v94 : BitVec 1 := Scalar.cmpi .ne v93 c0_i32_73
  v94

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x704x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x704x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x704x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x512x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x512x704 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x512x704 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev grid2 : Pipeline.Grid := ⟨2, ![4, 4], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v8 : Index := Scalar.indexCast v4
  let c0_5 : Index := 0#32
  ![v8.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x704x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x704x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_mult1 (i : grid3.Coords) : BitVec 32 :=
  let arg1 : BitVec 32 := BitVec.ofNat 32 (i 1).val
  let c1024_i32 : BitVec 32 := 1024#32
  let v3 : BitVec 32 := Scalar.muli arg1 c1024_i32
  v3
def k3_off1 (i : grid3.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v8 : Index := Scalar.indexCast v4
  let c0_5 : Index := 0#32
  ![v8.toNat, 0]
def k3_cond2 (i : grid3.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x704x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x704x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 4], ![false, false]⟩

def k4_mult1 (i : grid4.Coords) : BitVec 32 :=
  let arg1 : BitVec 32 := BitVec.ofNat 32 (i 1).val
  let c1024_i32 : BitVec 32 := 1024#32
  let v3 : BitVec 32 := Scalar.muli arg1 c1024_i32
  v3
def k4_off1 (i : grid4.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v8 : Index := Scalar.indexCast v4
  let c0_5 : Index := 0#32
  ![v8.toNat, 0]
def k4_cond2 (i : grid4.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1024x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S4096x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x704x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x704x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]
-- ==== FfnReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S4x704x1024 : Shape := ⟨3, ![4, 704, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S1024x2816, .f32⟩
  | .hbm, ⟨51, _⟩ => ⟨S2816x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S2816x1024, .f32⟩
  | .hbm, ⟨56, _⟩ => ⟨S1024x2816, .f32⟩
  | .hbm, ⟨57, _⟩ => ⟨S4096x1024, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S2816x1024, .f32⟩
  | .hbm, ⟨63, _⟩ => ⟨S1024x2816, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S2816x1024, .f32⟩
  | .hbm, ⟨91, _⟩ => ⟨S4x704x1024, .f32⟩
  | .hbm, ⟨92, _⟩ => ⟨S2816x1024, .f32⟩
  | .hbm, ⟨93, _⟩ => ⟨S4x704x1024, .f32⟩
  | .hbm, ⟨94, _⟩ => ⟨S4x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== MixBwd.lean ====
abbrev S4096x5376 : Shape := ⟨2, ![4096, 5376]⟩
abbrev S4096x1024 : Shape := ⟨2, ![4096, 1024]⟩
abbrev S1x1024 : Shape := ⟨2, ![1, 1024]⟩
abbrev S1024x5376 : Shape := ⟨2, ![1024, 5376]⟩
abbrev S4096x768 : Shape := ⟨2, ![4096, 768]⟩
abbrev S4096x512 : Shape := ⟨2, ![4096, 512]⟩
abbrev S4096x2048 : Shape := ⟨2, ![4096, 2048]⟩
abbrev S5376x1024 : Shape := ⟨2, ![5376, 1024]⟩
abbrev S256x768 : Shape := ⟨2, ![256, 768]⟩
abbrev S256x512 : Shape := ⟨2, ![256, 512]⟩
abbrev S256x2048 : Shape := ⟨2, ![256, 2048]⟩
abbrev S256x1024 : Shape := ⟨2, ![256, 1024]⟩
abbrev S768x1024 : Shape := ⟨2, ![768, 1024]⟩
abbrev S512x1024 : Shape := ⟨2, ![512, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 23
  | .smem => 0
  | _ => 0

abbrev bufTy : (tb : Table) → Fin (tcTables nBuf tb) → BufTy
  | .hbm, ⟨0, _⟩ => ⟨S4096x5376, .f32⟩
  | .hbm, ⟨1, _⟩ => ⟨S4096x1024, .f32⟩
  | .hbm, ⟨2, _⟩ => ⟨S1x1024, .f32⟩
  | .hbm, ⟨3, _⟩ => ⟨S1024x5376, .f32⟩
  | .hbm, ⟨4, _⟩ => ⟨S4096x1024, .f32⟩
  | .hbm, ⟨5, _⟩ => ⟨S4096x768, .f32⟩
  | .hbm, ⟨6, _⟩ => ⟨S4096x768, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S4096x2048, .f32⟩
  | .hbm, ⟨18, _⟩ => ⟨S4096x2048, .bf16⟩
  | .hbm, ⟨19, _⟩ => ⟨S5376x1024, .f32⟩
  | .hbm, ⟨20, _⟩ => ⟨S5376x1024, .bf16⟩
  | .hbm, ⟨21, _⟩ => ⟨S4096x1024, .f32⟩
  | .hbm, ⟨22, _⟩ => ⟨S1x1024, .f32⟩
  | .local _ .vmem, ⟨0, _⟩ => ⟨S256x768, .bf16⟩
  | .local _ .vmem, ⟨1, _⟩ => ⟨S256x768, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x2048, .bf16⟩
  | .local _ .vmem, ⟨13, _⟩ => ⟨S256x2048, .bf16⟩
  | .local _ .vmem, ⟨14, _⟩ => ⟨S5376x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5376x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixBwdReferenceIdeal.lean ====
abbrev S4096x5376 : Shape := ⟨2, ![4096, 5376]⟩
abbrev S4096x1024 : Shape := ⟨2, ![4096, 1024]⟩
abbrev S1x1024 : Shape := ⟨2, ![1, 1024]⟩
abbrev S1024x5376 : Shape := ⟨2, ![1024, 5376]⟩
abbrev S_ : Shape := ⟨0, ![]⟩
abbrev S4096 : Shape := ⟨1, ![4096]⟩
abbrev S4096x1 : Shape := ⟨2, ![4096, 1]⟩
abbrev S5376x1024 : Shape := ⟨2, ![5376, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4096x1024, .f32⟩
  | .hbm, ⟨2, _⟩ => ⟨S1x1024, .f32⟩
  | .hbm, ⟨3, _⟩ => ⟨S1024x5376, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5376, .f32⟩
  | .hbm, ⟨25, _⟩ => ⟨S5376x1024, .f32⟩
  | .hbm, ⟨26, _⟩ => ⟨S1024x5376, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixFwd.lean ====
abbrev S4096x1024 : Shape := ⟨2, ![4096, 1024]⟩
abbrev S1x1024 : Shape := ⟨2, ![1, 1024]⟩
abbrev S1024x5376 : Shape := ⟨2, ![1024, 5376]⟩
abbrev S5376x1024 : Shape := ⟨2, ![5376, 1024]⟩
abbrev S4096x768 : Shape := ⟨2, ![4096, 768]⟩
abbrev S4096x2560 : Shape := ⟨2, ![4096, 2560]⟩
abbrev S4096x2048 : Shape := ⟨2, ![4096, 2048]⟩
abbrev S256x1024 : Shape := ⟨2, ![256, 1024]⟩
abbrev S256x768 : Shape := ⟨2, ![256, 768]⟩
abbrev S256x2560 : Shape := ⟨2, ![256, 2560]⟩
abbrev S256x2048 : Shape := ⟨2, ![256, 2048]⟩
abbrev S256 : Shape := ⟨1, ![256]⟩
abbrev S256x1 : Shape := ⟨2, ![256, 1]⟩
abbrev S768x1024 : Shape := ⟨2, ![768, 1024]⟩
abbrev S512x1024 : Shape := ⟨2, ![512, 1024]⟩
abbrev S256x512 : Shape := ⟨2, ![256, 512]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5376, .f32⟩
  | .hbm, ⟨3, _⟩ => ⟨S5376x1024, .f32⟩
  | .hbm, ⟨4, _⟩ => ⟨S5376x1024, .bf16⟩
  | .hbm, ⟨5, _⟩ => ⟨S4096x768, .f32⟩
  | .hbm, ⟨6, _⟩ => ⟨S4096x2560, .f32⟩
  | .hbm, ⟨7, _⟩ => ⟨S4096x2048, .bf16⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5376x1024, .bf16⟩
  | .local _ .vmem, ⟨4, _⟩ => ⟨S256x768, .f32⟩
  | .local _ .vmem, ⟨5, _⟩ => ⟨S256x768, .f32⟩
  | .local _ .vmem, ⟨6, _⟩ => ⟨S256x2560, .f32⟩
  | .local _ .vmem, ⟨7, _⟩ => ⟨S256x2560, .f32⟩
  | .local _ .vmem, ⟨8, _⟩ => ⟨S256x2048, .bf16⟩
  | .local _ .vmem, ⟨9, _⟩ => ⟨S256x2048, .bf16⟩
  | .local _ .vmem, ⟨10, _⟩ => ⟨S256x1024, .bf16⟩
  | .local _ .vmem, ⟨11, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFwdReferenceIdeal.lean ====
abbrev S4096x1024 : Shape := ⟨2, ![4096, 1024]⟩
abbrev S1x1024 : Shape := ⟨2, ![1, 1024]⟩
abbrev S1024x5376 : Shape := ⟨2, ![1024, 5376]⟩
abbrev S_ : Shape := ⟨0, ![]⟩
abbrev S4096 : Shape := ⟨1, ![4096]⟩
abbrev S4096x1 : Shape := ⟨2, ![4096, 1]⟩
abbrev S4096x5376 : Shape := ⟨2, ![4096, 5376]⟩
abbrev S4096x768 : Shape := ⟨2, ![4096, 768]⟩
abbrev S4096x2560 : Shape := ⟨2, ![4096, 2560]⟩
abbrev S4096x2048 : Shape := ⟨2, ![4096, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5376, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x5376, .f32⟩
  | .hbm, ⟨19, _⟩ => ⟨S4096x768, .f32⟩
  | .hbm, ⟨20, _⟩ => ⟨S4096x2560, .f32⟩
  | .hbm, ⟨21, _⟩ => ⟨S4096x2048, .f32⟩
  | .hbm, ⟨22, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MixOut.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 16
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x2048, .bf16⟩
  | .hbm, ⟨8, _⟩ => ⟨S512x4x256, .f32⟩
  | .hbm, ⟨9, _⟩ => ⟨S4x512x256, .f32⟩
  | .hbm, ⟨10, _⟩ => ⟨S4x512x256, .bf16⟩
  | .hbm, ⟨11, _⟩ => ⟨S512x4x256, .f32⟩
  | .hbm, ⟨12, _⟩ => ⟨S4x512x256, .f32⟩
  | .hbm, ⟨13, _⟩ => ⟨S4x512x256, .bf16⟩
  | .hbm, ⟨14, _⟩ => ⟨S1024x1024, .bf16⟩
  | .hbm, ⟨15, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutReferenceIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== DwOut.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024x1024, .f32⟩
  | .hbm, ⟨4, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DwOutReferenceIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBranch.lean ====
abbrev S4096x512 : Shape := ⟨2, ![4096, 512]⟩
abbrev S4096x1024 : Shape := ⟨2, ![4096, 1024]⟩
abbrev S4x512x256 : Shape := ⟨3, ![4, 512, 256]⟩
abbrev S1024x512 : Shape := ⟨2, ![1024, 512]⟩
abbrev S1024x1024 : Shape := ⟨2, ![1024, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .bf16⟩
  | .hbm, ⟨3, _⟩ => ⟨S4x512x256, .f32⟩
  | .hbm, ⟨4, _⟩ => ⟨S4x512x256, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S4x512x256, .f32⟩
  | .local _ .vmem, ⟨5, _⟩ => ⟨S4x512x256, .bf16⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DwBranchReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S1024x512, .f32⟩
  | .hbm, ⟨6, _⟩ => ⟨S512x1024, .f32⟩
  | .hbm, ⟨7, _⟩ => ⟨S512x4x256, .f32⟩
  | .hbm, ⟨8, _⟩ => ⟨S4x512x256, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnFwd.lean ====
abbrev S4096x512 : Shape := ⟨2, ![4096, 512]⟩
abbrev S4096x128 : Shape := ⟨2, ![4096, 128]⟩
abbrev S4096x64 : Shape := ⟨2, ![4096, 64]⟩
abbrev S4096x8x64 : Shape := ⟨3, ![4096, 8, 64]⟩
abbrev S4096x4x64 : Shape := ⟨3, ![4096, 4, 64]⟩
abbrev S_ : Shape := ⟨0, ![]⟩
abbrev S4096x4x128 : Shape := ⟨3, ![4096, 4, 128]⟩
abbrev S4096x8x128 : Shape := ⟨3, ![4096, 8, 128]⟩
abbrev S4096x1024 : Shape := ⟨2, ![4096, 1024]⟩
abbrev S8x4096x1 : Shape := ⟨3, ![8, 4096, 1]⟩
abbrev S256x128 : Shape := ⟨2, ![256, 128]⟩
abbrev S256x256 : Shape := ⟨2, ![256, 256]⟩
abbrev S4x256x1 : Shape := ⟨3, ![4, 256, 1]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1x128 : Shape := ⟨2, ![1, 128]⟩

abbrev nBuf : Space → Nat
  | .hbm => 23
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x64, .f32⟩
  | .hbm, ⟨4, _⟩ => ⟨S4096x64, .f32⟩
  | .hbm, ⟨5, _⟩ => ⟨S4096x128, .f32⟩
  | .hbm, ⟨6, _⟩ => ⟨S4096x8x64, .f32⟩
  | .hbm, ⟨7, _⟩ => ⟨S4096x4x64, .f32⟩
  | .hbm, ⟨8, _⟩ => ⟨S_, .f32⟩
  | .hbm, ⟨9, _⟩ => ⟨S4096x4x64, .f32⟩
  | .hbm, ⟨10, _⟩ => ⟨S4096x4x128, .f32⟩
  | .hbm, ⟨11, _⟩ => ⟨S_, .f32⟩
  | .hbm, ⟨12, _⟩ => ⟨S4096x4x64, .f32⟩
  | .hbm, ⟨13, _⟩ => ⟨S4096x4x64, .f32⟩
  | .hbm, ⟨14, _⟩ => ⟨S4096x4x128, .f32⟩
  | .hbm, ⟨15, _⟩ => ⟨S4096x8x128, .f32⟩
  | .hbm, ⟨16, _⟩ => ⟨S4096x1024, .f32⟩
  | .hbm, ⟨17, _⟩ => ⟨S4096x1024, .bf16⟩
  | .hbm, ⟨18, _⟩ => ⟨S4096x128, .bf16⟩
  | .hbm, ⟨19, _⟩ => ⟨S4096x128, .bf16⟩
  | .hbm, ⟨20, _⟩ => ⟨S4096x128, .bf16⟩
  | .hbm, ⟨21, _⟩ => ⟨S4096x512, .f32⟩
  | .hbm, ⟨22, _⟩ => ⟨S8x4096x1, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S256x256, .f32⟩
  | .local _ .vmem, ⟨12, _⟩ => ⟨S256x256, .f32⟩
  | .local _ .vmem, ⟨13, _⟩ => ⟨S4x256x1, .f32⟩
  | .local _ .vmem, ⟨14, _⟩ => ⟨S4x256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnFwdReferenceIdeal.lean ====
abbrev S4096x512 : Shape := ⟨2, ![4096, 512]⟩
abbrev S4096x128 : Shape := ⟨2, ![4096, 128]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S8x4096x1 : Shape := ⟨3, ![8, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x2x4x64, .f32⟩
  | .hbm, ⟨4, _⟩ => ⟨S4096x2x64, .f32⟩
  | .hbm, ⟨5, _⟩ => ⟨S2x4096x4096x4, .f32⟩
  | .hbm, ⟨6, _⟩ => ⟨S2x4x4096x4096, .f32⟩
  | .hbm, ⟨7, _⟩ => ⟨S4096x2x4x64, .f32⟩
  | .hbm, ⟨8, _⟩ => ⟨S4096x2x64, .f32⟩
  | .hbm, ⟨9, _⟩ => ⟨S4096x2x64, .f32⟩
  | .hbm, ⟨10, _⟩ => ⟨S2x4096x4096x4, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x4096, .f32⟩
  | .hbm, ⟨19, _⟩ => ⟨S2x4x4096x4096, .f32⟩
  | .hbm, ⟨20, _⟩ => ⟨S2x4x4096x4096, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x4096, .f32⟩
  | .hbm, ⟨25, _⟩ => ⟨S2x4x4096x4096, .f32⟩
  | .hbm, ⟨26, _⟩ => ⟨S2x64x4x4096, .f32⟩
  | .hbm, ⟨27, _⟩ => ⟨S4096x2x4x64, .f32⟩
  | .hbm, ⟨28, _⟩ => ⟨S4096x512, .f32⟩
  | .hbm, ⟨29, _⟩ => ⟨S2x4x4096x4096, .f32⟩
  | .hbm, ⟨30, _⟩ => ⟨S_, .f32⟩
  | .hbm, ⟨31, _⟩ => ⟨S2x4x4096, .f32⟩
  | .hbm, ⟨32, _⟩ => ⟨S2x4x4096, .f32⟩
  | .hbm, ⟨33, _⟩ => ⟨S8x4096x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== MixOutBwd.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S512x4x256 : Shape := ⟨3, ![512, 4, 256]⟩
abbrev S4x512x256 : Shape := ⟨3, ![4, 512, 256]⟩
abbrev S512x512 : Shape := ⟨2, ![512, 512]⟩
abbrev S512x8x64 : Shape := ⟨3, ![512, 8, 64]⟩
abbrev S_ : Shape := ⟨0, ![]⟩
abbrev S512x4x64 : Shape := ⟨3, ![512, 4, 64]⟩
abbrev S512x4x128 : Shape := ⟨3, ![512, 4, 128]⟩
abbrev S512x8x128 : Shape := ⟨3, ![512, 8, 128]⟩
abbrev S8x8 : Shape := ⟨2, ![8, 8]⟩
abbrev S8x1x8x1 : Shape := ⟨4, ![8, 1, 8, 1]⟩
abbrev S8x64x8x128 : Shape := ⟨4, ![8, 64, 8, 128]⟩
abbrev S512x2048 : Shape := ⟨2, ![512, 2048]⟩
abbrev S1x512x256 : Shape := ⟨3, ![1, 512, 256]⟩
abbrev S512x256 : Shape := ⟨2, ![512, 256]⟩
abbrev S1024x512 : Shape := ⟨2, ![1024, 512]⟩

abbrev nBuf : Space → Nat
  | .hbm => 44
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x2048, .bf16⟩
  | .hbm, ⟨8, _⟩ => ⟨S512x4x256, .f32⟩
  | .hbm, ⟨9, _⟩ => ⟨S4x512x256, .f32⟩
  | .hbm, ⟨10, _⟩ => ⟨S4x512x256, .bf16⟩
  | .hbm, ⟨11, _⟩ => ⟨S512x4x256, .f32⟩
  | .hbm, ⟨12, _⟩ => ⟨S4x512x256, .f32⟩
  | .hbm, ⟨13, _⟩ => ⟨S4x512x256, .bf16⟩
  | .hbm, ⟨14, _⟩ => ⟨S1024x1024, .bf16⟩
  | .hbm, ⟨15, _⟩ => ⟨S512x512, .i32⟩
  | .hbm, ⟨16, _⟩ => ⟨S512x512, .i32⟩
  | .hbm, ⟨17, _⟩ => ⟨S512x512, .i1⟩
  | .hbm, ⟨18, _⟩ => ⟨S512x512, .f32⟩
  | .hbm, ⟨19, _⟩ => ⟨S512x8x64, .f32⟩
  | .hbm, ⟨20, _⟩ => ⟨S_, .f32⟩
  | .hbm, ⟨21, _⟩ => ⟨S512x4x64, .f32⟩
  | .hbm, ⟨22, _⟩ => ⟨S512x4x64, .f32⟩
  | .hbm, ⟨23, _⟩ => ⟨S512x4x128, .f32⟩
  | .hbm, ⟨24, _⟩ => ⟨S512x4x64, .f32⟩
  | .hbm, ⟨25, _⟩ => ⟨S512x4x128, .f32⟩
  | .hbm, ⟨26, _⟩ => ⟨S512x8x128, .f32⟩
  | .hbm, ⟨27, _⟩ => ⟨S512x1024, .f32⟩
  | .hbm, ⟨28, _⟩ => ⟨S512x1024, .bf16⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x1x8x1, .f32⟩
  | .hbm, ⟨34, _⟩ => ⟨S8x64x8x128, .f32⟩
  | .hbm, ⟨35, _⟩ => ⟨S512x1024, .f32⟩
  | .hbm, ⟨36, _⟩ => ⟨S512x1024, .bf16⟩
  | .hbm, ⟨37, _⟩ => ⟨S4096x2048, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4096x1024, .f32⟩
  | .hbm, ⟨43, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S512x512, .f32⟩
  | .local _ .vmem, ⟨28, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev main_v29_4 : Ref sig .tc := ⟨.hbm, 41, rfl⟩
abbrev main_v29_5 : Ref sig .tc := ⟨.hbm, 42, rfl⟩
abbrev main_v29_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixOutBwdReferenceIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩
abbrev S4096x8x64 : Shape := ⟨3, ![4096, 8, 64]⟩
abbrev S4096x4x64 : Shape := ⟨3, ![4096, 4, 64]⟩
abbrev S4096x4x128 : Shape := ⟨3, ![4096, 4, 128]⟩
abbrev S4096x8x128 : Shape := ⟨3, ![4096, 8, 128]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x2048, .bf16⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S4096x512, .f32⟩
  | .hbm, ⟨52, _⟩ => ⟨S4096x8x64, .f32⟩
  | .hbm, ⟨53, _⟩ => ⟨S4096x4x64, .f32⟩
  | .hbm, ⟨54, _⟩ => ⟨S_, .f32⟩
  | .hbm, ⟨55, _⟩ => ⟨S4096x4x64, .f32⟩
  | .hbm, ⟨56, _⟩ => ⟨S4096x4x128, .f32⟩
  | .hbm, ⟨57, _⟩ => ⟨S_, .f32⟩
  | .hbm, ⟨58, _⟩ => ⟨S4096x4x64, .f32⟩
  | .hbm, ⟨59, _⟩ => ⟨S4096x4x64, .f32⟩
  | .hbm, ⟨60, _⟩ => ⟨S4096x4x128, .f32⟩
  | .hbm, ⟨61, _⟩ => ⟨S4096x8x128, .f32⟩
  | .hbm, ⟨62, _⟩ => ⟨S4096x1024, .f32⟩
  | .hbm, ⟨63, _⟩ => ⟨S4096x1024, .bf16⟩
  | .hbm, ⟨64, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.AttnHost.lean ====
module

public import proofs.«01_k».proof.Proof.Gen.KernelIdeal.Frame
public import Idealize.ShloMosaic.Lib.StableHlo.ReadAt
public import Idealize.ShloMosaic.Lib.StableHlo.RunRead
public import Idealize.ShloMosaic.Lib.Claim
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ)

/-! ## The attention's own quantities, at an index -/

/-- The score of query `i` of head `4 g + r` and key `j`. -/
def Sc (Q : Vec Ideal S4096x512 .f32) (K : Vec Ideal S4096x128 .f32) (g : Fin 2) (r : Fin 4) (i j : Fin 4096) : EReal :=
  ∑ d : Fin 64, K (ix2 j ⟨g.val * 64 + d.val, by omega⟩) * Q (ix2 i ⟨g.val * 256 + r.val * 64 + d.val, by omega⟩)
/-- The greatest score of a query, -/
def Mx (Q : Vec Ideal S4096x512 .f32) (K : Vec Ideal S4096x128 .f32) (g : Fin 2) (r : Fin 4) (i : Fin 4096) : EReal :=
  Finset.fold max (Ideal.ofBits FTy.f32 4286578688#32) (fun j => Sc Q K g r i j) Finset.univ
/-- the shifted exponential, -/
def Ex (Q : Vec Ideal S4096x512 .f32) (K : Vec Ideal S4096x128 .f32) (g : Fin 2) (r : Fin 4) (i j : Fin 4096) : EReal :=
  Ideal.exp (Sc Q K g r i j - Mx Q K g r i)
/-- its sum over the keys, -/
def Ls (Q : Vec Ideal S4096x512 .f32) (K : Vec Ideal S4096x128 .f32) (g : Fin 2) (r : Fin 4) (i : Fin 4096) : EReal :=
  ∑ j : Fin 4096, Ex Q K g r i j
/-- the probability, -/
def Pr (Q : Vec Ideal S4096x512 .f32) (K : Vec Ideal S4096x128 .f32) (g : Fin 2) (r : Fin 4) (i j : Fin 4096) : EReal :=
  Ideal.div (Ex Q K g r i j) (Ls Q K g r i)
/-- the gradient of a probability, -/
def Dp (W : Vec Ideal S4096x128 .f32) (D : Vec Ideal S4096x512 .f32) (g : Fin 2) (r : Fin 4) (i j : Fin 4096) : EReal :=
  ∑ d : Fin 64, D (ix2 i ⟨g.val * 256 + r.val * 64 + d.val, by omega⟩) * W (ix2 j ⟨g.val * 64 + d.val, by omega⟩)
/-- and the inner product of the output and its gradient, as the kernel's host code forms it. -/
def Dl (Q : Vec Ideal S4096x512 .f32) (K W : Vec Ideal S4096x128 .f32) (D : Vec Ideal S4096x512 .f32) (g : Fin 2) (r : Fin 4) (i : Fin 4096) : EReal :=
  ∑ d : Fin 64, D (ix2 i ⟨g.val * 256 + r.val * 64 + d.val, by omega⟩)
    * ∑ j : Fin 4096, W (ix2 j ⟨g.val * 64 + d.val, by omega⟩) * Pr Q K g r i j

/-! ## The host code's stages -/

def kS (Q : FVec Ideal S4096x512 .f32) (K : FVec Ideal S4096x128 .f32) : FVec Ideal S2x4x4096x4096 .f32 :=
  transpose S2x4x4096x4096 [0, 3, 2, 1] (Host.dotGeneral dot_S4096x2x64_S4096x2x4x64_S2x4096x4096x4_2_3_0_02_1_1 none
    (shapeCast S4096x2x64 K shapeCasts_S4096x128_S4096x2x64 : FVec Ideal S4096x2x64 .f32) (shapeCast S4096x2x4x64 Q shapeCasts_S4096x512_S4096x2x4x64 : FVec Ideal S4096x2x4x64 .f32))
    transposes_S2x4096x4096x4_S2x4x4096x4096_0_3_2_1
def kM (X : FVec Ideal S2x4x4096x4096 .f32) : FVec Ideal S2x4x4096x1 .f32 :=
  broadcastInDim S2x4x4096x1 ![0, 1, 2] bcast_S2x4x4096_S2x4x4096x1_0_1_2
    (Host.reduce (FloatOps.maximumf (F := Ideal) (φ := FTy.f32)) X (constant (F := Ideal) S_ .f32 0xFF800000#32) reducesTo_S2x4x4096x4096_S2x4x4096_d3 h_S_)
def kE (X : FVec Ideal S2x4x4096x4096 .f32) : FVec Ideal S2x4x4096x4096 .f32 :=
  Host.exp (φ := .f32) (subf (φ := .f32) X (broadcastInDim S2x4x4096x4096 ![0, 1, 2, 3] bcast_S2x4x4096x1_S2x4x4096x4096_0_1_2_3 (kM X)))
def kL (X : FVec Ideal S2x4x4096x4096 .f32) : FVec Ideal S2x4x4096x1 .f32 :=
  broadcastInDim S2x4x4096x1 ![0, 1, 2] bcast_S2x4x4096_S2x4x4096x1_0_1_2
    (Host.reduceAdd (φ := .f32) (kE X) (constant S_ .f32 0x00000000#32) reducesTo_S2x4x4096x4096_S2x4x4096_d3 h_S_)
def kLse (X : FVec Ideal S2x4x4096x4096 .f32) : FVec Ideal S8x4096x1 .f32 :=
  shapeCast S8x4096x1 (addf (φ := .f32) (kM X) (Host.log (φ := .f32) (kL X))) shapeCasts_S2x4x4096x1_S8x4096x1
def kP (X : FVec Ideal S2x4x4096x4096 .f32) : FVec Ideal S2x4x4096x4096 .f32 :=
  Host.divf (φ := .f32) (kE X) (broadcastInDim S2x4x4096x4096 ![0, 1, 2, 3] bcast_S2x4x4096x1_S2x4x4096x4096_0_1_2_3 (kL X))
def kO (P : FVec Ideal S2x4x4096x4096 .f32) (W : FVec Ideal S4096x128 .f32) : FVec Ideal S4096x8x64 .f32 :=
  shapeCast S4096x8x64 (transpose S4096x2x4x64 [3, 0, 2, 1] (Host.dotGeneral dot_S4096x2x64_S2x4x4096x4096_S2x64x4x4096_0_3_2_12_1_0 none
    (shapeCast S4096x2x64 W shapeCasts_S4096x128_S4096x2x64) P) transposes_S2x64x4x4096_S4096x2x4x64_3_0_2_1) shapeCasts_S4096x2x4x64_S4096x8x64
def kDelta (O : FVec Ideal S4096x8x64 .f32) (D : FVec Ideal S4096x512 .f32) : FVec Ideal S4096x1024 .f32 :=
  shapeCast S4096x1024 (broadcastInDim S4096x8x128 ![0, 1, 2] bcast_S4096x8x1_S4096x8x128_0_1_2 (broadcastInDim S4096x8x1 ![0, 1] bcast_S4096x8_S4096x8x1_0_1
    (Host.reduceAdd (φ := .f32) (mulf (φ := .f32) (shapeCast S4096x8x64 D shapeCasts_S4096x512_S4096x8x64) O) (constant S_ .f32 0x00000000#32) reducesTo_S4096x8x64_S4096x8_d2 h_S_)))
    shapeCasts_S4096x8x128_S4096x1024
def kSlots (A : FVec Ideal S4096x512 .f32) : FVec Ideal S4096x1024 .f32 :=
  shapeCast S4096x1024 (concatenate S4096x8x128 1
    [⟨S4096x4x128, concatenate S4096x4x128 2 [⟨S4096x4x64, extractStridedSlice S4096x4x64 ![0, 0, 0] (shapeCast S4096x8x64 A shapeCasts_S4096x512_S4096x8x64) slices_S4096x8x64_S4096x4x64_0_0_0⟩,
        ⟨S4096x4x64, broadcastInDim S4096x4x64 ![] bcast_S_S4096x4x64 (constant (F := Ideal) S_ .f32 0x00000000#32)⟩] concatenates_S4096x4x64_S4096x4x64_S4096x4x128_d2⟩,
     ⟨S4096x4x128, concatenate S4096x4x128 2 [⟨S4096x4x64, broadcastInDim S4096x4x64 ![] bcast_S_S4096x4x64 (constant (F := Ideal) S_ .f32 0x00000000#32)⟩,
        ⟨S4096x4x64, extractStridedSlice S4096x4x64 ![0, 4, 0] (shapeCast S4096x8x64 A shapeCasts_S4096x512_S4096x8x64) slices_S4096x8x64_S4096x4x64_0_4_0⟩] concatenates_S4096x4x64_S4096x4x64_S4096x4x128_d2⟩]
    concatenates_S4096x4x128_S4096x4x128_S4096x8x128_d1) shapeCasts_S4096x8x128_S4096x1024

theorem V14_eq (c : Dev nD) : V m c main_v14 = kLse (kS (m ((c : Thread nD τ).loc main_arg0)) (m ((c : Thread nD τ).loc main_arg1))) := by
  unfold V
  after_reads_simp
  rfl
theorem V25_eq (c : Dev nD) : V m c main_v25 = kDelta (kO (kP (kS (m ((c : Thread nD τ).loc main_arg0)) (m ((c : Thread nD τ).loc main_arg1)))) (m ((c : Thread nD τ).loc main_arg2)))
    (m ((c : Thread nD τ).loc main_arg3)) := by
  unfold V
  after_reads_simp
  rfl
theorem V36_eq (c : Dev nD) : V m c main_v36 = truncf (F := Ideal) (φ := .f32) .bf16 (kSlots (m ((c : Thread nD τ).loc main_arg0))) bitsLt_bf16_f32 := by
  unfold V
  after_reads_simp
  rfl
theorem V48_eq (c : Dev nD) : V m c main_v48 = truncf (F := Ideal) (φ := .f32) .bf16 (kSlots (m ((c : Thread nD τ).loc main_arg3))) bitsLt_bf16_f32 := by
  unfold V
  after_reads_simp
  rfl

theorem kS_at (Q : Vec Ideal S4096x512 .f32) (K : Vec Ideal S4096x128 .f32) (g : Fin 2) (r : Fin 4) (i j : Fin 4096) : kS Q K (ix4 g r i j) = Sc Q K g r i j := by
  unfold Sc; pointwise [kS]
theorem kM_at (X : Vec Ideal S2x4x4096x4096 .f32) (g : Fin 2) (r : Fin 4) (i : Fin 4096) : kM X (ix4 g r i 0)
    = Finset.fold max (Ideal.ofBits FTy.f32 4286578688#32) (fun j => X (ix4 g r i j)) Finset.univ := by
  pointwise [kM]
theorem kE_at (X : Vec Ideal S2x4x4096x4096 .f32) (g : Fin 2) (r : Fin 4) (i j : Fin 4096) : kE X (ix4 g r i j)
    = Ideal.exp (X (ix4 g r i j) - kM X (ix4 g r i 0)) := by
  pointwise [kE]
theorem kL_at (X : Vec Ideal S2x4x4096x4096 .f32) (g : Fin 2) (r : Fin 4) (i : Fin 4096) : kL X (ix4 g r i 0) = ∑ j : Fin 4096, kE X (ix4 g r i j) := by
  pointwise [kL]
/-- Eight heads read as two groups of four. -/
theorem cast8 (X : FVec Ideal S2x4x4096x1 .f32) (h : Fin 8) (i : Fin 4096) : shapeCast S8x4096x1 X shapeCasts_S2x4x4096x1_S8x4096x1 (ix3 h i 0)
    = X (ix4 (⟨h.val / 4, by omega⟩ : Fin 2) (⟨h.val % 4, by omega⟩ : Fin 4) i 0) := by
  pointwise
theorem logAdd (M L : FVec Ideal S2x4x4096x1 .f32) (k : S2x4x4096x1.Idx) : addf (φ := .f32) M (Host.log (φ := .f32) L) k = M k + Ideal.log (L k) := rfl
theorem kLse_at (X : FVec Ideal S2x4x4096x4096 .f32) (h : Fin 8) (i : Fin 4096) : kLse X (ix3 h i 0)
    = kM X (ix4 (⟨h.val / 4, by omega⟩ : Fin 2) (⟨h.val % 4, by omega⟩ : Fin 4) i 0) + Ideal.log (kL X (ix4 (⟨h.val / 4, by omega⟩ : Fin 2) (⟨h.val % 4, by omega⟩ : Fin 4) i 0)) := by
  unfold kLse
  generalize kM X = M
  generalize kL X = L
  rw [cast8, logAdd]
theorem kP_at (X : Vec Ideal S2x4x4096x4096 .f32) (g : Fin 2) (r : Fin 4) (i j : Fin 4096) : kP X (ix4 g r i j)
    = Ideal.div (kE X (ix4 g r i j)) (kL X (ix4 g r i 0)) := by
  pointwise [kP]
theorem kO_at (P : Vec Ideal S2x4x4096x4096 .f32) (W : Vec Ideal S4096x128 .f32) (i : Fin 4096) (h : Fin 8) (d : Fin 64) : kO P W (ix3 i h d)
    = ∑ j : Fin 4096, W (ix2 j (⟨h.val / 4 * 64 + d.val, by omega⟩ : Fin 128)) * P (ix4 (⟨h.val / 4, by omega⟩ : Fin 2) (⟨h.val % 4, by omega⟩ : Fin 4) i j) := by
  pointwise [kO]
theorem kDelta_at (O : Vec Ideal S4096x8x64 .f32) (D : Vec Ideal S4096x512 .f32) (i : Fin 4096) (l : Fin 1024) : kDelta O D (ix2 i l)
    = ∑ d : Fin 64, D (ix2 i (⟨l.val / 128 * 64 + d.val, by omega⟩ : Fin 512)) * O (ix3 i (⟨l.val / 128, by omega⟩ : Fin 8) d) := by
  pointwise [kDelta]
theorem kSlots_at (A : FVec Ideal S4096x512 .f32) (i : Fin 4096) (h : Fin 8) (l : Fin 128) : kSlots A (ix2 i (⟨h.val * 128 + l.val, by omega⟩ : Fin 1024))
    = if h.val / 4 = l.val / 64 then A (ix2 i (⟨h.val * 64 + l.val % 64, by omega⟩ : Fin 512)) else (0 : EReal) := by
  pointwise [kSlots]
  have h8 := h.isLt
  have hl := l.isLt
  by_cases a : h.val < 4
  · rw [dif_pos a]
    by_cases b : l.val < 64
    · rw [dif_pos b]
      exact (congrArg (fun x => A (ix2 i x)) (Fin.ext (show h.val * 64 + l.val = h.val * 64 + l.val % 64 by omega))).trans (if_pos (by omega)).symm
    · rw [dif_neg b]; exact (if_neg (by omega)).symm
  · rw [dif_neg a]
    by_cases b : l.val < 64
    · rw [dif_pos b]; exact (if_neg (by omega)).symm
    · rw [dif_neg b]
      exact (congrArg (fun x => A (ix2 i x)) (Fin.ext (show (4 + (h.val - 4)) * 64 + (l.val - 64) = h.val * 64 + l.val % 64 by omega))).trans (if_pos (by omega)).symm

/-! ## The arrays that the call's windows take, at an index -/

theorem V26_at (c : Dev nD) (s : Fin 4096) (l : Fin 128) : V m c main_v26 (ix2 s l) = m ((c : Thread nD τ).loc main_arg1) (ix2 s l) := by
  unfold V; after_reads_simp; rfl
theorem V38_at (c : Dev nD) (s : Fin 4096) (l : Fin 128) : V m c main_v38 (ix2 s l) = m ((c : Thread nD τ).loc main_arg2) (ix2 s l) := by
  unfold V; after_reads_simp; rfl
theorem V37_at (c : Dev nD) (l : Fin 128) (s : Fin 4096) : V m c main_v37 (ix2 l s) = m ((c : Thread nD τ).loc main_arg1) (ix2 s l) := by
  unfold V; after_reads_at
theorem V36_at (c : Dev nD) (i : Fin 4096) (h : Fin 8) (l : Fin 128) : V m c main_v36 (ix2 i (⟨h.val * 128 + l.val, by omega⟩ : Fin 1024))
    = if h.val / 4 = l.val / 64 then m ((c : Thread nD τ).loc main_arg0) (ix2 i (⟨h.val * 64 + l.val % 64, by omega⟩ : Fin 512)) else (0 : EReal) :=
  (congrFun (V36_eq m c) _).trans (kSlots_at _ i h l)
theorem V48_at (c : Dev nD) (i : Fin 4096) (h : Fin 8) (l : Fin 128) : V m c main_v48 (ix2 i (⟨h.val * 128 + l.val, by omega⟩ : Fin 1024))
    = if h.val / 4 = l.val / 64 then m ((c : Thread nD τ).loc main_arg3) (ix2 i (⟨h.val * 64 + l.val % 64, by omega⟩ : Fin 512)) else (0 : EReal) :=
  (congrFun (V48_eq m c) _).trans (kSlots_at _ i h l)
theorem kMs_at (Q : FVec Ideal S4096x512 .f32) (K : FVec Ideal S4096x128 .f32) (g : Fin 2) (r : Fin 4) (i : Fin 4096) : kM (kS Q K) (ix4 g r i 0) = Mx Q K g r i :=
  (kM_at _ g r i).trans (congrArg (fun f => Finset.fold max _ f Finset.univ) (funext fun j => kS_at Q K g r i j))
theorem kEs_at (Q : FVec Ideal S4096x512 .f32) (K : FVec Ideal S4096x128 .f32) (g : Fin 2) (r : Fin 4) (i j : Fin 4096) : kE (kS Q K) (ix4 g r i j) = Ex Q K g r i j := by
  rw [kE_at, kMs_at, kS_at]; rfl
theorem kLs_at (Q : FVec Ideal S4096x512 .f32) (K : FVec Ideal S4096x128 .f32) (g : Fin 2) (r : Fin 4) (i : Fin 4096) : kL (kS Q K) (ix4 g r i 0) = Ls Q K g r i :=
  (kL_at _ g r i).trans (Finset.sum_congr rfl fun j _ => kEs_at Q K g r i j)
theorem kPs_at (Q : FVec Ideal S4096x512 .f32) (K : FVec Ideal S4096x128 .f32) (g : Fin 2) (r : Fin 4) (i j : Fin 4096) : kP (kS Q K) (ix4 g r i j) = Pr Q K g r i j := by
  rw [kP_at, kEs_at, kLs_at]; rfl
theorem V14_at (c : Dev nD) (g : Fin 2) (r : Fin 4) (i : Fin 4096) : V m c main_v14 (ix3 (⟨g.val * 4 + r.val, by omega⟩ : Fin 8) i 0)
    = Mx (m ((c : Thread nD τ).loc main_arg0)) (m ((c : Thread nD τ).loc main_arg1)) g r i
      + Ideal.log (Ls (m ((c : Thread nD τ).loc main_arg0)) (m ((c : Thread nD τ).loc main_arg1)) g r i) := by
  have e1 : (⟨(g.val * 4 + r.val) / 4, by omega⟩ : Fin 2) = g := Fin.ext (by show (g.val * 4 + r.val) / 4 = g.val; omega)
  have e2 : (⟨(g.val * 4 + r.val) % 4, by omega⟩ : Fin 4) = r := Fin.ext (by show (g.val * 4 + r.val) % 4 = r.val; omega)
  refine (congrFun (V14_eq m c) _).trans ((kLse_at _ _ i).trans ?_)
  rw [e1, e2, kMs_at, kLs_at]
theorem V25_at (c : Dev nD) (g : Fin 2) (r : Fin 4) (i : Fin 4096) (l : Fin 128) : V m c main_v25 (ix2 i (⟨(g.val * 4 + r.val) * 128 + l.val, by omega⟩ : Fin 1024))
    = Dl (m ((c : Thread nD τ).loc main_arg0)) (m ((c : Thread nD τ).loc main_arg1)) (m ((c : Thread nD τ).loc main_arg2)) (m ((c : Thread nD τ).loc main_arg3)) g r i := by
  have e1 : (⟨(g.val * 4 + r.val) / 4, by omega⟩ : Fin 2) = g := Fin.ext (by show (g.val * 4 + r.val) / 4 = g.val; omega)
  have e2 : (⟨(g.val * 4 + r.val) % 4, by omega⟩ : Fin 4) = r := Fin.ext (by show (g.val * 4 + r.val) % 4 = r.val; omega)
  have e3 : (⟨((g.val * 4 + r.val) * 128 + l.val) / 128, by omega⟩ : Fin 8) = ⟨g.val * 4 + r.val, by omega⟩ :=
    Fin.ext (by show ((g.val * 4 + r.val) * 128 + l.val) / 128 = g.val * 4 + r.val; omega)
  refine (congrFun (V25_eq m c) _).trans ((kDelta_at _ _ i _).trans ?_)
  unfold Dl
  refine Finset.sum_congr rfl fun d _ => congrArg₂ (· * ·) (congrArg (fun x => m ((c : Thread nD τ).loc main_arg3) (ix2 i x)) (Fin.ext ?_)) ?_
  · show ((g.val * 4 + r.val) * 128 + l.val) / 128 * 64 + d.val = g.val * 256 + r.val * 64 + d.val
    omega
  · rw [e3, kO_at]
    refine Finset.sum_congr rfl fun j _ => congrArg₂ (· * ·) (congrArg (fun x => m ((c : Thread nD τ).loc main_arg2) (ix2 j x)) (Fin.ext ?_)) ?_
    · show (g.val * 4 + r.val) / 4 * 64 + d.val = g.val * 64 + d.val
      omega
    · rw [e1, e2, kPs_at]
end Cert.Proof.Attn
end
-- ==== Proof.AttnRef.lean ====
module

public import proofs.«01_k».proof.Proof.AttnHost
public import proofs.«01_k».proof.Proof.Gen.ReferenceIdeal.Read

@[expose] public section

set_option maxRecDepth 16384

noncomputable section

namespace Cert.Proof.Attn

open Cert.ReferenceIdeal Cert.ReferenceIdeal.Gen Cert.ReferenceIdeal.Read
open Idealize.ShloMosaic Idealize.ShloMosaic.TcCoe Idealize.SL.Sem

variable (Q : FVec Ideal S4096x512 .f32) (K W : FVec Ideal S4096x128 .f32) (D : FVec Ideal S4096x512 .f32)

/-! ## The reference's stages, at an index -/

theorem r4 (g : Fin 2) (r : Fin 4) (i : Fin 4096) (j : Fin 4096) : val_main_v4 (F := Ideal) Q K (ix4 g r i j) = Sc Q K g r i j := by
  unfold Sc; pointwise [val_main_v4, val_main_v3, val_main_v1, val_main_v0]
theorem r5 (g : Fin 2) (r : Fin 4) (i : Fin 4096) : val_main_v5 (F := Ideal) Q K (ix3 g r i) = Mx Q K g r i := by
  have e : val_main_v5 (F := Ideal) Q K (ix3 g r i) = Finset.fold max (Ideal.ofBits FTy.f32 4286578688#32) (fun j => val_main_v4 (F := Ideal) Q K (ix4 g r i j)) Finset.univ := by
    pointwise [val_main_v5, val_main_cst]
  rw [e]; unfold Mx; exact congrArg (fun f => Finset.fold max _ f Finset.univ) (funext fun j => r4 Q K g r i j)
theorem max_at (A B : FVec Ideal S2x4x4096 .f32) (k : S2x4x4096.Idx) : maximumf (φ := .f32) A B k = max (A k) (B k) := rfl
theorem r11 (g : Fin 2) (r : Fin 4) (i : Fin 4096) : val_main_v11 (F := Ideal) (ix3 g r i) = Ideal.ofBits FTy.f32 4286578688#32 := by
  pointwise [val_main_v11, val_main_cst_1]
theorem r12 (g : Fin 2) (r : Fin 4) (i : Fin 4096) : val_main_v12 (F := Ideal) Q K (ix3 g r i) = max (Ideal.ofBits FTy.f32 4286578688#32) (Mx Q K g r i) := by
  unfold val_main_v12
  rw [max_at, r11, r5]
theorem r25 (g : Fin 2) (r : Fin 4) (i : Fin 4096) (j : Fin 4096) : val_main_v25 (F := Ideal) Q K (ix4 g r i j) = Ideal.exp (Sc Q K g r i j - max (Ideal.ofBits FTy.f32 4286578688#32) (Mx Q K g r i)) := by
  rw [← r12, ← r4]
  unfold val_main_v25 val_main_v24 val_main_v23 val_main_v22
  generalize val_main_v4 (F := Ideal) Q K = X
  generalize val_main_v12 (F := Ideal) Q K = Y
  pointwise
theorem r27 (g : Fin 2) (r : Fin 4) (i : Fin 4096) : val_main_v27 (F := Ideal) Q K (ix4 g r i 0) = ∑ j : Fin 4096, val_main_v25 (F := Ideal) Q K (ix4 g r i j) := by
  pointwise [val_main_v27, val_main_v26, val_main_cst_7]
theorem r29 (g : Fin 2) (r : Fin 4) (i : Fin 4096) (j : Fin 4096) : val_main_v29 (F := Ideal) Q K (ix4 g r i j) = Ideal.div (val_main_v25 (F := Ideal) Q K (ix4 g r i j)) (val_main_v27 (F := Ideal) Q K (ix4 g r i 0)) := by
  pointwise [val_main_v29, val_main_v28]
theorem r32 (g : Fin 2) (r : Fin 4) (i : Fin 4096) : val_main_v32 (F := Ideal) Q K (ix4 g r i 0) = Ideal.div (Ideal.ofBits FTy.f32 1065353216#32) (val_main_v27 (F := Ideal) Q K (ix4 g r i 0) * val_main_v27 (F := Ideal) Q K (ix4 g r i 0)) := by
  pointwise [val_main_v32, val_main_v31, val_main_v30, val_main_cst_8]
theorem r38 (g : Fin 2) (r : Fin 4) (i : Fin 4096) (j : Fin 4096) : val_main_v38 (F := Ideal) W D (ix4 g r i j) = Dp W D g r i j := by
  unfold Dp; pointwise [val_main_v38, val_main_v37, val_main_v36, val_main_v2]
theorem r49 (g : Fin 2) (r : Fin 4) (i : Fin 4096) : val_main_v49 (F := Ideal) Q K W D (ix3 g r i) = -∑ j : Fin 4096, val_main_v38 (F := Ideal) W D (ix4 g r i j) * val_main_v32 (F := Ideal) Q K (ix4 g r i 0) * val_main_v25 (F := Ideal) Q K (ix4 g r i j) := by
  pointwise [val_main_v49, val_main_cst_10, val_main_v46, val_main_v45, val_main_v44, val_main_v43, val_main_v42, val_main_v41, val_main_cst_9]
  exact Fin.sum_univ_one _
theorem r52 (g : Fin 2) (r : Fin 4) (i : Fin 4096) (j : Fin 4096) : val_main_v52 (F := Ideal) Q K W D (ix4 g r i j) = (Ideal.div (val_main_v38 (F := Ideal) W D (ix4 g r i j)) (val_main_v27 (F := Ideal) Q K (ix4 g r i 0)) + val_main_v49 (F := Ideal) Q K W D (ix3 g r i)) * val_main_v25 (F := Ideal) Q K (ix4 g r i j) := by
  pointwise [val_main_v52, val_main_v51, val_main_v50, val_main_v48, val_main_v47]
theorem r61 (l : Fin 512) (i : Fin 4096) : val_main_v61 (F := Ideal) Q K W D (ix2 l i) = ∑ j : Fin 4096, val_main_v52 (F := Ideal) Q K W D (ix4 (⟨l.val / 256, by omega⟩ : Fin 2) (⟨l.val / 64 % 4, by omega⟩ : Fin 4) i j) * K (ix2 j (⟨l.val / 256 * 64 + l.val % 64, by omega⟩ : Fin 128)) := by
  pointwise [val_main_v61, val_main_v60, val_main_v55, val_main_v54, val_main_v53, val_main_v1]
theorem r62 (g : Fin 2) (d : Fin 64) (j : Fin 4096) : val_main_v62 (F := Ideal) Q K W D (ix2 (⟨g.val * 64 + d.val, by omega⟩ : Fin 128) j) = ∑ i : Fin 4096, ∑ r : Fin 4, val_main_v52 (F := Ideal) Q K W D (ix4 g r i j) * Q (ix2 i (⟨g.val * 256 + r.val * 64 + d.val, by omega⟩ : Fin 512)) := by
  pointwise [val_main_v62, val_main_v59, val_main_v57, val_main_v56, val_main_v53, val_main_v0]
theorem r63 (g : Fin 2) (d : Fin 64) (j : Fin 4096) : val_main_v63 (F := Ideal) Q K D (ix2 (⟨g.val * 64 + d.val, by omega⟩ : Fin 128) j) = ∑ r : Fin 4, ∑ i : Fin 4096, D (ix2 i (⟨g.val * 256 + r.val * 64 + d.val, by omega⟩ : Fin 512)) * val_main_v29 (F := Ideal) Q K (ix4 g r i j) := by
  pointwise [val_main_v63, val_main_v58, val_main_v40, val_main_v39, val_main_v37, val_main_v36]
end Cert.Proof.Attn
end
-- ==== Proof.AttnMath.lean ====
module

public import proofs.«01_k».proof.Proof.AttnRef
public import Idealize.ShloMosaic.Lib.IdealHost

@[expose] public section

set_option maxRecDepth 16384

noncomputable section

namespace Cert.Proof.Attn

open Cert.KernelIdeal Cert.KernelIdeal.Gen
open Idealize.ShloMosaic Idealize.ShloMosaic.TcCoe Idealize.SL.Sem

/-! ## Sums and maxima of reals among the extended reals -/

theorem coe_sum' {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The word of −∞. -/
theorem negInf : Ideal.ofBits FTy.f32 4286578688#32 = ⊥ := by simp [Ideal.ofBits, Ideal.ieee]

theorem fold_real (s : Fin 4096 → ℝ) : ∃ m : ℝ, Finset.fold max (⊥ : EReal) (fun j => (s j : EReal)) Finset.univ = (m : EReal) := by
  have h1 : Finset.fold max (⊥ : EReal) (fun j => (s j : EReal)) Finset.univ ≠ ⊥ := by
    intro h
    have := (Finset.fold_max_le (b := (⊥ : EReal)) (f := fun j => (s j : EReal)) (s := Finset.univ) ⊥).mp (le_of_eq h)
    exact absurd (le_bot_iff.mp (this.2 0 (Finset.mem_univ _))) (EReal.coe_ne_bot _)
  have h2 : Finset.fold max (⊥ : EReal) (fun j => (s j : EReal)) Finset.univ ≠ ⊤ := by
    apply ne_of_lt
    rw [Finset.fold_max_lt]
    exact ⟨bot_lt_top, fun x _ => EReal.coe_lt_top _⟩
  exact ⟨_, (EReal.coe_toReal h2 h1).symm⟩

theorem fold_const {n : ℕ} (c : EReal) : Finset.fold max (⊥ : EReal) (fun _ : Fin (n + 1) => c) Finset.univ = c := by
  apply le_antisymm
  · rw [Finset.fold_max_le]; exact ⟨bot_le, fun _ _ => le_refl _⟩
  · rw [Finset.le_fold_max]; exact Or.inr ⟨0, Finset.mem_univ _, le_refl _⟩

theorem div_real (a b : ℝ) (h : b ≠ 0) : Ideal.div (a : EReal) (b : EReal) = ((a / b : ℝ) : EReal) := by
  rw [Ideal.div_coe h, ← EReal.coe_mul]; congr 1; ring

/-! ## The attention's quantities over reals -/

/-- An array whose entries are reals. -/
def Reals {s : Shape} (X : s.Idx → EReal) : Prop := ∀ k, ∃ r : ℝ, X k = (r : EReal)

variable {Q : FVec Ideal S4096x512 .f32} {K W : FVec Ideal S4096x128 .f32} {D : FVec Ideal S4096x512 .f32}
  (hQ : Reals Q) (hK : Reals K) (hW : Reals W) (hD : Reals D) (g : Fin 2) (r : Fin 4) (i j : Fin 4096)

include hQ hK in
theorem Sc_real : ∃ s : Fin 4096 → ℝ, ∀ j, Sc Q K g r i j = (s j : EReal) := by
  choose q hq using hQ
  choose k hk using hK
  refine ⟨fun j => ∑ d : Fin 64, k (ix2 j ⟨g.val * 64 + d.val, by omega⟩) * q (ix2 i ⟨g.val * 256 + r.val * 64 + d.val, by omega⟩), fun j => ?_⟩
  rw [coe_sum']
  unfold Sc
  exact Finset.sum_congr rfl fun d _ => by rw [hq, hk, EReal.coe_mul]

include hQ hK in
/-- One query row of the softmax: the shifted exponentials are positive reals, the probabilities their quotients by the sum. -/
theorem soft_real : ∃ (s : Fin 4096 → ℝ) (m : ℝ), (∀ j, Sc Q K g r i j = (s j : EReal)) ∧ Mx Q K g r i = (m : EReal)
    ∧ (∀ j, Ex Q K g r i j = ((Real.exp (s j - m) : ℝ) : EReal)) ∧ Ls Q K g r i = ((∑ j, Real.exp (s j - m) : ℝ) : EReal)
    ∧ 0 < ∑ j, Real.exp (s j - m) ∧ (∀ j, Pr Q K g r i j = ((Real.exp (s j - m) / ∑ j, Real.exp (s j - m) : ℝ) : EReal)) := by
  obtain ⟨s, hs⟩ := Sc_real hQ hK g r i
  obtain ⟨m, hm⟩ := fold_real s
  have hM : Mx Q K g r i = (m : EReal) := by
    unfold Mx; rw [negInf, ← hm]; exact congrArg (fun f => Finset.fold max _ f Finset.univ) (funext hs)
  have hE : ∀ j, Ex Q K g r i j = ((Real.exp (s j - m) : ℝ) : EReal) := fun j => by
    unfold Ex; rw [hs, hM, ← EReal.coe_sub, Ideal.exp_coe]
  have hL : Ls Q K g r i = ((∑ j, Real.exp (s j - m) : ℝ) : EReal) := by
    unfold Ls; rw [coe_sum']; exact Finset.sum_congr rfl fun j _ => hE j
  have hpos : 0 < ∑ j : Fin 4096, Real.exp (s j - m) := Finset.sum_pos (fun j _ => Real.exp_pos _) ⟨0, Finset.mem_univ _⟩
  exact ⟨s, m, hs, hM, hE, hL, hpos, fun j => by unfold Pr; rw [hE, hL, div_real _ _ hpos.ne']⟩

include hQ hK in
/-- The kernel's probability, from the saved logarithm of the sum, is the quotient. -/
theorem prob_eq : Ideal.exp (Sc Q K g r i j - (Mx Q K g r i + Ideal.log (Ls Q K g r i))) = Pr Q K g r i j := by
  obtain ⟨s, m, hs, hM, hE, hL, hpos, hP⟩ := soft_real hQ hK g r i
  rw [hs, hM, hL, hP, Ideal.log_coe, if_neg (not_le.mpr hpos), ← EReal.coe_add, ← EReal.coe_sub, Ideal.exp_coe]
  congr 1
  rw [← sub_sub, Real.exp_sub, Real.exp_log hpos]

include hQ hK in
theorem r25_ex : Cert.ReferenceIdeal.Read.val_main_v25 (F := Ideal) Q K (ix4 g r i j) = Ex Q K g r i j := by
  rw [r25, negInf]; unfold Ex; rw [max_eq_right bot_le]
include hQ hK in
theorem r27_ls : Cert.ReferenceIdeal.Read.val_main_v27 (F := Ideal) Q K (ix4 g r i 0) = Ls Q K g r i := by
  rw [r27]; unfold Ls; exact Finset.sum_congr rfl fun j _ => r25_ex hQ hK g r i j
include hQ hK in
/-- The reference's probability. -/
theorem r29_pr : Cert.ReferenceIdeal.Read.val_main_v29 (F := Ideal) Q K (ix4 g r i j) = Pr Q K g r i j := by
  rw [r29, r25_ex hQ hK, r27_ls hQ hK]; rfl

include hQ hK hW hD in
/-- The kernel's score gradient is the reference's. -/
theorem ds_eq : Pr Q K g r i j * (Dp W D g r i j - Dl Q K W D g r i) = Cert.ReferenceIdeal.Read.val_main_v52 (F := Ideal) Q K W D (ix4 g r i j) := by
  obtain ⟨s, m, hs, hM, hE, hL, hpos, hP⟩ := soft_real hQ hK g r i
  choose w hw using hW
  choose d hd using hD
  have hDp : ∀ j, Dp W D g r i j = ((∑ x : Fin 64, d (ix2 i ⟨g.val * 256 + r.val * 64 + x.val, by omega⟩) * w (ix2 j ⟨g.val * 64 + x.val, by omega⟩) : ℝ) : EReal) := fun j => by
    rw [coe_sum']; unfold Dp
    exact Finset.sum_congr rfl fun x _ => by rw [hw, hd, EReal.coe_mul]
  have hDl : Dl Q K W D g r i = ((∑ x : Fin 64, d (ix2 i ⟨g.val * 256 + r.val * 64 + x.val, by omega⟩) * ∑ j : Fin 4096, w (ix2 j ⟨g.val * 64 + x.val, by omega⟩)
      * (Real.exp (s j - m) / ∑ j, Real.exp (s j - m)) : ℝ) : EReal) := by
    rw [coe_sum']; unfold Dl
    refine Finset.sum_congr rfl fun x _ => ?_
    rw [EReal.coe_mul, coe_sum', hd]
    exact congrArg _ (Finset.sum_congr rfl fun j _ => by rw [hP, hw, EReal.coe_mul])
  rw [r52, r49, r32, r38, r27_ls hQ hK, r25_ex hQ hK, Ideal.ofBits_one_f32]
  have hsum : (∑ j : Fin 4096, Cert.ReferenceIdeal.Read.val_main_v38 (F := Ideal) W D (ix4 g r i j) * Ideal.div 1 (Ls Q K g r i * Ls Q K g r i)
        * Cert.ReferenceIdeal.Read.val_main_v25 (F := Ideal) Q K (ix4 g r i j))
      = ((∑ j : Fin 4096, (∑ x : Fin 64, d (ix2 i ⟨g.val * 256 + r.val * 64 + x.val, by omega⟩) * w (ix2 j ⟨g.val * 64 + x.val, by omega⟩))
          * (1 / ((∑ j, Real.exp (s j - m)) * ∑ j, Real.exp (s j - m))) * Real.exp (s j - m) : ℝ) : EReal) := by
    rw [coe_sum']
    refine Finset.sum_congr rfl fun j _ => ?_
    rw [r38, r25_ex hQ hK, hDp, hE, hL, ← EReal.coe_mul, ← EReal.coe_one, div_real _ _ (mul_pos hpos hpos).ne', ← EReal.coe_mul, ← EReal.coe_mul]
  rw [hsum, hDp, hDl, hE, hL, hP, div_real _ _ hpos.ne', ← EReal.coe_sub, ← EReal.coe_mul, ← EReal.coe_neg, ← EReal.coe_add, ← EReal.coe_mul]
  congr 1
  have hswap : (∑ x : Fin 64, d (ix2 i ⟨g.val * 256 + r.val * 64 + x.val, by omega⟩) * ∑ j : Fin 4096, w (ix2 j ⟨g.val * 64 + x.val, by omega⟩)
        * (Real.exp (s j - m) / ∑ j, Real.exp (s j - m)))
      = (∑ j : Fin 4096, (∑ x : Fin 64, d (ix2 i ⟨g.val * 256 + r.val * 64 + x.val, by omega⟩) * w (ix2 j ⟨g.val * 64 + x.val, by omega⟩))
          * (1 / ((∑ j, Real.exp (s j - m)) * ∑ j, Real.exp (s j - m))) * Real.exp (s j - m)) * ∑ j, Real.exp (s j - m) := by
    generalize (∑ j, Real.exp (s j - m)) = l at hpos
    simp only [Finset.mul_sum, Finset.sum_mul]
    rw [Finset.sum_comm]
    refine Finset.sum_congr rfl fun j _ => Finset.sum_congr rfl fun x _ => ?_
    field_simp
  rw [hswap]
  generalize (∑ j, Real.exp (s j - m)) = l at hpos
  field_simp
  try ring

/-! ## The 128-lane products of zero-padded slots -/

/-- A row of a head's slot times a row of the keys over 128 lanes is the product over the head's own 64. -/
theorem slot_sum (h : ℕ) (hh : h < 2) (f : Fin 64 → EReal) (y : Fin 128 → EReal) :
    ∑ l : Fin 128, (if h = l.val / 64 then f ⟨l.val % 64, Nat.mod_lt _ (by omega)⟩ else (0 : EReal)) * y l
      = ∑ d : Fin 64, f d * y ⟨h * 64 + d.val, by omega⟩ := by
  rw [← (finProdFinEquiv (m := 2) (n := 64)).sum_comp, Fintype.sum_prod_type, Finset.sum_eq_single (⟨h, hh⟩ : Fin 2)]
  · refine Finset.sum_congr rfl fun d _ => ?_
    have e : ((finProdFinEquiv ((⟨h, hh⟩ : Fin 2), d)) : Fin 128) = ⟨h * 64 + d.val, by omega⟩ := Fin.ext (by
      show d.val + 64 * h = h * 64 + d.val; omega)
    rw [e, if_pos (by show h = (h * 64 + d.val) / 64; omega)]
    exact congrArg (f · * _) (Fin.ext (by show (h * 64 + d.val) % 64 = d.val; omega))
  · intro b _ hb
    refine Finset.sum_eq_zero fun d _ => ?_
    rw [if_neg (fun e => hb (Fin.ext ?_)), zero_mul]
    have e' : h = (d.val + 64 * b.val) / 64 := e
    show b.val = h
    omega
  · intro hn; exact absurd (Finset.mem_univ _) hn

end Cert.Proof.Attn
end
-- ==== Proof.AttnPre.lean ====
module

public import proofs.«01_k».proof.Proof.AttnMath
public import proofs.«01_k».proof.Pre_finite
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe Idealize.SL.Sem

/-! ## What the precondition says: every entry of the four arguments is a real number -/

/-- The shape facts the precondition states. -/
theorem pre_facts : Cert.Pre_finite.Facts where
  bcast_S_S4096x512 := by decide
  bcast_S_S4096x128 := by decide
  concatenates_S4096x512_S4096x512_S4096x128_S4096x128_S4096x1280_d1 := by decide

/-- A number whose magnitude is below positive infinity is a real number. -/
theorem real_of_lt (x : EReal) (h : Ideal.cmp .olt (max x (-x)) (Ideal.ofBits FTy.f32 0x7F800000#32) = 1#1) : ∃ r : ℝ, x = (r : EReal) := by
  have e : Ideal.ofBits FTy.f32 0x7F800000#32 = ⊤ := by simp [Ideal.ofBits, Ideal.ieee]
  rw [e] at h
  have h' : max x (-x) < ⊤ := by
    by_contra hn
    rw [show Ideal.cmp .olt (max x (-x)) ⊤ = BitVec.ofBool (decide (max x (-x) < ⊤)) from rfl, decide_eq_false hn] at h
    exact absurd h (by decide)
  rw [max_lt_iff] at h'
  refine ⟨x.toReal, (EReal.coe_toReal (ne_of_lt h'.1) fun hb => ?_).symm⟩
  rw [hb] at h'
  exact absurd h'.2 (by simp)

section
variable (x0 x1 : IVec S4096x512 1) (x2 x3 : IVec S4096x128 1) (hc : Shape.Concatenates [S4096x512, S4096x512, S4096x128, S4096x128] Cert.Pre_finite.S4096x1280 1)
theorem cat_0 (k : S4096x512.Idx) : concatenate Cert.Pre_finite.S4096x1280 1 [⟨S4096x512, x0⟩, ⟨S4096x512, x1⟩, ⟨S4096x128, x2⟩, ⟨S4096x128, x3⟩] hc (ix2 (k 0) (⟨0 + (k 1).val, by have : (k 1).val < 512 := (k 1).isLt; omega⟩ : Fin 1280)) = x0 k :=
  concatenate_apply_piece (t := Cert.Pre_finite.S4096x1280) 1 [⟨S4096x512, x0⟩, ⟨S4096x512, x1⟩, ⟨S4096x128, x2⟩, ⟨S4096x128, x3⟩] hc _ 0 (by simp) S4096x512 x0 rfl rfl 0 rfl k
    (fun b hb => by match b, hb with | ⟨0, _⟩, _ => rfl | ⟨1, _⟩, hb => exact absurd rfl hb) rfl
theorem cat_1 (k : S4096x512.Idx) : concatenate Cert.Pre_finite.S4096x1280 1 [⟨S4096x512, x0⟩, ⟨S4096x512, x1⟩, ⟨S4096x128, x2⟩, ⟨S4096x128, x3⟩] hc (ix2 (k 0) (⟨512 + (k 1).val, by have : (k 1).val < 512 := (k 1).isLt; omega⟩ : Fin 1280)) = x1 k :=
  concatenate_apply_piece (t := Cert.Pre_finite.S4096x1280) 1 [⟨S4096x512, x0⟩, ⟨S4096x512, x1⟩, ⟨S4096x128, x2⟩, ⟨S4096x128, x3⟩] hc _ 1 (by simp) S4096x512 x1 rfl rfl 512 rfl k
    (fun b hb => by match b, hb with | ⟨0, _⟩, _ => rfl | ⟨1, _⟩, hb => exact absurd rfl hb) rfl
theorem cat_2 (k : S4096x128.Idx) : concatenate Cert.Pre_finite.S4096x1280 1 [⟨S4096x512, x0⟩, ⟨S4096x512, x1⟩, ⟨S4096x128, x2⟩, ⟨S4096x128, x3⟩] hc (ix2 (k 0) (⟨1024 + (k 1).val, by have : (k 1).val < 128 := (k 1).isLt; omega⟩ : Fin 1280)) = x2 k :=
  concatenate_apply_piece (t := Cert.Pre_finite.S4096x1280) 1 [⟨S4096x512, x0⟩, ⟨S4096x512, x1⟩, ⟨S4096x128, x2⟩, ⟨S4096x128, x3⟩] hc _ 2 (by simp) S4096x128 x2 rfl rfl 1024 rfl k
    (fun b hb => by match b, hb with | ⟨0, _⟩, _ => rfl | ⟨1, _⟩, hb => exact absurd rfl hb) rfl
theorem cat_3 (k : S4096x128.Idx) : concatenate Cert.Pre_finite.S4096x1280 1 [⟨S4096x512, x0⟩, ⟨S4096x512, x1⟩, ⟨S4096x128, x2⟩, ⟨S4096x128, x3⟩] hc (ix2 (k 0) (⟨1152 + (k 1).val, by have : (k 1).val < 128 := (k 1).isLt; omega⟩ : Fin 1280)) = x3 k :=
  concatenate_apply_piece (t := Cert.Pre_finite.S4096x1280) 1 [⟨S4096x512, x0⟩, ⟨S4096x512, x1⟩, ⟨S4096x128, x2⟩, ⟨S4096x128, x3⟩] hc _ 3 (by simp) S4096x128 x3 rfl rfl 1152 rfl k
    (fun b hb => by match b, hb with | ⟨0, _⟩, _ => rfl | ⟨1, _⟩, hb => exact absurd rfl hb) rfl
end

section
variable [hF : Cert.Pre_finite.Facts]

theorem cmp_reals {s : Shape} (X : FVec Ideal s .f32) (hb : Cert.Pre_finite.S_.BroadcastsInDim s (![] : Fin 0 → Fin s.rank)) (k : s.Idx)
    (h : cmpf .olt (Host.absf X) (broadcastInDim s ![] hb (constant Cert.Pre_finite.S_ .f32 0x7F800000#32 : FVec Ideal Cert.Pre_finite.S_ .f32)) k = 1#1) : ∃ r : ℝ, X k = (r : EReal) :=
  real_of_lt (X k) h

/-- The precondition, decoded. -/
theorem reals_of (Q : FVec Ideal S4096x512 .f32) (K W : FVec Ideal S4096x128 .f32) (D : FVec Ideal S4096x512 .f32)
    (h : Cert.Pre_finite.fn (F := Ideal) Q K W D = fun _ => 1#1) : Reals Q ∧ Reals K ∧ Reals W ∧ Reals D := by
  unfold Cert.Pre_finite.fn at h
  refine ⟨fun k => ?_, fun k => ?_, fun k => ?_, fun k => ?_⟩
  · refine cmp_reals Q hF.bcast_S_S4096x512 k (Eq.trans (Eq.symm ?_) (congrFun h (ix2 (k 0) (⟨0 + (k 1).val, by have : (k 1).val < 512 := (k 1).isLt; omega⟩ : Fin 1280))))
    exact cat_0 _ _ _ _ _ k
  · refine cmp_reals K hF.bcast_S_S4096x128 k (Eq.trans (Eq.symm ?_) (congrFun h (ix2 (k 0) (⟨1024 + (k 1).val, by have : (k 1).val < 128 := (k 1).isLt; omega⟩ : Fin 1280))))
    exact cat_2 _ _ _ _ _ k
  · refine cmp_reals W hF.bcast_S_S4096x128 k (Eq.trans (Eq.symm ?_) (congrFun h (ix2 (k 0) (⟨1152 + (k 1).val, by have : (k 1).val < 128 := (k 1).isLt; omega⟩ : Fin 1280))))
    exact cat_3 _ _ _ _ _ k
  · refine cmp_reals D hF.bcast_S_S4096x512 k (Eq.trans (Eq.symm ?_) (congrFun h (ix2 (k 0) (⟨512 + (k 1).val, by have : (k 1).val < 512 := (k 1).isLt; omega⟩ : Fin 1280))))
    exact cat_1 _ _ _ _ _ k
end

end Cert.Proof.Attn
end
-- ==== Proof.FfnSpec.lean ====
module

public import proofs.«01_k».proof.Proof.AttnPre

@[expose] public section

set_option maxRecDepth 16384

noncomputable section

namespace Cert.Proof.Ffn

open Cert.Proof.Attn (coe_sum' div_real)
open Idealize.ShloMosaic Idealize.ShloMosaic.TcCoe Idealize.SL.Sem

/-! # The feed-forward block and its gradients over the reals -/

/-- The scale's small number that guards the root, as the program's word names it. -/
def eps : ℝ := 8796093 * (2 : ℝ) ^ (-43 : ℤ)
theorem eps_pos : 0 < eps := by unfold eps; positivity
theorem ofBits_eps : Ideal.ofBits .f32 0x358637BD#32 = (eps : EReal) := by
  unfold eps; simp [Ideal.ofBits, Ideal.ieee, -EReal.coe_mul]
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_1024 : Ideal.ofBits .f32 0x44800000#32 = ((1024 : ℝ) : EReal) := by
  simp [Ideal.ofBits, Ideal.ieee, -EReal.coe_mul]; norm_num

/-- A sum of products of reals is a real. -/
theorem sum_mul_coe {ι : Type} [Fintype ι] {f g : ι → EReal} {a b : ι → ℝ} (hf : ∀ k, f k = (a k : EReal)) (hg : ∀ k, g k = (b k : EReal)) :
    ∑ k, f k * g k = ((∑ k, a k * b k : ℝ) : EReal) := by
  rw [coe_sum']; exact Finset.sum_congr rfl fun k _ => by rw [hf, hg, EReal.coe_mul]
theorem sum_coe {ι : Type} [Fintype ι] {f : ι → EReal} {a : ι → ℝ} (hf : ∀ k, f k = (a k : EReal)) :
    ∑ k, f k = ((∑ k, a k : ℝ) : EReal) := by
  rw [coe_sum']; exact Finset.sum_congr rfl fun k _ => hf k

/-- Column `k` of shard `s`. -/
def col (s : Fin 4) (k : Fin 704) : Fin 2816 := ⟨s.val * 704 + k.val, by omega⟩
/-- The block's arguments and the gradient of its result, as reals. -/
structure Args where
  x : Fin 4096 → Fin 1024 → ℝ
  g : Fin 1024 → ℝ
  wg : Fin 1024 → Fin 2816 → ℝ
  wu : Fin 1024 → Fin 2816 → ℝ
  wd : Fin 2816 → Fin 1024 → ℝ
  dy : Fin 4096 → Fin 1024 → ℝ

namespace Args
variable (A : Args) (t : Fin 4096) (d : Fin 1024) (n : Fin 2816)
/-- A row's mean square, guarded, -/
def v : ℝ := (∑ d, A.x t d * A.x t d) / 1024 + eps
/-- the reciprocal of its root, -/
def r : ℝ := (Real.sqrt (A.v t))⁻¹
/-- the normalized row, -/
def h : ℝ := A.x t d * A.r t * A.g d
/-- the gate's and the up product, -/
def a : ℝ := ∑ d, A.h t d * A.wg d n
def u : ℝ := ∑ d, A.h t d * A.wu d n
/-- the gate's logistic function, its activation and the activation's derivative, -/
def sg : ℝ := (1 + Real.exp (-A.a t n))⁻¹
def s : ℝ := A.a t n * A.sg t n
def ds : ℝ := A.sg t n * (1 + A.a t n * (1 - A.sg t n))
/-- the hidden product, -/
def f : ℝ := A.s t n * A.u t n
/-- the block's result, -/
def xo : ℝ := A.x t d + 1 / 2 * ∑ n, A.f t n * A.wd n d
/-- half the incoming gradient, -/
def hdy : ℝ := 1 / 2 * A.dy t d
/-- the gradient of the hidden product, of the gate's and of the up product, -/
def df : ℝ := ∑ d, A.hdy t d * A.wd n d
def da : ℝ := A.df t n * A.u t n * A.ds t n
def db : ℝ := A.df t n * A.s t n
/-- of the normalized row, -/
def dh : ℝ := ∑ n, (A.da t n * A.wg d n + A.db t n * A.wu d n)
/-- of the scale, -/
def dg : ℝ := ∑ t, A.dh t d * A.x t d * A.r t
/-- of the row, -/
def dx : ℝ := A.dy t d + A.r t * (A.dh t d * A.g d) - A.x t d * (A.r t * A.r t * A.r t) * ((∑ d, A.dh t d * A.g d * A.x t d) / 1024)
/-- and of the three weights. -/
def dwg : ℝ := ∑ t, A.da t n * A.h t d
def dwu : ℝ := ∑ t, A.db t n * A.h t d
def dwd : ℝ := ∑ t, A.f t n * A.hdy t d

theorem v_pos : 0 < A.v t := add_pos_of_nonneg_of_pos (div_nonneg (Finset.sum_nonneg fun d _ => mul_self_nonneg _) (by norm_num)) eps_pos
theorem rsqrt_v : Ideal.rsqrt (A.v t : EReal) = (A.r t : EReal) := by
  rw [Ideal.rsqrt_coe, if_neg (not_lt.mpr (A.v_pos t).le), if_neg (A.v_pos t).ne']; rfl
theorem r_sq : A.r t * A.r t = 1 / A.v t := by
  unfold r; rw [← mul_inv, Real.mul_self_sqrt (A.v_pos t).le, one_div]
theorem sg_den : 1 + Real.exp (-A.a t n) ≠ 0 := (add_pos one_pos (Real.exp_pos _)).ne'
end Args

/-! ## Tiles of rows and shards of columns -/

/-- Shard `s`; row `q` of the `j`th tile of 1024 rows; of the `j`th of 512. -/
def shN (s : ℕ) : Fin 4 := ⟨s % 4, Nat.mod_lt _ (by omega)⟩
def rowN (j : ℕ) (q : Fin 1024) : Fin 4096 := ⟨1024 * (j % 4) + q.val, by omega⟩
def rowH (j : ℕ) (q : Fin 512) : Fin 4096 := ⟨512 * (j % 8) + q.val, by omega⟩

theorem sum_col (F : Fin 2816 → ℝ) : ∑ s ∈ Finset.range 4, ∑ k : Fin 704, F (col (shN s) k) = ∑ n, F n := by
  rw [Finset.sum_range, ← (finProdFinEquiv (m := 4) (n := 704)).sum_comp, Fintype.sum_prod_type]
  refine Finset.sum_congr rfl fun s _ => Finset.sum_congr rfl fun k _ => congrArg F (Fin.ext ?_)
  show s.val % 4 * 704 + k.val = k.val + 704 * s.val; omega
theorem sum_rowN (F : Fin 4096 → ℝ) : ∑ j ∈ Finset.range 4, ∑ q : Fin 1024, F (rowN j q) = ∑ t, F t := by
  rw [Finset.sum_range, ← (finProdFinEquiv (m := 4) (n := 1024)).sum_comp, Fintype.sum_prod_type]
  refine Finset.sum_congr rfl fun s _ => Finset.sum_congr rfl fun k _ => congrArg F (Fin.ext ?_)
  show 1024 * (s.val % 4) + k.val = k.val + 1024 * s.val; omega
theorem sum_rowH (F : Fin 4096 → ℝ) : ∑ j ∈ Finset.range 8, ∑ q : Fin 512, F (rowH j q) = ∑ t, F t := by
  rw [Finset.sum_range, ← (finProdFinEquiv (m := 8) (n := 512)).sum_comp, Fintype.sum_prod_type]
  refine Finset.sum_congr rfl fun s _ => Finset.sum_congr rfl fun k _ => congrArg F (Fin.ext ?_)
  show 512 * (s.val % 8) + k.val = k.val + 512 * s.val; omega

/-- A running value that starts afresh at each fourth point and otherwise grows holds its tile's sum so far. -/
theorem tile_sum (N : ℕ) (X : ℕ → ℕ → EReal) (φ : ℕ → ℕ → ℝ)
    (h0 : ∀ n, n < N → n % 4 = 0 → X (n / 4) (n + 1) = ((φ (n / 4) 0 : ℝ) : EReal))
    (hs : ∀ n, n < N → n % 4 ≠ 0 → ∀ y : ℝ, X (n / 4) n = (y : EReal) → X (n / 4) (n + 1) = ((y + φ (n / 4) (n % 4) : ℝ) : EReal)) :
    ∀ n, n < N → X (n / 4) (n + 1) = ((∑ s ∈ Finset.range (n % 4 + 1), φ (n / 4) s : ℝ) : EReal) := by
  intro n
  induction n with
  | zero => intro h; rw [h0 0 h rfl]; simp
  | succ n ih =>
    intro h
    by_cases hz : (n + 1) % 4 = 0
    · rw [h0 _ h hz, hz]; simp
    · have e1 : (n + 1) / 4 = n / 4 := by omega
      have e2 : (n + 1) % 4 = n % 4 + 1 := by omega
      have := hs (n + 1) h hz _ (by rw [e1]; exact ih (by omega))
      rw [this, Finset.sum_range_succ _ ((n + 1) % 4), e1, e2]
/-- A value set at each fourth point and otherwise kept is its tile's. -/
theorem tile_keep (N : ℕ) (P : ℕ → ℕ → Prop) (h0 : ∀ n, n < N → n % 4 = 0 → P (n / 4) (n + 1)) (hs : ∀ n, n < N → n % 4 ≠ 0 → P (n / 4) n → P (n / 4) (n + 1)) :
    ∀ n, n < N → P (n / 4) (n + 1) := by
  intro n
  induction n with
  | zero => intro h; exact h0 0 h rfl
  | succ n ih =>
    intro h
    by_cases hz : (n + 1) % 4 = 0
    · exact h0 _ h hz
    · have e1 : (n + 1) / 4 = n / 4 := by omega
      exact hs _ h hz (by rw [e1]; exact ih (by omega))

end Cert.Proof.Ffn
end
-- ==== Proof.FfnFwdRun.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The forward call's kernel body at a grid point

One grid point is a tile of 1024 rows and a shard of 704 hidden columns. At the first shard the body normalizes the
rows and zeroes the running sum; at every shard it forms the gate and the up products in four blocks of 256 rows and
adds their share to the sum; at the last shard it adds half the sum to the rows. -/

/-- A block of 256 rows starting at row `r` is inside a tile. -/
theorem rows_inb (r : ℕ) (h : r + 256 ≤ 1024) : ∀ a, (![r, 0] : Fin 2 → ℕ) a + S256x1024.size a ≤ S1024x1024.size a := by
  intro a; fin_cases a
  · exact h
  · exact le_refl 1024

/-- Rows `r` to `r + 255` of a tile. -/
def rowsAt {e : EltTy} (r : ℕ) (h : r + 256 ≤ 1024) (X : Vec F S1024x1024 e) : Vec F S256x1024 e :=
  View.ld X (Rect.unit (s := S1024x1024) ![r, 0] S256x1024.size (rows_inb r h))

/-- Four blocks of 256 rows stored over a tile. -/
def put4 {e : EltTy} (X : Vec F S1024x1024 e) (p0 p1 p2 p3 : Vec F S256x1024 e) : Vec F S1024x1024 e :=
  VecWindow.put (VecWindow.put (VecWindow.put (VecWindow.put X ![0, 0] S256x1024.size p0) ![256, 0] S256x1024.size p1) ![512, 0] S256x1024.size p2) ![768, 0] S256x1024.size p3

/-- Four blocks of 256 rows stored over a block of hidden columns. -/
def put4h {e : EltTy} (X : Vec F S1x1024x704 e) (p0 p1 p2 p3 : Vec F S1x256x704 e) : Vec F S1x1024x704 e :=
  VecWindow.put (VecWindow.put (VecWindow.put (VecWindow.put X ![0, 0, 0] S1x256x704.size p0) ![0, 256, 0] S1x256x704.size p1) ![0, 512, 0] S1x256x704.size p2) ![0, 768, 0] S1x256x704.size p3

/-- The first shard of a tile. -/
abbrev fwdFirst (i : grid0.Coords) : Prop := k0_cond1 i = 1#1

open Classical in
/-- The normalized rows kept through a tile's shards. -/
def hsStep (i : grid0.Coords) (x : Vec F S1024x1024 .f32) (g : Vec F S1x1024 .f32) (X : Vec F S1024x1024 .bf16) : Vec F S1024x1024 .bf16 :=
  if fwdFirst i then k0_pay3 x g else X

open Classical in
/-- The normalized rows written out, at the first shard. -/
def hbOut (i : grid0.Coords) (x : Vec F S1024x1024 .f32) (g : Vec F S1x1024 .f32) (X : Vec F S1024x1024 .bf16) : Vec F S1024x1024 .bf16 :=
  if fwdFirst i then k0_pay2 x g else X

open Classical in
/-- What the body finds in the running sum: zeros at the first shard. -/
def fwdPrior (i : grid0.Coords) (X : Vec F S1024x1024 .f32) : Vec F S1024x1024 .f32 := if fwdFirst i then k0_pay4 else X

/-- The product of 256 normalized rows with a shard of weights. -/
abbrev gate (r : ℕ) (h : r + 256 ≤ 1024) (H : Vec F S1024x1024 .bf16) (w : Vec F S1x704x1024 .bf16) : Vec F S256x704 .f32 := k0_pay5 (rowsAt r h H) w

/-- The shard's share added to the running sum. -/
def accShard (H : Vec F S1024x1024 .bf16) (wg wu wd : Vec F S1x704x1024 .bf16) (X : Vec F S1024x1024 .f32) : Vec F S1024x1024 .f32 :=
  put4 X (k0_pay15 (gate 0 (by omega) H wg) (gate 0 (by omega) H wu) (rowsAt 0 (by omega) X) wd)
    (k0_pay15 (gate 256 (by omega) H wg) (gate 256 (by omega) H wu) (rowsAt 256 (by omega) X) wd)
    (k0_pay15 (gate 512 (by omega) H wg) (gate 512 (by omega) H wu) (rowsAt 512 (by omega) X) wd)
    (k0_pay15 (gate 768 (by omega) H wg) (gate 768 (by omega) H wu) (rowsAt 768 (by omega) X) wd)

/-- The running sum after the body. -/
def accStep (i : grid0.Coords) (x : Vec F S1024x1024 .f32) (g : Vec F S1x1024 .f32) (wg wu wd : Vec F S1x704x1024 .bf16) (X : Vec F S1024x1024 .f32) (H : Vec F S1024x1024 .bf16) : Vec F S1024x1024 .f32 :=
  accShard (hsStep i x g H) wg wu wd (fwdPrior i X)

/-- One block of the gate's activation, of its derivative and of the up product, from the gate's (the up's) product. -/
abbrev dsiluBlk (a : Vec F S256x704 .f32) : Vec F S1x256x704 .bf16 := k0_pay18 a (k0_pay13 a) (k0_pay17 a)

def siluOut (H : Vec F S1024x1024 .bf16) (wg : Vec F S1x704x1024 .bf16) : Vec F S1x1024x704 .bf16 :=
  put4h (View.canon (Val := Elt F) []) (k0_pay16 (gate 0 (by omega) H wg)) (k0_pay16 (gate 256 (by omega) H wg)) (k0_pay16 (gate 512 (by omega) H wg)) (k0_pay16 (gate 768 (by omega) H wg))
def dsiluOut (H : Vec F S1024x1024 .bf16) (wg : Vec F S1x704x1024 .bf16) : Vec F S1x1024x704 .bf16 :=
  put4h (View.canon (Val := Elt F) []) (dsiluBlk (gate 0 (by omega) H wg)) (dsiluBlk (gate 256 (by omega) H wg)) (dsiluBlk (gate 512 (by omega) H wg)) (dsiluBlk (gate 768 (by omega) H wg))
def upOut (H : Vec F S1024x1024 .bf16) (wu : Vec F S1x704x1024 .bf16) : Vec F S1x1024x704 .bf16 :=
  put4h (View.canon (Val := Elt F) []) (k0_pay19 (gate 0 (by omega) H wu)) (k0_pay19 (gate 256 (by omega) H wu)) (k0_pay19 (gate 512 (by omega) H wu)) (k0_pay19 (gate 768 (by omega) H wu))

open Classical in
/-- The result's tile, written at the last shard. -/
def xoOut (i : grid0.Coords) (x : Vec F S1024x1024 .f32) (X old : Vec F S1024x1024 .f32) : Vec F S1024x1024 .f32 :=
  if k0_cond2 i = 1#1 then k0_pay1 x X else old

/-! ## Reading what four blocks of rows leave -/

/-- Four stores that cover a tile leave nothing of what it held. -/
theorem put4_cover {e : EltTy} (X Y : Vec F S1024x1024 e) (p0 p1 p2 p3 : Vec F S256x1024 e) : put4 X p0 p1 p2 p3 = put4 Y p0 p1 p2 p3 := by
  funext y
  unfold put4 VecWindow.put
  split
  · rfl
  split
  · rfl
  split
  · rfl
  split
  · rfl
  rename_i h3 h2 h1 h0
  exfalso
  have hy0 : (y (0 : Fin 2)).val < 1024 := (y 0).isLt
  have hy1 : (y (1 : Fin 2)).val < 1024 := (y 1).isLt
  simp [Fin.forall_fin_two] at h0 h1 h2 h3
  omega

theorem put4h_cover {e : EltTy} (X Y : Vec F S1x1024x704 e) (p0 p1 p2 p3 : Vec F S1x256x704 e) : put4h X p0 p1 p2 p3 = put4h Y p0 p1 p2 p3 := by
  funext y
  unfold put4h VecWindow.put
  split
  · rfl
  split
  · rfl
  split
  · rfl
  split
  · rfl
  rename_i h3 h2 h1 h0
  exfalso
  have hy0 : (y (0 : Fin 3)).val < 1 := (y 0).isLt
  have hy1 : (y (1 : Fin 3)).val < 1024 := (y 1).isLt
  have hy2 : (y (2 : Fin 3)).val < 704 := (y 2).isLt
  simp [Fin.forall_fin_succ] at h0 h1 h2 h3
  omega

section
variable {κ : Kind} {sp : Space} {e : EltTy}

theorem read_put4 (v : View sig κ sp S1024x1024 e) (f : v.ty.Contents (Elt F)) (L : List (View.Piece (Elt F) S1024x1024 e)) (X : Vec F S1024x1024 e) (p0 p1 p2 p3 : Vec F S256x1024 e) (i0 i1 i2 i3) :
    v.read (Elt F) (v.writes (Elt F) f (⟨Rect.unit (s := S1024x1024) ![768, 0] ![256, 1024] i3, p3⟩ :: ⟨Rect.unit (s := S1024x1024) ![512, 0] ![256, 1024] i2, p2⟩ :: ⟨Rect.unit (s := S1024x1024) ![256, 0] ![256, 1024] i1, p1⟩ :: ⟨Rect.unit (s := S1024x1024) ![0, 0] ![256, 1024] i0, p0⟩ :: L)) = put4 X p0 p1 p2 p3 := by
  rw [View.read_writes_cons_put _ _ _ _ _ rfl, View.read_writes_cons_put _ _ _ _ _ rfl, View.read_writes_cons_put _ _ _ _ _ rfl, View.read_writes_cons_put _ _ _ _ _ rfl]
  exact put4_cover _ _ _ _ _ _

theorem read_put4h (v : View sig κ sp S1x1024x704 e) (f : v.ty.Contents (Elt F)) (L : List (View.Piece (Elt F) S1x1024x704 e)) (X : Vec F S1x1024x704 e) (p0 p1 p2 p3 : Vec F S1x256x704 e) (i0 i1 i2 i3) :
    v.read (Elt F) (v.writes (Elt F) f (⟨Rect.unit (s := S1x1024x704) ![0, 768, 0] ![1, 256, 704] i3, p3⟩ :: ⟨Rect.unit (s := S1x1024x704) ![0, 512, 0] ![1, 256, 704] i2, p2⟩ :: ⟨Rect.unit (s := S1x1024x704) ![0, 256, 0] ![1, 256, 704] i1, p1⟩ :: ⟨Rect.unit (s := S1x1024x704) ![0, 0, 0] ![1, 256, 704] i0, p0⟩ :: L)) = put4h X p0 p1 p2 p3 := by
  rw [View.read_writes_cons_put _ _ _ _ _ rfl, View.read_writes_cons_put _ _ _ _ _ rfl, View.read_writes_cons_put _ _ _ _ _ rfl, View.read_writes_cons_put _ _ _ _ _ rfl]
  exact put4h_cover _ _ _ _ _ _

theorem readCov_put4 (v : View sig κ sp S1024x1024 e) (L : List (View.Piece (Elt F) S1024x1024 e)) (X : Vec F S1024x1024 e) (p0 p1 p2 p3 : Vec F S256x1024 e) (i0 i1 i2 i3 i) :
    v.readCov (⟨Rect.unit (s := S1024x1024) ![768, 0] ![256, 1024] i3, p3⟩ :: ⟨Rect.unit (s := S1024x1024) ![512, 0] ![256, 1024] i2, p2⟩ :: ⟨Rect.unit (s := S1024x1024) ![256, 0] ![256, 1024] i1, p1⟩ :: ⟨Rect.unit (s := S1024x1024) ![0, 0] ![256, 1024] i0, p0⟩ :: L)
      (Rect.unit (s := S1024x1024) ![0, 0] ![1024, 1024] i).toLoadRect = put4 X p0 p1 p2 p3 := by
  refine Eq.trans ?_ (read_put4 v v.junk L X p0 p1 p2 p3 i0 i1 i2 i3)
  exact View.ld_unit_lit (S := S1024x1024) (off := ![0, 0]) i _ (by decide)
end

theorem hsStep_pos {i : grid0.Coords} (h : fwdFirst i) (x : Vec F S1024x1024 .f32) (g : Vec F S1x1024 .f32) (X : Vec F S1024x1024 .bf16) : hsStep i x g X = k0_pay3 x g := if_pos h
theorem hsStep_neg {i : grid0.Coords} (h : ¬ fwdFirst i) (x : Vec F S1024x1024 .f32) (g : Vec F S1x1024 .f32) (X : Vec F S1024x1024 .bf16) : hsStep i x g X = X := if_neg h
theorem hbOut_pos {i : grid0.Coords} (h : fwdFirst i) (x : Vec F S1024x1024 .f32) (g : Vec F S1x1024 .f32) (X : Vec F S1024x1024 .bf16) : hbOut i x g X = k0_pay2 x g := if_pos h
theorem hbOut_neg {i : grid0.Coords} (h : ¬ fwdFirst i) (x : Vec F S1024x1024 .f32) (g : Vec F S1x1024 .f32) (X : Vec F S1024x1024 .bf16) : hbOut i x g X = X := if_neg h
theorem fwdPrior_pos {i : grid0.Coords} (h : fwdFirst i) (X : Vec F S1024x1024 .f32) : fwdPrior i X = k0_pay4 := if_pos h
theorem fwdPrior_neg {i : grid0.Coords} (h : ¬ fwdFirst i) (X : Vec F S1024x1024 .f32) : fwdPrior i X = X := if_neg h
theorem xoOut_pos {i : grid0.Coords} (h : k0_cond2 i = 1#1) (x X old : Vec F S1024x1024 .f32) : xoOut i x X old = k0_pay1 x X := if_pos h
theorem xoOut_neg {i : grid0.Coords} (h : ¬ k0_cond2 i = 1#1) (x X old : Vec F S1024x1024 .f32) : xoOut i x X old = old := if_neg h

set_option maxHeartbeats 8000000 in
/-- The body at any grid point. -/
theorem fwdRun (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1024x1024 .f32) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1x1024x704 .bf16) (harg10 : arg10.IsWhole) (arg11 : Memref sig .tc .vmem S1024x1024 .bf16) (harg11 : arg11.IsWhole) (arg12 : Memref sig .tc .vmem S1024x1024 .f32) (harg12 : arg12.IsWhole) (arg13 : Memref sig .tc .vmem S1024x1024 .bf16) (harg13 : arg13.IsWhole)
    (x : Vec F S1024x1024 .f32) (g : Vec F S1x1024 .f32) (wg : Vec F S1x704x1024 .bf16) (wu : Vec F S1x704x1024 .bf16) (wd : Vec F S1x704x1024 .bf16) (d7 : Vec F S1024x1024 .f32) (d8 : Vec F S1x1024x704 .bf16) (d9 : Vec F S1x1024x704 .bf16) (d10 : Vec F S1x1024x704 .bf16) (d11 : Vec F S1024x1024 .bf16) (d12 : Vec F S1024x1024 .f32) (d13 : Vec F S1024x1024 .bf16) :
      ∀ (E : Set ℕ) (K : PUnit → sProp 𝕄),
        iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13
            ∗ (iprop(owns (c : Thread nD τ) arg2 fullShare x ∗ owns (c : Thread nD τ) arg3 fullShare g ∗ owns (c : Thread nD τ) arg4 fullShare wg ∗ owns (c : Thread nD τ) arg5 fullShare wu ∗ owns (c : Thread nD τ) arg6 fullShare wd ∗ owns (c : Thread nD τ) arg7 fullShare (xoOut i x (accStep i x g wg wu wd d12 d13) d7) ∗ owns (c : Thread nD τ) arg8 fullShare (siluOut (hsStep i x g d13) wg) ∗ owns (c : Thread nD τ) arg9 fullShare (dsiluOut (hsStep i x g d13) wg) ∗ owns (c : Thread nD τ) arg10 fullShare (upOut (hsStep i x g d13) wu) ∗ owns (c : Thread nD τ) arg11 fullShare (hbOut i x g d11) ∗ owns (c : Thread nD τ) arg12 fullShare (accStep i x g wg wu wd d12 d13) ∗ owns (c : Thread nD τ) arg13 fullShare (hsStep i x g d13)) -∗ K PUnit.unit))
          ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  intro E K
  simp only [cc0_ffn_fwd_eq_skeleton]; unfold cc0_ffn_fwd_skel
  simp only [k0_part1_eq_skeleton, k0_part2_eq_skeleton, k0_part3_eq_skeleton, k0_part4_eq_skeleton, k0_part5_eq_skeleton]
  unfold owns
  by_cases hc1 : fwdFirst i <;> by_cases hc2 : k0_cond2 i = 1#1
  · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      frame_out
      rw [View.read_writes_full, xoOut_pos hc2, accStep, accShard, hsStep_pos hc1, fwdPrior_pos hc1]
      refine congrArg (k0_pay1 x) ?_
      rw [readCov_put4 _ _ k0_pay4]
      simp (disch := decide) only [View.readCov_skip, View.readCov_fill]
      rfl
    isplitl [H8]
    · iexists _; isplitr; swap; · iexact H8
      ipureintro
      frame_out
      rw [siluOut, hsStep_pos hc1, read_put4h _ _ _ (View.canon (Val := Elt F) [])]
      simp (disch := decide) only [View.readCov_skip, View.readCov_fill]
      rfl
    isplitl [H9]
    · iexists _; isplitr; swap; · iexact H9
      ipureintro
      frame_out
      rw [dsiluOut, hsStep_pos hc1, read_put4h _ _ _ (View.canon (Val := Elt F) [])]
      simp (disch := decide) only [View.readCov_skip, View.readCov_fill]
      rfl
    isplitl [H10]
    · iexists _; isplitr; swap; · iexact H10
      ipureintro
      frame_out
      rw [upOut, hsStep_pos hc1, read_put4h _ _ _ (View.canon (Val := Elt F) [])]
      simp (disch := decide) only [View.readCov_skip, View.readCov_fill]
      rfl
    isplitl [H11]
    · iexists _; isplitr; swap; · iexact H11
      ipureintro
      frame_out
      rw [View.read_writes_full, hbOut_pos hc1]
    isplitl [H12]
    · iexists _; isplitr; swap; · iexact H12
      ipureintro
      frame_out
      rw [accStep, accShard, hsStep_pos hc1, fwdPrior_pos hc1, read_put4 _ _ _ k0_pay4]
      simp (disch := decide) only [View.readCov_skip, View.readCov_fill]
      rfl
    iexists _; isplitr; swap; · iexact H13
    ipureintro
    frame_out
    rw [View.read_writes_full, hsStep_pos hc1]
  · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      rw [xoOut_neg hc2]; exact harg7.read_unread _
    isplitl [H8]
    · iexists _; isplitr; swap; · iexact H8
      ipureintro
      frame_out
      rw [siluOut, hsStep_pos hc1, read_put4h _ _ _ (View.canon (Val := Elt F) [])]
      simp (disch := decide) only [View.readCov_skip, View.readCov_fill]
      rfl
    isplitl [H9]
    · iexists _; isplitr; swap; · iexact H9
      ipureintro
      frame_out
      rw [dsiluOut, hsStep_pos hc1, read_put4h _ _ _ (View.canon (Val := Elt F) [])]
      simp (disch := decide) only [View.readCov_skip, View.readCov_fill]
      rfl
    isplitl [H10]
    · iexists _; isplitr; swap; · iexact H10
      ipureintro
      frame_out
      rw [upOut, hsStep_pos hc1, read_put4h _ _ _ (View.canon (Val := Elt F) [])]
      simp (disch := decide) only [View.readCov_skip, View.readCov_fill]
      rfl
    isplitl [H11]
    · iexists _; isplitr; swap; · iexact H11
      ipureintro
      frame_out
      rw [View.read_writes_full, hbOut_pos hc1]
    isplitl [H12]
    · iexists _; isplitr; swap; · iexact H12
      ipureintro
      frame_out
      rw [accStep, accShard, hsStep_pos hc1, fwdPrior_pos hc1, read_put4 _ _ _ k0_pay4]
      simp (disch := decide) only [View.readCov_skip, View.readCov_fill]
      rfl
    iexists _; isplitr; swap; · iexact H13
    ipureintro
    frame_out
    rw [View.read_writes_full, hsStep_pos hc1]
  · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      frame_out
      rw [View.read_writes_full, xoOut_pos hc2, accStep, accShard, hsStep_neg hc1, fwdPrior_neg hc1]
      refine congrArg (k0_pay1 x) ?_
      rw [readCov_put4 _ _ d12]
      rfl
    isplitl [H8]
    · iexists _; isplitr; swap; · iexact H8
      ipureintro
      frame_out
      rw [siluOut, hsStep_neg hc1, read_put4h _ _ _ (View.canon (Val := Elt F) [])]
      rfl
    isplitl [H9]
    · iexists _; isplitr; swap; · iexact H9
      ipureintro
      frame_out
      rw [dsiluOut, hsStep_neg hc1, read_put4h _ _ _ (View.canon (Val := Elt F) [])]
      rfl
    isplitl [H10]
    · iexists _; isplitr; swap; · iexact H10
      ipureintro
      frame_out
      rw [upOut, hsStep_neg hc1, read_put4h _ _ _ (View.canon (Val := Elt F) [])]
      rfl
    isplitl [H11]
    · iexists _; isplitr; swap; · iexact H11
      ipureintro
      rw [hbOut_neg hc1]; exact harg11.read_unread _
    isplitl [H12]
    · iexists _; isplitr; swap; · iexact H12
      ipureintro
      frame_out
      rw [accStep, accShard, hsStep_neg hc1, fwdPrior_neg hc1, read_put4 _ _ _ d12]
      rfl
    iexists _; isplitr; swap; · iexact H13
    ipureintro
    rw [hsStep_neg hc1]; exact harg13.read_unread _
  · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; swap; · iexact H7
      ipureintro
      rw [xoOut_neg hc2]; exact harg7.read_unread _
    isplitl [H8]
    · iexists _; isplitr; swap; · iexact H8
      ipureintro
      frame_out
      rw [siluOut, hsStep_neg hc1, read_put4h _ _ _ (View.canon (Val := Elt F) [])]
      rfl
    isplitl [H9]
    · iexists _; isplitr; swap; · iexact H9
      ipureintro
      frame_out
      rw [dsiluOut, hsStep_neg hc1, read_put4h _ _ _ (View.canon (Val := Elt F) [])]
      rfl
    isplitl [H10]
    · iexists _; isplitr; swap; · iexact H10
      ipureintro
      frame_out
      rw [upOut, hsStep_neg hc1, read_put4h _ _ _ (View.canon (Val := Elt F) [])]
      rfl
    isplitl [H11]
    · iexists _; isplitr; swap; · iexact H11
      ipureintro
      rw [hbOut_neg hc1]; exact harg11.read_unread _
    isplitl [H12]
    · iexists _; isplitr; swap; · iexact H12
      ipureintro
      frame_out
      rw [accStep, accShard, hsStep_neg hc1, fwdPrior_neg hc1, read_put4 _ _ _ d12]
      rfl
    iexists _; isplitr; swap; · iexact H13
    ipureintro
    rw [hsStep_neg hc1]; exact harg13.read_unread _

end Cert.Proof.Ffn

end
-- ==== Proof.FfnBwdRun.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit
public import Idealize.ShloMosaic.Lib.Pipeline.ReadBack

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The backward call's kernel body at a grid point

One grid point is a tile of 512 rows and a shard of 704 hidden columns. At the first shard the body keeps half the
incoming gradient and zeroes the running sum; at every shard it forms the gradients of the gate and of the up product
in two blocks of 256 rows and adds their share to the sum; at the last shard it carries the sum through the
normalization and adds the rows' share to the gradient of the normalization's scale. -/

/-- A block of 256 rows starting at row `r` is inside a tile. -/
theorem rowsB_inb (r : ℕ) (h : r + 256 ≤ 512) : ∀ a, (![r, 0] : Fin 2 → ℕ) a + S256x1024.size a ≤ S512x1024.size a := by
  intro a; fin_cases a
  · exact h
  · exact le_refl 1024

theorem rowsBh_inb (r : ℕ) (h : r + 256 ≤ 512) : ∀ a, (![0, r, 0] : Fin 3 → ℕ) a + S1x256x704.size a ≤ S1x512x704.size a := by
  intro a; fin_cases a
  · exact le_refl 1
  · exact h
  · exact le_refl 704

/-- Rows `r` to `r + 255` of a tile. -/
def rowsB {e : EltTy} (r : ℕ) (h : r + 256 ≤ 512) (X : Vec F S512x1024 e) : Vec F S256x1024 e :=
  View.ld X (Rect.unit (s := S512x1024) ![r, 0] S256x1024.size (rowsB_inb r h))

/-- The same rows of a block of hidden columns. -/
def rowsBh (r : ℕ) (h : r + 256 ≤ 512) (X : Vec F S1x512x704 .bf16) : Vec F S1x256x704 .bf16 :=
  View.ld X (Rect.unit (s := S1x512x704) ![0, r, 0] S1x256x704.size (rowsBh_inb r h))

/-- Two blocks of 256 rows stored over a tile; over a block of hidden columns. -/
def put2 {e : EltTy} (X : Vec F S512x1024 e) (p0 p1 : Vec F S256x1024 e) : Vec F S512x1024 e :=
  VecWindow.put (VecWindow.put X ![0, 0] S256x1024.size p0) ![256, 0] S256x1024.size p1
def put2h {e : EltTy} (X : Vec F S1x512x704 e) (p0 p1 : Vec F S1x256x704 e) : Vec F S1x512x704 e :=
  VecWindow.put (VecWindow.put X ![0, 0, 0] S1x256x704.size p0) ![0, 256, 0] S1x256x704.size p1

open Classical in
/-- Half the incoming gradient, kept through a tile's shards. -/
def doOut (i : grid1.Coords) (dout : Vec F S512x1024 .f32) (X : Vec F S512x1024 .bf16) : Vec F S512x1024 .bf16 := if k1_cond1 i = 1#1 then k1_pay5 dout else X

open Classical in
/-- What the body finds in the running sum: zeros at the first shard. -/
def dhPrior (i : grid1.Coords) (X : Vec F S512x1024 .f32) : Vec F S512x1024 .f32 := if k1_cond1 i = 1#1 then k1_pay4 else X

open Classical in
/-- What it finds in the scale's gradient: zeros at the first point. -/
def dgPrior (i : grid1.Coords) (X : Vec F S1x1024 .f32) : Vec F S1x1024 .f32 := if k1_cond2 i = 1#1 then k1_pay6 else X

/-- In a block of rows: the gradient of the hidden product, of the gate and of the up product. -/
abbrev dfBlk (r : ℕ) (h : r + 256 ≤ 512) (D : Vec F S512x1024 .bf16) (wd : Vec F S1x704x1024 .bf16) : Vec F S256x704 .f32 := k1_pay7 (rowsB r h D) wd
abbrev daBlk (r : ℕ) (h : r + 256 ≤ 512) (D : Vec F S512x1024 .bf16) (ds b : Vec F S1x512x704 .bf16) (wd : Vec F S1x704x1024 .bf16) : Vec F S256x704 .bf16 := k1_pay11 (rowsB r h D) wd (rowsBh r h b) (rowsBh r h ds)
abbrev dbBlk (r : ℕ) (h : r + 256 ≤ 512) (D : Vec F S512x1024 .bf16) (si : Vec F S1x512x704 .bf16) (wd : Vec F S1x704x1024 .bf16) : Vec F S256x704 .bf16 := k1_pay12 (dfBlk r h D wd) (k1_pay9 (rowsBh r h si))

def daOut (D : Vec F S512x1024 .bf16) (ds b : Vec F S1x512x704 .bf16) (wd : Vec F S1x704x1024 .bf16) : Vec F S1x512x704 .bf16 :=
  put2h (View.canon (Val := Elt F) []) (k1_pay13 (daBlk 0 (by omega) D ds b wd)) (k1_pay13 (daBlk 256 (by omega) D ds b wd))
def dbOut (D : Vec F S512x1024 .bf16) (si : Vec F S1x512x704 .bf16) (wd : Vec F S1x704x1024 .bf16) : Vec F S1x512x704 .bf16 :=
  put2h (View.canon (Val := Elt F) []) (k1_pay14 (dfBlk 0 (by omega) D wd) (k1_pay9 (rowsBh 0 (by omega) si))) (k1_pay14 (dfBlk 256 (by omega) D wd) (k1_pay9 (rowsBh 256 (by omega) si)))
/-- The hidden product itself. -/
def fOut (si b : Vec F S1x512x704 .bf16) : Vec F S1x512x704 .bf16 :=
  put2h (View.canon (Val := Elt F) []) (k1_pay15 (k1_pay9 (rowsBh 0 (by omega) si)) (k1_pay10 (rowsBh 0 (by omega) b))) (k1_pay15 (k1_pay9 (rowsBh 256 (by omega) si)) (k1_pay10 (rowsBh 256 (by omega) b)))

/-- The shard's share added to the running sum. -/
def dhShard (D : Vec F S512x1024 .bf16) (si ds b : Vec F S1x512x704 .bf16) (wg wu wd : Vec F S1x704x1024 .bf16) (X : Vec F S512x1024 .f32) : Vec F S512x1024 .f32 :=
  put2 X (k1_pay23 (daBlk 0 (by omega) D ds b wd) (dbBlk 0 (by omega) D si wd) (rowsB 0 (by omega) X) wg wu)
    (k1_pay23 (daBlk 256 (by omega) D ds b wd) (dbBlk 256 (by omega) D si wd) (rowsB 256 (by omega) X) wg wu)

/-- The running sum after the body. -/
def dhStep (i : grid1.Coords) (dout : Vec F S512x1024 .f32) (si ds b : Vec F S1x512x704 .bf16) (wg wu wd : Vec F S1x704x1024 .bf16) (D : Vec F S512x1024 .bf16) (X : Vec F S512x1024 .f32) : Vec F S512x1024 .f32 :=
  dhShard (doOut i dout D) si ds b wg wu wd (dhPrior i X)

open Classical in
/-- The gradient of the scale after the body, from the finished sum. -/
def dgStep (i : grid1.Coords) (x dh : Vec F S512x1024 .f32) (X : Vec F S1x1024 .f32) : Vec F S1x1024 .f32 :=
  if k1_cond3 i = 1#1 then k1_pay3 x dh (dgPrior i X) else dgPrior i X

open Classical in
/-- The gradient of the rows, written at the last shard. -/
def dxOut (i : grid1.Coords) (dout x : Vec F S512x1024 .f32) (g : Vec F S1x1024 .f32) (dh old : Vec F S512x1024 .f32) : Vec F S512x1024 .f32 :=
  if k1_cond3 i = 1#1 then k1_pay2 x dh g dout else old

/-! ## Reading what two blocks of rows leave -/

theorem put2_cover {e : EltTy} (X Y : Vec F S512x1024 e) (p0 p1 : Vec F S256x1024 e) : put2 X p0 p1 = put2 Y p0 p1 := by
  funext y
  unfold put2 VecWindow.put
  split
  · rfl
  split
  · rfl
  rename_i h1 h0
  exfalso
  have hy0 : (y (0 : Fin 2)).val < 512 := (y 0).isLt
  have hy1 : (y (1 : Fin 2)).val < 1024 := (y 1).isLt
  simp [Fin.forall_fin_two] at h0 h1
  omega

theorem put2h_cover {e : EltTy} (X Y : Vec F S1x512x704 e) (p0 p1 : Vec F S1x256x704 e) : put2h X p0 p1 = put2h Y p0 p1 := by
  funext y
  unfold put2h VecWindow.put
  split
  · rfl
  split
  · rfl
  rename_i h1 h0
  exfalso
  have hy0 : (y (0 : Fin 3)).val < 1 := (y 0).isLt
  have hy1 : (y (1 : Fin 3)).val < 512 := (y 1).isLt
  have hy2 : (y (2 : Fin 3)).val < 704 := (y 2).isLt
  simp [Fin.forall_fin_succ] at h0 h1
  omega

section
variable {κ : Kind} {sp : Space} {e : EltTy}

theorem read_put2 (v : View sig κ sp S512x1024 e) (f : v.ty.Contents (Elt F)) (L : List (View.Piece (Elt F) S512x1024 e)) (X : Vec F S512x1024 e) (p0 p1 : Vec F S256x1024 e) (i0 i1) :
    v.read (Elt F) (v.writes (Elt F) f (⟨Rect.unit (s := S512x1024) ![256, 0] ![256, 1024] i1, p1⟩ :: ⟨Rect.unit (s := S512x1024) ![0, 0] ![256, 1024] i0, p0⟩ :: L)) = put2 X p0 p1 := by
  rw [View.read_writes_cons_put _ _ _ _ _ rfl, View.read_writes_cons_put _ _ _ _ _ rfl]
  exact put2_cover _ _ _ _

theorem read_put2h (v : View sig κ sp S1x512x704 e) (f : v.ty.Contents (Elt F)) (L : List (View.Piece (Elt F) S1x512x704 e)) (X : Vec F S1x512x704 e) (p0 p1 : Vec F S1x256x704 e) (i0 i1) :
    v.read (Elt F) (v.writes (Elt F) f (⟨Rect.unit (s := S1x512x704) ![0, 256, 0] ![1, 256, 704] i1, p1⟩ :: ⟨Rect.unit (s := S1x512x704) ![0, 0, 0] ![1, 256, 704] i0, p0⟩ :: L)) = put2h X p0 p1 := by
  rw [View.read_writes_cons_put _ _ _ _ _ rfl, View.read_writes_cons_put _ _ _ _ _ rfl]
  exact put2h_cover _ _ _ _

theorem readCov_put2 (v : View sig κ sp S512x1024 e) (L : List (View.Piece (Elt F) S512x1024 e)) (X : Vec F S512x1024 e) (p0 p1 : Vec F S256x1024 e) (i0 i1 i) :
    v.readCov (⟨Rect.unit (s := S512x1024) ![256, 0] ![256, 1024] i1, p1⟩ :: ⟨Rect.unit (s := S512x1024) ![0, 0] ![256, 1024] i0, p0⟩ :: L)
      (Rect.unit (s := S512x1024) ![0, 0] ![512, 1024] i).toLoadRect = put2 X p0 p1 := by
  refine Eq.trans ?_ (read_put2 v v.junk L X p0 p1 i0 i1)
  exact View.ld_unit_lit (S := S512x1024) (off := ![0, 0]) i _ (by decide)
end

section
variable {i : grid1.Coords}
theorem doOut_pos (h : k1_cond1 i = 1#1) (dout : Vec F S512x1024 .f32) (X : Vec F S512x1024 .bf16) : doOut i dout X = k1_pay5 dout := if_pos h
theorem doOut_neg (h : ¬ k1_cond1 i = 1#1) (dout : Vec F S512x1024 .f32) (X : Vec F S512x1024 .bf16) : doOut i dout X = X := if_neg h
theorem dhPrior_pos (h : k1_cond1 i = 1#1) (X : Vec F S512x1024 .f32) : dhPrior i X = k1_pay4 := if_pos h
theorem dhPrior_neg (h : ¬ k1_cond1 i = 1#1) (X : Vec F S512x1024 .f32) : dhPrior i X = X := if_neg h
theorem dgPrior_pos (h : k1_cond2 i = 1#1) (X : Vec F S1x1024 .f32) : dgPrior i X = k1_pay6 := if_pos h
theorem dgPrior_neg (h : ¬ k1_cond2 i = 1#1) (X : Vec F S1x1024 .f32) : dgPrior i X = X := if_neg h
theorem dgStep_pos (h : k1_cond3 i = 1#1) (x dh : Vec F S512x1024 .f32) (X : Vec F S1x1024 .f32) : dgStep i x dh X = k1_pay3 x dh (dgPrior i X) := if_pos h
theorem dgStep_neg (h : ¬ k1_cond3 i = 1#1) (x dh : Vec F S512x1024 .f32) (X : Vec F S1x1024 .f32) : dgStep i x dh X = dgPrior i X := if_neg h
theorem dxOut_pos (h : k1_cond3 i = 1#1) (dout x : Vec F S512x1024 .f32) (g : Vec F S1x1024 .f32) (dh old : Vec F S512x1024 .f32) : dxOut i dout x g dh old = k1_pay2 x dh g dout := if_pos h
theorem dxOut_neg (h : ¬ k1_cond3 i = 1#1) (dout x : Vec F S512x1024 .f32) (g : Vec F S1x1024 .f32) (dh old : Vec F S512x1024 .f32) : dxOut i dout x g dh old = old := if_neg h
end

/-- The first point is a tile's first shard; the first shard is not the last. -/
theorem bwd_first : ∀ i : grid1.Coords, k1_cond2 i = 1#1 → k1_cond1 i = 1#1 := by decide +kernel
theorem bwd_notLast : ∀ i : grid1.Coords, k1_cond1 i = 1#1 → ¬ k1_cond3 i = 1#1 := by decide +kernel

set_option maxHeartbeats 8000000 in
/-- The body at any grid point. -/
theorem bwdRun (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x512x704 .bf16) (harg5 : arg5.IsWhole) (arg6 : Memref sig .tc .vmem S1x512x704 .bf16) (harg6 : arg6.IsWhole) (arg7 : Memref sig .tc .vmem S1x512x704 .bf16) (harg7 : arg7.IsWhole) (arg8 : Memref sig .tc .vmem S1x704x1024 .bf16) (harg8 : arg8.IsWhole) (arg9 : Memref sig .tc .vmem S1x704x1024 .bf16) (harg9 : arg9.IsWhole) (arg10 : Memref sig .tc .vmem S1x704x1024 .bf16) (harg10 : arg10.IsWhole) (arg11 : Memref sig .tc .vmem S512x1024 .f32) (harg11 : arg11.IsWhole) (arg12 : Memref sig .tc .vmem S1x512x704 .bf16) (harg12 : arg12.IsWhole) (arg13 : Memref sig .tc .vmem S1x512x704 .bf16) (harg13 : arg13.IsWhole) (arg14 : Memref sig .tc .vmem S1x512x704 .bf16) (harg14 : arg14.IsWhole) (arg15 : Memref sig .tc .vmem S1x1024 .f32) (harg15 : arg15.IsWhole) (arg16 : Memref sig .tc .vmem S512x1024 .bf16) (harg16 : arg16.IsWhole) (arg17 : Memref sig .tc .vmem S512x1024 .f32) (harg17 : arg17.IsWhole)
    (dout : Vec F S512x1024 .f32) (x : Vec F S512x1024 .f32) (g : Vec F S1x1024 .f32) (si : Vec F S1x512x704 .bf16) (ds : Vec F S1x512x704 .bf16) (b : Vec F S1x512x704 .bf16) (wg : Vec F S1x704x1024 .bf16) (wu : Vec F S1x704x1024 .bf16) (wd : Vec F S1x704x1024 .bf16) (d11 : Vec F S512x1024 .f32) (d12 : Vec F S1x512x704 .bf16) (d13 : Vec F S1x512x704 .bf16) (d14 : Vec F S1x512x704 .bf16) (d15 : Vec F S1x1024 .f32) (d16 : Vec F S512x1024 .bf16) (d17 : Vec F S512x1024 .f32) :
      ∀ (E : Set ℕ) (K : PUnit → sProp 𝕄),
        iprop(owns (c : Thread nD τ) arg2 fullShare dout ∗ owns (c : Thread nD τ) arg3 fullShare x ∗ owns (c : Thread nD τ) arg4 fullShare g ∗ owns (c : Thread nD τ) arg5 fullShare si ∗ owns (c : Thread nD τ) arg6 fullShare ds ∗ owns (c : Thread nD τ) arg7 fullShare b ∗ owns (c : Thread nD τ) arg8 fullShare wg ∗ owns (c : Thread nD τ) arg9 fullShare wu ∗ owns (c : Thread nD τ) arg10 fullShare wd ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17
            ∗ (iprop(owns (c : Thread nD τ) arg2 fullShare dout ∗ owns (c : Thread nD τ) arg3 fullShare x ∗ owns (c : Thread nD τ) arg4 fullShare g ∗ owns (c : Thread nD τ) arg5 fullShare si ∗ owns (c : Thread nD τ) arg6 fullShare ds ∗ owns (c : Thread nD τ) arg7 fullShare b ∗ owns (c : Thread nD τ) arg8 fullShare wg ∗ owns (c : Thread nD τ) arg9 fullShare wu ∗ owns (c : Thread nD τ) arg10 fullShare wd ∗ owns (c : Thread nD τ) arg11 fullShare (dxOut i dout x g (dhStep i dout si ds b wg wu wd d16 d17) d11) ∗ owns (c : Thread nD τ) arg12 fullShare (daOut (doOut i dout d16) ds b wd) ∗ owns (c : Thread nD τ) arg13 fullShare (dbOut (doOut i dout d16) si wd) ∗ owns (c : Thread nD τ) arg14 fullShare (fOut si b) ∗ owns (c : Thread nD τ) arg15 fullShare (dgStep i x (dhStep i dout si ds b wg wu wd d16 d17) d15) ∗ owns (c : Thread nD τ) arg16 fullShare (doOut i dout d16) ∗ owns (c : Thread nD τ) arg17 fullShare (dhStep i dout si ds b wg wu wd d16 d17)) -∗ K PUnit.unit))
          ⊢ wp frame (wpE (defs₀ (F := F)) Variants.none c none) E (cc1_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  intro E K
  simp only [cc1_ffn_bwd_eq_skeleton]; unfold cc1_ffn_bwd_skel
  simp only [k1_part1_eq_skeleton, k1_part2_eq_skeleton, k1_part3_eq_skeleton, k1_part4_eq_skeleton]
  unfold owns
  by_cases hc1 : k1_cond1 i = 1#1
  · have hc3 := bwd_notLast i hc1
    by_cases hc2 : k1_cond2 i = 1#1
    · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
      sl_exec (disch := first | sl_exact hc1 | sl_exact hc2 | sl_exact hc3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; swap; · iexact H11
        ipureintro
        rw [dxOut_neg hc3]; exact harg11.read_unread _
      isplitl [H12]
      · iexists _; isplitr; swap; · iexact H12
        ipureintro
        frame_out
        rw [daOut, doOut_pos hc1, read_put2h _ _ _ (View.canon (Val := Elt F) [])]
        simp (disch := decide) only [View.readCov_skip, View.readCov_fill]
        rfl
      isplitl [H13]
      · iexists _; isplitr; swap; · iexact H13
        ipureintro
        frame_out
        rw [dbOut, doOut_pos hc1, read_put2h _ _ _ (View.canon (Val := Elt F) [])]
        simp (disch := decide) only [View.readCov_skip, View.readCov_fill]
        rfl
      isplitl [H14]
      · iexists _; isplitr; swap; · iexact H14
        ipureintro
        frame_out
        rw [fOut, read_put2h _ _ _ (View.canon (Val := Elt F) [])]
        rfl
      isplitl [H15]
      · iexists _; isplitr; swap; · iexact H15
        ipureintro
        frame_out
        rw [View.read_writes_full, dgStep_neg hc3, dgPrior_pos hc2]
      isplitl [H16]
      · iexists _; isplitr; swap; · iexact H16
        ipureintro
        frame_out
        rw [View.read_writes_full, doOut_pos hc1]
      iexists _; isplitr; swap; · iexact H17
      ipureintro
      frame_out
      rw [dhStep, dhShard, doOut_pos hc1, dhPrior_pos hc1, read_put2 _ _ _ k1_pay4]
      simp (disch := decide) only [View.readCov_skip, View.readCov_fill]
      rfl
    · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
      sl_exec (disch := first | sl_exact hc1 | sl_exact hc2 | sl_exact hc3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; swap; · iexact H11
        ipureintro
        rw [dxOut_neg hc3]; exact harg11.read_unread _
      isplitl [H12]
      · iexists _; isplitr; swap; · iexact H12
        ipureintro
        frame_out
        rw [daOut, doOut_pos hc1, read_put2h _ _ _ (View.canon (Val := Elt F) [])]
        simp (disch := decide) only [View.readCov_skip, View.readCov_fill]
        rfl
      isplitl [H13]
      · iexists _; isplitr; swap; · iexact H13
        ipureintro
        frame_out
        rw [dbOut, doOut_pos hc1, read_put2h _ _ _ (View.canon (Val := Elt F) [])]
        simp (disch := decide) only [View.readCov_skip, View.readCov_fill]
        rfl
      isplitl [H14]
      · iexists _; isplitr; swap; · iexact H14
        ipureintro
        frame_out
        rw [fOut, read_put2h _ _ _ (View.canon (Val := Elt F) [])]
        rfl
      isplitl [H15]
      · iexists _; isplitr; swap; · iexact H15
        ipureintro
        rw [dgStep_neg hc3, dgPrior_neg hc2]; exact harg15.read_unread _
      isplitl [H16]
      · iexists _; isplitr; swap; · iexact H16
        ipureintro
        frame_out
        rw [View.read_writes_full, doOut_pos hc1]
      iexists _; isplitr; swap; · iexact H17
      ipureintro
      frame_out
      rw [dhStep, dhShard, doOut_pos hc1, dhPrior_pos hc1, read_put2 _ _ _ k1_pay4]
      simp (disch := decide) only [View.readCov_skip, View.readCov_fill]
      rfl
  · have hc2 : ¬ k1_cond2 i = 1#1 := fun h => hc1 (bwd_first i h)
    by_cases hc3 : k1_cond3 i = 1#1
    · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
      sl_exec (disch := first | sl_exact hc1 | sl_exact hc2 | sl_exact hc3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; swap; · iexact H11
        ipureintro
        frame_out
        rw [View.read_writes_full, dxOut_pos hc3, dhStep, dhShard, doOut_neg hc1, dhPrior_neg hc1]
        refine congrArg (fun X => k1_pay2 x X g dout) ?_
        rw [readCov_put2 _ _ d17]
        rfl
      isplitl [H12]
      · iexists _; isplitr; swap; · iexact H12
        ipureintro
        frame_out
        rw [daOut, doOut_neg hc1, read_put2h _ _ _ (View.canon (Val := Elt F) [])]
        rfl
      isplitl [H13]
      · iexists _; isplitr; swap; · iexact H13
        ipureintro
        frame_out
        rw [dbOut, doOut_neg hc1, read_put2h _ _ _ (View.canon (Val := Elt F) [])]
        rfl
      isplitl [H14]
      · iexists _; isplitr; swap; · iexact H14
        ipureintro
        frame_out
        rw [fOut, read_put2h _ _ _ (View.canon (Val := Elt F) [])]
        rfl
      isplitl [H15]
      · iexists _; isplitr; swap; · iexact H15
        ipureintro
        frame_out
        rw [View.read_writes_full, dgStep_pos hc3, dgPrior_neg hc2, dhStep, dhShard, doOut_neg hc1, dhPrior_neg hc1]
        refine congrArg (fun X => k1_pay3 x X d15) ?_
        rw [readCov_put2 _ _ d17]
        rfl
      isplitl [H16]
      · iexists _; isplitr; swap; · iexact H16
        ipureintro
        rw [doOut_neg hc1]; exact harg16.read_unread _
      iexists _; isplitr; swap; · iexact H17
      ipureintro
      frame_out
      rw [dhStep, dhShard, doOut_neg hc1, dhPrior_neg hc1, read_put2 _ _ _ d17]
      rfl
    · iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
      obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
      sl_exec (disch := first | sl_exact hc1 | sl_exact hc2 | sl_exact hc3)
      sl_step
      iapply Hk
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; swap; · iexact H11
        ipureintro
        rw [dxOut_neg hc3]; exact harg11.read_unread _
      isplitl [H12]
      · iexists _; isplitr; swap; · iexact H12
        ipureintro
        frame_out
        rw [daOut, doOut_neg hc1, read_put2h _ _ _ (View.canon (Val := Elt F) [])]
        rfl
      isplitl [H13]
      · iexists _; isplitr; swap; · iexact H13
        ipureintro
        frame_out
        rw [dbOut, doOut_neg hc1, read_put2h _ _ _ (View.canon (Val := Elt F) [])]
        rfl
      isplitl [H14]
      · iexists _; isplitr; swap; · iexact H14
        ipureintro
        frame_out
        rw [fOut, read_put2h _ _ _ (View.canon (Val := Elt F) [])]
        rfl
      isplitl [H15]
      · iexists _; isplitr; swap; · iexact H15
        ipureintro
        rw [dgStep_neg hc3, dgPrior_neg hc2]; exact harg15.read_unread _
      isplitl [H16]
      · iexists _; isplitr; swap; · iexact H16
        ipureintro
        rw [doOut_neg hc1]; exact harg16.read_unread _
      iexists _; isplitr; swap; · iexact H17
      ipureintro
      frame_out
      rw [dhStep, dhShard, doOut_neg hc1, dhPrior_neg hc1, read_put2 _ _ _ d17]
      rfl

end Cert.Proof.Ffn

end
-- ==== Proof.FfnDwRun.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One weight gradient's kernel body at a grid point

The body adds the product of one 1024-row block of the left operand with the matching rows of the right operand to
a running sum, which it zeroes at the first row block and writes out at the last. -/

theorem dw_off_eq : ∀ i : grid2.Coords, k2_off1 i = ![1024 * (i 1).val, 0] := by decide +kernel
instance (i : grid2.Coords) : ClosedOff (k2_off1 i) := ⟨![1024 * (i 1).val, 0], dw_off_eq i⟩

/-- The sum is zeroed here: the row block is the first one. -/
abbrev dwFirst (i : grid2.Coords) : Prop := (Scalar.cmpi .ne (Scalar.extui (Scalar.cmpi .eq (BitVec.ofNat 32 (i 1).val) 0#32)) 0#32) = 1#1

/-- The right operand's rows of the row block. -/
abbrev dwRows (i : grid2.Coords) (B : Vec F S4096x1024 .bf16) : Vec F S1024x1024 .bf16 :=
  View.ld B (Rect.unit (s := S4096x1024) (k2_off1 i) S1024x1024.size (k2_off1_inb i))

open Classical in
/-- What the body finds in the running sum: zeros where it starts one, what the sum holds elsewhere. -/
def dwPrior (i : grid2.Coords) (X : Vec F S704x1024 .f32) : Vec F S704x1024 .f32 := if dwFirst i then k2_pay1 else X

/-- The running sum after the body. -/
def dwStep (i : grid2.Coords) (A : Vec F S1x1024x704 .bf16) (B : Vec F S4096x1024 .bf16) (X : Vec F S704x1024 .f32) : Vec F S704x1024 .f32 :=
  k2_pay2 (dwPrior i X) A (dwRows i B)

open Classical in
/-- An output block after the body: the sum at the last row block, untouched elsewhere. -/
def dwOut {s : Shape} {e : EltTy} (i : grid2.Coords) (new old : Vec F s e) : Vec F s e := if k2_cond2 i = 1#1 then new else old

theorem dwStep_pos {i : grid2.Coords} (h : dwFirst i) (A : Vec F S1x1024x704 .bf16) (B : Vec F S4096x1024 .bf16) (X : Vec F S704x1024 .f32) :
    dwStep i A B X = k2_pay2 k2_pay1 A (dwRows i B) := by rw [dwStep, dwPrior, if_pos h]
theorem dwStep_neg {i : grid2.Coords} (h : ¬ dwFirst i) (A : Vec F S1x1024x704 .bf16) (B : Vec F S4096x1024 .bf16) (X : Vec F S704x1024 .f32) :
    dwStep i A B X = k2_pay2 X A (dwRows i B) := by rw [dwStep, dwPrior, if_neg h]
theorem dwOut_pos {s : Shape} {e : EltTy} {i : grid2.Coords} (h : k2_cond2 i = 1#1) (new old : Vec F s e) : dwOut i new old = new := if_pos h
theorem dwOut_neg {s : Shape} {e : EltTy} {i : grid2.Coords} (h : ¬ k2_cond2 i = 1#1) (new old : Vec F s e) : dwOut i new old = old := if_neg h

set_option maxHeartbeats 2000000 in
/-- The body at any grid point. -/
theorem dwRun (c : Dev nD) (i : grid2.Coords) (arg2 : Memref sig .tc .vmem S1x1024x704 .bf16) (harg2 : arg2.IsWhole) (arg3 : Memref sig .tc .vmem S4096x1024 .bf16) (harg3 : arg3.IsWhole) (arg4 : Memref sig .tc .vmem S1x704x1024 .f32) (harg4 : arg4.IsWhole) (arg5 : Memref sig .tc .vmem S1x704x1024 .bf16) (harg5 : arg5.IsWhole) (arg6 : Memref sig .tc .vmem S704x1024 .f32) (harg6 : arg6.IsWhole)
    (A : Vec F S1x1024x704 .bf16) (B : Vec F S4096x1024 .bf16) (d4 : Vec F S1x704x1024 .f32) (d5 : Vec F S1x704x1024 .bf16) (d6 : Vec F S704x1024 .f32) :
      ∀ (E : Set ℕ) (K : PUnit → sProp 𝕄),
        iprop(owns (c : Thread nD τ) arg2 fullShare A ∗ owns (c : Thread nD τ) arg3 fullShare B ∗ owns (c : Thread nD τ) arg4 fullShare d4 ∗ owns (c : Thread nD τ) arg5 fullShare d5 ∗ owns (c : Thread nD τ) arg6 fullShare d6
            ∗ (iprop(owns (c : Thread nD τ) arg2 fullShare A ∗ owns (c : Thread nD τ) arg3 fullShare B
                ∗ owns (c : Thread nD τ) arg4 fullShare (dwOut i (k2_pay3 (dwStep i A B d6)) d4)
                ∗ owns (c : Thread nD τ) arg5 fullShare (dwOut i (k2_pay4 (dwStep i A B d6)) d5)
                ∗ owns (c : Thread nD τ) arg6 fullShare (dwStep i A B d6)) -∗ K PUnit.unit))
          ⊢ wp frame (wpE (defs₀ (F := F)) Variants.none c none) E (cc2_dw_gate i arg2 harg2 arg3 harg3 arg4 harg4 arg5 harg5 arg6 harg6) K := by
  intro E K
  simp only [cc2_dw_gate_eq_skeleton]; unfold cc2_dw_gate_skel
  unfold owns
  by_cases hc1 : dwFirst i <;> by_cases hc2 : k2_cond2 i = 1#1
  all_goals
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc1 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      first
        | (rw [dwOut_neg hc2]; exact harg4.read_unread _)
        | (rw [dwOut_pos hc2]; frame_out; rw [View.read_writes_full]
           first | rw [dwStep_neg hc1] | rw [dwStep_pos hc1])
    isplitl [H5]
    · iexists _; isplitr; swap; · iexact H5
      ipureintro
      first
        | (rw [dwOut_neg hc2]; exact harg5.read_unread _)
        | (rw [dwOut_pos hc2]; frame_out; rw [View.read_writes_full]
           first | rw [dwStep_neg hc1] | rw [dwStep_pos hc1])
    iexists _; isplitr; swap; · iexact H6
    ipureintro
    frame_out
    rw [View.read_writes_full]
    first | rw [dwStep_neg hc1] | rw [dwStep_pos hc1]

theorem cc3_eq : cc3_dw_gate (F := F) = cc2_dw_gate (F := F) := rfl
theorem cc4_eq : cc4_dw_down (F := F) = cc2_dw_gate (F := F) := rfl

end Cert.Proof.Ffn

end
-- ==== Proof.FfnPay.lean ====
module

public import proofs.«01_k».proof.Proof.FfnSpec
public import proofs.«01_k».proof.Proof.FfnFwdRun
public import proofs.«01_k».proof.Proof.FfnBwdRun
public import proofs.«01_k».proof.Proof.FfnDwRun

@[expose] public section

set_option maxRecDepth 16384

noncomputable section

namespace Cert.Proof.Ffn

open Cert.FfnIdeal Cert.FfnIdeal.Gen
open Cert.Proof.Attn (coe_sum' div_real)
open Idealize.ShloMosaic Idealize.ShloMosaic.TcCoe Idealize.SL.Sem

/-! # The bodies' stored values and blocks of rows, at an index -/

section
variable {α : Type}
/-! ## A window of rows put over a buffer -/

theorem put4_in (x : S1024x1024.Idx → α) (o : ℕ) (w : S256x1024.Idx → α) (d : Fin 256) (j : Fin 1024) (h : o + d.val < 1024) :
    VecWindow.put x ![o, 0] S256x1024.size w (ix2 (⟨o + d.val, h⟩ : Fin 1024) j) = w (ix2 d j) := by
  unfold VecWindow.put
  rw [dif_pos (fun a => by
    match a with
    | ⟨0, _⟩ => exact ⟨Nat.le_add_right o d.val, Nat.add_lt_add_left d.isLt o⟩
    | ⟨1, _⟩ => exact ⟨Nat.zero_le _, by show j.val < 0 + 1024; omega⟩)]
  refine congrArg w (funext fun a => Fin.ext ?_)
  match a with
  | ⟨0, _⟩ => show o + d.val - o = d.val; omega
  | ⟨1, _⟩ => show j.val - 0 = j.val; omega
theorem put4_out (x : S1024x1024.Idx → α) (o : ℕ) (w : S256x1024.Idx → α) (r : Fin 1024) (j : Fin 1024) (h : r.val < o ∨ o + 256 ≤ r.val) :
    VecWindow.put x ![o, 0] S256x1024.size w (ix2 r j) = x (ix2 r j) := by
  unfold VecWindow.put
  rw [dif_neg (fun hh => by
    have := hh 0
    have h1 : o ≤ r.val ∧ r.val < o + 256 := this
    omega)]

theorem put2_in (x : S512x1024.Idx → α) (o : ℕ) (w : S256x1024.Idx → α) (d : Fin 256) (j : Fin 1024) (h : o + d.val < 512) :
    VecWindow.put x ![o, 0] S256x1024.size w (ix2 (⟨o + d.val, h⟩ : Fin 512) j) = w (ix2 d j) := by
  unfold VecWindow.put
  rw [dif_pos (fun a => by
    match a with
    | ⟨0, _⟩ => exact ⟨Nat.le_add_right o d.val, Nat.add_lt_add_left d.isLt o⟩
    | ⟨1, _⟩ => exact ⟨Nat.zero_le _, by show j.val < 0 + 1024; omega⟩)]
  refine congrArg w (funext fun a => Fin.ext ?_)
  match a with
  | ⟨0, _⟩ => show o + d.val - o = d.val; omega
  | ⟨1, _⟩ => show j.val - 0 = j.val; omega
theorem put2_out (x : S512x1024.Idx → α) (o : ℕ) (w : S256x1024.Idx → α) (r : Fin 512) (j : Fin 1024) (h : r.val < o ∨ o + 256 ≤ r.val) :
    VecWindow.put x ![o, 0] S256x1024.size w (ix2 r j) = x (ix2 r j) := by
  unfold VecWindow.put
  rw [dif_neg (fun hh => by
    have := hh 0
    have h1 : o ≤ r.val ∧ r.val < o + 256 := this
    omega)]

theorem put4h_in (x : S1x1024x704.Idx → α) (o : ℕ) (w : S1x256x704.Idx → α) (d : Fin 256) (j : Fin 704) (h : o + d.val < 1024) :
    VecWindow.put x ![0, o, 0] S1x256x704.size w (ix3 (0 : Fin 1) (⟨o + d.val, h⟩ : Fin 1024) j) = w (ix3 0 d j) := by
  unfold VecWindow.put
  rw [dif_pos (fun a => by
    match a with
    | ⟨0, _⟩ => exact ⟨Nat.zero_le _, by show 0 < 0 + 1; omega⟩
    | ⟨1, _⟩ => exact ⟨Nat.le_add_right o d.val, Nat.add_lt_add_left d.isLt o⟩
    | ⟨2, _⟩ => exact ⟨Nat.zero_le _, by show j.val < 0 + 704; omega⟩)]
  refine congrArg w (funext fun a => Fin.ext ?_)
  match a with
  | ⟨0, _⟩ => rfl
  | ⟨1, _⟩ => show o + d.val - o = d.val; omega
  | ⟨2, _⟩ => show j.val - 0 = j.val; omega
theorem put4h_out (x : S1x1024x704.Idx → α) (o : ℕ) (w : S1x256x704.Idx → α) (r : Fin 1024) (j : Fin 704) (h : r.val < o ∨ o + 256 ≤ r.val) :
    VecWindow.put x ![0, o, 0] S1x256x704.size w (ix3 (0 : Fin 1) r j) = x (ix3 0 r j) := by
  unfold VecWindow.put
  rw [dif_neg (fun hh => by
    have := hh 1
    have h1 : o ≤ r.val ∧ r.val < o + 256 := this
    omega)]

theorem put2h_in (x : S1x512x704.Idx → α) (o : ℕ) (w : S1x256x704.Idx → α) (d : Fin 256) (j : Fin 704) (h : o + d.val < 512) :
    VecWindow.put x ![0, o, 0] S1x256x704.size w (ix3 (0 : Fin 1) (⟨o + d.val, h⟩ : Fin 512) j) = w (ix3 0 d j) := by
  unfold VecWindow.put
  rw [dif_pos (fun a => by
    match a with
    | ⟨0, _⟩ => exact ⟨Nat.zero_le _, by show 0 < 0 + 1; omega⟩
    | ⟨1, _⟩ => exact ⟨Nat.le_add_right o d.val, Nat.add_lt_add_left d.isLt o⟩
    | ⟨2, _⟩ => exact ⟨Nat.zero_le _, by show j.val < 0 + 704; omega⟩)]
  refine congrArg w (funext fun a => Fin.ext ?_)
  match a with
  | ⟨0, _⟩ => rfl
  | ⟨1, _⟩ => show o + d.val - o = d.val; omega
  | ⟨2, _⟩ => show j.val - 0 = j.val; omega
theorem put2h_out (x : S1x512x704.Idx → α) (o : ℕ) (w : S1x256x704.Idx → α) (r : Fin 512) (j : Fin 704) (h : r.val < o ∨ o + 256 ≤ r.val) :
    VecWindow.put x ![0, o, 0] S1x256x704.size w (ix3 (0 : Fin 1) r j) = x (ix3 0 r j) := by
  unfold VecWindow.put
  rw [dif_neg (fun hh => by
    have := hh 1
    have h1 : o ≤ r.val ∧ r.val < o + 256 := this
    omega)]

end

theorem row_split (r : Fin 1024) : (∃ q : Fin 256, r = ⟨0 + q.val, by omega⟩) ∨ (∃ q : Fin 256, r = ⟨256 + q.val, by omega⟩) ∨ (∃ q : Fin 256, r = ⟨512 + q.val, by omega⟩) ∨ (∃ q : Fin 256, r = ⟨768 + q.val, by omega⟩) := by
  have := r.isLt
  by_cases h0 : r.val < 256
  · exact .inl ⟨⟨r.val, h0⟩, Fin.ext (Nat.zero_add _).symm⟩
  by_cases h1 : r.val < 512
  · exact .inr (.inl ⟨⟨r.val - 256, by omega⟩, Fin.ext (show r.val = 256 + (r.val - 256) by omega)⟩)
  by_cases h2 : r.val < 768
  · exact .inr (.inr (.inl ⟨⟨r.val - 512, by omega⟩, Fin.ext (show r.val = 512 + (r.val - 512) by omega)⟩))
  · exact .inr (.inr (.inr ⟨⟨r.val - 768, by omega⟩, Fin.ext (show r.val = 768 + (r.val - 768) by omega)⟩))
theorem row_split2 (r : Fin 512) : (∃ q : Fin 256, r = ⟨0 + q.val, by omega⟩) ∨ (∃ q : Fin 256, r = ⟨256 + q.val, by omega⟩) := by
  have := r.isLt
  by_cases h0 : r.val < 256
  · exact .inl ⟨⟨r.val, h0⟩, Fin.ext (Nat.zero_add _).symm⟩
  · exact .inr ⟨⟨r.val - 256, by omega⟩, Fin.ext (show r.val = 256 + (r.val - 256) by omega)⟩

/-- Four blocks of rows that each hold their part of `f` make up `f`. -/
theorem put4_at {e : EltTy} (X : Vec Ideal S1024x1024 e) (p0 p1 p2 p3 : Vec Ideal S256x1024 e) (f : Fin 1024 → Fin 1024 → Elt Ideal e)
    (h0 : ∀ (q : Fin 256) d, p0 (ix2 q d) = f ⟨0 + q.val, by omega⟩ d) (h1 : ∀ (q : Fin 256) d, p1 (ix2 q d) = f ⟨256 + q.val, by omega⟩ d)
    (h2 : ∀ (q : Fin 256) d, p2 (ix2 q d) = f ⟨512 + q.val, by omega⟩ d) (h3 : ∀ (q : Fin 256) d, p3 (ix2 q d) = f ⟨768 + q.val, by omega⟩ d) (r d : Fin 1024) :
    put4 X p0 p1 p2 p3 (ix2 r d) = f r d := by
  unfold put4
  rcases row_split r with ⟨q, rfl⟩ | ⟨q, rfl⟩ | ⟨q, rfl⟩ | ⟨q, rfl⟩
  · rw [put4_out _ 768 _ _ _ (.inl (show 0 + q.val < 768 by omega)), put4_out _ 512 _ _ _ (.inl (show 0 + q.val < 512 by omega)), put4_out _ 256 _ _ _ (.inl (show 0 + q.val < 256 by omega)), put4_in, h0]
  · rw [put4_out _ 768 _ _ _ (.inl (show 256 + q.val < 768 by omega)), put4_out _ 512 _ _ _ (.inl (show 256 + q.val < 512 by omega)), put4_in, h1]
  · rw [put4_out _ 768 _ _ _ (.inl (show 512 + q.val < 768 by omega)), put4_in, h2]
  · rw [put4_in, h3]
theorem put4h_at {e : EltTy} (X : Vec Ideal S1x1024x704 e) (p0 p1 p2 p3 : Vec Ideal S1x256x704 e) (f : Fin 1024 → Fin 704 → Elt Ideal e)
    (h0 : ∀ (q : Fin 256) d, p0 (ix3 0 q d) = f ⟨0 + q.val, by omega⟩ d) (h1 : ∀ (q : Fin 256) d, p1 (ix3 0 q d) = f ⟨256 + q.val, by omega⟩ d)
    (h2 : ∀ (q : Fin 256) d, p2 (ix3 0 q d) = f ⟨512 + q.val, by omega⟩ d) (h3 : ∀ (q : Fin 256) d, p3 (ix3 0 q d) = f ⟨768 + q.val, by omega⟩ d) (r : Fin 1024) (d : Fin 704) :
    put4h X p0 p1 p2 p3 (ix3 0 r d) = f r d := by
  unfold put4h
  rcases row_split r with ⟨q, rfl⟩ | ⟨q, rfl⟩ | ⟨q, rfl⟩ | ⟨q, rfl⟩
  · rw [put4h_out _ 768 _ _ _ (.inl (show 0 + q.val < 768 by omega)), put4h_out _ 512 _ _ _ (.inl (show 0 + q.val < 512 by omega)), put4h_out _ 256 _ _ _ (.inl (show 0 + q.val < 256 by omega)), put4h_in, h0]
  · rw [put4h_out _ 768 _ _ _ (.inl (show 256 + q.val < 768 by omega)), put4h_out _ 512 _ _ _ (.inl (show 256 + q.val < 512 by omega)), put4h_in, h1]
  · rw [put4h_out _ 768 _ _ _ (.inl (show 512 + q.val < 768 by omega)), put4h_in, h2]
  · rw [put4h_in, h3]
theorem put2_at {e : EltTy} (X : Vec Ideal S512x1024 e) (p0 p1 : Vec Ideal S256x1024 e) (f : Fin 512 → Fin 1024 → Elt Ideal e)
    (h0 : ∀ (q : Fin 256) d, p0 (ix2 q d) = f ⟨0 + q.val, by omega⟩ d) (h1 : ∀ (q : Fin 256) d, p1 (ix2 q d) = f ⟨256 + q.val, by omega⟩ d) (r : Fin 512) (d : Fin 1024) :
    put2 X p0 p1 (ix2 r d) = f r d := by
  unfold put2
  rcases row_split2 r with ⟨q, rfl⟩ | ⟨q, rfl⟩
  · rw [put2_out _ 256 _ _ _ (.inl (show 0 + q.val < 256 by omega)), put2_in, h0]
  · rw [put2_in, h1]
theorem put2h_at {e : EltTy} (X : Vec Ideal S1x512x704 e) (p0 p1 : Vec Ideal S1x256x704 e) (f : Fin 512 → Fin 704 → Elt Ideal e)
    (h0 : ∀ (q : Fin 256) d, p0 (ix3 0 q d) = f ⟨0 + q.val, by omega⟩ d) (h1 : ∀ (q : Fin 256) d, p1 (ix3 0 q d) = f ⟨256 + q.val, by omega⟩ d) (r : Fin 512) (d : Fin 704) :
    put2h X p0 p1 (ix3 0 r d) = f r d := by
  unfold put2h
  rcases row_split2 r with ⟨q, rfl⟩ | ⟨q, rfl⟩
  · rw [put2h_out _ 256 _ _ _ (.inl (show 0 + q.val < 256 by omega)), put2h_in, h0]
  · rw [put2h_in, h1]

/-! ## Loads -/

theorem rowsAt_at {e : EltTy} (r : ℕ) (h : r + 256 ≤ 1024) (X : Vec Ideal S1024x1024 e) (q : Fin 256) (d : Fin 1024) : rowsAt r h X (ix2 q d) = X (ix2 (⟨r + q.val, by omega⟩ : Fin 1024) d) :=
  View.ld_unit_apply_of X _ _ _ _ _ (fun a => by
    match a with
    | ⟨0, _⟩ => rfl
    | ⟨1, _⟩ => exact (Nat.zero_add _).symm)
theorem rowsB_at {e : EltTy} (r : ℕ) (h : r + 256 ≤ 512) (X : Vec Ideal S512x1024 e) (q : Fin 256) (d : Fin 1024) : rowsB r h X (ix2 q d) = X (ix2 (⟨r + q.val, by omega⟩ : Fin 512) d) :=
  View.ld_unit_apply_of X _ _ _ _ _ (fun a => by
    match a with
    | ⟨0, _⟩ => rfl
    | ⟨1, _⟩ => exact (Nat.zero_add _).symm)
theorem rowsBh_at (r : ℕ) (h : r + 256 ≤ 512) (X : Vec Ideal S1x512x704 .bf16) (q : Fin 256) (d : Fin 704) : rowsBh (F := Ideal) r h X (ix3 0 q d) = X (ix3 0 (⟨r + q.val, by omega⟩ : Fin 512) d) :=
  View.ld_unit_apply_of X _ _ _ _ _ (fun a => by
    match a with
    | ⟨0, _⟩ => rfl
    | ⟨1, _⟩ => rfl
    | ⟨2, _⟩ => exact (Nat.zero_add _).symm)

/-! ## The forward call's values -/

theorem p0_1 (v s : Vec Ideal S1024x1024 .f32) (q d : Fin 1024) : k0_pay1 v s (ix2 q d) = v (ix2 q d) + Ideal.ofBits .f32 0x3F000000#32 * s (ix2 q d) := rfl
theorem p0_2 (x : Vec Ideal S1024x1024 .f32) (g : Vec Ideal S1x1024 .f32) (q d : Fin 1024) :
    k0_pay2 x g (ix2 q d) = x (ix2 q d) * Ideal.rsqrt (Ideal.div (∑ d : Fin 1024, x (ix2 q d) * x (ix2 q d)) (Ideal.ofBits .f32 0x44800000#32) + Ideal.ofBits .f32 0x358637BD#32) * g (ix2 0 d) := by
  pointwise [k0_pay2]
theorem p0_3 (x : Vec Ideal S1024x1024 .f32) (g : Vec Ideal S1x1024 .f32) (q d : Fin 1024) : k0_pay3 x g (ix2 q d) = k0_pay2 x g (ix2 q d) := by
  unfold k0_pay3; generalize k0_pay2 x g = Y; pointwise
theorem p0_4 (q d : Fin 1024) : k0_pay4 (F := Ideal) (ix2 q d) = 0 := by
  refine Eq.trans ?_ Ideal.ofBits_zero_f32
  pointwise [k0_pay4]
theorem p0_5 (H : Vec Ideal S256x1024 .bf16) (w : Vec Ideal S1x704x1024 .bf16) (q : Fin 256) (k : Fin 704) : k0_pay5 H w (ix2 q k) = ∑ d : Fin 1024, H (ix2 q d) * w (ix3 0 k d) := by
  pointwise [k0_pay5]
theorem p0_15 (a b : FVec Ideal S256x704 .f32) (X : Vec Ideal S256x1024 .f32) (w : Vec Ideal S1x704x1024 .bf16) (q : Fin 256) (d : Fin 1024) :
    k0_pay15 a b X w (ix2 q d) = X (ix2 q d) + ∑ k : Fin 704, a (ix2 q k) * Ideal.logistic (a (ix2 q k)) * b (ix2 q k) * w (ix3 0 k d) := by
  pointwise [k0_pay15, k0_pay14, k0_pay13]
theorem p0_16 (a : FVec Ideal S256x704 .f32) (q : Fin 256) (k : Fin 704) : k0_pay16 a (ix3 0 q k) = a (ix2 q k) * Ideal.logistic (a (ix2 q k)) := by
  pointwise [k0_pay16, k0_pay14, k0_pay13]
theorem p0_18 (a : FVec Ideal S256x704 .f32) (q : Fin 256) (k : Fin 704) :
    dsiluBlk (F := Ideal) a (ix3 0 q k) = Ideal.logistic (a (ix2 q k)) * (Ideal.ofBits .f32 0x3F800000#32 + a (ix2 q k) * (Ideal.ofBits .f32 0x3F800000#32 - Ideal.logistic (a (ix2 q k)))) := by
  pointwise [dsiluBlk, k0_pay18, k0_pay17, k0_pay13]
theorem p0_19 (a : FVec Ideal S256x704 .f32) (q : Fin 256) (k : Fin 704) : k0_pay19 a (ix3 0 q k) = a (ix2 q k) := by
  pointwise [k0_pay19]

/-! ## The backward call's values -/

theorem p1_1 (x : Vec Ideal S512x1024 .f32) (q : Fin 512) :
    k1_pay1 x (ix2 q 0) = Ideal.rsqrt (Ideal.div (∑ d : Fin 1024, x (ix2 q d) * x (ix2 q d)) (Ideal.ofBits .f32 0x44800000#32) + Ideal.ofBits .f32 0x358637BD#32) := by
  pointwise [k1_pay1]
theorem p1_2 (x dh : Vec Ideal S512x1024 .f32) (g : Vec Ideal S1x1024 .f32) (dy : Vec Ideal S512x1024 .f32) (q : Fin 512) (d : Fin 1024) :
    k1_pay2 x dh g dy (ix2 q d) = dy (ix2 q d) + k1_pay1 x (ix2 q 0) * (dh (ix2 q d) * g (ix2 0 d))
      - x (ix2 q d) * (k1_pay1 x (ix2 q 0) * k1_pay1 x (ix2 q 0) * k1_pay1 x (ix2 q 0)) * Ideal.div (∑ d : Fin 1024, dh (ix2 q d) * g (ix2 0 d) * x (ix2 q d)) (Ideal.ofBits .f32 0x44800000#32) := by
  unfold k1_pay2; generalize k1_pay1 x = R; pointwise
theorem p1_3 (x dh : Vec Ideal S512x1024 .f32) (X : Vec Ideal S1x1024 .f32) (d : Fin 1024) :
    k1_pay3 x dh X (ix2 0 d) = X (ix2 0 d) + ∑ q : Fin 512, dh (ix2 q d) * x (ix2 q d) * k1_pay1 x (ix2 q 0) := by
  unfold k1_pay3; generalize k1_pay1 x = R; pointwise
theorem p1_4 (q : Fin 512) (d : Fin 1024) : k1_pay4 (F := Ideal) (ix2 q d) = 0 := by
  refine Eq.trans ?_ Ideal.ofBits_zero_f32
  pointwise [k1_pay4]
theorem p1_5 (y : Vec Ideal S512x1024 .f32) (q : Fin 512) (d : Fin 1024) : k1_pay5 y (ix2 q d) = Ideal.ofBits .f32 0x3F000000#32 * y (ix2 q d) := by
  pointwise [k1_pay5]
theorem p1_6 (d : Fin 1024) : k1_pay6 (F := Ideal) (ix2 0 d) = 0 := by
  refine Eq.trans ?_ Ideal.ofBits_zero_f32
  pointwise [k1_pay6]
theorem p1_7 (D : Vec Ideal S256x1024 .bf16) (w : Vec Ideal S1x704x1024 .bf16) (q : Fin 256) (k : Fin 704) : k1_pay7 D w (ix2 q k) = ∑ d : Fin 1024, D (ix2 q d) * w (ix3 0 k d) := by
  pointwise [k1_pay7]
theorem p1_9 (v : Vec Ideal S1x256x704 .bf16) (q : Fin 256) (k : Fin 704) : k1_pay9 v (ix2 q k) = v (ix3 0 q k) := by
  pointwise [k1_pay9]
theorem p1_10 (v : Vec Ideal S1x256x704 .bf16) (q : Fin 256) (k : Fin 704) : k1_pay10 v (ix2 q k) = v (ix3 0 q k) := by
  pointwise [k1_pay10]
theorem p1_11 (D : Vec Ideal S256x1024 .bf16) (w : Vec Ideal S1x704x1024 .bf16) (b ds : Vec Ideal S1x256x704 .bf16) (q : Fin 256) (k : Fin 704) :
    k1_pay11 D w b ds (ix2 q k) = k1_pay7 D w (ix2 q k) * b (ix3 0 q k) * ds (ix3 0 q k) := by
  unfold k1_pay11; generalize k1_pay7 D w = Y; pointwise [k1_pay10]
theorem p1_12 (a b : FVec Ideal S256x704 .f32) (q : Fin 256) (k : Fin 704) : k1_pay12 a b (ix2 q k) = a (ix2 q k) * b (ix2 q k) := by
  pointwise [k1_pay12]
theorem p1_13 (a : FVec Ideal S256x704 .bf16) (q : Fin 256) (k : Fin 704) : k1_pay13 a (ix3 0 q k) = a (ix2 q k) := by
  pointwise [k1_pay13]

theorem p1_14 (a b : FVec Ideal S256x704 .f32) (q : Fin 256) (k : Fin 704) : k1_pay14 a b (ix3 0 q k) = a (ix2 q k) * b (ix2 q k) := by
  pointwise [k1_pay14, k1_pay12]
theorem p1_15 (a b : FVec Ideal S256x704 .f32) (q : Fin 256) (k : Fin 704) : k1_pay15 a b (ix3 0 q k) = a (ix2 q k) * b (ix2 q k) := by
  pointwise [k1_pay15]
theorem p1_23 (a b : FVec Ideal S256x704 .bf16) (X : Vec Ideal S256x1024 .f32) (wg wu : Vec Ideal S1x704x1024 .bf16) (q : Fin 256) (d : Fin 1024) :
    k1_pay23 a b X wg wu (ix2 q d) = X (ix2 q d) + ((∑ k : Fin 704, a (ix2 q k) * wg (ix3 0 k d)) + ∑ k : Fin 704, b (ix2 q k) * wu (ix3 0 k d)) := by
  pointwise [k1_pay23]

/-! ## The weight calls' values -/

theorem p2_1 (k : Fin 704) (d : Fin 1024) : k2_pay1 (F := Ideal) (ix2 k d) = 0 := by
  refine Eq.trans ?_ Ideal.ofBits_zero_f32
  pointwise [k2_pay1]
theorem p2_2 (X : Vec Ideal S704x1024 .f32) (A : Vec Ideal S1x1024x704 .bf16) (B : Vec Ideal S1024x1024 .bf16) (k : Fin 704) (d : Fin 1024) :
    k2_pay2 X A B (ix2 k d) = X (ix2 k d) + ∑ t : Fin 1024, A (ix3 0 t k) * B (ix2 t d) := by
  pointwise [k2_pay2]
theorem p2_3 (X : Vec Ideal S704x1024 .f32) (k : Fin 704) (d : Fin 1024) : k2_pay3 X (ix3 0 k d) = X (ix2 k d) := by
  pointwise [k2_pay3]
theorem dwRows_at (i : grid2.Coords) (X : Vec Ideal S4096x1024 .bf16) (t d : Fin 1024) : dwRows i X (ix2 t d) = X (ix2 (⟨1024 * (i 1).val + t.val, by have : (i 1).val < 4 := (i 1).isLt; omega⟩ : Fin 4096) d) :=
  View.ld_unit_apply_of X _ _ _ _ _ (fun a => by
    refine Eq.trans ?_ (congrArg (· + (ix2 t d a).val) (congrFun (dw_off_eq i) a).symm)
    match a with
    | ⟨0, _⟩ => rfl
    | ⟨1, _⟩ => exact (Nat.zero_add _).symm)

end Cert.Proof.Ffn
end
-- ==== Proof.FfnKit.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the five calls' frames share -/

/-- A value carried from point to point: `z`, then one step per point. -/
def fold {α : Type} {N : ℕ} (step : Fin N → α → α) (z : α) : ℕ → α
  | 0 => z
  | n + 1 => if h : n < N then step ⟨n, h⟩ (fold step z n) else fold step z n

theorem fold_succ {α : Type} {N : ℕ} (step : Fin N → α → α) (z : α) (t : Fin N) : fold step z (t.val + 1) = step t (fold step z t.val) := by
  rw [fold, dif_pos t.isLt]

theorem castSucc_val {N : ℕ} (t : Fin N) : t.castSucc.val = t.val := rfl
theorem succ_val {N : ℕ} (t : Fin N) : t.succ.val = t.val + 1 := rfl

/-- A staging buffer is handed back as the body obligation asks: where the body stores nothing and the block is not
    written back, at what it held; elsewhere at what the proof data name. -/
theorem leaves_of {cfg : Cfg sig Λ₀} {c : Dev nD} (dat : Dat τ (Elt F) Unit ℕ (UR sig nD τ) ℕ cfg c) (w : Fin cfg.W) (t : Fin cfg.N) (d) (X)
    (hb : cfg.idle w (cfg.grid.coords t) = true → (cfg.win w).flush t = false → X = dat.before w t d)
    (ha : cfg.idle w (cfg.grid.coords t) = false ∨ (cfg.win w).flush t = true → X = dat.after w t) :
    (owns (c : Thread nD τ) ((cfg.win w).stage (cfg.slots t w)) fullShare X : sProp 𝕄) ⊢ dat.leavesExact w t := by
  cases h : cfg.idle w (cfg.grid.coords t)
  · unfold Dat.leavesExact; rw [h, ha (.inl h)]
  cases hf : (cfg.win w).flush t
  · rw [dat.leavesExact_idle w t h hf, hb h hf]
    iintro H; iexists d; iexact H
  · unfold Dat.leavesExact; rw [h, hf, ha (.inr hf)]

end Cert.Proof.Ffn

end
-- ==== Proof.FfnFwdFrame.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit
public import proofs.«01_k».proof.Proof.FfnFwdRun
public import proofs.«01_k».proof.Proof.FfnKit
public import Idealize.ShloMosaic.Lib.Pipeline.TableIdle

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame of the forward call -/

/-! ## The forward call -/

section
variable (W : (c : Dev nD) → Valuation τ sig (Elt F))

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- The normalized rows' operand, the running sum and the operand's output block, after the first `n` points. -/
def hsF (c : Dev nD) : ℕ → Vec F S1024x1024 .bf16 :=
  fold (fun (t : Fin cfg0.N) H => hsStep (grid0.coords t) (iblk0 W c 0 t) (iblk0 W c 1 t) H) (View.canon (Val := Elt F) [])
def accF (c : Dev nD) : ℕ → Vec F S1024x1024 .f32 :=
  fold (fun (t : Fin cfg0.N) A => accStep (grid0.coords t) (iblk0 W c 0 t) (iblk0 W c 1 t) (iblk0 W c 2 t) (iblk0 W c 3 t) (iblk0 W c 4 t) A (hsF W c t.val)) (View.canon (Val := Elt F) [])
def hbF (c : Dev nD) : ℕ → Vec F S1024x1024 .bf16 :=
  fold (fun (t : Fin cfg0.N) H => hbOut (grid0.coords t) (iblk0 W c 0 t) (iblk0 W c 1 t) H) (View.canon (Val := Elt F) [])
abbrev scM0_0 : Memref sig .tc .vmem S1024x1024 .f32 := Memref.whole cc0_scratch0
abbrev scM0_1 : Memref sig .tc .vmem S1024x1024 .bf16 := Memref.whole cc0_scratch1

/-- Between points: the scratch at the carried contents (at any contents before the first point), the rest unopened. -/
def phi0 (c : Dev nD) (n : ℕ) : sProp 𝕄 :=
  iprop((∃ s0 s1, ⌜n ≠ 0 → s0 = accF W c n ∧ s1 = hsF W c n⌝ ∗ owns (c : Thread nD τ) scM0_0 fullShare s0 ∗ owns (c : Thread nD τ) scM0_1 fullShare s1) ∗ Pipeline.scopedRestBut spec0 c [cc0_scratch0, cc0_scratch1] ∗ (∃ r, prngReg c r))

def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => k0_pay1 (iblk0 W c 0 t) (accF W c (t.val + 1))
    | ⟨6, _⟩ => siluOut (hsF W c (t.val + 1)) (iblk0 W c 2 t)
    | ⟨7, _⟩ => dsiluOut (hsF W c (t.val + 1)) (iblk0 W c 2 t)
    | ⟨8, _⟩ => upOut (hsF W c (t.val + 1)) (iblk0 W c 3 t)
    | ⟨9, _⟩ => hbF W c (t.val + 1)
  Φ t := phi0 W c t.val
  q _ := fullShare
  owed _ := 0

theorem A_eq0 (c : Dev nD) (w : Fin cfg0.W) : (dat0 W c).A w = W c (Pipeline.arrRef spec0 w) := by dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = k0_pay1 (iblk0 W c 0 t) (accF W c (t.val + 1)) := by dsimp only [dat0]
theorem after0_6 (c : Dev nD) (t : Fin cfg0.N) : (dat0 W c).after 6 t = siluOut (hsF W c (t.val + 1)) (iblk0 W c 2 t) := by dsimp only [dat0]
theorem after0_7 (c : Dev nD) (t : Fin cfg0.N) : (dat0 W c).after 7 t = dsiluOut (hsF W c (t.val + 1)) (iblk0 W c 2 t) := by dsimp only [dat0]
theorem after0_8 (c : Dev nD) (t : Fin cfg0.N) : (dat0 W c).after 8 t = upOut (hsF W c (t.val + 1)) (iblk0 W c 3 t) := by dsimp only [dat0]
theorem after0_9 (c : Dev nD) (t : Fin cfg0.N) : (dat0 W c).after 9 t = hbF W c (t.val + 1) := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

theorem fwdFirst_iff : ∀ t : Fin grid0.N, fwdFirst (grid0.coords t) ↔ t.val % 4 = 0 := by unfold fwdFirst; decide +kernel
theorem fwdFirst_zero (t : Fin grid0.N) (h : t.val = 0) : fwdFirst (grid0.coords t) := (fwdFirst_iff t).mpr (by rw [h])

theorem hs_step (c : Dev nD) (t : Fin cfg0.N) (s1) (hs : t.val ≠ 0 → s1 = hsF W c t.val) :
    hsStep (grid0.coords t) (iblk0 W c 0 t) (iblk0 W c 1 t) s1 = hsF W c (t.val + 1) := by
  rw [hsF, fold_succ]
  by_cases h0 : t.val = 0
  · rw [hsStep_pos (fwdFirst_zero t h0), hsStep_pos (fwdFirst_zero t h0)]
  · rw [hs h0]; rfl

theorem acc_step (c : Dev nD) (t : Fin cfg0.N) (s0 s1) (hs : t.val ≠ 0 → s0 = accF W c t.val ∧ s1 = hsF W c t.val) :
    accStep (grid0.coords t) (iblk0 W c 0 t) (iblk0 W c 1 t) (iblk0 W c 2 t) (iblk0 W c 3 t) (iblk0 W c 4 t) s0 s1 = accF W c (t.val + 1) := by
  rw [accF, fold_succ, accStep, accStep, hs_step W c t s1 (fun h => (hs h).2), hs_step W c t (hsF W c t.val) (fun _ => rfl)]
  by_cases h0 : t.val = 0
  · rw [fwdPrior_pos (fwdFirst_zero t h0), fwdPrior_pos (fwdFirst_zero t h0)]
  · rw [(hs h0).1]; rfl

/-- The operand's output block is fresh at each tile's first point, where it is stored, and kept through the tile. -/
theorem fresh0_9 : ∀ n, n ≤ cfg0.N → cfg0.fresh 9 n = (n % 4 == 0) :=
  Pipeline.Cfg.fresh_tab (cfg := cfg0) 9 (fun n => n % 4 == 0) rfl (by decide +kernel)

theorem idle0_9 : ∀ t : Fin cfg0.N, cfg0.idle 9 (cfg0.grid.coords t) = true → ¬ fwdFirst (grid0.coords t) := by unfold fwdFirst; decide +kernel
theorem idle0_5 : ∀ t : Fin cfg0.N, cfg0.idle 5 (cfg0.grid.coords t) = !((cfg0.win 5).flush t) := by decide +kernel

theorem before0_9 (c : Dev nD) (t : Fin cfg0.N) (d) : (dat0 W c).before 9 t d = if cfg0.fresh 9 t.val then d else hbF W c t.val := by
  rw [Pipeline.Dat.before_out_traj (dat0 W c) 9 rfl (fun _ _ => rfl) ?_ t.val t rfl d]
  · by_cases hf : cfg0.fresh 9 t.val = true
    · rw [if_pos hf, if_pos hf]
    · rw [if_neg hf, if_neg hf, after0_9]
      have h0 : t.val ≠ 0 := fun h => hf (by rw [h]; exact Pipeline.Cfg.fresh_zero _ _)
      congr 1; show t.val - 1 + 1 = t.val; omega
  · intro t h0 hi _
    rw [after0_9, after0_9, show hbF W c (t.val + 1) = hbOut (grid0.coords t) (iblk0 W c 0 t) (iblk0 W c 1 t) (hbF W c t.val) from by rw [hbF, fold_succ],
      hbOut_neg (idle0_9 t hi)]
    congr 1; show t.val = t.val - 1 + 1; omega

theorem hb_step (c : Dev nD) (t : Fin cfg0.N) (d) :
    hbOut (grid0.coords t) (iblk0 W c 0 t) (iblk0 W c 1 t) ((dat0 W c).before 9 t d) = hbF W c (t.val + 1) := by
  rw [hbF, fold_succ, before0_9, fresh0_9 t.val (le_of_lt t.isLt)]
  by_cases h : fwdFirst (grid0.coords t)
  · rw [hbOut_pos h, hbOut_pos h]
  · rw [if_neg (by simpa using fun e => h ((fwdFirst_iff t).mpr e))]; rfl

theorem fwd_idle {i : grid0.Coords} (h : (!(k0_cond2 i == 1#1)) = true) : ¬ k0_cond2 i = 1#1 := by simpa using h
theorem fwd_busy {i : grid0.Coords} (h : (!(k0_cond2 i == 1#1)) = false) : k0_cond2 i = 1#1 := by simpa using h

theorem phi0_castSucc (c : Dev nD) (t : Fin cfg0.N) : (dat0 W c).Φ t.castSucc = phi0 W c t.val := congrArg (phi0 W c) (castSucc_val t)
theorem phi0_succ (c : Dev nD) (t : Fin cfg0.N) : (dat0 W c).Φ t.succ = phi0 W c (t.val + 1) := congrArg (phi0 W c) (succ_val t)

/-- The scratch comes from the region's scoped buffers and goes back to them. -/
theorem phi0_in (c : Dev nD) : iprop(Pipeline.scopedRest spec0 c ∗ (∃ r, prngReg c r)) ⊢ phi0 W c 0 := by
  unfold phi0; rw [scopedRest0_split]
  iintro ⟨⟨⟨⟨%f0, H0⟩, ⟨%f1, H1⟩⟩, Hr⟩, Hg⟩
  isplitl [H0 H1]
  · iexists f0; iexists f1
    isplitr; · ipureintro; exact fun h => absurd rfl h
    rw [owns_whole, owns_whole]
    isplitl [H0]; · iexact H0
    iexact H1
  isplitl [Hr]; · iexact Hr
  iexact Hg

theorem phi0_out (c : Dev nD) (n : ℕ) : phi0 W c n ⊢ iprop(Pipeline.scopedRest spec0 c ∗ (∃ r, prngReg c r)) := by
  unfold phi0; rw [scopedRest0_split]
  iintro ⟨⟨%s0, %s1, -, H0, H1⟩, Hr, Hg⟩
  isplitr [Hg]
  · isplitr [Hr]
    · isplitl [H0]
      · iexists s0; rw [← owns_whole]; iexact H0
      iexists s1; rw [← owns_whole]; iexact H1
    iexact Hr
  iexact Hg

/-- What the body is called with at point `t`, and what it returns. -/
def bodyPre0 (c : Dev nD) (t : Fin cfg0.N) : sProp 𝕄 :=
  iprop((dat0 W c).Φ t.castSucc ∗ (dat0 W c).owesAt () t.castSucc
    ∗ (∃ d, owns (c : Thread nD τ) (win0_0.stage (cfg0.slots t 0)) fullShare ((dat0 W c).before 0 t d))
    ∗ (∃ d, owns (c : Thread nD τ) (win0_1.stage (cfg0.slots t 1)) fullShare ((dat0 W c).before 1 t d))
    ∗ (∃ d, owns (c : Thread nD τ) (win0_2.stage (cfg0.slots t 2)) fullShare ((dat0 W c).before 2 t d))
    ∗ (∃ d, owns (c : Thread nD τ) (win0_3.stage (cfg0.slots t 3)) fullShare ((dat0 W c).before 3 t d))
    ∗ (∃ d, owns (c : Thread nD τ) (win0_4.stage (cfg0.slots t 4)) fullShare ((dat0 W c).before 4 t d))
    ∗ (∃ d, owns (c : Thread nD τ) (win0_5.stage (cfg0.slots t 5)) fullShare ((dat0 W c).before 5 t d))
    ∗ (∃ d, owns (c : Thread nD τ) (win0_6.stage (cfg0.slots t 6)) fullShare ((dat0 W c).before 6 t d))
    ∗ (∃ d, owns (c : Thread nD τ) (win0_7.stage (cfg0.slots t 7)) fullShare ((dat0 W c).before 7 t d))
    ∗ (∃ d, owns (c : Thread nD τ) (win0_8.stage (cfg0.slots t 8)) fullShare ((dat0 W c).before 8 t d))
    ∗ (∃ d, owns (c : Thread nD τ) (win0_9.stage (cfg0.slots t 9)) fullShare ((dat0 W c).before 9 t d)))

def bodyPost0 (c : Dev nD) (t : Fin cfg0.N) : sProp 𝕄 :=
  iprop((dat0 W c).Φ t.succ ∗ (dat0 W c).owesAt () t.succ
    ∗ owns (c : Thread nD τ) (win0_0.stage (cfg0.slots t 0)) fullShare ((dat0 W c).after 0 t)
    ∗ owns (c : Thread nD τ) (win0_1.stage (cfg0.slots t 1)) fullShare ((dat0 W c).after 1 t)
    ∗ owns (c : Thread nD τ) (win0_2.stage (cfg0.slots t 2)) fullShare ((dat0 W c).after 2 t)
    ∗ owns (c : Thread nD τ) (win0_3.stage (cfg0.slots t 3)) fullShare ((dat0 W c).after 3 t)
    ∗ owns (c : Thread nD τ) (win0_4.stage (cfg0.slots t 4)) fullShare ((dat0 W c).after 4 t)
    ∗ (dat0 W c).leavesExact 5 t
    ∗ owns (c : Thread nD τ) (win0_6.stage (cfg0.slots t 6)) fullShare ((dat0 W c).after 6 t)
    ∗ owns (c : Thread nD τ) (win0_7.stage (cfg0.slots t 7)) fullShare ((dat0 W c).after 7 t)
    ∗ owns (c : Thread nD τ) (win0_8.stage (cfg0.slots t 8)) fullShare ((dat0 W c).after 8 t)
    ∗ (dat0 W c).leavesExact 9 t)

set_option maxHeartbeats 4000000 in
/-- The body's triple at any point of the grid. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4]
  rw [phi0_castSucc, phi0_succ, show (dat0 W c).owesAt () t.succ = (dat0 W c).owesAt () t.castSucc from rfl,
    after0_0, after0_1, after0_2, after0_3, after0_4, after0_6, after0_7, after0_8]
  unfold phi0
  iintro ⟨⟨⟨%s0, %s1, %hs, S0, S1⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((fwdRun c (grid0.coords t) _ _ _ _ _ _ _ _ _ _ _ _ _ _ _ _ _ _ _ _ _ _ _ _ (iblk0 W c 0 t) (iblk0 W c 1 t) (iblk0 W c 2 t) (iblk0 W c 3 t) (iblk0 W c 4 t) ((dat0 W c).before 5 t d5) ((dat0 W c).before 6 t d6) ((dat0 W c).before 7 t d7) ((dat0 W c).before 8 t d8) ((dat0 W c).before 9 t d9) s0 s1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  iintro ⟨H0, H1, H2, H3, H4, H5, H6, H7, H8, H9, S0, S1⟩
  rw [acc_step W c t s0 s1 hs, hs_step W c t s1 (fun h => (hs h).2)]
  isplitl [S0 S1 Hr Hg]
  · isplitl [S0 S1]
    · iexists _; iexists _
      isplitr
      · ipureintro; exact fun _ => ⟨rfl, rfl⟩
      isplitl [S0]; · iexact S0
      iexact S1
    isplitl [Hr]; · iexact Hr
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iapply (leaves_of (dat0 W c) 5 t d5 _ (fun hi _ => xoOut_neg (fwd_idle hi) _ _ _) (fun hi => (xoOut_pos (fwd_busy (hi.elim id fun hf => (idle0_5 t).trans (congrArg (! ·) hf))) _ _ _).trans (after0_5 W c t).symm)); iexact H5
  isplitl [H6]
  · iexact H6
  isplitl [H7]
  · iexact H7
  isplitl [H8]
  · iexact H8
  iapply (leaves_of (dat0 W c) 9 t d9 _ (fun hi _ => hbOut_neg (idle0_9 t hi) _ _ _) (fun _ => (hb_step W c t d9).trans (after0_9 W c t).symm)); iexact H9

theorem defs₀_row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end

end Cert.Proof.Ffn

end
-- ==== Proof.FfnVal0.lean ====
module

public import proofs.«01_k».proof.Proof.FfnPay
public import proofs.«01_k».proof.Proof.FfnFwdFrame

@[expose] public section

set_option maxRecDepth 16384

noncomputable section

namespace Cert.Proof.Ffn

open Cert.FfnIdeal Cert.FfnIdeal.Gen
open Cert.Proof.Attn (coe_sum' div_real)
open Idealize.ShloMosaic.Pipeline (Dat)
open Idealize.ShloMosaic Idealize.ShloMosaic.TcCoe Idealize.SL.Sem

/-! # The forward call's arrays -/

/-- Arrays that hold given reals. -/
def arr2 {a b : ℕ} (f : Fin a → Fin b → ℝ) : (⟨2, ![a, b]⟩ : Shape).Idx → EReal := fun j => ((f (j 0) (j 1) : ℝ) : EReal)
def arr3 {a b c : ℕ} (f : Fin a → Fin b → Fin c → ℝ) : (⟨3, ![a, b, c]⟩ : Shape).Idx → EReal := fun j => ((f (j 0) (j 1) (j 2) : ℝ) : EReal)

theorem ex2 {a b : ℕ} (y : (⟨2, ![a, b]⟩ : Shape).Idx) : ∃ (q : Fin a) (d : Fin b), y = ix2 q d := ⟨y 0, y 1, by funext a; match a with | ⟨0, _⟩ => rfl | ⟨1, _⟩ => rfl⟩
theorem ex3 {a b c : ℕ} (y : (⟨3, ![a, b, c]⟩ : Shape).Idx) : ∃ (p : Fin a) (q : Fin b) (d : Fin c), y = ix3 p q d :=
  ⟨y 0, y 1, y 2, by funext a; match a with | ⟨0, _⟩ => rfl | ⟨1, _⟩ => rfl | ⟨2, _⟩ => rfl⟩

/-- The operands of the calls hold the arguments' reals. -/
structure In (A : Args) (V : Valuation τ sig (Elt Ideal)) : Prop where
  x : ∀ t d, V main_arg0 (ix2 t d) = (A.x t d : EReal)
  g : ∀ d, V main_arg1 (ix2 0 d) = (A.g d : EReal)
  wg : ∀ s k d, V main_v2 (ix3 s k d) = (A.wg d (col s k) : EReal)
  wu : ∀ s k d, V main_v5 (ix3 s k d) = (A.wu d (col s k) : EReal)
  wd : ∀ s k d, V main_v7 (ix3 s k d) = (A.wd (col s k) d : EReal)
  dy : ∀ t d, V main_arg5 (ix2 t d) = (A.dy t d : EReal)

theorem logistic_a (A : Args) (t : Fin 4096) (n : Fin 2816) : Ideal.logistic (A.a t n : EReal) = (A.sg t n : EReal) := Ideal.logistic_coe _

variable (A : Args)

/-! ## A tile -/

section
variable {j s : ℕ} {H : Vec Ideal S1024x1024 .bf16} {wg wu wd : Vec Ideal S1x704x1024 .bf16}
  (hH : ∀ q d, H (ix2 q d) = (A.h (rowN j q) d : EReal)) (hwg : ∀ k d, wg (ix3 0 k d) = (A.wg d (col (shN s) k) : EReal))
  (hwu : ∀ k d, wu (ix3 0 k d) = (A.wu d (col (shN s) k) : EReal)) (hwd : ∀ k d, wd (ix3 0 k d) = (A.wd (col (shN s) k) d : EReal))

include hH hwg in
theorem gate_g (r : ℕ) (h : r + 256 ≤ 1024) (q : Fin 256) (k : Fin 704) : gate r h H wg (ix2 q k) = (A.a (rowN j ⟨r + q.val, by omega⟩) (col (shN s) k) : EReal) := by
  unfold gate; rw [p0_5]
  exact sum_mul_coe (fun d => (rowsAt_at r h H q d).trans (hH _ d)) (hwg k)
include hH hwu in
theorem gate_u (r : ℕ) (h : r + 256 ≤ 1024) (q : Fin 256) (k : Fin 704) : gate r h H wu (ix2 q k) = (A.u (rowN j ⟨r + q.val, by omega⟩) (col (shN s) k) : EReal) := by
  unfold gate; rw [p0_5]
  exact sum_mul_coe (fun d => (rowsAt_at r h H q d).trans (hH _ d)) (hwu k)
include hH hwg in
theorem silu_at (r : ℕ) (h : r + 256 ≤ 1024) (q : Fin 256) (k : Fin 704) : k0_pay16 (gate r h H wg) (ix3 0 q k) = (A.s (rowN j ⟨r + q.val, by omega⟩) (col (shN s) k) : EReal) := by
  rw [p0_16, gate_g A hH hwg, logistic_a, ← EReal.coe_mul]; rfl
include hH hwg in
theorem dsilu_at (r : ℕ) (h : r + 256 ≤ 1024) (q : Fin 256) (k : Fin 704) : dsiluBlk (gate r h H wg) (ix3 0 q k) = (A.ds (rowN j ⟨r + q.val, by omega⟩) (col (shN s) k) : EReal) := by
  rw [p0_18, gate_g A hH hwg, logistic_a, Ideal.ofBits_one_f32, ← EReal.coe_one, ← EReal.coe_sub, ← EReal.coe_mul, ← EReal.coe_add, ← EReal.coe_mul]; rfl
include hH hwu in
theorem up_at (r : ℕ) (h : r + 256 ≤ 1024) (q : Fin 256) (k : Fin 704) : k0_pay19 (gate r h H wu) (ix3 0 q k) = (A.u (rowN j ⟨r + q.val, by omega⟩) (col (shN s) k) : EReal) := by
  rw [p0_19, gate_u A hH hwu]

include hH hwg in
theorem siluOut_at (q : Fin 1024) (k : Fin 704) : siluOut H wg (ix3 0 q k) = (A.s (rowN j q) (col (shN s) k) : EReal) := by
  unfold siluOut
  refine put4h_at (e := .bf16) _ _ _ _ _ (fun q k => ((A.s (rowN j q) (col (shN s) k) : ℝ) : EReal)) ?_ ?_ ?_ ?_ q k
  · exact silu_at A hH hwg 0 (by omega)
  · exact silu_at A hH hwg 256 (by omega)
  · exact silu_at A hH hwg 512 (by omega)
  · exact silu_at A hH hwg 768 (by omega)
include hH hwg in
theorem dsiluOut_at (q : Fin 1024) (k : Fin 704) : dsiluOut H wg (ix3 0 q k) = (A.ds (rowN j q) (col (shN s) k) : EReal) := by
  unfold dsiluOut
  refine put4h_at (e := .bf16) _ _ _ _ _ (fun q k => ((A.ds (rowN j q) (col (shN s) k) : ℝ) : EReal)) ?_ ?_ ?_ ?_ q k
  · exact dsilu_at A hH hwg 0 (by omega)
  · exact dsilu_at A hH hwg 256 (by omega)
  · exact dsilu_at A hH hwg 512 (by omega)
  · exact dsilu_at A hH hwg 768 (by omega)
include hH hwu in
theorem upOut_at (q : Fin 1024) (k : Fin 704) : upOut H wu (ix3 0 q k) = (A.u (rowN j q) (col (shN s) k) : EReal) := by
  unfold upOut
  refine put4h_at (e := .bf16) _ _ _ _ _ (fun q k => ((A.u (rowN j q) (col (shN s) k) : ℝ) : EReal)) ?_ ?_ ?_ ?_ q k
  · exact up_at A hH hwu 0 (by omega)
  · exact up_at A hH hwu 256 (by omega)
  · exact up_at A hH hwu 512 (by omega)
  · exact up_at A hH hwu 768 (by omega)

/-- A shard's share of the result. -/
def part0 (j s : ℕ) (q d : Fin 1024) : ℝ := ∑ k : Fin 704, A.f (rowN j q) (col (shN s) k) * A.wd (col (shN s) k) d

include hH hwg hwu hwd in
theorem acc_at (r : ℕ) (h : r + 256 ≤ 1024) (X : Vec Ideal S1024x1024 .f32) (q : Fin 256) (d : Fin 1024) :
    k0_pay15 (gate r h H wg) (gate r h H wu) (rowsAt r h X) wd (ix2 q d) = X (ix2 (⟨r + q.val, by omega⟩ : Fin 1024) d) + (part0 A j s ⟨r + q.val, by omega⟩ d : EReal) := by
  rw [p0_15, rowsAt_at]
  refine congrArg (X _ + ·) (sum_mul_coe (fun k => ?_) (fun k => hwd k d))
  rw [gate_g A hH hwg, gate_u A hH hwu, logistic_a, ← EReal.coe_mul, ← EReal.coe_mul]; rfl
include hH hwg hwu hwd in
theorem accShard_at (X : Vec Ideal S1024x1024 .f32) (q d : Fin 1024) : accShard H wg wu wd X (ix2 q d) = X (ix2 q d) + (part0 A j s q d : EReal) := by
  unfold accShard
  exact put4_at _ _ _ _ _ (fun q d => X (ix2 q d) + ((part0 A j s q d : ℝ) : EReal)) (acc_at A hH hwg hwu hwd 0 (by omega) X) (acc_at A hH hwg hwu hwd 256 (by omega) X) (acc_at A hH hwg hwu hwd 512 (by omega) X) (acc_at A hH hwg hwu hwd 768 (by omega) X) q d
end

theorem h_real {j : ℕ} {x : Vec Ideal S1024x1024 .f32} {g : Vec Ideal S1x1024 .f32} (hx : ∀ q d, x (ix2 q d) = (A.x (rowN j q) d : EReal)) (hg : ∀ d, g (ix2 0 d) = (A.g d : EReal)) (q d : Fin 1024) :
    k0_pay2 x g (ix2 q d) = (A.h (rowN j q) d : EReal) := by
  rw [p0_2, sum_mul_coe (hx q) (hx q), ofBits_1024, ofBits_eps, div_real _ _ (by norm_num), ← EReal.coe_add]
  rw [show (∑ k, A.x (rowN j q) k * A.x (rowN j q) k) / 1024 + eps = A.v (rowN j q) from rfl, A.rsqrt_v, hx, hg, ← EReal.coe_mul, ← EReal.coe_mul]; rfl

/-! ## The windows' blocks at a point -/

variable (W : (c : Dev nD) → Valuation τ sig (Elt Ideal)) (c : Dev nD)

theorem t_lt0 (t : Fin cfg0.N) : t.val < 16 := lt_of_lt_of_eq t.isLt (show cfg0.N = 16 from N_0)
theorem ix0_0 : ∀ t : Fin cfg0.N, win0_0.index t = ![t.val / 4 % 4, 0] := (by decide +kernel : ∀ t : Fin grid0.N, win0_0.index t = ![t.val / 4 % 4, 0])
theorem ix0_1 : ∀ t : Fin cfg0.N, win0_1.index t = ![0, 0] := (by decide +kernel : ∀ t : Fin grid0.N, win0_1.index t = ![0, 0])
theorem ix0_2 : ∀ t : Fin cfg0.N, win0_2.index t = ![t.val % 4, 0, 0] := (by decide +kernel : ∀ t : Fin grid0.N, win0_2.index t = ![t.val % 4, 0, 0])
theorem ix0_3 : ∀ t : Fin cfg0.N, win0_3.index t = ![t.val % 4, 0, 0] := (by decide +kernel : ∀ t : Fin grid0.N, win0_3.index t = ![t.val % 4, 0, 0])
theorem ix0_4 : ∀ t : Fin cfg0.N, win0_4.index t = ![t.val % 4, 0, 0] := (by decide +kernel : ∀ t : Fin grid0.N, win0_4.index t = ![t.val % 4, 0, 0])
theorem ix0_5 : ∀ t : Fin cfg0.N, win0_5.index t = ![t.val / 4 % 4, 0] := (by decide +kernel : ∀ t : Fin grid0.N, win0_5.index t = ![t.val / 4 % 4, 0])
theorem ix0_6 : ∀ t : Fin cfg0.N, win0_6.index t = ![t.val % 4, t.val / 4 % 4, 0] := (by decide +kernel : ∀ t : Fin grid0.N, win0_6.index t = ![t.val % 4, t.val / 4 % 4, 0])
theorem ix0_7 : ∀ t : Fin cfg0.N, win0_7.index t = ![t.val % 4, t.val / 4 % 4, 0] := (by decide +kernel : ∀ t : Fin grid0.N, win0_7.index t = ![t.val % 4, t.val / 4 % 4, 0])
theorem ix0_8 : ∀ t : Fin cfg0.N, win0_8.index t = ![t.val % 4, t.val / 4 % 4, 0] := (by decide +kernel : ∀ t : Fin grid0.N, win0_8.index t = ![t.val % 4, t.val / 4 % 4, 0])
theorem ix0_9 : ∀ t : Fin cfg0.N, win0_9.index t = ![t.val / 4 % 4, 0] := (by decide +kernel : ∀ t : Fin grid0.N, win0_9.index t = ![t.val / 4 % 4, 0])

theorem b0_0 (t : Fin cfg0.N) (q d : Fin 1024) : iblk0 W c 0 t (ix2 q d) = W c main_arg0 (ix2 (rowN (t.val / 4) q) d) := by blk_ext [iblk0, ix0_0 t, rowN]
theorem b0_1 (t : Fin cfg0.N) (d : Fin 1024) : iblk0 W c 1 t (ix2 0 d) = W c main_arg1 (ix2 0 d) := by blk_ext [iblk0, ix0_1 t]
theorem b0_2 (t : Fin cfg0.N) (k : Fin 704) (d : Fin 1024) : iblk0 W c 2 t (ix3 0 k d) = W c main_v2 (ix3 (shN t.val) k d) := by blk_ext [iblk0, ix0_2 t, shN]
theorem b0_3 (t : Fin cfg0.N) (k : Fin 704) (d : Fin 1024) : iblk0 W c 3 t (ix3 0 k d) = W c main_v5 (ix3 (shN t.val) k d) := by blk_ext [iblk0, ix0_3 t, shN]
theorem b0_4 (t : Fin cfg0.N) (k : Fin 704) (d : Fin 1024) : iblk0 W c 4 t (ix3 0 k d) = W c main_v7 (ix3 (shN t.val) k d) := by blk_ext [iblk0, ix0_4 t, shN]

/-! ## What the call carries between points -/

variable {A} {W} {c} (hI : In A (W c))

include hI
theorem hs_val (t : Fin cfg0.N) : ∀ q d, hsF W c (t.val + 1) (ix2 q d) = (A.h (rowN (t.val / 4) q) d : EReal) := by
  refine tile_keep 16 (fun j n => ∀ q d, hsF W c n (ix2 q d) = (A.h (rowN j q) d : EReal)) ?_ ?_ t.val (t_lt0 t)
  · intro n hn hz q d
    have ht : n < cfg0.N := lt_of_lt_of_eq hn (show 16 = cfg0.N from N_0.symm)
    show hsF W c ((⟨n, ht⟩ : Fin cfg0.N).val + 1) (ix2 q d) = _
    rw [hsF, fold_succ, hsStep_pos ((fwdFirst_iff ⟨n, ht⟩).mpr hz), p0_3]
    exact h_real A (j := n / 4) (fun q d => (b0_0 W c ⟨n, ht⟩ q d).trans (hI.x _ d)) (fun d => (b0_1 W c ⟨n, ht⟩ d).trans (hI.g d)) q d
  · intro n hn hz ih q d
    have ht : n < cfg0.N := lt_of_lt_of_eq hn (show 16 = cfg0.N from N_0.symm)
    show hsF W c ((⟨n, ht⟩ : Fin cfg0.N).val + 1) (ix2 q d) = _
    rw [hsF, fold_succ, hsStep_neg (fun h => hz ((fwdFirst_iff ⟨n, ht⟩).mp h))]
    exact ih q d
theorem hb_val (t : Fin cfg0.N) : ∀ q d, hbF W c (t.val + 1) (ix2 q d) = (A.h (rowN (t.val / 4) q) d : EReal) := by
  refine tile_keep 16 (fun j n => ∀ q d, hbF W c n (ix2 q d) = (A.h (rowN j q) d : EReal)) ?_ ?_ t.val (t_lt0 t)
  · intro n hn hz q d
    have ht : n < cfg0.N := lt_of_lt_of_eq hn (show 16 = cfg0.N from N_0.symm)
    show hbF W c ((⟨n, ht⟩ : Fin cfg0.N).val + 1) (ix2 q d) = _
    rw [hbF, fold_succ, hbOut_pos ((fwdFirst_iff ⟨n, ht⟩).mpr hz)]
    exact h_real A (j := n / 4) (fun q d => (b0_0 W c ⟨n, ht⟩ q d).trans (hI.x _ d)) (fun d => (b0_1 W c ⟨n, ht⟩ d).trans (hI.g d)) q d
  · intro n hn hz ih q d
    have ht : n < cfg0.N := lt_of_lt_of_eq hn (show 16 = cfg0.N from N_0.symm)
    show hbF W c ((⟨n, ht⟩ : Fin cfg0.N).val + 1) (ix2 q d) = _
    rw [hbF, fold_succ, hbOut_neg (fun h => hz ((fwdFirst_iff ⟨n, ht⟩).mp h))]
    exact ih q d

theorem acc_next (t : Fin cfg0.N) (q d : Fin 1024) : accF W c (t.val + 1) (ix2 q d) = fwdPrior (grid0.coords t) (accF W c t.val) (ix2 q d) + (part0 A (t.val / 4) t.val q d : EReal) := by
  have e : hsStep (grid0.coords t) (iblk0 W c 0 t) (iblk0 W c 1 t) (hsF W c t.val) = hsF W c (t.val + 1) := hs_step W c t _ fun _ => rfl
  rw [accF, fold_succ, accStep, e]
  exact accShard_at A (hs_val hI t) (fun k d => (b0_2 W c t k d).trans (hI.wg _ k d)) (fun k d => (b0_3 W c t k d).trans (hI.wu _ k d)) (fun k d => (b0_4 W c t k d).trans (hI.wd _ k d)) _ q d

theorem acc_val (t : Fin cfg0.N) (q d : Fin 1024) : accF W c (t.val + 1) (ix2 q d) = ((∑ s ∈ Finset.range (t.val % 4 + 1), part0 A (t.val / 4) s q d : ℝ) : EReal) := by
  have hp : ∀ n, part0 A (n / 4) n q d = part0 A (n / 4) (n % 4) q d := fun n => by
    unfold part0; rw [show shN n = shN (n % 4) from Fin.ext (Nat.mod_mod _ _).symm]
  refine tile_sum 16 (fun _ n => accF W c n (ix2 q d)) (fun j s => part0 A j s q d) ?_ ?_ t.val (t_lt0 t)
  · intro n hn hz
    have ht : n < cfg0.N := lt_of_lt_of_eq hn (show 16 = cfg0.N from N_0.symm)
    refine (acc_next hI ⟨n, ht⟩ q d).trans ?_
    rw [fwdPrior_pos ((fwdFirst_iff ⟨n, ht⟩).mpr hz), p0_4, zero_add, hp, hz]
  · intro n hn hz y hy
    have ht : n < cfg0.N := lt_of_lt_of_eq hn (show 16 = cfg0.N from N_0.symm)
    refine (acc_next hI ⟨n, ht⟩ q d).trans ?_
    rw [fwdPrior_neg (fun h => hz ((fwdFirst_iff ⟨n, ht⟩).mp h)), hp]
    exact (congrArg (· + ((part0 A (n / 4) (n % 4) q d : ℝ) : EReal)) hy).trans (EReal.coe_add _ _).symm

omit hI in
theorem flush_last : ∀ t : Fin cfg0.N, (cfg0.win 5).flush t = true → t.val % 4 = 3 := (by decide +kernel : ∀ t : Fin grid0.N, (cfg0.win 5).flush t = true → t.val % 4 = 3)

/-! ## The arrays it leaves -/

theorem xo_arr : (dat0 W c).arrAt 5 cfg0.N = arr2 A.xo := by
  refine (dat0 W c).arrAt_eq_of_covers 5 _ (by decide +kernel) fun t hf y => ?_
  blk_simp
  rw [after0_5]
  obtain ⟨q, d, rfl⟩ := ex2 y
  have e : k0_pay1 (iblk0 W c 0 t) (accF W c (t.val + 1)) (ix2 q d) = (A.xo (rowN (t.val / 4) q) d : EReal) := by
    rw [p0_1, b0_0, hI.x, acc_val hI, flush_last t hf]
    unfold part0
    rw [sum_col fun n => A.f (rowN (t.val / 4) q) n * A.wd n d, ofBits_half, ← EReal.coe_mul, ← EReal.coe_add]; rfl
  refine e.trans ?_
  show arr2 A.xo (ix2 (rowN (t.val / 4) q) d) = _
  blk_ext [ix0_5 t, rowN]
theorem silu_arr : (dat0 W c).arrAt 6 cfg0.N = arr3 fun s t k => A.s t (col s k) := by
  refine (dat0 W c).arrAt_eq_of_covers 6 _ (by decide +kernel) fun t hf y => ?_
  blk_simp
  rw [after0_6]
  obtain ⟨p, q, k, rfl⟩ := ex3 y
  obtain rfl : p = 0 := Fin.ext (by omega)
  refine (siluOut_at A (hs_val hI t) (fun k d => (b0_2 W c t k d).trans (hI.wg _ k d)) q k).trans ?_
  show arr3 (fun s t k => A.s t (col s k)) (ix3 (shN t.val) (rowN (t.val / 4) q) k) = _
  blk_ext [ix0_6 t, rowN, shN]
theorem dsilu_arr : (dat0 W c).arrAt 7 cfg0.N = arr3 fun s t k => A.ds t (col s k) := by
  refine (dat0 W c).arrAt_eq_of_covers 7 _ (by decide +kernel) fun t hf y => ?_
  blk_simp
  rw [after0_7]
  obtain ⟨p, q, k, rfl⟩ := ex3 y
  obtain rfl : p = 0 := Fin.ext (by omega)
  refine (dsiluOut_at A (hs_val hI t) (fun k d => (b0_2 W c t k d).trans (hI.wg _ k d)) q k).trans ?_
  show arr3 (fun s t k => A.ds t (col s k)) (ix3 (shN t.val) (rowN (t.val / 4) q) k) = _
  blk_ext [ix0_7 t, rowN, shN]
theorem up_arr : (dat0 W c).arrAt 8 cfg0.N = arr3 fun s t k => A.u t (col s k) := by
  refine (dat0 W c).arrAt_eq_of_covers 8 _ (by decide +kernel) fun t hf y => ?_
  blk_simp
  rw [after0_8]
  obtain ⟨p, q, k, rfl⟩ := ex3 y
  obtain rfl : p = 0 := Fin.ext (by omega)
  refine (upOut_at A (hs_val hI t) (fun k d => (b0_3 W c t k d).trans (hI.wu _ k d)) q k).trans ?_
  show arr3 (fun s t k => A.u t (col s k)) (ix3 (shN t.val) (rowN (t.val / 4) q) k) = _
  blk_ext [ix0_8 t, rowN, shN]
theorem hb_arr : (dat0 W c).arrAt 9 cfg0.N = arr2 A.h := by
  refine (dat0 W c).arrAt_eq_of_covers 9 _ (by decide +kernel) fun t hf y => ?_
  blk_simp
  rw [after0_9]
  obtain ⟨q, d, rfl⟩ := ex2 y
  refine (hb_val hI t q d).trans ?_
  show arr2 A.h (ix2 (rowN (t.val / 4) q) d) = _
  blk_ext [ix0_9 t, rowN]

end Cert.Proof.Ffn
end
-- ==== Proof.FfnBwdFrame.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit
public import proofs.«01_k».proof.Proof.FfnBwdRun
public import proofs.«01_k».proof.Proof.FfnKit
public import Idealize.ShloMosaic.Lib.Pipeline.TableIdle

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame of the backward call -/

/-! ## The backward call -/

section
variable (W : (c : Dev nD) → Valuation τ sig (Elt F))

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

/-- Half the incoming gradient, the running sum of the hidden rows' gradient and the scale's gradient, after the first `n` points. -/
def doF (c : Dev nD) : ℕ → Vec F S512x1024 .bf16 :=
  fold (fun (t : Fin cfg1.N) D => doOut (grid1.coords t) (iblk1 W c 0 t) D) (View.canon (Val := Elt F) [])
def dhF (c : Dev nD) : ℕ → Vec F S512x1024 .f32 :=
  fold (fun (t : Fin cfg1.N) A => dhStep (grid1.coords t) (iblk1 W c 0 t) (iblk1 W c 3 t) (iblk1 W c 4 t) (iblk1 W c 5 t) (iblk1 W c 6 t) (iblk1 W c 7 t) (iblk1 W c 8 t) (doF W c t.val) A) (View.canon (Val := Elt F) [])
def dgF (c : Dev nD) : ℕ → Vec F S1x1024 .f32 :=
  fold (fun (t : Fin cfg1.N) A => dgStep (grid1.coords t) (iblk1 W c 1 t) (dhF W c (t.val + 1)) A) (View.canon (Val := Elt F) [])
abbrev scM1_0 : Memref sig .tc .vmem S512x1024 .f32 := Memref.whole cc1_scratch0

/-- Between points: the scratch at the carried contents (at any contents before the first point), the rest unopened. -/
def phi1 (c : Dev nD) (n : ℕ) : sProp 𝕄 :=
  iprop((∃ s0, ⌜n ≠ 0 → s0 = dhF W c n⌝ ∗ owns (c : Thread nD τ) scM1_0 fullShare s0) ∗ Pipeline.scopedRestBut spec1 c [cc1_scratch0] ∗ (∃ r, prngReg c r))

def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => iblk1 W c 7 t
    | ⟨8, _⟩ => iblk1 W c 8 t
    | ⟨9, _⟩ => k1_pay2 (iblk1 W c 1 t) (dhF W c (t.val + 1)) (iblk1 W c 2 t) (iblk1 W c 0 t)
    | ⟨10, _⟩ => daOut (doF W c (t.val + 1)) (iblk1 W c 4 t) (iblk1 W c 5 t) (iblk1 W c 8 t)
    | ⟨11, _⟩ => dbOut (doF W c (t.val + 1)) (iblk1 W c 3 t) (iblk1 W c 8 t)
    | ⟨12, _⟩ => fOut (iblk1 W c 3 t) (iblk1 W c 5 t)
    | ⟨13, _⟩ => dgF W c (t.val + 1)
    | ⟨14, _⟩ => doF W c (t.val + 1)
  Φ t := phi1 W c t.val
  q _ := fullShare
  owed _ := 0

theorem A_eq1 (c : Dev nD) (w : Fin cfg1.W) : (dat1 W c).A w = W c (Pipeline.arrRef spec1 w) := by dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = iblk1 W c 7 t := by dsimp only [dat1]
theorem after1_8 (c : Dev nD) (t : Fin cfg1.N) : (dat1 W c).after 8 t = iblk1 W c 8 t := by dsimp only [dat1]
theorem after1_9 (c : Dev nD) (t : Fin cfg1.N) : (dat1 W c).after 9 t = k1_pay2 (iblk1 W c 1 t) (dhF W c (t.val + 1)) (iblk1 W c 2 t) (iblk1 W c 0 t) := by dsimp only [dat1]
theorem after1_10 (c : Dev nD) (t : Fin cfg1.N) : (dat1 W c).after 10 t = daOut (doF W c (t.val + 1)) (iblk1 W c 4 t) (iblk1 W c 5 t) (iblk1 W c 8 t) := by dsimp only [dat1]
theorem after1_11 (c : Dev nD) (t : Fin cfg1.N) : (dat1 W c).after 11 t = dbOut (doF W c (t.val + 1)) (iblk1 W c 3 t) (iblk1 W c 8 t) := by dsimp only [dat1]
theorem after1_12 (c : Dev nD) (t : Fin cfg1.N) : (dat1 W c).after 12 t = fOut (iblk1 W c 3 t) (iblk1 W c 5 t) := by dsimp only [dat1]
theorem after1_13 (c : Dev nD) (t : Fin cfg1.N) : (dat1 W c).after 13 t = dgF W c (t.val + 1) := by dsimp only [dat1]
theorem after1_14 (c : Dev nD) (t : Fin cfg1.N) : (dat1 W c).after 14 t = doF W c (t.val + 1) := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 W c).before 4 t d = iblk1 W c 4 t :=
  ((dat1 W c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 W c).before 5 t d = iblk1 W c 5 t :=
  ((dat1 W c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 W c).before 6 t d = iblk1 W c 6 t :=
  ((dat1 W c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 W c).before 7 t d = iblk1 W c 7 t :=
  ((dat1 W c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 W c).before 8 t d = iblk1 W c 8 t :=
  ((dat1 W c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

theorem bwdFirst_iff : ∀ t : Fin grid1.N, k1_cond1 (grid1.coords t) = 1#1 ↔ t.val % 4 = 0 := by decide +kernel
theorem bwdFirst_zero (t : Fin grid1.N) (h : t.val = 0) : k1_cond1 (grid1.coords t) = 1#1 := (bwdFirst_iff t).mpr (by rw [h])
theorem bwdStart_iff : ∀ t : Fin grid1.N, k1_cond2 (grid1.coords t) = 1#1 ↔ t.val % 32 = 0 := by decide +kernel

theorem fresh1_14 : ∀ n, n ≤ cfg1.N → cfg1.fresh 14 n = (n % 4 == 0) :=
  Pipeline.Cfg.fresh_tab (cfg := cfg1) 14 (fun n => n % 4 == 0) rfl (by decide +kernel)
theorem fresh1_13 : ∀ n, n ≤ cfg1.N → cfg1.fresh 13 n = (n % 32 == 0) :=
  Pipeline.Cfg.fresh_tab (cfg := cfg1) 13 (fun n => n % 32 == 0) rfl (by decide +kernel)

theorem idle1_14 : ∀ t : Fin cfg1.N, cfg1.idle 14 (cfg1.grid.coords t) = true → ¬ k1_cond1 (grid1.coords t) = 1#1 := by decide +kernel
theorem idle1_13 : ∀ t : Fin cfg1.N, cfg1.idle 13 (cfg1.grid.coords t) = true → ¬ k1_cond2 (grid1.coords t) = 1#1 ∧ ¬ k1_cond3 (grid1.coords t) = 1#1 := by decide +kernel
theorem idle1_9 : ∀ t : Fin cfg1.N, cfg1.idle 9 (cfg1.grid.coords t) = !((cfg1.win 9).flush t) := by decide +kernel

/-- A result's buffer, kept from point to point, holds at a point what the point before left, or is fresh. -/
theorem before1_14 (c : Dev nD) (t : Fin cfg1.N) (d) : (dat1 W c).before 14 t d = if cfg1.fresh 14 t.val then d else doF W c t.val := by
  rw [Pipeline.Dat.before_out_traj (dat1 W c) 14 rfl (fun _ _ => rfl) ?_ t.val t rfl d]
  · by_cases hf : cfg1.fresh 14 t.val = true
    · rw [if_pos hf, if_pos hf]
    · rw [if_neg hf, if_neg hf, after1_14]
      have h0 : t.val ≠ 0 := fun h => hf (by rw [h]; exact Pipeline.Cfg.fresh_zero _ _)
      congr 1; show t.val - 1 + 1 = t.val; omega
  · intro t h0 hi _
    rw [after1_14, after1_14, show doF W c (t.val + 1) = doOut (grid1.coords t) (iblk1 W c 0 t) (doF W c t.val) from by rw [doF, fold_succ],
      doOut_neg (idle1_14 t hi)]
    congr 1; show t.val = t.val - 1 + 1; omega

theorem before1_13 (c : Dev nD) (t : Fin cfg1.N) (d) : (dat1 W c).before 13 t d = if cfg1.fresh 13 t.val then d else dgF W c t.val := by
  rw [Pipeline.Dat.before_out_traj (dat1 W c) 13 rfl (fun _ _ => rfl) ?_ t.val t rfl d]
  · by_cases hf : cfg1.fresh 13 t.val = true
    · rw [if_pos hf, if_pos hf]
    · rw [if_neg hf, if_neg hf, after1_13]
      have h0 : t.val ≠ 0 := fun h => hf (by rw [h]; exact Pipeline.Cfg.fresh_zero _ _)
      congr 1; show t.val - 1 + 1 = t.val; omega
  · intro t h0 hi _
    rw [after1_13, after1_13, show dgF W c (t.val + 1) = dgStep (grid1.coords t) (iblk1 W c 1 t) (dhF W c (t.val + 1)) (dgF W c t.val) from by rw [dgF, fold_succ],
      dgStep_neg (idle1_13 t hi).2, dgPrior_neg (idle1_13 t hi).1]
    congr 1; show t.val = t.val - 1 + 1; omega

theorem do_step (c : Dev nD) (t : Fin cfg1.N) (d) :
    doOut (grid1.coords t) (iblk1 W c 0 t) ((dat1 W c).before 14 t d) = doF W c (t.val + 1) := by
  rw [doF, fold_succ, before1_14, fresh1_14 t.val (le_of_lt t.isLt)]
  by_cases h : k1_cond1 (grid1.coords t) = 1#1
  · rw [doOut_pos h, doOut_pos h]
  · rw [if_neg (by simpa using fun e => h ((bwdFirst_iff t).mpr e))]; rfl

theorem dh_step (c : Dev nD) (t : Fin cfg1.N) (d s) (hs : t.val ≠ 0 → s = dhF W c t.val) :
    dhStep (grid1.coords t) (iblk1 W c 0 t) (iblk1 W c 3 t) (iblk1 W c 4 t) (iblk1 W c 5 t) (iblk1 W c 6 t) (iblk1 W c 7 t) (iblk1 W c 8 t) ((dat1 W c).before 14 t d) s = dhF W c (t.val + 1) := by
  rw [dhF, fold_succ, dhStep, dhStep, do_step W c t d, show doOut (grid1.coords t) (iblk1 W c 0 t) (doF W c t.val) = doF W c (t.val + 1) from by rw [doF, fold_succ]]
  by_cases h0 : t.val = 0
  · rw [dhPrior_pos (bwdFirst_zero t h0), dhPrior_pos (bwdFirst_zero t h0)]
  · rw [hs h0]; rfl

theorem dg_step (c : Dev nD) (t : Fin cfg1.N) (d) :
    dgStep (grid1.coords t) (iblk1 W c 1 t) (dhF W c (t.val + 1)) ((dat1 W c).before 13 t d) = dgF W c (t.val + 1) := by
  rw [dgF, fold_succ, before1_13, fresh1_13 t.val (le_of_lt t.isLt)]
  by_cases h : k1_cond2 (grid1.coords t) = 1#1
  · have h3 := bwd_notLast _ (bwd_first _ h)
    rw [dgStep_neg h3, dgStep_neg h3, dgPrior_pos h, dgPrior_pos h]
  · rw [if_neg (by simpa using fun e => h ((bwdStart_iff t).mpr e))]; rfl

theorem bwd_idle {i : grid1.Coords} (h : (!(k1_cond3 i == 1#1)) = true) : ¬ k1_cond3 i = 1#1 := by simpa using h
theorem bwd_busy {i : grid1.Coords} (h : (!(k1_cond3 i == 1#1)) = false) : k1_cond3 i = 1#1 := by simpa using h

theorem phi1_castSucc (c : Dev nD) (t : Fin cfg1.N) : (dat1 W c).Φ t.castSucc = phi1 W c t.val := congrArg (phi1 W c) (castSucc_val t)
theorem phi1_succ (c : Dev nD) (t : Fin cfg1.N) : (dat1 W c).Φ t.succ = phi1 W c (t.val + 1) := congrArg (phi1 W c) (succ_val t)

/-- The scratch comes from the region's scoped buffers and goes back to them. -/
theorem phi1_in (c : Dev nD) : iprop(Pipeline.scopedRest spec1 c ∗ (∃ r, prngReg c r)) ⊢ phi1 W c 0 := by
  unfold phi1; rw [scopedRest1_split]
  iintro ⟨⟨⟨%f0, H0⟩, Hr⟩, Hg⟩
  isplitl [H0]
  · iexists f0
    isplitr; · ipureintro; exact fun h => absurd rfl h
    rw [owns_whole]
    iexact H0
  isplitl [Hr]; · iexact Hr
  iexact Hg

theorem phi1_out (c : Dev nD) (n : ℕ) : phi1 W c n ⊢ iprop(Pipeline.scopedRest spec1 c ∗ (∃ r, prngReg c r)) := by
  unfold phi1; rw [scopedRest1_split]
  iintro ⟨⟨%s0, -, H0⟩, Hr, Hg⟩
  isplitr [Hg]
  · isplitr [Hr]
    · iexists s0; rw [← owns_whole]; iexact H0
    iexact Hr
  iexact Hg

/-- What the body is called with at point `t`, and what it returns. -/
def bodyPre1 (c : Dev nD) (t : Fin cfg1.N) : sProp 𝕄 :=
  iprop((dat1 W c).Φ t.castSucc ∗ (dat1 W c).owesAt () t.castSucc
    ∗ (∃ d, owns (c : Thread nD τ) (win1_0.stage (cfg1.slots t 0)) fullShare ((dat1 W c).before 0 t d))
    ∗ (∃ d, owns (c : Thread nD τ) (win1_1.stage (cfg1.slots t 1)) fullShare ((dat1 W c).before 1 t d))
    ∗ (∃ d, owns (c : Thread nD τ) (win1_2.stage (cfg1.slots t 2)) fullShare ((dat1 W c).before 2 t d))
    ∗ (∃ d, owns (c : Thread nD τ) (win1_3.stage (cfg1.slots t 3)) fullShare ((dat1 W c).before 3 t d))
    ∗ (∃ d, owns (c : Thread nD τ) (win1_4.stage (cfg1.slots t 4)) fullShare ((dat1 W c).before 4 t d))
    ∗ (∃ d, owns (c : Thread nD τ) (win1_5.stage (cfg1.slots t 5)) fullShare ((dat1 W c).before 5 t d))
    ∗ (∃ d, owns (c : Thread nD τ) (win1_6.stage (cfg1.slots t 6)) fullShare ((dat1 W c).before 6 t d))
    ∗ (∃ d, owns (c : Thread nD τ) (win1_7.stage (cfg1.slots t 7)) fullShare ((dat1 W c).before 7 t d))
    ∗ (∃ d, owns (c : Thread nD τ) (win1_8.stage (cfg1.slots t 8)) fullShare ((dat1 W c).before 8 t d))
    ∗ (∃ d, owns (c : Thread nD τ) (win1_9.stage (cfg1.slots t 9)) fullShare ((dat1 W c).before 9 t d))
    ∗ (∃ d, owns (c : Thread nD τ) (win1_10.stage (cfg1.slots t 10)) fullShare ((dat1 W c).before 10 t d))
    ∗ (∃ d, owns (c : Thread nD τ) (win1_11.stage (cfg1.slots t 11)) fullShare ((dat1 W c).before 11 t d))
    ∗ (∃ d, owns (c : Thread nD τ) (win1_12.stage (cfg1.slots t 12)) fullShare ((dat1 W c).before 12 t d))
    ∗ (∃ d, owns (c : Thread nD τ) (win1_13.stage (cfg1.slots t 13)) fullShare ((dat1 W c).before 13 t d))
    ∗ (∃ d, owns (c : Thread nD τ) (win1_14.stage (cfg1.slots t 14)) fullShare ((dat1 W c).before 14 t d)))

def bodyPost1 (c : Dev nD) (t : Fin cfg1.N) : sProp 𝕄 :=
  iprop((dat1 W c).Φ t.succ ∗ (dat1 W c).owesAt () t.succ
    ∗ owns (c : Thread nD τ) (win1_0.stage (cfg1.slots t 0)) fullShare ((dat1 W c).after 0 t)
    ∗ owns (c : Thread nD τ) (win1_1.stage (cfg1.slots t 1)) fullShare ((dat1 W c).after 1 t)
    ∗ owns (c : Thread nD τ) (win1_2.stage (cfg1.slots t 2)) fullShare ((dat1 W c).after 2 t)
    ∗ owns (c : Thread nD τ) (win1_3.stage (cfg1.slots t 3)) fullShare ((dat1 W c).after 3 t)
    ∗ owns (c : Thread nD τ) (win1_4.stage (cfg1.slots t 4)) fullShare ((dat1 W c).after 4 t)
    ∗ owns (c : Thread nD τ) (win1_5.stage (cfg1.slots t 5)) fullShare ((dat1 W c).after 5 t)
    ∗ owns (c : Thread nD τ) (win1_6.stage (cfg1.slots t 6)) fullShare ((dat1 W c).after 6 t)
    ∗ owns (c : Thread nD τ) (win1_7.stage (cfg1.slots t 7)) fullShare ((dat1 W c).after 7 t)
    ∗ owns (c : Thread nD τ) (win1_8.stage (cfg1.slots t 8)) fullShare ((dat1 W c).after 8 t)
    ∗ (dat1 W c).leavesExact 9 t
    ∗ owns (c : Thread nD τ) (win1_10.stage (cfg1.slots t 10)) fullShare ((dat1 W c).after 10 t)
    ∗ owns (c : Thread nD τ) (win1_11.stage (cfg1.slots t 11)) fullShare ((dat1 W c).after 11 t)
    ∗ owns (c : Thread nD τ) (win1_12.stage (cfg1.slots t 12)) fullShare ((dat1 W c).after 12 t)
    ∗ (dat1 W c).leavesExact 13 t
    ∗ (dat1 W c).leavesExact 14 t)

set_option maxHeartbeats 4000000 in
/-- The body's triple at any point of the grid. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, before1_7, before1_8]
  rw [phi1_castSucc, phi1_succ, show (dat1 W c).owesAt () t.succ = (dat1 W c).owesAt () t.castSucc from rfl,
    after1_0, after1_1, after1_2, after1_3, after1_4, after1_5, after1_6, after1_7, after1_8, after1_10, after1_11, after1_12]
  unfold phi1
  iintro ⟨⟨⟨%s0, %hs, S0⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((bwdRun c (grid1.coords t) _ _ _ _ _ _ _ _ _ _ _ _ _ _ _ _ _ _ _ _ _ _ _ _ _ _ _ _ _ _ _ _ (iblk1 W c 0 t) (iblk1 W c 1 t) (iblk1 W c 2 t) (iblk1 W c 3 t) (iblk1 W c 4 t) (iblk1 W c 5 t) (iblk1 W c 6 t) (iblk1 W c 7 t) (iblk1 W c 8 t) ((dat1 W c).before 9 t d9) ((dat1 W c).before 10 t d10) ((dat1 W c).before 11 t d11) ((dat1 W c).before 12 t d12) ((dat1 W c).before 13 t d13) ((dat1 W c).before 14 t d14) s0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  iintro ⟨H0, H1, H2, H3, H4, H5, H6, H7, H8, H9, H10, H11, H12, H13, H14, S0⟩
  rw [dh_step W c t d14 s0 hs, do_step W c t d14]
  isplitl [S0 Hr Hg]
  · isplitl [S0]
    · iexists _
      isplitr
      · ipureintro; exact fun _ => rfl
      iexact S0
    isplitl [Hr]; · iexact Hr
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iapply (leaves_of (dat1 W c) 9 t d9 _ (fun hi _ => dxOut_neg (bwd_idle hi) _ _ _ _ _) (fun hi => (dxOut_pos (bwd_busy (hi.elim id fun hf => (idle1_9 t).trans (congrArg (! ·) hf))) _ _ _ _ _).trans (after1_9 W c t).symm)); iexact H9
  isplitl [H10]
  · iexact H10
  isplitl [H11]
  · iexact H11
  isplitl [H12]
  · iexact H12
  isplitl [H13]
  · iapply (leaves_of (dat1 W c) 13 t d13 _ (fun hi _ => (dgStep_neg (idle1_13 t hi).2 _ _ _).trans (dgPrior_neg (idle1_13 t hi).1 _)) (fun _ => (dg_step W c t d13).trans (after1_13 W c t).symm)); iexact H13
  iapply (leaves_of (dat1 W c) 14 t d14 _ (fun hi _ => (do_step W c t d14).symm.trans (doOut_neg (idle1_14 t hi) _ _)) (fun _ => (after1_14 W c t).symm)); iexact H14

theorem defs₀_row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

end

end Cert.Proof.Ffn

end
-- ==== Proof.FfnVal1.lean ====
module

public import proofs.«01_k».proof.Proof.FfnVal0
public import proofs.«01_k».proof.Proof.FfnBwdFrame

@[expose] public section

set_option maxRecDepth 16384

noncomputable section

namespace Cert.Proof.Ffn

open Cert.FfnIdeal Cert.FfnIdeal.Gen
open Cert.Proof.Attn (coe_sum' div_real)
open Idealize.ShloMosaic.Pipeline (Dat)
open Idealize.ShloMosaic Idealize.ShloMosaic.TcCoe Idealize.SL.Sem

/-! # The backward call's arrays -/

/-- What the forward call saved, in the backward call's operands. -/
structure In1 (A : Args) (V : Valuation τ sig (Elt Ideal)) : Prop where
  base : In A V
  s : V main_v8_1 = arr3 fun s t k => A.s t (col s k)
  ds : V main_v8_2 = arr3 fun s t k => A.ds t (col s k)
  u : V main_v8_3 = arr3 fun s t k => A.u t (col s k)

variable (A : Args)

/-! ## A tile -/

theorem r_real {j : ℕ} {x : Vec Ideal S512x1024 .f32} (hx : ∀ q d, x (ix2 q d) = (A.x (rowH j q) d : EReal)) (q : Fin 512) : k1_pay1 x (ix2 q 0) = (A.r (rowH j q) : EReal) := by
  rw [p1_1, sum_mul_coe (hx q) (hx q), ofBits_1024, ofBits_eps, div_real _ _ (by norm_num), ← EReal.coe_add]
  rw [show (∑ k, A.x (rowH j q) k * A.x (rowH j q) k) / 1024 + eps = A.v (rowH j q) from rfl, A.rsqrt_v]

section
variable {j s : ℕ} {D : Vec Ideal S512x1024 .bf16} {si ds b : Vec Ideal S1x512x704 .bf16} {wg wu wd : Vec Ideal S1x704x1024 .bf16}
  (hD : ∀ q d, D (ix2 q d) = (A.hdy (rowH j q) d : EReal)) (hsi : ∀ q k, si (ix3 0 q k) = (A.s (rowH j q) (col (shN s) k) : EReal))
  (hds : ∀ q k, ds (ix3 0 q k) = (A.ds (rowH j q) (col (shN s) k) : EReal)) (hb : ∀ q k, b (ix3 0 q k) = (A.u (rowH j q) (col (shN s) k) : EReal))
  (hwg : ∀ k d, wg (ix3 0 k d) = (A.wg d (col (shN s) k) : EReal))
  (hwu : ∀ k d, wu (ix3 0 k d) = (A.wu d (col (shN s) k) : EReal)) (hwd : ∀ k d, wd (ix3 0 k d) = (A.wd (col (shN s) k) d : EReal))

include hD hwd in
theorem df_at (r : ℕ) (h : r + 256 ≤ 512) (q : Fin 256) (k : Fin 704) : k1_pay7 (rowsB r h D) wd (ix2 q k) = (A.df (rowH j ⟨r + q.val, by omega⟩) (col (shN s) k) : EReal) := by
  rw [p1_7]
  exact sum_mul_coe (fun d => (rowsB_at r h D q d).trans (hD _ d)) (hwd k)
include hD hds hb hwd in
theorem da_at (r : ℕ) (h : r + 256 ≤ 512) (q : Fin 256) (k : Fin 704) : daBlk r h D ds b wd (ix2 q k) = (A.da (rowH j ⟨r + q.val, by omega⟩) (col (shN s) k) : EReal) := by
  unfold daBlk
  rw [p1_11, df_at A hD hwd r h, rowsBh_at, rowsBh_at, hb, hds, ← EReal.coe_mul, ← EReal.coe_mul]; rfl
include hD hsi hwd in
theorem db_at (r : ℕ) (h : r + 256 ≤ 512) (q : Fin 256) (k : Fin 704) : dbBlk r h D si wd (ix2 q k) = (A.db (rowH j ⟨r + q.val, by omega⟩) (col (shN s) k) : EReal) := by
  unfold dbBlk dfBlk
  rw [p1_12, df_at A hD hwd r h, p1_9, rowsBh_at, hsi, ← EReal.coe_mul]; rfl
include hD hsi hwd in
theorem db_at' (r : ℕ) (h : r + 256 ≤ 512) (q : Fin 256) (k : Fin 704) : k1_pay14 (dfBlk r h D wd) (k1_pay9 (rowsBh r h si)) (ix3 0 q k) = (A.db (rowH j ⟨r + q.val, by omega⟩) (col (shN s) k) : EReal) := by
  unfold dfBlk
  rw [p1_14, df_at A hD hwd r h, p1_9, rowsBh_at, hsi, ← EReal.coe_mul]; rfl
include hsi hb in
theorem f_at (r : ℕ) (h : r + 256 ≤ 512) (q : Fin 256) (k : Fin 704) : k1_pay15 (F := Ideal) (k1_pay9 (rowsBh r h si)) (k1_pay10 (rowsBh r h b)) (ix3 0 q k) = (A.f (rowH j ⟨r + q.val, by omega⟩) (col (shN s) k) : EReal) := by
  rw [p1_15, p1_9, p1_10, rowsBh_at, rowsBh_at, hsi, hb, ← EReal.coe_mul]; rfl

include hD hds hb hwd in
theorem daOut_at (q : Fin 512) (k : Fin 704) : daOut D ds b wd (ix3 0 q k) = (A.da (rowH j q) (col (shN s) k) : EReal) := by
  unfold daOut
  refine put2h_at (e := .bf16) _ _ _ (fun q k => ((A.da (rowH j q) (col (shN s) k) : ℝ) : EReal)) ?_ ?_ q k
  · exact fun q k => (p1_13 _ q k).trans (da_at A hD hds hb hwd 0 (by omega) q k)
  · exact fun q k => (p1_13 _ q k).trans (da_at A hD hds hb hwd 256 (by omega) q k)
include hD hsi hwd in
theorem dbOut_at (q : Fin 512) (k : Fin 704) : dbOut D si wd (ix3 0 q k) = (A.db (rowH j q) (col (shN s) k) : EReal) := by
  unfold dbOut
  refine put2h_at (e := .bf16) _ _ _ (fun q k => ((A.db (rowH j q) (col (shN s) k) : ℝ) : EReal)) ?_ ?_ q k
  · exact db_at' A hD hsi hwd 0 (by omega)
  · exact db_at' A hD hsi hwd 256 (by omega)
include hsi hb in
theorem fOut_at (q : Fin 512) (k : Fin 704) : fOut si b (ix3 0 q k) = (A.f (rowH j q) (col (shN s) k) : EReal) := by
  unfold fOut
  refine put2h_at (e := .bf16) _ _ _ (fun q k => ((A.f (rowH j q) (col (shN s) k) : ℝ) : EReal)) ?_ ?_ q k
  · exact f_at A hsi hb 0 (by omega)
  · exact f_at A hsi hb 256 (by omega)

/-- A shard's share of the normalized rows' gradient. -/
def part1 (j s : ℕ) (q : Fin 512) (d : Fin 1024) : ℝ :=
  ∑ k : Fin 704, (A.da (rowH j q) (col (shN s) k) * A.wg d (col (shN s) k) + A.db (rowH j q) (col (shN s) k) * A.wu d (col (shN s) k))

include hD hsi hds hb hwg hwu hwd in
theorem dh_at (r : ℕ) (h : r + 256 ≤ 512) (X : Vec Ideal S512x1024 .f32) (q : Fin 256) (d : Fin 1024) :
    k1_pay23 (daBlk r h D ds b wd) (dbBlk r h D si wd) (rowsB r h X) wg wu (ix2 q d) = X (ix2 (⟨r + q.val, by omega⟩ : Fin 512) d) + (part1 A j s ⟨r + q.val, by omega⟩ d : EReal) := by
  rw [p1_23, rowsB_at, sum_mul_coe (fun k => da_at A hD hds hb hwd r h q k) (fun k => hwg k d), sum_mul_coe (fun k => db_at A hD hsi hwd r h q k) (fun k => hwu k d), ← EReal.coe_add, ← Finset.sum_add_distrib]
  rfl
include hD hsi hds hb hwg hwu hwd in
theorem dhShard_at (X : Vec Ideal S512x1024 .f32) (q : Fin 512) (d : Fin 1024) : dhShard D si ds b wg wu wd X (ix2 q d) = X (ix2 q d) + (part1 A j s q d : EReal) := by
  unfold dhShard
  refine put2_at (e := .f32) _ _ _ (fun q d => X (ix2 q d) + ((part1 A j s q d : ℝ) : EReal)) ?_ ?_ q d
  · exact dh_at A hD hsi hds hb hwg hwu hwd 0 (by omega) X
  · exact dh_at A hD hsi hds hb hwg hwu hwd 256 (by omega) X
end

/-! ## The windows' blocks at a point -/

variable (W : (c : Dev nD) → Valuation τ sig (Elt Ideal)) (c : Dev nD)

theorem t_lt1 (t : Fin cfg1.N) : t.val < 32 := lt_of_lt_of_eq t.isLt (show cfg1.N = 32 from N_1)
theorem ix1_0 : ∀ t : Fin cfg1.N, win1_0.index t = ![t.val / 4 % 8, 0] := (by decide +kernel : ∀ t : Fin grid1.N, win1_0.index t = ![t.val / 4 % 8, 0])
theorem ix1_1 : ∀ t : Fin cfg1.N, win1_1.index t = ![t.val / 4 % 8, 0] := (by decide +kernel : ∀ t : Fin grid1.N, win1_1.index t = ![t.val / 4 % 8, 0])
theorem ix1_2 : ∀ t : Fin cfg1.N, win1_2.index t = ![0, 0] := (by decide +kernel : ∀ t : Fin grid1.N, win1_2.index t = ![0, 0])
theorem ix1_3 : ∀ t : Fin cfg1.N, win1_3.index t = ![t.val % 4, t.val / 4 % 8, 0] := (by decide +kernel : ∀ t : Fin grid1.N, win1_3.index t = ![t.val % 4, t.val / 4 % 8, 0])
theorem ix1_4 : ∀ t : Fin cfg1.N, win1_4.index t = ![t.val % 4, t.val / 4 % 8, 0] := (by decide +kernel : ∀ t : Fin grid1.N, win1_4.index t = ![t.val % 4, t.val / 4 % 8, 0])
theorem ix1_5 : ∀ t : Fin cfg1.N, win1_5.index t = ![t.val % 4, t.val / 4 % 8, 0] := (by decide +kernel : ∀ t : Fin grid1.N, win1_5.index t = ![t.val % 4, t.val / 4 % 8, 0])
theorem ix1_6 : ∀ t : Fin cfg1.N, win1_6.index t = ![t.val % 4, 0, 0] := (by decide +kernel : ∀ t : Fin grid1.N, win1_6.index t = ![t.val % 4, 0, 0])
theorem ix1_7 : ∀ t : Fin cfg1.N, win1_7.index t = ![t.val % 4, 0, 0] := (by decide +kernel : ∀ t : Fin grid1.N, win1_7.index t = ![t.val % 4, 0, 0])
theorem ix1_8 : ∀ t : Fin cfg1.N, win1_8.index t = ![t.val % 4, 0, 0] := (by decide +kernel : ∀ t : Fin grid1.N, win1_8.index t = ![t.val % 4, 0, 0])
theorem ix1_9 : ∀ t : Fin cfg1.N, win1_9.index t = ![t.val / 4 % 8, 0] := (by decide +kernel : ∀ t : Fin grid1.N, win1_9.index t = ![t.val / 4 % 8, 0])
theorem ix1_10 : ∀ t : Fin cfg1.N, win1_10.index t = ![t.val % 4, t.val / 4 % 8, 0] := (by decide +kernel : ∀ t : Fin grid1.N, win1_10.index t = ![t.val % 4, t.val / 4 % 8, 0])
theorem ix1_11 : ∀ t : Fin cfg1.N, win1_11.index t = ![t.val % 4, t.val / 4 % 8, 0] := (by decide +kernel : ∀ t : Fin grid1.N, win1_11.index t = ![t.val % 4, t.val / 4 % 8, 0])
theorem ix1_12 : ∀ t : Fin cfg1.N, win1_12.index t = ![t.val % 4, t.val / 4 % 8, 0] := (by decide +kernel : ∀ t : Fin grid1.N, win1_12.index t = ![t.val % 4, t.val / 4 % 8, 0])
theorem ix1_13 : ∀ t : Fin cfg1.N, win1_13.index t = ![0, 0] := (by decide +kernel : ∀ t : Fin grid1.N, win1_13.index t = ![0, 0])
theorem ix1_14 : ∀ t : Fin cfg1.N, win1_14.index t = ![t.val / 4 % 8, 0] := (by decide +kernel : ∀ t : Fin grid1.N, win1_14.index t = ![t.val / 4 % 8, 0])

theorem b1_0 (t : Fin cfg1.N) (q : Fin 512) (d : Fin 1024) : iblk1 W c 0 t (ix2 q d) = W c main_arg5 (ix2 (rowH (t.val / 4) q) d) := by blk_ext [iblk1, ix1_0 t, rowH]
theorem b1_1 (t : Fin cfg1.N) (q : Fin 512) (d : Fin 1024) : iblk1 W c 1 t (ix2 q d) = W c main_arg0 (ix2 (rowH (t.val / 4) q) d) := by blk_ext [iblk1, ix1_1 t, rowH]
theorem b1_2 (t : Fin cfg1.N) (d : Fin 1024) : iblk1 W c 2 t (ix2 0 d) = W c main_arg1 (ix2 0 d) := by blk_ext [iblk1, ix1_2 t]
theorem b1_3 (t : Fin cfg1.N) (q : Fin 512) (k : Fin 704) : iblk1 W c 3 t (ix3 0 q k) = W c main_v8_1 (ix3 (shN t.val) (rowH (t.val / 4) q) k) := by blk_ext [iblk1, ix1_3 t, rowH, shN]
theorem b1_4 (t : Fin cfg1.N) (q : Fin 512) (k : Fin 704) : iblk1 W c 4 t (ix3 0 q k) = W c main_v8_2 (ix3 (shN t.val) (rowH (t.val / 4) q) k) := by blk_ext [iblk1, ix1_4 t, rowH, shN]
theorem b1_5 (t : Fin cfg1.N) (q : Fin 512) (k : Fin 704) : iblk1 W c 5 t (ix3 0 q k) = W c main_v8_3 (ix3 (shN t.val) (rowH (t.val / 4) q) k) := by blk_ext [iblk1, ix1_5 t, rowH, shN]
theorem b1_6 (t : Fin cfg1.N) (k : Fin 704) (d : Fin 1024) : iblk1 W c 6 t (ix3 0 k d) = W c main_v2 (ix3 (shN t.val) k d) := by blk_ext [iblk1, ix1_6 t, shN]
theorem b1_7 (t : Fin cfg1.N) (k : Fin 704) (d : Fin 1024) : iblk1 W c 7 t (ix3 0 k d) = W c main_v5 (ix3 (shN t.val) k d) := by blk_ext [iblk1, ix1_7 t, shN]
theorem b1_8 (t : Fin cfg1.N) (k : Fin 704) (d : Fin 1024) : iblk1 W c 8 t (ix3 0 k d) = W c main_v7 (ix3 (shN t.val) k d) := by blk_ext [iblk1, ix1_8 t, shN]

/-! ## What the call carries between points -/

variable {A} {W} {c} (hI : In1 A (W c))
include hI

theorem i1_x (t : Fin cfg1.N) (q : Fin 512) (d : Fin 1024) : iblk1 W c 1 t (ix2 q d) = (A.x (rowH (t.val / 4) q) d : EReal) := (b1_1 W c t q d).trans (hI.base.x _ d)
theorem i1_dy (t : Fin cfg1.N) (q : Fin 512) (d : Fin 1024) : iblk1 W c 0 t (ix2 q d) = (A.dy (rowH (t.val / 4) q) d : EReal) := (b1_0 W c t q d).trans (hI.base.dy _ d)
theorem i1_g (t : Fin cfg1.N) (d : Fin 1024) : iblk1 W c 2 t (ix2 0 d) = (A.g d : EReal) := (b1_2 W c t d).trans (hI.base.g d)
theorem i1_s (t : Fin cfg1.N) (q : Fin 512) (k : Fin 704) : iblk1 W c 3 t (ix3 0 q k) = (A.s (rowH (t.val / 4) q) (col (shN t.val) k) : EReal) := (b1_3 W c t q k).trans (congrFun hI.s _)
theorem i1_ds (t : Fin cfg1.N) (q : Fin 512) (k : Fin 704) : iblk1 W c 4 t (ix3 0 q k) = (A.ds (rowH (t.val / 4) q) (col (shN t.val) k) : EReal) := (b1_4 W c t q k).trans (congrFun hI.ds _)
theorem i1_u (t : Fin cfg1.N) (q : Fin 512) (k : Fin 704) : iblk1 W c 5 t (ix3 0 q k) = (A.u (rowH (t.val / 4) q) (col (shN t.val) k) : EReal) := (b1_5 W c t q k).trans (congrFun hI.u _)
theorem i1_wg (t : Fin cfg1.N) (k : Fin 704) (d : Fin 1024) : iblk1 W c 6 t (ix3 0 k d) = (A.wg d (col (shN t.val) k) : EReal) := (b1_6 W c t k d).trans (hI.base.wg _ k d)
theorem i1_wu (t : Fin cfg1.N) (k : Fin 704) (d : Fin 1024) : iblk1 W c 7 t (ix3 0 k d) = (A.wu d (col (shN t.val) k) : EReal) := (b1_7 W c t k d).trans (hI.base.wu _ k d)
theorem i1_wd (t : Fin cfg1.N) (k : Fin 704) (d : Fin 1024) : iblk1 W c 8 t (ix3 0 k d) = (A.wd (col (shN t.val) k) d : EReal) := (b1_8 W c t k d).trans (hI.base.wd _ k d)

theorem do_val (t : Fin cfg1.N) : ∀ q d, doF W c (t.val + 1) (ix2 q d) = (A.hdy (rowH (t.val / 4) q) d : EReal) := by
  refine tile_keep 32 (fun j n => ∀ q d, doF W c n (ix2 q d) = (A.hdy (rowH j q) d : EReal)) ?_ ?_ t.val (t_lt1 t)
  · intro n hn hz q d
    have ht : n < cfg1.N := lt_of_lt_of_eq hn (show 32 = cfg1.N from N_1.symm)
    show doF W c ((⟨n, ht⟩ : Fin cfg1.N).val + 1) (ix2 q d) = _
    rw [doF, fold_succ, doOut_pos ((bwdFirst_iff ⟨n, ht⟩).mpr hz), p1_5, i1_dy hI, ofBits_half, ← EReal.coe_mul]; rfl
  · intro n hn hz ih q d
    have ht : n < cfg1.N := lt_of_lt_of_eq hn (show 32 = cfg1.N from N_1.symm)
    show doF W c ((⟨n, ht⟩ : Fin cfg1.N).val + 1) (ix2 q d) = _
    rw [doF, fold_succ, doOut_neg (fun h => hz ((bwdFirst_iff ⟨n, ht⟩).mp h))]
    exact ih q d

theorem dh_next (t : Fin cfg1.N) (q : Fin 512) (d : Fin 1024) : dhF W c (t.val + 1) (ix2 q d) = dhPrior (grid1.coords t) (dhF W c t.val) (ix2 q d) + (part1 A (t.val / 4) t.val q d : EReal) := by
  have e : doOut (grid1.coords t) (iblk1 W c 0 t) (doF W c t.val) = doF W c (t.val + 1) := (fold_succ (fun (t : Fin cfg1.N) D => doOut (grid1.coords t) (iblk1 W c 0 t) D) _ t).symm
  rw [dhF, fold_succ, dhStep, e]
  exact dhShard_at A (do_val hI t) (i1_s hI t) (i1_ds hI t) (i1_u hI t) (i1_wg hI t) (i1_wu hI t) (i1_wd hI t) _ q d

theorem dh_val (t : Fin cfg1.N) (q : Fin 512) (d : Fin 1024) : dhF W c (t.val + 1) (ix2 q d) = ((∑ s ∈ Finset.range (t.val % 4 + 1), part1 A (t.val / 4) s q d : ℝ) : EReal) := by
  have hp : ∀ n, part1 A (n / 4) n q d = part1 A (n / 4) (n % 4) q d := fun n => by
    unfold part1; rw [show shN n = shN (n % 4) from Fin.ext (Nat.mod_mod _ _).symm]
  refine tile_sum 32 (fun _ n => dhF W c n (ix2 q d)) (fun j s => part1 A j s q d) ?_ ?_ t.val (t_lt1 t)
  · intro n hn hz
    have ht : n < cfg1.N := lt_of_lt_of_eq hn (show 32 = cfg1.N from N_1.symm)
    refine (dh_next hI ⟨n, ht⟩ q d).trans ?_
    rw [dhPrior_pos ((bwdFirst_iff ⟨n, ht⟩).mpr hz), p1_4, zero_add, hp, hz]
  · intro n hn hz y hy
    have ht : n < cfg1.N := lt_of_lt_of_eq hn (show 32 = cfg1.N from N_1.symm)
    refine (dh_next hI ⟨n, ht⟩ q d).trans ?_
    rw [dhPrior_neg (fun h => hz ((bwdFirst_iff ⟨n, ht⟩).mp h)), hp]
    exact (congrArg (· + ((part1 A (n / 4) (n % 4) q d : ℝ) : EReal)) hy).trans (EReal.coe_add _ _).symm
theorem dh_full (t : Fin cfg1.N) (ht : t.val % 4 = 3) (q : Fin 512) (d : Fin 1024) : dhF W c (t.val + 1) (ix2 q d) = (A.dh (rowH (t.val / 4) q) d : EReal) := by
  rw [dh_val hI, ht]
  unfold part1
  rw [sum_col fun n => A.da (rowH (t.val / 4) q) n * A.wg d n + A.db (rowH (t.val / 4) q) n * A.wu d n]; rfl

omit hI in
theorem bwdLast_iff : ∀ t : Fin grid1.N, k1_cond3 (grid1.coords t) = 1#1 ↔ t.val % 4 = 3 := by decide +kernel

/-- The rows of one tile's share of the scale's gradient. -/
def partg (A : Args) (j : ℕ) (d : Fin 1024) : ℝ := ∑ q : Fin 512, A.dh (rowH j q) d * A.x (rowH j q) d * A.r (rowH j q)

theorem dg_val (d : Fin 1024) : ∀ n, n < 32 → dgF W c (n + 1) (ix2 0 d) = ((∑ j ∈ Finset.range ((n + 1) / 4), partg A j d : ℝ) : EReal) := by
  intro n
  induction n with
  | zero =>
    intro hn
    have ht : 0 < cfg1.N := lt_of_lt_of_eq hn (show 32 = cfg1.N from N_1.symm)
    show dgF W c ((⟨0, ht⟩ : Fin cfg1.N).val + 1) (ix2 0 d) = _
    rw [dgF, fold_succ, dgStep_neg (fun h => absurd (show 0 % 4 = 3 from (bwdLast_iff ⟨0, ht⟩).mp h) (by decide)), dgPrior_pos ((bwdStart_iff ⟨0, ht⟩).mpr rfl), p1_6]
    simp
  | succ n ih =>
    intro hn
    have ht : n + 1 < cfg1.N := lt_of_lt_of_eq hn (show 32 = cfg1.N from N_1.symm)
    have h2 : ¬ k1_cond2 (grid1.coords ⟨n + 1, ht⟩) = 1#1 := fun h => by
      have : (n + 1) % 32 = 0 := (bwdStart_iff ⟨n + 1, ht⟩).mp h
      omega
    show dgF W c ((⟨n + 1, ht⟩ : Fin cfg1.N).val + 1) (ix2 0 d) = _
    rw [dgF, fold_succ]
    by_cases hz : (n + 1) % 4 = 3
    · rw [dgStep_pos ((bwdLast_iff ⟨n + 1, ht⟩).mpr hz), dgPrior_neg h2, p1_3]
      have e : (n + 1 + 1) / 4 = (n + 1) / 4 + 1 := by omega
      rw [e, Finset.sum_range_succ, EReal.coe_add]
      refine congrArg₂ (· + ·) (ih (by omega)) (sum_coe fun q => ?_)
      have h3 := dh_full hI ⟨n + 1, ht⟩ hz q d
      rw [h3, i1_x hI, r_real A (i1_x hI ⟨n + 1, ht⟩), ← EReal.coe_mul, ← EReal.coe_mul]
    · rw [dgStep_neg (fun h => hz ((bwdLast_iff ⟨n + 1, ht⟩).mp h)), dgPrior_neg h2, show (n + 1 + 1) / 4 = (n + 1) / 4 by omega]
      exact ih (by omega)

omit hI in
theorem flush_last1 : ∀ t : Fin cfg1.N, (cfg1.win 9).flush t = true → t.val % 4 = 3 := (by decide +kernel : ∀ t : Fin grid1.N, (cfg1.win 9).flush t = true → t.val % 4 = 3)
omit hI in
theorem flush_last13 : ∀ t : Fin cfg1.N, (cfg1.win 13).flush t = true → t.val = 31 := (by decide +kernel : ∀ t : Fin grid1.N, (cfg1.win 13).flush t = true → t.val = 31)

/-! ## The arrays it leaves -/

theorem dx_arr : (dat1 W c).arrAt 9 cfg1.N = arr2 A.dx := by
  refine (dat1 W c).arrAt_eq_of_covers 9 _ (by decide +kernel) fun t hf y => ?_
  blk_simp
  rw [after1_9]
  obtain ⟨q, d, rfl⟩ := ex2 y
  have hd := dh_full hI t (flush_last1 t hf) q
  have e : k1_pay2 (iblk1 W c 1 t) (dhF W c (t.val + 1)) (iblk1 W c 2 t) (iblk1 W c 0 t) (ix2 q d) = (A.dx (rowH (t.val / 4) q) d : EReal) := by
    rw [p1_2, r_real A (i1_x hI t), i1_dy hI, i1_x hI, i1_g hI, hd,
      sum_coe (a := fun d => A.dh (rowH (t.val / 4) q) d * A.g d * A.x (rowH (t.val / 4) q) d) (fun d => by rw [hd, i1_g hI, i1_x hI, ← EReal.coe_mul, ← EReal.coe_mul]),
      ofBits_1024, div_real _ _ (by norm_num)]
    simp only [← EReal.coe_mul, ← EReal.coe_add, ← EReal.coe_sub]; rfl
  refine e.trans ?_
  show arr2 A.dx (ix2 (rowH (t.val / 4) q) d) = _
  blk_ext [ix1_9 t, rowH]
theorem da_arr : (dat1 W c).arrAt 10 cfg1.N = arr3 fun s t k => A.da t (col s k) := by
  refine (dat1 W c).arrAt_eq_of_covers 10 _ (by decide +kernel) fun t hf y => ?_
  blk_simp
  rw [after1_10]
  obtain ⟨p, q, k, rfl⟩ := ex3 y
  obtain rfl : p = 0 := Fin.ext (by omega)
  refine (daOut_at A (do_val hI t) (i1_ds hI t) (i1_u hI t) (i1_wd hI t) q k).trans ?_
  show arr3 (fun s t k => A.da t (col s k)) (ix3 (shN t.val) (rowH (t.val / 4) q) k) = _
  blk_ext [ix1_10 t, rowH, shN]
theorem db_arr : (dat1 W c).arrAt 11 cfg1.N = arr3 fun s t k => A.db t (col s k) := by
  refine (dat1 W c).arrAt_eq_of_covers 11 _ (by decide +kernel) fun t hf y => ?_
  blk_simp
  rw [after1_11]
  obtain ⟨p, q, k, rfl⟩ := ex3 y
  obtain rfl : p = 0 := Fin.ext (by omega)
  refine (dbOut_at A (do_val hI t) (i1_s hI t) (i1_wd hI t) q k).trans ?_
  show arr3 (fun s t k => A.db t (col s k)) (ix3 (shN t.val) (rowH (t.val / 4) q) k) = _
  blk_ext [ix1_11 t, rowH, shN]
theorem f_arr : (dat1 W c).arrAt 12 cfg1.N = arr3 fun s t k => A.f t (col s k) := by
  refine (dat1 W c).arrAt_eq_of_covers 12 _ (by decide +kernel) fun t hf y => ?_
  blk_simp
  rw [after1_12]
  obtain ⟨p, q, k, rfl⟩ := ex3 y
  obtain rfl : p = 0 := Fin.ext (by omega)
  refine (fOut_at A (i1_s hI t) (i1_u hI t) q k).trans ?_
  show arr3 (fun s t k => A.f t (col s k)) (ix3 (shN t.val) (rowH (t.val / 4) q) k) = _
  blk_ext [ix1_12 t, rowH, shN]
theorem dg_arr : (dat1 W c).arrAt 13 cfg1.N = arr2 fun _ d => A.dg d := by
  refine (dat1 W c).arrAt_eq_of_covers 13 _ (by decide +kernel) fun t hf y => ?_
  blk_simp
  rw [after1_13]
  obtain ⟨q, d, rfl⟩ := ex2 y
  obtain rfl : q = 0 := Fin.ext (by omega)
  refine (dg_val hI d t.val (t_lt1 t)).trans ?_
  rw [flush_last13 t hf]
  unfold partg
  rw [show (31 + 1) / 4 = 8 from rfl, sum_rowH fun t => A.dh t d * A.x t d * A.r t]
  show arr2 (fun _ d => A.dg d) (ix2 (0 : Fin 1) d) = _
  blk_ext [ix1_13 t]
theorem do_arr : (dat1 W c).arrAt 14 cfg1.N = arr2 A.hdy := by
  refine (dat1 W c).arrAt_eq_of_covers 14 _ (by decide +kernel) fun t hf y => ?_
  blk_simp
  rw [after1_14]
  obtain ⟨q, d, rfl⟩ := ex2 y
  refine (do_val hI t q d).trans ?_
  show arr2 A.hdy (ix2 (rowH (t.val / 4) q) d) = _
  blk_ext [ix1_14 t, rowH]

end Cert.Proof.Ffn
end
-- ==== Proof.FfnDwFrame.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit
public import proofs.«01_k».proof.Proof.FfnDwRun
public import proofs.«01_k».proof.Proof.FfnKit

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frames of the three weight-gradient calls -/

theorem dwFirst_zero : ∀ t : Fin grid2.N, t.val = 0 → dwFirst (grid2.coords t) := by decide +kernel
theorem dw_idle {i : grid2.Coords} (h : (!(k2_cond2 i == 1#1)) = true) : ¬ k2_cond2 i = 1#1 := by simpa using h
theorem dw_busy {i : grid2.Coords} (h : (!(k2_cond2 i == 1#1)) = false) : k2_cond2 i = 1#1 := by simpa using h

/-! ## The gate -/

section
variable (W : (c : Dev nD) → Valuation τ sig (Elt F))

/-- Window `w`'s block at point `t`, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

/-- The running sum after the first `n` points. -/
def acc2 (c : Dev nD) : ℕ → Vec F S704x1024 .f32 :=
  fold (fun (t : Fin cfg2.N) X => dwStep (grid2.coords t) (iblk2 W c 0 t) (iblk2 W c 1 t) X) k2_pay1
abbrev scM2_0 : Memref sig .tc .vmem S704x1024 .f32 := Memref.whole cc2_scratch0

/-- Between points: the scratch at the carried contents (at any contents before the first point), the rest unopened. -/
def phi2 (c : Dev nD) (n : ℕ) : sProp 𝕄 :=
  iprop((∃ s0, ⌜n ≠ 0 → s0 = acc2 W c n⌝ ∗ owns (c : Thread nD τ) scM2_0 fullShare s0) ∗ Pipeline.scopedRestBut spec2 c [cc2_scratch0] ∗ (∃ r, prngReg c r))

def dat2 (c : Dev nD) : Dat τ (Elt F) Unit ℕ (UR sig nD τ) ℕ cfg2 c where
  A w := W c (Pipeline.arrRef spec2 w)
  after w t := match w with
    | ⟨0, _⟩ => iblk2 W c 0 t
    | ⟨1, _⟩ => iblk2 W c 1 t
    | ⟨2, _⟩ => k2_pay3 (acc2 W c (t.val + 1))
    | ⟨3, _⟩ => k2_pay4 (acc2 W c (t.val + 1))
  Φ t := phi2 W c t.val
  q _ := fullShare
  owed _ := 0

theorem A_eq2 (c : Dev nD) (w : Fin cfg2.W) : (dat2 W c).A w = W c (Pipeline.arrRef spec2 w) := by dsimp only [dat2]
theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = k2_pay3 (acc2 W c (t.val + 1)) := by dsimp only [dat2]
theorem after2_3 (c : Dev nD) (t : Fin cfg2.N) : (dat2 W c).after 3 t = k2_pay4 (acc2 W c (t.val + 1)) := by dsimp only [dat2]
theorem before2_0 (c : Dev nD) (t : Fin cfg2.N) (d) : (dat2 W c).before 0 t d = iblk2 W c 0 t :=
  ((dat2 W c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 W c).before 1 t d = iblk2 W c 1 t :=
  ((dat2 W c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem step2 (c : Dev nD) (t : Fin cfg2.N) (s : Vec F S704x1024 .f32) (hs : t.val ≠ 0 → s = acc2 W c t.val) :
    dwStep (grid2.coords t) (iblk2 W c 0 t) (iblk2 W c 1 t) s = acc2 W c (t.val + 1) := by
  rw [acc2, fold_succ]
  by_cases h0 : t.val = 0
  · rw [dwStep_pos (dwFirst_zero t h0), dwStep_pos (dwFirst_zero t h0)]
  · rw [hs h0]; rfl

theorem idle2_eq : ∀ t : Fin cfg2.N, cfg2.idle 2 (cfg2.grid.coords t) = !((cfg2.win 2).flush t) ∧ cfg2.idle 3 (cfg2.grid.coords t) = !((cfg2.win 3).flush t) := by decide +kernel

theorem phi2_castSucc (c : Dev nD) (t : Fin cfg2.N) : (dat2 W c).Φ t.castSucc = phi2 W c t.val := congrArg (phi2 W c) (castSucc_val t)
theorem phi2_succ (c : Dev nD) (t : Fin cfg2.N) : (dat2 W c).Φ t.succ = phi2 W c (t.val + 1) := congrArg (phi2 W c) (succ_val t)

/-- The scratch comes from the region's scoped buffers and goes back to them. -/
theorem phi2_in (c : Dev nD) : iprop(Pipeline.scopedRest spec2 c ∗ (∃ r, prngReg c r)) ⊢ phi2 W c 0 := by
  unfold phi2; rw [scopedRest2_split]
  iintro ⟨⟨⟨%f0, H0⟩, Hr⟩, Hg⟩
  isplitl [H0]
  · iexists f0
    isplitr; · ipureintro; exact fun h => absurd rfl h
    rw [owns_whole]
    iexact H0
  isplitl [Hr]; · iexact Hr
  iexact Hg

theorem phi2_out (c : Dev nD) (n : ℕ) : phi2 W c n ⊢ iprop(Pipeline.scopedRest spec2 c ∗ (∃ r, prngReg c r)) := by
  unfold phi2; rw [scopedRest2_split]
  iintro ⟨⟨%s0, -, H0⟩, Hr, Hg⟩
  isplitr [Hg]
  · isplitr [Hr]
    · iexists s0; rw [← owns_whole]; iexact H0
    iexact Hr
  iexact Hg

/-- What the body is called with at point `t`, and what it returns. -/
def bodyPre2 (c : Dev nD) (t : Fin cfg2.N) : sProp 𝕄 :=
  iprop((dat2 W c).Φ t.castSucc ∗ (dat2 W c).owesAt () t.castSucc
    ∗ (∃ d, owns (c : Thread nD τ) (win2_0.stage (cfg2.slots t 0)) fullShare ((dat2 W c).before 0 t d))
    ∗ (∃ d, owns (c : Thread nD τ) (win2_1.stage (cfg2.slots t 1)) fullShare ((dat2 W c).before 1 t d))
    ∗ (∃ d, owns (c : Thread nD τ) (win2_2.stage (cfg2.slots t 2)) fullShare ((dat2 W c).before 2 t d))
    ∗ (∃ d, owns (c : Thread nD τ) (win2_3.stage (cfg2.slots t 3)) fullShare ((dat2 W c).before 3 t d)))

def bodyPost2 (c : Dev nD) (t : Fin cfg2.N) : sProp 𝕄 :=
  iprop((dat2 W c).Φ t.succ ∗ (dat2 W c).owesAt () t.succ
    ∗ owns (c : Thread nD τ) (win2_0.stage (cfg2.slots t 0)) fullShare ((dat2 W c).after 0 t)
    ∗ owns (c : Thread nD τ) (win2_1.stage (cfg2.slots t 1)) fullShare ((dat2 W c).after 1 t)
    ∗ (dat2 W c).leavesExact 2 t
    ∗ (dat2 W c).leavesExact 3 t)

set_option maxHeartbeats 4000000 in
/-- The body's triple at any point of the grid. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1]
  rw [phi2_castSucc, phi2_succ, show (dat2 W c).owesAt () t.succ = (dat2 W c).owesAt () t.castSucc from rfl,
    after2_0, after2_1]
  unfold phi2
  iintro ⟨⟨⟨%s0, %hs, S0⟩, Hr, Hg⟩, Ho, ⟨%d0, H0⟩, ⟨%d1, H1⟩, ⟨%d2, H2⟩, ⟨%d3, H3⟩⟩
  iapply ((dwRun c (grid2.coords t) _ _ _ _ _ _ _ _ _ _ (iblk2 W c 0 t) (iblk2 W c 1 t) ((dat2 W c).before 2 t d2) ((dat2 W c).before 3 t d3) s0) Set.univ _)
  isplitl [H0]; · iexact H0
  isplitl [H1]; · iexact H1
  isplitl [H2]; · iexact H2
  isplitl [H3]; · iexact H3
  isplitl [S0]; · iexact S0
  iintro ⟨H0, H1, H2, H3, S0⟩
  rw [step2 W c t s0 hs]
  isplitl [S0 Hr Hg]
  · isplitl [S0]
    · iexists _
      isplitr
      · ipureintro; exact fun _ => rfl
      iexact S0
    isplitl [Hr]; · iexact Hr
    iexact Hg
  isplitl [Ho]; · iexact Ho
  isplitl [H0]
  · iexact H0
  isplitl [H1]
  · iexact H1
  isplitl [H2]
  · iapply (leaves_of (dat2 W c) 2 t d2 _ (fun hi _ => dwOut_neg (dw_idle hi) _ _) (fun hi => (dwOut_pos (dw_busy (hi.elim id fun hf => (idle2_eq t).1.trans (congrArg (! ·) hf))) _ _).trans (after2_2 W c t).symm)); iexact H2
  iapply (leaves_of (dat2 W c) 3 t d3 _ (fun hi _ => dwOut_neg (dw_idle hi) _ _) (fun hi => (dwOut_pos (dw_busy (hi.elim id fun hf => (idle2_eq t).2.trans (congrArg (! ·) hf))) _ _).trans (after2_3 W c t).symm)); iexact H3

theorem defs₀_row2 (t : Fin cfg2.N) : defs₀ (F := F) .tc cfg2.body (cfg2.bodyArgs t (cfg2.slots t)) = bodyAt2 t := by
  unfold defs₀; rw [Defs.onTc_tc]

theorem body_obligation2 (c : Dev nD) : BodyObligation (dat2 (F := F) W c) (defs₀ (F := F)) Variants.none () Set.univ := fun t => by
  rw [bigSep_W2, bigSep_W2, defs₀_row2]
  exact triple_restated (sound_body2 W c t) rfl .rfl fun _ => .rfl

end

/-! ## The up product -/

section
variable (W : (c : Dev nD) → Valuation τ sig (Elt F))

/-- Window `w`'s block at point `t`, read off its array. -/
def iblk3 (c : Dev nD) (w : Fin cfg3.W) (t : Fin cfg3.N) : ((cfg3.win w).xblock (cfg3.grid.coords t)).Idx → Elt F (cfg3.win w).elt :=
  ((cfg3.win w).blk t).view.read (Elt F) (W c (Pipeline.arrRef spec3 w))

/-- The running sum after the first `n` points. -/
def acc3 (c : Dev nD) : ℕ → Vec F S704x1024 .f32 :=
  fold (fun (t : Fin cfg3.N) X => dwStep (grid3.coords t) (iblk3 W c 0 t) (iblk3 W c 1 t) X) k2_pay1
abbrev scM3_0 : Memref sig .tc .vmem S704x1024 .f32 := Memref.whole cc3_scratch0

/-- Between points: the scratch at the carried contents (at any contents before the first point), the rest unopened. -/
def phi3 (c : Dev nD) (n : ℕ) : sProp 𝕄 :=
  iprop((∃ s0, ⌜n ≠ 0 → s0 = acc3 W c n⌝ ∗ owns (c : Thread nD τ) scM3_0 fullShare s0) ∗ Pipeline.scopedRestBut spec3 c [cc3_scratch0] ∗ (∃ r, prngReg c r))

def dat3 (c : Dev nD) : Dat τ (Elt F) Unit ℕ (UR sig nD τ) ℕ cfg3 c where
  A w := W c (Pipeline.arrRef spec3 w)
  after w t := match w with
    | ⟨0, _⟩ => iblk3 W c 0 t
    | ⟨1, _⟩ => iblk3 W c 1 t
    | ⟨2, _⟩ => k2_pay3 (acc3 W c (t.val + 1))
    | ⟨3, _⟩ => k2_pay4 (acc3 W c (t.val + 1))
  Φ t := phi3 W c t.val
  q _ := fullShare
  owed _ := 0

theorem A_eq3 (c : Dev nD) (w : Fin cfg3.W) : (dat3 W c).A w = W c (Pipeline.arrRef spec3 w) := by dsimp only [dat3]
theorem after3_0 (c : Dev nD) (t : Fin cfg3.N) : (dat3 W c).after 0 t = iblk3 W c 0 t := by dsimp only [dat3]
theorem after3_1 (c : Dev nD) (t : Fin cfg3.N) : (dat3 W c).after 1 t = iblk3 W c 1 t := by dsimp only [dat3]
theorem after3_2 (c : Dev nD) (t : Fin cfg3.N) : (dat3 W c).after 2 t = k2_pay3 (acc3 W c (t.val + 1)) := by dsimp only [dat3]
theorem after3_3 (c : Dev nD) (t : Fin cfg3.N) : (dat3 W c).after 3 t = k2_pay4 (acc3 W c (t.val + 1)) := by dsimp only [dat3]
theorem before3_0 (c : Dev nD) (t : Fin cfg3.N) (d) : (dat3 W c).before 0 t d = iblk3 W c 0 t :=
  ((dat3 W c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 W c).before 1 t d = iblk3 W c 1 t :=
  ((dat3 W c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem step3 (c : Dev nD) (t : Fin cfg3.N) (s : Vec F S704x1024 .f32) (hs : t.val ≠ 0 → s = acc3 W c t.val) :
    dwStep (grid3.coords t) (iblk3 W c 0 t) (iblk3 W c 1 t) s = acc3 W c (t.val + 1) := by
  rw [acc3, fold_succ]
  by_cases h0 : t.val = 0
  · rw [dwStep_pos (dwFirst_zero t h0), dwStep_pos (dwFirst_zero t h0)]
  · rw [hs h0]; rfl

theorem idle3_eq : ∀ t : Fin cfg3.N, cfg3.idle 2 (cfg3.grid.coords t) = !((cfg3.win 2).flush t) ∧ cfg3.idle 3 (cfg3.grid.coords t) = !((cfg3.win 3).flush t) := by decide +kernel

theorem phi3_castSucc (c : Dev nD) (t : Fin cfg3.N) : (dat3 W c).Φ t.castSucc = phi3 W c t.val := congrArg (phi3 W c) (castSucc_val t)
theorem phi3_succ (c : Dev nD) (t : Fin cfg3.N) : (dat3 W c).Φ t.succ = phi3 W c (t.val + 1) := congrArg (phi3 W c) (succ_val t)

/-- The scratch comes from the region's scoped buffers and goes back to them. -/
theorem phi3_in (c : Dev nD) : iprop(Pipeline.scopedRest spec3 c ∗ (∃ r, prngReg c r)) ⊢ phi3 W c 0 := by
  unfold phi3; rw [scopedRest3_split]
  iintro ⟨⟨⟨%f0, H0⟩, Hr⟩, Hg⟩
  isplitl [H0]
  · iexists f0
    isplitr; · ipureintro; exact fun h => absurd rfl h
    rw [owns_whole]
    iexact H0
  isplitl [Hr]; · iexact Hr
  iexact Hg

theorem phi3_out (c : Dev nD) (n : ℕ) : phi3 W c n ⊢ iprop(Pipeline.scopedRest spec3 c ∗ (∃ r, prngReg c r)) := by
  unfold phi3; rw [scopedRest3_split]
  iintro ⟨⟨%s0, -, H0⟩, Hr, Hg⟩
  isplitr [Hg]
  · isplitr [Hr]
    · iexists s0; rw [← owns_whole]; iexact H0
    iexact Hr
  iexact Hg

/-- What the body is called with at point `t`, and what it returns. -/
def bodyPre3 (c : Dev nD) (t : Fin cfg3.N) : sProp 𝕄 :=
  iprop((dat3 W c).Φ t.castSucc ∗ (dat3 W c).owesAt () t.castSucc
    ∗ (∃ d, owns (c : Thread nD τ) (win3_0.stage (cfg3.slots t 0)) fullShare ((dat3 W c).before 0 t d))
    ∗ (∃ d, owns (c : Thread nD τ) (win3_1.stage (cfg3.slots t 1)) fullShare ((dat3 W c).before 1 t d))
    ∗ (∃ d, owns (c : Thread nD τ) (win3_2.stage (cfg3.slots t 2)) fullShare ((dat3 W c).before 2 t d))
    ∗ (∃ d, owns (c : Thread nD τ) (win3_3.stage (cfg3.slots t 3)) fullShare ((dat3 W c).before 3 t d)))

def bodyPost3 (c : Dev nD) (t : Fin cfg3.N) : sProp 𝕄 :=
  iprop((dat3 W c).Φ t.succ ∗ (dat3 W c).owesAt () t.succ
    ∗ owns (c : Thread nD τ) (win3_0.stage (cfg3.slots t 0)) fullShare ((dat3 W c).after 0 t)
    ∗ owns (c : Thread nD τ) (win3_1.stage (cfg3.slots t 1)) fullShare ((dat3 W c).after 1 t)
    ∗ (dat3 W c).leavesExact 2 t
    ∗ (dat3 W c).leavesExact 3 t)

set_option maxHeartbeats 4000000 in
/-- The body's triple at any point of the grid. -/
theorem sound_body3 (c : Dev nD) (t : Fin cfg3.N) :
    bodyPre3 W c t ⊢ wp frame (wpE (defs₀ (F := F)) Variants.none c none) Set.univ (bodyAt3 t) (fun _ => bodyPost3 W c t) := by
  unfold bodyPre3 bodyPost3 bodyAt3
  simp only [before3_0, before3_1]
  rw [phi3_castSucc, phi3_succ, show (dat3 W c).owesAt () t.succ = (dat3 W c).owesAt () t.castSucc from rfl,
    after3_0, after3_1]
  unfold phi3
  iintro ⟨⟨⟨%s0, %hs, S0⟩, Hr, Hg⟩, Ho, ⟨%d0, H0⟩, ⟨%d1, H1⟩, ⟨%d2, H2⟩, ⟨%d3, H3⟩⟩
  rw [cc3_eq]
  iapply ((dwRun c (grid3.coords t) _ _ _ _ _ _ _ _ _ _ (iblk3 W c 0 t) (iblk3 W c 1 t) ((dat3 W c).before 2 t d2) ((dat3 W c).before 3 t d3) s0) Set.univ _)
  isplitl [H0]; · iexact H0
  isplitl [H1]; · iexact H1
  isplitl [H2]; · iexact H2
  isplitl [H3]; · iexact H3
  isplitl [S0]; · iexact S0
  iintro ⟨H0, H1, H2, H3, S0⟩
  rw [step3 W c t s0 hs]
  isplitl [S0 Hr Hg]
  · isplitl [S0]
    · iexists _
      isplitr
      · ipureintro; exact fun _ => rfl
      iexact S0
    isplitl [Hr]; · iexact Hr
    iexact Hg
  isplitl [Ho]; · iexact Ho
  isplitl [H0]
  · iexact H0
  isplitl [H1]
  · iexact H1
  isplitl [H2]
  · iapply (leaves_of (dat3 W c) 2 t d2 _ (fun hi _ => dwOut_neg (dw_idle hi) _ _) (fun hi => (dwOut_pos (dw_busy (hi.elim id fun hf => (idle3_eq t).1.trans (congrArg (! ·) hf))) _ _).trans (after3_2 W c t).symm)); iexact H2
  iapply (leaves_of (dat3 W c) 3 t d3 _ (fun hi _ => dwOut_neg (dw_idle hi) _ _) (fun hi => (dwOut_pos (dw_busy (hi.elim id fun hf => (idle3_eq t).2.trans (congrArg (! ·) hf))) _ _).trans (after3_3 W c t).symm)); iexact H3

theorem defs₀_row3 (t : Fin cfg3.N) : defs₀ (F := F) .tc cfg3.body (cfg3.bodyArgs t (cfg3.slots t)) = bodyAt3 t := by
  unfold defs₀; rw [Defs.onTc_tc]

theorem body_obligation3 (c : Dev nD) : BodyObligation (dat3 (F := F) W c) (defs₀ (F := F)) Variants.none () Set.univ := fun t => by
  rw [bigSep_W3, bigSep_W3, defs₀_row3]
  exact triple_restated (sound_body3 W c t) rfl .rfl fun _ => .rfl

end

/-! ## The down product -/

section
variable (W : (c : Dev nD) → Valuation τ sig (Elt F))

/-- Window `w`'s block at point `t`, read off its array. -/
def iblk4 (c : Dev nD) (w : Fin cfg4.W) (t : Fin cfg4.N) : ((cfg4.win w).xblock (cfg4.grid.coords t)).Idx → Elt F (cfg4.win w).elt :=
  ((cfg4.win w).blk t).view.read (Elt F) (W c (Pipeline.arrRef spec4 w))

/-- The running sum after the first `n` points. -/
def acc4 (c : Dev nD) : ℕ → Vec F S704x1024 .f32 :=
  fold (fun (t : Fin cfg4.N) X => dwStep (grid4.coords t) (iblk4 W c 0 t) (iblk4 W c 1 t) X) k2_pay1
abbrev scM4_0 : Memref sig .tc .vmem S704x1024 .f32 := Memref.whole cc4_scratch0

/-- Between points: the scratch at the carried contents (at any contents before the first point), the rest unopened. -/
def phi4 (c : Dev nD) (n : ℕ) : sProp 𝕄 :=
  iprop((∃ s0, ⌜n ≠ 0 → s0 = acc4 W c n⌝ ∗ owns (c : Thread nD τ) scM4_0 fullShare s0) ∗ Pipeline.scopedRestBut spec4 c [cc4_scratch0] ∗ (∃ r, prngReg c r))

def dat4 (c : Dev nD) : Dat τ (Elt F) Unit ℕ (UR sig nD τ) ℕ cfg4 c where
  A w := W c (Pipeline.arrRef spec4 w)
  after w t := match w with
    | ⟨0, _⟩ => iblk4 W c 0 t
    | ⟨1, _⟩ => iblk4 W c 1 t
    | ⟨2, _⟩ => k2_pay3 (acc4 W c (t.val + 1))
    | ⟨3, _⟩ => k2_pay4 (acc4 W c (t.val + 1))
  Φ t := phi4 W c t.val
  q _ := fullShare
  owed _ := 0

theorem A_eq4 (c : Dev nD) (w : Fin cfg4.W) : (dat4 W c).A w = W c (Pipeline.arrRef spec4 w) := by dsimp only [dat4]
theorem after4_0 (c : Dev nD) (t : Fin cfg4.N) : (dat4 W c).after 0 t = iblk4 W c 0 t := by dsimp only [dat4]
theorem after4_1 (c : Dev nD) (t : Fin cfg4.N) : (dat4 W c).after 1 t = iblk4 W c 1 t := by dsimp only [dat4]
theorem after4_2 (c : Dev nD) (t : Fin cfg4.N) : (dat4 W c).after 2 t = k2_pay3 (acc4 W c (t.val + 1)) := by dsimp only [dat4]
theorem after4_3 (c : Dev nD) (t : Fin cfg4.N) : (dat4 W c).after 3 t = k2_pay4 (acc4 W c (t.val + 1)) := by dsimp only [dat4]
theorem before4_0 (c : Dev nD) (t : Fin cfg4.N) (d) : (dat4 W c).before 0 t d = iblk4 W c 0 t :=
  ((dat4 W c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 W c).before 1 t d = iblk4 W c 1 t :=
  ((dat4 W c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem step4 (c : Dev nD) (t : Fin cfg4.N) (s : Vec F S704x1024 .f32) (hs : t.val ≠ 0 → s = acc4 W c t.val) :
    dwStep (grid4.coords t) (iblk4 W c 0 t) (iblk4 W c 1 t) s = acc4 W c (t.val + 1) := by
  rw [acc4, fold_succ]
  by_cases h0 : t.val = 0
  · rw [dwStep_pos (dwFirst_zero t h0), dwStep_pos (dwFirst_zero t h0)]
  · rw [hs h0]; rfl

theorem idle4_eq : ∀ t : Fin cfg4.N, cfg4.idle 2 (cfg4.grid.coords t) = !((cfg4.win 2).flush t) ∧ cfg4.idle 3 (cfg4.grid.coords t) = !((cfg4.win 3).flush t) := by decide +kernel

theorem phi4_castSucc (c : Dev nD) (t : Fin cfg4.N) : (dat4 W c).Φ t.castSucc = phi4 W c t.val := congrArg (phi4 W c) (castSucc_val t)
theorem phi4_succ (c : Dev nD) (t : Fin cfg4.N) : (dat4 W c).Φ t.succ = phi4 W c (t.val + 1) := congrArg (phi4 W c) (succ_val t)

/-- The scratch comes from the region's scoped buffers and goes back to them. -/
theorem phi4_in (c : Dev nD) : iprop(Pipeline.scopedRest spec4 c ∗ (∃ r, prngReg c r)) ⊢ phi4 W c 0 := by
  unfold phi4; rw [scopedRest4_split]
  iintro ⟨⟨⟨%f0, H0⟩, Hr⟩, Hg⟩
  isplitl [H0]
  · iexists f0
    isplitr; · ipureintro; exact fun h => absurd rfl h
    rw [owns_whole]
    iexact H0
  isplitl [Hr]; · iexact Hr
  iexact Hg

theorem phi4_out (c : Dev nD) (n : ℕ) : phi4 W c n ⊢ iprop(Pipeline.scopedRest spec4 c ∗ (∃ r, prngReg c r)) := by
  unfold phi4; rw [scopedRest4_split]
  iintro ⟨⟨%s0, -, H0⟩, Hr, Hg⟩
  isplitr [Hg]
  · isplitr [Hr]
    · iexists s0; rw [← owns_whole]; iexact H0
    iexact Hr
  iexact Hg

/-- What the body is called with at point `t`, and what it returns. -/
def bodyPre4 (c : Dev nD) (t : Fin cfg4.N) : sProp 𝕄 :=
  iprop((dat4 W c).Φ t.castSucc ∗ (dat4 W c).owesAt () t.castSucc
    ∗ (∃ d, owns (c : Thread nD τ) (win4_0.stage (cfg4.slots t 0)) fullShare ((dat4 W c).before 0 t d))
    ∗ (∃ d, owns (c : Thread nD τ) (win4_1.stage (cfg4.slots t 1)) fullShare ((dat4 W c).before 1 t d))
    ∗ (∃ d, owns (c : Thread nD τ) (win4_2.stage (cfg4.slots t 2)) fullShare ((dat4 W c).before 2 t d))
    ∗ (∃ d, owns (c : Thread nD τ) (win4_3.stage (cfg4.slots t 3)) fullShare ((dat4 W c).before 3 t d)))

def bodyPost4 (c : Dev nD) (t : Fin cfg4.N) : sProp 𝕄 :=
  iprop((dat4 W c).Φ t.succ ∗ (dat4 W c).owesAt () t.succ
    ∗ owns (c : Thread nD τ) (win4_0.stage (cfg4.slots t 0)) fullShare ((dat4 W c).after 0 t)
    ∗ owns (c : Thread nD τ) (win4_1.stage (cfg4.slots t 1)) fullShare ((dat4 W c).after 1 t)
    ∗ (dat4 W c).leavesExact 2 t
    ∗ (dat4 W c).leavesExact 3 t)

set_option maxHeartbeats 4000000 in
/-- The body's triple at any point of the grid. -/
theorem sound_body4 (c : Dev nD) (t : Fin cfg4.N) :
    bodyPre4 W c t ⊢ wp frame (wpE (defs₀ (F := F)) Variants.none c none) Set.univ (bodyAt4 t) (fun _ => bodyPost4 W c t) := by
  unfold bodyPre4 bodyPost4 bodyAt4
  simp only [before4_0, before4_1]
  rw [phi4_castSucc, phi4_succ, show (dat4 W c).owesAt () t.succ = (dat4 W c).owesAt () t.castSucc from rfl,
    after4_0, after4_1]
  unfold phi4
  iintro ⟨⟨⟨%s0, %hs, S0⟩, Hr, Hg⟩, Ho, ⟨%d0, H0⟩, ⟨%d1, H1⟩, ⟨%d2, H2⟩, ⟨%d3, H3⟩⟩
  rw [cc4_eq]
  iapply ((dwRun c (grid4.coords t) _ _ _ _ _ _ _ _ _ _ (iblk4 W c 0 t) (iblk4 W c 1 t) ((dat4 W c).before 2 t d2) ((dat4 W c).before 3 t d3) s0) Set.univ _)
  isplitl [H0]; · iexact H0
  isplitl [H1]; · iexact H1
  isplitl [H2]; · iexact H2
  isplitl [H3]; · iexact H3
  isplitl [S0]; · iexact S0
  iintro ⟨H0, H1, H2, H3, S0⟩
  rw [step4 W c t s0 hs]
  isplitl [S0 Hr Hg]
  · isplitl [S0]
    · iexists _
      isplitr
      · ipureintro; exact fun _ => rfl
      iexact S0
    isplitl [Hr]; · iexact Hr
    iexact Hg
  isplitl [Ho]; · iexact Ho
  isplitl [H0]
  · iexact H0
  isplitl [H1]
  · iexact H1
  isplitl [H2]
  · iapply (leaves_of (dat4 W c) 2 t d2 _ (fun hi _ => dwOut_neg (dw_idle hi) _ _) (fun hi => (dwOut_pos (dw_busy (hi.elim id fun hf => (idle4_eq t).1.trans (congrArg (! ·) hf))) _ _).trans (after4_2 W c t).symm)); iexact H2
  iapply (leaves_of (dat4 W c) 3 t d3 _ (fun hi _ => dwOut_neg (dw_idle hi) _ _) (fun hi => (dwOut_pos (dw_busy (hi.elim id fun hf => (idle4_eq t).2.trans (congrArg (! ·) hf))) _ _).trans (after4_3 W c t).symm)); iexact H3

theorem defs₀_row4 (t : Fin cfg4.N) : defs₀ (F := F) .tc cfg4.body (cfg4.bodyArgs t (cfg4.slots t)) = bodyAt4 t := by
  unfold defs₀; rw [Defs.onTc_tc]

theorem body_obligation4 (c : Dev nD) : BodyObligation (dat4 (F := F) W c) (defs₀ (F := F)) Variants.none () Set.univ := fun t => by
  rw [bigSep_W4, bigSep_W4, defs₀_row4]
  exact triple_restated (sound_body4 W c t) rfl .rfl fun _ => .rfl

end

end Cert.Proof.Ffn

end
-- ==== Proof.FfnVal2.lean ====
module

public import proofs.«01_k».proof.Proof.FfnVal0
public import proofs.«01_k».proof.Proof.FfnDwFrame

@[expose] public section

set_option maxRecDepth 16384

noncomputable section

namespace Cert.Proof.Ffn

open Cert.FfnIdeal Cert.FfnIdeal.Gen
open Cert.Proof.Attn (coe_sum' div_real)
open Idealize.ShloMosaic.Pipeline (Dat)
open Idealize.ShloMosaic Idealize.ShloMosaic.TcCoe Idealize.SL.Sem

/-! # The three weight calls' arrays -/

theorem dwFirst_iff : ∀ t : Fin grid2.N, dwFirst (grid2.coords t) ↔ t.val % 4 = 0 := by decide +kernel
theorem dw_coord : ∀ t : Fin grid2.N, ((grid2.coords t) 1).val = t.val % 4 := by decide +kernel
theorem t_lt2 (t : Fin grid2.N) : t.val < 16 := lt_of_lt_of_eq t.isLt (show cfg2.N = 16 from N_2)

/-- One tile of rows' share of a product over all rows. -/
def partw (G : Fin 4096 → Fin 2816 → ℝ) (B : Fin 4096 → Fin 1024 → ℝ) (s j : ℕ) (k : Fin 704) (d : Fin 1024) : ℝ :=
  ∑ q : Fin 1024, G (rowN j q) (col (shN s) k) * B (rowN j q) d

section
variable {G : Fin 4096 → Fin 2816 → ℝ} {B : Fin 4096 → Fin 1024 → ℝ} {Y : Fin grid2.N → Vec Ideal S1x1024x704 .bf16} {Z : Fin grid2.N → Vec Ideal S4096x1024 .bf16}
  (hY : ∀ t q k, Y t (ix3 0 q k) = (G (rowN (t.val % 4) q) (col (shN (t.val / 4)) k) : EReal)) (hZ : ∀ t r d, Z t (ix2 r d) = (B r d : EReal))

/-- The running product over the points. -/
abbrev dwFold (Y : Fin grid2.N → Vec Ideal S1x1024x704 .bf16) (Z : Fin grid2.N → Vec Ideal S4096x1024 .bf16) : ℕ → Vec Ideal S704x1024 .f32 :=
  fold (fun (t : Fin cfg2.N) X => dwStep (grid2.coords t) (Y t) (Z t) X) (k2_pay1 (F := Ideal))

include hY hZ in
theorem dw_tile (t : Fin grid2.N) (k : Fin 704) (d : Fin 1024) :
    ∑ q : Fin 1024, Y t (ix3 0 q k) * dwRows (grid2.coords t) (Z t) (ix2 q d) = (partw G B (t.val / 4) (t.val % 4) k d : EReal) := by
  refine sum_mul_coe (fun q => hY t q k) (fun q => ?_)
  rw [dwRows_at, hZ]
  refine congrArg (fun r => ((B r d : ℝ) : EReal)) (Fin.ext ?_)
  show 1024 * ((grid2.coords t) 1).val + q.val = 1024 * (t.val % 4 % 4) + q.val
  rw [dw_coord]; omega
include hY hZ in
theorem dw_val (t : Fin grid2.N) (k : Fin 704) (d : Fin 1024) : dwFold Y Z (t.val + 1) (ix2 k d) = ((∑ j ∈ Finset.range (t.val % 4 + 1), partw G B (t.val / 4) j k d : ℝ) : EReal) := by
  refine tile_sum 16 (fun _ n => dwFold Y Z n (ix2 k d)) (fun s j => partw G B s j k d) ?_ ?_ t.val (t_lt2 t)
  · intro n hn hz
    have ht : n < cfg2.N := lt_of_lt_of_eq hn (show 16 = cfg2.N from N_2.symm)
    show dwFold Y Z ((⟨n, ht⟩ : Fin cfg2.N).val + 1) (ix2 k d) = _
    rw [dwFold, fold_succ, dwStep_pos ((dwFirst_iff ⟨n, ht⟩).mpr hz), p2_2, p2_1, zero_add]
    refine (dw_tile hY hZ ⟨n, ht⟩ k d).trans ?_
    show ((partw G B (n / 4) (n % 4) k d : ℝ) : EReal) = _
    rw [hz]
  · intro n hn hz y hy
    have ht : n < cfg2.N := lt_of_lt_of_eq hn (show 16 = cfg2.N from N_2.symm)
    show dwFold Y Z ((⟨n, ht⟩ : Fin cfg2.N).val + 1) (ix2 k d) = _
    rw [dwFold, fold_succ, dwStep_neg (fun h => hz ((dwFirst_iff ⟨n, ht⟩).mp h)), p2_2]
    exact (congrArg₂ (· + ·) hy (dw_tile hY hZ ⟨n, ht⟩ k d)).trans (EReal.coe_add _ _).symm
include hY hZ in
theorem dw_full (t : Fin grid2.N) (ht : t.val % 4 = 3) (k : Fin 704) (d : Fin 1024) : dwFold Y Z (t.val + 1) (ix2 k d) = ((∑ r, G r (col (shN (t.val / 4)) k) * B r d : ℝ) : EReal) := by
  rw [dw_val hY hZ, ht]
  unfold partw
  rw [sum_rowN fun r => G r (col (shN (t.val / 4)) k) * B r d]
end

variable {W : (c : Dev nD) → Valuation τ sig (Elt Ideal)} {c : Dev nD} {G : Fin 4096 → Fin 2816 → ℝ} {B : Fin 4096 → Fin 1024 → ℝ}

/-! ## Call 2 -/

theorem ix2_0 : ∀ t : Fin cfg2.N, win2_0.index t = ![t.val / 4 % 4, t.val % 4, 0] := (by decide +kernel : ∀ t : Fin grid2.N, win2_0.index t = ![t.val / 4 % 4, t.val % 4, 0])
theorem ix2_1 : ∀ t : Fin cfg2.N, win2_1.index t = ![0, 0] := (by decide +kernel : ∀ t : Fin grid2.N, win2_1.index t = ![0, 0])
theorem ix2_2 : ∀ t : Fin cfg2.N, win2_2.index t = ![t.val / 4 % 4, 0, 0] := (by decide +kernel : ∀ t : Fin grid2.N, win2_2.index t = ![t.val / 4 % 4, 0, 0])
theorem b2_0 (t : Fin cfg2.N) (q : Fin 1024) (k : Fin 704) : iblk2 W c 0 t (ix3 0 q k) = W c main_v9_1 (ix3 (shN (t.val / 4)) (rowN (t.val % 4) q) k) := by blk_ext [iblk2, ix2_0 t, shN, rowN]
theorem b2_1 (t : Fin cfg2.N) (r : Fin 4096) (d : Fin 1024) : iblk2 W c 1 t (ix2 r d) = W c main_v8_4 (ix2 r d) := by blk_ext [iblk2, ix2_1 t]
theorem flush_last2 : ∀ t : Fin cfg2.N, (cfg2.win 2).flush t = true → t.val % 4 = 3 := (by decide +kernel : ∀ t : Fin grid2.N, (cfg2.win 2).flush t = true → t.val % 4 = 3)
theorem dw_arr2 (hG : W c main_v9_1 = arr3 fun s r k => G r (col s k)) (hB : W c main_v8_4 = arr2 B) :
    (dat2 W c).arrAt 2 cfg2.N = arr3 fun s k d => ∑ r, G r (col s k) * B r d := by
  refine (dat2 W c).arrAt_eq_of_covers 2 _ (by decide +kernel) fun t hf y => ?_
  blk_simp
  rw [after2_2]
  obtain ⟨p, k, d, rfl⟩ := ex3 y
  obtain rfl : p = 0 := Fin.ext (by omega)
  have e : k2_pay3 (acc2 W c (t.val + 1)) (ix3 0 k d) = ((∑ r, G r (col (shN (t.val / 4)) k) * B r d : ℝ) : EReal) :=
    (p2_3 _ k d).trans (dw_full (G := G) (B := B) (Y := fun t => iblk2 W c 0 t) (Z := fun t => iblk2 W c 1 t)
      (fun t q k => (b2_0 t q k).trans (congrFun hG _)) (fun t r d => (b2_1 t r d).trans (congrFun hB _)) t (flush_last2 t hf) k d)
  refine e.trans ?_
  show arr3 (fun s k d => ∑ r, G r (col s k) * B r d) (ix3 (shN (t.val / 4)) k d) = _
  blk_ext [ix2_2 t, shN]

/-! ## Call 3 -/

theorem ix3_0 : ∀ t : Fin cfg3.N, win3_0.index t = ![t.val / 4 % 4, t.val % 4, 0] := (by decide +kernel : ∀ t : Fin grid3.N, win3_0.index t = ![t.val / 4 % 4, t.val % 4, 0])
theorem ix3_1 : ∀ t : Fin cfg3.N, win3_1.index t = ![0, 0] := (by decide +kernel : ∀ t : Fin grid3.N, win3_1.index t = ![0, 0])
theorem ix3_2 : ∀ t : Fin cfg3.N, win3_2.index t = ![t.val / 4 % 4, 0, 0] := (by decide +kernel : ∀ t : Fin grid3.N, win3_2.index t = ![t.val / 4 % 4, 0, 0])
theorem b3_0 (t : Fin cfg3.N) (q : Fin 1024) (k : Fin 704) : iblk3 W c 0 t (ix3 0 q k) = W c main_v9_2 (ix3 (shN (t.val / 4)) (rowN (t.val % 4) q) k) := by blk_ext [iblk3, ix3_0 t, shN, rowN]
theorem b3_1 (t : Fin cfg3.N) (r : Fin 4096) (d : Fin 1024) : iblk3 W c 1 t (ix2 r d) = W c main_v8_4 (ix2 r d) := by blk_ext [iblk3, ix3_1 t]
theorem flush_last3 : ∀ t : Fin cfg3.N, (cfg3.win 2).flush t = true → t.val % 4 = 3 := (by decide +kernel : ∀ t : Fin grid3.N, (cfg3.win 2).flush t = true → t.val % 4 = 3)
theorem dw_arr3 (hG : W c main_v9_2 = arr3 fun s r k => G r (col s k)) (hB : W c main_v8_4 = arr2 B) :
    (dat3 W c).arrAt 2 cfg3.N = arr3 fun s k d => ∑ r, G r (col s k) * B r d := by
  refine (dat3 W c).arrAt_eq_of_covers 2 _ (by decide +kernel) fun t hf y => ?_
  blk_simp
  rw [after3_2]
  obtain ⟨p, k, d, rfl⟩ := ex3 y
  obtain rfl : p = 0 := Fin.ext (by omega)
  have e : k2_pay3 (acc3 W c (t.val + 1)) (ix3 0 k d) = ((∑ r, G r (col (shN (t.val / 4)) k) * B r d : ℝ) : EReal) :=
    (p2_3 _ k d).trans (dw_full (G := G) (B := B) (Y := fun t => iblk3 W c 0 t) (Z := fun t => iblk3 W c 1 t)
      (fun t q k => (b3_0 t q k).trans (congrFun hG _)) (fun t r d => (b3_1 t r d).trans (congrFun hB _)) t (flush_last3 t hf) k d)
  refine e.trans ?_
  show arr3 (fun s k d => ∑ r, G r (col s k) * B r d) (ix3 (shN (t.val / 4)) k d) = _
  blk_ext [ix3_2 t, shN]

/-! ## Call 4 -/

theorem ix4_0 : ∀ t : Fin cfg4.N, win4_0.index t = ![t.val / 4 % 4, t.val % 4, 0] := (by decide +kernel : ∀ t : Fin grid4.N, win4_0.index t = ![t.val / 4 % 4, t.val % 4, 0])
theorem ix4_1 : ∀ t : Fin cfg4.N, win4_1.index t = ![0, 0] := (by decide +kernel : ∀ t : Fin grid4.N, win4_1.index t = ![0, 0])
theorem ix4_2 : ∀ t : Fin cfg4.N, win4_2.index t = ![t.val / 4 % 4, 0, 0] := (by decide +kernel : ∀ t : Fin grid4.N, win4_2.index t = ![t.val / 4 % 4, 0, 0])
theorem b4_0 (t : Fin cfg4.N) (q : Fin 1024) (k : Fin 704) : iblk4 W c 0 t (ix3 0 q k) = W c main_v9_3 (ix3 (shN (t.val / 4)) (rowN (t.val % 4) q) k) := by blk_ext [iblk4, ix4_0 t, shN, rowN]
theorem b4_1 (t : Fin cfg4.N) (r : Fin 4096) (d : Fin 1024) : iblk4 W c 1 t (ix2 r d) = W c main_v9_5 (ix2 r d) := by blk_ext [iblk4, ix4_1 t]
theorem flush_last4 : ∀ t : Fin cfg4.N, (cfg4.win 2).flush t = true → t.val % 4 = 3 := (by decide +kernel : ∀ t : Fin grid4.N, (cfg4.win 2).flush t = true → t.val % 4 = 3)
theorem dw_arr4 (hG : W c main_v9_3 = arr3 fun s r k => G r (col s k)) (hB : W c main_v9_5 = arr2 B) :
    (dat4 W c).arrAt 2 cfg4.N = arr3 fun s k d => ∑ r, G r (col s k) * B r d := by
  refine (dat4 W c).arrAt_eq_of_covers 2 _ (by decide +kernel) fun t hf y => ?_
  blk_simp
  rw [after4_2]
  obtain ⟨p, k, d, rfl⟩ := ex3 y
  obtain rfl : p = 0 := Fin.ext (by omega)
  have e : k2_pay3 (acc4 W c (t.val + 1)) (ix3 0 k d) = ((∑ r, G r (col (shN (t.val / 4)) k) * B r d : ℝ) : EReal) :=
    (p2_3 _ k d).trans (dw_full (G := G) (B := B) (Y := fun t => iblk4 W c 0 t) (Z := fun t => iblk4 W c 1 t)
      (fun t q k => (b4_0 t q k).trans (congrFun hG _)) (fun t r d => (b4_1 t r d).trans (congrFun hB _)) t (flush_last4 t hf) k d)
  refine e.trans ?_
  show arr3 (fun s k d => ∑ r, G r (col s k) * B r d) (ix3 (shN (t.val / 4)) k d) = _
  blk_ext [ix4_2 t, shN]

end Cert.Proof.Ffn
end
-- ==== Proof.FfnPre.lean ====
module

public import proofs.«01_k».proof.Proof.FfnVal0
public import proofs.«01_k».proof.Proof.AttnPre
public import proofs.«01_k».proof.Pre_finite2

@[expose] public section

set_option maxRecDepth 16384

noncomputable section

namespace Cert.Proof.Ffn

open Cert.FfnIdeal Cert.FfnIdeal.Gen
open Cert.Proof.Attn (Reals cmp_reals real_of_lt)
open Idealize.ShloMosaic Idealize.ShloMosaic.TcCoe Idealize.SL.Sem

/-! # What the feed-forward precondition says: every entry of its arguments is a real number -/

/-- The shape facts the precondition states. -/
theorem pre_facts : Cert.Pre_finite2.Facts where
  bcast_S_S4096x1024 := by decide
  bcast_S_S1x1024 := by decide
  transposes_S1024x2816_S2816x1024_1_0 := by decide
  bcast_S_S2816x1024 := by decide
  concatenates_S4096x1024_S4096x1024_S1x1024_S2816x1024_S2816x1024_S2816x1024_S16641x1024_d0 := by decide

section
variable (x0 x1 : IVec S4096x1024 1) (x2 : IVec S1x1024 1) (x3 x4 x5 : IVec S2816x1024 1)
  (hc : Shape.Concatenates [S4096x1024, S4096x1024, S1x1024, S2816x1024, S2816x1024, S2816x1024] Cert.Pre_finite2.S16641x1024 0)
theorem cat_0 (k : S4096x1024.Idx) : concatenate Cert.Pre_finite2.S16641x1024 0 [⟨S4096x1024, x0⟩, ⟨S4096x1024, x1⟩, ⟨S1x1024, x2⟩, ⟨S2816x1024, x3⟩, ⟨S2816x1024, x4⟩, ⟨S2816x1024, x5⟩] hc (ix2 (⟨0 + (k 0).val, by have : (k 0).val < 4096 := (k 0).isLt; omega⟩ : Fin 16641) (k 1)) = x0 k :=
  concatenate_apply_piece (t := Cert.Pre_finite2.S16641x1024) 0 [⟨S4096x1024, x0⟩, ⟨S4096x1024, x1⟩, ⟨S1x1024, x2⟩, ⟨S2816x1024, x3⟩, ⟨S2816x1024, x4⟩, ⟨S2816x1024, x5⟩] hc _ 0 (by simp) S4096x1024 x0 rfl rfl 0 rfl k
    (fun b hb => by match b, hb with | ⟨1, _⟩, _ => rfl | ⟨0, _⟩, hb => exact absurd rfl hb) rfl
theorem cat_1 (k : S4096x1024.Idx) : concatenate Cert.Pre_finite2.S16641x1024 0 [⟨S4096x1024, x0⟩, ⟨S4096x1024, x1⟩, ⟨S1x1024, x2⟩, ⟨S2816x1024, x3⟩, ⟨S2816x1024, x4⟩, ⟨S2816x1024, x5⟩] hc (ix2 (⟨4096 + (k 0).val, by have : (k 0).val < 4096 := (k 0).isLt; omega⟩ : Fin 16641) (k 1)) = x1 k :=
  concatenate_apply_piece (t := Cert.Pre_finite2.S16641x1024) 0 [⟨S4096x1024, x0⟩, ⟨S4096x1024, x1⟩, ⟨S1x1024, x2⟩, ⟨S2816x1024, x3⟩, ⟨S2816x1024, x4⟩, ⟨S2816x1024, x5⟩] hc _ 1 (by simp) S4096x1024 x1 rfl rfl 4096 rfl k
    (fun b hb => by match b, hb with | ⟨1, _⟩, _ => rfl | ⟨0, _⟩, hb => exact absurd rfl hb) rfl
theorem cat_2 (k : S1x1024.Idx) : concatenate Cert.Pre_finite2.S16641x1024 0 [⟨S4096x1024, x0⟩, ⟨S4096x1024, x1⟩, ⟨S1x1024, x2⟩, ⟨S2816x1024, x3⟩, ⟨S2816x1024, x4⟩, ⟨S2816x1024, x5⟩] hc (ix2 (⟨8192 + (k 0).val, by have : (k 0).val < 1 := (k 0).isLt; omega⟩ : Fin 16641) (k 1)) = x2 k :=
  concatenate_apply_piece (t := Cert.Pre_finite2.S16641x1024) 0 [⟨S4096x1024, x0⟩, ⟨S4096x1024, x1⟩, ⟨S1x1024, x2⟩, ⟨S2816x1024, x3⟩, ⟨S2816x1024, x4⟩, ⟨S2816x1024, x5⟩] hc _ 2 (by simp) S1x1024 x2 rfl rfl 8192 rfl k
    (fun b hb => by match b, hb with | ⟨1, _⟩, _ => rfl | ⟨0, _⟩, hb => exact absurd rfl hb) rfl
theorem cat_3 (k : S2816x1024.Idx) : concatenate Cert.Pre_finite2.S16641x1024 0 [⟨S4096x1024, x0⟩, ⟨S4096x1024, x1⟩, ⟨S1x1024, x2⟩, ⟨S2816x1024, x3⟩, ⟨S2816x1024, x4⟩, ⟨S2816x1024, x5⟩] hc (ix2 (⟨8193 + (k 0).val, by have : (k 0).val < 2816 := (k 0).isLt; omega⟩ : Fin 16641) (k 1)) = x3 k :=
  concatenate_apply_piece (t := Cert.Pre_finite2.S16641x1024) 0 [⟨S4096x1024, x0⟩, ⟨S4096x1024, x1⟩, ⟨S1x1024, x2⟩, ⟨S2816x1024, x3⟩, ⟨S2816x1024, x4⟩, ⟨S2816x1024, x5⟩] hc _ 3 (by simp) S2816x1024 x3 rfl rfl 8193 rfl k
    (fun b hb => by match b, hb with | ⟨1, _⟩, _ => rfl | ⟨0, _⟩, hb => exact absurd rfl hb) rfl
theorem cat_4 (k : S2816x1024.Idx) : concatenate Cert.Pre_finite2.S16641x1024 0 [⟨S4096x1024, x0⟩, ⟨S4096x1024, x1⟩, ⟨S1x1024, x2⟩, ⟨S2816x1024, x3⟩, ⟨S2816x1024, x4⟩, ⟨S2816x1024, x5⟩] hc (ix2 (⟨11009 + (k 0).val, by have : (k 0).val < 2816 := (k 0).isLt; omega⟩ : Fin 16641) (k 1)) = x4 k :=
  concatenate_apply_piece (t := Cert.Pre_finite2.S16641x1024) 0 [⟨S4096x1024, x0⟩, ⟨S4096x1024, x1⟩, ⟨S1x1024, x2⟩, ⟨S2816x1024, x3⟩, ⟨S2816x1024, x4⟩, ⟨S2816x1024, x5⟩] hc _ 4 (by simp) S2816x1024 x4 rfl rfl 11009 rfl k
    (fun b hb => by match b, hb with | ⟨1, _⟩, _ => rfl | ⟨0, _⟩, hb => exact absurd rfl hb) rfl
theorem cat_5 (k : S2816x1024.Idx) : concatenate Cert.Pre_finite2.S16641x1024 0 [⟨S4096x1024, x0⟩, ⟨S4096x1024, x1⟩, ⟨S1x1024, x2⟩, ⟨S2816x1024, x3⟩, ⟨S2816x1024, x4⟩, ⟨S2816x1024, x5⟩] hc (ix2 (⟨13825 + (k 0).val, by have : (k 0).val < 2816 := (k 0).isLt; omega⟩ : Fin 16641) (k 1)) = x5 k :=
  concatenate_apply_piece (t := Cert.Pre_finite2.S16641x1024) 0 [⟨S4096x1024, x0⟩, ⟨S4096x1024, x1⟩, ⟨S1x1024, x2⟩, ⟨S2816x1024, x3⟩, ⟨S2816x1024, x4⟩, ⟨S2816x1024, x5⟩] hc _ 5 (by simp) S2816x1024 x5 rfl rfl 13825 rfl k
    (fun b hb => by match b, hb with | ⟨1, _⟩, _ => rfl | ⟨0, _⟩, hb => exact absurd rfl hb) rfl
end

section
variable [hF : Cert.Pre_finite2.Facts]

theorem lt_reals {s : Shape} (X : FVec Ideal s .f32) (hb : Cert.Pre_finite2.S_.BroadcastsInDim s (![] : Fin 0 → Fin s.rank)) (k : s.Idx)
    (h : cmpf .olt (Host.absf X) (broadcastInDim s ![] hb (constant Cert.Pre_finite2.S_ .f32 0x7F800000#32 : FVec Ideal Cert.Pre_finite2.S_ .f32)) k = 1#1) : ∃ r : ℝ, X k = (r : EReal) :=
  real_of_lt (X k) h

/-- The precondition, decoded. -/
theorem reals_of (X : FVec Ideal S4096x1024 .f32) (g : FVec Ideal S1x1024 .f32) (wg wu : FVec Ideal S1024x2816 .f32) (wd : FVec Ideal S2816x1024 .f32) (dy : FVec Ideal S4096x1024 .f32)
    (h : Cert.Pre_finite2.fn (F := Ideal) X g wg wu wd dy = fun _ => 1#1) : Reals X ∧ Reals g ∧ Reals (transpose S2816x1024 [1, 0] wg hF.transposes_S1024x2816_S2816x1024_1_0) ∧ Reals (transpose S2816x1024 [1, 0] wu hF.transposes_S1024x2816_S2816x1024_1_0) ∧ Reals wd ∧ Reals dy := by
  unfold Cert.Pre_finite2.fn Cert.Pre_finite2.fn_part1 at h
  refine ⟨fun k => ?_, fun k => ?_, fun k => ?_, fun k => ?_, fun k => ?_, fun k => ?_⟩
  · refine lt_reals X hF.bcast_S_S4096x1024 k (Eq.trans (Eq.symm ?_) (congrFun h (ix2 (⟨0 + (k 0).val, by have : (k 0).val < 4096 := (k 0).isLt; omega⟩ : Fin 16641) (k 1))))
    exact cat_0 _ _ _ _ _ _ _ k
  · refine lt_reals g hF.bcast_S_S1x1024 k (Eq.trans (Eq.symm ?_) (congrFun h (ix2 (⟨8192 + (k 0).val, by have : (k 0).val < 1 := (k 0).isLt; omega⟩ : Fin 16641) (k 1))))
    exact cat_2 _ _ _ _ _ _ _ k
  · refine lt_reals _ hF.bcast_S_S2816x1024 k (Eq.trans (Eq.symm ?_) (congrFun h (ix2 (⟨8193 + (k 0).val, by have : (k 0).val < 2816 := (k 0).isLt; omega⟩ : Fin 16641) (k 1))))
    exact cat_3 _ _ _ _ _ _ _ k
  · refine lt_reals _ hF.bcast_S_S2816x1024 k (Eq.trans (Eq.symm ?_) (congrFun h (ix2 (⟨11009 + (k 0).val, by have : (k 0).val < 2816 := (k 0).isLt; omega⟩ : Fin 16641) (k 1))))
    exact cat_4 _ _ _ _ _ _ _ k
  · refine lt_reals wd hF.bcast_S_S2816x1024 k (Eq.trans (Eq.symm ?_) (congrFun h (ix2 (⟨13825 + (k 0).val, by have : (k 0).val < 2816 := (k 0).isLt; omega⟩ : Fin 16641) (k 1))))
    exact cat_5 _ _ _ _ _ _ _ k
  · refine lt_reals dy hF.bcast_S_S4096x1024 k (Eq.trans (Eq.symm ?_) (congrFun h (ix2 (⟨4096 + (k 0).val, by have : (k 0).val < 4096 := (k 0).isLt; omega⟩ : Fin 16641) (k 1))))
    exact cat_1 _ _ _ _ _ _ _ k
end

end Cert.Proof.Ffn
end
-- ==== Proof.FfnLaunch.lean ====
module

public import proofs.«01_k».proof.Proof.Gen.FfnIdeal.Points
public import proofs.«01_k».proof.Proof.Gen.FfnIdeal.Skeleton
public import proofs.«01_k».proof.Proof.Gen.FfnIdeal.Launch
public import proofs.«01_k».proof.Proof.Gen.FfnIdeal.Regions
public import Idealize.ShloMosaic.Lib.Tactic
public import Idealize.ShloMosaic.Lib.VecWindow
public import Idealize.ShloMosaic.Lib.Claim
public import Idealize.ShloMosaic.Lib.Pipeline.ValueKit
public import proofs.«01_k».proof.Proof.FfnFwdFrame
public import proofs.«01_k».proof.Proof.FfnBwdFrame
public import proofs.«01_k».proof.Proof.FfnDwFrame
public import Idealize.ShloMosaic.Lib.Pipeline.FrameSuffix

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run: the host stretch, then the five calls -/

variable (m : (ℓ : Loc nD τ sig) → Buf (Elt F) ℓ) (ρ : Dev nD → PrngReg)

/-- The buffers' contents on entry to the first call. -/
abbrev W1 (c : Dev nD) : Valuation τ sig (Elt F) := V1 m c

/-- After call 0: its arrays at what it leaves, the other buffers as entered. -/
def W2 (c : Dev nD) : Valuation τ sig (Elt F) :=
  Pipeline.withArrays spec0 c (W1 m c) fun w => (dat0 (W1 m) c).arrAt w cfg0.N
theorem W2_arr (c : Dev nD) (w : Fin cfg0.W) : W2 m c (Proc.devRef .tc (Pipeline.arrRef spec0 w)) = (dat0 (W1 m) c).arrAt w cfg0.N := by
  unfold W2; exact Pipeline.withArrays_arr spec0 launch0.win.arr_inj c _ _ w
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (W1 m) c).arrAt_in w (h w rfl) _).trans (A_eq0 (W1 m) c w))
  · unfold W2; exact Pipeline.withArrays_of_ne spec0 c _ _ r fun w e => hw ⟨w, e⟩
theorem hrest0 (c : Dev nD) : ∀ b : Ref sig .tc, b ∉ Finset.univ.image (Pipeline.arrRef spec0) → W2 m c b = W1 m c b :=
  fun b hb => by unfold W2; exact Pipeline.withArrays_of_ne spec0 c _ _ b fun w e => hb (Finset.mem_image.mpr ⟨w, Finset.mem_univ _, e⟩)

/-- After call 1: its arrays at what it leaves, the other buffers as entered. -/
def W3 (c : Dev nD) : Valuation τ sig (Elt F) :=
  Pipeline.withArrays spec1 c (W2 m c) fun w => (dat1 (W2 m) c).arrAt w cfg1.N
theorem W3_arr (c : Dev nD) (w : Fin cfg1.W) : W3 m c (Proc.devRef .tc (Pipeline.arrRef spec1 w)) = (dat1 (W2 m) c).arrAt w cfg1.N := by
  unfold W3; exact Pipeline.withArrays_arr spec1 launch1.win.arr_inj c _ _ w
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (W2 m) c).arrAt_in w (h w rfl) _).trans (A_eq1 (W2 m) c w))
  · unfold W3; exact Pipeline.withArrays_of_ne spec1 c _ _ r fun w e => hw ⟨w, e⟩
theorem hrest1 (c : Dev nD) : ∀ b : Ref sig .tc, b ∉ Finset.univ.image (Pipeline.arrRef spec1) → W3 m c b = W2 m c b :=
  fun b hb => by unfold W3; exact Pipeline.withArrays_of_ne spec1 c _ _ b fun w e => hb (Finset.mem_image.mpr ⟨w, Finset.mem_univ _, e⟩)

/-- After call 2: its arrays at what it leaves, the other buffers as entered. -/
def W4 (c : Dev nD) : Valuation τ sig (Elt F) :=
  Pipeline.withArrays spec2 c (W3 m c) fun w => (dat2 (W3 m) c).arrAt w cfg2.N
theorem W4_arr (c : Dev nD) (w : Fin cfg2.W) : W4 m c (Proc.devRef .tc (Pipeline.arrRef spec2 w)) = (dat2 (W3 m) c).arrAt w cfg2.N := by
  unfold W4; exact Pipeline.withArrays_arr spec2 launch2.win.arr_inj c _ _ w
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((dat2 (W3 m) c).arrAt_in w (h w rfl) _).trans (A_eq2 (W3 m) c w))
  · unfold W4; exact Pipeline.withArrays_of_ne spec2 c _ _ r fun w e => hw ⟨w, e⟩
theorem hrest2 (c : Dev nD) : ∀ b : Ref sig .tc, b ∉ Finset.univ.image (Pipeline.arrRef spec2) → W4 m c b = W3 m c b :=
  fun b hb => by unfold W4; exact Pipeline.withArrays_of_ne spec2 c _ _ b fun w e => hb (Finset.mem_image.mpr ⟨w, Finset.mem_univ _, e⟩)

/-- After call 3: its arrays at what it leaves, the other buffers as entered. -/
def W5 (c : Dev nD) : Valuation τ sig (Elt F) :=
  Pipeline.withArrays spec3 c (W4 m c) fun w => (dat3 (W4 m) c).arrAt w cfg3.N
theorem W5_arr (c : Dev nD) (w : Fin cfg3.W) : W5 m c (Proc.devRef .tc (Pipeline.arrRef spec3 w)) = (dat3 (W4 m) c).arrAt w cfg3.N := by
  unfold W5; exact Pipeline.withArrays_arr spec3 launch3.win.arr_inj c _ _ w
theorem W5_of (c : Dev nD) (r : Ref sig .tc) (h : ∀ w : Fin cfg3.W, Pipeline.arrRef spec3 w = r → (cfg3.win w).isOut = false) :
    W5 m c (Proc.devRef .tc r) = W4 m c (Proc.devRef .tc r) := by
  by_cases hw : ∃ w : Fin cfg3.W, Pipeline.arrRef spec3 w = r
  · obtain ⟨w, rfl⟩ := hw
    exact (W5_arr m c w).trans (((dat3 (W4 m) c).arrAt_in w (h w rfl) _).trans (A_eq3 (W4 m) c w))
  · unfold W5; exact Pipeline.withArrays_of_ne spec3 c _ _ r fun w e => hw ⟨w, e⟩
theorem hrest3 (c : Dev nD) : ∀ b : Ref sig .tc, b ∉ Finset.univ.image (Pipeline.arrRef spec3) → W5 m c b = W4 m c b :=
  fun b hb => by unfold W5; exact Pipeline.withArrays_of_ne spec3 c _ _ b fun w e => hb (Finset.mem_image.mpr ⟨w, Finset.mem_univ _, e⟩)

/-- After call 4: its arrays at what it leaves, the other buffers as entered. -/
def W6 (c : Dev nD) : Valuation τ sig (Elt F) :=
  Pipeline.withArrays spec4 c (W5 m c) fun w => (dat4 (W5 m) c).arrAt w cfg4.N
theorem W6_arr (c : Dev nD) (w : Fin cfg4.W) : W6 m c (Proc.devRef .tc (Pipeline.arrRef spec4 w)) = (dat4 (W5 m) c).arrAt w cfg4.N := by
  unfold W6; exact Pipeline.withArrays_arr spec4 launch4.win.arr_inj c _ _ w
theorem W6_of (c : Dev nD) (r : Ref sig .tc) (h : ∀ w : Fin cfg4.W, Pipeline.arrRef spec4 w = r → (cfg4.win w).isOut = false) :
    W6 m c (Proc.devRef .tc r) = W5 m c (Proc.devRef .tc r) := by
  by_cases hw : ∃ w : Fin cfg4.W, Pipeline.arrRef spec4 w = r
  · obtain ⟨w, rfl⟩ := hw
    exact (W6_arr m c w).trans (((dat4 (W5 m) c).arrAt_in w (h w rfl) _).trans (A_eq4 (W5 m) c w))
  · unfold W6; exact Pipeline.withArrays_of_ne spec4 c _ _ r fun w e => hw ⟨w, e⟩
theorem hrest4 (c : Dev nD) : ∀ b : Ref sig .tc, b ∉ Finset.univ.image (Pipeline.arrRef spec4) → W6 m c b = W5 m c b :=
  fun b hb => by unfold W6; exact Pipeline.withArrays_of_ne spec4 c _ _ b fun w e => hb (Finset.mem_image.mpr ⟨w, Finset.mem_univ _, e⟩)

def pdats : (p : Fin 5) → (c : Dev nD) → Dat τ (Elt F) Unit ℕ (UR sig nD τ) ℕ (cfgs p) c
  | ⟨0, _⟩ => fun c => dat0 (W1 m) c
  | ⟨1, _⟩ => fun c => dat1 (W2 m) c
  | ⟨2, _⟩ => fun c => dat2 (W3 m) c
  | ⟨3, _⟩ => fun c => dat3 (W4 m) c
  | ⟨4, _⟩ => fun c => dat4 (W5 m) c
  | ⟨_ + 5, h⟩ => absurd h (Nat.not_lt.2 (Nat.le_add_left _ _))

/-- What rides beside the buffers: the generator register, and nothing owed. -/
abbrev Rst (c : Dev nD) : sProp 𝕄 := iprop((∃ r, prngReg c r) ∗ ∃ W, owes (c : Thread nD τ) 0 W)
abbrev L₀ : GSem nD τ sig → Finset Unit := fun _ => ∅
abbrev lv₀ : GSem nD τ sig → Unit → ℕ := fun _ _ => 0

set_option maxHeartbeats 2000000 in
set_option backward.isDefEq.respectTransparency.types false in
/-- Call 0 from the buffers at `W1` to the buffers at `W2`. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (W1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (fun b => W1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => W1 m c b) (A_eq0 (W1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = phi0 (W1 m) c 0 from rfl]
    iintro ⟨Hp, -, Hr⟩
    iapply (phi0_in (W1 m) c)
    isplitl [Hr]; · iexact Hr
    iexact Hp
  hout c := by
    rw [Pipeline.ownSems0_none, show (pdats m 0 c).Φ (Fin.last _) = phi0 (W1 m) c (Fin.last cfg0.N).val from rfl]
    iintro H
    ihave H' := (phi0_out (W1 m) c _) $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => W1 m c b) (fun b => W2 m c b) ((pdats m 0 c).arrAt · cfg0.N) (fun w => (W2_arr m c w).symm) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- Call 1 from the buffers at `W2` to the buffers at `W3`. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (W2 m) c).loose
  hwaits := Pipeline.hwaits_of_owed_zero _ _ _ _ L₀ lv₀ 1 fun _ _ => rfl
  pre c := iprop(StableHlo.held (c : Thread nD τ) (Pipeline.ucRefs τ sig) (W2 m c) ∗ Rst c)
  post c := iprop(StableHlo.held (c : Thread nD τ) (Pipeline.ucRefs τ sig) (W3 m c) ∗ Rst c)
  X c := iprop(∃ r, prngReg c r)
  Y c := iprop(∃ r, prngReg c r)
  Z c := Pipeline.unscopedRest (Ix := Unit) (Name := ℕ) (U := UR sig nD τ) (Lvl := ℕ) spec1 c (fun b => W2 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => W2 m c b) (A_eq1 (W2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = phi1 (W2 m) c 0 from rfl]
    iintro ⟨Hp, -, Hr⟩
    iapply (phi1_in (W2 m) c)
    isplitl [Hr]; · iexact Hr
    iexact Hp
  hout c := by
    rw [Pipeline.ownSems0_none, show (pdats m 1 c).Φ (Fin.last _) = phi1 (W2 m) c (Fin.last cfg1.N).val from rfl]
    iintro H
    ihave H' := (phi1_out (W2 m) c _) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => W2 m c b) (fun b => W3 m c b) ((pdats m 1 c).arrAt · cfg1.N) (fun w => (W3_arr m c w).symm) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- Call 2 from the buffers at `W3` to the buffers at `W4`. -/
def reg2 : Pipeline.RegionSeg (pcfgs (F := F)) adm (pdats m) () defs₀ Variants.none L₀ lv₀ 2 where
  win := launch2.win.to₀
  block_pos := launch2.block_pos
  stage_whole := launch2.stage_whole
  K := PEmpty
  osem k := k.elim
  ho := Pipeline.OwnSemFacts.none _
  hbody c := (body_obligation2 (W3 m) c).loose
  hwaits := Pipeline.hwaits_of_owed_zero _ _ _ _ L₀ lv₀ 2 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec2 c (fun b => W3 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => W3 m c b) (A_eq2 (W3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = phi2 (W3 m) c 0 from rfl]
    iintro ⟨Hp, -, Hr⟩
    iapply (phi2_in (W3 m) c)
    isplitl [Hr]; · iexact Hr
    iexact Hp
  hout c := by
    rw [Pipeline.ownSems0_none, show (pdats m 2 c).Φ (Fin.last _) = phi2 (W3 m) c (Fin.last cfg2.N).val from rfl]
    iintro H
    ihave H' := (phi2_out (W3 m) c _) $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => W3 m c b) (fun b => W4 m c b) ((pdats m 2 c).arrAt · cfg2.N) (fun w => (W4_arr m c w).symm) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- Call 3 from the buffers at `W4` to the buffers at `W5`. -/
def reg3 : Pipeline.RegionSeg (pcfgs (F := F)) adm (pdats m) () defs₀ Variants.none L₀ lv₀ 3 where
  win := launch3.win.to₀
  block_pos := launch3.block_pos
  stage_whole := launch3.stage_whole
  K := PEmpty
  osem k := k.elim
  ho := Pipeline.OwnSemFacts.none _
  hbody c := (body_obligation3 (W4 m) c).loose
  hwaits := Pipeline.hwaits_of_owed_zero _ _ _ _ L₀ lv₀ 3 fun _ _ => rfl
  pre c := iprop(StableHlo.held (c : Thread nD τ) (Pipeline.ucRefs τ sig) (W4 m c) ∗ Rst c)
  post c := iprop(StableHlo.held (c : Thread nD τ) (Pipeline.ucRefs τ sig) (W5 m c) ∗ Rst c)
  X c := iprop(∃ r, prngReg c r)
  Y c := iprop(∃ r, prngReg c r)
  Z c := Pipeline.unscopedRest (Ix := Unit) (Name := ℕ) (U := UR sig nD τ) (Lvl := ℕ) spec3 c (fun b => W4 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => W4 m c b) (A_eq3 (W4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = phi3 (W4 m) c 0 from rfl]
    iintro ⟨Hp, -, Hr⟩
    iapply (phi3_in (W4 m) c)
    isplitl [Hr]; · iexact Hr
    iexact Hp
  hout c := by
    rw [Pipeline.ownSems0_none, show (pdats m 3 c).Φ (Fin.last _) = phi3 (W4 m) c (Fin.last cfg3.N).val from rfl]
    iintro H
    ihave H' := (phi3_out (W4 m) c _) $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => W4 m c b) (fun b => W5 m c b) ((pdats m 3 c).arrAt · cfg3.N) (fun w => (W5_arr m c w).symm) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
set_option backward.isDefEq.respectTransparency.types false in
/-- Call 4 from the buffers at `W5` to the buffers at `W6`. -/
def reg4 : Pipeline.RegionSeg (pcfgs (F := F)) adm (pdats m) () defs₀ Variants.none L₀ lv₀ 4 where
  win := launch4.win.to₀
  block_pos := launch4.block_pos
  stage_whole := launch4.stage_whole
  K := PEmpty
  osem k := k.elim
  ho := Pipeline.OwnSemFacts.none _
  hbody c := (body_obligation4 (W5 m) c).loose
  hwaits := Pipeline.hwaits_of_owed_zero _ _ _ _ L₀ lv₀ 4 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec4 c (fun b => W5 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => W5 m c b) (A_eq4 (W5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = phi4 (W5 m) c 0 from rfl]
    iintro ⟨Hp, -, Hr⟩
    iapply (phi4_in (W5 m) c)
    isplitl [Hr]; · iexact Hr
    iexact Hp
  hout c := by
    rw [Pipeline.ownSems0_none, show (pdats m 4 c).Φ (Fin.last _) = phi4 (W5 m) c (Fin.last cfg4.N).val from rfl]
    iintro H
    ihave H' := (phi4_out (W5 m) c _) $$ H
    icases H' with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => W5 m c b) (fun b => W6 m c b) ((pdats m 4 c).arrAt · cfg4.N) (fun w => (W6_arr m c w).symm) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev pathSegs : Dev nD → List (Pipeline.Seg (pcfgs (F := F)) adm (pdats m) () defs₀ Variants.none L₀ lv₀) :=
  segs m Variants.none L₀ lv₀ (fun _ => Rst) () (pdats m) (reg0 m) (reg1 m) (reg2 m) (reg3 m) (reg4 m)

set_option maxHeartbeats 4000000 in
set_option backward.isDefEq.respectTransparency.types false in
/-- From any memory with zero counters every weakly fair execution terminates, with every buffer that outlives a call
    at the last contents and every counter at zero. -/
theorem run_main : θ_run defs (onTc (τ := τ) (main (F := F))) ⟨m, fun _ => 0, ρ⟩ (fun r => (∀ c : Dev nD, ∀ b ∈ Pipeline.ucRefs τ sig, r.2.mem (c, b) = W6 m c b) ∧ r.2.sem = fun _ => 0) := by
  refine Pipeline.θ_run_regions_kit_dev_sems (pcfgs (F := F)) adm (pdats m) () cellOf_inj emb₁ defs₀ Variants.none L₀ lv₀ m ρ main
    (pathSegs m)
    (fun c Q => by
      rewrite [main_chain c, Pipeline.Seg.run_eq_chain,
        show (pathSegs m c).map Pipeline.Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()) ] from rfl]
      dsimp (config := { failIfUnchanged := false }) only
      exact .rfl)
    (fun c => by simp only [pathSegs, segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj)) (hu₀ := ?_)
    (T₀ := fun c => iprop(StableHlo.held (c : Thread nD τ) (Pipeline.ucRefs τ sig) (V0 m c) ∗ Rst c))
    (Tₙ := fun c => iprop(StableHlo.held (c : Thread nD τ) (Pipeline.ucRefs τ sig) (W6 m c)))
    (hch := fun c => ⟨.rfl, .rfl, .rfl, .rfl, .rfl, .rfl, sep_mono .rfl (by iintro ⟨-, H⟩; iexact H)⟩)
    (hinit := ?_) (QY := fun c s => ∀ b ∈ Pipeline.ucRefs τ sig, s.mem (c, b) = W6 m c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L₀ lv₀ fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr
    · ipureintro; exact h
    · iexact HSI

/-- A buffer that no call writes and no host operation writes ends as launched. -/
theorem W6_arg (c : Dev nD) (r : Ref sig .tc) (h : r ∈ [main_arg0, main_arg1, main_arg2, main_arg3, main_arg4, main_arg5]) : W6 m c (Proc.devRef .tc r) = m (c, Proc.devRef .tc r) := by
  simp only [List.mem_cons, List.not_mem_nil, or_false] at h
  rcases h with rfl | rfl | rfl | rfl | rfl | rfl <;>
    exact (W6_of m c _ (by decide)).trans <| (W5_of m c _ (by decide)).trans <| (W4_of m c _ (by decide)).trans <| (W3_of m c _ (by decide)).trans <|
      (W2_of m c _ (by decide)).trans <| (V1_of m c _ (by decide)).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (mem_uc main_arg0 (by decide))).trans (W6_arg m c main_arg0 (by decide)),
     (h.1 c _ (mem_uc main_arg1 (by decide))).trans (W6_arg m c main_arg1 (by decide)),
     (h.1 c _ (mem_uc main_arg2 (by decide))).trans (W6_arg m c main_arg2 (by decide)),
     (h.1 c _ (mem_uc main_arg3 (by decide))).trans (W6_arg m c main_arg3 (by decide)),
     (h.1 c _ (mem_uc main_arg4 (by decide))).trans (W6_arg m c main_arg4 (by decide)),
     (h.1 c _ (mem_uc main_arg5 (by decide))).trans (W6_arg m c main_arg5 (by decide))⟩, h.2⟩) (run_main m ρ)

end Cert.Proof.Ffn

end
-- ==== Proof.FfnRef.lean ====
module

public import proofs.«01_k».proof.Proof.FfnSpec
public import proofs.«01_k».proof.Proof.Gen.FfnReferenceIdeal.Read

@[expose] public section

set_option maxRecDepth 16384

noncomputable section

namespace Cert.Proof.Ffn

open Cert.FfnReferenceIdeal Cert.FfnReferenceIdeal.Gen Cert.FfnReferenceIdeal.Read
open Cert.Proof.Attn (coe_sum' div_real)
open Idealize.ShloMosaic Idealize.ShloMosaic.TcCoe Idealize.SL.Sem

/-! # The reference's results are the reals' -/

/-- The arguments' entries are the reals `A`. -/
structure Holds (A : Args) (X0 : FVec Ideal S4096x1024 .f32) (X1 : FVec Ideal S1x1024 .f32) (X2 X3 : FVec Ideal S1024x2816 .f32) (X4 : FVec Ideal S2816x1024 .f32)
    (X5 : FVec Ideal S4096x1024 .f32) : Prop where
  x : ∀ t d, X0 (ix2 t d) = (A.x t d : EReal)
  g : ∀ d, X1 (ix2 0 d) = (A.g d : EReal)
  wg : ∀ d n, X2 (ix2 d n) = (A.wg d n : EReal)
  wu : ∀ d n, X3 (ix2 d n) = (A.wu d n : EReal)
  wd : ∀ n d, X4 (ix2 n d) = (A.wd n d : EReal)
  dy : ∀ t d, X5 (ix2 t d) = (A.dy t d : EReal)

variable {A : Args} {X0 : FVec Ideal S4096x1024 .f32} {X1 : FVec Ideal S1x1024 .f32} {X2 X3 : FVec Ideal S1024x2816 .f32} {X4 : FVec Ideal S2816x1024 .f32}
  {X5 : FVec Ideal S4096x1024 .f32} (H : Holds A X0 X1 X2 X3 X4 X5) (t : Fin 4096) (d : Fin 1024) (n : Fin 2816)

include H
theorem f6 : val_main_v6 (F := Ideal) X0 (ix2 t 0) = (A.v t : EReal) := by
  have e : val_main_v6 (F := Ideal) X0 (ix2 t 0) = Ideal.div (∑ d : Fin 1024, X0 (ix2 t d) * X0 (ix2 t d)) (Ideal.ofBits .f32 0x44800000#32) + Ideal.ofBits .f32 0x358637BD#32 := by
    pointwise [val_main_v6, val_main_v5, val_main_cst_1, val_main_v4, val_main_v3, val_main_cst_0, val_main_v2, val_main_v1, val_main_cst, val_main_v0]
  rw [e, sum_mul_coe (H.x t) (H.x t), ofBits_1024, ofBits_eps, div_real _ _ (by norm_num), ← EReal.coe_add]; rfl
theorem f7 : val_main_v7 (F := Ideal) X0 (ix2 t 0) = (A.r t : EReal) := by
  rw [← A.rsqrt_v t, ← f6 H t]; rfl
theorem f12 : val_main_v12 (F := Ideal) X0 (ix2 t d) = ((A.x t d * A.r t : ℝ) : EReal) := by
  have e : val_main_v12 (F := Ideal) X0 (ix2 t d) = X0 (ix2 t d) * val_main_v7 (F := Ideal) X0 (ix2 t 0) := by
    unfold val_main_v12 val_main_v11; generalize val_main_v7 (F := Ideal) X0 = Y; pointwise
  rw [e, f7 H, H.x, ← EReal.coe_mul]
theorem f14 : val_main_v14 (F := Ideal) X0 X1 (ix2 t d) = (A.h t d : EReal) := by
  have e : val_main_v14 (F := Ideal) X0 X1 (ix2 t d) = val_main_v12 (F := Ideal) X0 (ix2 t d) * X1 (ix2 0 d) := by
    unfold val_main_v14 val_main_v13; generalize val_main_v12 (F := Ideal) X0 = Y; pointwise
  rw [e, f12 H, H.g, ← EReal.coe_mul]; rfl
theorem f15 : val_main_v15 (F := Ideal) X0 X1 X2 (ix2 t n) = (A.a t n : EReal) := by
  have e : val_main_v15 (F := Ideal) X0 X1 X2 (ix2 t n) = ∑ d : Fin 1024, val_main_v14 (F := Ideal) X0 X1 (ix2 t d) * X2 (ix2 d n) := by
    unfold val_main_v15; generalize val_main_v14 (F := Ideal) X0 X1 = Y; pointwise
  rw [e]; exact sum_mul_coe (fun d => f14 H t d) fun d => H.wg d n
theorem f17 : val_main_v17 (F := Ideal) X0 X1 X3 (ix2 t n) = (A.u t n : EReal) := by
  have e : val_main_v17 (F := Ideal) X0 X1 X3 (ix2 t n) = ∑ d : Fin 1024, val_main_v14 (F := Ideal) X0 X1 (ix2 t d) * X3 (ix2 d n) := by
    unfold val_main_v17; generalize val_main_v14 (F := Ideal) X0 X1 = Y; pointwise
  rw [e]; exact sum_mul_coe (fun d => f14 H t d) fun d => H.wu d n
theorem f16_2 : val_main_v16_2 (F := Ideal) X0 X1 X2 (ix2 t n) = (A.sg t n : EReal) := by
  have e : val_main_v16_2 (F := Ideal) X0 X1 X2 (ix2 t n) = Ideal.div (Ideal.ofBits .f32 0x3F800000#32) (Ideal.ofBits .f32 0x3F800000#32 + Ideal.exp (-val_main_v15 (F := Ideal) X0 X1 X2 (ix2 t n))) := by
    unfold val_main_v16_2 val_main_call0_v4 val_main_call0_cst_0 val_main_call0_v3 val_main_call0_v2 val_main_call0_cst val_main_call0_v1 val_main_call0_v0
    generalize val_main_v15 (F := Ideal) X0 X1 X2 = Y; pointwise
  rw [e, f15 H, Ideal.ofBits_one_f32, ← EReal.coe_neg, Ideal.exp_coe, ← EReal.coe_one, ← EReal.coe_add, div_real _ _ (A.sg_den t n), one_div]; rfl
theorem f16_1 : val_main_v16_1 (F := Ideal) X0 X1 X2 (ix2 t n) = ((A.sg t n * (1 - A.sg t n) : ℝ) : EReal) := by
  have e : val_main_v16_1 (F := Ideal) X0 X1 X2 (ix2 t n) = val_main_v16_2 (F := Ideal) X0 X1 X2 (ix2 t n) * (Ideal.ofBits .f32 0x3F800000#32 - val_main_v16_2 (F := Ideal) X0 X1 X2 (ix2 t n)) := by
    unfold val_main_v16_1 val_main_call0_v7 val_main_call0_v6 val_main_call0_cst_1
    generalize val_main_v16_2 (F := Ideal) X0 X1 X2 = Y; pointwise
  rw [e, f16_2 H, Ideal.ofBits_one_f32, ← EReal.coe_one, ← EReal.coe_sub, ← EReal.coe_mul]
theorem f16_0 : val_main_v16_0 (F := Ideal) X0 X1 X2 (ix2 t n) = (A.s t n : EReal) :=
  Eq.trans (congrArg₂ (· * ·) (f15 H t n) (f16_2 H t n)) (EReal.coe_mul _ _).symm
theorem f18 : val_main_v18 (F := Ideal) X0 X1 X2 X3 (ix2 t n) = (A.f t n : EReal) :=
  Eq.trans (congrArg₂ (· * ·) (f16_0 H t n) (f17 H t n)) (EReal.coe_mul _ _).symm
theorem f22 : val_main_v22 (F := Ideal) X0 X1 X2 X3 X4 (ix2 t d) = (A.xo t d : EReal) := by
  have e : val_main_v22 (F := Ideal) X0 X1 X2 X3 X4 (ix2 t d) = X0 (ix2 t d) + Ideal.ofBits .f32 0x3F000000#32 * ∑ n : Fin 2816, val_main_v18 (F := Ideal) X0 X1 X2 X3 (ix2 t n) * X4 (ix2 n d) := by
    unfold val_main_v22 val_main_v21 val_main_v20 val_main_cst_3 val_main_v19; generalize val_main_v18 (F := Ideal) X0 X1 X2 X3 = Y; pointwise
  rw [e, sum_mul_coe (fun n => f18 H t n) (fun n => H.wd n d), H.x, ofBits_half, ← EReal.coe_mul, ← EReal.coe_add]; rfl
theorem f25 : val_main_v25 (F := Ideal) X5 (ix2 t d) = (A.hdy t d : EReal) := by
  have e : val_main_v25 (F := Ideal) X5 (ix2 t d) = Ideal.ofBits .f32 0x3F000000#32 * X5 (ix2 t d) := by
    pointwise [val_main_v25, val_main_v24, val_main_cst_4, val_main_v23]
  rw [e, H.dy, ofBits_half, ← EReal.coe_mul]; rfl
theorem f28 : val_main_v28 (F := Ideal) X4 X5 (ix2 t n) = (A.df t n : EReal) := by
  have e : val_main_v28 (F := Ideal) X4 X5 (ix2 t n) = ∑ d : Fin 1024, val_main_v25 (F := Ideal) X5 (ix2 t d) * X4 (ix2 n d) := by
    unfold val_main_v28; generalize val_main_v25 (F := Ideal) X5 = Y; pointwise
  rw [e]; exact sum_mul_coe (fun d => f25 H t d) fun d => H.wd n d
theorem f29 : val_main_v29 (F := Ideal) X0 X1 X2 X4 X5 (ix2 t n) = (A.db t n : EReal) := by
  refine Eq.trans (congrArg₂ (· * ·) (f16_0 H t n) (f28 H t n)) ?_
  rw [← EReal.coe_mul, mul_comm]; rfl
theorem f34 : val_main_v34 (F := Ideal) X0 X1 X2 X3 X4 X5 (ix2 t n) = (A.da t n : EReal) := by
  have e30 : val_main_v30 (F := Ideal) X0 X1 X3 X4 X5 (ix2 t n) = ((A.df t n * A.u t n : ℝ) : EReal) :=
    Eq.trans (congrArg₂ (· * ·) (f28 H t n) (f17 H t n)) (EReal.coe_mul _ _).symm
  have e : val_main_v34 (F := Ideal) X0 X1 X2 X3 X4 X5 (ix2 t n) = val_main_v30 (F := Ideal) X0 X1 X3 X4 X5 (ix2 t n) * val_main_v16_2 (F := Ideal) X0 X1 X2 (ix2 t n)
      + val_main_v15 (F := Ideal) X0 X1 X2 (ix2 t n) * val_main_v30 (F := Ideal) X0 X1 X3 X4 X5 (ix2 t n) * val_main_v16_1 (F := Ideal) X0 X1 X2 (ix2 t n) := rfl
  rw [e, e30, f16_2 H, f15 H, f16_1 H, ← EReal.coe_mul, ← EReal.coe_mul, ← EReal.coe_mul, ← EReal.coe_add]
  congr 1; unfold Args.da Args.ds; ring
theorem f38 : val_main_v38 (F := Ideal) X0 X1 X2 X3 X4 X5 (ix2 t d) = (A.dh t d : EReal) := by
  have e : val_main_v38 (F := Ideal) X0 X1 X2 X3 X4 X5 (ix2 t d) = (∑ n : Fin 2816, val_main_v29 (F := Ideal) X0 X1 X2 X4 X5 (ix2 t n) * X3 (ix2 d n))
      + ∑ n : Fin 2816, val_main_v34 (F := Ideal) X0 X1 X2 X3 X4 X5 (ix2 t n) * X2 (ix2 d n) := by
    unfold val_main_v38 val_main_v33 val_main_v37; generalize val_main_v29 (F := Ideal) X0 X1 X2 X4 X5 = Y; generalize val_main_v34 (F := Ideal) X0 X1 X2 X3 X4 X5 = Z; pointwise
  rw [e, sum_mul_coe (fun n => f29 H t n) (fun n => H.wu d n), sum_mul_coe (fun n => f34 H t n) (fun n => H.wg d n), ← EReal.coe_add, ← Finset.sum_add_distrib]
  congr 1; exact Finset.sum_congr rfl fun n _ => add_comm _ _
theorem f41 : val_main_v41 (F := Ideal) X0 X1 X2 X3 X4 X5 (ix2 0 d) = (A.dg d : EReal) := by
  have e : val_main_v41 (F := Ideal) X0 X1 X2 X3 X4 X5 (ix2 0 d) = ∑ t : Fin 4096, val_main_v12 (F := Ideal) X0 (ix2 t d) * val_main_v38 (F := Ideal) X0 X1 X2 X3 X4 X5 (ix2 t d) := by
    unfold val_main_v41 val_main_v40 val_main_cst_5 val_main_v39; generalize val_main_v12 (F := Ideal) X0 = Y; generalize val_main_v38 (F := Ideal) X0 X1 X2 X3 X4 X5 = Z; pointwise
  rw [e, sum_mul_coe (fun t => f12 H t d) (fun t => f38 H t d)]
  congr 1; exact Finset.sum_congr rfl fun t _ => by ring
theorem f43 : val_main_v43 (F := Ideal) X0 X1 X2 X3 X4 X5 (ix2 t d) = ((A.dh t d * A.g d : ℝ) : EReal) := by
  have e : val_main_v43 (F := Ideal) X0 X1 X2 X3 X4 X5 (ix2 t d) = val_main_v38 (F := Ideal) X0 X1 X2 X3 X4 X5 (ix2 t d) * X1 (ix2 0 d) := by
    unfold val_main_v43 val_main_v42; generalize val_main_v38 (F := Ideal) X0 X1 X2 X3 X4 X5 = Z; pointwise
  rw [e, f38 H, H.g, ← EReal.coe_mul]
theorem f54 : val_main_v54 (F := Ideal) X0 X1 X2 X3 X4 X5 (ix2 t d) = (((∑ d, A.dh t d * A.g d * A.x t d) * (-(1 / 2) * (A.r t / A.v t)) / 1024 : ℝ) : EReal) := by
  have e10 : val_main_v10 (F := Ideal) X0 (ix2 t 0) = Ideal.ofBits .f32 0xBF000000#32 * Ideal.div (val_main_v7 (F := Ideal) X0 (ix2 t 0)) (val_main_v6 (F := Ideal) X0 (ix2 t 0)) := by
    unfold val_main_v10 val_main_v9 val_main_cst_2 val_main_v8; generalize val_main_v7 (F := Ideal) X0 = Y; generalize val_main_v6 (F := Ideal) X0 = Z; pointwise
  have e46 : val_main_v46 (F := Ideal) X0 X1 X2 X3 X4 X5 (ix2 t 0) = ∑ d : Fin 1024, X0 (ix2 t d) * val_main_v43 (F := Ideal) X0 X1 X2 X3 X4 X5 (ix2 t d) := by
    unfold val_main_v46 val_main_v45 val_main_cst_6 val_main_v44; generalize val_main_v43 (F := Ideal) X0 X1 X2 X3 X4 X5 = Z; pointwise
  have e : val_main_v54 (F := Ideal) X0 X1 X2 X3 X4 X5 (ix2 t d) = Ideal.div (val_main_v46 (F := Ideal) X0 X1 X2 X3 X4 X5 (ix2 t 0) * val_main_v10 (F := Ideal) X0 (ix2 t 0)) (Ideal.ofBits .f32 0x44800000#32) := by
    unfold val_main_v54 val_main_v53 val_main_cst_8 val_main_v52 val_main_v51 val_main_cst_7 val_main_v50
    generalize val_main_v46 (F := Ideal) X0 X1 X2 X3 X4 X5 = Y; generalize val_main_v10 (F := Ideal) X0 = Z; pointwise
    exact Fin.sum_univ_one _
  rw [e, e46, e10, sum_mul_coe (H.x t) (fun d => f43 H t d), f7 H, f6 H, ofBits_neg_half, ofBits_1024, div_real _ _ (A.v_pos t).ne', ← EReal.coe_mul, ← EReal.coe_mul, div_real _ _ (by norm_num)]
  congr 3; exact Finset.sum_congr rfl fun d _ => by ring
theorem f58 : val_main_v58 (F := Ideal) X0 X1 X2 X3 X4 X5 (ix2 t d) = (A.dx t d : EReal) := by
  have e48 : val_main_v48 (F := Ideal) X0 X1 X2 X3 X4 X5 (ix2 t d) = val_main_v43 (F := Ideal) X0 X1 X2 X3 X4 X5 (ix2 t d) * val_main_v7 (F := Ideal) X0 (ix2 t 0) := by
    unfold val_main_v48 val_main_v47; generalize val_main_v43 (F := Ideal) X0 X1 X2 X3 X4 X5 = Z; generalize val_main_v7 (F := Ideal) X0 = Y; pointwise
  have e : val_main_v58 (F := Ideal) X0 X1 X2 X3 X4 X5 (ix2 t d) = ((X5 (ix2 t d) + val_main_v48 (F := Ideal) X0 X1 X2 X3 X4 X5 (ix2 t d))
      + X0 (ix2 t d) * val_main_v54 (F := Ideal) X0 X1 X2 X3 X4 X5 (ix2 t d)) + val_main_v54 (F := Ideal) X0 X1 X2 X3 X4 X5 (ix2 t d) * X0 (ix2 t d) := rfl
  rw [e, e48, f54 H, f43 H, f7 H, H.dy, H.x]
  simp only [← EReal.coe_mul, ← EReal.coe_add]
  congr 1
  unfold Args.dx
  rw [A.r_sq, div_eq_mul_one_div (A.r t) (A.v t)]; ring
theorem f60 (s : Fin 4) (k : Fin 704) : val_main_v60 (F := Ideal) X0 X1 X2 X3 X4 X5 (ix3 s k d) = (A.dwg d (col s k) : EReal) := by
  have e : val_main_v60 (F := Ideal) X0 X1 X2 X3 X4 X5 (ix3 s k d) = ∑ t : Fin 4096, val_main_v34 (F := Ideal) X0 X1 X2 X3 X4 X5 (ix2 t (⟨s.val * 704 + k.val, by omega⟩ : Fin 2816)) * val_main_v14 (F := Ideal) X0 X1 (ix2 t d) := by
    unfold val_main_v60 val_main_v59 val_main_v36 val_main_v35; generalize val_main_v34 (F := Ideal) X0 X1 X2 X3 X4 X5 = Z; generalize val_main_v14 (F := Ideal) X0 X1 = Y; pointwise
  rw [e]; exact sum_mul_coe (fun t => f34 H t _) (fun t => f14 H t d)
theorem f62 (s : Fin 4) (k : Fin 704) : val_main_v62 (F := Ideal) X0 X1 X2 X4 X5 (ix3 s k d) = (A.dwu d (col s k) : EReal) := by
  have e : val_main_v62 (F := Ideal) X0 X1 X2 X4 X5 (ix3 s k d) = ∑ t : Fin 4096, val_main_v29 (F := Ideal) X0 X1 X2 X4 X5 (ix2 t (⟨s.val * 704 + k.val, by omega⟩ : Fin 2816)) * val_main_v14 (F := Ideal) X0 X1 (ix2 t d) := by
    unfold val_main_v62 val_main_v61 val_main_v32 val_main_v31; generalize val_main_v29 (F := Ideal) X0 X1 X2 X4 X5 = Z; generalize val_main_v14 (F := Ideal) X0 X1 = Y; pointwise
  rw [e]; exact sum_mul_coe (fun t => f29 H t _) (fun t => f14 H t d)
theorem f63 (s : Fin 4) (k : Fin 704) : val_main_v63 (F := Ideal) X0 X1 X2 X3 X5 (ix3 s k d) = (A.dwd d (col s k) : EReal) := by
  have e : val_main_v63 (F := Ideal) X0 X1 X2 X3 X5 (ix3 s k d) = ∑ t : Fin 4096, val_main_v25 (F := Ideal) X5 (ix2 t d) * val_main_v18 (F := Ideal) X0 X1 X2 X3 (ix2 t (⟨s.val * 704 + k.val, by omega⟩ : Fin 2816)) := by
    unfold val_main_v63 val_main_v27 val_main_v26; generalize val_main_v25 (F := Ideal) X5 = Z; generalize val_main_v18 (F := Ideal) X0 X1 X2 X3 = Y; pointwise
  rw [e, sum_mul_coe (fun t => f25 H t d) (fun t => f18 H t _)]
  congr 1; exact Finset.sum_congr rfl fun t _ => mul_comm _ _

end Cert.Proof.Ffn
end
-- ==== Proof.FfnValue.lean ====
module

public import proofs.«01_k».proof.Proof.FfnVal1
public import proofs.«01_k».proof.Proof.FfnVal2
public import proofs.«01_k».proof.Proof.FfnPre
public import proofs.«01_k».proof.Proof.FfnLaunch
public import proofs.«01_k».proof.Proof.FfnRef

@[expose] public section

set_option maxRecDepth 16384

noncomputable section

namespace Cert.Proof.Ffn

open Cert.FfnIdeal Cert.FfnIdeal.Gen
open Idealize.ShloMosaic Idealize.ShloMosaic.TcCoe Idealize.SL.Sem

/-! # The program's results are the reference's -/

variable (m : (ℓ : Loc nD τ sig) → Buf (Elt Ideal) ℓ) (c : Dev nD)

/-! ## The weights in four shards -/

theorem shards (X : FVec Ideal S2816x1024 .f32) (s : Fin 4) (k : Fin 704) (d : Fin 1024) :
    shapeCast S4x704x1024 X shapeCasts_S2816x1024_S4x704x1024 (ix3 s k d) = X (ix2 (col s k) d) := by
  unfold col; pointwise
theorem turned (X : FVec Ideal S1024x2816 .f32) (n : Fin 2816) (d : Fin 1024) : transpose S2816x1024 [1, 0] X transposes_S1024x2816_S2816x1024_1_0 (ix2 n d) = X (ix2 d n) := by
  pointwise
theorem W1_wg (s : Fin 4) (k : Fin 704) (d : Fin 1024) : W1 m c main_v2 (ix3 s k d) = m ((c : Thread nD τ).loc main_arg2) (ix2 d (col s k)) := by
  have e : W1 m c main_v2 = truncf (F := Ideal) (φ := .f32) .bf16 (shapeCast S4x704x1024 (transpose S2816x1024 [1, 0] (m ((c : Thread nD τ).loc main_arg2)) transposes_S1024x2816_S2816x1024_1_0) shapeCasts_S2816x1024_S4x704x1024) bitsLt_bf16_f32 := by
    after_reads_simp
    rfl
  exact (congrFun e _).trans ((shards _ s k d).trans (turned _ _ d))
theorem W1_wu (s : Fin 4) (k : Fin 704) (d : Fin 1024) : W1 m c main_v5 (ix3 s k d) = m ((c : Thread nD τ).loc main_arg3) (ix2 d (col s k)) := by
  have e : W1 m c main_v5 = truncf (F := Ideal) (φ := .f32) .bf16 (shapeCast S4x704x1024 (transpose S2816x1024 [1, 0] (m ((c : Thread nD τ).loc main_arg3)) transposes_S1024x2816_S2816x1024_1_0) shapeCasts_S2816x1024_S4x704x1024) bitsLt_bf16_f32 := by
    after_reads_simp
    rfl
  exact (congrFun e _).trans ((shards _ s k d).trans (turned _ _ d))
theorem W1_wd (s : Fin 4) (k : Fin 704) (d : Fin 1024) : W1 m c main_v7 (ix3 s k d) = m ((c : Thread nD τ).loc main_arg4) (ix2 (col s k) d) := by
  have e : W1 m c main_v7 = truncf (F := Ideal) (φ := .f32) .bf16 (shapeCast S4x704x1024 (m ((c : Thread nD τ).loc main_arg4)) shapeCasts_S2816x1024_S4x704x1024) bitsLt_bf16_f32 := by
    after_reads_simp
    rfl
  exact (congrFun e _).trans (shards _ s k d)

/-- Device `c`'s arguments hold the reals of `A`. -/
abbrev HoldsAt (A : Args) : Prop :=
  Holds A (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Under the precondition there are such reals. -/
theorem holds_of (h : @Cert.Pre_finite2.fn pre_facts Ideal _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) : ∃ A : Args, HoldsAt m c A := by
  obtain ⟨hx, hg, hwg, hwu, hwd, hdy⟩ := reals_of (hF := pre_facts) _ _ _ _ _ _ h
  choose x hx using hx
  choose g hg using hg
  choose wg hwg using hwg
  choose wu hwu using hwu
  choose wd hwd using hwd
  choose dy hdy using hdy
  exact ⟨⟨fun t d => x (ix2 t d), fun d => g (ix2 0 d), fun d n => wg (ix2 n d), fun d n => wu (ix2 n d), fun n d => wd (ix2 n d), fun t d => dy (ix2 t d)⟩,
    ⟨fun t d => hx _, fun d => hg _, fun d n => (turned _ n d).symm.trans (hwg (ix2 n d)), fun d n => (turned _ n d).symm.trans (hwu (ix2 n d)), fun n d => hwd _, fun t d => hdy _⟩⟩

section
variable {m} {c} {A : Args} (H : HoldsAt m c A)
include H

/-! ## The contents between the calls -/

theorem in_W1 : In A (W1 m c) where
  x t d := (congrFun (V1_of m c main_arg0 (by decide)) _).trans (H.x t d)
  g d := (congrFun (V1_of m c main_arg1 (by decide)) _).trans (H.g d)
  wg s k d := (W1_wg m c s k d).trans (H.wg d _)
  wu s k d := (W1_wu m c s k d).trans (H.wu d _)
  wd s k d := (W1_wd m c s k d).trans (H.wd _ d)
  dy t d := (congrFun (V1_of m c main_arg5 (by decide)) _).trans (H.dy t d)
theorem in_W2 : In1 A (W2 m c) where
  base := {
    x := fun t d => (congrFun (W2_of m c main_arg0 (by decide)) _).trans ((in_W1 H).x t d)
    g := fun d => (congrFun (W2_of m c main_arg1 (by decide)) _).trans ((in_W1 H).g d)
    wg := fun s k d => (congrFun (W2_of m c main_v2 (by decide)) _).trans ((in_W1 H).wg s k d)
    wu := fun s k d => (congrFun (W2_of m c main_v5 (by decide)) _).trans ((in_W1 H).wu s k d)
    wd := fun s k d => (congrFun (W2_of m c main_v7 (by decide)) _).trans ((in_W1 H).wd s k d)
    dy := fun t d => (congrFun (W2_of m c main_arg5 (by decide)) _).trans ((in_W1 H).dy t d) }
  s := (W2_arr m c 6).trans (silu_arr (in_W1 H))
  ds := (W2_arr m c 7).trans (dsilu_arr (in_W1 H))
  u := (W2_arr m c 8).trans (up_arr (in_W1 H))
theorem W3_h : W3 m c main_v8_4 = arr2 A.h := (W3_of m c main_v8_4 (by decide)).trans ((W2_arr m c 9).trans (hb_arr (in_W1 H)))
theorem W3_da : W3 m c main_v9_1 = arr3 fun s t k => A.da t (col s k) := (W3_arr m c 10).trans (da_arr (in_W2 H))
theorem W4_h : W4 m c main_v8_4 = arr2 A.h := (W4_of m c main_v8_4 (by decide)).trans (W3_h H)
theorem W4_db : W4 m c main_v9_2 = arr3 fun s t k => A.db t (col s k) := (W4_of m c main_v9_2 (by decide)).trans ((W3_arr m c 11).trans (db_arr (in_W2 H)))
theorem W5_f : W5 m c main_v9_3 = arr3 fun s t k => A.f t (col s k) := (W5_of m c main_v9_3 (by decide)) |>.trans (W4_of m c main_v9_3 (by decide)) |>.trans ((W3_arr m c 12).trans (f_arr (in_W2 H)))
theorem W5_do : W5 m c main_v9_5 = arr2 A.hdy := (W5_of m c main_v9_5 (by decide)) |>.trans (W4_of m c main_v9_5 (by decide)) |>.trans ((W3_arr m c 14).trans (do_arr (in_W2 H)))

/-! ## The results at the end -/

theorem W6_xo : W6 m c main_v8_0 = arr2 A.xo := (W6_of m c main_v8_0 (by decide)) |>.trans (W5_of m c main_v8_0 (by decide)) |>.trans (W4_of m c main_v8_0 (by decide)) |>.trans (W3_of m c main_v8_0 (by decide)) |>.trans ((W2_arr m c 5).trans (xo_arr (in_W1 H)))
theorem W6_dx : W6 m c main_v9_0 = arr2 A.dx := (W6_of m c main_v9_0 (by decide)) |>.trans (W5_of m c main_v9_0 (by decide)) |>.trans (W4_of m c main_v9_0 (by decide)) |>.trans ((W3_arr m c 9).trans (dx_arr (in_W2 H)))
theorem W6_dg : W6 m c main_v9_4 = arr2 fun _ d => A.dg d := (W6_of m c main_v9_4 (by decide)) |>.trans (W5_of m c main_v9_4 (by decide)) |>.trans (W4_of m c main_v9_4 (by decide)) |>.trans ((W3_arr m c 13).trans (dg_arr (in_W2 H)))
theorem W6_dwg : W6 m c main_v10_0 = arr3 fun s k d => A.dwg d (col s k) := (W6_of m c main_v10_0 (by decide)) |>.trans (W5_of m c main_v10_0 (by decide)) |>.trans ((W4_arr m c 2).trans (dw_arr2 (W3_da H) (W3_h H)))
theorem W6_dwu : W6 m c main_v11_0 = arr3 fun s k d => A.dwu d (col s k) := (W6_of m c main_v11_0 (by decide)) |>.trans ((W5_arr m c 2).trans (dw_arr3 (W4_db H) (W4_h H)))
theorem W6_dwd : W6 m c main_v12_0 = arr3 fun s k d => A.dwd d (col s k) := (W6_arr m c 2).trans (dw_arr4 (W5_f H) (W5_do H))

/-! ## The reference's results -/

end

section
open Cert.FfnReferenceIdeal.Read
variable {A : Args} {X0 : FVec Ideal S4096x1024 .f32} {X1 : FVec Ideal S1x1024 .f32} {X2 X3 : FVec Ideal S1024x2816 .f32} {X4 : FVec Ideal S2816x1024 .f32} {X5 : FVec Ideal S4096x1024 .f32} (H : Holds A X0 X1 X2 X3 X4 X5)
include H
theorem ref_xo : val_main_v22 (F := Ideal) X0 X1 X2 X3 X4 = arr2 A.xo := funext fun j => by obtain ⟨t, d, rfl⟩ := ex2 j; exact f22 H t d
theorem ref_dx : val_main_v58 (F := Ideal) X0 X1 X2 X3 X4 X5 = arr2 A.dx := funext fun j => by obtain ⟨t, d, rfl⟩ := ex2 j; exact f58 H t d
theorem ref_dg : val_main_v41 (F := Ideal) X0 X1 X2 X3 X4 X5 = arr2 fun _ d => A.dg d := funext fun j => by
  obtain ⟨q, d, rfl⟩ := ex2 j
  obtain rfl : q = 0 := Fin.ext (by omega)
  exact f41 H d
theorem ref_dwg : val_main_v60 (F := Ideal) X0 X1 X2 X3 X4 X5 = arr3 fun s k d => A.dwg d (col s k) := funext fun j => by obtain ⟨s, k, d, rfl⟩ := ex3 j; exact f60 H d s k
theorem ref_dwu : val_main_v62 (F := Ideal) X0 X1 X2 X4 X5 = arr3 fun s k d => A.dwu d (col s k) := funext fun j => by obtain ⟨s, k, d, rfl⟩ := ex3 j; exact f62 H d s k
theorem ref_dwd : val_main_v63 (F := Ideal) X0 X1 X2 X3 X5 = arr3 fun s k d => A.dwd d (col s k) := funext fun j => by obtain ⟨s, k, d, rfl⟩ := ex3 j; exact f63 H d s k
end

end Cert.Proof.Ffn
end
-- ==== Proof.FfnClaim.lean ====
module

public import proofs.«01_k».proof.Proof.FfnValue
public import proofs.«01_k».proof.Proof.Gen.FfnReferenceIdeal.Run
public import proofs.«01_k».proof.Proof.Gen.FfnReferenceIdeal.Read
public import proofs.«01_k».proof.Defs
public import Idealize.ShloMosaic.Lib.Claim
public import Idealize.ShloMosaic.Lib.Quiescent

@[expose] public section

set_option maxRecDepth 16384

noncomputable section

namespace Cert.Proof.Ffn

open Idealize.ShloMosaic Idealize.ShloMosaic.TcCoe Idealize.SL.Sem

/-! # The feed-forward program's claims -/

/-- The program read over the extended reals: it terminates, its arguments end unchanged, its counters at zero. -/
theorem frame_ideal : Cert.quiescent_FfnIdeal (hFfnIdeal := Cert.FfnIdeal.Gen.facts) := fun m g _ => frame (F := Ideal) m g

/-- The same of the reference. -/
theorem frame_reference : Cert.quiescent_FfnReferenceIdeal (hFfnReferenceIdeal := Cert.FfnReferenceIdeal.Gen.facts) := fun m g _ =>
  (θ_run Cert.FfnReferenceIdeal.defs _ _).mono (fun r h => ⟨fun c => (h c).2.2.2.2.2.2, sem_eq_zero_of_no_sems (by decide) r.2⟩) (Cert.FfnReferenceIdeal.Value.run m g)

section
open Cert.FfnReferenceIdeal Cert.FfnReferenceIdeal.Gen Cert.FfnReferenceIdeal.Read
set_option maxHeartbeats 2000000 in
/-- The reference runs to its six composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v58) = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v41) = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v62) = val_main_v62 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v63) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v22_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.1.trans (val_main_v58_eq m c),
    (h c).2.2.1.trans (val_main_v41_eq m c),
    (h c).2.2.2.1.trans (val_main_v60_eq m c),
    (h c).2.2.2.2.1.trans (val_main_v62_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))),
    (h c).2.2.2.2.2.1.trans (val_main_v63_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))),
    (h c).2.2.2.2.2.2⟩)
    (Cert.FfnReferenceIdeal.Value.run m ρ)
end

/-- The program's six results are the reference's, whenever every argument entry is a real number. -/
theorem values : Cert.algebraic_FfnIdeal_FfnReferenceIdeal_pre_finite2 (hFfnIdeal := Cert.FfnIdeal.Gen.facts) (hFfnReferenceIdeal := Cert.FfnReferenceIdeal.Gen.facts) (hPre_finite2 := pre_facts) := by
  intro m g m' g' hpre hag
  have hre := fun c => holds_of m c (hpre c)
  refine ⟨fun c => W6 m c Cert.FfnIdeal.main_v8_0, fun c => W6 m c Cert.FfnIdeal.main_v9_0, fun c => W6 m c Cert.FfnIdeal.main_v9_4, fun c => W6 m c Cert.FfnIdeal.main_v10_0, fun c => W6 m c Cert.FfnIdeal.main_v11_0, fun c => W6 m c Cert.FfnIdeal.main_v12_0, ?_, ?_⟩
  · refine (θ_run Cert.FfnIdeal.defs _ _).mono (fun r h c => ?_) (θ_run_and (run_main m g) (frame m g))
    exact ⟨h.1.1 c _ (mem_uc Cert.FfnIdeal.main_v8_0 (by decide)), h.1.1 c _ (mem_uc Cert.FfnIdeal.main_v9_0 (by decide)), h.1.1 c _ (mem_uc Cert.FfnIdeal.main_v9_4 (by decide)), h.1.1 c _ (mem_uc Cert.FfnIdeal.main_v10_0 (by decide)), h.1.1 c _ (mem_uc Cert.FfnIdeal.main_v11_0 (by decide)), h.1.1 c _ (mem_uc Cert.FfnIdeal.main_v12_0 (by decide)), h.2.1 c⟩
  · refine (θ_run Cert.FfnReferenceIdeal.defs _ _).mono (fun r h c => ?_) (run_reference m' g')
    obtain ⟨A, H⟩ := hre c
    obtain ⟨e0, e1, e2, e3, e4, e5⟩ := hag c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [e0, e1, e2, e3, e4]; exact (ref_xo H).trans (W6_xo H).symm
    · rw [e0, e1, e2, e3, e4, e5]; exact (ref_dx H).trans (W6_dx H).symm
    · rw [e0, e1, e2, e3, e4, e5]; exact (ref_dg H).trans (W6_dg H).symm
    · rw [e0, e1, e2, e3, e4, e5]; exact (ref_dwg H).trans (W6_dwg H).symm
    · rw [e0, e1, e2, e4, e5]; exact (ref_dwu H).trans (W6_dwu H).symm
    · rw [e0, e1, e2, e3, e5]; exact (ref_dwd H).trans (W6_dwd H).symm

end Cert.Proof.Ffn
end
-- ==== Proof.FfnSameText.lean ====
module

public import proofs.«01_k».proof.Proof.Gen.Ffn
public import proofs.«01_k».proof.Proof.Gen.FfnIdeal

@[expose] public section

set_option maxRecDepth 16384
set_option maxHeartbeats 0

namespace Cert.Proof.FfnSameText

open Idealize.ShloMosaic

variable {F : FTy → Type} [FloatOps F]

/-! ## The feed-forward program and its ideal reading are one text -/

/-- The two programs' `main` is the same program, -/
theorem main_eq : Cert.Ffn.main (F := F) = Cert.FfnIdeal.main (F := F) := rfl

/-- the bodies that the calls run are the same, -/
theorem body_eq : Cert.Ffn.defs₀ (F := F) = Cert.FfnIdeal.defs₀ (F := F) := by
  unfold Cert.Ffn.defs₀ Cert.FfnIdeal.defs₀
  refine congrArg Defs.onTc ?_
  funext l a
  match l, a with
  | 0, (t, s) => rfl
  | 1, (t, s) => rfl
  | 2, (t, s) => rfl
  | 3, (t, s) => rfl
  | 4, (t, s) => rfl
  | ⟨_ + 5, h⟩, _ => exact absurd h (Nat.not_lt.2 (Nat.le_add_left _ _))

/-- and so is the table of bodies. -/
theorem defs_eq : Cert.Ffn.defs (F := F) = Cert.FfnIdeal.defs (F := F) := by
  unfold Cert.Ffn.defs Cert.FfnIdeal.defs
  rw [body_eq]
  rfl

end Cert.Proof.FfnSameText

end
-- ==== Proof.MixBwdVal.lean ====
module

public import proofs.«01_k».proof.Proof.FfnSpec
public import proofs.«01_k».proof.Proof.Gen.MixBwdIdeal.Value

@[expose] public section

set_option maxRecDepth 16384

noncomputable section

namespace Cert.Proof.MixBwd

open Cert.MixBwdIdeal Cert.MixBwdIdeal.Gen
open Idealize.ShloMosaic.Pipeline (Dat)
open Idealize.ShloMosaic Idealize.ShloMosaic.TcCoe Idealize.SL.Sem

/-! # The backward projection's arrays -/

/-- One product of the sum below. -/
def prodE (P : S4096x5376.Idx → EReal) (W : S1024x5376.Idx → EReal) (t : Fin 4096) (d : Fin 1024) (n : Fin 5376) : EReal := P (ix2 t n) * W (ix2 d n)
/-- The gradient of a normalized row's entry: the projection's gradient against a row of the weight. -/
def dh (P : S4096x5376.Idx → EReal) (W : S1024x5376.Idx → EReal) (t : Fin 4096) (d : Fin 1024) : EReal :=
  ∑ n : Fin 5376, prodE P W t d n
/-- The reciprocal of a row's root mean square. -/
def rs {T : ℕ} (x : (⟨2, ![T, 1024]⟩ : Shape).Idx → EReal) (t : Fin T) : EReal :=
  Ideal.rsqrt (Ideal.div (∑ d : Fin 1024, x (ix2 t d) * x (ix2 t d)) (Ideal.ofBits .f32 0x44800000#32) + Ideal.ofBits .f32 0x358637BD#32)
/-- The gradient of the row, over what arrives past the norm. -/
def dxE {T : ℕ} (D : Fin T → Fin 1024 → EReal) (x : (⟨2, ![T, 1024]⟩ : Shape).Idx → EReal) (g : S1x1024.Idx → EReal) (R : (⟨2, ![T, 1024]⟩ : Shape).Idx → EReal) (t : Fin T) (d : Fin 1024) : EReal :=
  R (ix2 t d) + rs x t * (D t d * g (ix2 0 d)) - x (ix2 t d) * (rs x t * rs x t * rs x t) * Ideal.div (∑ k : Fin 1024, D t k * g (ix2 0 k) * x (ix2 t k)) (Ideal.ofBits .f32 0x44800000#32)
/-- The gradient of the scale. -/
def dgE (D : Fin 4096 → Fin 1024 → EReal) (x : S4096x1024.Idx → EReal) (d : Fin 1024) : EReal :=
  ∑ t : Fin 4096, D t d * x (ix2 t d) * rs x t

theorem ex2 {a b : ℕ} (y : (⟨2, ![a, b]⟩ : Shape).Idx) : ∃ (q : Fin a) (d : Fin b), y = ix2 q d := ⟨y 0, y 1, by funext a; match a with | ⟨0, _⟩ => rfl | ⟨1, _⟩ => rfl⟩

/-- Entries `o` to `o + b` of a sum. -/
def part (f : Fin 5376 → EReal) (o b : ℕ) (h : o + b ≤ 5376) : EReal := ∑ n : Fin b, f ⟨o + n.val, by omega⟩
/-- The whole sum is its seven parts', added in order. -/
theorem sum_parts (f : Fin 5376 → EReal) : part f 0 768 (by omega) + part f 768 512 (by omega) + part f 1280 512 (by omega) + part f 1792 512 (by omega)
    + part f 2304 512 (by omega) + part f 2816 512 (by omega) + part f 3328 2048 (by omega) = ∑ n, f n := by
  let F : ℕ → EReal := fun n => if h : n < 5376 then f ⟨n, h⟩ else 0
  have hp : ∀ o b h, part f o b h = ∑ i ∈ Finset.range b, F (o + i) := fun o b h => by
    rw [Finset.sum_range]
    exact Finset.sum_congr rfl fun n _ => (show F (o + n.val) = f ⟨o + n.val, by omega⟩ from dif_pos (show o + n.val < 5376 by omega)).symm
  have hs : ∑ n, f n = ∑ i ∈ Finset.range 5376, F i := by
    rw [Finset.sum_range]
    exact Finset.sum_congr rfl fun n _ => (show F n.val = f n from dif_pos n.isLt).symm
  have hj : ∀ a b, (∑ i ∈ Finset.range a, F i) + ∑ i ∈ Finset.range b, F (a + i) = ∑ i ∈ Finset.range (a + b), F i := fun a b => (Finset.sum_range_add F a b).symm
  simp only [hp, hs]
  have h0 : ∑ i ∈ Finset.range 768, F (0 + i) = ∑ i ∈ Finset.range 768, F i := Finset.sum_congr rfl fun i _ => by rw [Nat.zero_add]
  rw [h0, hj 768 512, hj 1280 512, hj 1792 512, hj 2304 512, hj 2816 512, hj 3328 2048]

/-! ## The body's stored values, at an index -/

theorem q4 (a : Vec Ideal S256x768 .bf16) (wa : Vec Ideal S768x1024 .bf16) (b c e : Vec Ideal S256x512 .bf16) (wb wc we : Vec Ideal S512x1024 .bf16) (q : Fin 256) (d : Fin 1024) :
    k0_pay4 a wa b wb c wc e we (ix2 q d) = (∑ n : Fin 768, a (ix2 q n) * wa (ix2 n d)) + (∑ n : Fin 512, b (ix2 q n) * wb (ix2 n d)) + (∑ n : Fin 512, c (ix2 q n) * wc (ix2 n d)) + ∑ n : Fin 512, e (ix2 q n) * we (ix2 n d) := by
  have e0 : k0_pay4 a wa b wb c wc e we (ix2 q d) = Ideal.ofBits .f32 0x00000000#32 + (∑ n : Fin 768, a (ix2 q n) * wa (ix2 n d)) + (∑ n : Fin 512, b (ix2 q n) * wb (ix2 n d)) + (∑ n : Fin 512, c (ix2 q n) * wc (ix2 n d)) + ∑ n : Fin 512, e (ix2 q n) * we (ix2 n d) := by
    pointwise [k0_pay4]
  rw [e0, Ideal.ofBits_zero_f32, zero_add]
theorem q5 (a : Vec Ideal S256x512 .bf16) (q : Fin 256) (n : Fin 512) : k0_pay5 a (ix2 q n) = a (ix2 q n) := by
  pointwise [k0_pay5]
theorem q6 (v : FVec Ideal S256x1024 .f32) (a : Vec Ideal S256x512 .bf16) (wa : Vec Ideal S512x1024 .bf16) (b : Vec Ideal S256x512 .bf16) (wb : Vec Ideal S512x1024 .bf16) (e : Vec Ideal S256x2048 .bf16) (we : Vec Ideal S2048x1024 .bf16) (q : Fin 256) (d : Fin 1024) :
    k0_pay6 v a wa b wb e we (ix2 q d) = v (ix2 q d) + (∑ n : Fin 512, a (ix2 q n) * wa (ix2 n d)) + (∑ n : Fin 512, b (ix2 q n) * wb (ix2 n d)) + ∑ n : Fin 2048, e (ix2 q n) * we (ix2 n d) := by
  pointwise [k0_pay6]
theorem q7 (x : Vec Ideal S256x1024 .f32) (q : Fin 256) : k0_pay7 x (ix2 q 0) = rs x q := by
  unfold rs; pointwise [k0_pay7]

section
variable (v : FVec Ideal S256x1024 .f32) (a : Vec Ideal S256x512 .bf16) (wa : Vec Ideal S512x1024 .bf16) (b : Vec Ideal S256x512 .bf16) (wb : Vec Ideal S512x1024 .bf16) (e : Vec Ideal S256x2048 .bf16) (we : Vec Ideal S2048x1024 .bf16)
variable (x : Vec Ideal S256x1024 .f32) (g : Vec Ideal S1x1024 .f32) (R : Vec Ideal S256x1024 .f32)
theorem q8 (q : Fin 256) (d : Fin 1024) : k0_pay8 v a wa b wb e we g (ix2 q d) = k0_pay6 v a wa b wb e we (ix2 q d) * g (ix2 0 d) := by
  unfold k0_pay8; generalize k0_pay6 v a wa b wb e we = Y; pointwise
theorem q9 (q : Fin 256) (d : Fin 1024) : k0_pay9 v a wa b wb e we x g R (ix2 q d) = R (ix2 q d) + k0_pay7 x (ix2 q 0) * k0_pay8 v a wa b wb e we g (ix2 q d) := by
  unfold k0_pay9; generalize k0_pay8 v a wa b wb e we g = Y; generalize k0_pay7 x = Z; pointwise
theorem q10 (q : Fin 256) (d : Fin 1024) : k0_pay10 x (ix2 q d) = x (ix2 q d) * (k0_pay7 x (ix2 q 0) * k0_pay7 x (ix2 q 0) * k0_pay7 x (ix2 q 0)) := by
  unfold k0_pay10; generalize k0_pay7 x = Z; pointwise
theorem q11 (q : Fin 256) : k0_pay11 v a wa b wb e we x g (ix2 q 0) = ∑ k : Fin 1024, k0_pay8 v a wa b wb e we g (ix2 q k) * x (ix2 q k) := by
  unfold k0_pay11; generalize k0_pay8 v a wa b wb e we g = Y; pointwise
theorem q1 (u y : FVec Ideal S256x1024 .f32) (z : FVec Ideal S256x1 .f32) (s : EReal) (q : Fin 256) (d : Fin 1024) : k0_pay1 (F := Ideal) u y z s (ix2 q d) = u (ix2 q d) - y (ix2 q d) * Ideal.div (z (ix2 q 0)) s := by
  pointwise [k0_pay1]
theorem q2 (y : FVec Ideal S256x1024 .f32) (z : FVec Ideal S256x1 .f32) (X : Vec Ideal S1x1024 .f32) (d : Fin 1024) : k0_pay2 y x z X (ix2 0 d) = X (ix2 0 d) + ∑ q : Fin 256, y (ix2 q d) * x (ix2 q d) * z (ix2 q 0) := by
  pointwise [k0_pay2]
theorem q3 (d : Fin 1024) : k0_pay3 (F := Ideal) (ix2 0 d) = 0 := by
  refine Eq.trans ?_ Ideal.ofBits_zero_f32
  pointwise [k0_pay3]
/-- The body's row gradient. -/
theorem pdx (q : Fin 256) (d : Fin 1024) : k0_pay1 (F := Ideal) (k0_pay9 v a wa b wb e we x g R) (k0_pay10 x) (k0_pay11 v a wa b wb e we x g) (Ideal.ofBits .f32 0x44800000#32) (ix2 q d)
    = dxE (fun q d => k0_pay6 v a wa b wb e we (ix2 q d)) x g R q d := by
  rw [q1, q9, q10, q11, q7]
  simp only [q8]
  rfl
end

/-- Rows of the weight read from row `o` on. -/
theorem ldw (w : Vec Ideal S5376x1024 .bf16) (o b : ℕ) (inb) (n : Fin b) (d : Fin 1024) (h : o + n.val < 5376) : View.ld w (Rect.unit (s := S5376x1024) ![o, 0] ![b, 1024] inb) (ix2 n d) = w (ix2 (⟨o + n.val, h⟩ : Fin 5376) d) :=
  View.ld_unit_apply_of w _ _ _ _ _ (fun a => by
    match a with
    | ⟨0, _⟩ => rfl
    | ⟨1, _⟩ => exact (Nat.zero_add _).symm)

/-! ## The windows' blocks at a point -/

variable (m : (ℓ : Loc nD τ sig) → Buf (Elt Ideal) ℓ) (c : Dev nD)

theorem ix_0 : ∀ t : Fin cfg0.N, win0_0.index t = ![t.val % 16, 0] := (by decide +kernel : ∀ t : Fin grid0.N, win0_0.index t = ![t.val % 16, 0])
theorem ix_1 : ∀ t : Fin cfg0.N, win0_1.index t = ![t.val % 16, 0] := (by decide +kernel : ∀ t : Fin grid0.N, win0_1.index t = ![t.val % 16, 0])
theorem ix_2 : ∀ t : Fin cfg0.N, win0_2.index t = ![t.val % 16, 0] := (by decide +kernel : ∀ t : Fin grid0.N, win0_2.index t = ![t.val % 16, 0])
theorem ix_3 : ∀ t : Fin cfg0.N, win0_3.index t = ![t.val % 16, 0] := (by decide +kernel : ∀ t : Fin grid0.N, win0_3.index t = ![t.val % 16, 0])
theorem ix_4 : ∀ t : Fin cfg0.N, win0_4.index t = ![t.val % 16, 0] := (by decide +kernel : ∀ t : Fin grid0.N, win0_4.index t = ![t.val % 16, 0])
theorem ix_5 : ∀ t : Fin cfg0.N, win0_5.index t = ![t.val % 16, 0] := (by decide +kernel : ∀ t : Fin grid0.N, win0_5.index t = ![t.val % 16, 0])
theorem ix_6 : ∀ t : Fin cfg0.N, win0_6.index t = ![t.val % 16, 0] := (by decide +kernel : ∀ t : Fin grid0.N, win0_6.index t = ![t.val % 16, 0])
theorem ix_7 : ∀ t : Fin cfg0.N, win0_7.index t = ![0, 0] := (by decide +kernel : ∀ t : Fin grid0.N, win0_7.index t = ![0, 0])
theorem ix_8 : ∀ t : Fin cfg0.N, win0_8.index t = ![t.val % 16, 0] := (by decide +kernel : ∀ t : Fin grid0.N, win0_8.index t = ![t.val % 16, 0])
theorem ix_9 : ∀ t : Fin cfg0.N, win0_9.index t = ![t.val % 16, 0] := (by decide +kernel : ∀ t : Fin grid0.N, win0_9.index t = ![t.val % 16, 0])
theorem ix_10 : ∀ t : Fin cfg0.N, win0_10.index t = ![0, 0] := (by decide +kernel : ∀ t : Fin grid0.N, win0_10.index t = ![0, 0])
theorem ix_11 : ∀ t : Fin cfg0.N, win0_11.index t = ![t.val % 16, 0] := (by decide +kernel : ∀ t : Fin grid0.N, win0_11.index t = ![t.val % 16, 0])
theorem ix_12 : ∀ t : Fin cfg0.N, win0_12.index t = ![0, 0] := (by decide +kernel : ∀ t : Fin grid0.N, win0_12.index t = ![0, 0])

/-- Row `q` of the `j`th tile of 256 rows. -/
def rowM (j : ℕ) (q : Fin 256) : Fin 4096 := ⟨256 * (j % 16) + q.val, by omega⟩

theorem b_0 (t : Fin cfg0.N) (q : Fin 256) (n : Fin 768) : iblk m c 0 t (ix2 q n) = V m c main_v1 (ix2 (rowM t.val q) n) := by blk_ext [iblk, ix_0 t, rowM]
theorem b_1 (t : Fin cfg0.N) (q : Fin 256) (n : Fin 512) : iblk m c 1 t (ix2 q n) = V m c main_v3 (ix2 (rowM t.val q) n) := by blk_ext [iblk, ix_1 t, rowM]
theorem b_2 (t : Fin cfg0.N) (q : Fin 256) (n : Fin 512) : iblk m c 2 t (ix2 q n) = V m c main_v5 (ix2 (rowM t.val q) n) := by blk_ext [iblk, ix_2 t, rowM]
theorem b_3 (t : Fin cfg0.N) (q : Fin 256) (n : Fin 512) : iblk m c 3 t (ix2 q n) = V m c main_v7 (ix2 (rowM t.val q) n) := by blk_ext [iblk, ix_3 t, rowM]
theorem b_4 (t : Fin cfg0.N) (q : Fin 256) (n : Fin 512) : iblk m c 4 t (ix2 q n) = V m c main_v9 (ix2 (rowM t.val q) n) := by blk_ext [iblk, ix_4 t, rowM]
theorem b_5 (t : Fin cfg0.N) (q : Fin 256) (n : Fin 512) : iblk m c 5 t (ix2 q n) = V m c main_v11 (ix2 (rowM t.val q) n) := by blk_ext [iblk, ix_5 t, rowM]
theorem b_6 (t : Fin cfg0.N) (q : Fin 256) (n : Fin 2048) : iblk m c 6 t (ix2 q n) = V m c main_v13 (ix2 (rowM t.val q) n) := by blk_ext [iblk, ix_6 t, rowM]
theorem b_7 (t : Fin cfg0.N) (n : Fin 5376) (d : Fin 1024) : iblk m c 7 t (ix2 n d) = V m c main_v15 (ix2 n d) := by blk_ext [iblk, ix_7 t]
theorem b_8 (t : Fin cfg0.N) (q : Fin 256) (d : Fin 1024) : iblk m c 8 t (ix2 q d) = V m c main_arg1 (ix2 (rowM t.val q) d) := by blk_ext [iblk, ix_8 t, rowM]
theorem b_9 (t : Fin cfg0.N) (q : Fin 256) (d : Fin 1024) : iblk m c 9 t (ix2 q d) = V m c main_arg4 (ix2 (rowM t.val q) d) := by blk_ext [iblk, ix_9 t, rowM]
theorem b_10 (t : Fin cfg0.N) (d : Fin 1024) : iblk m c 10 t (ix2 0 d) = V m c main_arg2 (ix2 0 d) := by blk_ext [iblk, ix_10 t]

/-! ## What the host leaves in the pieces and in the turned weight -/

theorem turned (X : FVec Ideal S1024x5376 .f32) (n : Fin 5376) (d : Fin 1024) : transpose S5376x1024 [1, 0] X transposes_S1024x5376_S5376x1024_1_0 (ix2 n d) = X (ix2 d n) := by
  pointwise
theorem V_w (n : Fin 5376) (d : Fin 1024) : V m c main_v15 (ix2 n d) = m ((c : Thread nD τ).loc main_arg3) (ix2 d n) := by
  have e : V m c main_v15 = truncf (F := Ideal) (φ := .f32) .bf16 (transpose S5376x1024 [1, 0] (m ((c : Thread nD τ).loc main_arg3)) transposes_S1024x5376_S5376x1024_1_0) bitsLt_bf16_f32 := by
    after_reads_simp
  exact (congrFun e _).trans (turned _ n d)
theorem V_0 (t : Fin 4096) (n : Fin 768) : V m c main_v1 (ix2 t n) = m ((c : Thread nD τ).loc main_arg0) (ix2 t (⟨0 + n.val, by omega⟩ : Fin 5376)) := by
  have e : V m c main_v1 = truncf (F := Ideal) (φ := .f32) .bf16 (extractStridedSlice S4096x768 ![0, 0] (m ((c : Thread nD τ).loc main_arg0)) slices_S4096x5376_S4096x768_0_0) bitsLt_bf16_f32 := by
    after_reads_simp
  refine (congrFun e _).trans (extractStridedSlice_apply ![0, 0] (m ((c : Thread nD τ).loc main_arg0)) slices_S4096x5376_S4096x768_0_0 (ix2 t n) (ix2 t (⟨0 + n.val, by omega⟩ : Fin 5376)) (fun a => ?_))
  match a with
  | ⟨0, _⟩ => exact (Nat.zero_add _).symm
  | ⟨1, _⟩ => rfl
theorem V_1 (t : Fin 4096) (n : Fin 512) : V m c main_v3 (ix2 t n) = m ((c : Thread nD τ).loc main_arg0) (ix2 t (⟨768 + n.val, by omega⟩ : Fin 5376)) := by
  have e : V m c main_v3 = truncf (F := Ideal) (φ := .f32) .bf16 (extractStridedSlice S4096x512 ![0, 768] (m ((c : Thread nD τ).loc main_arg0)) slices_S4096x5376_S4096x512_0_768) bitsLt_bf16_f32 := by
    after_reads_simp
  refine (congrFun e _).trans (extractStridedSlice_apply ![0, 768] (m ((c : Thread nD τ).loc main_arg0)) slices_S4096x5376_S4096x512_0_768 (ix2 t n) (ix2 t (⟨768 + n.val, by omega⟩ : Fin 5376)) (fun a => ?_))
  match a with
  | ⟨0, _⟩ => exact (Nat.zero_add _).symm
  | ⟨1, _⟩ => rfl
theorem V_2 (t : Fin 4096) (n : Fin 512) : V m c main_v5 (ix2 t n) = m ((c : Thread nD τ).loc main_arg0) (ix2 t (⟨1280 + n.val, by omega⟩ : Fin 5376)) := by
  have e : V m c main_v5 = truncf (F := Ideal) (φ := .f32) .bf16 (extractStridedSlice S4096x512 ![0, 1280] (m ((c : Thread nD τ).loc main_arg0)) slices_S4096x5376_S4096x512_0_1280) bitsLt_bf16_f32 := by
    after_reads_simp
  refine (congrFun e _).trans (extractStridedSlice_apply ![0, 1280] (m ((c : Thread nD τ).loc main_arg0)) slices_S4096x5376_S4096x512_0_1280 (ix2 t n) (ix2 t (⟨1280 + n.val, by omega⟩ : Fin 5376)) (fun a => ?_))
  match a with
  | ⟨0, _⟩ => exact (Nat.zero_add _).symm
  | ⟨1, _⟩ => rfl
theorem V_3 (t : Fin 4096) (n : Fin 512) : V m c main_v7 (ix2 t n) = m ((c : Thread nD τ).loc main_arg0) (ix2 t (⟨1792 + n.val, by omega⟩ : Fin 5376)) := by
  have e : V m c main_v7 = truncf (F := Ideal) (φ := .f32) .bf16 (extractStridedSlice S4096x512 ![0, 1792] (m ((c : Thread nD τ).loc main_arg0)) slices_S4096x5376_S4096x512_0_1792) bitsLt_bf16_f32 := by
    after_reads_simp
  refine (congrFun e _).trans (extractStridedSlice_apply ![0, 1792] (m ((c : Thread nD τ).loc main_arg0)) slices_S4096x5376_S4096x512_0_1792 (ix2 t n) (ix2 t (⟨1792 + n.val, by omega⟩ : Fin 5376)) (fun a => ?_))
  match a with
  | ⟨0, _⟩ => exact (Nat.zero_add _).symm
  | ⟨1, _⟩ => rfl
theorem V_4 (t : Fin 4096) (n : Fin 512) : V m c main_v9 (ix2 t n) = m ((c : Thread nD τ).loc main_arg0) (ix2 t (⟨2304 + n.val, by omega⟩ : Fin 5376)) := by
  have e : V m c main_v9 = truncf (F := Ideal) (φ := .f32) .bf16 (extractStridedSlice S4096x512 ![0, 2304] (m ((c : Thread nD τ).loc main_arg0)) slices_S4096x5376_S4096x512_0_2304) bitsLt_bf16_f32 := by
    after_reads_simp
  refine (congrFun e _).trans (extractStridedSlice_apply ![0, 2304] (m ((c : Thread nD τ).loc main_arg0)) slices_S4096x5376_S4096x512_0_2304 (ix2 t n) (ix2 t (⟨2304 + n.val, by omega⟩ : Fin 5376)) (fun a => ?_))
  match a with
  | ⟨0, _⟩ => exact (Nat.zero_add _).symm
  | ⟨1, _⟩ => rfl
theorem V_5 (t : Fin 4096) (n : Fin 512) : V m c main_v11 (ix2 t n) = m ((c : Thread nD τ).loc main_arg0) (ix2 t (⟨2816 + n.val, by omega⟩ : Fin 5376)) := by
  have e : V m c main_v11 = truncf (F := Ideal) (φ := .f32) .bf16 (extractStridedSlice S4096x512 ![0, 2816] (m ((c : Thread nD τ).loc main_arg0)) slices_S4096x5376_S4096x512_0_2816) bitsLt_bf16_f32 := by
    after_reads_simp
  refine (congrFun e _).trans (extractStridedSlice_apply ![0, 2816] (m ((c : Thread nD τ).loc main_arg0)) slices_S4096x5376_S4096x512_0_2816 (ix2 t n) (ix2 t (⟨2816 + n.val, by omega⟩ : Fin 5376)) (fun a => ?_))
  match a with
  | ⟨0, _⟩ => exact (Nat.zero_add _).symm
  | ⟨1, _⟩ => rfl
theorem V_6 (t : Fin 4096) (n : Fin 2048) : V m c main_v13 (ix2 t n) = m ((c : Thread nD τ).loc main_arg0) (ix2 t (⟨3328 + n.val, by omega⟩ : Fin 5376)) := by
  have e : V m c main_v13 = truncf (F := Ideal) (φ := .f32) .bf16 (extractStridedSlice S4096x2048 ![0, 3328] (m ((c : Thread nD τ).loc main_arg0)) slices_S4096x5376_S4096x2048_0_3328) bitsLt_bf16_f32 := by
    after_reads_simp
  refine (congrFun e _).trans (extractStridedSlice_apply ![0, 3328] (m ((c : Thread nD τ).loc main_arg0)) slices_S4096x5376_S4096x2048_0_3328 (ix2 t n) (ix2 t (⟨3328 + n.val, by omega⟩ : Fin 5376)) (fun a => ?_))
  match a with
  | ⟨0, _⟩ => exact (Nat.zero_add _).symm
  | ⟨1, _⟩ => rfl

/-- The gradient past the norm that the body computes at a point. -/
def dhB (t : Fin cfg0.N) : FVec Ideal S256x1024 .f32 :=
  k0_pay6 (k0_pay4 (iblk m c 0 t) (View.ld (iblk m c 7 t) (Rect.unit ![0, 0] ![768, 1024] inb_S5376x1024_S768x1024_0_0)) (iblk m c 1 t) (View.ld (iblk m c 7 t) (Rect.unit ![768, 0] ![512, 1024] inb_S5376x1024_S512x1024_768_0))
      (iblk m c 2 t) (View.ld (iblk m c 7 t) (Rect.unit ![1280, 0] ![512, 1024] inb_S5376x1024_S512x1024_1280_0)) (iblk m c 3 t) (View.ld (iblk m c 7 t) (Rect.unit ![1792, 0] ![512, 1024] inb_S5376x1024_S512x1024_1792_0)))
    (k0_pay5 (iblk m c 4 t)) (View.ld (iblk m c 7 t) (Rect.unit ![2304, 0] ![512, 1024] inb_S5376x1024_S512x1024_2304_0)) (iblk m c 5 t) (View.ld (iblk m c 7 t) (Rect.unit ![2816, 0] ![512, 1024] inb_S5376x1024_S512x1024_2816_0))
    (iblk m c 6 t) (View.ld (iblk m c 7 t) (Rect.unit ![3328, 0] ![2048, 1024] inb_S5376x1024_S2048x1024_3328_0))

/-- One piece's products, as a part of the whole sum. -/
theorem part_of (t : Fin cfg0.N) (q : Fin 256) (d : Fin 1024) (o b : ℕ) (h : o + b ≤ 5376) (inb) (a : (⟨2, ![256, b]⟩ : Shape).Idx → EReal)
    (ha : ∀ n : Fin b, a (ix2 q n) = m ((c : Thread nD τ).loc main_arg0) (ix2 (rowM t.val q) (⟨o + n.val, by omega⟩ : Fin 5376))) :
    (∑ n : Fin b, a (ix2 q n) * (View.ld (Val := Elt Ideal) (iblk m c 7 t) (Rect.unit (s := S5376x1024) ![o, 0] ![b, 1024] inb) (ix2 n d) : EReal))
      = part (prodE (m ((c : Thread nD τ).loc main_arg0)) (m ((c : Thread nD τ).loc main_arg3)) (rowM t.val q) d) o b h := by
  refine Finset.sum_congr rfl fun n _ => congrArg₂ (· * ·) (ha n) ?_
  exact (ldw _ o b _ n d (by omega)).trans ((b_7 m c t _ d).trans (V_w m c _ d))

theorem dhB_at (t : Fin cfg0.N) (q : Fin 256) (d : Fin 1024) : dhB m c t (ix2 q d) = dh (m ((c : Thread nD τ).loc main_arg0)) (m ((c : Thread nD τ).loc main_arg3)) (rowM t.val q) d := by
  unfold dhB dh
  rw [q6, q4, ← sum_parts]
  refine congrArg₂ (· + ·) (congrArg₂ (· + ·) (congrArg₂ (· + ·) (congrArg₂ (· + ·) (congrArg₂ (· + ·) (congrArg₂ (· + ·) ?_ ?_) ?_) ?_) ?_) ?_) ?_
  · exact part_of m c t q d 0 768 (by omega) _ _ (fun n => (b_0 m c t q n).trans (V_0 m c _ n))
  · exact part_of m c t q d 768 512 (by omega) _ _ (fun n => (b_1 m c t q n).trans (V_1 m c _ n))
  · exact part_of m c t q d 1280 512 (by omega) _ _ (fun n => (b_2 m c t q n).trans (V_2 m c _ n))
  · exact part_of m c t q d 1792 512 (by omega) _ _ (fun n => (b_3 m c t q n).trans (V_3 m c _ n))
  · exact part_of m c t q d 2304 512 (by omega) _ _ (fun n => (q5 _ q n).trans ((b_4 m c t q n).trans (V_4 m c _ n)))
  · exact part_of m c t q d 2816 512 (by omega) _ _ (fun n => (b_5 m c t q n).trans (V_5 m c _ n))
  · exact part_of m c t q d 3328 2048 (by omega) _ _ (fun n => (b_6 m c t q n).trans (V_6 m c _ n))

theorem rs_at (t : Fin cfg0.N) (q : Fin 256) : rs (iblk m c 8 t) q = rs (m ((c : Thread nD τ).loc main_arg1)) (rowM t.val q) := by
  unfold rs
  simp only [b_8]
  rw [V_main_arg1]

/-! ## The arrays it leaves -/

/-- The gradient past the norm, of the argument arrays. -/
abbrev D : Fin 4096 → Fin 1024 → EReal := dh (m ((c : Thread nD τ).loc main_arg0)) (m ((c : Thread nD τ).loc main_arg3))

theorem out_11 (t : Fin cfg0.N) (q : Fin 256) (d : Fin 1024) : (outsAt0 m c t.val t.isLt).1 (ix2 q d) = dxE (D m c) (m ((c : Thread nD τ).loc main_arg1)) (m ((c : Thread nD τ).loc main_arg2)) (m ((c : Thread nD τ).loc main_arg4)) (rowM t.val q) d := by
  have e : dxE (fun q d => dhB m c t (ix2 q d)) (iblk m c 8 t) (iblk m c 10 t) (iblk m c 9 t) q d = dxE (D m c) (m ((c : Thread nD τ).loc main_arg1)) (m ((c : Thread nD τ).loc main_arg2)) (m ((c : Thread nD τ).loc main_arg4)) (rowM t.val q) d := by
    unfold dxE
    simp only [dhB_at, rs_at, b_8, b_9, b_10]
    rw [V_main_arg1, V_main_arg2, V_main_arg4]
  rw [← e]
  by_cases h0 : t.val % 16 = 0
  · rw [outsAt0_A m c t h0]; frame_out; exact pdx _ _ _ _ _ _ _ _ _ _ q d
  · rw [outsAt0_B m c t h0]; frame_out; exact pdx _ _ _ _ _ _ _ _ _ _ q d

/-- The two gradients, as arrays. -/
def dxA : S4096x1024.Idx → EReal := fun j => dxE (D m c) (m ((c : Thread nD τ).loc main_arg1)) (m ((c : Thread nD τ).loc main_arg2)) (m ((c : Thread nD τ).loc main_arg4)) (j 0) (j 1)
def dgA : S1x1024.Idx → EReal := fun j => dgE (D m c) (m ((c : Thread nD τ).loc main_arg1)) (j 1)

theorem arr11 : (dats m 0 c).arrAt 11 cfg0.N = dxA m c := by
  refine (dats m 0 c).arrAt_eq_of_covers 11 _ (by decide +kernel) fun t hf y => ?_
  blk_simp
  rw [after0_11]
  obtain ⟨q, d, rfl⟩ := ex2 y
  refine (out_11 m c t q d).trans ?_
  show dxA m c (ix2 (rowM t.val q) d) = _
  blk_ext [ix_11 t, rowM]

/-- What a tile of rows adds to the scale's gradient. -/
def term (j : ℕ) (d : Fin 1024) : EReal := ∑ q : Fin 256, D m c (rowM j q) d * m ((c : Thread nD τ).loc main_arg1) (ix2 (rowM j q) d) * rs (m ((c : Thread nD τ).loc main_arg1)) (rowM j q)

theorem step (t : Fin cfg0.N) (X : Vec Ideal S1x1024 .f32) (d : Fin 1024) : k0_pay2 (dhB m c t) (iblk m c 8 t) (k0_pay7 (iblk m c 8 t)) X (ix2 0 d) = X (ix2 0 d) + term m c t.val d := by
  rw [q2]
  refine congrArg (X (ix2 0 d) + ·) (Finset.sum_congr rfl fun q _ => ?_)
  rw [dhB_at, q7, rs_at, b_8, V_main_arg1]

theorem out_12 (d : Fin 1024) : ∀ n (h : n < cfg0.N), (outsAt0 m c n h).2 (ix2 0 d) = ∑ j ∈ Finset.range (n + 1), term m c j d := by
  have hN : cfg0.N = 16 := N_0
  intro n
  induction n with
  | zero =>
    intro h
    rw [outsAt0_A m c ⟨0, h⟩ rfl]; frame_out
    refine (step m c ⟨0, h⟩ _ d).trans ?_
    rw [q3, zero_add, Finset.sum_range_one]
  | succ n ih =>
    intro h
    rw [outsAt0_B m c ⟨n + 1, h⟩ (by show ¬ (n + 1) % 16 = 0; omega)]; frame_out
    refine (step m c ⟨n + 1, h⟩ _ d).trans ?_
    rw [Finset.sum_range_succ]
    exact congrArg (· + _) (ih _)

theorem sum_rowM (f : Fin 4096 → EReal) : ∑ j ∈ Finset.range 16, ∑ q : Fin 256, f (rowM j q) = ∑ t, f t := by
  rw [Finset.sum_range, ← (finProdFinEquiv (m := 16) (n := 256)).sum_comp, Fintype.sum_prod_type]
  refine Finset.sum_congr rfl fun s _ => Finset.sum_congr rfl fun k _ => congrArg f (Fin.ext ?_)
  show 256 * (s.val % 16) + k.val = k.val + 256 * s.val; omega

theorem flush_last : ∀ t : Fin cfg0.N, (cfg0.win 12).flush t = true → t.val = 15 :=
  (by decide +kernel : ∀ t : Fin grid0.N, (cfg0.win 12).flush t = true → t.val = 15)

theorem arr12 : (dats m 0 c).arrAt 12 cfg0.N = dgA m c := by
  refine (dats m 0 c).arrAt_eq_of_covers 12 _ (by decide +kernel) fun t hf y => ?_
  blk_simp
  rw [after0_12]
  obtain ⟨q, d, rfl⟩ := ex2 y
  obtain rfl : q = 0 := Fin.ext (by omega)
  refine (out_12 m c d t.val t.isLt).trans ?_
  rw [flush_last t hf]
  unfold term
  rw [show 15 + 1 = 16 from rfl, sum_rowM fun t => D m c t d * m ((c : Thread nD τ).loc main_arg1) (ix2 t d) * rs (m ((c : Thread nD τ).loc main_arg1)) t]
  show dgA m c (ix2 (0 : Fin 1) d) = _
  blk_ext [ix_12 t]

end Cert.Proof.MixBwd
end
-- ==== Proof.MixBwdRef.lean ====
module

public import proofs.«01_k».proof.Proof.MixBwdVal
public import proofs.«01_k».proof.Proof.Gen.MixBwdReferenceIdeal.Read

@[expose] public section

set_option maxRecDepth 16384

noncomputable section

namespace Cert.Proof.MixBwd

open Cert.Proof.Attn Cert.Proof.Ffn
open Idealize.ShloMosaic Idealize.ShloMosaic.TcCoe Idealize.SL.Sem

/-! # The reference's gradients are the program's, over all extended reals -/

/-- A row's guarded mean square. -/
def ms {T : ℕ} (x : (⟨2, ![T, 1024]⟩ : Shape).Idx → EReal) (t : Fin T) : EReal :=
  Ideal.div (∑ d : Fin 1024, x (ix2 t d) * x (ix2 t d)) (Ideal.ofBits .f32 0x44800000#32) + Ideal.ofBits .f32 0x358637BD#32

theorem sq_nonneg' (y : EReal) : 0 ≤ y * y := by
  induction y with
  | bot => simp
  | top => simp
  | coe r => rw [← EReal.coe_mul]; exact_mod_cast mul_self_nonneg r

/-- The guarded mean square is infinite, or it is a positive real and the row's entries are reals. -/
theorem ms_cases {T : ℕ} (x : (⟨2, ![T, 1024]⟩ : Shape).Idx → EReal) (t : Fin T) (d : Fin 1024) :
    ms x t = ⊤ ∨ ∃ V X : ℝ, 0 < V ∧ ms x t = (V : EReal) ∧ x (ix2 t d) = (X : EReal) := by
  by_cases h : ∀ k : Fin 1024, ∃ r : ℝ, x (ix2 t k) = (r : EReal)
  · choose r hr using h
    refine Or.inr ⟨(∑ k, r k * r k) / 1024 + eps, r d, ?_, ?_, hr d⟩
    · exact add_pos_of_nonneg_of_pos (div_nonneg (Finset.sum_nonneg fun k _ => mul_self_nonneg _) (by norm_num)) eps_pos
    · unfold ms
      rw [sum_mul_coe hr hr, ofBits_1024, ofBits_eps, div_real _ _ (by norm_num), ← EReal.coe_add]
  · left
    obtain ⟨k, hk⟩ := not_forall.mp h
    have ht : x (ix2 t k) * x (ix2 t k) = ⊤ := by
      generalize x (ix2 t k) = y at hk
      induction y with
      | bot => simp
      | top => simp
      | coe r => exact absurd ⟨r, rfl⟩ hk
    have hs : ∑ d : Fin 1024, x (ix2 t d) * x (ix2 t d) = ⊤ := by
      refine top_le_iff.mp ?_
      rw [← ht]
      exact Finset.single_le_sum (f := fun d => x (ix2 t d) * x (ix2 t d)) (fun d _ => sq_nonneg' _) (Finset.mem_univ k)
    unfold ms
    rw [hs, ofBits_1024, ofBits_eps, Ideal.div_coe (by norm_num), EReal.top_mul_coe_of_pos (by norm_num)]
    exact EReal.top_add_coe _

/-- Half a term twice is the whole term once, infinities included. -/
theorem twice (a b y : EReal) (h : -b = y) (hy : y + y = y) : a - b = (a + y) + y := by
  rw [add_assoc, hy, sub_eq_add_neg, h]

/-- The norm's own gradient: the kernel subtracts it in one piece, the reference adds it in two halves. -/
theorem core (a x S v : EReal) (hv : v = ⊤ ∨ ∃ V X : ℝ, 0 < V ∧ v = (V : EReal) ∧ x = (X : EReal)) :
    a - x * (Ideal.rsqrt v * Ideal.rsqrt v * Ideal.rsqrt v) * Ideal.div S (Ideal.ofBits .f32 0x44800000#32)
      = (a + x * Ideal.div (S * (Ideal.ofBits .f32 0xBF000000#32 * Ideal.div (Ideal.rsqrt v) v)) (Ideal.ofBits .f32 0x44800000#32))
        + Ideal.div (S * (Ideal.ofBits .f32 0xBF000000#32 * Ideal.div (Ideal.rsqrt v) v)) (Ideal.ofBits .f32 0x44800000#32) * x := by
  rw [mul_comm (Ideal.div (S * _) _) x, ofBits_1024, ofBits_neg_half]
  have h1 : (0 : ℝ) < 1 / 1024 := by norm_num
  simp only [Ideal.div_coe (show (1024 : ℝ) ≠ 0 by norm_num)]
  rcases hv with rfl | ⟨V, X, hV, rfl, rfl⟩
  · have h0 : Ideal.div (0 : EReal) ⊤ = 0 := by unfold Ideal.div; simp
    rw [Ideal.rsqrt_top, h0]; simp
  · have hr : Ideal.rsqrt (V : EReal) = (((Real.sqrt V)⁻¹ : ℝ) : EReal) := by
      rw [Ideal.rsqrt_coe, if_neg (not_lt.mpr hV.le), if_neg hV.ne']
    have h2 : (Real.sqrt V)⁻¹ * (Real.sqrt V)⁻¹ = 1 / V := by rw [← mul_inv, Real.mul_self_sqrt hV.le, one_div]
    have hp : 0 < (Real.sqrt V)⁻¹ := inv_pos.mpr (Real.sqrt_pos.mpr hV)
    rw [hr, div_real _ _ hV.ne']
    generalize (Real.sqrt V)⁻¹ = r at h2 hp
    have hc : 0 < r * r * r := mul_pos (mul_pos hp hp) hp
    have hn : -(1 / 2) * (r / V) < 0 := mul_neg_of_neg_of_pos (by norm_num) (div_pos hp hV)
    have he : -(1 / 2) * (r / V) = -(1 / 2) * (r * r * r) := by rw [h2]; ring
    simp only [← EReal.coe_mul]
    induction S with
    | coe s =>
      simp only [← EReal.coe_mul]
      rw [he, add_assoc, ← EReal.coe_add, sub_eq_add_neg, ← EReal.coe_neg]
      congr 2; ring
    | top =>
      rw [EReal.top_mul_coe_of_pos h1, EReal.top_mul_coe_of_neg hn, EReal.bot_mul_coe_of_pos h1]
      rcases lt_trichotomy X 0 with hX | rfl | hX
      · rw [EReal.coe_mul_top_of_neg (mul_neg_of_neg_of_pos hX hc), EReal.coe_mul_bot_of_neg hX]; exact twice _ _ _ rfl rfl
      · simp
      · rw [EReal.coe_mul_top_of_pos (mul_pos hX hc), EReal.coe_mul_bot_of_pos hX]; exact twice _ _ _ rfl rfl
    | bot =>
      rw [EReal.bot_mul_coe_of_pos h1, EReal.bot_mul_coe_of_neg hn, EReal.top_mul_coe_of_pos h1]
      rcases lt_trichotomy X 0 with hX | rfl | hX
      · rw [EReal.coe_mul_bot_of_neg (mul_neg_of_neg_of_pos hX hc), EReal.coe_mul_top_of_neg hX]; exact twice _ _ _ rfl rfl
      · simp
      · rw [EReal.coe_mul_bot_of_pos (mul_pos hX hc), EReal.coe_mul_top_of_pos hX]; exact twice _ _ _ rfl rfl

open Cert.MixBwdReferenceIdeal Cert.MixBwdReferenceIdeal.Gen Cert.MixBwdReferenceIdeal.Read

/-! ## The reference's stages -/

variable (X0 : (⟨S4096x5376, .f32⟩ : BufTy).Contents (Elt Ideal)) (X1 : (⟨S4096x1024, .f32⟩ : BufTy).Contents (Elt Ideal)) (X2 : (⟨S1x1024, .f32⟩ : BufTy).Contents (Elt Ideal))
  (X3 : (⟨S1024x5376, .f32⟩ : BufTy).Contents (Elt Ideal)) (X4 : (⟨S4096x1024, .f32⟩ : BufTy).Contents (Elt Ideal))

theorem g6 (t : Fin 4096) : val_main_v6 (F := Ideal) X1 (ix2 t 0) = ms X1 t := by
  unfold ms
  pointwise [val_main_v6, val_main_v5, val_main_cst_1, val_main_v4, val_main_v3, val_main_cst_0, val_main_v2, val_main_v1, val_main_cst, val_main_v0]
theorem g7 (t : Fin 4096) : val_main_v7 (F := Ideal) X1 (ix2 t 0) = rs X1 t :=
  Eq.trans (show val_main_v7 (F := Ideal) X1 (ix2 t 0) = Ideal.rsqrt (val_main_v6 (F := Ideal) X1 (ix2 t 0)) from rfl) (congrArg Ideal.rsqrt (g6 X1 t))
theorem g12 (t : Fin 4096) (d : Fin 1024) : val_main_v12 (F := Ideal) X1 (ix2 t d) = X1 (ix2 t d) * rs X1 t := by
  rw [← g7]; unfold val_main_v12 val_main_v11; generalize val_main_v7 (F := Ideal) X1 = Y; pointwise
theorem g18 (t : Fin 4096) (d : Fin 1024) : val_main_v18 (F := Ideal) X0 X3 (ix2 t d) = dh X0 X3 t d := by
  unfold dh prodE; pointwise [val_main_v18]
theorem g21 (d : Fin 1024) : val_main_v21 (F := Ideal) X0 X1 X3 (ix2 0 d) = dgE (dh X0 X3) X1 d := by
  have e : val_main_v21 (F := Ideal) X0 X1 X3 (ix2 0 d) = ∑ t : Fin 4096, val_main_v12 (F := Ideal) X1 (ix2 t d) * val_main_v18 (F := Ideal) X0 X3 (ix2 t d) := by
    unfold val_main_v21 val_main_v20 val_main_cst_3 val_main_v19; generalize val_main_v12 (F := Ideal) X1 = Y; generalize val_main_v18 (F := Ideal) X0 X3 = Z; pointwise
  rw [e]
  refine Finset.sum_congr rfl fun t _ => ?_
  rw [g12, g18, mul_comm, mul_assoc]
theorem g23 (t : Fin 4096) (d : Fin 1024) : val_main_v23 (F := Ideal) X0 X2 X3 (ix2 t d) = dh X0 X3 t d * X2 (ix2 0 d) := by
  rw [← g18]; unfold val_main_v23 val_main_v22; generalize val_main_v18 (F := Ideal) X0 X3 = Z; pointwise
theorem g28 (t : Fin 4096) (d : Fin 1024) : val_main_v28 (F := Ideal) X0 X1 X2 X3 (ix2 t d) = dh X0 X3 t d * X2 (ix2 0 d) * rs X1 t := by
  rw [← g23, ← g7]; unfold val_main_v28 val_main_v27; generalize val_main_v23 (F := Ideal) X0 X2 X3 = Z; generalize val_main_v7 (F := Ideal) X1 = Y; pointwise
theorem g34 (t : Fin 4096) (d : Fin 1024) : val_main_v34 (F := Ideal) X0 X1 X2 X3 (ix2 t d)
    = Ideal.div ((∑ k : Fin 1024, dh X0 X3 t k * X2 (ix2 0 k) * X1 (ix2 t k)) * (Ideal.ofBits .f32 0xBF000000#32 * Ideal.div (Ideal.rsqrt (ms X1 t)) (ms X1 t))) (Ideal.ofBits .f32 0x44800000#32) := by
  have e10 : val_main_v10 (F := Ideal) X1 (ix2 t 0) = Ideal.ofBits .f32 0xBF000000#32 * Ideal.div (val_main_v7 (F := Ideal) X1 (ix2 t 0)) (val_main_v6 (F := Ideal) X1 (ix2 t 0)) := by
    unfold val_main_v10 val_main_v9 val_main_cst_2 val_main_v8; generalize val_main_v7 (F := Ideal) X1 = Y; generalize val_main_v6 (F := Ideal) X1 = Z; pointwise
  have e26 : val_main_v26 (F := Ideal) X0 X1 X2 X3 (ix2 t 0) = ∑ d : Fin 1024, X1 (ix2 t d) * val_main_v23 (F := Ideal) X0 X2 X3 (ix2 t d) := by
    unfold val_main_v26 val_main_v25 val_main_cst_4 val_main_v24; generalize val_main_v23 (F := Ideal) X0 X2 X3 = Z; pointwise
  have e : val_main_v34 (F := Ideal) X0 X1 X2 X3 (ix2 t d) = Ideal.div (val_main_v26 (F := Ideal) X0 X1 X2 X3 (ix2 t 0) * val_main_v10 (F := Ideal) X1 (ix2 t 0)) (Ideal.ofBits .f32 0x44800000#32) := by
    unfold val_main_v34 val_main_v33 val_main_cst_6 val_main_v32 val_main_v31 val_main_cst_5 val_main_v30
    generalize val_main_v26 (F := Ideal) X0 X1 X2 X3 = Y; generalize val_main_v10 (F := Ideal) X1 = Z; pointwise
    exact Fin.sum_univ_one _
  have es : ∑ d : Fin 1024, X1 (ix2 t d) * val_main_v23 (F := Ideal) X0 X2 X3 (ix2 t d) = ∑ k : Fin 1024, dh X0 X3 t k * X2 (ix2 0 k) * X1 (ix2 t k) :=
    Finset.sum_congr rfl fun k _ => by rw [g23, mul_comm]
  rw [e, e26, e10, es, g7, g6]; rfl
theorem g38 (t : Fin 4096) (d : Fin 1024) : val_main_v38 (F := Ideal) X0 X1 X2 X3 X4 (ix2 t d) = dxE (dh X0 X3) X1 X2 X4 t d := by
  have e : val_main_v38 (F := Ideal) X0 X1 X2 X3 X4 (ix2 t d) = ((X4 (ix2 t d) + val_main_v28 (F := Ideal) X0 X1 X2 X3 (ix2 t d))
      + X1 (ix2 t d) * val_main_v34 (F := Ideal) X0 X1 X2 X3 (ix2 t d)) + val_main_v34 (F := Ideal) X0 X1 X2 X3 (ix2 t d) * X1 (ix2 t d) := rfl
  rw [e, g28, g34, mul_comm (dh X0 X3 t d * _) (rs X1 t)]
  exact (core _ _ _ _ (ms_cases X1 t d)).symm

/-- The reference's row gradient, as an array. -/
theorem h38 : val_main_v38 (F := Ideal) X0 X1 X2 X3 X4 = fun j => dxE (dh X0 X3) X1 X2 X4 (j 0) (j 1) := funext fun j => by
  obtain ⟨t, d, rfl⟩ := ex2 j
  exact g38 X0 X1 X2 X3 X4 t d
/-- The reference's gradient of the scale, as an array. -/
theorem h21 : val_main_v21 (F := Ideal) X0 X1 X3 = fun j => dgE (dh X0 X3) X1 (j 1) := funext fun j => by
  obtain ⟨q, d, rfl⟩ := ex2 j
  obtain rfl : q = 0 := Fin.ext (by omega)
  exact g21 X0 X1 X3 d

end Cert.Proof.MixBwd
end
-- ==== Proof.MixBwdClaim.lean ====
module

public import proofs.«01_k».proof.Proof.MixBwdRef
public import proofs.«01_k».proof.Proof.Gen.MixBwdIdeal
public import proofs.«01_k».proof.Proof.Gen.MixBwdReferenceIdeal
public import proofs.«01_k».proof.Proof.Gen.MixBwdReferenceIdeal.Run
public import proofs.«01_k».proof.Defs
public import Idealize.ShloMosaic.Lib.Claim
public import Idealize.ShloMosaic.Lib.Quiescent

@[expose] public section

set_option maxRecDepth 16384

noncomputable section

namespace Cert.Proof.MixBwd

open Idealize.ShloMosaic Idealize.ShloMosaic.TcCoe Idealize.SL.Sem

/-! # The backward projection's claims -/

/-- The program read over the extended reals: it terminates, its arguments end unchanged, its counters at zero. -/
theorem frame_ideal : Cert.quiescent_MixBwdIdeal (hMixBwdIdeal := Cert.MixBwdIdeal.Gen.facts) := fun m g _ => Cert.MixBwdIdeal.Gen.frame (F := Ideal) m g

/-- The same of the reference. -/
theorem frame_reference : Cert.quiescent_MixBwdReferenceIdeal (hMixBwdReferenceIdeal := Cert.MixBwdReferenceIdeal.Gen.facts) := fun m g _ =>
  (θ_run Cert.MixBwdReferenceIdeal.defs _ _).mono (fun r h => ⟨fun c => (h c).2.2, sem_eq_zero_of_no_sems (by decide) r.2⟩) (Cert.MixBwdReferenceIdeal.Value.run m g)

section
open Cert.MixBwdReferenceIdeal Cert.MixBwdReferenceIdeal.Gen Cert.MixBwdReferenceIdeal.Read
set_option maxHeartbeats 2000000 in
/-- The reference runs to its two composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v21) = val_main_v21 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v38_eq m c),
    (h c).2.1.trans (val_main_v21_eq (m ((c.tc : Thread nD τ).loc main_arg0)) (m ((c.tc : Thread nD τ).loc main_arg1)) (m ((c.tc : Thread nD τ).loc main_arg3))),
    (h c).2.2⟩)
    (Cert.MixBwdReferenceIdeal.Value.run m ρ)
end

/-- The program's two results are the reference's, whatever the arguments. -/
theorem values : Cert.algebraic_MixBwdIdeal_MixBwdReferenceIdeal (hMixBwdIdeal := Cert.MixBwdIdeal.Gen.facts) (hMixBwdReferenceIdeal := Cert.MixBwdReferenceIdeal.Gen.facts) := by
  intro m g m' g' _ hag
  refine ⟨fun c => (Cert.MixBwdIdeal.Gen.dats m 0 c).arrAt 11 Cert.MixBwdIdeal.cfg0.N, fun c => (Cert.MixBwdIdeal.Gen.dats m 0 c).arrAt 12 Cert.MixBwdIdeal.cfg0.N, ?_, ?_⟩
  · exact Cert.MixBwdIdeal.Value.run_blocks m g
  · refine (θ_run Cert.MixBwdReferenceIdeal.defs _ _).mono (fun r h c => ?_) (run_reference m' g')
    obtain ⟨e0, e1, e2, e3, e4⟩ := hag c
    refine ⟨(h c).1.trans ?_, (h c).2.1.trans ?_, (h c).2.2⟩
    · rw [e0, e1, e2, e3, e4]; exact (h38 _ _ _ _ _).trans (arr11 m c).symm
    · rw [e0, e1, e3]; exact (h21 _ _ _).trans (arr12 m c).symm

end Cert.Proof.MixBwd
end
-- ==== Proof.MixBwdSameText.lean ====
module

public import proofs.«01_k».proof.Proof.Gen.MixBwd
public import proofs.«01_k».proof.Proof.Gen.MixBwdIdeal

@[expose] public section

set_option maxRecDepth 16384
set_option maxHeartbeats 0

namespace Cert.Proof.MixBwdSameText

open Idealize.ShloMosaic

variable {F : FTy → Type} [FloatOps F]

/-! ## The backward projection and its ideal reading are one text -/

/-- The two programs' `main` is the same program, -/
theorem main_eq : Cert.MixBwd.main (F := F) = Cert.MixBwdIdeal.main (F := F) := rfl

/-- the body that the call runs is the same, -/
theorem body_eq : Cert.MixBwd.defs₀ (F := F) = Cert.MixBwdIdeal.defs₀ (F := F) := by
  unfold Cert.MixBwd.defs₀ Cert.MixBwdIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.MixBwd.defs (F := F) = Cert.MixBwdIdeal.defs (F := F) := by
  unfold Cert.MixBwd.defs Cert.MixBwdIdeal.defs
  rw [body_eq]
  rfl

end Cert.Proof.MixBwdSameText

end
-- ==== Proof.MixFwdVal.lean ====
module

public import proofs.«01_k».proof.Proof.FfnSpec
public import proofs.«01_k».proof.Proof.Gen.MixFwdIdeal.Value
public import proofs.«01_k».proof.Proof.Gen.MixFwdReferenceIdeal.Read

@[expose] public section

set_option maxRecDepth 16384

noncomputable section

namespace Cert.Proof.MixFwd

open Cert.MixFwdIdeal Cert.MixFwdIdeal.Gen
open Idealize.ShloMosaic.Pipeline (Dat)
open Idealize.ShloMosaic Idealize.ShloMosaic.TcCoe Idealize.SL.Sem

/-! # The forward projection's arrays -/

/-- An entry of the normalized rows. -/
def nrm {T : ℕ} (x : (⟨2, ![T, 1024]⟩ : Shape).Idx → EReal) (g : S1x1024.Idx → EReal) (t : Fin T) (d : Fin 1024) : EReal :=
  x (ix2 t d) * Ideal.rsqrt (Ideal.div (∑ d : Fin 1024, x (ix2 t d) * x (ix2 t d)) (Ideal.ofBits .f32 0x44800000#32) + Ideal.ofBits .f32 0x358637BD#32) * g (ix2 0 d)

/-- An entry of the projection: a normalized row against a column of the weight. -/
def proj (x : S4096x1024.Idx → EReal) (g : S1x1024.Idx → EReal) (w : S1024x5376.Idx → EReal) (t : Fin 4096) (n : Fin 5376) : EReal :=
  ∑ d : Fin 1024, nrm x g t d * w (ix2 d n)

/-- The projection's columns from `o` on, as an array. -/
def cols (o b : ℕ) (h : o + b ≤ 5376) (x : S4096x1024.Idx → EReal) (g : S1x1024.Idx → EReal) (w : S1024x5376.Idx → EReal) : (⟨2, ![4096, b]⟩ : Shape).Idx → EReal :=
  fun j => proj x g w (j 0) ⟨o + (j 1).val, by have : (j 1).val < b := (j 1).isLt; omega⟩

theorem ex2 {a b : ℕ} (y : (⟨2, ![a, b]⟩ : Shape).Idx) : ∃ (q : Fin a) (d : Fin b), y = ix2 q d := ⟨y 0, y 1, by funext a; match a with | ⟨0, _⟩ => rfl | ⟨1, _⟩ => rfl⟩

/-! ## The body's stored values, at an index -/

theorem pn (x : Vec Ideal S256x1024 .f32) (g : Vec Ideal S1x1024 .f32) (q : Fin 256) (d : Fin 1024) : k0_pay6 x g (ix2 q d) = nrm x g q d := by
  unfold nrm; pointwise [k0_pay6]
theorem p1 (Y : Vec Ideal S256x1024 .bf16) (w : Vec Ideal S512x1024 .bf16) (q : Fin 256) (n : Fin 512) : k0_pay1 Y w (ix2 q n) = ∑ d : Fin 1024, Y (ix2 q d) * w (ix2 n d) := by
  pointwise [k0_pay1]
theorem p2 (Y : Vec Ideal S256x1024 .bf16) (w : Vec Ideal S512x1024 .bf16) (q : Fin 256) (n : Fin 512) : k0_pay2 Y w (ix2 q n) = ∑ d : Fin 1024, Y (ix2 q d) * w (ix2 n d) := by
  pointwise [k0_pay2]
theorem p3 (Y : Vec Ideal S256x1024 .bf16) (w : Vec Ideal S512x1024 .bf16) (q : Fin 256) (n : Fin 512) : k0_pay3 Y w (ix2 q n) = ∑ d : Fin 1024, Y (ix2 q d) * w (ix2 n d) := by
  pointwise [k0_pay3]
theorem p4 (Y : Vec Ideal S256x1024 .bf16) (w : Vec Ideal S1024x1024 .bf16) (q : Fin 256) (n : Fin 1024) : k0_pay4 Y w (ix2 q n) = ∑ d : Fin 1024, Y (ix2 q d) * w (ix2 n d) := by
  pointwise [k0_pay4]
theorem p5 (Y : Vec Ideal S256x1024 .bf16) (w : Vec Ideal S1024x1024 .bf16) (q : Fin 256) (n : Fin 1024) : k0_pay5 Y w (ix2 q n) = ∑ d : Fin 1024, Y (ix2 q d) * w (ix2 n d) := by
  pointwise [k0_pay5]
theorem p7 (x : Vec Ideal S256x1024 .f32) (g : Vec Ideal S1x1024 .f32) (w : Vec Ideal S768x1024 .bf16) (q : Fin 256) (n : Fin 768) : k0_pay7 x g w (ix2 q n) = ∑ d : Fin 1024, k0_pay6 x g (ix2 q d) * w (ix2 n d) := by
  unfold k0_pay7; generalize k0_pay6 x g = Y; pointwise
theorem p8 (x : Vec Ideal S256x1024 .f32) (g : Vec Ideal S1x1024 .f32) (w : Vec Ideal S512x1024 .bf16) (q : Fin 256) (n : Fin 512) : k0_pay8 x g w (ix2 q n) = ∑ d : Fin 1024, k0_pay6 x g (ix2 q d) * w (ix2 n d) := by
  unfold k0_pay8; generalize k0_pay6 x g = Y; pointwise
theorem p9 (x : Vec Ideal S256x1024 .f32) (g : Vec Ideal S1x1024 .f32) (w : Vec Ideal S512x1024 .bf16) (q : Fin 256) (n : Fin 512) : k0_pay9 x g w (ix2 q n) = ∑ d : Fin 1024, k0_pay6 x g (ix2 q d) * w (ix2 n d) := by
  unfold k0_pay9; generalize k0_pay6 x g = Y; pointwise

/-! ## The blocks the body leaves -/

variable (x : Vec Ideal S256x1024 .f32) (g : Vec Ideal S1x1024 .f32) (w : Vec Ideal S5376x1024 .bf16)

theorem ldx : View.ld x r0_0 = x := View.ld_unit_zero (by decide) _ x
theorem ldg : View.ld g r0_1 = g := View.ld_unit_zero (by decide) _ g
/-- Rows of the weight read from row `o` on. -/
theorem ldw (o b : ℕ) (inb) (n : Fin b) (d : Fin 1024) (h : o + n.val < 5376) : View.ld w (Rect.unit (s := S5376x1024) ![o, 0] ![b, 1024] inb) (ix2 n d) = w (ix2 (⟨o + n.val, h⟩ : Fin 5376) d) :=
  View.ld_unit_apply_of w _ _ _ _ _ (fun a => by
    match a with
    | ⟨0, _⟩ => rfl
    | ⟨1, _⟩ => exact (Nat.zero_add _).symm)

/-- A row's normalized entries against row `o + n` of the weight. -/
def blk (o b : ℕ) (h : o + b ≤ 5376) : (⟨2, ![256, b]⟩ : Shape).Idx → EReal :=
  fun y => ∑ d : Fin 1024, nrm x g (y 0) d * w (ix2 (⟨o + (y 1).val, by have : (y 1).val < b := (y 1).isLt; omega⟩ : Fin 5376) d)

theorem piece (o b : ℕ) (h : o + b ≤ 5376) (c s : ℕ) (hc : c + s ≤ b) (inb) (P : (⟨2, ![256, s]⟩ : Shape).Idx → EReal) (inw)
    (hP : ∀ q n, P (ix2 q n) = ∑ d : Fin 1024, nrm x g q d * View.ld (Val := Elt Ideal) w (Rect.unit (s := S5376x1024) ![o + c, 0] ![s, 1024] inw) (ix2 n d)) (y) :
    P y = blk x g w o b h ((Rect.unit (s := ⟨2, ![256, b]⟩) ![0, c] ![256, s] inb).idx y) := by
  obtain ⟨q, n, rfl⟩ := ex2 y
  rw [hP]
  unfold blk
  refine Finset.sum_congr rfl fun d _ => ?_
  rw [ldw _ _ _ _ _ _ (by omega)]
  refine congrArg₂ (· * ·) (congrArg (nrm x g · d) (Fin.ext ?_)) (congrArg w (congrArg (ix2 · d) (Fin.ext ?_)))
  · show q.val = 0 + 1 * q.val; omega
  · show o + c + n.val = o + (c + 1 * n.val); omega

theorem out3 : out0_3 x g w = blk x g w 0 768 (by omega) := funext fun y => by
  unfold out0_3
  rw [ldx, ldg]
  refine View.canon_apply_of_pieces (Val := Elt Ideal) (e := .f32) (S := S256x768) (blk x g w 0 768 (by omega)) _ ?_ y (cover0_3 _ y)
  intro pc hpc
  rcases List.mem_cons.mp hpc with rfl | hpc
  · exact fun y => piece x g w 0 768 _ 0 768 (by omega) (by decide) _ (by decide) (fun q n => (p7 x g _ q n).trans (Finset.sum_congr rfl fun d _ => congrArg (· * _) (pn x g q d))) y
  nomatch hpc
theorem out4 : out0_4 x g w = blk x g w 768 2560 (by omega) := funext fun y => by
  unfold out0_4 k0_pay10
  rw [ldx, ldg]
  refine View.canon_apply_of_pieces (Val := Elt Ideal) (e := .f32) (S := S256x2560) (blk x g w 768 2560 (by omega)) _ ?_ y (cover0_4 _ _ _ _ _ y)
  intro pc hpc
  rcases List.mem_cons.mp hpc with rfl | hpc
  · exact fun y => piece x g w 768 2560 _ 2048 512 (by omega) (by decide) _ (by decide) (fun q n => (p3 _ _ q n).trans (Finset.sum_congr rfl fun d _ => congrArg (· * _) (pn x g q d))) y
  rcases List.mem_cons.mp hpc with rfl | hpc
  · exact fun y => piece x g w 768 2560 _ 1536 512 (by omega) (by decide) _ (by decide) (fun q n => (p2 _ _ q n).trans (Finset.sum_congr rfl fun d _ => congrArg (· * _) (pn x g q d))) y
  rcases List.mem_cons.mp hpc with rfl | hpc
  · exact fun y => piece x g w 768 2560 _ 1024 512 (by omega) (by decide) _ (by decide) (fun q n => (p1 _ _ q n).trans (Finset.sum_congr rfl fun d _ => congrArg (· * _) (pn x g q d))) y
  rcases List.mem_cons.mp hpc with rfl | hpc
  · exact fun y => piece x g w 768 2560 _ 512 512 (by omega) (by decide) _ (by decide) (fun q n => (p9 x g _ q n).trans (Finset.sum_congr rfl fun d _ => congrArg (· * _) (pn x g q d))) y
  rcases List.mem_cons.mp hpc with rfl | hpc
  · exact fun y => piece x g w 768 2560 _ 0 512 (by omega) (by decide) _ (by decide) (fun q n => (p8 x g _ q n).trans (Finset.sum_congr rfl fun d _ => congrArg (· * _) (pn x g q d))) y
  nomatch hpc
theorem out5 : out0_5 x g w = blk x g w 3328 2048 (by omega) := funext fun y => by
  unfold out0_5 k0_pay10
  rw [ldx, ldg]
  refine View.canon_apply_of_pieces (Val := Elt Ideal) (e := .bf16) (S := S256x2048) (blk x g w 3328 2048 (by omega)) _ ?_ y (cover0_5 _ _ y)
  intro pc hpc
  rcases List.mem_cons.mp hpc with rfl | hpc
  · exact fun y => piece x g w 3328 2048 _ 1024 1024 (by omega) (by decide) _ (by decide) (fun q n => (p5 _ _ q n).trans (Finset.sum_congr rfl fun d _ => congrArg (· * _) (pn x g q d))) y
  rcases List.mem_cons.mp hpc with rfl | hpc
  · exact fun y => piece x g w 3328 2048 _ 0 1024 (by omega) (by decide) _ (by decide) (fun q n => (p4 _ _ q n).trans (Finset.sum_congr rfl fun d _ => congrArg (· * _) (pn x g q d))) y
  nomatch hpc

/-! ## The windows' blocks at a point -/

variable (m : (ℓ : Loc nD τ sig) → Buf (Elt Ideal) ℓ) (c : Dev nD)

theorem ix_0 : ∀ t : Fin cfg0.N, win0_0.index t = ![t.val % 16, 0] := (by decide +kernel : ∀ t : Fin grid0.N, win0_0.index t = ![t.val % 16, 0])
theorem ix_1 : ∀ t : Fin cfg0.N, win0_1.index t = ![0, 0] := (by decide +kernel : ∀ t : Fin grid0.N, win0_1.index t = ![0, 0])
theorem ix_2 : ∀ t : Fin cfg0.N, win0_2.index t = ![0, 0] := (by decide +kernel : ∀ t : Fin grid0.N, win0_2.index t = ![0, 0])
theorem ix_3 : ∀ t : Fin cfg0.N, win0_3.index t = ![t.val % 16, 0] := (by decide +kernel : ∀ t : Fin grid0.N, win0_3.index t = ![t.val % 16, 0])
theorem ix_4 : ∀ t : Fin cfg0.N, win0_4.index t = ![t.val % 16, 0] := (by decide +kernel : ∀ t : Fin grid0.N, win0_4.index t = ![t.val % 16, 0])
theorem ix_5 : ∀ t : Fin cfg0.N, win0_5.index t = ![t.val % 16, 0] := (by decide +kernel : ∀ t : Fin grid0.N, win0_5.index t = ![t.val % 16, 0])

/-- Row `q` of the `j`th tile of 256 rows. -/
def rowM (j : ℕ) (q : Fin 256) : Fin 4096 := ⟨256 * (j % 16) + q.val, by omega⟩

theorem b_0 (t : Fin cfg0.N) (q : Fin 256) (d : Fin 1024) : iblk m c 0 t (ix2 q d) = V m c main_arg0 (ix2 (rowM t.val q) d) := by blk_ext [iblk, ix_0 t, rowM]
theorem b_1 (t : Fin cfg0.N) (d : Fin 1024) : iblk m c 1 t (ix2 0 d) = V m c main_arg1 (ix2 0 d) := by blk_ext [iblk, ix_1 t]
theorem b_2 (t : Fin cfg0.N) (n : Fin 5376) (d : Fin 1024) : iblk m c 2 t (ix2 n d) = V m c main_v1 (ix2 n d) := by blk_ext [iblk, ix_2 t]

theorem turned (X : FVec Ideal S1024x5376 .f32) (n : Fin 5376) (d : Fin 1024) : transpose S5376x1024 [1, 0] X transposes_S1024x5376_S5376x1024_1_0 (ix2 n d) = X (ix2 d n) := by
  pointwise
theorem V_w (n : Fin 5376) (d : Fin 1024) : V m c main_v1 (ix2 n d) = m ((c : Thread nD τ).loc main_arg2) (ix2 d n) := by
  have e : V m c main_v1 = truncf (F := Ideal) (φ := .f32) .bf16 (transpose S5376x1024 [1, 0] (m ((c : Thread nD τ).loc main_arg2)) transposes_S1024x5376_S5376x1024_1_0) bitsLt_bf16_f32 := by
    after_reads_simp
  exact (congrFun e _).trans (turned _ n d)

/-- A tile's normalized rows are the array's. -/
theorem nrm_blk (t : Fin cfg0.N) (q : Fin 256) (d : Fin 1024) : nrm (iblk m c 0 t) (iblk m c 1 t) q d = nrm (m ((c : Thread nD τ).loc main_arg0)) (m ((c : Thread nD τ).loc main_arg1)) (rowM t.val q) d := by
  unfold nrm
  simp only [b_0, b_1]
  rw [V_main_arg0, V_main_arg1]
/-- So a tile's block is the projection's. -/
theorem blk_proj (t : Fin cfg0.N) (o b : ℕ) (h : o + b ≤ 5376) (q : Fin 256) (n : Fin b) :
    blk (iblk m c 0 t) (iblk m c 1 t) (iblk m c 2 t) o b h (ix2 q n) = cols o b h (m ((c : Thread nD τ).loc main_arg0)) (m ((c : Thread nD τ).loc main_arg1)) (m ((c : Thread nD τ).loc main_arg2)) (ix2 (rowM t.val q) n) := by
  unfold blk cols proj
  refine Finset.sum_congr rfl fun d _ => congrArg₂ (· * ·) (nrm_blk m c t q d) ?_
  rw [b_2]; exact V_w m c _ d

/-! ## The arrays it leaves -/

theorem arr3 : (dats m 0 c).arrAt 3 cfg0.N = cols 0 768 (by omega) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out3]
  obtain ⟨q, n, rfl⟩ := ex2 y
  refine (blk_proj m c t 0 768 _ q n).trans ?_
  blk_ext [ix_3 t, rowM]
theorem arr4 : (dats m 0 c).arrAt 4 cfg0.N = cols 768 2560 (by omega) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, out4]
  obtain ⟨q, n, rfl⟩ := ex2 y
  refine (blk_proj m c t 768 2560 _ q n).trans ?_
  blk_ext [ix_4 t, rowM]
theorem arr5 : (dats m 0 c).arrAt 5 cfg0.N = cols 3328 2048 (by omega) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out5]
  obtain ⟨q, n, rfl⟩ := ex2 y
  refine (blk_proj m c t 3328 2048 _ q n).trans ?_
  blk_ext [ix_5 t, rowM]

end Cert.Proof.MixFwd

/-! ## The reference's arrays -/

namespace Cert.Proof.MixFwd
open Cert.MixFwdReferenceIdeal Cert.MixFwdReferenceIdeal.Gen Cert.MixFwdReferenceIdeal.Read
open Idealize.ShloMosaic Idealize.ShloMosaic.TcCoe Idealize.SL.Sem

variable (X0 : FVec Ideal S4096x1024 .f32) (X1 : FVec Ideal S1x1024 .f32) (X2 : FVec Ideal S1024x5376 .f32)

theorem f11 (t : Fin 4096) (d : Fin 1024) : val_main_v11 (F := Ideal) X0 X1 (ix2 t d) = nrm X0 X1 t d := by
  have e6 : val_main_v6 (F := Ideal) X0 (ix2 t 0) = Ideal.div (∑ d : Fin 1024, X0 (ix2 t d) * X0 (ix2 t d)) (Ideal.ofBits .f32 0x44800000#32) + Ideal.ofBits .f32 0x358637BD#32 := by
    pointwise [val_main_v6, val_main_v5, val_main_cst_1, val_main_v4, val_main_v3, val_main_cst_0, val_main_v2, val_main_v1, val_main_cst, val_main_v0]
  have e7 : val_main_v7 (F := Ideal) X0 (ix2 t 0) = Ideal.rsqrt (val_main_v6 (F := Ideal) X0 (ix2 t 0)) := rfl
  have e : val_main_v11 (F := Ideal) X0 X1 (ix2 t d) = X0 (ix2 t d) * val_main_v7 (F := Ideal) X0 (ix2 t 0) * X1 (ix2 0 d) := by
    unfold val_main_v11 val_main_v10 val_main_v9 val_main_v8; generalize val_main_v7 (F := Ideal) X0 = Y; pointwise
  rw [e, e7, e6]; rfl
theorem f12 (t : Fin 4096) (n : Fin 5376) : val_main_v12 (F := Ideal) X0 X1 X2 (ix2 t n) = proj X0 X1 X2 t n := by
  have e : val_main_v12 (F := Ideal) X0 X1 X2 (ix2 t n) = ∑ d : Fin 1024, val_main_v11 (F := Ideal) X0 X1 (ix2 t d) * X2 (ix2 d n) := by
    unfold val_main_v12; generalize val_main_v11 (F := Ideal) X0 X1 = Y; pointwise
  rw [e]; exact Finset.sum_congr rfl fun d _ => congrArg (· * _) (f11 X0 X1 t d)
theorem f13 : val_main_v13 (F := Ideal) X0 X1 X2 = cols 0 768 (by omega) X0 X1 X2 := funext fun j => by
  obtain ⟨t, n, rfl⟩ := ex2 j
  refine (val_main_v13_apply X0 X1 X2 _).trans (Eq.trans (congrArg (val_main_v12 (F := Ideal) X0 X1 X2) ?_) (f12 X0 X1 X2 t (⟨0 + n.val, by omega⟩ : Fin 5376)))
  funext a; match a with | ⟨0, _⟩ => rfl | ⟨1, _⟩ => exact Fin.ext (Nat.zero_add _).symm
theorem f14 : val_main_v14 (F := Ideal) X0 X1 X2 = cols 768 2560 (by omega) X0 X1 X2 := funext fun j => by
  obtain ⟨t, n, rfl⟩ := ex2 j
  refine (val_main_v14_apply X0 X1 X2 _).trans (Eq.trans (congrArg (val_main_v12 (F := Ideal) X0 X1 X2) ?_) (f12 X0 X1 X2 t (⟨768 + n.val, by omega⟩ : Fin 5376)))
  funext a; match a with | ⟨0, _⟩ => rfl | ⟨1, _⟩ => rfl
theorem f16 : val_main_v16 (F := Ideal) X0 X1 X2 = cols 3328 2048 (by omega) X0 X1 X2 := funext fun j => by
  obtain ⟨t, n, rfl⟩ := ex2 j
  refine (val_main_v15_apply X0 X1 X2 _).trans (Eq.trans (congrArg (val_main_v12 (F := Ideal) X0 X1 X2) ?_) (f12 X0 X1 X2 t (⟨3328 + n.val, by omega⟩ : Fin 5376)))
  funext a; match a with | ⟨0, _⟩ => rfl | ⟨1, _⟩ => rfl

end Cert.Proof.MixFwd
end
-- ==== Proof.MixFwdClaim.lean ====
module

public import proofs.«01_k».proof.Proof.MixFwdVal
public import proofs.«01_k».proof.Proof.Gen.MixFwdIdeal
public import proofs.«01_k».proof.Proof.Gen.MixFwdReferenceIdeal
public import proofs.«01_k».proof.Proof.Gen.MixFwdReferenceIdeal.Run
public import proofs.«01_k».proof.Defs
public import Idealize.ShloMosaic.Lib.Claim
public import Idealize.ShloMosaic.Lib.Quiescent

@[expose] public section

set_option maxRecDepth 16384

noncomputable section

namespace Cert.Proof.MixFwd

open Idealize.ShloMosaic Idealize.ShloMosaic.TcCoe Idealize.SL.Sem

/-! # The forward projection's claims -/

/-- The program read over the extended reals: it terminates, its arguments end unchanged, its counters at zero. -/
theorem frame_ideal : Cert.quiescent_MixFwdIdeal (hMixFwdIdeal := Cert.MixFwdIdeal.Gen.facts) := fun m g _ => Cert.MixFwdIdeal.Gen.frame (F := Ideal) m g

/-- The same of the reference. -/
theorem frame_reference : Cert.quiescent_MixFwdReferenceIdeal (hMixFwdReferenceIdeal := Cert.MixFwdReferenceIdeal.Gen.facts) := fun m g _ =>
  (θ_run Cert.MixFwdReferenceIdeal.defs _ _).mono (fun r h => ⟨fun c => (h c).2.2.2, sem_eq_zero_of_no_sems (by decide) r.2⟩) (Cert.MixFwdReferenceIdeal.Value.run m g)

section
open Cert.MixFwdReferenceIdeal Cert.MixFwdReferenceIdeal.Gen Cert.MixFwdReferenceIdeal.Read
set_option maxHeartbeats 2000000 in
/-- The reference runs to its three composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0)) (m ((c.tc : Thread nD τ).loc main_arg1)) (m ((c.tc : Thread nD τ).loc main_arg2))
      ∧ r.2.mem ((c.tc : Thread nD τ).loc main_v14) = val_main_v14 (F := Ideal) (m ((c.tc : Thread nD τ).loc main_arg0)) (m ((c.tc : Thread nD τ).loc main_arg1)) (m ((c.tc : Thread nD τ).loc main_arg2))
      ∧ r.2.mem ((c.tc : Thread nD τ).loc main_v16) = val_main_v16 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v13_eq (m ((c.tc : Thread nD τ).loc main_arg0)) (m ((c.tc : Thread nD τ).loc main_arg1)) (m ((c.tc : Thread nD τ).loc main_arg2))),
    (h c).2.1.trans (val_main_v14_eq (m ((c.tc : Thread nD τ).loc main_arg0)) (m ((c.tc : Thread nD τ).loc main_arg1)) (m ((c.tc : Thread nD τ).loc main_arg2))),
    (h c).2.2.1.trans (val_main_v16_eq (m ((c.tc : Thread nD τ).loc main_arg0)) (m ((c.tc : Thread nD τ).loc main_arg1)) (m ((c.tc : Thread nD τ).loc main_arg2))),
    (h c).2.2.2⟩)
    (Cert.MixFwdReferenceIdeal.Value.run m ρ)
end

/-- The program's three results are the reference's, whatever the arguments. -/
theorem values : Cert.algebraic_MixFwdIdeal_MixFwdReferenceIdeal (hMixFwdIdeal := Cert.MixFwdIdeal.Gen.facts) (hMixFwdReferenceIdeal := Cert.MixFwdReferenceIdeal.Gen.facts) := by
  intro m g m' g' _ hag
  refine ⟨fun c => (Cert.MixFwdIdeal.Gen.dats m 0 c).arrAt 3 Cert.MixFwdIdeal.cfg0.N, fun c => (Cert.MixFwdIdeal.Gen.dats m 0 c).arrAt 4 Cert.MixFwdIdeal.cfg0.N,
    fun c => (Cert.MixFwdIdeal.Gen.dats m 0 c).arrAt 5 Cert.MixFwdIdeal.cfg0.N, ?_, ?_⟩
  · exact (θ_run Cert.MixFwdIdeal.defs _ _).mono (fun r h c => ⟨(h c).1, (h c).2.1, (h c).2.2.1, (h c).2.2.2.2⟩) (Cert.MixFwdIdeal.Value.run_blocks m g)
  · refine (θ_run Cert.MixFwdReferenceIdeal.defs _ _).mono (fun r h c => ?_) (run_reference m' g')
    obtain ⟨e0, e1, e2⟩ := hag c
    refine ⟨(h c).1.trans ?_, (h c).2.1.trans ?_, (h c).2.2.1.trans ?_, (h c).2.2.2⟩
    · rw [e0, e1, e2]; exact (f13 _ _ _).trans (arr3 m c).symm
    · rw [e0, e1, e2]; exact (f14 _ _ _).trans (arr4 m c).symm
    · rw [e0, e1, e2]; exact (f16 _ _ _).trans (arr5 m c).symm

end Cert.Proof.MixFwd
end
-- ==== Proof.MixFwdSameText.lean ====
module

public import proofs.«01_k».proof.Proof.Gen.MixFwd
public import proofs.«01_k».proof.Proof.Gen.MixFwdIdeal

@[expose] public section

set_option maxRecDepth 16384
set_option maxHeartbeats 0

namespace Cert.Proof.MixFwdSameText

open Idealize.ShloMosaic

variable {F : FTy → Type} [FloatOps F]

/-! ## The forward projection and its ideal reading are one text -/

/-- The two programs' `main` is the same program, -/
theorem main_eq : Cert.MixFwd.main (F := F) = Cert.MixFwdIdeal.main (F := F) := rfl

/-- the body that the call runs is the same, -/
theorem body_eq : Cert.MixFwd.defs₀ (F := F) = Cert.MixFwdIdeal.defs₀ (F := F) := by
  unfold Cert.MixFwd.defs₀ Cert.MixFwdIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.MixFwd.defs (F := F) = Cert.MixFwdIdeal.defs (F := F) := by
  unfold Cert.MixFwd.defs Cert.MixFwdIdeal.defs
  rw [body_eq]
  rfl

end Cert.Proof.MixFwdSameText

end
-- ==== Proof.MixOutVal.lean ====
module

public import proofs.«01_k».proof.Proof.FfnSpec
public import proofs.«01_k».proof.Proof.Gen.MixOutIdeal.Value
public import proofs.«01_k».proof.Proof.Gen.MixOutReferenceIdeal.Read

@[expose] public section

set_option maxRecDepth 16384

noncomputable section

namespace Cert.Proof.MixOut

open Cert.MixOutIdeal Cert.MixOutIdeal.Gen
open Idealize.ShloMosaic.Pipeline (Dat)
open Idealize.ShloMosaic Idealize.ShloMosaic.TcCoe Idealize.SL.Sem

/-! # The mixed branches' array -/

theorem ex2 {a b : ℕ} (y : (⟨2, ![a, b]⟩ : Shape).Idx) : ∃ (q : Fin a) (d : Fin b), y = ix2 q d := ⟨y 0, y 1, by funext a; match a with | ⟨0, _⟩ => rfl | ⟨1, _⟩ => rfl⟩

/-- Column `n` of the `e`th part of 256 columns. -/
def part (e : Fin 4) (n : Fin 256) : Fin 1024 := ⟨e.val * 256 + n.val, by omega⟩
theorem ex_part (j : Fin 1024) : ∃ (e : Fin 4) (n : Fin 256), j = part e n := ⟨⟨j.val / 256, by omega⟩, ⟨j.val % 256, by omega⟩, Fin.ext (by show j.val = j.val / 256 * 256 + j.val % 256; omega)⟩

/-- A row plus its gated branches against the last weight: `ga`, `gb` are the row's gates, `a`, `b` its branches. -/
def mix (x : EReal) (ga gb a b : Fin 1024 → EReal) (w : Fin 1024 → EReal) : EReal :=
  x + ∑ j : Fin 1024, (Ideal.logistic (ga j) * a j + Ideal.logistic (gb j) * b j) * w j

/-- An entry of a branch: a row against a column of its weight. -/
def bra (o : S4096x512.Idx → EReal) (w : S512x1024.Idx → EReal) (t : Fin 4096) (j : Fin 1024) : EReal := ∑ k : Fin 512, o (ix2 t k) * w (ix2 k j)
/-- The whole array. -/
def out (x : S4096x1024.Idx → EReal) (oa ob : S4096x512.Idx → EReal) (p : S4096x2048.Idx → EReal) (wa wb : S512x1024.Idx → EReal) (wo : S1024x1024.Idx → EReal) : S4096x1024.Idx → EReal :=
  fun i => mix (x (ix2 (i 0) (i 1))) (fun j => p (ix2 (i 0) (⟨j.val, by omega⟩ : Fin 2048))) (fun j => p (ix2 (i 0) (⟨1024 + j.val, by omega⟩ : Fin 2048)))
    (bra oa wa (i 0)) (bra ob wb (i 0)) (fun j => wo (ix2 j (i 1)))

/-! ## The body's stored values, at an index -/

theorem prod (a : FVec Ideal S512x512 .bf16) (w : Vec Ideal S1x512x256 .bf16) (q : Fin 512) (n : Fin 256) :
    matmul dot_S512x512_S512x256_S512x256_1_0_0_1_n_n none a (shapeCast S512x256 w shapeCasts_S1x512x256_S512x256 : FVec Ideal S512x256 .bf16) (constant S512x256 .f32 0x00000000#32 : FVec Ideal S512x256 .f32) (ix2 q n) = ∑ k : Fin 512, a (ix2 q k) * w (ix3 0 k n) := by
  pointwise

theorem cat (A : Fin 4 → FVec Ideal S512x256 .f32) (q : Fin 512) (e : Fin 4) (n : Fin 256) :
    concatenate S512x1024 1 [⟨S512x256, A 0⟩, ⟨S512x256, A 1⟩, ⟨S512x256, A 2⟩, ⟨S512x256, A 3⟩] concatenates_S512x256_S512x256_S512x256_S512x256_S512x1024_d1 (ix2 q (part e n)) = A e (ix2 q n) := by
  have side : ∀ b : Fin S512x256.rank, b.cast (rfl : S512x256.rank = S512x1024.rank) ≠ 1 → ((ix2 q n : S512x256.Idx) b).val = ((ix2 q (part e n) : S512x1024.Idx) (b.cast rfl)).val := fun b hb => by
    match b with
    | ⟨0, _⟩ => rfl
    | ⟨1, _⟩ => exact absurd rfl hb
  match e with
  | 0 => exact concatenate_apply_piece (t := S512x1024) 1 [⟨S512x256, A 0⟩, ⟨S512x256, A 1⟩, ⟨S512x256, A 2⟩, ⟨S512x256, A 3⟩] _ _ 0 (by simp) S512x256 (A 0) rfl rfl 0 rfl _ side rfl
  | 1 => exact concatenate_apply_piece (t := S512x1024) 1 [⟨S512x256, A 0⟩, ⟨S512x256, A 1⟩, ⟨S512x256, A 2⟩, ⟨S512x256, A 3⟩] _ _ 1 (by simp) S512x256 (A 1) rfl rfl 256 rfl _ side rfl
  | 2 => exact concatenate_apply_piece (t := S512x1024) 1 [⟨S512x256, A 0⟩, ⟨S512x256, A 1⟩, ⟨S512x256, A 2⟩, ⟨S512x256, A 3⟩] _ _ 2 (by simp) S512x256 (A 2) rfl rfl 512 rfl _ side rfl
  | 3 => exact concatenate_apply_piece (t := S512x1024) 1 [⟨S512x256, A 0⟩, ⟨S512x256, A 1⟩, ⟨S512x256, A 2⟩, ⟨S512x256, A 3⟩] _ _ 3 (by simp) S512x256 (A 3) rfl rfl 768 rfl _ side rfl

/-- One branch of the body: its row blocks against the four parts of its weight, side by side. -/
def br (a : FVec Ideal S512x512 .bf16) (W : Fin 4 → Vec Ideal S1x512x256 .bf16) : FVec Ideal S512x1024 .f32 :=
  concatenate S512x1024 1 [⟨S512x256, matmul dot_S512x512_S512x256_S512x256_1_0_0_1_n_n none a (shapeCast S512x256 (W 0) shapeCasts_S1x512x256_S512x256 : FVec Ideal S512x256 .bf16) (constant S512x256 .f32 0x00000000#32 : FVec Ideal S512x256 .f32)⟩,
    ⟨S512x256, matmul dot_S512x512_S512x256_S512x256_1_0_0_1_n_n none a (shapeCast S512x256 (W 1) shapeCasts_S1x512x256_S512x256 : FVec Ideal S512x256 .bf16) (constant S512x256 .f32 0x00000000#32 : FVec Ideal S512x256 .f32)⟩,
    ⟨S512x256, matmul dot_S512x512_S512x256_S512x256_1_0_0_1_n_n none a (shapeCast S512x256 (W 2) shapeCasts_S1x512x256_S512x256 : FVec Ideal S512x256 .bf16) (constant S512x256 .f32 0x00000000#32 : FVec Ideal S512x256 .f32)⟩,
    ⟨S512x256, matmul dot_S512x512_S512x256_S512x256_1_0_0_1_n_n none a (shapeCast S512x256 (W 3) shapeCasts_S1x512x256_S512x256 : FVec Ideal S512x256 .bf16) (constant S512x256 .f32 0x00000000#32 : FVec Ideal S512x256 .f32)⟩]
    concatenates_S512x256_S512x256_S512x256_S512x256_S512x1024_d1
theorem br_at (a : FVec Ideal S512x512 .bf16) (W : Fin 4 → Vec Ideal S1x512x256 .bf16) (q : Fin 512) (e : Fin 4) (n : Fin 256) : br a W (ix2 q (part e n)) = ∑ k : Fin 512, a (ix2 q k) * W e (ix3 0 k n) :=
  (cat (fun e => matmul dot_S512x512_S512x256_S512x256_1_0_0_1_n_n none a (shapeCast S512x256 (W e) shapeCasts_S1x512x256_S512x256 : FVec Ideal S512x256 .bf16) (constant S512x256 .f32 0x00000000#32 : FVec Ideal S512x256 .f32)) q e n).trans (prod a (W e) q n)

/-- The body's stored value with its branches named. -/
def pay (BA BB : FVec Ideal S512x1024 .f32) (ga gb : Vec Ideal S512x1024 .bf16) (x : Vec Ideal S512x1024 .f32) (w : Vec Ideal S1024x1024 .bf16) : FVec Ideal S512x1024 .f32 :=
  addf x (matmul dot_S512x1024_S1024x1024_S512x1024_1_0_0_1_n_n none
    (truncf .bf16 (addf (mulf (logistic (extf .f32 (shapeCast S512x1024 ga shapeCasts_S512x1024_S512x1024 : FVec Ideal S512x1024 .bf16) bitsLt_bf16_f32)) BA)
      (mulf (logistic (extf .f32 (shapeCast S512x1024 gb shapeCasts_S512x1024_S512x1024 : FVec Ideal S512x1024 .bf16) bitsLt_bf16_f32)) BB)) bitsLt_bf16_f32)
    (shapeCast S1024x1024 w shapeCasts_S1024x1024_S1024x1024 : FVec Ideal S1024x1024 .bf16) (constant S512x1024 .f32 0x00000000#32))
theorem pay_at (BA BB : FVec Ideal S512x1024 .f32) (ga gb : Vec Ideal S512x1024 .bf16) (x : Vec Ideal S512x1024 .f32) (w : Vec Ideal S1024x1024 .bf16) (q : Fin 512) (d : Fin 1024) :
    pay BA BB ga gb x w (ix2 q d) = mix (x (ix2 q d)) (fun j => ga (ix2 q j)) (fun j => gb (ix2 q j)) (fun j => BA (ix2 q j)) (fun j => BB (ix2 q j)) (fun j => w (ix2 j d)) := by
  unfold mix; pointwise [pay]

variable (x0 : Vec Ideal S512x1024 .f32) (x1 x2 : Vec Ideal S512x512 .f32) (x3 x4 : Vec Ideal S512x1024 .bf16) (x5 x6 : Vec Ideal S4x512x256 .bf16) (x7 : Vec Ideal S1024x1024 .bf16)

theorem ldx (x : Vec Ideal S512x512 .f32) : View.ld x r0_0 = x := View.ld_unit_zero (by decide) _ x
theorem ldy (x : Vec Ideal S512x1024 .bf16) : View.ld x r0_5 = x := View.ld_unit_zero (by decide) _ x
theorem ldz (x : Vec Ideal S512x1024 .f32) : View.ld x r0_5 = x := View.ld_unit_zero (by decide) _ x
theorem ldo (x : Vec Ideal S1024x1024 .bf16) : View.ld x r0_6 = x := View.ld_unit_zero (by decide) _ x
/-- A part of a branch's weight, as the body reads it. -/
def pw (w : Vec Ideal S4x512x256 .bf16) : Fin 4 → Vec Ideal S1x512x256 .bf16
  | 0 => View.ld w r0_1
  | 1 => View.ld w r0_2
  | 2 => View.ld w r0_3
  | 3 => View.ld w r0_4
theorem ldw (w : Vec Ideal S4x512x256 .bf16) (o : ℕ) (ho : o < 4) (inb) (k : Fin 512) (n : Fin 256) : View.ld w (Rect.unit (s := S4x512x256) ![o, 0, 0] S1x512x256.size inb) (ix3 0 k n) = w (ix3 (⟨o, ho⟩ : Fin 4) k n) :=
  View.ld_unit_apply_of w _ _ _ _ _ (fun a => by
    match a with
    | ⟨0, _⟩ => rfl
    | ⟨1, _⟩ => exact (Nat.zero_add _).symm
    | ⟨2, _⟩ => exact (Nat.zero_add _).symm)
theorem pw_at (w : Vec Ideal S4x512x256 .bf16) (e : Fin 4) (k : Fin 512) (n : Fin 256) : pw w e (ix3 0 k n) = w (ix3 e k n) := by
  match e with
  | 0 => exact ldw w 0 (by omega) _ k n
  | 1 => exact ldw w 1 (by omega) _ k n
  | 2 => exact ldw w 2 (by omega) _ k n
  | 3 => exact ldw w 3 (by omega) _ k n

/-- The block the body leaves. -/
theorem left : out0_8 x0 x1 x2 x3 x4 x5 x6 x7 = pay (br x1 (pw x5)) (br x2 (pw x6)) x3 x4 x0 x7 := by
  unfold out0_8
  rw [View.canon_unit_zero (by decide), ldx, ldx, ldy, ldy, ldz, ldo]
  rfl

/-! ## The windows' blocks at a point -/

variable (m : (ℓ : Loc nD τ sig) → Buf (Elt Ideal) ℓ) (c : Dev nD)

theorem ix_0 : ∀ t : Fin cfg0.N, win0_0.index t = ![t.val % 8, 0] := (by decide +kernel : ∀ t : Fin grid0.N, win0_0.index t = ![t.val % 8, 0])
theorem ix_1 : ∀ t : Fin cfg0.N, win0_1.index t = ![t.val % 8, 0] := (by decide +kernel : ∀ t : Fin grid0.N, win0_1.index t = ![t.val % 8, 0])
theorem ix_2 : ∀ t : Fin cfg0.N, win0_2.index t = ![t.val % 8, 0] := (by decide +kernel : ∀ t : Fin grid0.N, win0_2.index t = ![t.val % 8, 0])
theorem ix_3 : ∀ t : Fin cfg0.N, win0_3.index t = ![t.val % 8, 0] := (by decide +kernel : ∀ t : Fin grid0.N, win0_3.index t = ![t.val % 8, 0])
theorem ix_4 : ∀ t : Fin cfg0.N, win0_4.index t = ![t.val % 8, 1] := (by decide +kernel : ∀ t : Fin grid0.N, win0_4.index t = ![t.val % 8, 1])
theorem ix_5 : ∀ t : Fin cfg0.N, win0_5.index t = ![0, 0, 0] := (by decide +kernel : ∀ t : Fin grid0.N, win0_5.index t = ![0, 0, 0])
theorem ix_6 : ∀ t : Fin cfg0.N, win0_6.index t = ![0, 0, 0] := (by decide +kernel : ∀ t : Fin grid0.N, win0_6.index t = ![0, 0, 0])
theorem ix_7 : ∀ t : Fin cfg0.N, win0_7.index t = ![0, 0] := (by decide +kernel : ∀ t : Fin grid0.N, win0_7.index t = ![0, 0])
theorem ix_8 : ∀ t : Fin cfg0.N, win0_8.index t = ![t.val % 8, 0] := (by decide +kernel : ∀ t : Fin grid0.N, win0_8.index t = ![t.val % 8, 0])

/-- Row `q` of the `j`th tile of 512 rows. -/
def rowO (j : ℕ) (q : Fin 512) : Fin 4096 := ⟨512 * (j % 8) + q.val, by omega⟩

theorem b_0 (t : Fin cfg0.N) (q : Fin 512) (d : Fin 1024) : iblk m c 0 t (ix2 q d) = V m c main_arg0 (ix2 (rowO t.val q) d) := by blk_ext [iblk, ix_0 t, rowO]
theorem b_1 (t : Fin cfg0.N) (q : Fin 512) (d : Fin 512) : iblk m c 1 t (ix2 q d) = V m c main_arg1 (ix2 (rowO t.val q) d) := by blk_ext [iblk, ix_1 t, rowO]
theorem b_2 (t : Fin cfg0.N) (q : Fin 512) (d : Fin 512) : iblk m c 2 t (ix2 q d) = V m c main_arg2 (ix2 (rowO t.val q) d) := by blk_ext [iblk, ix_2 t, rowO]
theorem b_3 (t : Fin cfg0.N) (q : Fin 512) (d : Fin 1024) : iblk m c 3 t (ix2 q d) = V m c main_v0 (ix2 (rowO t.val q) (⟨d.val, by omega⟩ : Fin 2048)) := by blk_ext [iblk, ix_3 t, rowO]
theorem b_4 (t : Fin cfg0.N) (q : Fin 512) (d : Fin 1024) : iblk m c 4 t (ix2 q d) = V m c main_v0 (ix2 (rowO t.val q) (⟨1024 + d.val, by omega⟩ : Fin 2048)) := by blk_ext [iblk, ix_4 t, rowO]
theorem b_5 (t : Fin cfg0.N) (e : Fin 4) (k : Fin 512) (n : Fin 256) : iblk m c 5 t (ix3 e k n) = V m c main_v3 (ix3 e k n) := by blk_ext [iblk, ix_5 t]
theorem b_6 (t : Fin cfg0.N) (e : Fin 4) (k : Fin 512) (n : Fin 256) : iblk m c 6 t (ix3 e k n) = V m c main_v6 (ix3 e k n) := by blk_ext [iblk, ix_6 t]
theorem b_7 (t : Fin cfg0.N) (j d : Fin 1024) : iblk m c 7 t (ix2 j d) = V m c main_v7 (ix2 j d) := by blk_ext [iblk, ix_7 t]

/-- A branch's weight cut in four. -/
theorem cut (X : FVec Ideal S512x1024 .f32) (e : Fin 4) (k : Fin 512) (n : Fin 256) :
    transpose S4x512x256 [1, 0, 2] (shapeCast S512x4x256 X shapeCasts_S512x1024_S512x4x256 : FVec Ideal S512x4x256 .f32) transposes_S512x4x256_S4x512x256_1_0_2 (ix3 e k n) = X (ix2 k (part e n)) := by
  unfold part
  pointwise
theorem V_p (i : S4096x2048.Idx) : V m c main_v0 i = m ((c : Thread nD τ).loc main_arg3) i := by
  have e : V m c main_v0 = truncf (F := Ideal) (φ := .f32) .bf16 (m ((c : Thread nD τ).loc main_arg3)) bitsLt_bf16_f32 := by
    after_reads_simp
  exact congrFun e _
theorem V_wa (e : Fin 4) (k : Fin 512) (n : Fin 256) : V m c main_v3 (ix3 e k n) = m ((c : Thread nD τ).loc main_arg4) (ix2 k (part e n)) := by
  have h : V m c main_v3 = truncf (F := Ideal) (φ := .f32) .bf16 (transpose S4x512x256 [1, 0, 2] (shapeCast S512x4x256 (m ((c : Thread nD τ).loc main_arg4)) shapeCasts_S512x1024_S512x4x256 : FVec Ideal S512x4x256 .f32) transposes_S512x4x256_S4x512x256_1_0_2) bitsLt_bf16_f32 := by
    after_reads_simp
    rfl
  exact (congrFun h _).trans (cut _ e k n)
theorem V_wb (e : Fin 4) (k : Fin 512) (n : Fin 256) : V m c main_v6 (ix3 e k n) = m ((c : Thread nD τ).loc main_arg5) (ix2 k (part e n)) := by
  have h : V m c main_v6 = truncf (F := Ideal) (φ := .f32) .bf16 (transpose S4x512x256 [1, 0, 2] (shapeCast S512x4x256 (m ((c : Thread nD τ).loc main_arg5)) shapeCasts_S512x1024_S512x4x256 : FVec Ideal S512x4x256 .f32) transposes_S512x4x256_S4x512x256_1_0_2) bitsLt_bf16_f32 := by
    after_reads_simp
    rfl
  exact (congrFun h _).trans (cut _ e k n)
theorem V_wo (i : S1024x1024.Idx) : V m c main_v7 i = m ((c : Thread nD τ).loc main_arg6) i := by
  have e : V m c main_v7 = truncf (F := Ideal) (φ := .f32) .bf16 (m ((c : Thread nD τ).loc main_arg6)) bitsLt_bf16_f32 := by
    after_reads_simp
  exact congrFun e _

/-- A tile's branch is the array's. -/
theorem br_a (t : Fin cfg0.N) (q : Fin 512) (j : Fin 1024) : br (iblk m c 1 t) (pw (iblk m c 5 t)) (ix2 q j) = bra (m ((c : Thread nD τ).loc main_arg1)) (m ((c : Thread nD τ).loc main_arg4)) (rowO t.val q) j := by
  obtain ⟨e, n, rfl⟩ := ex_part j
  refine (br_at _ _ q e n).trans (Finset.sum_congr rfl fun k _ => congrArg₂ (· * ·) ?_ ?_)
  · rw [b_1]; exact congrFun (V_main_arg1 m c) _
  · rw [pw_at, b_5]; exact V_wa m c e k n
theorem br_b (t : Fin cfg0.N) (q : Fin 512) (j : Fin 1024) : br (iblk m c 2 t) (pw (iblk m c 6 t)) (ix2 q j) = bra (m ((c : Thread nD τ).loc main_arg2)) (m ((c : Thread nD τ).loc main_arg5)) (rowO t.val q) j := by
  obtain ⟨e, n, rfl⟩ := ex_part j
  refine (br_at _ _ q e n).trans (Finset.sum_congr rfl fun k _ => congrArg₂ (· * ·) ?_ ?_)
  · rw [b_2]; exact congrFun (V_main_arg2 m c) _
  · rw [pw_at, b_6]; exact V_wb m c e k n

/-- A tile's rows of the result. -/
theorem tile (t : Fin cfg0.N) (q : Fin 512) (d : Fin 1024) : (dats m 0 c).after 8 t (ix2 q d)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowO t.val q) d) := by
  rw [after0_8, left, pay_at]
  have e0 : iblk m c 0 t (ix2 q d) = m ((c : Thread nD τ).loc main_arg0) (ix2 (rowO t.val q) d) := (b_0 m c t q d).trans (congrFun (V_main_arg0 m c) _)
  have e3 : (fun j => iblk m c 3 t (ix2 q j)) = fun j : Fin 1024 => m ((c : Thread nD τ).loc main_arg3) (ix2 (rowO t.val q) (⟨j.val, by omega⟩ : Fin 2048)) := funext fun j => (b_3 m c t q j).trans (V_p m c _)
  have e4 : (fun j => iblk m c 4 t (ix2 q j)) = fun j : Fin 1024 => m ((c : Thread nD τ).loc main_arg3) (ix2 (rowO t.val q) (⟨1024 + j.val, by omega⟩ : Fin 2048)) := funext fun j => (b_4 m c t q j).trans (V_p m c _)
  have e7 : (fun j => iblk m c 7 t (ix2 j d)) = fun j : Fin 1024 => m ((c : Thread nD τ).loc main_arg6) (ix2 j d) := funext fun j => (b_7 m c t j d).trans (V_wo m c _)
  have ea := funext (br_a m c t q)
  have eb := funext (br_b m c t q)
  unfold out
  exact (congrArg (fun z => mix z _ _ _ _ _) e0).trans ((congrArg (fun z => mix _ z _ _ _ _) e3).trans ((congrArg (fun z => mix _ _ z _ _ _) e4).trans
    ((congrArg (fun z => mix _ _ _ z _ _) ea).trans ((congrArg (fun z => mix _ _ _ _ z _) eb).trans (congrArg (fun z => mix _ _ _ _ _ z) e7)))))

theorem arr8 : (dats m 0 c).arrAt 8 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  obtain ⟨q, n, rfl⟩ := ex2 y
  refine (tile m c t q n).trans ?_
  blk_ext [ix_8 t, rowO]

end Cert.Proof.MixOut

/-! ## The reference's array -/

namespace Cert.Proof.MixOut
open Cert.MixOutReferenceIdeal Cert.MixOutReferenceIdeal.Gen Cert.MixOutReferenceIdeal.Read
open Idealize.ShloMosaic Idealize.ShloMosaic.TcCoe Idealize.SL.Sem

variable (X0 : FVec Ideal S4096x1024 .f32) (X1 X2 : FVec Ideal S4096x512 .f32) (X3 : FVec Ideal S4096x2048 .f32) (X4 X5 : FVec Ideal S512x1024 .f32) (X6 : FVec Ideal S1024x1024 .f32)

theorem f7 (t : Fin 4096) (j : Fin 1024) : val_main_v7 (F := Ideal) X3 (ix2 t j) = Ideal.logistic (X3 (ix2 t (⟨j.val, by omega⟩ : Fin 2048))) := by
  have e : val_main_v7 (F := Ideal) X3 (ix2 t j) = Ideal.div (Ideal.ofBits .f32 0x3F800000#32) (Ideal.ofBits .f32 0x3F800000#32 + Ideal.exp (-(val_main_v0 (F := Ideal) X3 (ix2 t j)))) := by
    unfold val_main_v7 val_main_v5 val_main_v3 val_main_v2; generalize val_main_v0 (F := Ideal) X3 = Y
    pointwise [val_main_v6, val_main_cst_0, val_main_v4, val_main_cst]
  have e0 : val_main_v0 (F := Ideal) X3 (ix2 t j) = X3 (ix2 t (⟨j.val, by omega⟩ : Fin 2048)) := by
    pointwise [val_main_v0]
  rw [e, e0, Ideal.ofBits_one_f32]; rfl
theorem f15 (t : Fin 4096) (j : Fin 1024) : val_main_v15 (F := Ideal) X3 (ix2 t j) = Ideal.logistic (X3 (ix2 t (⟨1024 + j.val, by omega⟩ : Fin 2048))) := by
  have e : val_main_v15 (F := Ideal) X3 (ix2 t j) = Ideal.div (Ideal.ofBits .f32 0x3F800000#32) (Ideal.ofBits .f32 0x3F800000#32 + Ideal.exp (-(val_main_v1 (F := Ideal) X3 (ix2 t j)))) := by
    unfold val_main_v15 val_main_v13 val_main_v11 val_main_v10; generalize val_main_v1 (F := Ideal) X3 = Y
    pointwise [val_main_v14, val_main_cst_2, val_main_v12, val_main_cst_1]
  have e0 : val_main_v1 (F := Ideal) X3 (ix2 t j) = X3 (ix2 t (⟨1024 + j.val, by omega⟩ : Fin 2048)) := by
    pointwise [val_main_v1]
  rw [e, e0, Ideal.ofBits_one_f32]; rfl
theorem f18 (t : Fin 4096) (j : Fin 1024) : val_main_v18 (F := Ideal) X1 X2 X3 X4 X5 (ix2 t j)
    = Ideal.logistic (X3 (ix2 t (⟨j.val, by omega⟩ : Fin 2048))) * (∑ k : Fin 512, X1 (ix2 t k) * X4 (ix2 k j)) + Ideal.logistic (X3 (ix2 t (⟨1024 + j.val, by omega⟩ : Fin 2048))) * (∑ k : Fin 512, X2 (ix2 t k) * X5 (ix2 k j)) := by
  have e : val_main_v18 (F := Ideal) X1 X2 X3 X4 X5 (ix2 t j) = val_main_v7 (F := Ideal) X3 (ix2 t j) * (∑ k : Fin 512, X1 (ix2 t k) * X4 (ix2 k j)) + val_main_v15 (F := Ideal) X3 (ix2 t j) * (∑ k : Fin 512, X2 (ix2 t k) * X5 (ix2 k j)) := by
    unfold val_main_v18 val_main_v17 val_main_v9; generalize val_main_v7 (F := Ideal) X3 = Y; generalize val_main_v15 (F := Ideal) X3 = Z
    pointwise [val_main_v8, val_main_v16]
  rw [e, f7, f15]
theorem f20 : val_main_v20 (F := Ideal) X0 X1 X2 X3 X4 X5 X6 = out X0 X1 X2 X3 X4 X5 X6 := funext fun i => by
  obtain ⟨t, d, rfl⟩ := ex2 i
  have e : val_main_v20 (F := Ideal) X0 X1 X2 X3 X4 X5 X6 (ix2 t d) = X0 (ix2 t d) + ∑ j : Fin 1024, val_main_v18 (F := Ideal) X1 X2 X3 X4 X5 (ix2 t j) * X6 (ix2 j d) := by
    unfold val_main_v20 val_main_v19; generalize val_main_v18 (F := Ideal) X1 X2 X3 X4 X5 = Y; pointwise
  rw [e]
  unfold out mix
  exact congrArg (X0 (ix2 t d) + ·) (Finset.sum_congr rfl fun j _ => congrArg (· * X6 (ix2 j d)) (f18 X1 X2 X3 X4 X5 t j))

end Cert.Proof.MixOut
end
-- ==== Proof.MixOutClaim.lean ====
module

public import proofs.«01_k».proof.Proof.MixOutVal
public import proofs.«01_k».proof.Proof.Gen.MixOutIdeal
public import proofs.«01_k».proof.Proof.Gen.MixOutReferenceIdeal
public import proofs.«01_k».proof.Proof.Gen.MixOutReferenceIdeal.Run
public import proofs.«01_k».proof.Defs
public import Idealize.ShloMosaic.Lib.Claim
public import Idealize.ShloMosaic.Lib.Quiescent

@[expose] public section

set_option maxRecDepth 16384

noncomputable section

namespace Cert.Proof.MixOut

open Idealize.ShloMosaic Idealize.ShloMosaic.TcCoe Idealize.SL.Sem

/-! # The claims of the mixing output -/

/-- The program read over the extended reals: it terminates, its arguments end unchanged, its counters at zero. -/
theorem frame_ideal : Cert.quiescent_MixOutIdeal (hMixOutIdeal := Cert.MixOutIdeal.Gen.facts) := fun m g _ => Cert.MixOutIdeal.Gen.frame (F := Ideal) m g

/-- The same of the reference. -/
theorem frame_reference : Cert.quiescent_MixOutReferenceIdeal (hMixOutReferenceIdeal := Cert.MixOutReferenceIdeal.Gen.facts) := fun m g _ =>
  (θ_run Cert.MixOutReferenceIdeal.defs _ _).mono (fun r h => ⟨fun c => (h c).2, sem_eq_zero_of_no_sems (by decide) r.2⟩) (Cert.MixOutReferenceIdeal.Value.run m g)

section
open Cert.MixOutReferenceIdeal Cert.MixOutReferenceIdeal.Gen Cert.MixOutReferenceIdeal.Read
set_option maxHeartbeats 2000000 in
/-- The reference runs to its composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (val_main_v20_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))), (h c).2⟩)
    (Cert.MixOutReferenceIdeal.Value.run m ρ)
end

/-- The program's result is the reference's, whatever the arguments. -/
theorem values : Cert.algebraic_MixOutIdeal_MixOutReferenceIdeal (hMixOutIdeal := Cert.MixOutIdeal.Gen.facts) (hMixOutReferenceIdeal := Cert.MixOutReferenceIdeal.Gen.facts) := by
  intro m g m' g' _ hag
  refine ⟨fun c => (Cert.MixOutIdeal.Gen.dats m 0 c).arrAt 8 Cert.MixOutIdeal.cfg0.N, ?_, ?_⟩
  · exact (θ_run Cert.MixOutIdeal.defs _ _).mono (fun r h c => ⟨(h c).1, (h c).2⟩) (Cert.MixOutIdeal.Value.run_blocks m g)
  · refine (θ_run Cert.MixOutReferenceIdeal.defs _ _).mono (fun r h c => ?_) (run_reference m' g')
    obtain ⟨e0, e1, e2, e3, e4, e5, e6⟩ := hag c
    refine ⟨(h c).1.trans ?_, (h c).2⟩
    rw [e0, e1, e2, e3, e4, e5, e6]; exact (f20 _ _ _ _ _ _ _).trans (arr8 m c).symm

end Cert.Proof.MixOut
end
-- ==== Proof.MixOutSameText.lean ====
module

public import proofs.«01_k».proof.Proof.Gen.MixOut
public import proofs.«01_k».proof.Proof.Gen.MixOutIdeal

@[expose] public section

set_option maxRecDepth 16384
set_option maxHeartbeats 0

namespace Cert.Proof.MixOutSameText

open Idealize.ShloMosaic

variable {F : FTy → Type} [FloatOps F]

/-! ## The mixing call and its ideal reading are one text -/

/-- The two programs' `main` is the same program, -/
theorem main_eq : Cert.MixOut.main (F := F) = Cert.MixOutIdeal.main (F := F) := rfl

/-- the body that the call runs is the same, -/
theorem body_eq : Cert.MixOut.defs₀ (F := F) = Cert.MixOutIdeal.defs₀ (F := F) := by
  unfold Cert.MixOut.defs₀ Cert.MixOutIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.MixOut.defs (F := F) = Cert.MixOutIdeal.defs (F := F) := by
  unfold Cert.MixOut.defs Cert.MixOutIdeal.defs
  rw [body_eq]
  rfl

end Cert.Proof.MixOutSameText

end
-- ==== Proof.DwOutVal.lean ====
module

public import proofs.«01_k».proof.Proof.FfnSpec
public import Idealize.ShloMosaic.Lib.Pipeline.ReadBack
public import proofs.«01_k».proof.Proof.Gen.DwOutIdeal.Value
public import proofs.«01_k».proof.Proof.Gen.DwOutReferenceIdeal.Read

@[expose] public section

set_option maxRecDepth 16384

noncomputable section

namespace Cert.Proof.DwOut

open Cert.DwOutIdeal Cert.DwOutIdeal.Gen
open Idealize.ShloMosaic.Pipeline (Dat)
open Idealize.ShloMosaic Idealize.ShloMosaic.TcCoe Idealize.SL.Sem

/-! # The last weight's gradient -/

theorem ex2 {a b : ℕ} (y : (⟨2, ![a, b]⟩ : Shape).Idx) : ∃ (q : Fin a) (d : Fin b), y = ix2 q d := ⟨y 0, y 1, by funext a; match a with | ⟨0, _⟩ => rfl | ⟨1, _⟩ => rfl⟩
theorem ex3 {a b e : ℕ} (y : (⟨3, ![a, b, e]⟩ : Shape).Idx) : ∃ (p : Fin a) (q : Fin b) (d : Fin e), y = ix3 p q d := ⟨y 0, y 1, y 2, by funext a; match a with | ⟨0, _⟩ => rfl | ⟨1, _⟩ => rfl | ⟨2, _⟩ => rfl⟩

/-- An entry of the gradient: a column of the rows against a column of their products' gradients. -/
def dw (a : S4096x1024.Idx → EReal) (b : S4096x1024.Idx → EReal) (k : Fin 1024) (d : Fin 1024) : EReal := ∑ t : Fin 4096, a (ix2 t k) * b (ix2 t d)
/-- The gradient as an array. -/
def out (a b : S4096x1024.Idx → EReal) : S1x1024x1024.Idx → EReal := fun i => dw a b (i 1) (i 2)

/-! ## The body's stored values, at an index -/

theorem p1 (k : Fin 1024) (d : Fin 1024) : k0_pay1 (F := Ideal) (ix2 k d) = 0 := by
  refine Eq.trans ?_ Ideal.ofBits_zero_f32
  pointwise [k0_pay1]
theorem p2 (Y : Vec Ideal S1024x1024 .f32) (a : Vec Ideal S1024x1024 .bf16) (b : Vec Ideal S1024x1024 .f32) (k : Fin 1024) (d : Fin 1024) : k0_pay2 Y a b (ix2 k d) = Y (ix2 k d) + ∑ q : Fin 1024, a (ix2 q k) * b (ix2 q d) := by
  pointwise [k0_pay2]
theorem p3 (Y : Vec Ideal S1024x1024 .f32) (k d : Fin 1024) : k0_pay3 Y (ix3 0 k d) = Y (ix2 k d) := by
  pointwise [k0_pay3]

/-! ## The windows' blocks at a point -/

variable (m : (ℓ : Loc nD τ sig) → Buf (Elt Ideal) ℓ) (c : Dev nD)

theorem ix_0 : ∀ t : Fin cfg0.N, win0_0.index t = ![t.val % 4, 0] := (by decide +kernel : ∀ t : Fin grid0.N, win0_0.index t = ![t.val % 4, 0])
theorem ix_1 : ∀ t : Fin cfg0.N, win0_1.index t = ![t.val % 4, 0] := (by decide +kernel : ∀ t : Fin grid0.N, win0_1.index t = ![t.val % 4, 0])
theorem ix_2 : ∀ t : Fin cfg0.N, win0_2.index t = ![0, 0, 0] := (by decide +kernel : ∀ t : Fin grid0.N, win0_2.index t = ![0, 0, 0])

/-- Row `q` of the `j`th tile of 1024 rows. -/
def rowD (j : ℕ) (q : Fin 1024) : Fin 4096 := ⟨1024 * (j % 4) + q.val, by omega⟩

theorem b_0 (t : Fin cfg0.N) (q : Fin 1024) (k : Fin 1024) : iblk m c 0 t (ix2 q k) = V m c main_v0 (ix2 (rowD t.val q) k) := by blk_ext [iblk, ix_0 t, rowD]
theorem b_1 (t : Fin cfg0.N) (q d : Fin 1024) : iblk m c 1 t (ix2 q d) = V m c main_arg1 (ix2 (rowD t.val q) d) := by blk_ext [iblk, ix_1 t, rowD]
theorem V_h (i : S4096x1024.Idx) : V m c main_v0 i = m ((c : Thread nD τ).loc main_arg0) i := by
  have e : V m c main_v0 = truncf (F := Ideal) (φ := .f32) .bf16 (m ((c : Thread nD τ).loc main_arg0)) bitsLt_bf16_f32 := by
    after_reads_simp
  exact congrFun e _
theorem i_0 (t : Fin cfg0.N) (q : Fin 1024) (k : Fin 1024) : iblk m c 0 t (ix2 q k) = m ((c : Thread nD τ).loc main_arg0) (ix2 (rowD t.val q) k) := (b_0 m c t q k).trans (V_h m c _)
theorem i_1 (t : Fin cfg0.N) (q d : Fin 1024) : iblk m c 1 t (ix2 q d) = m ((c : Thread nD τ).loc main_arg1) (ix2 (rowD t.val q) d) := (b_1 m c t q d).trans (congrFun (V_main_arg1 m c) _)

/-! ## The running product over the points -/

/-- What a tile of rows adds. -/
def term (a : S4096x1024.Idx → EReal) (b : S4096x1024.Idx → EReal) (j : ℕ) (k : Fin 1024) (d : Fin 1024) : EReal := ∑ q : Fin 1024, a (ix2 (rowD j q) k) * b (ix2 (rowD j q) d)
/-- The call's own term of it. -/
abbrev T (j : ℕ) (k : Fin 1024) (d : Fin 1024) : EReal := term (m ((c : Thread nD τ).loc main_arg0)) (m ((c : Thread nD τ).loc main_arg1)) j k d

theorem step (t : Fin cfg0.N) (X : Vec Ideal S1024x1024 .f32) (k : Fin 1024) (d : Fin 1024) : k0_pay2 X (iblk m c 0 t) (iblk m c 1 t) (ix2 k d) = X (ix2 k d) + T m c t.val k d := by
  refine (p2 X _ _ k d).trans (congrArg (X (ix2 k d) + ·) (Finset.sum_congr rfl fun q _ => ?_))
  exact congrArg₂ (· * ·) (i_0 m c t q k) (i_1 m c t q d)

theorem run_sum (k : Fin 1024) (d : Fin 1024) : ∀ n (h : n < cfg0.N), (outsAt0 m c n h).2.2 (ix2 k d) = ∑ j ∈ Finset.range (n + 1), T m c j k d := by
  have hN : cfg0.N = 4 := N_0
  intro n
  induction n with
  | zero =>
    intro h
    rw [outsAt0_A m c ⟨0, h⟩ rfl (by show ¬ 0 % 4 = 3; omega)]; frame_out
    refine (step m c ⟨0, h⟩ _ k d).trans ?_
    rw [p1, zero_add, Finset.sum_range_one]
  | succ n ih =>
    intro h
    rw [Finset.sum_range_succ]
    by_cases h3 : (n + 1) % 4 = 3
    · rw [outsAt0_C m c ⟨n + 1, h⟩ (by show ¬ (n + 1) % 4 = 0; omega) h3]; frame_out
      exact (step m c ⟨n + 1, h⟩ _ k d).trans (congrArg (· + _) ((congrFun (read_unread_whole _ _ _) _).trans (ih _)))
    · rw [outsAt0_B m c ⟨n + 1, h⟩ (by show ¬ (n + 1) % 4 = 0; omega) h3]; frame_out
      exact (step m c ⟨n + 1, h⟩ _ k d).trans (congrArg (· + _) ((congrFun (read_unread_whole _ _ _) _).trans (ih _)))

theorem sum_rowD (f : Fin 4096 → EReal) : ∑ j ∈ Finset.range 4, ∑ q : Fin 1024, f (rowD j q) = ∑ t, f t := by
  rw [Finset.sum_range, ← (finProdFinEquiv (m := 4) (n := 1024)).sum_comp, Fintype.sum_prod_type]
  refine Finset.sum_congr rfl fun s _ => Finset.sum_congr rfl fun k _ => congrArg f (Fin.ext ?_)
  show 1024 * (s.val % 4) + k.val = k.val + 1024 * s.val; omega
/-- After the last point the carried sum is the whole product. -/
theorem run_full (t : Fin cfg0.N) (ht : t.val = 3) (k : Fin 1024) (d : Fin 1024) : (outsAt0 m c t.val t.isLt).2.2 (ix2 k d) = dw (m ((c : Thread nD τ).loc main_arg0)) (m ((c : Thread nD τ).loc main_arg1)) k d := by
  refine (run_sum m c k d t.val t.isLt).trans ?_
  rw [ht]
  exact sum_rowD fun t => (show S4096x1024.Idx → EReal from m ((c : Thread nD τ).loc main_arg0)) (ix2 t k) * (show S4096x1024.Idx → EReal from m ((c : Thread nD τ).loc main_arg1)) (ix2 t d)

theorem flush_last : ∀ t : Fin cfg0.N, (cfg0.win 2).flush t = true → t.val = 3 :=
  (by decide +kernel : ∀ t : Fin grid0.N, (cfg0.win 2).flush t = true → t.val = 3)

/-- At the last point the result's buffer is left at the carried sum. -/
theorem left (t : Fin cfg0.N) (ht : t.val = 3) : (outsAt0 m c t.val t.isLt).1 = k0_pay3 (outsAt0 m c t.val t.isLt).2.2 := by
  rw [outsAt0_C m c t (by omega) (by omega)]; frame_out
theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2, left m c t (flush_last t hf)]
  obtain ⟨p, k, d, rfl⟩ := ex3 y
  obtain rfl : p = 0 := Fin.ext (by omega)
  refine (p3 _ k d).trans ((run_full m c t (flush_last t hf) k d).trans ?_)
  show out (m ((c : Thread nD τ).loc main_arg0)) (m ((c : Thread nD τ).loc main_arg1)) (ix3 0 k d) = _
  blk_ext [ix_2 t]

end Cert.Proof.DwOut

/-! ## The reference's array -/

namespace Cert.Proof.DwOut
open Cert.DwOutReferenceIdeal Cert.DwOutReferenceIdeal.Gen Cert.DwOutReferenceIdeal.Read
open Idealize.ShloMosaic Idealize.ShloMosaic.TcCoe Idealize.SL.Sem

variable (X0 : FVec Ideal S4096x1024 .f32) (X1 : FVec Ideal S4096x1024 .f32)

theorem f2 (k : Fin 1024) (d : Fin 1024) : val_main_v2 (F := Ideal) X0 X1 (ix2 d k) = dw X0 X1 k d := by
  have e : val_main_v2 (F := Ideal) X0 X1 (ix2 d k) = ∑ t : Fin 4096, X1 (ix2 t d) * X0 (ix2 t k) := by
    pointwise [val_main_v2]
  exact e.trans (Finset.sum_congr rfl fun t _ => mul_comm _ _)
theorem f4 : val_main_v4 (F := Ideal) X0 X1 = out X0 X1 := funext fun i => by
  obtain ⟨p, k, d, rfl⟩ := ex3 i
  obtain rfl : p = 0 := Fin.ext (by omega)
  have e : val_main_v4 (F := Ideal) X0 X1 (ix3 0 k d) = val_main_v2 (F := Ideal) X0 X1 (ix2 d k) := by
    unfold val_main_v4 val_main_v3; generalize val_main_v2 (F := Ideal) X0 X1 = Y; pointwise
  exact e.trans (f2 X0 X1 k d)

end Cert.Proof.DwOut
end
-- ==== Proof.DwOutClaim.lean ====
module

public import proofs.«01_k».proof.Proof.DwOutVal
public import proofs.«01_k».proof.Proof.Gen.DwOutIdeal
public import proofs.«01_k».proof.Proof.Gen.DwOutReferenceIdeal
public import proofs.«01_k».proof.Proof.Gen.DwOutReferenceIdeal.Run
public import proofs.«01_k».proof.Defs
public import Idealize.ShloMosaic.Lib.Claim
public import Idealize.ShloMosaic.Lib.Quiescent

@[expose] public section

set_option maxRecDepth 16384

noncomputable section

namespace Cert.Proof.DwOut

open Idealize.ShloMosaic Idealize.ShloMosaic.TcCoe Idealize.SL.Sem

/-! # The claims of the output weight gradient -/

/-- The program read over the extended reals: it terminates, its arguments end unchanged, its counters at zero. -/
theorem frame_ideal : Cert.quiescent_DwOutIdeal (hDwOutIdeal := Cert.DwOutIdeal.Gen.facts) := fun m g _ => Cert.DwOutIdeal.Gen.frame (F := Ideal) m g

/-- The same of the reference. -/
theorem frame_reference : Cert.quiescent_DwOutReferenceIdeal (hDwOutReferenceIdeal := Cert.DwOutReferenceIdeal.Gen.facts) := fun m g _ =>
  (θ_run Cert.DwOutReferenceIdeal.defs _ _).mono (fun r h => ⟨fun c => (h c).2, sem_eq_zero_of_no_sems (by decide) r.2⟩) (Cert.DwOutReferenceIdeal.Value.run m g)

section
open Cert.DwOutReferenceIdeal Cert.DwOutReferenceIdeal.Gen Cert.DwOutReferenceIdeal.Read
set_option maxHeartbeats 2000000 in
/-- The reference runs to its composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v4_eq (m ((c.tc : Thread nD τ).loc main_arg0)) (m ((c.tc : Thread nD τ).loc main_arg1))), (h c).2⟩)
    (Cert.DwOutReferenceIdeal.Value.run m ρ)
end

/-- The program's result is the reference's, whatever the arguments. -/
theorem values : Cert.algebraic_DwOutIdeal_DwOutReferenceIdeal (hDwOutIdeal := Cert.DwOutIdeal.Gen.facts) (hDwOutReferenceIdeal := Cert.DwOutReferenceIdeal.Gen.facts) := by
  intro m g m' g' _ hag
  refine ⟨fun c => (Cert.DwOutIdeal.Gen.dats m 0 c).arrAt 2 Cert.DwOutIdeal.cfg0.N, ?_, ?_⟩
  · exact (θ_run Cert.DwOutIdeal.defs _ _).mono (fun r h c => ⟨(h c).1, (h c).2.2⟩) (Cert.DwOutIdeal.Value.run_blocks m g)
  · refine (θ_run Cert.DwOutReferenceIdeal.defs _ _).mono (fun r h c => ?_) (run_reference m' g')
    obtain ⟨e0, e1⟩ := hag c
    refine ⟨(h c).1.trans ?_, (h c).2⟩
    rw [e0, e1]; exact (f4 _ _).trans (arr2 m c).symm

end Cert.Proof.DwOut
end
-- ==== Proof.DwOutSameText.lean ====
module

public import proofs.«01_k».proof.Proof.Gen.DwOut
public import proofs.«01_k».proof.Proof.Gen.DwOutIdeal

@[expose] public section

set_option maxRecDepth 16384
set_option maxHeartbeats 0

namespace Cert.Proof.DwOutSameText

open Idealize.ShloMosaic

variable {F : FTy → Type} [FloatOps F]

/-! ## The last weight's gradient call and its ideal reading are one text -/

/-- The two programs' `main` is the same program, -/
theorem main_eq : Cert.DwOut.main (F := F) = Cert.DwOutIdeal.main (F := F) := rfl

/-- the body that the call runs is the same, -/
theorem body_eq : Cert.DwOut.defs₀ (F := F) = Cert.DwOutIdeal.defs₀ (F := F) := by
  unfold Cert.DwOut.defs₀ Cert.DwOutIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.DwOut.defs (F := F) = Cert.DwOutIdeal.defs (F := F) := by
  unfold Cert.DwOut.defs Cert.DwOutIdeal.defs
  rw [body_eq]
  rfl

end Cert.Proof.DwOutSameText

end
-- ==== Proof.DwBranchVal.lean ====
module

public import proofs.«01_k».proof.Proof.FfnSpec
public import Idealize.ShloMosaic.Lib.Pipeline.ReadBack
public import proofs.«01_k».proof.Proof.Gen.DwBranchIdeal.Value
public import proofs.«01_k».proof.Proof.Gen.DwBranchReferenceIdeal.Read

@[expose] public section

set_option maxRecDepth 16384

noncomputable section

namespace Cert.Proof.DwBranch

open Cert.DwBranchIdeal Cert.DwBranchIdeal.Gen
open Idealize.ShloMosaic.Pipeline (Dat)
open Idealize.ShloMosaic Idealize.ShloMosaic.TcCoe Idealize.SL.Sem

/-! # A branch weight's gradient -/

theorem ex2 {a b : ℕ} (y : (⟨2, ![a, b]⟩ : Shape).Idx) : ∃ (q : Fin a) (d : Fin b), y = ix2 q d := ⟨y 0, y 1, by funext a; match a with | ⟨0, _⟩ => rfl | ⟨1, _⟩ => rfl⟩
theorem ex3 {a b e : ℕ} (y : (⟨3, ![a, b, e]⟩ : Shape).Idx) : ∃ (p : Fin a) (q : Fin b) (d : Fin e), y = ix3 p q d := ⟨y 0, y 1, y 2, by funext a; match a with | ⟨0, _⟩ => rfl | ⟨1, _⟩ => rfl | ⟨2, _⟩ => rfl⟩

/-- An entry of the gradient: a column of the rows against a column of their products' gradients. -/
def dw (a : S4096x512.Idx → EReal) (b : S4096x1024.Idx → EReal) (k : Fin 512) (d : Fin 1024) : EReal := ∑ t : Fin 4096, a (ix2 t k) * b (ix2 t d)
/-- Column `n` of the `e`th part of 256 columns. -/
def part (e : Fin 4) (n : Fin 256) : Fin 1024 := ⟨e.val * 256 + n.val, by omega⟩
/-- The gradient as an array, its columns in four parts. -/
def out (a : S4096x512.Idx → EReal) (b : S4096x1024.Idx → EReal) : S4x512x256.Idx → EReal := fun i => dw a b (i 1) (part (i 0) (i 2))

/-! ## The body's stored values, at an index -/

theorem p1 (k : Fin 512) (d : Fin 1024) : k0_pay1 (F := Ideal) (ix2 k d) = 0 := by
  refine Eq.trans ?_ Ideal.ofBits_zero_f32
  pointwise [k0_pay1]
theorem p2 (Y : Vec Ideal S512x1024 .f32) (a : Vec Ideal S1024x512 .f32) (b : Vec Ideal S1024x1024 .bf16) (k : Fin 512) (d : Fin 1024) : k0_pay2 Y a b (ix2 k d) = Y (ix2 k d) + ∑ q : Fin 1024, a (ix2 q k) * b (ix2 q d) := by
  pointwise [k0_pay2]
theorem p3 (Y : Vec Ideal S512x256 .f32) (k : Fin 512) (n : Fin 256) : k0_pay3 Y (ix3 0 k n) = Y (ix2 k n) := by
  pointwise [k0_pay3]
theorem p5 (Y : Vec Ideal S512x256 .f32) (k : Fin 512) (n : Fin 256) : k0_pay5 Y (ix3 0 k n) = Y (ix2 k n) := by
  pointwise [k0_pay5]
theorem p7 (Y : Vec Ideal S512x256 .f32) (k : Fin 512) (n : Fin 256) : k0_pay7 Y (ix3 0 k n) = Y (ix2 k n) := by
  pointwise [k0_pay7]
theorem p9 (Y : Vec Ideal S512x256 .f32) (k : Fin 512) (n : Fin 256) : k0_pay9 Y (ix3 0 k n) = Y (ix2 k n) := by
  pointwise [k0_pay9]

/-! ## The windows' blocks at a point -/

variable (m : (ℓ : Loc nD τ sig) → Buf (Elt Ideal) ℓ) (c : Dev nD)

theorem ix_0 : ∀ t : Fin cfg0.N, win0_0.index t = ![t.val % 4, 0] := (by decide +kernel : ∀ t : Fin grid0.N, win0_0.index t = ![t.val % 4, 0])
theorem ix_1 : ∀ t : Fin cfg0.N, win0_1.index t = ![t.val % 4, 0] := (by decide +kernel : ∀ t : Fin grid0.N, win0_1.index t = ![t.val % 4, 0])
theorem ix_2 : ∀ t : Fin cfg0.N, win0_2.index t = ![0, 0, 0] := (by decide +kernel : ∀ t : Fin grid0.N, win0_2.index t = ![0, 0, 0])

/-- Row `q` of the `j`th tile of 1024 rows. -/
def rowD (j : ℕ) (q : Fin 1024) : Fin 4096 := ⟨1024 * (j % 4) + q.val, by omega⟩

theorem b_0 (t : Fin cfg0.N) (q : Fin 1024) (k : Fin 512) : iblk m c 0 t (ix2 q k) = V m c main_arg0 (ix2 (rowD t.val q) k) := by blk_ext [iblk, ix_0 t, rowD]
theorem b_1 (t : Fin cfg0.N) (q d : Fin 1024) : iblk m c 1 t (ix2 q d) = V m c main_v0 (ix2 (rowD t.val q) d) := by blk_ext [iblk, ix_1 t, rowD]
theorem V_h (i : S4096x1024.Idx) : V m c main_v0 i = m ((c : Thread nD τ).loc main_arg1) i := by
  have e : V m c main_v0 = truncf (F := Ideal) (φ := .f32) .bf16 (m ((c : Thread nD τ).loc main_arg1)) bitsLt_bf16_f32 := by
    after_reads_simp
  exact congrFun e _
theorem i_0 (t : Fin cfg0.N) (q : Fin 1024) (k : Fin 512) : iblk m c 0 t (ix2 q k) = m ((c : Thread nD τ).loc main_arg0) (ix2 (rowD t.val q) k) := (b_0 m c t q k).trans (congrFun (V_main_arg0 m c) _)
theorem i_1 (t : Fin cfg0.N) (q d : Fin 1024) : iblk m c 1 t (ix2 q d) = m ((c : Thread nD τ).loc main_arg1) (ix2 (rowD t.val q) d) := (b_1 m c t q d).trans (V_h m c _)

/-! ## The running product over the points -/

/-- What a tile of rows adds. -/
def term (a : S4096x512.Idx → EReal) (b : S4096x1024.Idx → EReal) (j : ℕ) (k : Fin 512) (d : Fin 1024) : EReal := ∑ q : Fin 1024, a (ix2 (rowD j q) k) * b (ix2 (rowD j q) d)
/-- The call's own term of it. -/
abbrev T (j : ℕ) (k : Fin 512) (d : Fin 1024) : EReal := term (m ((c : Thread nD τ).loc main_arg0)) (m ((c : Thread nD τ).loc main_arg1)) j k d

theorem step (t : Fin cfg0.N) (X : Vec Ideal S512x1024 .f32) (k : Fin 512) (d : Fin 1024) : k0_pay2 X (iblk m c 0 t) (iblk m c 1 t) (ix2 k d) = X (ix2 k d) + T m c t.val k d := by
  refine (p2 X _ _ k d).trans (congrArg (X (ix2 k d) + ·) (Finset.sum_congr rfl fun q _ => ?_))
  exact congrArg₂ (· * ·) (i_0 m c t q k) (i_1 m c t q d)

theorem run_sum (k : Fin 512) (d : Fin 1024) : ∀ n (h : n < cfg0.N), (outsAt0 m c n h).2.2 (ix2 k d) = ∑ j ∈ Finset.range (n + 1), T m c j k d := by
  have hN : cfg0.N = 4 := N_0
  intro n
  induction n with
  | zero =>
    intro h
    rw [outsAt0_A m c ⟨0, h⟩ rfl (by show ¬ 0 % 4 = 3; omega)]; frame_out
    refine (step m c ⟨0, h⟩ _ k d).trans ?_
    rw [p1, zero_add, Finset.sum_range_one]
  | succ n ih =>
    intro h
    rw [Finset.sum_range_succ]
    by_cases h3 : (n + 1) % 4 = 3
    · rw [outsAt0_C m c ⟨n + 1, h⟩ (by show ¬ (n + 1) % 4 = 0; omega) h3]; frame_out
      exact (step m c ⟨n + 1, h⟩ _ k d).trans (congrArg (· + _) ((congrFun (read_unread_whole _ _ _) _).trans (ih _)))
    · rw [outsAt0_B m c ⟨n + 1, h⟩ (by show ¬ (n + 1) % 4 = 0; omega) h3]; frame_out
      exact (step m c ⟨n + 1, h⟩ _ k d).trans (congrArg (· + _) ((congrFun (read_unread_whole _ _ _) _).trans (ih _)))

theorem sum_rowD (f : Fin 4096 → EReal) : ∑ j ∈ Finset.range 4, ∑ q : Fin 1024, f (rowD j q) = ∑ t, f t := by
  rw [Finset.sum_range, ← (finProdFinEquiv (m := 4) (n := 1024)).sum_comp, Fintype.sum_prod_type]
  refine Finset.sum_congr rfl fun s _ => Finset.sum_congr rfl fun k _ => congrArg f (Fin.ext ?_)
  show 1024 * (s.val % 4) + k.val = k.val + 1024 * s.val; omega
/-- After the last point the carried sum is the whole product. -/
theorem run_full (t : Fin cfg0.N) (ht : t.val = 3) (k : Fin 512) (d : Fin 1024) : (outsAt0 m c t.val t.isLt).2.2 (ix2 k d) = dw (m ((c : Thread nD τ).loc main_arg0)) (m ((c : Thread nD τ).loc main_arg1)) k d := by
  refine (run_sum m c k d t.val t.isLt).trans ?_
  rw [ht]
  exact sum_rowD fun t => (show S4096x512.Idx → EReal from m ((c : Thread nD τ).loc main_arg0)) (ix2 t k) * (show S4096x1024.Idx → EReal from m ((c : Thread nD τ).loc main_arg1)) (ix2 t d)

theorem flush_last : ∀ t : Fin cfg0.N, (cfg0.win 2).flush t = true → t.val = 3 :=
  (by decide +kernel : ∀ t : Fin grid0.N, (cfg0.win 2).flush t = true → t.val = 3)

/-- Columns of the carried sum read from column `o` on. -/
theorem lda (Y : Vec Ideal S512x1024 .f32) (o : ℕ) (inb) (k : Fin 512) (n : Fin 256) (h : o + n.val < 1024) : View.ld Y (Rect.unit (s := S512x1024) ![0, o] ![512, 256] inb) (ix2 k n) = Y (ix2 k (⟨o + n.val, h⟩ : Fin 1024)) :=
  View.ld_unit_apply_of Y _ _ _ _ _ (fun a => by
    match a with
    | ⟨0, _⟩ => exact (Nat.zero_add _).symm
    | ⟨1, _⟩ => rfl)
/-- A carried sum's columns in four parts. -/
def parts (Y : Vec Ideal S512x1024 .f32) : S4x512x256.Idx → EReal := fun i => Y (ix2 (i 1) (part (i 0) (i 2)))
theorem piece (Y : Vec Ideal S512x1024 .f32) (o : ℕ) (ho : o < 4) (inb) (inw) (P : Vec Ideal S512x256 .f32 → Vec Ideal S1x512x256 .f32) (hP : ∀ Y k n, P Y (ix3 0 k n) = Y (ix2 k n)) (y) :
    P (View.ld (Val := Elt Ideal) Y (Rect.unit (s := S512x1024) ![0, o * 256] ![512, 256] inw)) y = parts Y ((Rect.unit (s := S4x512x256) ![o, 0, 0] ![1, 512, 256] inb).idx y) := by
  obtain ⟨p, k, n, rfl⟩ := ex3 y
  obtain rfl : p = 0 := Fin.ext (by omega)
  rw [hP, lda Y (o * 256) _ k n (by omega)]
  unfold parts
  refine congrArg Y (congrArg₂ ix2 (Fin.ext ?_) (Fin.ext ?_))
  · show k.val = 0 + 1 * k.val; omega
  · show o * 256 + n.val = (o + 1 * 0) * 256 + (0 + 1 * n.val); omega

theorem cover (Y : FVec Ideal S512x1024 .f32) : ∀ y, ∃ p ∈ ([⟨Rect.unit (s := S512x1024) ![0, 0] ![512, 1024] inb_S512x1024_S512x1024_0_0, Y⟩] : List (View.Piece (Elt Ideal) S512x1024 .f32)), y ∈ p.1.set :=
  View.cover_of_tiled _ S512x1024.size (by rfl)
/-- Reading part of the carried sum just stored reads part of what was stored. -/
theorem rd (Y : FVec Ideal S512x1024 .f32) (r : Rect S512x1024) : (View.whole cc0_scratch0).readCov (Val := Elt Ideal) [⟨Rect.unit (s := S512x1024) ![0, 0] ![512, 1024] inb_S512x1024_S512x1024_0_0, Y⟩] r.toLoadRect = View.ld (Val := Elt Ideal) Y r := by
  rw [View.readCov_eq_canon_ld (Val := Elt Ideal) _ _ r (cover Y), View.canon_unit_zero (by decide)]
theorem four (Y : Vec Ideal S512x1024 .f32) : View.canon (Val := Elt Ideal) (s := S4x512x256) (e := .f32) [⟨Rect.unit (s := S4x512x256) ![3, 0, 0] ![1, 512, 256] inb_S4x512x256_S1x512x256_3_0_0, k0_pay3 (View.ld (Val := Elt Ideal) Y (Rect.unit (s := S512x1024) ![0, 768] ![512, 256] inb_S512x1024_S512x256_0_768))⟩,
    ⟨Rect.unit (s := S4x512x256) ![2, 0, 0] ![1, 512, 256] inb_S4x512x256_S1x512x256_2_0_0, k0_pay9 (View.ld (Val := Elt Ideal) Y (Rect.unit (s := S512x1024) ![0, 512] ![512, 256] inb_S512x1024_S512x256_0_512))⟩,
    ⟨Rect.unit (s := S4x512x256) ![1, 0, 0] ![1, 512, 256] inb_S4x512x256_S1x512x256_1_0_0, k0_pay7 (View.ld (Val := Elt Ideal) Y (Rect.unit (s := S512x1024) ![0, 256] ![512, 256] inb_S512x1024_S512x256_0_256))⟩,
    ⟨Rect.unit (s := S4x512x256) ![0, 0, 0] ![1, 512, 256] inb_S4x512x256_S1x512x256_0_0_0, k0_pay5 (View.ld (Val := Elt Ideal) Y (Rect.unit (s := S512x1024) ![0, 0] ![512, 256] inb_S512x1024_S512x256_0_0))⟩] = parts Y := by
  funext y
  refine View.canon_apply_of_pieces (Val := Elt Ideal) (e := .f32) (S := S4x512x256) (parts Y) _ ?_ y ?_
  rotate_left
  · exact View.cover_of_tiled (s := S4x512x256) _ ![1, 512, 256] (by rfl) y
  intro pc hpc
  rcases List.mem_cons.mp hpc with rfl | hpc
  · exact fun y => piece Y 3 (by omega) inb_S4x512x256_S1x512x256_3_0_0 inb_S512x1024_S512x256_0_768 k0_pay3 p3 y
  rcases List.mem_cons.mp hpc with rfl | hpc
  · exact fun y => piece Y 2 (by omega) inb_S4x512x256_S1x512x256_2_0_0 inb_S512x1024_S512x256_0_512 k0_pay9 p9 y
  rcases List.mem_cons.mp hpc with rfl | hpc
  · exact fun y => piece Y 1 (by omega) inb_S4x512x256_S1x512x256_1_0_0 inb_S512x1024_S512x256_0_256 k0_pay7 p7 y
  rcases List.mem_cons.mp hpc with rfl | hpc
  · exact fun y => piece Y 0 (by omega) inb_S4x512x256_S1x512x256_0_0_0 inb_S512x1024_S512x256_0_0 k0_pay5 p5 y
  nomatch hpc

/-- At the last point the result's buffer is left at the carried sum's four parts. -/
theorem left (t : Fin cfg0.N) (ht : t.val = 3) : (outsAt0 m c t.val t.isLt).1 = parts (outsAt0 m c t.val t.isLt).2.2 := by
  rw [outsAt0_C m c t (by omega) (by omega)]; frame_out
  rw [rd, rd, rd, rd]
  exact four _
theorem arr2 : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2, left m c t (flush_last t hf)]
  obtain ⟨e, k, n, rfl⟩ := ex3 y
  refine (run_full m c t (flush_last t hf) k (part e n)).trans ?_
  show out (m ((c : Thread nD τ).loc main_arg0)) (m ((c : Thread nD τ).loc main_arg1)) (ix3 e k n) = _
  blk_ext [ix_2 t]

end Cert.Proof.DwBranch

/-! ## The reference's array -/

namespace Cert.Proof.DwBranch
open Cert.DwBranchReferenceIdeal Cert.DwBranchReferenceIdeal.Gen Cert.DwBranchReferenceIdeal.Read
open Idealize.ShloMosaic Idealize.ShloMosaic.TcCoe Idealize.SL.Sem

variable (X0 : FVec Ideal S4096x512 .f32) (X1 : FVec Ideal S4096x1024 .f32)

theorem f2 (k : Fin 512) (d : Fin 1024) : val_main_v2 (F := Ideal) X0 X1 (ix2 d k) = dw X0 X1 k d := by
  have e : val_main_v2 (F := Ideal) X0 X1 (ix2 d k) = ∑ t : Fin 4096, X1 (ix2 t d) * X0 (ix2 t k) := by
    pointwise [val_main_v2]
  exact e.trans (Finset.sum_congr rfl fun t _ => mul_comm _ _)
theorem f5 : val_main_v5 (F := Ideal) X0 X1 = out X0 X1 := funext fun i => by
  obtain ⟨p, k, n, rfl⟩ := ex3 i
  have e : val_main_v5 (F := Ideal) X0 X1 (ix3 p k n) = val_main_v2 (F := Ideal) X0 X1 (ix2 (part p n) k) := by
    unfold val_main_v5 val_main_v4 val_main_v3 part; generalize val_main_v2 (F := Ideal) X0 X1 = Y; pointwise
  exact e.trans (f2 X0 X1 k (part p n))

end Cert.Proof.DwBranch
end
-- ==== Proof.DwBranchClaim.lean ====
module

public import proofs.«01_k».proof.Proof.DwBranchVal
public import proofs.«01_k».proof.Proof.Gen.DwBranchIdeal
public import proofs.«01_k».proof.Proof.Gen.DwBranchReferenceIdeal
public import proofs.«01_k».proof.Proof.Gen.DwBranchReferenceIdeal.Run
public import proofs.«01_k».proof.Defs
public import Idealize.ShloMosaic.Lib.Claim
public import Idealize.ShloMosaic.Lib.Quiescent

@[expose] public section

set_option maxRecDepth 16384

noncomputable section

namespace Cert.Proof.DwBranch

open Idealize.ShloMosaic Idealize.ShloMosaic.TcCoe Idealize.SL.Sem

/-! # The claims of the branch weight gradient -/

/-- The program read over the extended reals: it terminates, its arguments end unchanged, its counters at zero. -/
theorem frame_ideal : Cert.quiescent_DwBranchIdeal (hDwBranchIdeal := Cert.DwBranchIdeal.Gen.facts) := fun m g _ => Cert.DwBranchIdeal.Gen.frame (F := Ideal) m g

/-- The same of the reference. -/
theorem frame_reference : Cert.quiescent_DwBranchReferenceIdeal (hDwBranchReferenceIdeal := Cert.DwBranchReferenceIdeal.Gen.facts) := fun m g _ =>
  (θ_run Cert.DwBranchReferenceIdeal.defs _ _).mono (fun r h => ⟨fun c => (h c).2, sem_eq_zero_of_no_sems (by decide) r.2⟩) (Cert.DwBranchReferenceIdeal.Value.run m g)

section
open Cert.DwBranchReferenceIdeal Cert.DwBranchReferenceIdeal.Gen Cert.DwBranchReferenceIdeal.Read
set_option maxHeartbeats 2000000 in
/-- The reference runs to its composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v5_eq (m ((c.tc : Thread nD τ).loc main_arg0)) (m ((c.tc : Thread nD τ).loc main_arg1))), (h c).2⟩)
    (Cert.DwBranchReferenceIdeal.Value.run m ρ)
end

/-- The program's result is the reference's, whatever the arguments. -/
theorem values : Cert.algebraic_DwBranchIdeal_DwBranchReferenceIdeal (hDwBranchIdeal := Cert.DwBranchIdeal.Gen.facts) (hDwBranchReferenceIdeal := Cert.DwBranchReferenceIdeal.Gen.facts) := by
  intro m g m' g' _ hag
  refine ⟨fun c => (Cert.DwBranchIdeal.Gen.dats m 0 c).arrAt 2 Cert.DwBranchIdeal.cfg0.N, ?_, ?_⟩
  · exact (θ_run Cert.DwBranchIdeal.defs _ _).mono (fun r h c => ⟨(h c).1, (h c).2.2⟩) (Cert.DwBranchIdeal.Value.run_blocks m g)
  · refine (θ_run Cert.DwBranchReferenceIdeal.defs _ _).mono (fun r h c => ?_) (run_reference m' g')
    obtain ⟨e0, e1⟩ := hag c
    refine ⟨(h c).1.trans ?_, (h c).2⟩
    rw [e0, e1]; exact (f5 _ _).trans (arr2 m c).symm

end Cert.Proof.DwBranch
end
-- ==== Proof.DwBranchSameText.lean ====
module

public import proofs.«01_k».proof.Proof.Gen.DwBranch
public import proofs.«01_k».proof.Proof.Gen.DwBranchIdeal

@[expose] public section

set_option maxRecDepth 16384
set_option maxHeartbeats 0

namespace Cert.Proof.DwBranchSameText

open Idealize.ShloMosaic

variable {F : FTy → Type} [FloatOps F]

/-! ## A branch weight's gradient call and its ideal reading are one text -/

/-- The two programs' `main` is the same program, -/
theorem main_eq : Cert.DwBranch.main (F := F) = Cert.DwBranchIdeal.main (F := F) := rfl

/-- the body that the call runs is the same, -/
theorem body_eq : Cert.DwBranch.defs₀ (F := F) = Cert.DwBranchIdeal.defs₀ (F := F) := by
  unfold Cert.DwBranch.defs₀ Cert.DwBranchIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.DwBranch.defs (F := F) = Cert.DwBranchIdeal.defs (F := F) := by
  unfold Cert.DwBranch.defs Cert.DwBranchIdeal.defs
  rw [body_eq]
  rfl

end Cert.Proof.DwBranchSameText

end
-- ==== Proof.AttnFwdPay.lean ====
module

public import proofs.«01_k».proof.Proof.AttnPre
public import proofs.«01_k».proof.Proof.Gen.AttnFwdIdeal.Value

@[expose] public section

set_option maxRecDepth 16384

noncomputable section

namespace Cert.Proof.AttnFwd

open Cert.AttnFwdIdeal Cert.AttnFwdIdeal.Gen
open Idealize.ShloMosaic.Pipeline (Dat)
open Idealize.ShloMosaic Idealize.ShloMosaic.TcCoe Idealize.SL.Sem

/-! # The forward attention's stored values, at an index -/

variable (Kb : Vec Ideal S4096x128 .bf16) (X : Vec Ideal S256x128 .bf16)

/-- The score of a row of a block and a key, over the slot's 128 columns. -/
def sc (q : Fin 256) (j : Fin 4096) : EReal := ∑ l : Fin 128, X (ix2 q l) * Kb (ix2 j l)
/-- The row's greatest score, -/
def mx (q : Fin 256) : EReal := Finset.fold max (Ideal.ofBits FTy.f32 4286578688#32) (fun j => sc Kb X q j) Finset.univ
/-- its shifted exponentials, -/
def es (q : Fin 256) (j : Fin 4096) : EReal := Ideal.exp (sc Kb X q j - mx Kb X q)
/-- and their sum. -/
def ls (q : Fin 256) : EReal := ∑ j : Fin 4096, es Kb X q j

theorem p3 (q : Fin 256) (j : Fin 4096) : k0_pay3 Kb X (ix2 q j) = sc Kb X q j := by
  unfold sc; pointwise [k0_pay3, k0_pay2]
theorem p7 (q : Fin 256) : k0_pay7 Kb X (ix2 q 0) = mx Kb X q := by
  have e : k0_pay7 Kb X (ix2 q 0) = Finset.fold max (Ideal.ofBits FTy.f32 4286578688#32) (fun j => k0_pay3 Kb X (ix2 q j)) Finset.univ := by
    unfold k0_pay7; generalize k0_pay3 Kb X = S; pointwise
  rw [e]; unfold mx; exact congrArg (fun f => Finset.fold max _ f Finset.univ) (funext fun j => p3 Kb X q j)
theorem p11 (q : Fin 256) (j : Fin 4096) : k0_pay11 Kb X (ix2 q j) = es Kb X q j := by
  have e : k0_pay11 Kb X (ix2 q j) = Ideal.exp (k0_pay3 Kb X (ix2 q j) - k0_pay7 Kb X (ix2 q 0)) := by
    unfold k0_pay11; generalize k0_pay3 Kb X = S; generalize k0_pay7 Kb X = M; pointwise
  rw [e, p3, p7]; rfl
theorem p17 (E : FVec Ideal S256x4096 .f32) (q : Fin 256) : k0_pay17 E (ix2 q 0) = ∑ j : Fin 4096, E (ix2 q j) := by
  pointwise [k0_pay17]
theorem p15 (q : Fin 256) : k0_pay15 Kb X (ix2 q 0) = ls Kb X q :=
  (p17 (k0_pay11 Kb X) q).trans (Finset.sum_congr rfl fun j _ => p11 Kb X q j)
theorem p19 (M L : FVec Ideal S256x1 .f32) (q : Fin 256) : k0_pay19 M L (ix3 0 q 0) = M (ix2 q 0) + Ideal.log (L (ix2 q 0)) := by
  pointwise [k0_pay19]
theorem p23 (b : BitVec 32) (E : FVec Ideal S256x4096 .f32) (A B : Vec Ideal S4096x128 .bf16) (q : Fin 256) (l : Fin 128) :
    k0_pay23 b E A B (ix2 q l) = ∑ j : Fin 4096, E (ix2 q j) * (Scalar.select (Scalar.cmpi .ne b 0#32) A B : Vec Ideal S4096x128 .bf16) (ix2 j l) := by
  rcases BitVec.eq_zero_or_eq_one (Scalar.cmpi .ne b 0#32) with h | h
  · unfold k0_pay23; simp only [h]; pointwise [Scalar.select]
  · unfold k0_pay23; simp only [h]; pointwise [Scalar.select]
theorem p24 (L : FVec Ideal S256x1 .f32) (q : Fin 256) (l : Fin 128) : k0_pay24 L (ix2 q l) = Ideal.div 1 (L (ix2 q 0)) := by
  rw [← Ideal.ofBits_one_f32]; pointwise [k0_pay24]
theorem p25 (A B : FVec Ideal S256x128 .f32) (k) : k0_pay25 A B k = A k * B k := rfl

/-- Whether a lane is in the lower half. -/
theorem low_at (l : Fin 128) : (cmpi .slt (iota .tc S1x128 32 [1] iota_S1x128_d1_w32) (broadcast S1x128 64#32)) (ix2 0 l) = if l.val < 64 then 1#1 else 0#1 := by
  revert l; decide +kernel
theorem p1 (A B C D : FVec Ideal S256x128 .f32) (q : Fin 256) (n : Fin 256) :
    k0_pay1 A B C D (iota .tc S1x128 32 [1] iota_S1x128_d1_w32) 64#32 (ix2 q n)
      = (if n.val / 128 = 0 then if n.val % 128 < 64 then A else B else if n.val % 128 < 64 then C else D) (ix2 q (⟨n.val % 128, by omega⟩ : Fin 128)) := by
  unfold k0_pay1
  have hl := low_at (⟨n.val % 128, by omega⟩ : Fin 128)
  generalize (cmpi .slt (iota .tc S1x128 32 [1] iota_S1x128_d1_w32) (broadcast S1x128 64#32)) = Z at hl ⊢
  pointwise
  by_cases h : n.val < 128
  · have e : (⟨n.val, h⟩ : Fin 128) = ⟨n.val % 128, by omega⟩ := Fin.ext (Nat.mod_eq_of_lt h).symm
    rw [dif_pos h, if_pos (show n.val / 128 = 0 by omega)]
    show Scalar.select (Z (ix2 0 ⟨n.val, h⟩)) (A (ix2 q ⟨n.val, h⟩)) (B (ix2 q ⟨n.val, h⟩)) = _
    rw [e, hl]
    by_cases b : n.val % 128 < 64
    · rw [if_pos b, if_pos b]; rfl
    · rw [if_neg b, if_neg b]; rfl
  · have e : (⟨n.val - 128, by have := n.isLt; omega⟩ : Fin 128) = ⟨n.val % 128, by omega⟩ := Fin.ext (by show n.val - 128 = n.val % 128; have := n.isLt; omega)
    rw [dif_neg h, if_neg (show ¬ n.val / 128 = 0 by omega)]
    show Scalar.select (Z (ix2 0 ⟨n.val - 128, by have := n.isLt; omega⟩)) (C (ix2 q ⟨n.val - 128, by have := n.isLt; omega⟩)) (D (ix2 q ⟨n.val - 128, by have := n.isLt; omega⟩)) = _
    rw [e, hl]
    by_cases b : n.val % 128 < 64
    · rw [if_pos b, if_pos b]; rfl
    · rw [if_neg b, if_neg b]; rfl

/-- The swapped values where the kernel's test says so, else the values. -/
abbrev sel (b o : BitVec 32) (A B : Vec Ideal S4096x128 .bf16) : Vec Ideal S4096x128 .bf16 := Scalar.select (Scalar.cmpi .ne b o) A B
theorem p26 (b : BitVec 32) (E : FVec Ideal S256x4096 .f32) (L : FVec Ideal S256x1 .f32) (A B : Vec Ideal S4096x128 .bf16) (q : Fin 256) (l : Fin 128) :
    k0_pay26 b E L A B (ix2 q l) = (∑ j : Fin 4096, E (ix2 q j) * sel b 1#32 A B (ix2 j l)) * Ideal.div 1 (L (ix2 q 0)) := by
  rw [← Ideal.ofBits_one_f32]
  unfold sel
  rcases BitVec.eq_zero_or_eq_one (Scalar.cmpi .ne b 1#32) with h | h
  · unfold k0_pay26; simp only [h]; pointwise [Scalar.select]
  · unfold k0_pay26; simp only [h]; pointwise [Scalar.select]
theorem p27 (b : BitVec 32) (E : FVec Ideal S256x4096 .f32) (L : FVec Ideal S256x1 .f32) (A B : Vec Ideal S4096x128 .bf16) (q : Fin 256) (l : Fin 128) :
    k0_pay27 b E L A B (ix2 q l) = (∑ j : Fin 4096, E (ix2 q j) * sel b 0#32 A B (ix2 j l)) * Ideal.div 1 (L (ix2 q 0)) :=
  congrArg₂ (· * ·) (p23 b E A B q l) (p24 L q l)

/-- A head's output in a lane: its exponentials against a column of values, over their sum. -/
def hd (V : Vec Ideal S4096x128 .bf16) (q : Fin 256) (l : Fin 128) : EReal := (∑ j : Fin 4096, es Kb X q j * V (ix2 j l)) * Ideal.div 1 (ls Kb X q)

end Cert.Proof.AttnFwd

namespace Cert.Proof.AttnFwd

open Cert.AttnFwdIdeal Cert.AttnFwdIdeal.Gen
open Idealize.ShloMosaic.Pipeline (Dat)
open Idealize.ShloMosaic Idealize.ShloMosaic.TcCoe Idealize.SL.Sem

/-! ## What the body leaves, of the windows' blocks -/

section
variable (i : grid0.Coords) (x0 x1 x2 x3 : Vec Ideal S256x128 .bf16) (x4 x5 x6 : Vec Ideal S4096x128 .bf16)

theorem ldk (Y : Vec Ideal S4096x128 .bf16) : View.ld Y r0_0 = Y := View.ld_unit_zero (by decide) _ _
theorem ldq (Y : Vec Ideal S256x128 .bf16) : View.ld Y r0_1 = Y := View.ld_unit_zero (by decide) _ _

theorem left7 (q n : Fin 256) : out0_7 i x0 x1 x2 x3 x4 x5 x6 (ix2 q n)
    = (if n.val / 128 = 0 then if n.val % 128 < 64 then hd x4 x0 (sel (BitVec.ofNat 32 (i 0).val) 0#32 x6 x5) else hd x4 x1 (sel (BitVec.ofNat 32 (i 0).val) 1#32 x6 x5)
        else if n.val % 128 < 64 then hd x4 x2 (sel (BitVec.ofNat 32 (i 0).val) 0#32 x6 x5) else hd x4 x3 (sel (BitVec.ofNat 32 (i 0).val) 1#32 x6 x5)) q (⟨n.val % 128, by omega⟩ : Fin 128) := by
  unfold out0_7 k0_pay29 k0_pay30 k0_pay31 k0_pay32
  rw [View.canon_unit_zero (by decide), ldk, ldk, ldk, ldq, ldq, ldq, ldq]
  refine (p1 _ _ _ _ q n).trans ?_
  generalize (⟨n.val % 128, by omega⟩ : Fin 128) = l
  have hh (X : Vec Ideal S256x128 .bf16) (V : Vec Ideal S4096x128 .bf16) : (∑ j : Fin 4096, k0_pay11 x4 X (ix2 q j) * V (ix2 j l)) * Ideal.div 1 (k0_pay15 x4 X (ix2 q 0)) = hd x4 X V q l :=
    congrArg₂ (fun a b => a * Ideal.div 1 b) (Finset.sum_congr rfl fun j _ => congrArg (· * _) (p11 x4 X q j)) (p15 x4 X q)
  by_cases a : n.val / 128 = 0
  · by_cases b : n.val % 128 < 64
    · rw [if_pos a, if_pos b, if_pos a, if_pos b]
      exact (p27 _ (k0_pay11 x4 x0) (k0_pay15 x4 x0) x6 x5 q l).trans (hh x0 _)
    · rw [if_pos a, if_neg b, if_pos a, if_neg b]
      exact (p26 _ (k0_pay11 x4 x1) (k0_pay15 x4 x1) x6 x5 q l).trans (hh x1 _)
  · by_cases b : n.val % 128 < 64
    · rw [if_neg a, if_pos b, if_neg a, if_pos b]
      exact (p27 _ (k0_pay11 x4 x2) (k0_pay15 x4 x2) x6 x5 q l).trans (hh x2 _)
    · rw [if_neg a, if_neg b, if_neg a, if_neg b]
      exact (p26 _ (k0_pay11 x4 x3) (k0_pay15 x4 x3) x6 x5 q l).trans (hh x3 _)

/-- A head's log-sum. -/
def lg (Kb : Vec Ideal S4096x128 .bf16) (X : Vec Ideal S256x128 .bf16) (q : Fin 256) : EReal := mx Kb X q + Ideal.log (ls Kb X q)
theorem p19h (X : Vec Ideal S256x128 .bf16) (q : Fin 256) : k0_pay19 (k0_pay7 x4 X) (k0_pay15 x4 X) (ix3 0 q 0) = lg x4 X q := by
  rw [p19, p7, p15]; rfl

/-- The four heads' log-sums. -/
def lg4 : S4x256x1.Idx → EReal := fun y => lg x4 (![x0, x1, x2, x3] (y 0)) (y 1)
theorem pieceL (X : Vec Ideal S256x128 .bf16) (h : Fin 4) (hX : ![x0, x1, x2, x3] h = X) (o : ℕ) (ho : o = h.val) (inb) (P : Vec Ideal S1x256x1 .f32) (hP : P = k0_pay19 (k0_pay7 x4 X) (k0_pay15 x4 X)) (y) :
    P y = lg4 x0 x1 x2 x3 x4 ((Rect.unit (s := S4x256x1) ![o, 0, 0] S1x256x1.size inb).idx y) := by
  obtain ⟨p, q, z, rfl⟩ : ∃ (p : Fin 1) (q : Fin 256) (z : Fin 1), y = ix3 p q z := ⟨y 0, y 1, y 2, by funext a; match a with | ⟨0, _⟩ => rfl | ⟨1, _⟩ => rfl | ⟨2, _⟩ => rfl⟩
  obtain rfl : p = 0 := Fin.ext (by omega)
  obtain rfl : z = 0 := Fin.ext (by omega)
  rw [hP, p19h, ← hX]
  unfold lg4
  refine congrArg₂ (fun a b => lg x4 (![x0, x1, x2, x3] a) b) (Fin.ext ?_) (Fin.ext ?_)
  · show h.val = o + 1 * 0; omega
  · show q.val = 0 + 1 * q.val; omega

theorem left8 : out0_8 i x0 x1 x2 x3 x4 x5 x6 = lg4 x0 x1 x2 x3 x4 := by
  unfold out0_8 k0_pay29 k0_pay30 k0_pay31 k0_pay32
  rw [ldk, ldq, ldq, ldq, ldq]
  funext y
  refine View.canon_apply_of_pieces (Val := Elt Ideal) (e := .f32) (S := S4x256x1) (lg4 x0 x1 x2 x3 x4) _ ?_ y ?_
  rotate_left
  · exact cover0_8 _ _ _ _ y
  intro pc hpc
  rcases List.mem_cons.mp hpc with rfl | hpc
  · exact fun y => pieceL x0 x1 x2 x3 x4 x3 3 rfl 3 rfl inb_S4x256x1_S1x256x1_3_0_0 _ rfl y
  rcases List.mem_cons.mp hpc with rfl | hpc
  · exact fun y => pieceL x0 x1 x2 x3 x4 x2 2 rfl 2 rfl inb_S4x256x1_S1x256x1_2_0_0 _ rfl y
  rcases List.mem_cons.mp hpc with rfl | hpc
  · exact fun y => pieceL x0 x1 x2 x3 x4 x1 1 rfl 1 rfl inb_S4x256x1_S1x256x1_1_0_0 _ rfl y
  rcases List.mem_cons.mp hpc with rfl | hpc
  · exact fun y => pieceL x0 x1 x2 x3 x4 x0 0 rfl 0 rfl inb_S4x256x1_S1x256x1_0_0_0 _ rfl y
  nomatch hpc
end

end Cert.Proof.AttnFwd
end
-- ==== Proof.AttnFwdVal.lean ====
module

public import proofs.«01_k».proof.Proof.AttnFwdPay

@[expose] public section

set_option maxRecDepth 16384

noncomputable section

namespace Cert.Proof.AttnFwd

open Cert.AttnFwdIdeal Cert.AttnFwdIdeal.Gen
open Idealize.ShloMosaic.Pipeline (Dat)
open Idealize.ShloMosaic Idealize.ShloMosaic.TcCoe Idealize.SL.Sem
open Cert.Proof.Attn (Sc Mx Ex Ls kSlots)

/-! # The forward attention's arrays -/

/-- A head's output entry, as the kernel forms it: the exponentials against a column of values, over their sum. -/
def oat (Q : Vec Ideal S4096x512 .f32) (K W : Vec Ideal S4096x128 .f32) (g : Fin 2) (r : Fin 4) (d : Fin 64) (i : Fin 4096) : EReal :=
  (∑ j : Fin 4096, Ex Q K g r i j * W (ix2 j (⟨g.val * 64 + d.val, by omega⟩ : Fin 128))) * Ideal.div 1 (Ls Q K g r i)
/-- A head's log-sum, as the kernel forms it. -/
def lat (Q : Vec Ideal S4096x512 .f32) (K : Vec Ideal S4096x128 .f32) (g : Fin 2) (r : Fin 4) (i : Fin 4096) : EReal := Mx Q K g r i + Ideal.log (Ls Q K g r i)
/-- The outputs, the eight heads side by side. -/
def outA (Q : Vec Ideal S4096x512 .f32) (K W : Vec Ideal S4096x128 .f32) : S4096x512.Idx → EReal := fun y =>
  oat Q K W (⟨(y 1).val / 256, by have : (y 1).val < 512 := (y 1).isLt; omega⟩ : Fin 2) (⟨(y 1).val / 64 % 4, by omega⟩ : Fin 4) (⟨(y 1).val % 64, by omega⟩ : Fin 64) (y 0)
/-- The log-sums, head by head. -/
def lseA (Q : Vec Ideal S4096x512 .f32) (K : Vec Ideal S4096x128 .f32) : S8x4096x1.Idx → EReal := fun y =>
  lat Q K (⟨(y 0).val / 4, by have : (y 0).val < 8 := (y 0).isLt; omega⟩ : Fin 2) (⟨(y 0).val % 4, by omega⟩ : Fin 4) (y 1)

theorem oat_of (Q : Vec Ideal S4096x512 .f32) (K W : Vec Ideal S4096x128 .f32) {g g' : Fin 2} {r r' : Fin 4} {d d' : Fin 64} (i : Fin 4096) (hg : g.val = g'.val) (hr : r.val = r'.val) (hd : d.val = d'.val) :
    oat Q K W g r d i = oat Q K W g' r' d' i := by
  obtain rfl := Fin.ext hg; obtain rfl := Fin.ext hr; obtain rfl := Fin.ext hd; rfl
theorem lat_of (Q : Vec Ideal S4096x512 .f32) (K : Vec Ideal S4096x128 .f32) {g g' : Fin 2} {r r' : Fin 4} (i : Fin 4096) (hg : g.val = g'.val) (hr : r.val = r'.val) :
    lat Q K g r i = lat Q K g' r' i := by
  obtain rfl := Fin.ext hg; obtain rfl := Fin.ext hr; rfl

/-! ## A tile's scores are the arrays' -/

/-- Row `q` of a point's tile of 256 rows. -/
def row (t : ℕ) (q : Fin 256) : Fin 4096 := ⟨256 * (t % 16) + q.val, by omega⟩
/-- The key head group of a point. -/
def grp (t : ℕ) : Fin 2 := ⟨t / 16 % 2, by omega⟩
/-- A point's head. -/
def head (t : ℕ) (r : Fin 4) : Fin 8 := ⟨4 * (t / 16 % 2) + r.val, by omega⟩

section
variable {Q : Vec Ideal S4096x512 .f32} {K W : Vec Ideal S4096x128 .f32} {Kb : Vec Ideal S4096x128 .bf16} {X : Vec Ideal S256x128 .bf16} (t : ℕ) (r : Fin 4)
  (hX : ∀ q l, X (ix2 q l) = kSlots Q (ix2 (row t q) (⟨(head t r).val * 128 + l.val, by omega⟩ : Fin 1024))) (hK : ∀ j l, Kb (ix2 j l) = K (ix2 j l))

include hX hK in
theorem sc_at (q : Fin 256) (j : Fin 4096) : sc Kb X q j = Sc Q K (grp t) r (row t q) j := by
  unfold sc
  have e (l : Fin 128) : X (ix2 q l) * Kb (ix2 j l)
      = (if t / 16 % 2 = l.val / 64 then (fun d : Fin 64 => Q (ix2 (row t q) (⟨(head t r).val * 64 + d.val, by omega⟩ : Fin 512))) ⟨l.val % 64, Nat.mod_lt _ (by omega)⟩ else (0 : EReal)) * (fun l : Fin 128 => K (ix2 j l)) l := by
    rw [hX, hK, Cert.Proof.Attn.kSlots_at]
    have e : (head t r).val / 4 = t / 16 % 2 := by show (4 * (t / 16 % 2) + r.val) / 4 = _; omega
    rw [e]
  refine ((Finset.sum_congr rfl fun l _ => e l).trans (Cert.Proof.Attn.slot_sum (t / 16 % 2) (by omega) (fun d : Fin 64 => Q (ix2 (row t q) (⟨(head t r).val * 64 + d.val, by omega⟩ : Fin 512))) fun l : Fin 128 => K (ix2 j l))).trans ?_
  unfold Sc
  refine Finset.sum_congr rfl fun d _ => (mul_comm _ _).trans (congrArg₂ (· * ·) rfl (congrArg Q (congrArg (ix2 (row t q)) (Fin.ext ?_))))
  show (4 * (t / 16 % 2) + r.val) * 64 + d.val = t / 16 % 2 * 256 + r.val * 64 + d.val; omega
include hX hK in
theorem mx_at (q : Fin 256) : mx Kb X q = Mx Q K (grp t) r (row t q) := by
  unfold mx Mx; exact congrArg (fun f => Finset.fold max _ f Finset.univ) (funext fun j => sc_at t r hX hK q j)
include hX hK in
theorem es_at (q : Fin 256) (j : Fin 4096) : es Kb X q j = Ex Q K (grp t) r (row t q) j := by
  unfold es Ex; rw [sc_at t r hX hK, mx_at t r hX hK]
include hX hK in
theorem ls_at (q : Fin 256) : ls Kb X q = Ls Q K (grp t) r (row t q) := by
  unfold ls Ls; exact Finset.sum_congr rfl fun j _ => es_at t r hX hK q j
include hX hK in
theorem lg_at (q : Fin 256) : lg Kb X q = lat Q K (grp t) r (row t q) := by
  unfold lg lat; rw [mx_at t r hX hK, ls_at t r hX hK]
include hX hK in
theorem hd_at (Vb : Vec Ideal S4096x128 .bf16) (q : Fin 256) (l : Fin 128) (hV : ∀ j, Vb (ix2 j l) = W (ix2 j (⟨(grp t).val * 64 + l.val % 64, by omega⟩ : Fin 128))) :
    hd Kb X Vb q l = oat Q K W (grp t) r (⟨l.val % 64, by omega⟩ : Fin 64) (row t q) := by
  unfold hd oat
  rw [ls_at t r hX hK]
  refine congrArg (· * _) (Finset.sum_congr rfl fun j _ => ?_)
  rw [es_at t r hX hK, hV]
end

/-- The kernel's choice of the values or the swapped values puts a group's values in a lane half. -/
theorem sel_at (W : Vec Ideal S4096x128 .f32) (A B : Vec Ideal S4096x128 .bf16) (hA : ∀ j l, A (ix2 j l) = W (ix2 j (⟨(l.val + 64) % 128, by omega⟩ : Fin 128))) (hB : ∀ j l, B (ix2 j l) = W (ix2 j l))
    (g o : Fin 2) (j : Fin 4096) (l : Fin 128) (hl : l.val / 64 = o.val) :
    sel (BitVec.ofNat 32 g.val) (BitVec.ofNat 32 o.val) A B (ix2 j l) = W (ix2 j (⟨g.val * 64 + l.val % 64, by omega⟩ : Fin 128)) := by
  unfold sel
  by_cases h : g = o
  · subst h
    have e : Scalar.cmpi .ne (BitVec.ofNat 32 g.val) (BitVec.ofNat 32 g.val) = 0#1 := by clear hl; revert g; decide
    rw [e]
    refine Eq.trans (show _ = B (ix2 j l) from rfl) ((hB j l).trans (congrArg W (congrArg (ix2 j) (Fin.ext ?_))))
    show l.val = g.val * 64 + l.val % 64; omega
  · have e : Scalar.cmpi .ne (BitVec.ofNat 32 g.val) (BitVec.ofNat 32 o.val) = 1#1 := by clear hl; revert g o; decide
    rw [e]
    refine Eq.trans (show _ = A (ix2 j l) from rfl) ((hA j l).trans (congrArg W (congrArg (ix2 j) (Fin.ext ?_))))
    have hgo : g.val ≠ o.val := fun e => h (Fin.ext e)
    show (l.val + 64) % 128 = g.val * 64 + l.val % 64; omega

/-! ## The windows' blocks at a point -/

variable (m : (ℓ : Loc nD τ sig) → Buf (Elt Ideal) ℓ) (c : Dev nD)

theorem ix_0 : ∀ t : Fin cfg0.N, win0_0.index t = ![t.val % 16, 4 * (t.val / 16 % 2)] := (by decide +kernel : ∀ t : Fin grid0.N, win0_0.index t = ![t.val % 16, 4 * (t.val / 16 % 2)])
theorem ix_1 : ∀ t : Fin cfg0.N, win0_1.index t = ![t.val % 16, 4 * (t.val / 16 % 2) + 1] := (by decide +kernel : ∀ t : Fin grid0.N, win0_1.index t = ![t.val % 16, 4 * (t.val / 16 % 2) + 1])
theorem ix_2 : ∀ t : Fin cfg0.N, win0_2.index t = ![t.val % 16, 4 * (t.val / 16 % 2) + 2] := (by decide +kernel : ∀ t : Fin grid0.N, win0_2.index t = ![t.val % 16, 4 * (t.val / 16 % 2) + 2])
theorem ix_3 : ∀ t : Fin cfg0.N, win0_3.index t = ![t.val % 16, 4 * (t.val / 16 % 2) + 3] := (by decide +kernel : ∀ t : Fin grid0.N, win0_3.index t = ![t.val % 16, 4 * (t.val / 16 % 2) + 3])
theorem ix_4 : ∀ t : Fin cfg0.N, win0_4.index t = ![0, 0] := (by decide +kernel : ∀ t : Fin grid0.N, win0_4.index t = ![0, 0])
theorem ix_5 : ∀ t : Fin cfg0.N, win0_5.index t = ![0, 0] := (by decide +kernel : ∀ t : Fin grid0.N, win0_5.index t = ![0, 0])
theorem ix_6 : ∀ t : Fin cfg0.N, win0_6.index t = ![0, 0] := (by decide +kernel : ∀ t : Fin grid0.N, win0_6.index t = ![0, 0])
theorem ix_7 : ∀ t : Fin cfg0.N, win0_7.index t = ![t.val % 16, t.val / 16 % 2] := (by decide +kernel : ∀ t : Fin grid0.N, win0_7.index t = ![t.val % 16, t.val / 16 % 2])
theorem ix_8 : ∀ t : Fin cfg0.N, win0_8.index t = ![t.val / 16 % 2, t.val % 16, 0] := (by decide +kernel : ∀ t : Fin grid0.N, win0_8.index t = ![t.val / 16 % 2, t.val % 16, 0])
theorem co_0 : ∀ t : Fin cfg0.N, ((grid0.coords t) 0).val = (grp t.val).val := (by decide +kernel : ∀ t : Fin grid0.N, ((grid0.coords t) 0).val = t.val / 16 % 2)

theorem b_0 (t : Fin cfg0.N) (q : Fin 256) (l : Fin 128) : iblk m c 0 t (ix2 q l) = V m c main_v12 (ix2 (row t.val q) (⟨(head t.val 0).val * 128 + l.val, by omega⟩ : Fin 1024)) := by blk_ext [iblk, ix_0 t, row, head]
theorem b_1 (t : Fin cfg0.N) (q : Fin 256) (l : Fin 128) : iblk m c 1 t (ix2 q l) = V m c main_v12 (ix2 (row t.val q) (⟨(head t.val 1).val * 128 + l.val, by omega⟩ : Fin 1024)) := by blk_ext [iblk, ix_1 t, row, head]
theorem b_2 (t : Fin cfg0.N) (q : Fin 256) (l : Fin 128) : iblk m c 2 t (ix2 q l) = V m c main_v12 (ix2 (row t.val q) (⟨(head t.val 2).val * 128 + l.val, by omega⟩ : Fin 1024)) := by blk_ext [iblk, ix_2 t, row, head]
theorem b_3 (t : Fin cfg0.N) (q : Fin 256) (l : Fin 128) : iblk m c 3 t (ix2 q l) = V m c main_v12 (ix2 (row t.val q) (⟨(head t.val 3).val * 128 + l.val, by omega⟩ : Fin 1024)) := by blk_ext [iblk, ix_3 t, row, head]
theorem b_4 (t : Fin cfg0.N) (j : Fin 4096) (l : Fin 128) : iblk m c 4 t (ix2 j l) = V m c main_v13 (ix2 j l) := by blk_ext [iblk, ix_4 t]
theorem b_5 (t : Fin cfg0.N) (j : Fin 4096) (l : Fin 128) : iblk m c 5 t (ix2 j l) = V m c main_v14 (ix2 j l) := by blk_ext [iblk, ix_5 t]
theorem b_6 (t : Fin cfg0.N) (j : Fin 4096) (l : Fin 128) : iblk m c 6 t (ix2 j l) = V m c main_v15 (ix2 j l) := by blk_ext [iblk, ix_6 t]

theorem V_q (k : S4096x1024.Idx) : V m c main_v12 k = kSlots (m ((c : Thread nD τ).loc main_arg0)) k := by
  have e : V m c main_v12 = truncf (F := Ideal) (φ := .f32) .bf16 (kSlots (m ((c : Thread nD τ).loc main_arg0))) bitsLt_bf16_f32 := by
    unfold V
    after_reads_simp
    rfl
  exact congrFun e _
theorem V_k (k : S4096x128.Idx) : V m c main_v13 k = m ((c : Thread nD τ).loc main_arg1) k := by
  have e : V m c main_v13 = truncf (F := Ideal) (φ := .f32) .bf16 (m ((c : Thread nD τ).loc main_arg1)) bitsLt_bf16_f32 := by
    after_reads_simp
  exact congrFun e _
theorem V_v (k : S4096x128.Idx) : V m c main_v14 k = m ((c : Thread nD τ).loc main_arg2) k := by
  have e : V m c main_v14 = truncf (F := Ideal) (φ := .f32) .bf16 (m ((c : Thread nD τ).loc main_arg2)) bitsLt_bf16_f32 := by
    after_reads_simp
  exact congrFun e _
/-- An array's two halves of columns swapped. -/
def swapped (X : FVec Ideal S4096x128 .f32) : FVec Ideal S4096x128 .f32 :=
  concatenate S4096x128 1 [⟨S4096x64, extractStridedSlice S4096x64 ![0, 64] X slices_S4096x128_S4096x64_0_64⟩, ⟨S4096x64, extractStridedSlice S4096x64 ![0, 0] X slices_S4096x128_S4096x64_0_0⟩] concatenates_S4096x64_S4096x64_S4096x128_d1
theorem swapped_at (X : FVec Ideal S4096x128 .f32) (j : Fin 4096) (l : Fin 128) : swapped X (ix2 j l) = X (ix2 j (⟨(l.val + 64) % 128, by omega⟩ : Fin 128)) := by
  pointwise [swapped]
  have := l.isLt
  by_cases h : l.val < 64
  · rw [dif_pos h]
    exact congrArg X (congrArg (ix2 j) (Fin.ext (by show _ = (l.val + 64) % 128; simp; omega)))
  · rw [dif_neg h]
    exact congrArg X (congrArg (ix2 j) (Fin.ext (by show _ = (l.val + 64) % 128; simp; omega)))
theorem V_s (j : Fin 4096) (l : Fin 128) : V m c main_v15 (ix2 j l) = m ((c : Thread nD τ).loc main_arg2) (ix2 j (⟨(l.val + 64) % 128, by omega⟩ : Fin 128)) := by
  have e : V m c main_v15 = truncf (F := Ideal) (φ := .f32) .bf16 (swapped (m ((c : Thread nD τ).loc main_arg2))) bitsLt_bf16_f32 := by
    unfold V
    after_reads_simp
    rfl
  exact (congrFun e _).trans (swapped_at _ j l)

/-! ## The arrays it leaves -/

theorem q_0 (t : Fin cfg0.N) (q : Fin 256) (l : Fin 128) : iblk m c 0 t (ix2 q l) = kSlots (m ((c : Thread nD τ).loc main_arg0)) (ix2 (row t.val q) (⟨(head t.val 0).val * 128 + l.val, by omega⟩ : Fin 1024)) := (b_0 m c t q l).trans (V_q m c _)
theorem q_1 (t : Fin cfg0.N) (q : Fin 256) (l : Fin 128) : iblk m c 1 t (ix2 q l) = kSlots (m ((c : Thread nD τ).loc main_arg0)) (ix2 (row t.val q) (⟨(head t.val 1).val * 128 + l.val, by omega⟩ : Fin 1024)) := (b_1 m c t q l).trans (V_q m c _)
theorem q_2 (t : Fin cfg0.N) (q : Fin 256) (l : Fin 128) : iblk m c 2 t (ix2 q l) = kSlots (m ((c : Thread nD τ).loc main_arg0)) (ix2 (row t.val q) (⟨(head t.val 2).val * 128 + l.val, by omega⟩ : Fin 1024)) := (b_2 m c t q l).trans (V_q m c _)
theorem q_3 (t : Fin cfg0.N) (q : Fin 256) (l : Fin 128) : iblk m c 3 t (ix2 q l) = kSlots (m ((c : Thread nD τ).loc main_arg0)) (ix2 (row t.val q) (⟨(head t.val 3).val * 128 + l.val, by omega⟩ : Fin 1024)) := (b_3 m c t q l).trans (V_q m c _)
theorem k_4 (t : Fin cfg0.N) (j : Fin 4096) (l : Fin 128) : iblk m c 4 t (ix2 j l) = m ((c : Thread nD τ).loc main_arg1) (ix2 j l) := (b_4 m c t j l).trans (V_k m c _)
theorem sel_blk (t : Fin cfg0.N) (o : Fin 2) (j : Fin 4096) (l : Fin 128) (hl : l.val / 64 = o.val) :
    sel (BitVec.ofNat 32 ((grid0.coords t) 0).val) (BitVec.ofNat 32 o.val) (iblk m c 6 t) (iblk m c 5 t) (ix2 j l) = m ((c : Thread nD τ).loc main_arg2) (ix2 j (⟨(grp t.val).val * 64 + l.val % 64, by omega⟩ : Fin 128)) := by
  rw [co_0 t]
  exact sel_at (m ((c : Thread nD τ).loc main_arg2)) _ _ (fun j l => (b_6 m c t j l).trans (V_s m c j l)) (fun j l => (b_5 m c t j l).trans (V_v m c _)) (grp t.val) o j l hl

theorem tile7 (t : Fin cfg0.N) (q n : Fin 256) : out0_7 (grid0.coords t) (iblk m c 0 t) (iblk m c 1 t) (iblk m c 2 t) (iblk m c 3 t) (iblk m c 4 t) (iblk m c 5 t) (iblk m c 6 t) (ix2 q n)
    = outA (m ((c : Thread nD τ).loc main_arg0)) (m ((c : Thread nD τ).loc main_arg1)) (m ((c : Thread nD τ).loc main_arg2)) (ix2 (row t.val q) (⟨256 * (t.val / 16 % 2) + n.val, by omega⟩ : Fin 512)) := by
  rw [left7]
  unfold outA
  have hn := n.isLt
  by_cases a : n.val / 128 = 0
  · by_cases b : n.val % 128 < 64
    · rw [if_pos a, if_pos b]
      refine (hd_at (W := m ((c : Thread nD τ).loc main_arg2)) t.val 0 (q_0 m c t) (k_4 m c t) _ q _ fun j => sel_blk m c t 0 j _ (by show n.val % 128 / 64 = 0; omega)).trans (oat_of _ _ _ _ ?_ ?_ ?_)
      · show t.val / 16 % 2 = (256 * (t.val / 16 % 2) + n.val) / 256; omega
      · show 0 = (256 * (t.val / 16 % 2) + n.val) / 64 % 4; omega
      · show n.val % 128 % 64 = (256 * (t.val / 16 % 2) + n.val) % 64; omega
    · rw [if_pos a, if_neg b]
      refine (hd_at (W := m ((c : Thread nD τ).loc main_arg2)) t.val 1 (q_1 m c t) (k_4 m c t) _ q _ fun j => sel_blk m c t 1 j _ (by show n.val % 128 / 64 = 1; omega)).trans (oat_of _ _ _ _ ?_ ?_ ?_)
      · show t.val / 16 % 2 = (256 * (t.val / 16 % 2) + n.val) / 256; omega
      · show 1 = (256 * (t.val / 16 % 2) + n.val) / 64 % 4; omega
      · show n.val % 128 % 64 = (256 * (t.val / 16 % 2) + n.val) % 64; omega
  · by_cases b : n.val % 128 < 64
    · rw [if_neg a, if_pos b]
      refine (hd_at (W := m ((c : Thread nD τ).loc main_arg2)) t.val 2 (q_2 m c t) (k_4 m c t) _ q _ fun j => sel_blk m c t 0 j _ (by show n.val % 128 / 64 = 0; omega)).trans (oat_of _ _ _ _ ?_ ?_ ?_)
      · show t.val / 16 % 2 = (256 * (t.val / 16 % 2) + n.val) / 256; omega
      · show 2 = (256 * (t.val / 16 % 2) + n.val) / 64 % 4; omega
      · show n.val % 128 % 64 = (256 * (t.val / 16 % 2) + n.val) % 64; omega
    · rw [if_neg a, if_neg b]
      refine (hd_at (W := m ((c : Thread nD τ).loc main_arg2)) t.val 3 (q_3 m c t) (k_4 m c t) _ q _ fun j => sel_blk m c t 1 j _ (by show n.val % 128 / 64 = 1; omega)).trans (oat_of _ _ _ _ ?_ ?_ ?_)
      · show t.val / 16 % 2 = (256 * (t.val / 16 % 2) + n.val) / 256; omega
      · show 3 = (256 * (t.val / 16 % 2) + n.val) / 64 % 4; omega
      · show n.val % 128 % 64 = (256 * (t.val / 16 % 2) + n.val) % 64; omega

theorem tile8 (t : Fin cfg0.N) (r : Fin 4) (q : Fin 256) : out0_8 (grid0.coords t) (iblk m c 0 t) (iblk m c 1 t) (iblk m c 2 t) (iblk m c 3 t) (iblk m c 4 t) (iblk m c 5 t) (iblk m c 6 t) (ix3 r q 0)
    = lseA (m ((c : Thread nD τ).loc main_arg0)) (m ((c : Thread nD τ).loc main_arg1)) (ix3 (⟨4 * (t.val / 16 % 2) + r.val, by omega⟩ : Fin 8) (row t.val q) 0) := by
  rw [left8]
  unfold lg4 lseA
  have hh : lg (iblk m c 4 t) (![iblk m c 0 t, iblk m c 1 t, iblk m c 2 t, iblk m c 3 t] r) q = lat (m ((c : Thread nD τ).loc main_arg0)) (m ((c : Thread nD τ).loc main_arg1)) (grp t.val) r (row t.val q) := by
    match r with
    | ⟨0, _⟩ => exact lg_at t.val 0 (q_0 m c t) (k_4 m c t) q
    | ⟨1, _⟩ => exact lg_at t.val 1 (q_1 m c t) (k_4 m c t) q
    | ⟨2, _⟩ => exact lg_at t.val 2 (q_2 m c t) (k_4 m c t) q
    | ⟨3, _⟩ => exact lg_at t.val 3 (q_3 m c t) (k_4 m c t) q
  refine hh.trans (lat_of _ _ _ ?_ ?_)
  · show t.val / 16 % 2 = (4 * (t.val / 16 % 2) + r.val) / 4; omega
  · show r.val = (4 * (t.val / 16 % 2) + r.val) % 4; omega

theorem arr7 : (dats m 0 c).arrAt 7 cfg0.N = outA (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  obtain ⟨q, n, rfl⟩ : ∃ (q n : Fin 256), y = ix2 q n := ⟨y 0, y 1, by funext a; match a with | ⟨0, _⟩ => rfl | ⟨1, _⟩ => rfl⟩
  refine (tile7 m c t q n).trans ?_
  blk_ext [ix_7 t, row]
theorem arr8 : (dats m 0 c).arrAt 8 cfg0.N = lseA (m ((c : Thread nD τ).loc main_arg0)) (m ((c : Thread nD τ).loc main_arg1)) := by
  refine (dats m 0 c).arrAt_eq_of_covers 8 _ (by decide +kernel) fun t hf y => ?_
  blk_simp
  rw [after0_8]
  obtain ⟨r, q, z, rfl⟩ : ∃ (r : Fin 4) (q : Fin 256) (z : Fin 1), y = ix3 r q z := ⟨y 0, y 1, y 2, by funext a; match a with | ⟨0, _⟩ => rfl | ⟨1, _⟩ => rfl | ⟨2, _⟩ => rfl⟩
  obtain rfl : z = 0 := Fin.ext (by omega)
  refine (tile8 m c t r q).trans ?_
  blk_ext [ix_8 t, row]

end Cert.Proof.AttnFwd
end
-- ==== Proof.AttnFwdRef.lean ====
module

public import proofs.«01_k».proof.Proof.AttnPre
public import proofs.«01_k».proof.Pre_finite8
public import proofs.«01_k».proof.Proof.Gen.AttnFwdReferenceIdeal.Read

@[expose] public section

set_option maxRecDepth 16384

noncomputable section

namespace Cert.Proof.AttnFwd

open Cert.AttnFwdReferenceIdeal Cert.AttnFwdReferenceIdeal.Gen Cert.AttnFwdReferenceIdeal.Read
open Idealize.ShloMosaic Idealize.ShloMosaic.TcCoe Idealize.SL.Sem
open Cert.Proof.Attn (Sc Mx Ex Ls Pr Reals)

/-! # The forward attention's reference -/

section
variable (Q : FVec Ideal S4096x512 .f32) (K W : FVec Ideal S4096x128 .f32)

theorem f8 (g : Fin 2) (r : Fin 4) (i j : Fin 4096) : val_main_v8 (F := Ideal) Q K (ix4 g r i j) = Sc Q K g r i j := by
  unfold Sc; pointwise [val_main_v8, val_main_v7, val_main_v5, val_main_v4]
theorem f3 (g : Fin 2) (r : Fin 4) (i j : Fin 4096) : val_main_v3 (F := Ideal) Q K (ix4 g r i j) = Sc Q K g r i j := by
  unfold Sc; pointwise [val_main_v3, val_main_v2, val_main_v1, val_main_v0]
theorem f9 (g : Fin 2) (r : Fin 4) (i : Fin 4096) : val_main_v9 (F := Ideal) Q K (ix3 g r i) = Mx Q K g r i := by
  have e : val_main_v9 (F := Ideal) Q K (ix3 g r i) = Finset.fold max (Ideal.ofBits FTy.f32 4286578688#32) (fun j => val_main_v8 (F := Ideal) Q K (ix4 g r i j)) Finset.univ := by
    pointwise [val_main_v9, val_main_cst]
  rw [e]; unfold Mx; exact congrArg (fun f => Finset.fold max _ f Finset.univ) (funext fun j => f8 Q K g r i j)
theorem max_at (A B : FVec Ideal S2x4x4096 .f32) (k : S2x4x4096.Idx) : maximumf (φ := .f32) A B k = max (A k) (B k) := rfl
theorem f10 (g : Fin 2) (r : Fin 4) (i : Fin 4096) : val_main_v10 (F := Ideal) (ix3 g r i) = Ideal.ofBits FTy.f32 4286578688#32 := by
  pointwise [val_main_v10, val_main_cst_0]
theorem f11 (g : Fin 2) (r : Fin 4) (i : Fin 4096) : val_main_v11 (F := Ideal) Q K (ix3 g r i) = Mx Q K g r i := by
  unfold val_main_v11
  rw [max_at, f10, f9, Cert.Proof.Attn.negInf, max_eq_right bot_le]
theorem f15 (g : Fin 2) (r : Fin 4) (i j : Fin 4096) : val_main_v15 (F := Ideal) Q K (ix4 g r i j) = Ex Q K g r i j := by
  unfold Ex
  rw [← f11, ← f8]
  unfold val_main_v15 val_main_v14 val_main_v13 val_main_v12
  generalize val_main_v8 (F := Ideal) Q K = X
  generalize val_main_v11 (F := Ideal) Q K = Y
  pointwise
theorem f17 (g : Fin 2) (r : Fin 4) (i : Fin 4096) : val_main_v17 (F := Ideal) Q K (ix4 g r i 0) = Ls Q K g r i := by
  have e : val_main_v17 (F := Ideal) Q K (ix4 g r i 0) = ∑ j : Fin 4096, val_main_v15 (F := Ideal) Q K (ix4 g r i j) := by
    pointwise [val_main_v17, val_main_v16, val_main_cst_1]
  exact e.trans (Finset.sum_congr rfl fun j _ => f15 Q K g r i j)
theorem f19 (g : Fin 2) (r : Fin 4) (i j : Fin 4096) : val_main_v19 (F := Ideal) Q K (ix4 g r i j) = Pr Q K g r i j := by
  unfold Pr
  rw [← f15, ← f17]
  pointwise [val_main_v19, val_main_v18]
theorem f22 (i : Fin 4096) (n : Fin 512) : val_main_v22 (F := Ideal) Q K W (ix2 i n)
    = ∑ j : Fin 4096, W (ix2 j (⟨n.val / 256 * 64 + n.val % 64, by omega⟩ : Fin 128)) * Pr Q K (⟨n.val / 256, by omega⟩ : Fin 2) (⟨n.val / 64 % 4, by omega⟩ : Fin 4) i j := by
  have e : val_main_v22 (F := Ideal) Q K W (ix2 i n)
      = ∑ j : Fin 4096, W (ix2 j (⟨n.val / 256 * 64 + n.val % 64, by omega⟩ : Fin 128)) * val_main_v19 (F := Ideal) Q K (ix4 (⟨n.val / 256, by omega⟩ : Fin 2) (⟨n.val / 64 % 4, by omega⟩ : Fin 4) i j) := by
    unfold val_main_v22 val_main_v21 val_main_v20
    generalize val_main_v19 (F := Ideal) Q K = P
    pointwise [val_main_v6]
  exact e.trans (Finset.sum_congr rfl fun j _ => congrArg _ (f19 Q K _ _ i j))
theorem f24 (g : Fin 2) (r : Fin 4) (i : Fin 4096) : val_main_v24 (F := Ideal) Q K (ix3 g r i) = ∑ j : Fin 4096, Ideal.exp (Sc Q K g r i j) := by
  have e : val_main_v24 (F := Ideal) Q K (ix3 g r i) = ∑ j : Fin 4096, Ideal.exp (val_main_v3 (F := Ideal) Q K (ix4 g r i j)) := by
    pointwise [val_main_v24, val_main_v23, val_main_cst_2]
  exact e.trans (Finset.sum_congr rfl fun j _ => congrArg Ideal.exp (f3 Q K g r i j))
theorem f26 (h : Fin 8) (i : Fin 4096) : val_main_v26 (F := Ideal) Q K (ix3 h i 0)
    = Ideal.log (∑ j : Fin 4096, Ideal.exp (Sc Q K (⟨h.val / 4, by omega⟩ : Fin 2) (⟨h.val % 4, by omega⟩ : Fin 4) i j)) := by
  rw [← f24]
  unfold val_main_v26 val_main_v25
  generalize val_main_v24 (F := Ideal) Q K = X
  pointwise
end

/-! ## The kernel's forms are the reference's, over real scores -/

section
variable {Q : FVec Ideal S4096x512 .f32} {K W : FVec Ideal S4096x128 .f32} (hQ : Reals Q) (hK : Reals K) (g : Fin 2) (r : Fin 4) (i : Fin 4096)

/-- A nonnegative real factor distributes over a sum of extended reals. -/
theorem sum_mul_real {ι : Type} (s : Finset ι) (f : ι → EReal) (x : ℝ) (hx : 0 ≤ x) : (∑ j ∈ s, f j) * (x : EReal) = ∑ j ∈ s, f j * (x : EReal) := by
  classical
  induction s using Finset.induction_on with
  | empty => simp
  | insert a s ha ih => rw [Finset.sum_insert ha, Finset.sum_insert ha, EReal.right_distrib_of_nonneg_of_ne_top (EReal.coe_nonneg.mpr hx) (EReal.coe_ne_top x), ih]

include hQ hK in
/-- Dividing once the sum is formed is dividing each exponential. -/
theorem soft_out (w : Fin 4096 → EReal) : (∑ j : Fin 4096, Ex Q K g r i j * w j) * Ideal.div 1 (Ls Q K g r i) = ∑ j : Fin 4096, w j * Pr Q K g r i j := by
  obtain ⟨s, m, hs, hM, hE, hL, hpos, hP⟩ := Cert.Proof.Attn.soft_real hQ hK g r i
  have e1 : Ideal.div 1 (Ls Q K g r i) = ((1 / ∑ j, Real.exp (s j - m) : ℝ) : EReal) := by
    rw [hL, ← EReal.coe_one, Cert.Proof.Attn.div_real _ _ hpos.ne']
  rw [e1, sum_mul_real _ _ _ (by positivity)]
  refine Finset.sum_congr rfl fun j _ => ?_
  rw [hE, hP, mul_comm ((Real.exp (s j - m) : ℝ) : EReal) (w j), mul_assoc, ← EReal.coe_mul, mul_one_div]

include hQ hK in
/-- The greatest score and the log of the shifted exponentials' sum make the log of the exponentials' sum. -/
theorem soft_lse : Mx Q K g r i + Ideal.log (Ls Q K g r i) = Ideal.log (∑ j : Fin 4096, Ideal.exp (Sc Q K g r i j)) := by
  obtain ⟨s, m, hs, hM, hE, hL, hpos, hP⟩ := Cert.Proof.Attn.soft_real hQ hK g r i
  have e : ∑ j : Fin 4096, Ideal.exp (Sc Q K g r i j) = ((∑ j, Real.exp (s j) : ℝ) : EReal) := by
    rw [Cert.Proof.Attn.coe_sum']
    exact Finset.sum_congr rfl fun j _ => by rw [hs, Ideal.exp_coe]
  have hp : 0 < ∑ j : Fin 4096, Real.exp (s j) := Finset.sum_pos (fun j _ => Real.exp_pos _) ⟨0, Finset.mem_univ _⟩
  have e2 : ∑ j : Fin 4096, Real.exp (s j) = Real.exp m * ∑ j : Fin 4096, Real.exp (s j - m) := by
    rw [Finset.mul_sum]
    exact Finset.sum_congr rfl fun j _ => by rw [← Real.exp_add]; congr 1; ring
  rw [hM, hL, e, Ideal.log_coe, Ideal.log_coe, if_neg (not_le.mpr hpos), if_neg (not_le.mpr hp), ← EReal.coe_add, e2, Real.log_mul (Real.exp_ne_zero m) hpos.ne', Real.log_exp]
end

/-! ## What the precondition says: every entry of the queries and keys is a real number -/

/-- The shape facts the precondition states. -/
theorem pre_facts : Cert.Pre_finite8.Facts where
  bcast_S_S4096x512 := by decide
  bcast_S_S4096x128 := by decide
  concatenates_S4096x512_S4096x128_S4096x640_d1 := by decide

section
variable (x0 : IVec S4096x512 1) (x1 : IVec S4096x128 1) (hc : Shape.Concatenates [S4096x512, S4096x128] Cert.Pre_finite8.S4096x640 1)
theorem cat_0 (k : S4096x512.Idx) : concatenate Cert.Pre_finite8.S4096x640 1 [⟨S4096x512, x0⟩, ⟨S4096x128, x1⟩] hc (ix2 (k 0) (⟨0 + (k 1).val, by have : (k 1).val < 512 := (k 1).isLt; omega⟩ : Fin 640)) = x0 k :=
  concatenate_apply_piece (t := Cert.Pre_finite8.S4096x640) 1 [⟨S4096x512, x0⟩, ⟨S4096x128, x1⟩] hc _ 0 (by simp) S4096x512 x0 rfl rfl 0 rfl k
    (fun b hb => by match b, hb with | ⟨0, _⟩, _ => rfl | ⟨1, _⟩, hb => exact absurd rfl hb) rfl
theorem cat_1 (k : S4096x128.Idx) : concatenate Cert.Pre_finite8.S4096x640 1 [⟨S4096x512, x0⟩, ⟨S4096x128, x1⟩] hc (ix2 (k 0) (⟨512 + (k 1).val, by have : (k 1).val < 128 := (k 1).isLt; omega⟩ : Fin 640)) = x1 k :=
  concatenate_apply_piece (t := Cert.Pre_finite8.S4096x640) 1 [⟨S4096x512, x0⟩, ⟨S4096x128, x1⟩] hc _ 1 (by simp) S4096x128 x1 rfl rfl 512 rfl k
    (fun b hb => by match b, hb with | ⟨0, _⟩, _ => rfl | ⟨1, _⟩, hb => exact absurd rfl hb) rfl
end

section
variable [hF : Cert.Pre_finite8.Facts]
/-- The precondition, decoded. -/
theorem reals_of (Q : FVec Ideal S4096x512 .f32) (K W : FVec Ideal S4096x128 .f32)
    (h : Cert.Pre_finite8.fn (F := Ideal) Q K W = fun _ => 1#1) : Reals Q ∧ Reals K := by
  unfold Cert.Pre_finite8.fn at h
  refine ⟨fun k => ?_, fun k => ?_⟩
  · refine Cert.Proof.Attn.real_of_lt (Q k) (Eq.trans (Eq.symm ?_) (congrFun h (ix2 (k 0) (⟨0 + (k 1).val, by have : (k 1).val < 512 := (k 1).isLt; omega⟩ : Fin 640))))
    exact cat_0 _ _ _ k
  · refine Cert.Proof.Attn.real_of_lt (K k) (Eq.trans (Eq.symm ?_) (congrFun h (ix2 (k 0) (⟨512 + (k 1).val, by have : (k 1).val < 128 := (k 1).isLt; omega⟩ : Fin 640))))
    exact cat_1 _ _ _ k
end

end Cert.Proof.AttnFwd
end
-- ==== Proof.AttnFwdClaim.lean ====
module

public import proofs.«01_k».proof.Proof.AttnFwdVal
public import proofs.«01_k».proof.Proof.AttnFwdRef
public import proofs.«01_k».proof.Proof.Gen.AttnFwdIdeal
public import proofs.«01_k».proof.Proof.Gen.AttnFwdReferenceIdeal
public import proofs.«01_k».proof.Proof.Gen.AttnFwdReferenceIdeal.Run
public import proofs.«01_k».proof.Defs
public import Idealize.ShloMosaic.Lib.Claim
public import Idealize.ShloMosaic.Lib.Quiescent

@[expose] public section

set_option maxRecDepth 16384

noncomputable section

namespace Cert.Proof.AttnFwd

open Idealize.ShloMosaic Idealize.ShloMosaic.TcCoe Idealize.SL.Sem

/-! # The forward attention's claims -/

/-- The program read over the extended reals: it terminates, its arguments end unchanged, its counters at zero. -/
theorem frame_ideal : Cert.quiescent_AttnFwdIdeal (hAttnFwdIdeal := Cert.AttnFwdIdeal.Gen.facts) := fun m g _ => Cert.AttnFwdIdeal.Gen.frame (F := Ideal) m g

/-- The same of the reference. -/
theorem frame_reference : Cert.quiescent_AttnFwdReferenceIdeal (hAttnFwdReferenceIdeal := Cert.AttnFwdReferenceIdeal.Gen.facts) := fun m g _ =>
  (θ_run Cert.AttnFwdReferenceIdeal.defs _ _).mono (fun r h => ⟨fun c => (h c).2.2, sem_eq_zero_of_no_sems (by decide) r.2⟩) (Cert.AttnFwdReferenceIdeal.Value.run m g)

section
open Cert.AttnFwdReferenceIdeal Cert.AttnFwdReferenceIdeal.Gen Cert.AttnFwdReferenceIdeal.Read
set_option maxHeartbeats 2000000 in
/-- The reference runs to its two composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = val_main_v22 (F := Ideal) (m ((c.tc : Thread nD τ).loc main_arg0)) (m ((c.tc : Thread nD τ).loc main_arg1)) (m ((c.tc : Thread nD τ).loc main_arg2))
      ∧ r.2.mem ((c.tc : Thread nD τ).loc main_v26) = val_main_v26 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v22_eq (m ((c.tc : Thread nD τ).loc main_arg0)) (m ((c.tc : Thread nD τ).loc main_arg1)) (m ((c.tc : Thread nD τ).loc main_arg2))),
    (h c).2.1.trans (val_main_v26_eq (m ((c.tc : Thread nD τ).loc main_arg0)) (m ((c.tc : Thread nD τ).loc main_arg1))),
    (h c).2.2⟩)
    (Cert.AttnFwdReferenceIdeal.Value.run m ρ)
end

section
open Cert.AttnFwdReferenceIdeal Cert.AttnFwdReferenceIdeal.Read
variable {Q : FVec Ideal S4096x512 .f32} {K : FVec Ideal S4096x128 .f32} (W : FVec Ideal S4096x128 .f32) (hQ : Cert.Proof.Attn.Reals Q) (hK : Cert.Proof.Attn.Reals K)
include hQ hK in
/-- The reference's outputs are the kernel's, -/
theorem v22 : val_main_v22 (F := Ideal) Q K W = outA Q K W := funext fun y => by
  obtain ⟨i, n, rfl⟩ : ∃ (i : Fin 4096) (n : Fin 512), y = ix2 i n := ⟨y 0, y 1, by funext a; match a with | ⟨0, _⟩ => rfl | ⟨1, _⟩ => rfl⟩
  exact (f22 Q K W i n).trans (soft_out hQ hK (⟨n.val / 256, by omega⟩ : Fin 2) (⟨n.val / 64 % 4, by omega⟩ : Fin 4) i _).symm
include hQ hK in
/-- and its log-sums. -/
theorem v26 : val_main_v26 (F := Ideal) Q K = lseA Q K := funext fun y => by
  obtain ⟨h, i, z, rfl⟩ : ∃ (h : Fin 8) (i : Fin 4096) (z : Fin 1), y = ix3 h i z := ⟨y 0, y 1, y 2, by funext a; match a with | ⟨0, _⟩ => rfl | ⟨1, _⟩ => rfl | ⟨2, _⟩ => rfl⟩
  obtain rfl : z = 0 := Fin.ext (by omega)
  exact (f26 Q K h i).trans (soft_lse hQ hK (⟨h.val / 4, by omega⟩ : Fin 2) (⟨h.val % 4, by omega⟩ : Fin 4) i).symm
end

/-- The program's two results are the reference's, whenever every entry of the queries and keys is a real number. -/
theorem values : Cert.algebraic_AttnFwdIdeal_AttnFwdReferenceIdeal_pre_finite8 (hAttnFwdIdeal := Cert.AttnFwdIdeal.Gen.facts) (hAttnFwdReferenceIdeal := Cert.AttnFwdReferenceIdeal.Gen.facts) (hPre_finite8 := pre_facts) := by
  intro m g m' g' hpre hag
  have hre := fun c => reals_of (hF := pre_facts) _ _ _ (hpre c)
  refine ⟨fun c => (Cert.AttnFwdIdeal.Gen.dats m 0 c).arrAt 7 Cert.AttnFwdIdeal.cfg0.N, fun c => (Cert.AttnFwdIdeal.Gen.dats m 0 c).arrAt 8 Cert.AttnFwdIdeal.cfg0.N, ?_, ?_⟩
  · exact Cert.AttnFwdIdeal.Value.run_blocks m g
  · refine (θ_run Cert.AttnFwdReferenceIdeal.defs _ _).mono (fun r h c => ?_) (run_reference m' g')
    obtain ⟨hQ, hK⟩ := hre c
    obtain ⟨e0, e1, e2⟩ := hag c
    refine ⟨(h c).1.trans ?_, (h c).2.1.trans ?_, (h c).2.2⟩
    · rw [e0, e1, e2]; exact (v22 _ hQ hK).trans (arr7 m c).symm
    · rw [e0, e1]; exact (v26 hQ hK).trans (arr8 m c).symm

end Cert.Proof.AttnFwd
end
-- ==== Proof.AttnFwdSameText.lean ====
module

public import proofs.«01_k».proof.Proof.Gen.AttnFwd
public import proofs.«01_k».proof.Proof.Gen.AttnFwdIdeal

@[expose] public section

set_option maxRecDepth 16384
set_option maxHeartbeats 0

namespace Cert.Proof.AttnFwdSameText

open Idealize.ShloMosaic

variable {F : FTy → Type} [FloatOps F]

/-! ## The attention's forward call and its ideal reading are one text -/

/-- The two programs' `main` is the same program, -/
theorem main_eq : Cert.AttnFwd.main (F := F) = Cert.AttnFwdIdeal.main (F := F) := rfl

/-- the body that the call runs is the same, -/
theorem body_eq : Cert.AttnFwd.defs₀ (F := F) = Cert.AttnFwdIdeal.defs₀ (F := F) := by
  unfold Cert.AttnFwd.defs₀ Cert.AttnFwdIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.AttnFwd.defs (F := F) = Cert.AttnFwdIdeal.defs (F := F) := by
  unfold Cert.AttnFwd.defs Cert.AttnFwdIdeal.defs
  rw [body_eq]
  rfl

end Cert.Proof.AttnFwdSameText

end
-- ==== Proof.MixOutBwdPay.lean ====
module

public import proofs.«01_k».proof.Proof.MixOutVal
public import proofs.«01_k».proof.Proof.AttnHost
public import proofs.«01_k».proof.Proof.Gen.MixOutBwdIdeal.Value

@[expose] public section

set_option maxRecDepth 16384

noncomputable section

namespace Cert.Proof.MixOutBwd

open Cert.MixOutBwdIdeal Cert.MixOutBwdIdeal.Gen
open Idealize.ShloMosaic.Pipeline (Dat)
open Idealize.ShloMosaic Idealize.ShloMosaic.TcCoe Idealize.SL.Sem
open Cert.Proof.MixOut (ex2 part ex_part bra br br_at pw pw_at rowO cut)
open Cert.Proof.Attn (kSlots kSlots_at)

/-! # The arrays of the branches' backward call -/

/-! ## What the arrays hold -/

/-- The first gate's weight of a row and column. -/
def ga (P : S4096x2048.Idx → EReal) (t : Fin 4096) (j : Fin 1024) : EReal := Ideal.logistic (P (ix2 t (⟨j.val, by omega⟩ : Fin 2048)))
/-- The second gate's. -/
def gb (P : S4096x2048.Idx → EReal) (t : Fin 4096) (j : Fin 1024) : EReal := Ideal.logistic (P (ix2 t (⟨1024 + j.val, by omega⟩ : Fin 2048)))
/-- The gradient of the merged branches: the incoming row against the rows of the output weight. -/
def gm (D : S4096x1024.Idx → EReal) (W : S1024x1024.Idx → EReal) (t : Fin 4096) (j : Fin 1024) : EReal := ∑ n : Fin 1024, D (ix2 t n) * W (ix2 j n)
/-- A gate's gradient, from the merged gradient, its branch and its weight. -/
def gate (d y s : EReal) : EReal := d * y * s * (1 - s)
/-- The merged branches. -/
def mgA (O1 O2 : S4096x512.Idx → EReal) (P : S4096x2048.Idx → EReal) (W4 W5 : S512x1024.Idx → EReal) : S4096x1024.Idx → EReal :=
  fun i => ga P (i 0) (i 1) * bra O1 W4 (i 0) (i 1) + gb P (i 0) (i 1) * bra O2 W5 (i 0) (i 1)
/-- The gradients of the branches' products. -/
def yaA (D : S4096x1024.Idx → EReal) (P : S4096x2048.Idx → EReal) (W : S1024x1024.Idx → EReal) : S4096x1024.Idx → EReal := fun i => gm D W (i 0) (i 1) * ga P (i 0) (i 1)
def ybA (D : S4096x1024.Idx → EReal) (P : S4096x2048.Idx → EReal) (W : S1024x1024.Idx → EReal) : S4096x1024.Idx → EReal := fun i => gm D W (i 0) (i 1) * gb P (i 0) (i 1)
/-- The gradients of the gates, the two side by side. -/
def gtA (D : S4096x1024.Idx → EReal) (O1 O2 : S4096x512.Idx → EReal) (P : S4096x2048.Idx → EReal) (W4 W5 : S512x1024.Idx → EReal) (W : S1024x1024.Idx → EReal) : S4096x2048.Idx → EReal :=
  fun i => if h : (i 1).val < 1024 then gate (gm D W (i 0) ⟨(i 1).val, h⟩) (bra O1 W4 (i 0) ⟨(i 1).val, h⟩) (ga P (i 0) ⟨(i 1).val, h⟩)
    else gate (gm D W (i 0) ⟨(i 1).val - 1024, by have : (i 1).val < 2048 := (i 1).isLt; omega⟩) (bra O2 W5 (i 0) ⟨(i 1).val - 1024, by have : (i 1).val < 2048 := (i 1).isLt; omega⟩) (gb P (i 0) ⟨(i 1).val - 1024, by have : (i 1).val < 2048 := (i 1).isLt; omega⟩)
/-- The gradient of a branch's output: the product's gradient against the rows of the branch's weight. -/
def back (Y : S4096x1024.Idx → EReal) (W : S512x1024.Idx → EReal) : S4096x512.Idx → EReal := fun i => ∑ j : Fin 1024, Y (ix2 (i 0) j) * W (ix2 (i 1) j)

theorem sum_part (f : Fin 1024 → EReal) : ∑ e : Fin 4, ∑ n : Fin 256, f (part e n) = ∑ j, f j := by
  rw [← Fintype.sum_prod_type']
  exact Fintype.sum_equiv (Equiv.ofBijective (fun p : Fin 4 × Fin 256 => part p.1 p.2) ⟨fun p q h => by
    have h' : p.1.val * 256 + p.2.val = q.1.val * 256 + q.2.val := congrArg Fin.val h
    have := p.2.isLt; have := q.2.isLt
    exact Prod.ext (Fin.ext (by omega)) (Fin.ext (by omega)), fun j => by obtain ⟨e, n, rfl⟩ := ex_part j; exact ⟨(e, n), rfl⟩⟩) _ _ fun _ => rfl

/-! ## The body's values, at an index -/

theorem p8_at (x : Vec Ideal S512x1024 .bf16) (q : Fin 512) (j : Fin 1024) : k0_pay8 x (ix2 q j) = Ideal.logistic (x (ix2 q j)) := by pointwise [k0_pay8]
theorem p9_at (x : Vec Ideal S512x1024 .bf16) (q : Fin 512) (j : Fin 1024) : k0_pay9 x (ix2 q j) = Ideal.logistic (x (ix2 q j)) := by pointwise [k0_pay9]
theorem p11_at (x : Vec Ideal S512x1024 .f32) (w : Vec Ideal S1024x1024 .bf16) (q : Fin 512) (j : Fin 1024) : k0_pay11 x w (ix2 q j) = ∑ n : Fin 1024, x (ix2 q n) * w (ix2 j n) := by pointwise [k0_pay11]

/-- The merged branches of a tile. -/
def mg (A B S R : FVec Ideal S512x1024 .f32) : FVec Ideal S512x1024 .bf16 := truncf .bf16 (addf (mulf S A) (mulf R B)) bitsLt_bf16_f32
theorem mg_at (A B S R : FVec Ideal S512x1024 .f32) (q : Fin 512) (j : Fin 1024) : mg A B S R (ix2 q j) = S (ix2 q j) * A (ix2 q j) + R (ix2 q j) * B (ix2 q j) := by pointwise [mg]
/-- The gates' gradients of a tile. -/
def gt1 (D A S : FVec Ideal S512x1024 .f32) : FVec Ideal S512x1024 .f32 := mulf (mulf (mulf D A) S) (subf (broadcast S512x1024 (Scalar.ofBits (F := Ideal) .f32 0x3F800000#32)) S)
theorem gt1_at (D A S : FVec Ideal S512x1024 .f32) (q : Fin 512) (j : Fin 1024) : gt1 D A S (ix2 q j) = gate (D (ix2 q j)) (A (ix2 q j)) (S (ix2 q j)) := by
  have e : gt1 D A S (ix2 q j) = D (ix2 q j) * A (ix2 q j) * S (ix2 q j) * (Ideal.ofBits .f32 0x3F800000#32 - S (ix2 q j)) := by pointwise [gt1]
  rw [e, Ideal.ofBits_one_f32]; rfl
def gt (X Y : FVec Ideal S512x1024 .f32) : FVec Ideal S512x2048 .bf16 := truncf .bf16 (concatenate S512x2048 1 [⟨S512x1024, X⟩, ⟨S512x1024, Y⟩] concatenates_S512x1024_S512x1024_S512x2048_d1) bitsLt_bf16_f32
theorem gt_at (X Y : FVec Ideal S512x1024 .f32) (q : Fin 512) (n : Fin 2048) : gt X Y (ix2 q n) = if h : n.val < 1024 then X (ix2 q (⟨n.val, h⟩ : Fin 1024)) else Y (ix2 q (⟨n.val - 1024, by omega⟩ : Fin 1024)) := by pointwise [gt]
/-- A product's gradient of a tile. -/
theorem md_at (D S : FVec Ideal S512x1024 .f32) (q : Fin 512) (j : Fin 1024) : mulf D S (ix2 q j) = D (ix2 q j) * S (ix2 q j) := rfl

/-- The four products of the parts of columns, one after the other. -/
def bk (Y : FVec Ideal S512x1024 .f32) (W : Fin 4 → Vec Ideal S1x512x256 .bf16) : FVec Ideal S512x512 .f32 := k0_pay20 Y (k0_pay17 Y (W 0) (W 1)) (k0_pay19 Y (W 2)) (W 3)
theorem p17_at (Y : FVec Ideal S512x1024 .f32) (W : Fin 4 → Vec Ideal S1x512x256 .bf16) (q k : Fin 512) : k0_pay17 Y (W 0) (W 1) (ix2 q k)
    = ∑ n : Fin 256, Y (ix2 q (part 0 n)) * W 0 (ix3 0 k n) + ∑ n : Fin 256, Y (ix2 q (part 1 n)) * W 1 (ix3 0 k n) := by
  unfold part; pointwise [k0_pay17]
theorem p19_at (Y : FVec Ideal S512x1024 .f32) (W : Fin 4 → Vec Ideal S1x512x256 .bf16) (q k : Fin 512) : k0_pay19 Y (W 2) (ix2 q k) = ∑ n : Fin 256, Y (ix2 q (part 2 n)) * W 2 (ix3 0 k n) := by
  unfold part; pointwise [k0_pay19]
theorem p20_at (Y : FVec Ideal S512x1024 .f32) (U V : FVec Ideal S512x512 .f32) (W : Fin 4 → Vec Ideal S1x512x256 .bf16) (q k : Fin 512) : k0_pay20 Y U V (W 3) (ix2 q k)
    = U (ix2 q k) + V (ix2 q k) + ∑ n : Fin 256, Y (ix2 q (part 3 n)) * W 3 (ix3 0 k n) := by
  unfold part; pointwise [k0_pay20]
theorem bk_at (Y : FVec Ideal S512x1024 .f32) (W : Fin 4 → Vec Ideal S1x512x256 .bf16) (q k : Fin 512) : bk Y W (ix2 q k) = ∑ e : Fin 4, ∑ n : Fin 256, Y (ix2 q (part e n)) * W e (ix3 0 k n) := by
  rw [Fin.sum_univ_four]
  unfold bk; rw [p20_at, p17_at, p19_at]
/-- The second branch's are the same text. -/
theorem bk_b (Y : FVec Ideal S512x1024 .f32) (W : Fin 4 → Vec Ideal S1x512x256 .bf16) : k0_pay21 Y (k0_pay18 Y (W 0) (W 1)) (W 2) (W 3) = bk Y W := rfl
/-- Laid out in the slots. -/
def sl (X : FVec Ideal S512x512 .f32) (E : Vec Ideal S512x1024 .bf16) : FVec Ideal S512x1024 .bf16 :=
  truncf .bf16 (matmul dot_S512x512_S512x1024_S512x1024_1_0_0_1_n_n none (truncf .bf16 X bitsLt_bf16_f32 : FVec Ideal S512x512 .bf16) (shapeCast S512x1024 E shapeCasts_S512x1024_S512x1024 : FVec Ideal S512x1024 .bf16) (constant S512x1024 .f32 0x00000000#32)) bitsLt_bf16_f32
theorem sl_at (X : FVec Ideal S512x512 .f32) (E : Vec Ideal S512x1024 .bf16) (q : Fin 512) (n : Fin 1024) : sl X E (ix2 q n) = ∑ k : Fin 512, X (ix2 q k) * E (ix2 k n) := by pointwise [sl]

/-! ## What the body leaves of the blocks -/

variable (x0 : Vec Ideal S512x1024 .f32) (x1 x2 : Vec Ideal S512x512 .f32) (x3 x4 : Vec Ideal S512x1024 .bf16) (x5 x6 : Vec Ideal S4x512x256 .bf16) (x7 : Vec Ideal S1024x1024 .bf16) (x8 x9 : Vec Ideal S512x1024 .bf16)

theorem ldx (x : Vec Ideal S512x512 .f32) : View.ld x r0_0 = x := View.ld_unit_zero (by decide) _ x
theorem ldy (x : Vec Ideal S512x1024 .bf16) : View.ld x r0_5 = x := View.ld_unit_zero (by decide) _ x
theorem ldz (x : Vec Ideal S512x1024 .f32) : View.ld x r0_5 = x := View.ld_unit_zero (by decide) _ x
theorem ldo (x : Vec Ideal S1024x1024 .bf16) : View.ld x r0_6 = x := View.ld_unit_zero (by decide) _ x

theorem left10 : out0_10 x0 x1 x2 x3 x4 x5 x6 x7 x8 x9 = gt (gt1 (k0_pay11 x0 x7) (br x1 (pw x5)) (k0_pay8 x3)) (gt1 (k0_pay11 x0 x7) (br x2 (pw x6)) (k0_pay9 x4)) := by
  unfold out0_10 k0_pay29 k0_pay28 k0_pay27 k0_pay26 k0_pay25
  rw [View.canon_unit_zero (by decide), ldx, ldx, ldy, ldy, ldz, ldo]
  rfl
theorem left11 : out0_11 x0 x1 x2 x3 x4 x5 x6 x7 x8 x9 = mg (br x1 (pw x5)) (br x2 (pw x6)) (k0_pay8 x3) (k0_pay9 x4) := by
  unfold out0_11 k0_pay29 k0_pay28 k0_pay27 k0_pay26 k0_pay25
  rw [View.canon_unit_zero (by decide), ldx, ldx, ldy, ldy]
  rfl
theorem left12 : out0_12 x0 x1 x2 x3 x4 x5 x6 x7 x8 x9 = truncf .bf16 (mulf (k0_pay11 x0 x7) (k0_pay8 x3)) bitsLt_bf16_f32 := by
  unfold out0_12
  rw [View.canon_unit_zero (by decide), ldy, ldz, ldo]
  rfl
theorem left13 : out0_13 x0 x1 x2 x3 x4 x5 x6 x7 x8 x9 = truncf .bf16 (mulf (k0_pay11 x0 x7) (k0_pay9 x4)) bitsLt_bf16_f32 := by
  unfold out0_13 k0_pay31
  rw [View.canon_unit_zero (by decide), ldy, ldz, ldo]
  rfl
theorem left14 : out0_14 x0 x1 x2 x3 x4 x5 x6 x7 x8 x9 = sl (bk (mulf (k0_pay11 x0 x7) (k0_pay8 x3)) (pw x5)) x8 := by
  unfold out0_14 k0_pay33 k0_pay32 k0_pay30
  rw [View.canon_unit_zero (by decide), ldy, ldy, ldz, ldo]
  rfl
theorem left16 : out0_16 x0 x1 x2 x3 x4 x5 x6 x7 x8 x9 = bk (mulf (k0_pay11 x0 x7) (k0_pay9 x4)) (pw x6) := by
  unfold out0_16 k0_pay31
  rw [View.canon_unit_zero (by decide), ldy, ldz, ldo]
  rfl

end Cert.Proof.MixOutBwd
end
-- ==== Proof.MixOutBwdVal.lean ====
module

public import proofs.«01_k».proof.Proof.MixOutBwdPay

@[expose] public section

set_option maxRecDepth 16384

noncomputable section

namespace Cert.Proof.MixOutBwd

open Cert.MixOutBwdIdeal Cert.MixOutBwdIdeal.Gen
open Idealize.ShloMosaic.Pipeline (Dat)
open Idealize.ShloMosaic Idealize.ShloMosaic.TcCoe Idealize.SL.Sem
open Cert.Proof.MixOut (ex2 part ex_part bra br br_at pw pw_at rowO cut)
open Cert.Proof.Attn (kSlots kSlots_at)

/-! # What the six arrays hold after the call -/

variable (m : (ℓ : Loc nD τ sig) → Buf (Elt Ideal) ℓ) (c : Dev nD)

/-! ## The windows' blocks at a point -/

theorem ix_0 : ∀ t : Fin cfg0.N, win0_0.index t = ![t.val % 8, 0] := (by decide +kernel : ∀ t : Fin grid0.N, win0_0.index t = ![t.val % 8, 0])
theorem ix_1 : ∀ t : Fin cfg0.N, win0_1.index t = ![t.val % 8, 0] := (by decide +kernel : ∀ t : Fin grid0.N, win0_1.index t = ![t.val % 8, 0])
theorem ix_2 : ∀ t : Fin cfg0.N, win0_2.index t = ![t.val % 8, 0] := (by decide +kernel : ∀ t : Fin grid0.N, win0_2.index t = ![t.val % 8, 0])
theorem ix_3 : ∀ t : Fin cfg0.N, win0_3.index t = ![t.val % 8, 0] := (by decide +kernel : ∀ t : Fin grid0.N, win0_3.index t = ![t.val % 8, 0])
theorem ix_4 : ∀ t : Fin cfg0.N, win0_4.index t = ![t.val % 8, 1] := (by decide +kernel : ∀ t : Fin grid0.N, win0_4.index t = ![t.val % 8, 1])
theorem ix_5 : ∀ t : Fin cfg0.N, win0_5.index t = ![0, 0, 0] := (by decide +kernel : ∀ t : Fin grid0.N, win0_5.index t = ![0, 0, 0])
theorem ix_6 : ∀ t : Fin cfg0.N, win0_6.index t = ![0, 0, 0] := (by decide +kernel : ∀ t : Fin grid0.N, win0_6.index t = ![0, 0, 0])
theorem ix_7 : ∀ t : Fin cfg0.N, win0_7.index t = ![0, 0] := (by decide +kernel : ∀ t : Fin grid0.N, win0_7.index t = ![0, 0])
theorem ix_8 : ∀ t : Fin cfg0.N, win0_8.index t = ![0, 0] := (by decide +kernel : ∀ t : Fin grid0.N, win0_8.index t = ![0, 0])
theorem ix_10 : ∀ t : Fin cfg0.N, win0_10.index t = ![t.val % 8, 0] := (by decide +kernel : ∀ t : Fin grid0.N, win0_10.index t = ![t.val % 8, 0])
theorem ix_11 : ∀ t : Fin cfg0.N, win0_11.index t = ![t.val % 8, 0] := (by decide +kernel : ∀ t : Fin grid0.N, win0_11.index t = ![t.val % 8, 0])
theorem ix_12 : ∀ t : Fin cfg0.N, win0_12.index t = ![t.val % 8, 0] := (by decide +kernel : ∀ t : Fin grid0.N, win0_12.index t = ![t.val % 8, 0])
theorem ix_13 : ∀ t : Fin cfg0.N, win0_13.index t = ![t.val % 8, 0] := (by decide +kernel : ∀ t : Fin grid0.N, win0_13.index t = ![t.val % 8, 0])
theorem ix_14 : ∀ t : Fin cfg0.N, win0_14.index t = ![t.val % 8, 0] := (by decide +kernel : ∀ t : Fin grid0.N, win0_14.index t = ![t.val % 8, 0])
theorem ix_16 : ∀ t : Fin cfg0.N, win0_16.index t = ![t.val % 8, 0] := (by decide +kernel : ∀ t : Fin grid0.N, win0_16.index t = ![t.val % 8, 0])

theorem b_0 (t : Fin cfg0.N) (q : Fin 512) (d : Fin 1024) : iblk m c 0 t (ix2 q d) = V m c main_arg0 (ix2 (rowO t.val q) d) := by blk_ext [iblk, ix_0 t, rowO]
theorem b_1 (t : Fin cfg0.N) (q : Fin 512) (d : Fin 512) : iblk m c 1 t (ix2 q d) = V m c main_arg1 (ix2 (rowO t.val q) d) := by blk_ext [iblk, ix_1 t, rowO]
theorem b_2 (t : Fin cfg0.N) (q : Fin 512) (d : Fin 512) : iblk m c 2 t (ix2 q d) = V m c main_arg2 (ix2 (rowO t.val q) d) := by blk_ext [iblk, ix_2 t, rowO]
theorem b_3 (t : Fin cfg0.N) (q : Fin 512) (d : Fin 1024) : iblk m c 3 t (ix2 q d) = V m c main_v0 (ix2 (rowO t.val q) (⟨d.val, by omega⟩ : Fin 2048)) := by blk_ext [iblk, ix_3 t, rowO]
theorem b_4 (t : Fin cfg0.N) (q : Fin 512) (d : Fin 1024) : iblk m c 4 t (ix2 q d) = V m c main_v0 (ix2 (rowO t.val q) (⟨1024 + d.val, by omega⟩ : Fin 2048)) := by blk_ext [iblk, ix_4 t, rowO]
theorem b_5 (t : Fin cfg0.N) (e : Fin 4) (k : Fin 512) (n : Fin 256) : iblk m c 5 t (ix3 e k n) = V m c main_v3 (ix3 e k n) := by blk_ext [iblk, ix_5 t]
theorem b_6 (t : Fin cfg0.N) (e : Fin 4) (k : Fin 512) (n : Fin 256) : iblk m c 6 t (ix3 e k n) = V m c main_v6 (ix3 e k n) := by blk_ext [iblk, ix_6 t]
theorem b_7 (t : Fin cfg0.N) (j d : Fin 1024) : iblk m c 7 t (ix2 j d) = V m c main_v7 (ix2 j d) := by blk_ext [iblk, ix_7 t]
theorem b_8 (t : Fin cfg0.N) (k : Fin 512) (n : Fin 1024) : iblk m c 8 t (ix2 k n) = V m c main_v20 (ix2 k n) := by blk_ext [iblk, ix_8 t]

theorem V_p (i : S4096x2048.Idx) : V m c main_v0 i = (m ((c : Thread nD τ).loc main_arg3)) i := by
  have e : V m c main_v0 = truncf (F := Ideal) (φ := .f32) .bf16 (m ((c : Thread nD τ).loc main_arg3)) bitsLt_bf16_f32 := by
    after_reads_simp
  exact congrFun e _
theorem V_wa (e : Fin 4) (k : Fin 512) (n : Fin 256) : V m c main_v3 (ix3 e k n) = (m ((c : Thread nD τ).loc main_arg4)) (ix2 k (part e n)) := by
  have h : V m c main_v3 = truncf (F := Ideal) (φ := .f32) .bf16 (transpose S4x512x256 [1, 0, 2] (shapeCast S512x4x256 (m ((c : Thread nD τ).loc main_arg4)) shapeCasts_S512x1024_S512x4x256 : FVec Ideal S512x4x256 .f32) transposes_S512x4x256_S4x512x256_1_0_2) bitsLt_bf16_f32 := by
    after_reads_simp
    rfl
  exact (congrFun h _).trans (cut _ e k n)
theorem V_wb (e : Fin 4) (k : Fin 512) (n : Fin 256) : V m c main_v6 (ix3 e k n) = (m ((c : Thread nD τ).loc main_arg5)) (ix2 k (part e n)) := by
  have h : V m c main_v6 = truncf (F := Ideal) (φ := .f32) .bf16 (transpose S4x512x256 [1, 0, 2] (shapeCast S512x4x256 (m ((c : Thread nD τ).loc main_arg5)) shapeCasts_S512x1024_S512x4x256 : FVec Ideal S512x4x256 .f32) transposes_S512x4x256_S4x512x256_1_0_2) bitsLt_bf16_f32 := by
    after_reads_simp
    rfl
  exact (congrFun h _).trans (cut _ e k n)
theorem V_wo (i : S1024x1024.Idx) : V m c main_v7 i = (m ((c : Thread nD τ).loc main_arg6)) i := by
  have e : V m c main_v7 = truncf (F := Ideal) (φ := .f32) .bf16 (m ((c : Thread nD τ).loc main_arg6)) bitsLt_bf16_f32 := by
    after_reads_simp
  exact congrFun e _

/-- The identity of 512 columns. -/
def eye : FVec Ideal S512x512 .f32 := uitofp (F := Ideal) .f32 (cmpi .eq (iotaInDim S512x512 32 0) (iotaInDim S512x512 32 1))
theorem eye_at (k j : Fin 512) : eye (ix2 k j) = if j = k then (1 : EReal) else 0 := by
  have e : eye (ix2 k j) = (((if BitVec.ofNat 32 k.val = BitVec.ofNat 32 j.val then 1#1 else 0#1 : BitVec 1).toNat : ℝ) : EReal) := by
    pointwise [eye]
    refine congrArg (fun z : BitVec 1 => ((z.toNat : ℝ) : EReal)) (?_ : BitVec.ofBool (BitVec.ofNat 32 k.val == BitVec.ofNat 32 j.val) = _)
    by_cases x : BitVec.ofNat 32 k.val = BitVec.ofNat 32 j.val
    · rw [if_pos x, x, beq_self_eq_true]; rfl
    · rw [if_neg x, beq_false_of_ne x]; rfl
  rw [e]
  by_cases h : j = k
  · rw [if_pos h, h, if_pos rfl]; simp
  · have g : ¬ BitVec.ofNat 32 k.val = BitVec.ofNat 32 j.val := fun x => h (Fin.ext (by
      have y := congrArg BitVec.toNat x
      simp only [BitVec.toNat_ofNat] at y
      omega))
    rw [if_neg h, if_neg g]; simp
/-- The identity laid out in the slots, as the host does it. -/
def eSlots (A : FVec Ideal S512x512 .f32) : FVec Ideal S512x1024 .f32 :=
  shapeCast S512x1024 (concatenate S512x8x128 1
    [⟨S512x4x128, concatenate S512x4x128 2 [⟨S512x4x64, extractStridedSlice S512x4x64 ![0, 0, 0] (shapeCast S512x8x64 A shapeCasts_S512x512_S512x8x64) slices_S512x8x64_S512x4x64_0_0_0⟩,
        ⟨S512x4x64, broadcastInDim S512x4x64 ![] bcast_S_S512x4x64 (constant (F := Ideal) S_ .f32 0x00000000#32)⟩] concatenates_S512x4x64_S512x4x64_S512x4x128_d2⟩,
     ⟨S512x4x128, concatenate S512x4x128 2 [⟨S512x4x64, broadcastInDim S512x4x64 ![] bcast_S_S512x4x64 (constant (F := Ideal) S_ .f32 0x00000000#32)⟩,
        ⟨S512x4x64, extractStridedSlice S512x4x64 ![0, 4, 0] (shapeCast S512x8x64 A shapeCasts_S512x512_S512x8x64) slices_S512x8x64_S512x4x64_0_4_0⟩] concatenates_S512x4x64_S512x4x64_S512x4x128_d2⟩]
    concatenates_S512x4x128_S512x4x128_S512x8x128_d1) shapeCasts_S512x8x128_S512x1024
theorem eSlots_at (A : FVec Ideal S512x512 .f32) (i : Fin 512) (h : Fin 8) (l : Fin 128) : eSlots A (ix2 i (⟨h.val * 128 + l.val, by omega⟩ : Fin 1024))
    = if h.val / 4 = l.val / 64 then A (ix2 i (⟨h.val * 64 + l.val % 64, by omega⟩ : Fin 512)) else (0 : EReal) := by
  pointwise [eSlots]
  have h8 := h.isLt
  have hl := l.isLt
  by_cases a : h.val < 4
  · rw [dif_pos a]
    by_cases b : l.val < 64
    · rw [dif_pos b]
      exact (congrArg (fun x => A (ix2 i x)) (Fin.ext (show h.val * 64 + l.val = h.val * 64 + l.val % 64 by omega))).trans (if_pos (by omega)).symm
    · rw [dif_neg b]; exact (if_neg (by omega)).symm
  · rw [dif_neg a]
    by_cases b : l.val < 64
    · rw [dif_pos b]; exact (if_neg (by omega)).symm
    · rw [dif_neg b]
      exact (congrArg (fun x => A (ix2 i x)) (Fin.ext (show (4 + (h.val - 4)) * 64 + (l.val - 64) = h.val * 64 + l.val % 64 by omega))).trans (if_pos (by omega)).symm
theorem V_e (i : S512x1024.Idx) : V m c main_v20 i = eSlots eye i := by
  have e : V m c main_v20 = truncf (F := Ideal) (φ := .f32) .bf16 (eSlots eye) bitsLt_bf16_f32 := by
    after_reads_simp
    rfl
  exact congrFun e _
theorem ex_slot (n : Fin 1024) : ∃ (h : Fin 8) (l : Fin 128), n = ⟨h.val * 128 + l.val, by omega⟩ := ⟨⟨n.val / 128, by omega⟩, ⟨n.val % 128, by omega⟩, Fin.ext (by show n.val = n.val / 128 * 128 + n.val % 128; omega)⟩
/-- A row against that matrix is the row laid out in the slots. -/
theorem slot_row (X : FVec Ideal S4096x512 .f32) (t : Fin 4096) (n : Fin 1024) : ∑ k : Fin 512, X (ix2 t k) * eSlots eye (ix2 k n) = kSlots X (ix2 t n) := by
  obtain ⟨h, l, rfl⟩ := ex_slot n
  rw [kSlots_at]
  by_cases a : h.val / 4 = l.val / 64
  · rw [if_pos a]
    refine (Finset.sum_congr rfl fun k _ => ?_).trans (Finset.sum_ite_eq Finset.univ (⟨h.val * 64 + l.val % 64, by omega⟩ : Fin 512) fun k => X (ix2 t k)) |>.trans (if_pos (Finset.mem_univ _))
    rw [eSlots_at, if_pos a, eye_at]
    split
    · exact mul_one _
    · exact mul_zero _
  · rw [if_neg a]
    refine Finset.sum_eq_zero fun k _ => ?_
    rw [eSlots_at, if_neg a]; exact mul_zero _

/-! ## A tile's values are the arrays' -/

theorem br_a (t : Fin cfg0.N) (q : Fin 512) (j : Fin 1024) : br (iblk m c 1 t) (pw (iblk m c 5 t)) (ix2 q j) = bra (m ((c : Thread nD τ).loc main_arg1)) (m ((c : Thread nD τ).loc main_arg4)) (rowO t.val q) j := by
  obtain ⟨e, n, rfl⟩ := ex_part j
  refine (br_at _ _ q e n).trans (Finset.sum_congr rfl fun k _ => congrArg₂ (· * ·) ?_ ?_)
  · exact (b_1 m c t q k).trans (congrFun (V_main_arg1 m c) _)
  · exact (pw_at _ e k n).trans ((b_5 m c t e k n).trans (V_wa m c e k n))
theorem br_b (t : Fin cfg0.N) (q : Fin 512) (j : Fin 1024) : br (iblk m c 2 t) (pw (iblk m c 6 t)) (ix2 q j) = bra (m ((c : Thread nD τ).loc main_arg2)) (m ((c : Thread nD τ).loc main_arg5)) (rowO t.val q) j := by
  obtain ⟨e, n, rfl⟩ := ex_part j
  refine (br_at _ _ q e n).trans (Finset.sum_congr rfl fun k _ => congrArg₂ (· * ·) ?_ ?_)
  · exact (b_2 m c t q k).trans (congrFun (V_main_arg2 m c) _)
  · exact (pw_at _ e k n).trans ((b_6 m c t e k n).trans (V_wb m c e k n))
theorem s_a (t : Fin cfg0.N) (q : Fin 512) (j : Fin 1024) : k0_pay8 (iblk m c 3 t) (ix2 q j) = ga (m ((c : Thread nD τ).loc main_arg3)) (rowO t.val q) j :=
  (p8_at _ q j).trans (congrArg Ideal.logistic ((b_3 m c t q j).trans (V_p m c _)))
theorem s_b (t : Fin cfg0.N) (q : Fin 512) (j : Fin 1024) : k0_pay9 (iblk m c 4 t) (ix2 q j) = gb (m ((c : Thread nD τ).loc main_arg3)) (rowO t.val q) j :=
  (p9_at _ q j).trans (congrArg Ideal.logistic ((b_4 m c t q j).trans (V_p m c _)))
theorem d_m (t : Fin cfg0.N) (q : Fin 512) (j : Fin 1024) : k0_pay11 (iblk m c 0 t) (iblk m c 7 t) (ix2 q j) = gm (m ((c : Thread nD τ).loc main_arg0)) (m ((c : Thread nD τ).loc main_arg6)) (rowO t.val q) j :=
  (p11_at _ _ q j).trans (Finset.sum_congr rfl fun n _ => congrArg₂ (· * ·) ((b_0 m c t q n).trans (congrFun (V_main_arg0 m c) _)) ((b_7 m c t j n).trans (V_wo m c _)))
theorem d_a (t : Fin cfg0.N) (q : Fin 512) (j : Fin 1024) : mulf (k0_pay11 (iblk m c 0 t) (iblk m c 7 t)) (k0_pay8 (iblk m c 3 t)) (ix2 q j) = yaA (m ((c : Thread nD τ).loc main_arg0)) (m ((c : Thread nD τ).loc main_arg3)) (m ((c : Thread nD τ).loc main_arg6)) (ix2 (rowO t.val q) j) :=
  (md_at _ _ q j).trans (congrArg₂ (· * ·) (d_m m c t q j) (s_a m c t q j))
theorem d_b (t : Fin cfg0.N) (q : Fin 512) (j : Fin 1024) : mulf (k0_pay11 (iblk m c 0 t) (iblk m c 7 t)) (k0_pay9 (iblk m c 4 t)) (ix2 q j) = ybA (m ((c : Thread nD τ).loc main_arg0)) (m ((c : Thread nD τ).loc main_arg3)) (m ((c : Thread nD τ).loc main_arg6)) (ix2 (rowO t.val q) j) :=
  (md_at _ _ q j).trans (congrArg₂ (· * ·) (d_m m c t q j) (s_b m c t q j))
theorem k_a (t : Fin cfg0.N) (q k : Fin 512) : bk (mulf (k0_pay11 (iblk m c 0 t) (iblk m c 7 t)) (k0_pay8 (iblk m c 3 t))) (pw (iblk m c 5 t)) (ix2 q k) = back (yaA (m ((c : Thread nD τ).loc main_arg0)) (m ((c : Thread nD τ).loc main_arg3)) (m ((c : Thread nD τ).loc main_arg6))) (m ((c : Thread nD τ).loc main_arg4)) (ix2 (rowO t.val q) k) :=
  (bk_at _ _ q k).trans ((Finset.sum_congr rfl fun e _ => Finset.sum_congr rfl fun n _ => congrArg₂ (· * ·) (d_a m c t q (part e n)) ((pw_at _ e k n).trans ((b_5 m c t e k n).trans (V_wa m c e k n)))).trans
    (sum_part fun j => yaA (m ((c : Thread nD τ).loc main_arg0)) (m ((c : Thread nD τ).loc main_arg3)) (m ((c : Thread nD τ).loc main_arg6)) (ix2 (rowO t.val q) j) * (m ((c : Thread nD τ).loc main_arg4)) (ix2 k j)))
theorem k_b (t : Fin cfg0.N) (q k : Fin 512) : bk (mulf (k0_pay11 (iblk m c 0 t) (iblk m c 7 t)) (k0_pay9 (iblk m c 4 t))) (pw (iblk m c 6 t)) (ix2 q k) = back (ybA (m ((c : Thread nD τ).loc main_arg0)) (m ((c : Thread nD τ).loc main_arg3)) (m ((c : Thread nD τ).loc main_arg6))) (m ((c : Thread nD τ).loc main_arg5)) (ix2 (rowO t.val q) k) :=
  (bk_at _ _ q k).trans ((Finset.sum_congr rfl fun e _ => Finset.sum_congr rfl fun n _ => congrArg₂ (· * ·) (d_b m c t q (part e n)) ((pw_at _ e k n).trans ((b_6 m c t e k n).trans (V_wb m c e k n)))).trans
    (sum_part fun j => ybA (m ((c : Thread nD τ).loc main_arg0)) (m ((c : Thread nD τ).loc main_arg3)) (m ((c : Thread nD τ).loc main_arg6)) (ix2 (rowO t.val q) j) * (m ((c : Thread nD τ).loc main_arg5)) (ix2 k j)))

theorem gate_of {d d' y y' s s' : EReal} (hd : d = d') (hy : y = y') (hs : s = s') : gate d y s = gate d' y' s' := by rw [hd, hy, hs]

theorem gtA_at (D : FVec Ideal S4096x1024 .f32) (O1 O2 : FVec Ideal S4096x512 .f32) (P : FVec Ideal S4096x2048 .f32) (W4 W5 : FVec Ideal S512x1024 .f32) (W : FVec Ideal S1024x1024 .f32) (t : Fin 4096) (n : Fin 2048) :
    gtA D O1 O2 P W4 W5 W (ix2 t n) = if h : n.val < 1024 then gate (gm D W t ⟨n.val, h⟩) (bra O1 W4 t ⟨n.val, h⟩) (ga P t ⟨n.val, h⟩)
      else gate (gm D W t ⟨n.val - 1024, by omega⟩) (bra O2 W5 t ⟨n.val - 1024, by omega⟩) (gb P t ⟨n.val - 1024, by omega⟩) := rfl
theorem tile10 (t : Fin cfg0.N) (q : Fin 512) (n : Fin 2048) : (dats m 0 c).after 10 t (ix2 q n) = gtA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowO t.val q) n) := by
  rw [after0_10, left10]
  refine (gt_at _ _ q n).trans ?_
  rw [gtA_at]
  by_cases h : n.val < 1024
  · rw [dif_pos h, dif_pos h]
    exact (gt1_at _ _ _ q ⟨n.val, h⟩).trans (gate_of (d_m m c t q _) (br_a m c t q _) (s_a m c t q _))
  · rw [dif_neg h, dif_neg h]
    exact (gt1_at _ _ _ q ⟨n.val - 1024, by omega⟩).trans (gate_of (d_m m c t q _) (br_b m c t q _) (s_b m c t q _))
theorem tile11 (t : Fin cfg0.N) (q : Fin 512) (j : Fin 1024) : (dats m 0 c).after 11 t (ix2 q j) = mgA (m ((c : Thread nD τ).loc main_arg1)) (m ((c : Thread nD τ).loc main_arg2)) (m ((c : Thread nD τ).loc main_arg3)) (m ((c : Thread nD τ).loc main_arg4)) (m ((c : Thread nD τ).loc main_arg5)) (ix2 (rowO t.val q) j) := by
  rw [after0_11, left11]
  exact (mg_at _ _ _ _ q j).trans (congrArg₂ (· + ·) (congrArg₂ (· * ·) (s_a m c t q j) (br_a m c t q j)) (congrArg₂ (· * ·) (s_b m c t q j) (br_b m c t q j)))
theorem tile12 (t : Fin cfg0.N) (q : Fin 512) (j : Fin 1024) : (dats m 0 c).after 12 t (ix2 q j) = yaA (m ((c : Thread nD τ).loc main_arg0)) (m ((c : Thread nD τ).loc main_arg3)) (m ((c : Thread nD τ).loc main_arg6)) (ix2 (rowO t.val q) j) := by
  rw [after0_12, left12]
  exact d_a m c t q j
theorem tile13 (t : Fin cfg0.N) (q : Fin 512) (j : Fin 1024) : (dats m 0 c).after 13 t (ix2 q j) = ybA (m ((c : Thread nD τ).loc main_arg0)) (m ((c : Thread nD τ).loc main_arg3)) (m ((c : Thread nD τ).loc main_arg6)) (ix2 (rowO t.val q) j) := by
  rw [after0_13, left13]
  exact d_b m c t q j
theorem tile14 (t : Fin cfg0.N) (q : Fin 512) (n : Fin 1024) : (dats m 0 c).after 14 t (ix2 q n) = kSlots (back (yaA (m ((c : Thread nD τ).loc main_arg0)) (m ((c : Thread nD τ).loc main_arg3)) (m ((c : Thread nD τ).loc main_arg6))) (m ((c : Thread nD τ).loc main_arg4))) (ix2 (rowO t.val q) n) := by
  rw [after0_14, left14]
  refine (sl_at _ _ q n).trans ((Finset.sum_congr rfl fun k _ => congrArg₂ (· * ·) (k_a m c t q k) ((b_8 m c t k n).trans (V_e m c _))).trans ?_)
  exact slot_row (back (yaA (m ((c : Thread nD τ).loc main_arg0)) (m ((c : Thread nD τ).loc main_arg3)) (m ((c : Thread nD τ).loc main_arg6))) (m ((c : Thread nD τ).loc main_arg4))) (rowO t.val q) n
theorem tile16 (t : Fin cfg0.N) (q k : Fin 512) : (dats m 0 c).after 16 t (ix2 q k) = back (ybA (m ((c : Thread nD τ).loc main_arg0)) (m ((c : Thread nD τ).loc main_arg3)) (m ((c : Thread nD τ).loc main_arg6))) (m ((c : Thread nD τ).loc main_arg5)) (ix2 (rowO t.val q) k) := by
  rw [after0_16, left16]
  exact k_b m c t q k

theorem arr10 : (dats m 0 c).arrAt 10 cfg0.N = gtA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  obtain ⟨q, n, rfl⟩ := ex2 y
  refine (tile10 m c t q n).trans ?_
  blk_ext [ix_10 t, rowO]

theorem arr11 : (dats m 0 c).arrAt 11 cfg0.N = mgA (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  obtain ⟨q, n, rfl⟩ := ex2 y
  refine (tile11 m c t q n).trans ?_
  blk_ext [ix_11 t, rowO]

theorem arr12 : (dats m 0 c).arrAt 12 cfg0.N = yaA (m ((c : Thread nD τ).loc main_arg0)) (m ((c : Thread nD τ).loc main_arg3)) (m ((c : Thread nD τ).loc main_arg6)) := by
  refine (dats m 0 c).arrAt_eq_of_covers 12 _ (by decide +kernel) fun t hf y => ?_
  blk_simp
  obtain ⟨q, n, rfl⟩ := ex2 y
  refine (tile12 m c t q n).trans ?_
  blk_ext [ix_12 t, rowO]

theorem arr13 : (dats m 0 c).arrAt 13 cfg0.N = ybA (m ((c : Thread nD τ).loc main_arg0)) (m ((c : Thread nD τ).loc main_arg3)) (m ((c : Thread nD τ).loc main_arg6)) := by
  refine (dats m 0 c).arrAt_eq_of_covers 13 _ (by decide +kernel) fun t hf y => ?_
  blk_simp
  obtain ⟨q, n, rfl⟩ := ex2 y
  refine (tile13 m c t q n).trans ?_
  blk_ext [ix_13 t, rowO]

theorem arr14 : (dats m 0 c).arrAt 14 cfg0.N = kSlots (back (yaA (m ((c : Thread nD τ).loc main_arg0)) (m ((c : Thread nD τ).loc main_arg3)) (m ((c : Thread nD τ).loc main_arg6))) (m ((c : Thread nD τ).loc main_arg4))) := by
  refine (dats m 0 c).arrAt_eq_of_covers 14 _ (by decide +kernel) fun t hf y => ?_
  blk_simp
  obtain ⟨q, n, rfl⟩ := ex2 y
  refine (tile14 m c t q n).trans ?_
  blk_ext [ix_14 t, rowO]

theorem arr16 : (dats m 0 c).arrAt 16 cfg0.N = back (ybA (m ((c : Thread nD τ).loc main_arg0)) (m ((c : Thread nD τ).loc main_arg3)) (m ((c : Thread nD τ).loc main_arg6))) (m ((c : Thread nD τ).loc main_arg5)) := by
  refine (dats m 0 c).arrAt_eq_of_covers 16 _ (by decide +kernel) fun t hf y => ?_
  blk_simp
  obtain ⟨q, n, rfl⟩ := ex2 y
  refine (tile16 m c t q n).trans ?_
  blk_ext [ix_16 t, rowO]

end Cert.Proof.MixOutBwd
end
-- ==== Proof.MixOutBwdRef.lean ====
module

public import proofs.«01_k».proof.Proof.MixOutBwdPay
public import proofs.«01_k».proof.Proof.Gen.MixOutBwdReferenceIdeal
public import proofs.«01_k».proof.Proof.Gen.MixOutBwdReferenceIdeal.Run
public import proofs.«01_k».proof.Proof.Gen.MixOutBwdReferenceIdeal.Read

@[expose] public section

set_option maxRecDepth 16384

noncomputable section

namespace Cert.Proof.MixOutBwd

open Cert.MixOutBwdReferenceIdeal Cert.MixOutBwdReferenceIdeal.Gen Cert.MixOutBwdReferenceIdeal.Read
open Idealize.ShloMosaic Idealize.ShloMosaic.TcCoe Idealize.SL.Sem
open Cert.Proof.MixOut (ex2 bra)
open Cert.Proof.Attn (kSlots)

/-! # The reference's arrays, entry by entry -/

variable (X0 : FVec Ideal S4096x1024 .f32) (X1 X2 : FVec Ideal S4096x512 .f32) (X3 : FVec Ideal S4096x2048 .f32) (X4 X5 : FVec Ideal S512x1024 .f32) (X6 : FVec Ideal S1024x1024 .f32)

theorem r9 (t : Fin 4096) (j : Fin 1024) : val_main_v9 (F := Ideal) X3 (ix2 t j) = ga X3 t j := by
  have e : val_main_v9 (F := Ideal) X3 (ix2 t j) = Ideal.div (Ideal.ofBits .f32 0x3F800000#32) (Ideal.ofBits .f32 0x3F800000#32 + Ideal.exp (-(val_main_v2 (F := Ideal) X3 (ix2 t j)))) := by
    unfold val_main_v9 val_main_v7 val_main_v5 val_main_v4; generalize val_main_v2 (F := Ideal) X3 = Y
    pointwise [val_main_v8, val_main_cst_0, val_main_v6, val_main_cst]
  have e0 : val_main_v2 (F := Ideal) X3 (ix2 t j) = X3 (ix2 t (⟨j.val, by omega⟩ : Fin 2048)) := by
    pointwise [val_main_v2]
  rw [e, e0, Ideal.ofBits_one_f32]; rfl
theorem r19 (t : Fin 4096) (j : Fin 1024) : val_main_v19 (F := Ideal) X3 (ix2 t j) = gb X3 t j := by
  have e : val_main_v19 (F := Ideal) X3 (ix2 t j) = Ideal.div (Ideal.ofBits .f32 0x3F800000#32) (Ideal.ofBits .f32 0x3F800000#32 + Ideal.exp (-(val_main_v3 (F := Ideal) X3 (ix2 t j)))) := by
    unfold val_main_v19 val_main_v17 val_main_v15 val_main_v14; generalize val_main_v3 (F := Ideal) X3 = Y
    pointwise [val_main_v18, val_main_cst_3, val_main_v16, val_main_cst_2]
  have e0 : val_main_v3 (F := Ideal) X3 (ix2 t j) = X3 (ix2 t (⟨1024 + j.val, by omega⟩ : Fin 2048)) := by
    pointwise [val_main_v3]
  rw [e, e0, Ideal.ofBits_one_f32]; rfl
theorem r12 (t : Fin 4096) (j : Fin 1024) : val_main_v12 (F := Ideal) X3 (ix2 t j) = ga X3 t j * (1 - ga X3 t j) := by
  have e : val_main_v12 (F := Ideal) X3 (ix2 t j) = val_main_v9 (F := Ideal) X3 (ix2 t j) * (Ideal.ofBits .f32 0x3F800000#32 - val_main_v9 (F := Ideal) X3 (ix2 t j)) := by
    unfold val_main_v12 val_main_v11; generalize val_main_v9 (F := Ideal) X3 = Y
    pointwise [val_main_v10, val_main_cst_1]
  rw [e, r9, Ideal.ofBits_one_f32]
theorem r22 (t : Fin 4096) (j : Fin 1024) : val_main_v22 (F := Ideal) X3 (ix2 t j) = gb X3 t j * (1 - gb X3 t j) := by
  have e : val_main_v22 (F := Ideal) X3 (ix2 t j) = val_main_v19 (F := Ideal) X3 (ix2 t j) * (Ideal.ofBits .f32 0x3F800000#32 - val_main_v19 (F := Ideal) X3 (ix2 t j)) := by
    unfold val_main_v22 val_main_v21; generalize val_main_v19 (F := Ideal) X3 = Y
    pointwise [val_main_v20, val_main_cst_4]
  rw [e, r19, Ideal.ofBits_one_f32]
theorem r0 (t : Fin 4096) (j : Fin 1024) : val_main_v0 (F := Ideal) X1 X4 (ix2 t j) = bra X1 X4 t j := by
  have e : val_main_v0 (F := Ideal) X1 X4 (ix2 t j) = ∑ k : Fin 512, X1 (ix2 t k) * X4 (ix2 k j) := by
    pointwise [val_main_v0]
  exact e
theorem r1 (t : Fin 4096) (j : Fin 1024) : val_main_v1 (F := Ideal) X2 X5 (ix2 t j) = bra X2 X5 t j := by
  have e : val_main_v1 (F := Ideal) X2 X5 (ix2 t j) = ∑ k : Fin 512, X2 (ix2 t k) * X5 (ix2 k j) := by
    pointwise [val_main_v1]
  exact e
theorem r26 (t : Fin 4096) (j : Fin 1024) : val_main_v26 (F := Ideal) X0 X6 (ix2 t j) = gm X0 X6 t j := by
  have e : val_main_v26 (F := Ideal) X0 X6 (ix2 t j) = ∑ k : Fin 1024, X0 (ix2 t k) * X6 (ix2 j k) := by
    pointwise [val_main_v26]
  exact e

/-- The branch products' gradients, -/
theorem r30 : val_main_v30 (F := Ideal) X0 X3 X6 = yaA X0 X3 X6 := funext fun i => by
  obtain ⟨t, j, rfl⟩ := ex2 i
  exact (congrArg₂ (· * ·) (r9 X3 t j) (r26 X0 X6 t j)).trans (mul_comm _ _)
theorem r27 : val_main_v27 (F := Ideal) X0 X3 X6 = ybA X0 X3 X6 := funext fun i => by
  obtain ⟨t, j, rfl⟩ := ex2 i
  exact (congrArg₂ (· * ·) (r19 X3 t j) (r26 X0 X6 t j)).trans (mul_comm _ _)
theorem r36 : val_main_v36 (F := Ideal) X0 X3 X6 = yaA X0 X3 X6 := r30 X0 X3 X6
theorem r37 : val_main_v37 (F := Ideal) X0 X3 X6 = ybA X0 X3 X6 := r27 X0 X3 X6
/-- the merged branches, -/
theorem r35 : val_main_v35 (F := Ideal) X1 X2 X3 X4 X5 = mgA X1 X2 X3 X4 X5 := funext fun i => by
  obtain ⟨t, j, rfl⟩ := ex2 i
  exact congrArg₂ (· + ·) (congrArg₂ (· * ·) (r9 X3 t j) (r0 X1 X4 t j)) (congrArg₂ (· * ·) (r19 X3 t j) (r1 X2 X5 t j))
/-- the gates' gradients, -/
theorem r32 (t : Fin 4096) (j : Fin 1024) : val_main_v32 (F := Ideal) X0 X1 X3 X4 X6 (ix2 t j) = gate (gm X0 X6 t j) (bra X1 X4 t j) (ga X3 t j) :=
  (congrArg₂ (· * ·) (congrArg₂ (· * ·) (r26 X0 X6 t j) (r0 X1 X4 t j)) (r12 X3 t j)).trans (mul_assoc _ _ _).symm
theorem r29 (t : Fin 4096) (j : Fin 1024) : val_main_v29 (F := Ideal) X0 X2 X3 X5 X6 (ix2 t j) = gate (gm X0 X6 t j) (bra X2 X5 t j) (gb X3 t j) :=
  (congrArg₂ (· * ·) (congrArg₂ (· * ·) (r26 X0 X6 t j) (r1 X2 X5 t j)) (r22 X3 t j)).trans (mul_assoc _ _ _).symm
theorem r33 (t : Fin 4096) (n : Fin 2048) : val_main_v33 (F := Ideal) X0 X1 X2 X3 X4 X5 X6 (ix2 t n)
    = if h : n.val < 1024 then val_main_v32 (F := Ideal) X0 X1 X3 X4 X6 (ix2 t ⟨n.val, h⟩) else val_main_v29 (F := Ideal) X0 X2 X3 X5 X6 (ix2 t ⟨n.val - 1024, by omega⟩) := by
  unfold val_main_v33; generalize val_main_v32 (F := Ideal) X0 X1 X3 X4 X6 = Y; generalize val_main_v29 (F := Ideal) X0 X2 X3 X5 X6 = Z
  pointwise
theorem r34 : val_main_v34 (F := Ideal) X0 X1 X2 X3 X4 X5 X6 = gtA X0 X1 X2 X3 X4 X5 X6 := funext fun i => by
  obtain ⟨t, n, rfl⟩ := ex2 i
  refine (r33 X0 X1 X2 X3 X4 X5 X6 t n).trans (Eq.trans ?_ (rfl : (if h : n.val < 1024 then gate (gm X0 X6 t ⟨n.val, h⟩) (bra X1 X4 t ⟨n.val, h⟩) (ga X3 t ⟨n.val, h⟩)
      else gate (gm X0 X6 t ⟨n.val - 1024, by omega⟩) (bra X2 X5 t ⟨n.val - 1024, by omega⟩) (gb X3 t ⟨n.val - 1024, by omega⟩)) = _))
  by_cases h : n.val < 1024
  · rw [dif_pos h, dif_pos h]; exact r32 X0 X1 X3 X4 X6 t _
  · rw [dif_neg h, dif_neg h]; exact r29 X0 X2 X3 X5 X6 t _
/-- and the gradients of the branches' outputs. -/
theorem r38 : val_main_v38 (F := Ideal) X0 X3 X4 X6 = back (yaA X0 X3 X6) X4 := funext fun i => by
  obtain ⟨t, k, rfl⟩ := ex2 i
  have e : val_main_v38 (F := Ideal) X0 X3 X4 X6 (ix2 t k) = ∑ j : Fin 1024, val_main_v30 (F := Ideal) X0 X3 X6 (ix2 t j) * X4 (ix2 k j) := by
    unfold val_main_v38; generalize val_main_v30 (F := Ideal) X0 X3 X6 = Y
    pointwise
  rw [e, r30]; rfl
theorem r49 : val_main_v49 (F := Ideal) X0 X3 X5 X6 = back (ybA X0 X3 X6) X5 := funext fun i => by
  obtain ⟨t, k, rfl⟩ := ex2 i
  have e : val_main_v49 (F := Ideal) X0 X3 X5 X6 (ix2 t k) = ∑ j : Fin 1024, val_main_v27 (F := Ideal) X0 X3 X6 (ix2 t j) * X5 (ix2 k j) := by
    unfold val_main_v49; generalize val_main_v27 (F := Ideal) X0 X3 X6 = Y
    pointwise
  rw [e, r27]; rfl
theorem r48 : val_main_v48 (F := Ideal) X0 X3 X4 X6 = kSlots (back (yaA X0 X3 X6) X4) :=
  Eq.trans (b := kSlots (val_main_v38 (F := Ideal) X0 X3 X4 X6)) rfl (congrArg kSlots (r38 X0 X3 X4 X6))

end Cert.Proof.MixOutBwd
end
-- ==== Proof.MixOutBwdClaim.lean ====
module

public import proofs.«01_k».proof.Proof.MixOutBwdVal
public import proofs.«01_k».proof.Proof.MixOutBwdRef
public import proofs.«01_k».proof.Proof.Gen.MixOutBwdIdeal
public import proofs.«01_k».proof.Proof.Gen.MixOutBwdReferenceIdeal
public import proofs.«01_k».proof.Proof.Gen.MixOutBwdReferenceIdeal.Run
public import proofs.«01_k».proof.Defs
public import Idealize.ShloMosaic.Lib.Claim
public import Idealize.ShloMosaic.Lib.Quiescent

@[expose] public section

set_option maxRecDepth 16384

noncomputable section

namespace Cert.Proof.MixOutBwd

open Idealize.ShloMosaic Idealize.ShloMosaic.TcCoe Idealize.SL.Sem

/-! # The claims of the branches' backward call -/

/-- The program read over the extended reals: it terminates, its arguments end unchanged, its counters at zero. -/
theorem frame_ideal : Cert.quiescent_MixOutBwdIdeal (hMixOutBwdIdeal := Cert.MixOutBwdIdeal.Gen.facts) := fun m g _ => Cert.MixOutBwdIdeal.Gen.frame (F := Ideal) m g

/-- The same of the reference. -/
theorem frame_reference : Cert.quiescent_MixOutBwdReferenceIdeal (hMixOutBwdReferenceIdeal := Cert.MixOutBwdReferenceIdeal.Gen.facts) := fun m g _ =>
  (θ_run Cert.MixOutBwdReferenceIdeal.defs _ _).mono (fun r h => ⟨fun c => (h c).2.2.2.2.2.2, sem_eq_zero_of_no_sems (by decide) r.2⟩) (Cert.MixOutBwdReferenceIdeal.Value.run m g)

section
open Cert.MixOutBwdReferenceIdeal Cert.MixOutBwdReferenceIdeal.Gen Cert.MixOutBwdReferenceIdeal.Read
set_option maxHeartbeats 2000000 in
/-- The reference runs to its six composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v35) = val_main_v35 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v36) = val_main_v36 (F := Ideal) (m ((c.tc : Thread nD τ).loc main_arg0)) (m ((c.tc : Thread nD τ).loc main_arg3)) (m ((c.tc : Thread nD τ).loc main_arg6))
      ∧ r.2.mem ((c.tc : Thread nD τ).loc main_v37) = val_main_v37 (F := Ideal) (m ((c.tc : Thread nD τ).loc main_arg0)) (m ((c.tc : Thread nD τ).loc main_arg3)) (m ((c.tc : Thread nD τ).loc main_arg6))
      ∧ r.2.mem ((c.tc : Thread nD τ).loc main_v48) = val_main_v48 (F := Ideal) (m ((c.tc : Thread nD τ).loc main_arg0)) (m ((c.tc : Thread nD τ).loc main_arg3)) (m ((c.tc : Thread nD τ).loc main_arg4)) (m ((c.tc : Thread nD τ).loc main_arg6))
      ∧ r.2.mem ((c.tc : Thread nD τ).loc main_v49) = val_main_v49 (F := Ideal) (m ((c.tc : Thread nD τ).loc main_arg0)) (m ((c.tc : Thread nD τ).loc main_arg3)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (val_main_v34_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (h c).2.1.trans (val_main_v35_eq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
    (h c).2.2.1.trans (val_main_v36_eq (m ((c.tc : Thread nD τ).loc main_arg0)) (m ((c.tc : Thread nD τ).loc main_arg3)) (m ((c.tc : Thread nD τ).loc main_arg6))),
    (h c).2.2.2.1.trans (val_main_v37_eq (m ((c.tc : Thread nD τ).loc main_arg0)) (m ((c.tc : Thread nD τ).loc main_arg3)) (m ((c.tc : Thread nD τ).loc main_arg6))),
    (h c).2.2.2.2.1.trans (val_main_v48_eq (m ((c.tc : Thread nD τ).loc main_arg0)) (m ((c.tc : Thread nD τ).loc main_arg3)) (m ((c.tc : Thread nD τ).loc main_arg4)) (m ((c.tc : Thread nD τ).loc main_arg6))),
    (h c).2.2.2.2.2.1.trans (val_main_v49_eq (m ((c.tc : Thread nD τ).loc main_arg0)) (m ((c.tc : Thread nD τ).loc main_arg3)) (m ((c.tc : Thread nD τ).loc main_arg5)) (m ((c.tc : Thread nD τ).loc main_arg6))),
    (h c).2.2.2.2.2.2⟩)
    (Cert.MixOutBwdReferenceIdeal.Value.run m ρ)
end

set_option maxHeartbeats 4000000 in
/-- The program's six results are the reference's, whatever the arguments. -/
theorem values : Cert.algebraic_MixOutBwdIdeal_MixOutBwdReferenceIdeal (hMixOutBwdIdeal := Cert.MixOutBwdIdeal.Gen.facts) (hMixOutBwdReferenceIdeal := Cert.MixOutBwdReferenceIdeal.Gen.facts) := by
  intro m g m' g' _ hag
  refine ⟨fun c => (Cert.MixOutBwdIdeal.Gen.dats m 0 c).arrAt 10 Cert.MixOutBwdIdeal.cfg0.N, fun c => (Cert.MixOutBwdIdeal.Gen.dats m 0 c).arrAt 11 Cert.MixOutBwdIdeal.cfg0.N, fun c => (Cert.MixOutBwdIdeal.Gen.dats m 0 c).arrAt 12 Cert.MixOutBwdIdeal.cfg0.N, fun c => (Cert.MixOutBwdIdeal.Gen.dats m 0 c).arrAt 13 Cert.MixOutBwdIdeal.cfg0.N, fun c => (Cert.MixOutBwdIdeal.Gen.dats m 0 c).arrAt 14 Cert.MixOutBwdIdeal.cfg0.N, fun c => (Cert.MixOutBwdIdeal.Gen.dats m 0 c).arrAt 16 Cert.MixOutBwdIdeal.cfg0.N, ?_, ?_⟩
  · refine (θ_run Cert.MixOutBwdIdeal.defs _ _).mono (fun r h c => ?_) (Cert.MixOutBwdIdeal.Value.run_blocks m g)
    obtain ⟨h0, h1, h2, h3, h4, _, h6, hr⟩ := h c
    exact ⟨h0, h1, h2, h3, h4, h6, hr⟩
  · refine (θ_run Cert.MixOutBwdReferenceIdeal.defs _ _).mono (fun r h c => ?_) (run_reference m' g')
    obtain ⟨e0, e1, e2, e3, e4, e5, e6⟩ := hag c
    obtain ⟨h0, h1, h2, h3, h4, h5, hr⟩ := h c
    refine ⟨h0.trans ?_, h1.trans ?_, h2.trans ?_, h3.trans ?_, h4.trans ?_, h5.trans ?_, hr⟩
    · rw [e0, e1, e2, e3, e4, e5, e6]; exact (r34 _ _ _ _ _ _ _).trans (arr10 m c).symm
    · rw [e1, e2, e3, e4, e5]; exact (r35 _ _ _ _ _).trans (arr11 m c).symm
    · rw [e0, e3, e6]; exact (r36 _ _ _).trans (arr12 m c).symm
    · rw [e0, e3, e6]; exact (r37 _ _ _).trans (arr13 m c).symm
    · rw [e0, e3, e4, e6]; exact (r48 _ _ _ _).trans (arr14 m c).symm
    · rw [e0, e3, e5, e6]; exact (r49 _ _ _ _).trans (arr16 m c).symm

end Cert.Proof.MixOutBwd
end
-- ==== Proof.MixOutBwdSameText.lean ====
module

public import proofs.«01_k».proof.Proof.Gen.MixOutBwd
public import proofs.«01_k».proof.Proof.Gen.MixOutBwdIdeal

@[expose] public section

set_option maxRecDepth 16384
set_option maxHeartbeats 0

namespace Cert.Proof.MixOutBwdSameText

open Idealize.ShloMosaic

variable {F : FTy → Type} [FloatOps F]

/-! ## The branches' backward call and its ideal reading are one text -/

/-- The two programs' `main` is the same program, -/
theorem main_eq : Cert.MixOutBwd.main (F := F) = Cert.MixOutBwdIdeal.main (F := F) := rfl

/-- the body that the call runs is the same, -/
theorem body_eq : Cert.MixOutBwd.defs₀ (F := F) = Cert.MixOutBwdIdeal.defs₀ (F := F) := by
  unfold Cert.MixOutBwd.defs₀ Cert.MixOutBwdIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.MixOutBwd.defs (F := F) = Cert.MixOutBwdIdeal.defs (F := F) := by
  unfold Cert.MixOutBwd.defs Cert.MixOutBwdIdeal.defs
  rw [body_eq]
  rfl

end Cert.Proof.MixOutBwdSameText

end
-- ==== Proof.AttnRun.lean ====
module

public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row offset of the key/value head that head pair `i 0` belongs to: rows `64 g` with `g = (2 * (i 0)) / 4`. -/
theorem off1_eq : ∀ i : grid0.Coords, k0_off1 i = ![64 * ((2 * (i 0).val) / 4), 0] := by decide +kernel
theorem off2_eq : ∀ i : grid0.Coords, k0_off2 i = ![0, 64 * ((2 * (i 0).val) / 4), 0] := by decide +kernel
theorem off3_eq : ∀ i : grid0.Coords, k0_off3 i = ![1, 64 * ((2 * (i 0).val) / 4), 0] := by decide +kernel
instance (i : grid0.Coords) : ClosedOff (k0_off1 i) := ⟨![64 * ((2 * (i 0).val) / 4), 0], off1_eq i⟩
instance (i : grid0.Coords) : ClosedOff (k0_off2 i) := ⟨![0, 64 * ((2 * (i 0).val) / 4), 0], off2_eq i⟩
instance (i : grid0.Coords) : ClosedOff (k0_off3 i) := ⟨![1, 64 * ((2 * (i 0).val) / 4), 0], off3_eq i⟩

/-- The condition of the body's one branch: both grid coordinates are 0. -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-! ## What the body computes from its blocks -/

/-- The 64 rows of the key/value head in a block of 128 rows. -/
abbrev rows1 (i : grid0.Coords) : Rect S128x4096 := Rect.unit (s := S128x4096) (k0_off1 i) S64x4096.size (k0_off1_inb i)

theorem half_inb : ∀ i : grid0.Coords, ∀ a, (k0_off2 i) a + S1x64x256.size a ≤ S1x128x256.size a := by decide +kernel

/-- The same 64 rows of one transposed query block. -/
def half (i : grid0.Coords) (X : Vec F S1x128x256 .f32) : Vec F S1x64x256 .f32 :=
  View.ld X (Rect.unit (s := S1x128x256) (k0_off2 i) S1x64x256.size (half_inb i))

/-- The two log-sum blocks, one per query head of the pair. -/
abbrev lse0 (x9 : Vec F S2x256x1 .f32) : Vec F S1x256x1 .f32 := View.ld x9 (Rect.unit (s := S2x256x1) ![0, 0, 0] S1x256x1.size inb_S2x256x1_S1x256x1_0_0_0)
abbrev lse1 (x9 : Vec F S2x256x1 .f32) : Vec F S1x256x1 .f32 := View.ld x9 (Rect.unit (s := S2x256x1) ![1, 0, 0] S1x256x1.size inb_S2x256x1_S1x256x1_1_0_0)

/-- The probabilities and the score gradients of the pair's two heads. -/
abbrev p0 (x0 : Vec F S256x128 .bf16) (x2 : Vec F S4096x128 .bf16) (x9 : Vec F S2x256x1 .f32) := k0_pay12 (k0_pay7 x0 x2) (lse0 x9)
abbrev p1 (x1 : Vec F S256x128 .bf16) (x2 : Vec F S4096x128 .bf16) (x9 : Vec F S2x256x1 .f32) := k0_pay21 (k0_pay8 x1 x2) (lse1 x9)
abbrev ds0 (x0 : Vec F S256x128 .bf16) (x2 x4 : Vec F S4096x128 .bf16) (x5 : Vec F S256x128 .bf16) (x7 : Vec F S256x128 .f32) (x9 : Vec F S2x256x1 .f32) :=
  k0_pay13 (k0_pay7 x0 x2) x5 x4 (lse0 x9) x7

/-- The gradient of the two query heads' block (transposed): rows 0–63 the even head, rows 64–127 the odd one. -/
def dqOut (i : grid0.Coords) (x0 : Vec F S256x128 .bf16) (x1 : Vec F S256x128 .bf16) (x2 : Vec F S4096x128 .bf16) (x3 : Vec F S128x4096 .bf16) (x4 : Vec F S4096x128 .bf16) (x5 : Vec F S256x128 .bf16) (x6 : Vec F S256x128 .bf16) (x7 : Vec F S256x128 .f32) (x8 : Vec F S256x128 .f32) (x9 : Vec F S2x256x1 .f32) : Vec F S128x256 .f32 :=
  VecWindow.put (VecWindow.put (View.canon (Val := Elt F) []) ![0, 0] S64x256.size (k0_pay14 (k0_pay4 (View.ld x3 (rows1 i))) (k0_pay7 x0 x2) x5 x4 (lse0 x9) x7))
    ![64, 0] S64x256.size (k0_pay24 (k0_pay4 (View.ld x3 (rows1 i))) (k0_pay9 x6 x4) (p1 x1 x2 x9) (k0_pay22 x8))

/-- The key gradient's buffer after the body, from what it held before: its head's rows gain the pair's two products. -/
def dkOut (i : grid0.Coords) (x0 : Vec F S256x128 .bf16) (x1 : Vec F S256x128 .bf16) (x2 : Vec F S4096x128 .bf16) (x3 : Vec F S128x4096 .bf16) (x4 : Vec F S4096x128 .bf16) (x5 : Vec F S256x128 .bf16) (x6 : Vec F S256x128 .bf16) (x7 : Vec F S256x128 .f32) (x8 : Vec F S256x128 .f32) (x9 : Vec F S2x256x1 .f32) (X : Vec F S128x4096 .f32) : Vec F S128x4096 .f32 :=
  VecWindow.put X ![64 * ((2 * (i 0).val) / 4), 0] S64x4096.size
    (k0_pay28 (k0_pay9 x6 x4) (k0_pay17 k0_pay5 (ds0 x0 x2 x4 x5 x7 x9) (half i (k0_pay15 (k0_pay10 x0)))) (p1 x1 x2 x9) (k0_pay22 x8)
      (half i (k0_pay25 (k0_pay19 x1))) (View.ld X (rows1 i)))

/-- The value gradient's buffer after the body, likewise. -/
def dvOut (i : grid0.Coords) (x0 : Vec F S256x128 .bf16) (x1 : Vec F S256x128 .bf16) (x2 : Vec F S4096x128 .bf16) (x3 : Vec F S128x4096 .bf16) (x4 : Vec F S4096x128 .bf16) (x5 : Vec F S256x128 .bf16) (x6 : Vec F S256x128 .bf16) (x7 : Vec F S256x128 .f32) (x8 : Vec F S256x128 .f32) (x9 : Vec F S2x256x1 .f32) (X : Vec F S128x4096 .f32) : Vec F S128x4096 .f32 :=
  VecWindow.put X ![64 * ((2 * (i 0).val) / 4), 0] S64x4096.size
    (k0_pay1 (k0_pay27 (k0_pay18 k0_pay6 (p0 x0 x2 x9) (half i (k0_pay16 (k0_pay11 x5)))) (p1 x1 x2 x9) (half i (k0_pay26 (k0_pay20 x6))))
      (View.ld X (rows1 i)))

open Classical in
/-- What the body reads of a resident buffer: zeros at the first point, what it holds elsewhere. -/
def prior (i : grid0.Coords) (X : Vec F S128x4096 .f32) : Vec F S128x4096 .f32 := if isFirst i then k0_pay2 else X

/-- A load of the head's rows of a scratch slab just stored reads them of the payload: slab 0, whatever the buffer held, -/
theorem ld_slab0 {κ : Kind} {sp : Space} (v : View sig κ sp S2x128x256 .f32) (f : v.ty.Contents (Elt F)) (i : grid0.Coords) (w : Vec F S1x128x256 .f32) :
    View.ld (v.read (Elt F) (v.writes (Elt F) f [⟨Rect.unit (s := S2x128x256) ![0, 0, 0] ![1, 128, 256] inb_S2x128x256_S1x128x256_0_0_0, w⟩]))
      (Rect.unit (s := S2x128x256) (k0_off2 i) ![1, 64, 256] (k0_off2_inb i)) = half i w := by
  funext y
  refine View.read_writes_cons_unit_of_mem v f _ w [] _ ((Rect.unit (s := S1x128x256) (k0_off2 i) S1x64x256.size (half_inb i)).idx y) rfl ?_
  intro a; fin_cases a <;> simp [LoadRect.idx, Rect.unit, off2_eq i]

/-- and slab 1. -/
theorem ld_slab1 (i : grid0.Coords) (w : Vec F S1x128x256 .f32) (L : List (View.Piece (Elt F) S2x128x256 .f32)) :
    View.ld (View.canon (Val := Elt F) (⟨Rect.unit (s := S2x128x256) ![1, 0, 0] ![1, 128, 256] inb_S2x128x256_S1x128x256_1_0_0, w⟩ :: L))
      (Rect.unit (s := S2x128x256) (k0_off3 i) ![1, 64, 256] (k0_off3_inb i)) = half i w := by
  funext y
  have e2 := off2_eq i
  have e3 := off3_eq i
  have h : (Rect.unit (s := S2x128x256) (k0_off3 i) ![1, 64, 256] (k0_off3_inb i)).toLoadRect.idx y
      = (Rect.unit (s := S2x128x256) ![1, 0, 0] ![1, 128, 256] inb_S2x128x256_S1x128x256_1_0_0).emb
          ((Rect.unit (s := S1x128x256) (k0_off2 i) S1x64x256.size (half_inb i)).idx y) := by
    funext a; apply Fin.ext
    fin_cases a <;> simp [LoadRect.idx, Rect.unit, Rect.emb, e2, e3]
  exact (congrArg _ h).trans (View.canon_cons_emb _ _ _ _)

/-- Two stores that cover the query gradient's block leave nothing of what it held. -/
theorem put_cover (Z Z' : Vec F S128x256 .f32) (a b : Vec F S64x256 .f32) :
    VecWindow.put (VecWindow.put Z ![0, 0] S64x256.size a) ![64, 0] S64x256.size b
      = VecWindow.put (VecWindow.put Z' ![0, 0] S64x256.size a) ![64, 0] S64x256.size b := by
  funext y
  unfold VecWindow.put
  split
  · rfl
  · split
    · rfl
    · rename_i h1 h2
      exfalso
      have hy0 : (y (0 : Fin 2)).val < 128 := (y 0).isLt
      have hy1 : (y (1 : Fin 2)).val < 256 := (y 1).isLt
      apply h2
      intro a
      by_contra h3
      apply h1
      intro b
      fin_cases a <;> fin_cases b <;> simp at h3 ⊢ <;> omega

set_option maxHeartbeats 2000000 in
/-- The body at a point other than the first: the resident buffers gain the point's share. -/
theorem runB (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2x256x1 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x4096 .f32) (harg14 : arg14.IsWhole) (arg15 : Memref sig .tc .vmem S2x128x256 .f32) (harg15 : arg15.IsWhole) (arg16 : Memref sig .tc .vmem S2x128x256 .f32) (harg16 : arg16.IsWhole)
    (hc0 : ¬ isFirst i) (x0 : Vec F S256x128 .bf16) (x1 : Vec F S256x128 .bf16) (x2 : Vec F S4096x128 .bf16) (x3 : Vec F S128x4096 .bf16) (x4 : Vec F S4096x128 .bf16) (x5 : Vec F S256x128 .bf16) (x6 : Vec F S256x128 .bf16) (x7 : Vec F S256x128 .f32) (x8 : Vec F S256x128 .f32) (x9 : Vec F S2x256x1 .f32) (x11 x12 : Vec F S128x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ owns (c : Thread nD τ) arg14 fullShare x12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dqOut i x0 x1 x2 x3 x4 x5 x6 x7 x8 x9) ∗ owns (c : Thread nD τ) arg13 fullShare (dkOut i x0 x1 x2 x3 x4 x5 x6 x7 x8 x9 (prior i x11)) ∗ owns (c : Thread nD τ) arg14 fullShare (dvOut i x0 x1 x2 x3 x4 x5 x6 x7 x8 x9 (prior i x12)) ∗ (∃ d, owns (c : Thread nD τ) arg15 fullShare d) ∗ (∃ d, owns (c : Thread nD τ) arg16 fullShare d)) -∗ K PUnit.unit))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      rw [View.read_writes_cons_put _ _ _ _ _ (rfl : ![64, 0] = ![64, 0]), View.read_writes_cons_put _ _ _ _ _ (rfl : ![0, 0] = ![0, 0])]
      frame_out
      exact put_cover _ _ _ _
    isplitl [H11]
    · iexists _; isplitr; swap; · iexact H11
      ipureintro
      rw [View.read_writes_cons_put _ _ _ _ _ (off1_eq i)]
      frame_out
      simp only [dkOut, prior, if_neg hc0, ld_slab0, ld_slab1]
      all_goals exact congrArg (fun X => VecWindow.put X _ _ _) (harg13.read_unread _)
    isplitl [H12]
    · iexists _; isplitr; swap; · iexact H12
      ipureintro
      rw [View.read_writes_cons_put _ _ _ _ _ (off1_eq i)]
      frame_out
      simp only [dvOut, prior, if_neg hc0, ld_slab0, ld_slab1]
      all_goals exact congrArg (fun X => VecWindow.put X _ _ _) (harg14.read_unread _)
    isplitl [HS0]
    · iexists _, _; isplitr; swap; · iexact HS0
      ipureintro; rfl
    iexists _, _; isplitr; swap; · iexact HS1
    ipureintro; rfl

set_option maxHeartbeats 2000000 in
/-- The body at the first point: the resident buffers are zeroed before they gain the point's share. -/
theorem runA (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2x256x1 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x4096 .f32) (harg14 : arg14.IsWhole) (arg15 : Memref sig .tc .vmem S2x128x256 .f32) (harg15 : arg15.IsWhole) (arg16 : Memref sig .tc .vmem S2x128x256 .f32) (harg16 : arg16.IsWhole)
    (hc0 : isFirst i) (x0 : Vec F S256x128 .bf16) (x1 : Vec F S256x128 .bf16) (x2 : Vec F S4096x128 .bf16) (x3 : Vec F S128x4096 .bf16) (x4 : Vec F S4096x128 .bf16) (x5 : Vec F S256x128 .bf16) (x6 : Vec F S256x128 .bf16) (x7 : Vec F S256x128 .f32) (x8 : Vec F S256x128 .f32) (x9 : Vec F S2x256x1 .f32) (x11 x12 : Vec F S128x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ owns (c : Thread nD τ) arg14 fullShare x12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dqOut i x0 x1 x2 x3 x4 x5 x6 x7 x8 x9) ∗ owns (c : Thread nD τ) arg13 fullShare (dkOut i x0 x1 x2 x3 x4 x5 x6 x7 x8 x9 (prior i x11)) ∗ owns (c : Thread nD τ) arg14 fullShare (dvOut i x0 x1 x2 x3 x4 x5 x6 x7 x8 x9 (prior i x12)) ∗ (∃ d, owns (c : Thread nD τ) arg15 fullShare d) ∗ (∃ d, owns (c : Thread nD τ) arg16 fullShare d)) -∗ K PUnit.unit))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_attn_bwd_eq_skeleton]; unfold cc0_attn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      rw [View.read_writes_cons_put _ _ _ _ _ (rfl : ![64, 0] = ![64, 0]), View.read_writes_cons_put _ _ _ _ _ (rfl : ![0, 0] = ![0, 0])]
      frame_out
      exact put_cover _ _ _ _
    isplitl [H11]
    · iexists _; isplitr; swap; · iexact H11
      ipureintro
      rw [View.read_writes_cons_put _ _ _ _ _ (off1_eq i)]
      frame_out
      simp only [dkOut, prior, if_pos hc0, ld_slab0, ld_slab1]
      all_goals rfl
    isplitl [H12]
    · iexists _; isplitr; swap; · iexact H12
      ipureintro
      rw [View.read_writes_cons_put _ _ _ _ _ (off1_eq i)]
      frame_out
      simp only [dvOut, prior, if_pos hc0, ld_slab0, ld_slab1]
      all_goals rfl
    isplitl [HS0]
    · iexists _, _; isplitr; swap; · iexact HS0
      ipureintro; rfl
    iexists _, _; isplitr; swap; · iexact HS1
    ipureintro; rfl

/-- The body at any grid point. -/
theorem run (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .f32) (harg9 : arg9.IsWhole) (arg10 : Memref sig .tc .vmem S256x128 .f32) (harg10 : arg10.IsWhole) (arg11 : Memref sig .tc .vmem S2x256x1 .f32) (harg11 : arg11.IsWhole) (arg12 : Memref sig .tc .vmem S128x256 .f32) (harg12 : arg12.IsWhole) (arg13 : Memref sig .tc .vmem S128x4096 .f32) (harg13 : arg13.IsWhole) (arg14 : Memref sig .tc .vmem S128x4096 .f32) (harg14 : arg14.IsWhole) (arg15 : Memref sig .tc .vmem S2x128x256 .f32) (harg15 : arg15.IsWhole) (arg16 : Memref sig .tc .vmem S2x128x256 .f32) (harg16 : arg16.IsWhole)
    (x0 : Vec F S256x128 .bf16) (x1 : Vec F S256x128 .bf16) (x2 : Vec F S4096x128 .bf16) (x3 : Vec F S128x4096 .bf16) (x4 : Vec F S4096x128 .bf16) (x5 : Vec F S256x128 .bf16) (x6 : Vec F S256x128 .bf16) (x7 : Vec F S256x128 .f32) (x8 : Vec F S256x128 .f32) (x9 : Vec F S2x256x1 .f32) (x11 x12 : Vec F S128x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare x11 ∗ owns (c : Thread nD τ) arg14 fullShare x12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dqOut i x0 x1 x2 x3 x4 x5 x6 x7 x8 x9) ∗ owns (c : Thread nD τ) arg13 fullShare (dkOut i x0 x1 x2 x3 x4 x5 x6 x7 x8 x9 (prior i x11)) ∗ owns (c : Thread nD τ) arg14 fullShare (dvOut i x0 x1 x2 x3 x4 x5 x6 x7 x8 x9 (prior i x12)) ∗ (∃ d, owns (c : Thread nD τ) arg15 fullShare d) ∗ (∃ d, owns (c : Thread nD τ) arg16 fullShare d)) -∗ K PUnit.unit))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    by_cases hc0 : isFirst i
    · exact runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x11 x12
    · exact runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x11 x12

end Cert.Proof.Attn

end
-- ==== Proof.AttnPay.lean ====
module

public import proofs.«01_k».proof.Proof.AttnRun

@[expose] public section

set_option maxRecDepth 16384

noncomputable section

namespace Cert.Proof.Attn

open Cert.KernelIdeal Cert.KernelIdeal.Gen
open Idealize.ShloMosaic Idealize.ShloMosaic.TcCoe Idealize.SL.Sem

/-! ## A window of rows put over a buffer, at an index -/

theorem put_in {α : Type} (x : S128x4096.Idx → α) (o : ℕ) (w : S64x4096.Idx → α) (d : Fin 64) (j : Fin 4096) (h : o + d.val < 128) :
    VecWindow.put x ![o, 0] S64x4096.size w (ix2 (⟨o + d.val, h⟩ : Fin 128) j) = w (ix2 d j) := by
  unfold VecWindow.put
  rw [dif_pos (fun a => by
    match a with
    | ⟨0, _⟩ => exact ⟨Nat.le_add_right o d.val, Nat.add_lt_add_left d.isLt o⟩
    | ⟨1, _⟩ => exact ⟨Nat.zero_le _, by show j.val < 0 + 4096; omega⟩)]
  refine congrArg w (funext fun a => Fin.ext ?_)
  match a with
  | ⟨0, _⟩ => show o + d.val - o = d.val; omega
  | ⟨1, _⟩ => show j.val - 0 = j.val; omega
theorem put_out {α : Type} (x : S128x4096.Idx → α) (o : ℕ) (w : S64x4096.Idx → α) (r : Fin 128) (j : Fin 4096) (h : r.val < o ∨ o + 64 ≤ r.val) :
    VecWindow.put x ![o, 0] S64x4096.size w (ix2 r j) = x (ix2 r j) := by
  unfold VecWindow.put
  rw [dif_neg (fun hh => by
    have := hh 0
    have h1 : o ≤ r.val ∧ r.val < o + 64 := this
    omega)]
theorem putq_in {α : Type} (x : S128x256.Idx → α) (o : ℕ) (w : S64x256.Idx → α) (d : Fin 64) (j : Fin 256) (h : o + d.val < 128) :
    VecWindow.put x ![o, 0] S64x256.size w (ix2 (⟨o + d.val, h⟩ : Fin 128) j) = w (ix2 d j) := by
  unfold VecWindow.put
  rw [dif_pos (fun a => by
    match a with
    | ⟨0, _⟩ => exact ⟨Nat.le_add_right o d.val, Nat.add_lt_add_left d.isLt o⟩
    | ⟨1, _⟩ => exact ⟨Nat.zero_le _, by show j.val < 0 + 256; omega⟩)]
  refine congrArg w (funext fun a => Fin.ext ?_)
  match a with
  | ⟨0, _⟩ => show o + d.val - o = d.val; omega
  | ⟨1, _⟩ => show j.val - 0 = j.val; omega
theorem putq_out {α : Type} (x : S128x256.Idx → α) (o : ℕ) (w : S64x256.Idx → α) (r : Fin 128) (j : Fin 256) (h : r.val < o ∨ o + 64 ≤ r.val) :
    VecWindow.put x ![o, 0] S64x256.size w (ix2 r j) = x (ix2 r j) := by
  unfold VecWindow.put
  rw [dif_neg (fun hh => by
    have := hh 0
    have h1 : o ≤ r.val ∧ r.val < o + 64 := this
    omega)]

/-! ## Loads, at an index -/

/-- The key/value head of a grid point. -/
def grp (i : grid0.Coords) : Fin 2 := ⟨(2 * (i 0).val) / 4, by have : (i 0).val < 4 := (i 0).isLt; omega⟩

theorem rows1_at {e : EltTy} (X : Vec Ideal S128x4096 e) (i : grid0.Coords) (d : Fin 64) (j : Fin 4096) :
    View.ld X (rows1 i) (ix2 d j) = X (ix2 (⟨64 * (grp i).val + d.val, by omega⟩ : Fin 128) j) :=
  View.ld_unit_apply_of X _ _ _ _ _ (fun a => by
    refine Eq.trans ?_ (congrArg (· + (ix2 d j a).val) (congrFun (off1_eq i) a).symm)
    match a with
    | ⟨0, _⟩ => rfl
    | ⟨1, _⟩ => exact (Nat.zero_add _).symm)
theorem half_at (X : Vec Ideal S1x128x256 .f32) (i : grid0.Coords) (d : Fin 64) (q : Fin 256) :
    half i X (ix3 0 d q) = X (ix3 0 (⟨64 * (grp i).val + d.val, by omega⟩ : Fin 128) q) :=
  View.ld_unit_apply_of X _ _ _ _ _ (fun a => by
    refine Eq.trans ?_ (congrArg (· + (ix3 0 d q a).val) (congrFun (off2_eq i) a).symm)
    match a with
    | ⟨0, _⟩ => rfl
    | ⟨1, _⟩ => rfl
    | ⟨2, _⟩ => exact (Nat.zero_add _).symm)
theorem lse0_at (X : Vec Ideal S2x256x1 .f32) (q : Fin 256) : lse0 X (ix3 0 q 0) = X (ix3 0 q 0) :=
  View.ld_unit_apply_of X _ _ _ _ _ (fun a => by
    match a with
    | ⟨0, _⟩ => rfl
    | ⟨1, _⟩ => exact (Nat.zero_add _).symm
    | ⟨2, _⟩ => rfl)
theorem lse1_at (X : Vec Ideal S2x256x1 .f32) (q : Fin 256) : lse1 X (ix3 0 q 0) = X (ix3 1 q 0) :=
  View.ld_unit_apply_of X _ _ _ _ _ (fun a => by
    match a with
    | ⟨0, _⟩ => rfl
    | ⟨1, _⟩ => exact (Nat.zero_add _).symm
    | ⟨2, _⟩ => rfl)

/-! ## The body's arithmetic, at an index -/

/-- A product of two blocks over their 128 lanes. -/
def lanes (a : Vec Ideal S256x128 .bf16) (b : Vec Ideal S4096x128 .bf16) (q : Fin 256) (j : Fin 4096) : EReal :=
  ∑ l : Fin 128, a (ix2 q l) * b (ix2 j l)
/-- The greatest entry of a block's row. -/
def rowMax (x : Vec Ideal S256x128 .f32) (q : Fin 256) : EReal :=
  Finset.fold max (Ideal.ofBits FTy.f32 4286578688#32) (fun l => x (ix2 q l)) Finset.univ
/-- A probability, and a score gradient, of one head of the pair. -/
def pB (a : Vec Ideal S256x128 .bf16) (b : Vec Ideal S4096x128 .bf16) (l : EReal) (q : Fin 256) (j : Fin 4096) : EReal :=
  Ideal.exp (lanes a b q j - l)
def dB (a : Vec Ideal S256x128 .bf16) (b : Vec Ideal S4096x128 .bf16) (l : EReal) (a' : Vec Ideal S256x128 .bf16) (b' : Vec Ideal S4096x128 .bf16) (x : Vec Ideal S256x128 .f32)
    (q : Fin 256) (j : Fin 4096) : EReal :=
  pB a b l q j * (lanes a' b' q j - rowMax x q)

theorem pay7_at (a : Vec Ideal S256x128 .bf16) (b : Vec Ideal S4096x128 .bf16) (q : Fin 256) (j : Fin 4096) : k0_pay7 a b (ix2 q j) = lanes a b q j := by
  unfold lanes; pointwise [k0_pay7]
theorem pay8_at (a : Vec Ideal S256x128 .bf16) (b : Vec Ideal S4096x128 .bf16) (q : Fin 256) (j : Fin 4096) : k0_pay8 a b (ix2 q j) = lanes a b q j := by
  unfold lanes; pointwise [k0_pay8]
theorem pay9_at (a : Vec Ideal S256x128 .bf16) (b : Vec Ideal S4096x128 .bf16) (q : Fin 256) (j : Fin 4096) : k0_pay9 a b (ix2 q j) = lanes a b q j := by
  unfold lanes; pointwise [k0_pay9]
theorem pay12_at (s : FVec Ideal S256x4096 .f32) (l : Vec Ideal S1x256x1 .f32) (q : Fin 256) (j : Fin 4096) : k0_pay12 s l (ix2 q j) = Ideal.exp (s (ix2 q j) - l (ix3 0 q 0)) := by
  pointwise [k0_pay12]
theorem pay21_at (s : FVec Ideal S256x4096 .f32) (l : Vec Ideal S1x256x1 .f32) (q : Fin 256) (j : Fin 4096) : k0_pay21 s l (ix2 q j) = Ideal.exp (s (ix2 q j) - l (ix3 0 q 0)) := by
  pointwise [k0_pay21]
theorem pay13_at (s : FVec Ideal S256x4096 .f32) (a : Vec Ideal S256x128 .bf16) (b : Vec Ideal S4096x128 .bf16) (l : Vec Ideal S1x256x1 .f32) (x : Vec Ideal S256x128 .f32)
    (q : Fin 256) (j : Fin 4096) : k0_pay13 s a b l x (ix2 q j) = k0_pay12 s l (ix2 q j) * (lanes a b q j - rowMax x q) := by
  unfold lanes rowMax; pointwise [k0_pay13]
theorem pay23_at (z p : FVec Ideal S256x4096 .f32) (x : FVec Ideal S256x128 .f32) (q : Fin 256) (j : Fin 4096) :
    k0_pay23 z p x (ix2 q j) = p (ix2 q j) * (z (ix2 q j) - rowMax x q) := by
  unfold rowMax; pointwise [k0_pay23]
theorem pay14_at (kt : FVec Ideal S64x4096 .bf16) (s : FVec Ideal S256x4096 .f32) (a : Vec Ideal S256x128 .bf16) (b : Vec Ideal S4096x128 .bf16) (l : Vec Ideal S1x256x1 .f32) (x : Vec Ideal S256x128 .f32)
    (d : Fin 64) (q : Fin 256) : k0_pay14 kt s a b l x (ix2 d q) = ∑ j : Fin 4096, kt (ix2 d j) * k0_pay13 s a b l x (ix2 q j) := by
  pointwise [k0_pay14]
theorem pay24_at (kt : FVec Ideal S64x4096 .bf16) (z p : FVec Ideal S256x4096 .f32) (x : FVec Ideal S256x128 .f32) (d : Fin 64) (q : Fin 256) :
    (k0_pay24 (F := Ideal) kt z p x : FVec Ideal S64x256 .f32) (ix2 d q) = ∑ j : Fin 4096, kt (ix2 d j) * k0_pay23 z p x (ix2 q j) := by
  pointwise [k0_pay24]
theorem tr0_at (a : Vec Ideal S256x128 .bf16) (l : Fin 128) (q : Fin 256) : k0_pay15 (k0_pay10 a) (ix3 0 l q) = a (ix2 q l) := by
  pointwise [k0_pay15, k0_pay10]
theorem tr1_at (a : Vec Ideal S256x128 .bf16) (l : Fin 128) (q : Fin 256) : k0_pay16 (k0_pay11 a) (ix3 0 l q) = a (ix2 q l) := by
  pointwise [k0_pay16, k0_pay11]
theorem tr2_at (a : Vec Ideal S256x128 .bf16) (l : Fin 128) (q : Fin 256) : k0_pay25 (k0_pay19 a) (ix3 0 l q) = a (ix2 q l) := by
  pointwise [k0_pay25, k0_pay19]
theorem tr3_at (a : Vec Ideal S256x128 .bf16) (l : Fin 128) (q : Fin 256) : k0_pay26 (k0_pay20 a) (ix3 0 l q) = a (ix2 q l) := by
  pointwise [k0_pay26, k0_pay20]
theorem pay17_at (p : FVec Ideal S256x4096 .f32) (h : Vec Ideal S1x64x256 .f32) (d : Fin 64) (j : Fin 4096) :
    k0_pay17 k0_pay5 p h (ix2 d j) = ∑ q : Fin 256, h (ix3 0 d q) * p (ix2 q j) := by
  pointwise [k0_pay17, k0_pay5]
theorem pay18_at (p : FVec Ideal S256x4096 .f32) (h : Vec Ideal S1x64x256 .f32) (d : Fin 64) (j : Fin 4096) :
    k0_pay18 k0_pay6 p h (ix2 d j) = ∑ q : Fin 256, h (ix3 0 d q) * p (ix2 q j) := by
  pointwise [k0_pay18, k0_pay6]
theorem pay27_at (z : FVec Ideal S64x4096 .f32) (p : FVec Ideal S256x4096 .f32) (h : Vec Ideal S1x64x256 .f32) (d : Fin 64) (j : Fin 4096) :
    k0_pay27 z p h (ix2 d j) = z (ix2 d j) + ∑ q : Fin 256, h (ix3 0 d q) * p (ix2 q j) := by
  pointwise [k0_pay27]
theorem pay28_at (z : FVec Ideal S256x4096 .f32) (y : FVec Ideal S64x4096 .f32) (p : FVec Ideal S256x4096 .f32) (x : FVec Ideal S256x128 .f32) (h : Vec Ideal S1x64x256 .f32) (w : Vec Ideal S64x4096 .f32)
    (d : Fin 64) (j : Fin 4096) :
    (k0_pay28 (F := Ideal) z y p x h w : FVec Ideal S64x4096 .f32) (ix2 d j) = w (ix2 d j) + (y (ix2 d j) + ∑ q : Fin 256, h (ix3 0 d q) * k0_pay23 z p x (ix2 q j)) := by
  pointwise [k0_pay28]
theorem pay1_at (a : FVec Ideal S64x4096 .f32) (b : Vec Ideal S64x4096 .f32) (d : Fin 64) (j : Fin 4096) : k0_pay1 a b (ix2 d j) = b (ix2 d j) + a (ix2 d j) := by
  pointwise [k0_pay1]
theorem pay4_eq (a : Vec Ideal S64x4096 .bf16) : k0_pay4 a = a := by
  unfold k0_pay4; exact Idealize.ShloMosaic.shapeCast_self _ _
theorem pay22_eq (a : Vec Ideal S256x128 .f32) : k0_pay22 a = a := by
  unfold k0_pay22; exact Idealize.ShloMosaic.shapeCast_self _ _

/-! ## What the body leaves, at an index -/

variable (i : grid0.Coords) (x0 x1 : Vec Ideal S256x128 .bf16) (x2 : Vec Ideal S4096x128 .bf16) (x3 : Vec Ideal S128x4096 .bf16) (x4 : Vec Ideal S4096x128 .bf16) (x5 x6 : Vec Ideal S256x128 .bf16) (x7 x8 : Vec Ideal S256x128 .f32) (x9 : Vec Ideal S2x256x1 .f32) (X : Vec Ideal S128x4096 .f32)

theorem p0_at (q : Fin 256) (j : Fin 4096) : p0 x0 x2 x9 (ix2 q j) = pB x0 x2 (x9 (ix3 0 q 0)) q j := by
  show k0_pay12 _ _ _ = _
  rw [pay12_at, pay7_at, lse0_at]; rfl
theorem p1_at (q : Fin 256) (j : Fin 4096) : p1 x1 x2 x9 (ix2 q j) = pB x1 x2 (x9 (ix3 1 q 0)) q j := by
  show k0_pay21 _ _ _ = _
  rw [pay21_at, pay8_at, lse1_at]; rfl
theorem ds0_at (q : Fin 256) (j : Fin 4096) : ds0 x0 x2 x4 x5 x7 x9 (ix2 q j) = dB x0 x2 (x9 (ix3 0 q 0)) x5 x4 x7 q j := by
  show k0_pay13 _ _ _ _ _ _ = _
  rw [pay13_at]
  exact congrArg (· * _) (p0_at x0 x2 x9 q j)
theorem ds1_at (q : Fin 256) (j : Fin 4096) : k0_pay23 (k0_pay9 x6 x4) (p1 x1 x2 x9) (k0_pay22 x8) (ix2 q j) = dB x1 x2 (x9 (ix3 1 q 0)) x6 x4 x8 q j := by
  rw [pay23_at, p1_at, pay9_at, pay22_eq]; rfl

theorem dqOut_lo (d : Fin 64) (q : Fin 256) : dqOut i x0 x1 x2 x3 x4 x5 x6 x7 x8 x9 (ix2 (⟨d.val, by omega⟩ : Fin 128) q)
    = ∑ j : Fin 4096, x3 (ix2 (⟨64 * (grp i).val + d.val, by omega⟩ : Fin 128) j) * dB x0 x2 (x9 (ix3 0 q 0)) x5 x4 x7 q j := by
  unfold dqOut
  rw [putq_out _ _ _ _ _ (Or.inl d.isLt), pay4_eq]
  have e : (⟨d.val, by omega⟩ : Fin 128) = ⟨0 + d.val, by omega⟩ := Fin.ext (Nat.zero_add _).symm
  rw [e, putq_in, pay14_at]
  exact Finset.sum_congr rfl fun j _ => congrArg₂ (· * ·) (rows1_at _ _ _ _) (ds0_at x0 x2 x4 x5 x7 x9 q j)
theorem dqOut_hi (d : Fin 64) (q : Fin 256) : dqOut i x0 x1 x2 x3 x4 x5 x6 x7 x8 x9 (ix2 (⟨64 + d.val, by omega⟩ : Fin 128) q)
    = ∑ j : Fin 4096, x3 (ix2 (⟨64 * (grp i).val + d.val, by omega⟩ : Fin 128) j) * dB x1 x2 (x9 (ix3 1 q 0)) x6 x4 x8 q j := by
  unfold dqOut
  rw [putq_in, pay4_eq, pay24_at]
  exact Finset.sum_congr rfl fun j _ => congrArg₂ (· * ·) (rows1_at _ _ _ _) (ds1_at x1 x2 x4 x6 x8 x9 q j)

theorem dkOut_in (d : Fin 64) (j : Fin 4096) : dkOut i x0 x1 x2 x3 x4 x5 x6 x7 x8 x9 X (ix2 (⟨64 * (grp i).val + d.val, by omega⟩ : Fin 128) j)
    = X (ix2 (⟨64 * (grp i).val + d.val, by omega⟩ : Fin 128) j)
      + ((∑ q : Fin 256, x0 (ix2 q (⟨64 * (grp i).val + d.val, by omega⟩ : Fin 128)) * dB x0 x2 (x9 (ix3 0 q 0)) x5 x4 x7 q j)
        + ∑ q : Fin 256, x1 (ix2 q (⟨64 * (grp i).val + d.val, by omega⟩ : Fin 128)) * dB x1 x2 (x9 (ix3 1 q 0)) x6 x4 x8 q j) := by
  unfold dkOut
  refine (put_in X _ _ d j _).trans ?_
  rw [pay28_at, pay17_at, rows1_at]
  refine congrArg₂ (· + ·) rfl (congrArg₂ (· + ·) (Finset.sum_congr rfl fun q _ => ?_) (Finset.sum_congr rfl fun q _ => ?_))
  · exact congrArg₂ (· * ·) ((half_at _ i d q).trans (tr0_at _ _ q)) (ds0_at x0 x2 x4 x5 x7 x9 q j)
  · exact congrArg₂ (· * ·) ((half_at _ i d q).trans (tr2_at _ _ q)) (ds1_at x1 x2 x4 x6 x8 x9 q j)
theorem dvOut_in (d : Fin 64) (j : Fin 4096) : dvOut i x0 x1 x2 x3 x4 x5 x6 x7 x8 x9 X (ix2 (⟨64 * (grp i).val + d.val, by omega⟩ : Fin 128) j)
    = X (ix2 (⟨64 * (grp i).val + d.val, by omega⟩ : Fin 128) j)
      + ((∑ q : Fin 256, x5 (ix2 q (⟨64 * (grp i).val + d.val, by omega⟩ : Fin 128)) * pB x0 x2 (x9 (ix3 0 q 0)) q j)
        + ∑ q : Fin 256, x6 (ix2 q (⟨64 * (grp i).val + d.val, by omega⟩ : Fin 128)) * pB x1 x2 (x9 (ix3 1 q 0)) q j) := by
  unfold dvOut
  refine (put_in X _ _ d j _).trans ?_
  rw [pay1_at, pay27_at, pay18_at, rows1_at]
  refine congrArg₂ (· + ·) rfl (congrArg₂ (· + ·) (Finset.sum_congr rfl fun q _ => ?_) (Finset.sum_congr rfl fun q _ => ?_))
  · exact congrArg₂ (· * ·) ((half_at _ i d q).trans (tr1_at _ _ q)) (p0_at x0 x2 x9 q j)
  · exact congrArg₂ (· * ·) ((half_at _ i d q).trans (tr3_at _ _ q)) (p1_at x1 x2 x9 q j)
theorem dkOut_out (r : Fin 128) (j : Fin 4096) (h : r.val / 64 ≠ (grp i).val) : dkOut i x0 x1 x2 x3 x4 x5 x6 x7 x8 x9 X (ix2 r j) = X (ix2 r j) := by
  unfold dkOut
  have e : (grp i).val = (2 * (i 0).val) / 4 := rfl
  exact put_out X _ _ r j (by omega)
theorem dvOut_out (r : Fin 128) (j : Fin 4096) (h : r.val / 64 ≠ (grp i).val) : dvOut i x0 x1 x2 x3 x4 x5 x6 x7 x8 x9 X (ix2 r j) = X (ix2 r j) := by
  unfold dvOut
  have e : (grp i).val = (2 * (i 0).val) / 4 := rfl
  exact put_out X _ _ r j (by omega)
end Cert.Proof.Attn
end
-- ==== Proof.AttnFrame.lean ====
module

public import proofs.«01_k».proof.Proof.AttnRun
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline's buffers hold, point by point -/

/-- The branch is taken at the first point only. -/
theorem isFirst_iff : ∀ t : Fin grid0.N, isFirst (grid0.coords t) ↔ t.val = 0 := fun t => by
  have ht : t.val < 64 := Nat.lt_of_lt_of_eq t.isLt N_0
  have e0 : (grid0.coords t 0).val = t.val / 16 % 4 := Pipeline.Grid.coords_val t 0 (by decide) rfl
  have e1 : (grid0.coords t 1).val = t.val / 1 % 16 := Pipeline.Grid.coords_val t 1 (by decide) rfl
  simp only [isFirst, e0, e1]
  word_cmp

/-- One point's step of the key gradient's resident buffer, from the blocks staged there; and of the value gradient's. -/
def dkStep (c : Dev nD) (t : Fin cfg0.N) (X : Vec F S128x4096 .f32) : Vec F S128x4096 .f32 :=
  dkOut (grid0.coords t) (iblk m c 0 t) (iblk m c 1 t) (iblk m c 2 t) (iblk m c 3 t) (iblk m c 4 t) (iblk m c 5 t) (iblk m c 6 t) (iblk m c 7 t) (iblk m c 8 t) (iblk m c 9 t) X
def dvStep (c : Dev nD) (t : Fin cfg0.N) (X : Vec F S128x4096 .f32) : Vec F S128x4096 .f32 :=
  dvOut (grid0.coords t) (iblk m c 0 t) (iblk m c 1 t) (iblk m c 2 t) (iblk m c 3 t) (iblk m c 4 t) (iblk m c 5 t) (iblk m c 6 t) (iblk m c 7 t) (iblk m c 8 t) (iblk m c 9 t) X

/-- The resident buffer after the first `n` points: zeros, then one step per point. -/
def acc (step : Fin cfg0.N → Vec F S128x4096 .f32 → Vec F S128x4096 .f32) : ℕ → Vec F S128x4096 .f32
  | 0 => k0_pay2
  | n + 1 => if h : n < cfg0.N then step ⟨n, h⟩ (acc step n) else acc step n

theorem acc_succ (step : Fin cfg0.N → Vec F S128x4096 .f32 → Vec F S128x4096 .f32) (t : Fin cfg0.N) :
    acc step (t.val + 1) = step t (acc step t.val) := by
  rw [acc, dif_pos t.isLt]

/-! ## The pipeline's proof data -/

/-- Input windows are left at their blocks; the query gradient's block, the key gradient's and the value gradient's
    buffers at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dqOut (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => acc (dkStep m c) (t.val + 1)
    | ⟨12, _⟩ => acc (dvStep m c) (t.val + 1)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = dqOut (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = acc (dkStep m c) (t.val + 1) := by dsimp only [dats]
theorem after0_12 (c : Dev nD) (t : Fin cfg0.N) : (dats m 0 c).after 12 t = acc (dvStep m c) (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- Past the first point the resident buffer 11 holds what the point before left. -/
theorem before0_11 (c : Dev nD) (t : Fin cfg0.N) (ht : t.val ≠ 0) (d) : (dats m 0 c).before 11 t d = acc (dkStep m c) t.val := by
  have hN : t.val < 64 := lt_of_lt_of_eq t.isLt (show cfg0.N = 64 from N_0)
  rw [(dats m 0 c).before_out_kept 11 rfl t ht
    (Bool.eq_false_iff.mpr fun h => by have := (flush0_11 _).mp h; dsimp only at this; omega) (fun _ => rfl) (fun _ _ => rfl) d, after0_11]
  congr 1; show t.val - 1 + 1 = t.val; omega

/-- What the body leaves in it at any point. -/
theorem step0_11 (c : Dev nD) (t : Fin cfg0.N) (d) :
    dkStep m c t (prior (grid0.coords t) ((dats m 0 c).before 11 t d)) = acc (dkStep m c) (t.val + 1) := by
  rw [acc_succ]
  by_cases h0 : t.val = 0
  · rw [prior, if_pos ((isFirst_iff t).mpr h0), h0]; rfl
  · rw [prior, if_neg (fun h => h0 ((isFirst_iff t).mp h)), before0_11 m c t h0 d]

/-- Past the first point the resident buffer 12 holds what the point before left. -/
theorem before0_12 (c : Dev nD) (t : Fin cfg0.N) (ht : t.val ≠ 0) (d) : (dats m 0 c).before 12 t d = acc (dvStep m c) t.val := by
  have hN : t.val < 64 := lt_of_lt_of_eq t.isLt (show cfg0.N = 64 from N_0)
  rw [(dats m 0 c).before_out_kept 12 rfl t ht
    (Bool.eq_false_iff.mpr fun h => by have := (flush0_12 _).mp h; dsimp only at this; omega) (fun _ => rfl) (fun _ _ => rfl) d, after0_12]
  congr 1; show t.val - 1 + 1 = t.val; omega

/-- What the body leaves in it at any point. -/
theorem step0_12 (c : Dev nD) (t : Fin cfg0.N) (d) :
    dvStep m c t (prior (grid0.coords t) ((dats m 0 c).before 12 t d)) = acc (dvStep m c) (t.val + 1) := by
  rw [acc_succ]
  by_cases h0 : t.val = 0
  · rw [prior, if_pos ((isFirst_iff t).mpr h0), h0]; rfl
  · rw [prior, if_neg (fun h => h0 ((isFirst_iff t).mp h)), before0_12 m c t h0 d]

/-! ## The kernel's buffers at a point -/

abbrev ms0_0 (t : Fin cfg0.N) : Memref sig .tc .vmem S256x128 .bf16 := win0_0.stage (cfg0.slots t 0)
abbrev ms0_1 (t : Fin cfg0.N) : Memref sig .tc .vmem S256x128 .bf16 := win0_1.stage (cfg0.slots t 1)
abbrev ms0_2 (t : Fin cfg0.N) : Memref sig .tc .vmem S4096x128 .bf16 := win0_2.stage (cfg0.slots t 2)
abbrev ms0_3 (t : Fin cfg0.N) : Memref sig .tc .vmem S128x4096 .bf16 := win0_3.stage (cfg0.slots t 3)
abbrev ms0_4 (t : Fin cfg0.N) : Memref sig .tc .vmem S4096x128 .bf16 := win0_4.stage (cfg0.slots t 4)
abbrev ms0_5 (t : Fin cfg0.N) : Memref sig .tc .vmem S256x128 .bf16 := win0_5.stage (cfg0.slots t 5)
abbrev ms0_6 (t : Fin cfg0.N) : Memref sig .tc .vmem S256x128 .bf16 := win0_6.stage (cfg0.slots t 6)
abbrev ms0_7 (t : Fin cfg0.N) : Memref sig .tc .vmem S256x128 .f32 := win0_7.stage (cfg0.slots t 7)
abbrev ms0_8 (t : Fin cfg0.N) : Memref sig .tc .vmem S256x128 .f32 := win0_8.stage (cfg0.slots t 8)
abbrev ms0_9 (t : Fin cfg0.N) : Memref sig .tc .vmem S2x256x1 .f32 := win0_9.stage (cfg0.slots t 9)
abbrev ms0_10 (t : Fin cfg0.N) : Memref sig .tc .vmem S128x256 .f32 := win0_10.stage (cfg0.slots t 10)
abbrev ms0_11 (t : Fin cfg0.N) : Memref sig .tc .vmem S128x4096 .f32 := win0_11.stage (cfg0.slots t 11)
abbrev ms0_12 (t : Fin cfg0.N) : Memref sig .tc .vmem S128x4096 .f32 := win0_12.stage (cfg0.slots t 12)
abbrev scM0_0 : Memref sig .tc .vmem S2x128x256 .f32 := Memref.whole cc0_scratch0
abbrev scM0_1 : Memref sig .tc .vmem S2x128x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 2400000 in
/-- The body's triple at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [← step0_11 m c t d11, ← step0_12 m c t d12]
  unfold dkStep dvStep
  iapply ((run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((dats m 0 c).before 11 t d11) ((dats m 0 c).before 12 t d12)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution of the program terminates, with every array of the
    pipeline at the contents the proof data names and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.Attn

end
-- ==== Proof.AttnBlk.lean ====
module

public import proofs.«01_k».proof.Proof.AttnPay
public import proofs.«01_k».proof.Proof.AttnFrame
public import proofs.«01_k».proof.Proof.AttnMath
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

theorem t_lt (t : Fin cfg0.N) : t.val < 64 := lt_of_lt_of_eq t.isLt (show cfg0.N = 64 from N_0)
/-- The query row that row `q` of a block at point `t` is. -/
def row (t : Fin cfg0.N) (q : Fin 256) : Fin 4096 := ⟨256 * (t.val % 16) + q.val, by omega⟩
theorem lane_lt (t : Fin cfg0.N) (o : ℕ) (ho : o ≤ 1) (l : Fin 128) : (2 * (t.val / 16) + o) * 128 + l.val < 1024 := by
  have := t_lt t; omega
theorem head_lt (t : Fin cfg0.N) (h : Fin 2) : 2 * (t.val / 16) + h.val < 8 := by have := t_lt t; omega

/-! ## The windows' blocks at a point, read off their arrays -/

theorem ix_0 : ∀ t : Fin cfg0.N, win0_0.index t = ![t.val % 16, 2 * (t.val / 16)] := (by decide +kernel : ∀ t : Fin grid0.N, win0_0.index t = ![t.val % 16, 2 * (t.val / 16)])
theorem ix_1 : ∀ t : Fin cfg0.N, win0_1.index t = ![t.val % 16, 2 * (t.val / 16) + 1] := (by decide +kernel : ∀ t : Fin grid0.N, win0_1.index t = ![t.val % 16, 2 * (t.val / 16) + 1])
theorem ix_2 : ∀ t : Fin cfg0.N, win0_2.index t = ![0, 0] := (by decide +kernel : ∀ t : Fin grid0.N, win0_2.index t = ![0, 0])
theorem ix_3 : ∀ t : Fin cfg0.N, win0_3.index t = ![0, 0] := (by decide +kernel : ∀ t : Fin grid0.N, win0_3.index t = ![0, 0])
theorem ix_4 : ∀ t : Fin cfg0.N, win0_4.index t = ![0, 0] := (by decide +kernel : ∀ t : Fin grid0.N, win0_4.index t = ![0, 0])
theorem ix_5 : ∀ t : Fin cfg0.N, win0_5.index t = ![t.val % 16, 2 * (t.val / 16)] := (by decide +kernel : ∀ t : Fin grid0.N, win0_5.index t = ![t.val % 16, 2 * (t.val / 16)])
theorem ix_6 : ∀ t : Fin cfg0.N, win0_6.index t = ![t.val % 16, 2 * (t.val / 16) + 1] := (by decide +kernel : ∀ t : Fin grid0.N, win0_6.index t = ![t.val % 16, 2 * (t.val / 16) + 1])
theorem ix_7 : ∀ t : Fin cfg0.N, win0_7.index t = ![t.val % 16, 2 * (t.val / 16)] := (by decide +kernel : ∀ t : Fin grid0.N, win0_7.index t = ![t.val % 16, 2 * (t.val / 16)])
theorem ix_8 : ∀ t : Fin cfg0.N, win0_8.index t = ![t.val % 16, 2 * (t.val / 16) + 1] := (by decide +kernel : ∀ t : Fin grid0.N, win0_8.index t = ![t.val % 16, 2 * (t.val / 16) + 1])
theorem ix_9 : ∀ t : Fin cfg0.N, win0_9.index t = ![t.val / 16, t.val % 16, 0] := (by decide +kernel : ∀ t : Fin grid0.N, win0_9.index t = ![t.val / 16, t.val % 16, 0])
theorem ix_10 : ∀ t : Fin cfg0.N, win0_10.index t = ![t.val / 16, t.val % 16] := (by decide +kernel : ∀ t : Fin grid0.N, win0_10.index t = ![t.val / 16, t.val % 16])
theorem b_0 (t : Fin cfg0.N) (q : Fin 256) (l : Fin 128) : iblk m c 0 t (ix2 q l) = V m c main_v36 (ix2 (row t q) (⟨(2 * (t.val / 16)) * 128 + l.val, lane_lt t 0 (by omega) l⟩ : Fin 1024)) := by
  blk_ext [iblk, ix_0 t, row]
theorem b_1 (t : Fin cfg0.N) (q : Fin 256) (l : Fin 128) : iblk m c 1 t (ix2 q l) = V m c main_v36 (ix2 (row t q) (⟨(2 * (t.val / 16) + 1) * 128 + l.val, lane_lt t 1 (by omega) l⟩ : Fin 1024)) := by
  blk_ext [iblk, ix_1 t, row]
theorem b_5 (t : Fin cfg0.N) (q : Fin 256) (l : Fin 128) : iblk m c 5 t (ix2 q l) = V m c main_v48 (ix2 (row t q) (⟨(2 * (t.val / 16)) * 128 + l.val, lane_lt t 0 (by omega) l⟩ : Fin 1024)) := by
  blk_ext [iblk, ix_5 t, row]
theorem b_6 (t : Fin cfg0.N) (q : Fin 256) (l : Fin 128) : iblk m c 6 t (ix2 q l) = V m c main_v48 (ix2 (row t q) (⟨(2 * (t.val / 16) + 1) * 128 + l.val, lane_lt t 1 (by omega) l⟩ : Fin 1024)) := by
  blk_ext [iblk, ix_6 t, row]
theorem b_7 (t : Fin cfg0.N) (q : Fin 256) (l : Fin 128) : iblk m c 7 t (ix2 q l) = V m c main_v25 (ix2 (row t q) (⟨(2 * (t.val / 16)) * 128 + l.val, lane_lt t 0 (by omega) l⟩ : Fin 1024)) := by
  blk_ext [iblk, ix_7 t, row]
theorem b_8 (t : Fin cfg0.N) (q : Fin 256) (l : Fin 128) : iblk m c 8 t (ix2 q l) = V m c main_v25 (ix2 (row t q) (⟨(2 * (t.val / 16) + 1) * 128 + l.val, lane_lt t 1 (by omega) l⟩ : Fin 1024)) := by
  blk_ext [iblk, ix_8 t, row]
theorem b_2 (t : Fin cfg0.N) (a : Fin 4096) (b : Fin 128) : iblk m c 2 t (ix2 a b) = V m c main_v26 (ix2 a b) := by
  blk_ext [iblk, ix_2 t]
theorem b_3 (t : Fin cfg0.N) (a : Fin 128) (b : Fin 4096) : iblk m c 3 t (ix2 a b) = V m c main_v37 (ix2 a b) := by
  blk_ext [iblk, ix_3 t]
theorem b_4 (t : Fin cfg0.N) (a : Fin 4096) (b : Fin 128) : iblk m c 4 t (ix2 a b) = V m c main_v38 (ix2 a b) := by
  blk_ext [iblk, ix_4 t]
theorem read_9 (t : Fin cfg0.N) (X : Vec Ideal S8x4096x1 .f32) (h : Fin 2) (q : Fin 256) : ((cfg0.win 9).blk t).view.read (Elt Ideal) X (ix3 h q 0) = X (ix3 (⟨2 * (t.val / 16) + h.val, head_lt t h⟩ : Fin 8) (row t q) 0) := by
  blk_ext [ix_9 t, row]
theorem b_9 (t : Fin cfg0.N) (h : Fin 2) (q : Fin 256) : iblk m c 9 t (ix3 h q 0) = V m c main_v14 (ix3 (⟨2 * (t.val / 16) + h.val, head_lt t h⟩ : Fin 8) (row t q) 0) :=
  read_9 t (V m c main_v14) h q

end Cert.Proof.Attn
end
-- ==== Proof.AttnPoint.lean ====
module

public import proofs.«01_k».proof.Proof.AttnBlk

@[expose] public section

set_option maxRecDepth 16384

noncomputable section

namespace Cert.Proof.Attn

open Cert.KernelIdeal Cert.KernelIdeal.Gen
open Idealize.ShloMosaic Idealize.ShloMosaic.TcCoe Idealize.SL.Sem

/-! ## One head's probabilities and score gradients, from blocks that hold that head's rows -/

/-- The key/value head of a query head, and its place among the four of that group. -/
def hg (h : Fin 8) : Fin 2 := ⟨h.val / 4, by omega⟩
def hr (h : Fin 8) : Fin 4 := ⟨h.val % 4, by omega⟩

section
variable (h : Fin 8) (i : Fin 4096) (q : Fin 256) (j : Fin 4096)
  {Q D : FVec Ideal S4096x512 .f32} {K W : FVec Ideal S4096x128 .f32}

/-- Lanes `64 (h / 4) …` of the block's row hold head `h` of row `i` of `X`, its other lanes zero. -/
def Slot (a : Vec Ideal S256x128 .bf16) (X : FVec Ideal S4096x512 .f32) : Prop :=
  ∀ l : Fin 128, a (ix2 q l) = if h.val / 4 = l.val / 64 then X (ix2 i (⟨h.val * 64 + l.val % 64, by omega⟩ : Fin 512)) else (0 : EReal)
/-- The block is all of `Y`. -/
def All (b : Vec Ideal S4096x128 .bf16) (Y : FVec Ideal S4096x128 .f32) : Prop :=
  ∀ (j : Fin 4096) (l : Fin 128), b (ix2 j l) = Y (ix2 j l)

theorem lanes_of (a : Vec Ideal S256x128 .bf16) (b : Vec Ideal S4096x128 .bf16) (X : FVec Ideal S4096x512 .f32) (Y : FVec Ideal S4096x128 .f32)
    (ha : Slot h i q a X) (hb : All b Y) :
    lanes a b q j = ∑ d : Fin 64, X (ix2 i (⟨h.val * 64 + d.val, by omega⟩ : Fin 512)) * Y (ix2 j (⟨h.val / 4 * 64 + d.val, by omega⟩ : Fin 128)) := by
  unfold lanes
  refine Eq.trans (Finset.sum_congr rfl fun l _ => congrArg₂ (· * ·) (ha l) (hb j l)) ?_
  exact slot_sum (h.val / 4) (by omega) (fun d => X (ix2 i (⟨h.val * 64 + d.val, by omega⟩ : Fin 512))) (fun l => Y (ix2 j l))

theorem col_eq (d : Fin 64) : (⟨h.val * 64 + d.val, by omega⟩ : Fin 512) = ⟨(hg h).val * 256 + (hr h).val * 64 + d.val, by have := (hg h).isLt; have := (hr h).isLt; omega⟩ :=
  Fin.ext (by show h.val * 64 + d.val = h.val / 4 * 256 + h.val % 4 * 64 + d.val; omega)

/-- The product of the head's query row with its keys is the score. -/
theorem lanes_sc (a : Vec Ideal S256x128 .bf16) (b : Vec Ideal S4096x128 .bf16) (ha : Slot h i q a Q) (hb : All b K) : lanes a b q j = Sc Q K (hg h) (hr h) i j := by
  rw [lanes_of h i q j a b Q K ha hb]; unfold Sc
  refine Finset.sum_congr rfl fun d _ => (mul_comm _ _).trans (congrArg₂ (· * ·) rfl ?_)
  exact congrArg (fun x => Q (ix2 i x)) (col_eq h d)
/-- The product of the output gradient's row with the values is the probability's gradient. -/
theorem lanes_dp (a : Vec Ideal S256x128 .bf16) (b : Vec Ideal S4096x128 .bf16) (ha : Slot h i q a D) (hb : All b W) : lanes a b q j = Dp W D (hg h) (hr h) i j := by
  rw [lanes_of h i q j a b D W ha hb]; unfold Dp
  refine Finset.sum_congr rfl fun d _ => congrArg₂ (· * ·) ?_ rfl
  exact congrArg (fun x => D (ix2 i x)) (col_eq h d)

/-- A row that holds one number has that number as its greatest. -/
theorem rowMax_of (x : Vec Ideal S256x128 .f32) (v : EReal) (hx : ∀ l : Fin 128, x (ix2 q l) = v) : rowMax x q = v := by
  unfold rowMax; rw [negInf, show (fun l : Fin 128 => x (ix2 q l)) = fun _ => v from funext hx]; exact fold_const (n := 127) v

theorem pB_of (hQ : Reals Q) (hK : Reals K) (a : Vec Ideal S256x128 .bf16) (b : Vec Ideal S4096x128 .bf16) (L : EReal) (ha : Slot h i q a Q) (hb : All b K)
    (hL : L = Mx Q K (hg h) (hr h) i + Ideal.log (Ls Q K (hg h) (hr h) i)) : pB a b L q j = Pr Q K (hg h) (hr h) i j := by
  unfold pB; rw [lanes_sc h i q j a b ha hb, hL]; exact prob_eq hQ hK _ _ _ _

theorem dB_of (hQ : Reals Q) (hK : Reals K) (hW : Reals W) (hD : Reals D) (a : Vec Ideal S256x128 .bf16) (b : Vec Ideal S4096x128 .bf16) (L : EReal)
    (a' : Vec Ideal S256x128 .bf16) (b' : Vec Ideal S4096x128 .bf16) (x : Vec Ideal S256x128 .f32)
    (ha : Slot h i q a Q) (hb : All b K) (hL : L = Mx Q K (hg h) (hr h) i + Ideal.log (Ls Q K (hg h) (hr h) i))
    (ha' : Slot h i q a' D) (hb' : All b' W) (hx : ∀ l : Fin 128, x (ix2 q l) = Dl Q K W D (hg h) (hr h) i) :
    dB a b L a' b' x q j = Cert.ReferenceIdeal.Read.val_main_v52 (F := Ideal) Q K W D (ix4 (hg h) (hr h) i j) := by
  unfold dB
  rw [pB_of h i q j hQ hK a b L ha hb hL, lanes_dp h i q j a' b' ha' hb', rowMax_of q x _ hx]
  exact ds_eq hQ hK hW hD _ _ _ _
end

/-! ## The blocks of the kernel at a point hold its two heads' rows -/

variable (m : (ℓ : Loc nD τ sig) → Buf (Elt Ideal) ℓ) (c : Dev nD) (t : Fin cfg0.N)

/-- The two query heads a point works on. -/
def hd0 : Fin 8 := ⟨2 * (t.val / 16), by have := t_lt t; omega⟩
def hd1 : Fin 8 := ⟨2 * (t.val / 16) + 1, by have := t_lt t; omega⟩

/-- The four argument arrays. -/
abbrev aQ : FVec Ideal S4096x512 .f32 := m ((c : Thread nD τ).loc main_arg0)
abbrev aK : FVec Ideal S4096x128 .f32 := m ((c : Thread nD τ).loc main_arg1)
abbrev aW : FVec Ideal S4096x128 .f32 := m ((c : Thread nD τ).loc main_arg2)
abbrev aD : FVec Ideal S4096x512 .f32 := m ((c : Thread nD τ).loc main_arg3)

theorem s_0 (q : Fin 256) : Slot (hd0 t) (row t q) q (iblk m c 0 t) (aQ m c) := fun l => (b_0 m c t q l).trans (V36_at m c (row t q) (hd0 t) l)
theorem s_1 (q : Fin 256) : Slot (hd1 t) (row t q) q (iblk m c 1 t) (aQ m c) := fun l => (b_1 m c t q l).trans (V36_at m c (row t q) (hd1 t) l)
theorem s_5 (q : Fin 256) : Slot (hd0 t) (row t q) q (iblk m c 5 t) (aD m c) := fun l => (b_5 m c t q l).trans (V48_at m c (row t q) (hd0 t) l)
theorem s_6 (q : Fin 256) : Slot (hd1 t) (row t q) q (iblk m c 6 t) (aD m c) := fun l => (b_6 m c t q l).trans (V48_at m c (row t q) (hd1 t) l)
theorem s_2 : All (iblk m c 2 t) (aK m c) := fun j l => (b_2 m c t j l).trans (V26_at m c j l)
theorem s_4 : All (iblk m c 4 t) (aW m c) := fun j l => (b_4 m c t j l).trans (V38_at m c j l)
theorem s_3 (l : Fin 128) (j : Fin 4096) : (iblk m c 3 t : Vec Ideal S128x4096 .bf16) (ix2 l j) = aK m c (ix2 j l) := (b_3 m c t l j).trans (V37_at m c l j)

theorem lse_at (h : Fin 8) (i : Fin 4096) : V m c main_v14 (ix3 h i 0) = Mx (aQ m c) (aK m c) (hg h) (hr h) i + Ideal.log (Ls (aQ m c) (aK m c) (hg h) (hr h) i) :=
  Eq.trans (congrArg (fun x => V m c main_v14 (ix3 x i 0)) (Fin.ext (by show h.val = h.val / 4 * 4 + h.val % 4; omega))) (V14_at m c (hg h) (hr h) i)
theorem dl_at (h : Fin 8) (i : Fin 4096) (l : Fin 128) : V m c main_v25 (ix2 i (⟨h.val * 128 + l.val, by omega⟩ : Fin 1024)) = Dl (aQ m c) (aK m c) (aW m c) (aD m c) (hg h) (hr h) i :=
  Eq.trans (congrArg (fun x => V m c main_v25 (ix2 i x)) (Fin.ext (by show h.val * 128 + l.val = (h.val / 4 * 4 + h.val % 4) * 128 + l.val; omega))) (V25_at m c (hg h) (hr h) i l)

theorem s_9lo (q : Fin 256) : (iblk m c 9 t : Vec Ideal S2x256x1 .f32) (ix3 0 q 0) = Mx (aQ m c) (aK m c) (hg (hd0 t)) (hr (hd0 t)) (row t q) + Ideal.log (Ls (aQ m c) (aK m c) (hg (hd0 t)) (hr (hd0 t)) (row t q)) :=
  (b_9 m c t 0 q).trans (lse_at m c (hd0 t) (row t q))
theorem s_9hi (q : Fin 256) : (iblk m c 9 t : Vec Ideal S2x256x1 .f32) (ix3 1 q 0) = Mx (aQ m c) (aK m c) (hg (hd1 t)) (hr (hd1 t)) (row t q) + Ideal.log (Ls (aQ m c) (aK m c) (hg (hd1 t)) (hr (hd1 t)) (row t q)) :=
  (b_9 m c t 1 q).trans (lse_at m c (hd1 t) (row t q))
theorem s_7 (q : Fin 256) (l : Fin 128) : (iblk m c 7 t : Vec Ideal S256x128 .f32) (ix2 q l) = Dl (aQ m c) (aK m c) (aW m c) (aD m c) (hg (hd0 t)) (hr (hd0 t)) (row t q) :=
  (b_7 m c t q l).trans (dl_at m c (hd0 t) (row t q) l)
theorem s_8 (q : Fin 256) (l : Fin 128) : (iblk m c 8 t : Vec Ideal S256x128 .f32) (ix2 q l) = Dl (aQ m c) (aK m c) (aW m c) (aD m c) (hg (hd1 t)) (hr (hd1 t)) (row t q) :=
  (b_8 m c t q l).trans (dl_at m c (hd1 t) (row t q) l)

variable (hQ : Reals (aQ m c)) (hK : Reals (aK m c)) (hW : Reals (aW m c)) (hD : Reals (aD m c)) (q : Fin 256) (j : Fin 4096)

include hQ hK in
theorem p_lo : pB (iblk m c 0 t) (iblk m c 2 t) ((iblk m c 9 t : Vec Ideal S2x256x1 .f32) (ix3 0 q 0)) q j = Cert.ReferenceIdeal.Read.val_main_v29 (F := Ideal) (aQ m c) (aK m c) (ix4 (hg (hd0 t)) (hr (hd0 t)) (row t q) j) :=
  (pB_of (hd0 t) (row t q) q j hQ hK _ _ _ (s_0 m c t q) (s_2 m c t) (s_9lo m c t q)).trans (r29_pr hQ hK _ _ _ _).symm
include hQ hK in
theorem p_hi : pB (iblk m c 1 t) (iblk m c 2 t) ((iblk m c 9 t : Vec Ideal S2x256x1 .f32) (ix3 1 q 0)) q j = Cert.ReferenceIdeal.Read.val_main_v29 (F := Ideal) (aQ m c) (aK m c) (ix4 (hg (hd1 t)) (hr (hd1 t)) (row t q) j) :=
  (pB_of (hd1 t) (row t q) q j hQ hK _ _ _ (s_1 m c t q) (s_2 m c t) (s_9hi m c t q)).trans (r29_pr hQ hK _ _ _ _).symm
include hQ hK hW hD in
theorem d_lo : dB (iblk m c 0 t) (iblk m c 2 t) ((iblk m c 9 t : Vec Ideal S2x256x1 .f32) (ix3 0 q 0)) (iblk m c 5 t) (iblk m c 4 t) (iblk m c 7 t) q j
    = Cert.ReferenceIdeal.Read.val_main_v52 (F := Ideal) (aQ m c) (aK m c) (aW m c) (aD m c) (ix4 (hg (hd0 t)) (hr (hd0 t)) (row t q) j) :=
  dB_of (hd0 t) (row t q) q j hQ hK hW hD _ _ _ _ _ _ (s_0 m c t q) (s_2 m c t) (s_9lo m c t q) (s_5 m c t q) (s_4 m c t) (s_7 m c t q)
include hQ hK hW hD in
theorem d_hi : dB (iblk m c 1 t) (iblk m c 2 t) ((iblk m c 9 t : Vec Ideal S2x256x1 .f32) (ix3 1 q 0)) (iblk m c 6 t) (iblk m c 4 t) (iblk m c 8 t) q j
    = Cert.ReferenceIdeal.Read.val_main_v52 (F := Ideal) (aQ m c) (aK m c) (aW m c) (aD m c) (ix4 (hg (hd1 t)) (hr (hd1 t)) (row t q) j) :=
  dB_of (hd1 t) (row t q) q j hQ hK hW hD _ _ _ _ _ _ (s_1 m c t q) (s_2 m c t) (s_9hi m c t q) (s_6 m c t q) (s_4 m c t) (s_8 m c t q)

end Cert.Proof.Attn
end
-- ==== Proof.AttnValue.lean ====
module

public import proofs.«01_k».proof.Proof.AttnPoint

@[expose] public section

set_option maxRecDepth 16384

noncomputable section

namespace Cert.Proof.Attn

open Cert.KernelIdeal Cert.KernelIdeal.Gen
open Idealize.ShloMosaic Idealize.ShloMosaic.TcCoe Idealize.SL.Sem
open Idealize.ShloMosaic.Pipeline (Dat)
open Cert.ReferenceIdeal.Read (val_main_v29 val_main_v52 val_main_v61 val_main_v62 val_main_v63)

/-! ## Summing over the grid is summing over the heads of a group and the query rows -/

theorem sum_rows (f : Fin 4096 → EReal) : ∑ b : Fin 16, ∑ q : Fin 256, f ⟨256 * b.val + q.val, by omega⟩ = ∑ i : Fin 4096, f i := by
  rw [← (finProdFinEquiv (m := 16) (n := 256)).sum_comp, Fintype.sum_prod_type]
  refine Finset.sum_congr rfl fun b _ => Finset.sum_congr rfl fun q _ => congrArg f (Fin.ext ?_)
  show 256 * b.val + q.val = q.val + 256 * b.val; omega

theorem sum_grid (f : Fin 64 → EReal) : ∑ t : Fin 64, f t = ∑ a : Fin 4, ∑ b : Fin 16, f ⟨16 * a.val + b.val, by omega⟩ := by
  rw [← (finProdFinEquiv (m := 4) (n := 16)).sum_comp, Fintype.sum_prod_type]
  refine Finset.sum_congr rfl fun b _ => Finset.sum_congr rfl fun q _ => congrArg f (Fin.ext ?_)
  show q.val + 16 * b.val = 16 * b.val + q.val; omega

/-- The points of group `g`, two heads and 256 rows each, run over its four heads and all rows once. -/
theorem sum_points (g : Fin 2) (f : Fin 8 → Fin 4096 → EReal) :
    ∑ t : Fin 64, (if 2 * (t.val / 16) / 4 = g.val then
        (∑ q : Fin 256, f ⟨2 * (t.val / 16), by omega⟩ ⟨256 * (t.val % 16) + q.val, by omega⟩)
          + ∑ q : Fin 256, f ⟨2 * (t.val / 16) + 1, by omega⟩ ⟨256 * (t.val % 16) + q.val, by omega⟩ else 0)
      = ∑ r : Fin 4, ∑ i : Fin 4096, f ⟨g.val * 4 + r.val, by omega⟩ i := by
  rw [sum_grid]
  have e : ∀ a : Fin 4, ∑ b : Fin 16, (if 2 * ((16 * a.val + b.val) / 16) / 4 = g.val then
        (∑ q : Fin 256, f ⟨2 * ((16 * a.val + b.val) / 16), by omega⟩ ⟨256 * ((16 * a.val + b.val) % 16) + q.val, by omega⟩)
          + ∑ q : Fin 256, f ⟨2 * ((16 * a.val + b.val) / 16) + 1, by omega⟩ ⟨256 * ((16 * a.val + b.val) % 16) + q.val, by omega⟩ else 0)
      = if 2 * a.val / 4 = g.val then (∑ i : Fin 4096, f ⟨2 * a.val, by omega⟩ i) + ∑ i : Fin 4096, f ⟨2 * a.val + 1, by omega⟩ i else 0 := fun a => by
    by_cases h : 2 * a.val / 4 = g.val
    · rw [if_pos h, ← sum_rows, ← sum_rows, ← Finset.sum_add_distrib]
      refine Finset.sum_congr rfl fun b _ => ?_
      rw [if_pos (by omega)]
      have e1 : (⟨2 * ((16 * a.val + b.val) / 16), by omega⟩ : Fin 8) = ⟨2 * a.val, by omega⟩ := Fin.ext (by show 2 * ((16 * a.val + b.val) / 16) = 2 * a.val; omega)
      have e2 : (⟨2 * ((16 * a.val + b.val) / 16) + 1, by omega⟩ : Fin 8) = ⟨2 * a.val + 1, by omega⟩ := Fin.ext (by show 2 * ((16 * a.val + b.val) / 16) + 1 = 2 * a.val + 1; omega)
      have e3 : ∀ q : Fin 256, (⟨256 * ((16 * a.val + b.val) % 16) + q.val, by omega⟩ : Fin 4096) = ⟨256 * b.val + q.val, by omega⟩ := fun q => Fin.ext (by show 256 * ((16 * a.val + b.val) % 16) + q.val = 256 * b.val + q.val; omega)
      exact congrArg₂ (· + ·) (Finset.sum_congr rfl fun q _ => congrArg₂ f e1 (e3 q)) (Finset.sum_congr rfl fun q _ => congrArg₂ f e2 (e3 q))
    · rw [if_neg h]
      exact Finset.sum_eq_zero fun b _ => if_neg (by omega)
  rw [Finset.sum_congr rfl fun a _ => e a, Fin.sum_univ_four, Fin.sum_univ_four]
  match g with
  | ⟨0, _⟩ =>
    rw [if_pos (show 2 * ((0 : Fin 4) : ℕ) / 4 = ((⟨0, by decide⟩ : Fin 2) : ℕ) from rfl), if_pos (show 2 * ((1 : Fin 4) : ℕ) / 4 = ((⟨0, by decide⟩ : Fin 2) : ℕ) from rfl),
      if_neg (show ¬ 2 * ((2 : Fin 4) : ℕ) / 4 = ((⟨0, by decide⟩ : Fin 2) : ℕ) from by decide), if_neg (show ¬ 2 * ((3 : Fin 4) : ℕ) / 4 = ((⟨0, by decide⟩ : Fin 2) : ℕ) from by decide), add_zero, add_zero]
    exact add_assoc _ _ _ |>.symm
  | ⟨1, _⟩ =>
    rw [if_neg (show ¬ 2 * ((0 : Fin 4) : ℕ) / 4 = ((⟨1, by decide⟩ : Fin 2) : ℕ) from by decide), if_neg (show ¬ 2 * ((1 : Fin 4) : ℕ) / 4 = ((⟨1, by decide⟩ : Fin 2) : ℕ) from by decide),
      if_pos (show 2 * ((2 : Fin 4) : ℕ) / 4 = ((⟨1, by decide⟩ : Fin 2) : ℕ) from rfl), if_pos (show 2 * ((3 : Fin 4) : ℕ) / 4 = ((⟨1, by decide⟩ : Fin 2) : ℕ) from rfl), zero_add, zero_add]
    exact add_assoc _ _ _ |>.symm

/-! ## The three result arrays -/

variable (m : (ℓ : Loc nD τ sig) → Buf (Elt Ideal) ℓ) (c : Dev nD)

theorem grp_coords (t : Fin cfg0.N) : (grp (grid0.coords t)).val = 2 * (t.val / 16) / 4 := by
  have e0 : (grid0.coords t 0).val = t.val / 16 % 4 := Pipeline.Grid.coords_val t 0 (by decide) rfl
  have := t_lt t
  show 2 * (grid0.coords t 0).val / 4 = _
  rw [e0]; omega

/-- The reference's query gradient at a head's row. -/
theorem ref_dq (Q D : FVec Ideal S4096x512 .f32) (K W : FVec Ideal S4096x128 .f32) (h : Fin 8) (d : Fin 64) (i : Fin 4096) :
    val_main_v61 (F := Ideal) Q K W D (ix2 (⟨h.val * 64 + d.val, by omega⟩ : Fin 512) i)
      = ∑ j : Fin 4096, val_main_v52 (F := Ideal) Q K W D (ix4 (hg h) (hr h) i j) * K (ix2 j (⟨h.val / 4 * 64 + d.val, by omega⟩ : Fin 128)) := by
  have e1 : (⟨(h.val * 64 + d.val) / 256, by omega⟩ : Fin 2) = hg h := Fin.ext (by show (h.val * 64 + d.val) / 256 = h.val / 4; omega)
  have e2 : (⟨(h.val * 64 + d.val) / 64 % 4, by omega⟩ : Fin 4) = hr h := Fin.ext (by show (h.val * 64 + d.val) / 64 % 4 = h.val % 4; omega)
  have e3 : (⟨(h.val * 64 + d.val) / 256 * 64 + (h.val * 64 + d.val) % 64, by omega⟩ : Fin 128) = ⟨h.val / 4 * 64 + d.val, by omega⟩ := Fin.ext (by show (h.val * 64 + d.val) / 256 * 64 + (h.val * 64 + d.val) % 64 = h.val / 4 * 64 + d.val; omega)
  refine (r61 Q K W D _ i).trans (Finset.sum_congr rfl fun j _ => congrArg₂ (· * ·) ?_ (congrArg (fun x => K (ix2 j x)) e3))
  exact congrArg₂ (fun a b => val_main_v52 (F := Ideal) Q K W D (ix4 a b i j)) e1 e2

variable (hQ : Reals (aQ m c)) (hK : Reals (aK m c)) (hW : Reals (aW m c)) (hD : Reals (aD m c))

include hQ hK hW hD in
/-- What a point writes of the query gradient is the reference's, at the rows of its two heads. -/
theorem dq_lo (t : Fin cfg0.N) (d : Fin 64) (q : Fin 256) : dqOut (grid0.coords t) (iblk m c 0 t) (iblk m c 1 t) (iblk m c 2 t) (iblk m c 3 t) (iblk m c 4 t) (iblk m c 5 t) (iblk m c 6 t) (iblk m c 7 t) (iblk m c 8 t) (iblk m c 9 t) (ix2 (⟨d.val, by omega⟩ : Fin 128) q)
    = val_main_v61 (F := Ideal) (aQ m c) (aK m c) (aW m c) (aD m c) (ix2 (⟨(hd0 t).val * 64 + d.val, by have := (hd0 t).isLt; omega⟩ : Fin 512) (row t q)) := by
  refine (dqOut_lo _ _ _ _ _ _ _ _ _ _ _ d q).trans (Eq.trans (Finset.sum_congr rfl fun j _ => ?_) (ref_dq _ _ _ _ (hd0 t) d (row t q)).symm)
  refine (mul_comm _ _).trans (congrArg₂ (· * ·) (d_lo m c t hQ hK hW hD q j) ((s_3 m c t _ j).trans (congrArg (fun x => aK m c (ix2 j x)) (Fin.ext ?_))))
  have := grp_coords t
  show 64 * (grp (grid0.coords t)).val + d.val = 2 * (t.val / 16) / 4 * 64 + d.val
  omega
include hQ hK hW hD in
theorem dq_hi (t : Fin cfg0.N) (d : Fin 64) (q : Fin 256) : dqOut (grid0.coords t) (iblk m c 0 t) (iblk m c 1 t) (iblk m c 2 t) (iblk m c 3 t) (iblk m c 4 t) (iblk m c 5 t) (iblk m c 6 t) (iblk m c 7 t) (iblk m c 8 t) (iblk m c 9 t) (ix2 (⟨64 + d.val, by omega⟩ : Fin 128) q)
    = val_main_v61 (F := Ideal) (aQ m c) (aK m c) (aW m c) (aD m c) (ix2 (⟨(hd1 t).val * 64 + d.val, by have := (hd1 t).isLt; omega⟩ : Fin 512) (row t q)) := by
  refine (dqOut_hi _ _ _ _ _ _ _ _ _ _ _ d q).trans (Eq.trans (Finset.sum_congr rfl fun j _ => ?_) (ref_dq _ _ _ _ (hd1 t) d (row t q)).symm)
  refine (mul_comm _ _).trans (congrArg₂ (· * ·) (d_hi m c t hQ hK hW hD q j) ((s_3 m c t _ j).trans (congrArg (fun x => aK m c (ix2 j x)) (Fin.ext ?_))))
  have := grp_coords t
  show 64 * (grp (grid0.coords t)).val + d.val = (2 * (t.val / 16) + 1) / 4 * 64 + d.val
  omega

theorem hi_lt (d : Fin 64) : 64 + d.val < 128 := by omega

include hQ hK hW hD in
/-- After the run the query gradient's array is the reference's. -/
theorem dq_final : (dats m 0 c).arrAt 10 (cfgs 0).N = val_main_v61 (F := Ideal) (aQ m c) (aK m c) (aW m c) (aD m c) := by
  refine (dats m 0 c).arrAt_eq_of_covers 10 _ (by decide +kernel) fun t _ y => ?_
  blk_simp
  rw [after0_10]
  obtain ⟨r, q, rfl⟩ : ∃ (r : Fin 128) (q : Fin 256), y = ix2 r q := ⟨y 0, y 1, by funext a; match a with | ⟨0, _⟩ => rfl | ⟨1, _⟩ => rfl⟩
  have := t_lt t
  by_cases h : r.val < 64
  · refine (dq_lo m c hQ hK hW hD t ⟨r.val, h⟩ q).trans ?_
    blk_ext [ix_10 t, row, hd0]
  · obtain ⟨d, rfl⟩ : ∃ d : Fin 64, r = ⟨64 + d.val, hi_lt d⟩ := ⟨⟨r.val - 64, by omega⟩, Fin.ext (by show r.val = 64 + (r.val - 64); omega)⟩
    refine (dq_hi m c hQ hK hW hD t d q).trans ?_
    blk_ext [ix_10 t, row, hd1]

/-- A resident buffer that gains `S t` at its element each point holds, after `n` points, the sum of the first `n`. -/
theorem acc_sum (step : Fin cfg0.N → Vec Ideal S128x4096 .f32 → Vec Ideal S128x4096 .f32) (k : S128x4096.Idx) (S : Fin 64 → EReal)
    (hs : ∀ (t : Fin cfg0.N) (X : Vec Ideal S128x4096 .f32), step t X k = X k + S ⟨t.val, t_lt t⟩) :
    ∀ n (hn : n ≤ 64), acc step n k = ∑ s : Fin n, S ⟨s.val, by omega⟩
  | 0, _ => by
    rw [acc, Fin.sum_univ_zero]
    exact Ideal.ofBits_zero_f32
  | n + 1, hn => by
    have e := acc_succ step (⟨n, lt_of_lt_of_eq hn N_0.symm⟩ : Fin cfg0.N)
    rw [show acc step (n + 1) = _ from e, hs, Fin.sum_univ_castSucc, acc_sum step k S hs n (by omega)]
    rfl

theorem lo_col (h : Fin 8) (d : Fin 64) : h.val * 64 + d.val < 512 := by omega
theorem g_row (g : Fin 2) (d : Fin 64) : 64 * g.val + d.val < 128 := by omega

/-- What head `h` and query row `i` add to the key gradient, -/
def dkTerm (d : Fin 64) (j : Fin 4096) (h : Fin 8) (i : Fin 4096) : EReal :=
  aQ m c (ix2 i (⟨h.val * 64 + d.val, lo_col h d⟩ : Fin 512)) * val_main_v52 (F := Ideal) (aQ m c) (aK m c) (aW m c) (aD m c) (ix4 (hg h) (hr h) i j)
/-- and to the value gradient. -/
def dvTerm (d : Fin 64) (j : Fin 4096) (h : Fin 8) (i : Fin 4096) : EReal :=
  aD m c (ix2 i (⟨h.val * 64 + d.val, lo_col h d⟩ : Fin 512)) * val_main_v29 (F := Ideal) (aQ m c) (aK m c) (ix4 (hg h) (hr h) i j)

/-- A slot's own lane holds the head's entry. -/
theorem slot_in (h : Fin 8) (i : Fin 4096) (q : Fin 256) (a : Vec Ideal S256x128 .bf16) (X : FVec Ideal S4096x512 .f32) (ha : Slot h i q a X) (l : Fin 128) (d : Fin 64)
    (hl : l.val = 64 * (h.val / 4) + d.val) : a (ix2 q l) = X (ix2 i (⟨h.val * 64 + d.val, lo_col h d⟩ : Fin 512)) := by
  rw [ha l, if_pos (by omega)]
  exact congrArg (fun x => X (ix2 i x)) (Fin.ext (by show h.val * 64 + l.val % 64 = h.val * 64 + d.val; omega))

theorem row_eq (t : Fin cfg0.N) (g : Fin 2) (hg' : 2 * (t.val / 16) / 4 = g.val) (d : Fin 64) :
    (⟨64 * g.val + d.val, g_row g d⟩ : Fin 128) = ⟨64 * (grp (grid0.coords t)).val + d.val, g_row _ d⟩ :=
  Fin.ext (by have := grp_coords t; show 64 * g.val + d.val = 64 * (grp (grid0.coords t)).val + d.val; omega)

include hQ hK hW hD in
theorem dk_step (g : Fin 2) (d : Fin 64) (j : Fin 4096) (t : Fin cfg0.N) (X : Vec Ideal S128x4096 .f32) :
    dkStep m c t X (ix2 (⟨64 * g.val + d.val, g_row g d⟩ : Fin 128) j) = X (ix2 (⟨64 * g.val + d.val, g_row g d⟩ : Fin 128) j)
      + (if 2 * (t.val / 16) / 4 = g.val then (∑ q : Fin 256, dkTerm m c d j (hd0 t) (row t q)) + ∑ q : Fin 256, dkTerm m c d j (hd1 t) (row t q) else 0) := by
  have hgc := grp_coords t
  by_cases h : 2 * (t.val / 16) / 4 = g.val
  · rw [if_pos h, row_eq t g h d]
    refine (dkOut_in _ _ _ _ _ _ _ _ _ _ _ X d j).trans (congrArg₂ (· + ·) rfl (congrArg₂ (· + ·) (Finset.sum_congr rfl fun q _ => ?_) (Finset.sum_congr rfl fun q _ => ?_)))
    · refine congrArg₂ (· * ·) (slot_in (hd0 t) (row t q) q _ _ (s_0 m c t q) _ d ?_) (d_lo m c t hQ hK hW hD q j)
      show 64 * (grp (grid0.coords t)).val + d.val = 64 * (2 * (t.val / 16) / 4) + d.val; omega
    · refine congrArg₂ (· * ·) (slot_in (hd1 t) (row t q) q _ _ (s_1 m c t q) _ d ?_) (d_hi m c t hQ hK hW hD q j)
      show 64 * (grp (grid0.coords t)).val + d.val = 64 * ((2 * (t.val / 16) + 1) / 4) + d.val; omega
  · rw [if_neg h, add_zero]
    exact dkOut_out _ _ _ _ _ _ _ _ _ _ _ X _ j (by show (64 * g.val + d.val) / 64 ≠ _; omega)

include hQ hK in
theorem dv_step (g : Fin 2) (d : Fin 64) (j : Fin 4096) (t : Fin cfg0.N) (X : Vec Ideal S128x4096 .f32) :
    dvStep m c t X (ix2 (⟨64 * g.val + d.val, g_row g d⟩ : Fin 128) j) = X (ix2 (⟨64 * g.val + d.val, g_row g d⟩ : Fin 128) j)
      + (if 2 * (t.val / 16) / 4 = g.val then (∑ q : Fin 256, dvTerm m c d j (hd0 t) (row t q)) + ∑ q : Fin 256, dvTerm m c d j (hd1 t) (row t q) else 0) := by
  have hgc := grp_coords t
  by_cases h : 2 * (t.val / 16) / 4 = g.val
  · rw [if_pos h, row_eq t g h d]
    refine (dvOut_in _ _ _ _ _ _ _ _ _ _ _ X d j).trans (congrArg₂ (· + ·) rfl (congrArg₂ (· + ·) (Finset.sum_congr rfl fun q _ => ?_) (Finset.sum_congr rfl fun q _ => ?_)))
    · refine congrArg₂ (· * ·) (slot_in (hd0 t) (row t q) q _ _ (s_5 m c t q) _ d ?_) (p_lo m c t hQ hK q j)
      show 64 * (grp (grid0.coords t)).val + d.val = 64 * (2 * (t.val / 16) / 4) + d.val; omega
    · refine congrArg₂ (· * ·) (slot_in (hd1 t) (row t q) q _ _ (s_6 m c t q) _ d ?_) (p_hi m c t hQ hK q j)
      show 64 * (grp (grid0.coords t)).val + d.val = 64 * ((2 * (t.val / 16) + 1) / 4) + d.val; omega
  · rw [if_neg h, add_zero]
    exact dvOut_out _ _ _ _ _ _ _ _ _ _ _ X _ j (by show (64 * g.val + d.val) / 64 ≠ _; omega)

theorem hg_four (g : Fin 2) (r : Fin 4) : hg ⟨g.val * 4 + r.val, by omega⟩ = g := Fin.ext (by show (g.val * 4 + r.val) / 4 = g.val; omega)
theorem hr_four (g : Fin 2) (r : Fin 4) : hr ⟨g.val * 4 + r.val, by omega⟩ = r := Fin.ext (by show (g.val * 4 + r.val) % 4 = r.val; omega)

include hQ hK hW hD in
/-- The key gradient's buffer after the last point is the reference's key gradient, -/
theorem dk_acc (k : S128x4096.Idx) : acc (dkStep m c) 64 k = val_main_v62 (F := Ideal) (aQ m c) (aK m c) (aW m c) (aD m c) k := by
  obtain ⟨r, j, rfl⟩ : ∃ (r : Fin 128) (j : Fin 4096), k = ix2 r j := ⟨k 0, k 1, by funext a; match a with | ⟨0, _⟩ => rfl | ⟨1, _⟩ => rfl⟩
  obtain ⟨g, d, rfl⟩ : ∃ (g : Fin 2) (d : Fin 64), r = ⟨64 * g.val + d.val, g_row g d⟩ :=
    ⟨⟨r.val / 64, by omega⟩, ⟨r.val % 64, by omega⟩, Fin.ext (by show r.val = 64 * (r.val / 64) + r.val % 64; omega)⟩
  refine (acc_sum (dkStep m c) _ (fun t => if 2 * (t.val / 16) / 4 = g.val then
      (∑ q : Fin 256, dkTerm m c d j ⟨2 * (t.val / 16), by omega⟩ ⟨256 * (t.val % 16) + q.val, by omega⟩)
        + ∑ q : Fin 256, dkTerm m c d j ⟨2 * (t.val / 16) + 1, by omega⟩ ⟨256 * (t.val % 16) + q.val, by omega⟩ else 0)
    (fun t X => dk_step m c hQ hK hW hD g d j t X) 64 (le_refl _)).trans ?_
  refine (sum_points g (dkTerm m c d j)).trans (Eq.trans ?_ (Eq.trans (congrArg (fun x => val_main_v62 (F := Ideal) (aQ m c) (aK m c) (aW m c) (aD m c) (ix2 x j))
    (Fin.ext (by show 64 * g.val + d.val = g.val * 64 + d.val; omega))) (r62 (aQ m c) (aK m c) (aW m c) (aD m c) g d j)).symm)
  rw [Finset.sum_comm]
  refine Finset.sum_congr rfl fun i _ => Finset.sum_congr rfl fun r _ => (mul_comm _ _).trans (congrArg₂ (· * ·) ?_ ?_)
  · exact congrArg₂ (fun a b => val_main_v52 (F := Ideal) (aQ m c) (aK m c) (aW m c) (aD m c) (ix4 a b i j)) (hg_four g r) (hr_four g r)
  · exact congrArg (fun x => aQ m c (ix2 i x)) (Fin.ext (by show (g.val * 4 + r.val) * 64 + d.val = g.val * 256 + r.val * 64 + d.val; omega))

include hQ hK in
/-- and the value gradient's buffer the reference's value gradient. -/
theorem dv_acc (k : S128x4096.Idx) : acc (dvStep m c) 64 k = val_main_v63 (F := Ideal) (aQ m c) (aK m c) (aD m c) k := by
  obtain ⟨r, j, rfl⟩ : ∃ (r : Fin 128) (j : Fin 4096), k = ix2 r j := ⟨k 0, k 1, by funext a; match a with | ⟨0, _⟩ => rfl | ⟨1, _⟩ => rfl⟩
  obtain ⟨g, d, rfl⟩ : ∃ (g : Fin 2) (d : Fin 64), r = ⟨64 * g.val + d.val, g_row g d⟩ :=
    ⟨⟨r.val / 64, by omega⟩, ⟨r.val % 64, by omega⟩, Fin.ext (by show r.val = 64 * (r.val / 64) + r.val % 64; omega)⟩
  refine (acc_sum (dvStep m c) _ (fun t => if 2 * (t.val / 16) / 4 = g.val then
      (∑ q : Fin 256, dvTerm m c d j ⟨2 * (t.val / 16), by omega⟩ ⟨256 * (t.val % 16) + q.val, by omega⟩)
        + ∑ q : Fin 256, dvTerm m c d j ⟨2 * (t.val / 16) + 1, by omega⟩ ⟨256 * (t.val % 16) + q.val, by omega⟩ else 0)
    (fun t X => dv_step m c hQ hK g d j t X) 64 (le_refl _)).trans ?_
  refine (sum_points g (dvTerm m c d j)).trans (Eq.trans ?_ (Eq.trans (congrArg (fun x => val_main_v63 (F := Ideal) (aQ m c) (aK m c) (aD m c) (ix2 x j))
    (Fin.ext (by show 64 * g.val + d.val = g.val * 64 + d.val; omega))) (r63 (aQ m c) (aK m c) (aD m c) g d j)).symm)
  refine Finset.sum_congr rfl fun r _ => Finset.sum_congr rfl fun i _ => congrArg₂ (· * ·) ?_ ?_
  · exact congrArg (fun x => aD m c (ix2 i x)) (Fin.ext (by show (g.val * 4 + r.val) * 64 + d.val = g.val * 256 + r.val * 64 + d.val; omega))
  · exact congrArg₂ (fun a b => val_main_v29 (F := Ideal) (aQ m c) (aK m c) (ix4 a b i j)) (hg_four g r) (hr_four g r)

theorem last_pt : (63 : ℕ) < cfg0.N := by rw [show cfg0.N = 64 from N_0]; decide
/-- The last point of the grid. -/
def tL : Fin cfg0.N := ⟨63, last_pt⟩

include hQ hK hW hD in
/-- After the run the key gradient's array is the reference's, -/
theorem dk_final : (dats m 0 c).arrAt 11 (cfgs 0).N = val_main_v62 (F := Ideal) (aQ m c) (aK m c) (aW m c) (aD m c) := by
  refine (dats m 0 c).arrAt_eq_of_after_last 11 tL (by decide +kernel) _ fun j => ?_
  blk_simp
  rw [after0_11]
  exact dk_acc m c hQ hK hW hD _

include hQ hK in
/-- and the value gradient's. -/
theorem dv_final : (dats m 0 c).arrAt 12 (cfgs 0).N = val_main_v63 (F := Ideal) (aQ m c) (aK m c) (aD m c) := by
  refine (dats m 0 c).arrAt_eq_of_after_last 12 tL (by decide +kernel) _ fun j => ?_
  blk_simp
  rw [after0_12]
  exact dv_acc m c hQ hK _

end Cert.Proof.Attn
end
-- ==== Proof.SameText.lean ====
module

public import proofs.«01_k».proof.Proof.Gen.Kernel
public import proofs.«01_k».proof.Proof.Gen.KernelIdeal

@[expose] public section

set_option maxRecDepth 16384
set_option maxHeartbeats 1000000

namespace Cert.Proof.SameText

open Idealize.ShloMosaic

variable {F : FTy → Type} [FloatOps F]

/-! ## The kernel and its ideal reading are one text -/

/-- The two programs' `main` is the same program, -/
theorem main_eq : Cert.Kernel.main (F := F) = Cert.KernelIdeal.main (F := F) := rfl

/-- the body that the call runs is the same, -/
theorem body_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- and so is the table of bodies. -/
theorem defs_eq : Cert.Kernel.defs (F := F) = Cert.KernelIdeal.defs (F := F) := by
  unfold Cert.Kernel.defs Cert.KernelIdeal.defs
  rw [body_eq]
  rfl

end Cert.Proof.SameText

end
-- ==== Proof.lean ====
module

public import proofs.«01_k».proof.Proof.FfnClaim
public import proofs.«01_k».proof.Proof.FfnSameText
public import proofs.«01_k».proof.Proof.MixBwdClaim
public import proofs.«01_k».proof.Proof.MixBwdSameText
public import proofs.«01_k».proof.Proof.MixFwdClaim
public import proofs.«01_k».proof.Proof.MixFwdSameText
public import proofs.«01_k».proof.Proof.MixOutClaim
public import proofs.«01_k».proof.Proof.MixOutSameText
public import proofs.«01_k».proof.Proof.DwOutClaim
public import proofs.«01_k».proof.Proof.DwOutSameText
public import proofs.«01_k».proof.Proof.DwBranchClaim
public import proofs.«01_k».proof.Proof.DwBranchSameText
public import proofs.«01_k».proof.Proof.AttnFwdClaim
public import proofs.«01_k».proof.Proof.AttnFwdSameText
public import proofs.«01_k».proof.Proof.Gen.AttnFwd
public import proofs.«01_k».proof.Proof.Gen.AttnFwdIdeal
public import proofs.«01_k».proof.Proof.Gen.AttnFwdReferenceIdeal
public import proofs.«01_k».proof.Proof.Gen.AttnFwdIdeal.Value
public import proofs.«01_k».proof.Proof.Gen.AttnFwdReferenceIdeal.Run
public import proofs.«01_k».proof.Proof.Gen.AttnFwdReferenceIdeal.Read
public import proofs.«01_k».proof.Proof.MixOutBwdClaim
public import proofs.«01_k».proof.Proof.MixOutBwdSameText
public import proofs.«01_k».proof.Proof.Gen.MixOutBwd
public import proofs.«01_k».proof.Proof.Gen.MixOutBwdIdeal
public import proofs.«01_k».proof.Proof.Gen.MixOutBwdReferenceIdeal
public import proofs.«01_k».proof.Proof.Gen.MixOutBwdIdeal.Value
public import proofs.«01_k».proof.Proof.Gen.MixOutBwdReferenceIdeal.Run
public import proofs.«01_k».proof.Proof.Gen.MixOutBwdReferenceIdeal.Read
public import proofs.«01_k».proof.Proof.Gen.Ffn
public import proofs.«01_k».proof.Proof.Gen.FfnIdeal
public import proofs.«01_k».proof.Proof.Gen.FfnReferenceIdeal
public import proofs.«01_k».proof.Proof.Gen.MixBwd
public import proofs.«01_k».proof.Proof.Gen.MixBwdIdeal
public import proofs.«01_k».proof.Proof.Gen.MixBwdReferenceIdeal
public import proofs.«01_k».proof.Proof.Gen.MixBwdIdeal.Value
public import proofs.«01_k».proof.Proof.Gen.MixBwdReferenceIdeal.Run
public import proofs.«01_k».proof.Proof.Gen.MixBwdReferenceIdeal.Read
public import proofs.«01_k».proof.Proof.Gen.MixFwd
public import proofs.«01_k».proof.Proof.Gen.MixFwdIdeal
public import proofs.«01_k».proof.Proof.Gen.MixFwdReferenceIdeal
public import proofs.«01_k».proof.Proof.Gen.MixFwdIdeal.Value
public import proofs.«01_k».proof.Proof.Gen.MixFwdReferenceIdeal.Run
public import proofs.«01_k».proof.Proof.Gen.MixFwdReferenceIdeal.Read
public import proofs.«01_k».proof.Proof.Gen.MixOut
public import proofs.«01_k».proof.Proof.Gen.MixOutIdeal
public import proofs.«01_k».proof.Proof.Gen.MixOutReferenceIdeal
public import proofs.«01_k».proof.Proof.Gen.MixOutIdeal.Value
public import proofs.«01_k».proof.Proof.Gen.MixOutReferenceIdeal.Run
public import proofs.«01_k».proof.Proof.Gen.MixOutReferenceIdeal.Read
public import proofs.«01_k».proof.Proof.Gen.DwOut
public import proofs.«01_k».proof.Proof.Gen.DwOutIdeal
public import proofs.«01_k».proof.Proof.Gen.DwOutReferenceIdeal
public import proofs.«01_k».proof.Proof.Gen.DwOutIdeal.Value
public import proofs.«01_k».proof.Proof.Gen.DwOutReferenceIdeal.Run
public import proofs.«01_k».proof.Proof.Gen.DwOutReferenceIdeal.Read
public import proofs.«01_k».proof.Proof.Gen.DwBranch
public import proofs.«01_k».proof.Proof.Gen.DwBranchIdeal
public import proofs.«01_k».proof.Proof.Gen.DwBranchReferenceIdeal
public import proofs.«01_k».proof.Proof.Gen.DwBranchIdeal.Value
public import proofs.«01_k».proof.Proof.Gen.DwBranchReferenceIdeal.Run
public import proofs.«01_k».proof.Proof.Gen.DwBranchReferenceIdeal.Read
public import proofs.«01_k».proof.Proof.AttnValue
public import proofs.«01_k».proof.Proof.AttnPre
public import proofs.«01_k».proof.Proof.SameText
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.KernelIdeal
public import proofs.«01_k».proof.Proof.Gen.ReferenceIdeal
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The kernel as it runs, at the machine's floats: it terminates, its arguments end unchanged, its counters at zero. -/
theorem frame_kernel : Cert.quiescent_Kernel (hKernel := Cert.Kernel.Gen.facts) := fun m g _ => by
  rw [Cert.Proof.SameText.defs_eq, Cert.Proof.SameText.main_eq]
  exact Cert.Proof.Attn.frame (F := Bits) m g

/-- The same of the kernel read over the extended reals. -/
theorem frame_kernelIdeal : Cert.quiescent_KernelIdeal (hKernelIdeal := Cert.KernelIdeal.Gen.facts) := fun m g _ => Cert.Proof.Attn.frame (F := Ideal) m g

/-- The same of the reference. -/
theorem frame_reference : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩) (Cert.ReferenceIdeal.Value.run m g)

section
open Cert.ReferenceIdeal Cert.ReferenceIdeal.Gen Cert.ReferenceIdeal.Read
set_option maxHeartbeats 2000000 in
/-- The reference runs to its three composed stages. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v62) = val_main_v62 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v63) = val_main_v63 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v61_eq m c), (h c).2.1.trans (val_main_v62_eq m c),
    (h c).2.2.1.trans (val_main_v63_eq (m ((c.tc : Thread nD τ).loc main_arg0)) (m ((c.tc : Thread nD τ).loc main_arg1)) (m ((c.tc : Thread nD τ).loc main_arg3))), (h c).2.2.2⟩)
    (Cert.ReferenceIdeal.Value.run m ρ)
end

/-- The kernel's three results are the reference's, whenever every argument entry is a real number. -/
theorem values : Cert.algebraic_KernelIdeal_ReferenceIdeal_pre_finite (hKernelIdeal := Cert.KernelIdeal.Gen.facts) (hReferenceIdeal := Cert.ReferenceIdeal.Gen.facts) (hPre_finite := Cert.Proof.Attn.pre_facts) := by
  intro m g m' g' hpre hag
  have hre := fun c => Cert.Proof.Attn.reals_of (hF := Cert.Proof.Attn.pre_facts) _ _ _ _ (hpre c)
  refine ⟨fun c => (Cert.Proof.Attn.dats m 0 c).arrAt 10 (Cert.KernelIdeal.cfgs 0).N, fun c => (Cert.Proof.Attn.dats m 0 c).arrAt 11 (Cert.KernelIdeal.cfgs 0).N,
    fun c => (Cert.Proof.Attn.dats m 0 c).arrAt 12 (Cert.KernelIdeal.cfgs 0).N, ?_, ?_⟩
  · refine (θ_run Cert.KernelIdeal.defs _ _).mono (fun r h c => ?_) (θ_run_and (Cert.Proof.Attn.run_main m g) (Cert.Proof.Attn.frame m g))
    exact ⟨(h.1 c).1 10, (h.1 c).1 11, (h.1 c).1 12, h.2.1 c⟩
  · refine (θ_run Cert.ReferenceIdeal.defs _ _).mono (fun r h c => ?_) (run_reference m' g')
    obtain ⟨hQ, hK, hW, hD⟩ := hre c
    obtain ⟨e0, e1, e2, e3⟩ := hag c
    refine ⟨(h c).1.trans ?_, (h c).2.1.trans ?_, (h c).2.2.1.trans ?_, (h c).2.2.2⟩
    · rw [e0, e1, e2, e3]; exact (Cert.Proof.Attn.dq_final m c hQ hK hW hD).symm
    · rw [e0, e1, e2, e3]; exact (Cert.Proof.Attn.dk_final m c hQ hK hW hD).symm
    · rw [e0, e1, e3]; exact (Cert.Proof.Attn.dv_final m c hQ hK).symm

set_option maxHeartbeats 0 in
/-- The feed-forward kernels as they run, at the machine's floats: they terminate, their arguments end unchanged, their counters at zero. -/
theorem frame_ffn : Cert.quiescent_Ffn (hFfn := Cert.Ffn.Gen.facts) := fun m g _ => by
  rw [Cert.Proof.FfnSameText.defs_eq, Cert.Proof.FfnSameText.main_eq]
  exact Cert.Proof.Ffn.frame (F := Bits) m g

set_option maxHeartbeats 0 in
/-- The same of the backward projection's kernel. -/
theorem frame_mixBwd : Cert.quiescent_MixBwd (hMixBwd := Cert.MixBwd.Gen.facts) := fun m g _ => by
  rw [Cert.Proof.MixBwdSameText.defs_eq, Cert.Proof.MixBwdSameText.main_eq]
  exact Cert.MixBwdIdeal.Gen.frame (F := Bits) m g

set_option maxHeartbeats 0 in
/-- The same of the forward projection's kernel. -/
theorem frame_mixFwd : Cert.quiescent_MixFwd (hMixFwd := Cert.MixFwd.Gen.facts) := fun m g _ => by
  rw [Cert.Proof.MixFwdSameText.defs_eq, Cert.Proof.MixFwdSameText.main_eq]
  exact Cert.MixFwdIdeal.Gen.frame (F := Bits) m g

set_option maxHeartbeats 0 in
/-- The same of the kernel of the branch gates and output products. -/
theorem frame_mixOut : Cert.quiescent_MixOut (hMixOut := Cert.MixOut.Gen.facts) := fun m g _ => by
  rw [Cert.Proof.MixOutSameText.defs_eq, Cert.Proof.MixOutSameText.main_eq]
  exact Cert.MixOutIdeal.Gen.frame (F := Bits) m g

set_option maxHeartbeats 0 in
/-- The same of the kernel of the output weight's gradient. -/
theorem frame_dwOut : Cert.quiescent_DwOut (hDwOut := Cert.DwOut.Gen.facts) := fun m g _ => by
  rw [Cert.Proof.DwOutSameText.defs_eq, Cert.Proof.DwOutSameText.main_eq]
  exact Cert.DwOutIdeal.Gen.frame (F := Bits) m g

set_option maxHeartbeats 0 in
/-- The same of the kernel of a branch weight's gradient. -/
theorem frame_dwBranch : Cert.quiescent_DwBranch (hDwBranch := Cert.DwBranch.Gen.facts) := fun m g _ => by
  rw [Cert.Proof.DwBranchSameText.defs_eq, Cert.Proof.DwBranchSameText.main_eq]
  exact Cert.DwBranchIdeal.Gen.frame (F := Bits) m g

set_option maxHeartbeats 0 in
/-- The same of the forward attention's kernel. -/
theorem frame_attnFwd : Cert.quiescent_AttnFwd (hAttnFwd := Cert.AttnFwd.Gen.facts) := fun m g _ => by
  rw [Cert.Proof.AttnFwdSameText.defs_eq, Cert.Proof.AttnFwdSameText.main_eq]
  exact Cert.AttnFwdIdeal.Gen.frame (F := Bits) m g

set_option maxHeartbeats 0 in
/-- The same of the branches' backward call. -/
theorem frame_mixOutBwd : Cert.quiescent_MixOutBwd (hMixOutBwd := Cert.MixOutBwd.Gen.facts) := fun m g _ => by
  rw [Cert.Proof.MixOutBwdSameText.defs_eq, Cert.Proof.MixOutBwdSameText.main_eq]
  exact Cert.MixOutBwdIdeal.Gen.frame (F := Bits) m g

/-- Everything claimed. -/
theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts,
    Cert.MixBwd.Gen.facts, Cert.MixBwdIdeal.Gen.facts, Cert.MixBwdReferenceIdeal.Gen.facts, Cert.MixFwd.Gen.facts, Cert.MixFwdIdeal.Gen.facts, Cert.MixFwdReferenceIdeal.Gen.facts,
    Cert.MixOut.Gen.facts, Cert.MixOutIdeal.Gen.facts, Cert.MixOutReferenceIdeal.Gen.facts, Cert.DwOut.Gen.facts, Cert.DwOutIdeal.Gen.facts, Cert.DwOutReferenceIdeal.Gen.facts, Cert.DwBranch.Gen.facts, Cert.DwBranchIdeal.Gen.facts, Cert.DwBranchReferenceIdeal.Gen.facts,
    Cert.AttnFwd.Gen.facts, Cert.AttnFwdIdeal.Gen.facts, Cert.AttnFwdReferenceIdeal.Gen.facts,
    Cert.MixOutBwd.Gen.facts, Cert.MixOutBwdIdeal.Gen.facts, Cert.MixOutBwdReferenceIdeal.Gen.facts,
    Cert.Proof.Attn.pre_facts, Cert.Proof.Ffn.pre_facts, Cert.Proof.AttnFwd.pre_facts,
    frame_kernel, frame_kernelIdeal, fun m g _ => frame_kernelIdeal m g trivial, frame_reference, fun m g _ => frame_reference m g trivial,
    frame_ffn, Cert.Proof.Ffn.frame_ideal, fun m g _ => Cert.Proof.Ffn.frame_ideal m g trivial, Cert.Proof.Ffn.frame_reference, fun m g _ => Cert.Proof.Ffn.frame_reference m g trivial,
    frame_mixBwd, Cert.Proof.MixBwd.frame_ideal, Cert.Proof.MixBwd.frame_reference, frame_mixFwd, Cert.Proof.MixFwd.frame_ideal, Cert.Proof.MixFwd.frame_reference,
    frame_mixOut, Cert.Proof.MixOut.frame_ideal, Cert.Proof.MixOut.frame_reference, frame_dwOut, Cert.Proof.DwOut.frame_ideal, Cert.Proof.DwOut.frame_reference, frame_dwBranch, Cert.Proof.DwBranch.frame_ideal, Cert.Proof.DwBranch.frame_reference,
    frame_attnFwd, Cert.Proof.AttnFwd.frame_ideal, fun m g _ => Cert.Proof.AttnFwd.frame_ideal m g trivial, Cert.Proof.AttnFwd.frame_reference, fun m g _ => Cert.Proof.AttnFwd.frame_reference m g trivial,
    frame_mixOutBwd, Cert.Proof.MixOutBwd.frame_ideal, Cert.Proof.MixOutBwd.frame_reference,
    trivial, values, trivial, Cert.Proof.Ffn.values, trivial, Cert.Proof.MixBwd.values, trivial, Cert.Proof.MixFwd.values,
    trivial, Cert.Proof.MixOut.values, trivial, Cert.Proof.DwOut.values, trivial, Cert.Proof.DwBranch.values,
    trivial, Cert.Proof.AttnFwd.values, trivial, Cert.Proof.MixOutBwd.values⟩

end Cert.Proof

end
